-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Group1Dx (m : (ℓ : Loc Cert.Group1Dx.nD Cert.Group1Dx.τ Cert.Group1Dx.sig) → Buf (Elt Bits) ℓ) : Prop :=
  True

def Pre_Group1DxIdeal (m : (ℓ : Loc Cert.Group1DxIdeal.nD Cert.Group1DxIdeal.τ Cert.Group1DxIdeal.sig) → Buf (Elt Ideal) ℓ) : Prop :=
  True

def Pre_Group1DxReferenceIdeal (m : (ℓ : Loc Cert.Group1DxReferenceIdeal.nD Cert.Group1DxReferenceIdeal.τ Cert.Group1DxReferenceIdeal.sig) → Buf (Elt Ideal) ℓ) : Prop :=
  True

def Pre_Group2Dx (m : (ℓ : Loc Cert.Group2Dx.nD Cert.Group2Dx.τ Cert.Group2Dx.sig) → Buf (Elt Bits) ℓ) : Prop :=
  True

def Pre_Group2DxIdeal (m : (ℓ : Loc Cert.Group2DxIdeal.nD Cert.Group2DxIdeal.τ Cert.Group2DxIdeal.sig) → Buf (Elt Ideal) ℓ) : Prop :=
  True

def Pre_Group2DxReferenceIdeal (m : (ℓ : Loc Cert.Group2DxReferenceIdeal.nD Cert.Group2DxReferenceIdeal.τ Cert.Group2DxReferenceIdeal.sig) → Buf (Elt Ideal) ℓ) : Prop :=
  True

def Pre_Group0Dx (m : (ℓ : Loc Cert.Group0Dx.nD Cert.Group0Dx.τ Cert.Group0Dx.sig) → Buf (Elt Bits) ℓ) : Prop :=
  True

def Pre_Group0DxIdeal (m : (ℓ : Loc Cert.Group0DxIdeal.nD Cert.Group0DxIdeal.τ Cert.Group0DxIdeal.sig) → Buf (Elt Ideal) ℓ) : Prop :=
  True

def Pre_Group0DxReferenceIdeal (m : (ℓ : Loc Cert.Group0DxReferenceIdeal.nD Cert.Group0DxReferenceIdeal.τ Cert.Group0DxReferenceIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxReferenceIdeal (m : (ℓ : Loc Cert.GateDxReferenceIdeal.nD Cert.GateDxReferenceIdeal.τ Cert.GateDxReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_Group0Dw (m : (ℓ : Loc Cert.Group0Dw.nD Cert.Group0Dw.τ Cert.Group0Dw.sig) → Buf (Elt Bits) ℓ) : Prop :=
  True

def Pre_Group0DwIdeal (m : (ℓ : Loc Cert.Group0DwIdeal.nD Cert.Group0DwIdeal.τ Cert.Group0DwIdeal.sig) → Buf (Elt Ideal) ℓ) : Prop :=
  True

def Pre_Group0DwReferenceIdeal (m : (ℓ : Loc Cert.Group0DwReferenceIdeal.nD Cert.Group0DwReferenceIdeal.τ Cert.Group0DwReferenceIdeal.sig) → Buf (Elt Ideal) ℓ) : Prop :=
  True

def Pre_Group1Dw (m : (ℓ : Loc Cert.Group1Dw.nD Cert.Group1Dw.τ Cert.Group1Dw.sig) → Buf (Elt Bits) ℓ) : Prop :=
  True

def Pre_Group1DwIdeal (m : (ℓ : Loc Cert.Group1DwIdeal.nD Cert.Group1DwIdeal.τ Cert.Group1DwIdeal.sig) → Buf (Elt Ideal) ℓ) : Prop :=
  True

def Pre_Group1DwReferenceIdeal (m : (ℓ : Loc Cert.Group1DwReferenceIdeal.nD Cert.Group1DwReferenceIdeal.τ Cert.Group1DwReferenceIdeal.sig) → Buf (Elt Ideal) ℓ) : Prop :=
  True

def Pre_Group2Dw (m : (ℓ : Loc Cert.Group2Dw.nD Cert.Group2Dw.τ Cert.Group2Dw.sig) → Buf (Elt Bits) ℓ) : Prop :=
  True

def Pre_Group2DwIdeal (m : (ℓ : Loc Cert.Group2DwIdeal.nD Cert.Group2DwIdeal.τ Cert.Group2DwIdeal.sig) → Buf (Elt Ideal) ℓ) : Prop :=
  True

def Pre_Group2DwReferenceIdeal (m : (ℓ : Loc Cert.Group2DwReferenceIdeal.nD Cert.Group2DwReferenceIdeal.τ Cert.Group2DwReferenceIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwReferenceIdeal (m : (ℓ : Loc Cert.GateDwReferenceIdeal.nD Cert.GateDwReferenceIdeal.τ Cert.GateDwReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Value0 (m : (ℓ : Loc Cert.Value0.nD Cert.Value0.τ Cert.Value0.sig) → Buf (Elt Bits) ℓ) : Prop :=
  True

def Pre_Value0Ideal (m : (ℓ : Loc Cert.Value0Ideal.nD Cert.Value0Ideal.τ Cert.Value0Ideal.sig) → Buf (Elt Ideal) ℓ) : Prop :=
  True

def Pre_Value0ReferenceIdeal (m : (ℓ : Loc Cert.Value0ReferenceIdeal.nD Cert.Value0ReferenceIdeal.τ Cert.Value0ReferenceIdeal.sig) → Buf (Elt Ideal) ℓ) : Prop :=
  True

def Pre_Value1 (m : (ℓ : Loc Cert.Value1.nD Cert.Value1.τ Cert.Value1.sig) → Buf (Elt Bits) ℓ) : Prop :=
  True

def Pre_Value1Ideal (m : (ℓ : Loc Cert.Value1Ideal.nD Cert.Value1Ideal.τ Cert.Value1Ideal.sig) → Buf (Elt Ideal) ℓ) : Prop :=
  True

def Pre_Value1ReferenceIdeal (m : (ℓ : Loc Cert.Value1ReferenceIdeal.nD Cert.Value1ReferenceIdeal.τ Cert.Value1ReferenceIdeal.sig) → Buf (Elt Ideal) ℓ) : Prop :=
  True

def Pre_Value2 (m : (ℓ : Loc Cert.Value2.nD Cert.Value2.τ Cert.Value2.sig) → Buf (Elt Bits) ℓ) : Prop :=
  True

def Pre_Value2Ideal (m : (ℓ : Loc Cert.Value2Ideal.nD Cert.Value2Ideal.τ Cert.Value2Ideal.sig) → Buf (Elt Ideal) ℓ) : Prop :=
  True

def Pre_Value2ReferenceIdeal (m : (ℓ : Loc Cert.Value2ReferenceIdeal.nD Cert.Value2ReferenceIdeal.τ Cert.Value2ReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Rotated0 (m : (ℓ : Loc Cert.Rotated0.nD Cert.Rotated0.τ Cert.Rotated0.sig) → Buf (Elt Bits) ℓ) : Prop :=
  True

def Pre_Rotated0Ideal (m : (ℓ : Loc Cert.Rotated0Ideal.nD Cert.Rotated0Ideal.τ Cert.Rotated0Ideal.sig) → Buf (Elt Ideal) ℓ) : Prop :=
  True

def Pre_Rotated0ReferenceIdeal (m : (ℓ : Loc Cert.Rotated0ReferenceIdeal.nD Cert.Rotated0ReferenceIdeal.τ Cert.Rotated0ReferenceIdeal.sig) → Buf (Elt Ideal) ℓ) : Prop :=
  True

def Pre_Rotated1 (m : (ℓ : Loc Cert.Rotated1.nD Cert.Rotated1.τ Cert.Rotated1.sig) → Buf (Elt Bits) ℓ) : Prop :=
  True

def Pre_Rotated1Ideal (m : (ℓ : Loc Cert.Rotated1Ideal.nD Cert.Rotated1Ideal.τ Cert.Rotated1Ideal.sig) → Buf (Elt Ideal) ℓ) : Prop :=
  True

def Pre_Rotated1ReferenceIdeal (m : (ℓ : Loc Cert.Rotated1ReferenceIdeal.nD Cert.Rotated1ReferenceIdeal.τ Cert.Rotated1ReferenceIdeal.sig) → Buf (Elt Ideal) ℓ) : Prop :=
  True

def Pre_Rotated2 (m : (ℓ : Loc Cert.Rotated2.nD Cert.Rotated2.τ Cert.Rotated2.sig) → Buf (Elt Bits) ℓ) : Prop :=
  True

def Pre_Rotated2Ideal (m : (ℓ : Loc Cert.Rotated2Ideal.nD Cert.Rotated2Ideal.τ Cert.Rotated2Ideal.sig) → Buf (Elt Ideal) ℓ) : Prop :=
  True

def Pre_Rotated2ReferenceIdeal (m : (ℓ : Loc Cert.Rotated2ReferenceIdeal.nD Cert.Rotated2ReferenceIdeal.τ Cert.Rotated2ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Group1Dx [hGroup1Dx : Cert.Group1Dx.Facts] : Prop :=
  ∀ (m : (ℓ : Loc Cert.Group1Dx.nD Cert.Group1Dx.τ Cert.Group1Dx.sig) → Buf (Elt Bits) ℓ) (g : Dev Cert.Group1Dx.nD → PrngReg), Pre_Group1Dx m →
    θ_run (Cert.Group1Dx.defs (F := Bits)) (onTc (τ := Cert.Group1Dx.τ) (Cert.Group1Dx.main (F := Bits))) ⟨m, fun _ => 0, g⟩ (fun r => (∀ c : Dev Cert.Group1Dx.nD,
      r.2.mem ((c.tc : Thread Cert.Group1Dx.nD Cert.Group1Dx.τ).loc Cert.Group1Dx.main_arg0) = m ((c.tc : Thread Cert.Group1Dx.nD Cert.Group1Dx.τ).loc Cert.Group1Dx.main_arg0)
      ∧ r.2.mem ((c.tc : Thread Cert.Group1Dx.nD Cert.Group1Dx.τ).loc Cert.Group1Dx.main_arg1) = m ((c.tc : Thread Cert.Group1Dx.nD Cert.Group1Dx.τ).loc Cert.Group1Dx.main_arg1))
      ∧ r.2.sem = fun _ => 0)

def quiescent_Group1DxIdeal [hGroup1DxIdeal : Cert.Group1DxIdeal.Facts] : Prop :=
  ∀ (m : (ℓ : Loc Cert.Group1DxIdeal.nD Cert.Group1DxIdeal.τ Cert.Group1DxIdeal.sig) → Buf (Elt Ideal) ℓ) (g : Dev Cert.Group1DxIdeal.nD → PrngReg), Pre_Group1DxIdeal m →
    θ_run (Cert.Group1DxIdeal.defs (F := Ideal)) (onTc (τ := Cert.Group1DxIdeal.τ) (Cert.Group1DxIdeal.main (F := Ideal))) ⟨m, fun _ => 0, g⟩ (fun r => (∀ c : Dev Cert.Group1DxIdeal.nD,
      r.2.mem ((c.tc : Thread Cert.Group1DxIdeal.nD Cert.Group1DxIdeal.τ).loc Cert.Group1DxIdeal.main_arg0) = m ((c.tc : Thread Cert.Group1DxIdeal.nD Cert.Group1DxIdeal.τ).loc Cert.Group1DxIdeal.main_arg0)
      ∧ r.2.mem ((c.tc : Thread Cert.Group1DxIdeal.nD Cert.Group1DxIdeal.τ).loc Cert.Group1DxIdeal.main_arg1) = m ((c.tc : Thread Cert.Group1DxIdeal.nD Cert.Group1DxIdeal.τ).loc Cert.Group1DxIdeal.main_arg1))
      ∧ r.2.sem = fun _ => 0)

def quiescent_Group1DxReferenceIdeal [hGroup1DxReferenceIdeal : Cert.Group1DxReferenceIdeal.Facts] : Prop :=
  ∀ (m : (ℓ : Loc Cert.Group1DxReferenceIdeal.nD Cert.Group1DxReferenceIdeal.τ Cert.Group1DxReferenceIdeal.sig) → Buf (Elt Ideal) ℓ) (g : Dev Cert.Group1DxReferenceIdeal.nD → PrngReg), Pre_Group1DxReferenceIdeal m →
    θ_run (Cert.Group1DxReferenceIdeal.defs (F := Ideal)) (onTc (τ := Cert.Group1DxReferenceIdeal.τ) (Cert.Group1DxReferenceIdeal.main (F := Ideal))) ⟨m, fun _ => 0, g⟩ (fun r => (∀ c : Dev Cert.Group1DxReferenceIdeal.nD,
      r.2.mem ((c.tc : Thread Cert.Group1DxReferenceIdeal.nD Cert.Group1DxReferenceIdeal.τ).loc Cert.Group1DxReferenceIdeal.main_arg0) = m ((c.tc : Thread Cert.Group1DxReferenceIdeal.nD Cert.Group1DxReferenceIdeal.τ).loc Cert.Group1DxReferenceIdeal.main_arg0)
      ∧ r.2.mem ((c.tc : Thread Cert.Group1DxReferenceIdeal.nD Cert.Group1DxReferenceIdeal.τ).loc Cert.Group1DxReferenceIdeal.main_arg1) = m ((c.tc : Thread Cert.Group1DxReferenceIdeal.nD Cert.Group1DxReferenceIdeal.τ).loc Cert.Group1DxReferenceIdeal.main_arg1))
      ∧ r.2.sem = fun _ => 0)

def quiescent_Group2Dx [hGroup2Dx : Cert.Group2Dx.Facts] : Prop :=
  ∀ (m : (ℓ : Loc Cert.Group2Dx.nD Cert.Group2Dx.τ Cert.Group2Dx.sig) → Buf (Elt Bits) ℓ) (g : Dev Cert.Group2Dx.nD → PrngReg), Pre_Group2Dx m →
    θ_run (Cert.Group2Dx.defs (F := Bits)) (onTc (τ := Cert.Group2Dx.τ) (Cert.Group2Dx.main (F := Bits))) ⟨m, fun _ => 0, g⟩ (fun r => (∀ c : Dev Cert.Group2Dx.nD,
      r.2.mem ((c.tc : Thread Cert.Group2Dx.nD Cert.Group2Dx.τ).loc Cert.Group2Dx.main_arg0) = m ((c.tc : Thread Cert.Group2Dx.nD Cert.Group2Dx.τ).loc Cert.Group2Dx.main_arg0)
      ∧ r.2.mem ((c.tc : Thread Cert.Group2Dx.nD Cert.Group2Dx.τ).loc Cert.Group2Dx.main_arg1) = m ((c.tc : Thread Cert.Group2Dx.nD Cert.Group2Dx.τ).loc Cert.Group2Dx.main_arg1))
      ∧ r.2.sem = fun _ => 0)

def quiescent_Group2DxIdeal [hGroup2DxIdeal : Cert.Group2DxIdeal.Facts] : Prop :=
  ∀ (m : (ℓ : Loc Cert.Group2DxIdeal.nD Cert.Group2DxIdeal.τ Cert.Group2DxIdeal.sig) → Buf (Elt Ideal) ℓ) (g : Dev Cert.Group2DxIdeal.nD → PrngReg), Pre_Group2DxIdeal m →
    θ_run (Cert.Group2DxIdeal.defs (F := Ideal)) (onTc (τ := Cert.Group2DxIdeal.τ) (Cert.Group2DxIdeal.main (F := Ideal))) ⟨m, fun _ => 0, g⟩ (fun r => (∀ c : Dev Cert.Group2DxIdeal.nD,
      r.2.mem ((c.tc : Thread Cert.Group2DxIdeal.nD Cert.Group2DxIdeal.τ).loc Cert.Group2DxIdeal.main_arg0) = m ((c.tc : Thread Cert.Group2DxIdeal.nD Cert.Group2DxIdeal.τ).loc Cert.Group2DxIdeal.main_arg0)
      ∧ r.2.mem ((c.tc : Thread Cert.Group2DxIdeal.nD Cert.Group2DxIdeal.τ).loc Cert.Group2DxIdeal.main_arg1) = m ((c.tc : Thread Cert.Group2DxIdeal.nD Cert.Group2DxIdeal.τ).loc Cert.Group2DxIdeal.main_arg1))
      ∧ r.2.sem = fun _ => 0)

def quiescent_Group2DxReferenceIdeal [hGroup2DxReferenceIdeal : Cert.Group2DxReferenceIdeal.Facts] : Prop :=
  ∀ (m : (ℓ : Loc Cert.Group2DxReferenceIdeal.nD Cert.Group2DxReferenceIdeal.τ Cert.Group2DxReferenceIdeal.sig) → Buf (Elt Ideal) ℓ) (g : Dev Cert.Group2DxReferenceIdeal.nD → PrngReg), Pre_Group2DxReferenceIdeal m →
    θ_run (Cert.Group2DxReferenceIdeal.defs (F := Ideal)) (onTc (τ := Cert.Group2DxReferenceIdeal.τ) (Cert.Group2DxReferenceIdeal.main (F := Ideal))) ⟨m, fun _ => 0, g⟩ (fun r => (∀ c : Dev Cert.Group2DxReferenceIdeal.nD,
      r.2.mem ((c.tc : Thread Cert.Group2DxReferenceIdeal.nD Cert.Group2DxReferenceIdeal.τ).loc Cert.Group2DxReferenceIdeal.main_arg0) = m ((c.tc : Thread Cert.Group2DxReferenceIdeal.nD Cert.Group2DxReferenceIdeal.τ).loc Cert.Group2DxReferenceIdeal.main_arg0)
      ∧ r.2.mem ((c.tc : Thread Cert.Group2DxReferenceIdeal.nD Cert.Group2DxReferenceIdeal.τ).loc Cert.Group2DxReferenceIdeal.main_arg1) = m ((c.tc : Thread Cert.Group2DxReferenceIdeal.nD Cert.Group2DxReferenceIdeal.τ).loc Cert.Group2DxReferenceIdeal.main_arg1))
      ∧ r.2.sem = fun _ => 0)

def quiescent_Group0Dx [hGroup0Dx : Cert.Group0Dx.Facts] : Prop :=
  ∀ (m : (ℓ : Loc Cert.Group0Dx.nD Cert.Group0Dx.τ Cert.Group0Dx.sig) → Buf (Elt Bits) ℓ) (g : Dev Cert.Group0Dx.nD → PrngReg), Pre_Group0Dx m →
    θ_run (Cert.Group0Dx.defs (F := Bits)) (onTc (τ := Cert.Group0Dx.τ) (Cert.Group0Dx.main (F := Bits))) ⟨m, fun _ => 0, g⟩ (fun r => (∀ c : Dev Cert.Group0Dx.nD,
      r.2.mem ((c.tc : Thread Cert.Group0Dx.nD Cert.Group0Dx.τ).loc Cert.Group0Dx.main_arg0) = m ((c.tc : Thread Cert.Group0Dx.nD Cert.Group0Dx.τ).loc Cert.Group0Dx.main_arg0)
      ∧ r.2.mem ((c.tc : Thread Cert.Group0Dx.nD Cert.Group0Dx.τ).loc Cert.Group0Dx.main_arg1) = m ((c.tc : Thread Cert.Group0Dx.nD Cert.Group0Dx.τ).loc Cert.Group0Dx.main_arg1)
      ∧ r.2.mem ((c.tc : Thread Cert.Group0Dx.nD Cert.Group0Dx.τ).loc Cert.Group0Dx.main_arg2) = m ((c.tc : Thread Cert.Group0Dx.nD Cert.Group0Dx.τ).loc Cert.Group0Dx.main_arg2))
      ∧ r.2.sem = fun _ => 0)

def quiescent_Group0DxIdeal [hGroup0DxIdeal : Cert.Group0DxIdeal.Facts] : Prop :=
  ∀ (m : (ℓ : Loc Cert.Group0DxIdeal.nD Cert.Group0DxIdeal.τ Cert.Group0DxIdeal.sig) → Buf (Elt Ideal) ℓ) (g : Dev Cert.Group0DxIdeal.nD → PrngReg), Pre_Group0DxIdeal m →
    θ_run (Cert.Group0DxIdeal.defs (F := Ideal)) (onTc (τ := Cert.Group0DxIdeal.τ) (Cert.Group0DxIdeal.main (F := Ideal))) ⟨m, fun _ => 0, g⟩ (fun r => (∀ c : Dev Cert.Group0DxIdeal.nD,
      r.2.mem ((c.tc : Thread Cert.Group0DxIdeal.nD Cert.Group0DxIdeal.τ).loc Cert.Group0DxIdeal.main_arg0) = m ((c.tc : Thread Cert.Group0DxIdeal.nD Cert.Group0DxIdeal.τ).loc Cert.Group0DxIdeal.main_arg0)
      ∧ r.2.mem ((c.tc : Thread Cert.Group0DxIdeal.nD Cert.Group0DxIdeal.τ).loc Cert.Group0DxIdeal.main_arg1) = m ((c.tc : Thread Cert.Group0DxIdeal.nD Cert.Group0DxIdeal.τ).loc Cert.Group0DxIdeal.main_arg1)
      ∧ r.2.mem ((c.tc : Thread Cert.Group0DxIdeal.nD Cert.Group0DxIdeal.τ).loc Cert.Group0DxIdeal.main_arg2) = m ((c.tc : Thread Cert.Group0DxIdeal.nD Cert.Group0DxIdeal.τ).loc Cert.Group0DxIdeal.main_arg2))
      ∧ r.2.sem = fun _ => 0)

def quiescent_Group0DxReferenceIdeal [hGroup0DxReferenceIdeal : Cert.Group0DxReferenceIdeal.Facts] : Prop :=
  ∀ (m : (ℓ : Loc Cert.Group0DxReferenceIdeal.nD Cert.Group0DxReferenceIdeal.τ Cert.Group0DxReferenceIdeal.sig) → Buf (Elt Ideal) ℓ) (g : Dev Cert.Group0DxReferenceIdeal.nD → PrngReg), Pre_Group0DxReferenceIdeal m →
    θ_run (Cert.Group0DxReferenceIdeal.defs (F := Ideal)) (onTc (τ := Cert.Group0DxReferenceIdeal.τ) (Cert.Group0DxReferenceIdeal.main (F := Ideal))) ⟨m, fun _ => 0, g⟩ (fun r => (∀ c : Dev Cert.Group0DxReferenceIdeal.nD,
      r.2.mem ((c.tc : Thread Cert.Group0DxReferenceIdeal.nD Cert.Group0DxReferenceIdeal.τ).loc Cert.Group0DxReferenceIdeal.main_arg0) = m ((c.tc : Thread Cert.Group0DxReferenceIdeal.nD Cert.Group0DxReferenceIdeal.τ).loc Cert.Group0DxReferenceIdeal.main_arg0)
      ∧ r.2.mem ((c.tc : Thread Cert.Group0DxReferenceIdeal.nD Cert.Group0DxReferenceIdeal.τ).loc Cert.Group0DxReferenceIdeal.main_arg1) = m ((c.tc : Thread Cert.Group0DxReferenceIdeal.nD Cert.Group0DxReferenceIdeal.τ).loc Cert.Group0DxReferenceIdeal.main_arg1)
      ∧ r.2.mem ((c.tc : Thread Cert.Group0DxReferenceIdeal.nD Cert.Group0DxReferenceIdeal.τ).loc Cert.Group0DxReferenceIdeal.main_arg2) = m ((c.tc : Thread Cert.Group0DxReferenceIdeal.nD Cert.Group0DxReferenceIdeal.τ).loc Cert.Group0DxReferenceIdeal.main_arg2))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxReferenceIdeal [hGateDxReferenceIdeal : Cert.GateDxReferenceIdeal.Facts] : Prop :=
  ∀ (m : (ℓ : Loc Cert.GateDxReferenceIdeal.nD Cert.GateDxReferenceIdeal.τ Cert.GateDxReferenceIdeal.sig) → Buf (Elt Ideal) ℓ) (g : Dev Cert.GateDxReferenceIdeal.nD → PrngReg), Pre_GateDxReferenceIdeal m →
    θ_run (Cert.GateDxReferenceIdeal.defs (F := Ideal)) (onTc (τ := Cert.GateDxReferenceIdeal.τ) (Cert.GateDxReferenceIdeal.main (F := Ideal))) ⟨m, fun _ => 0, g⟩ (fun r => (∀ c : Dev Cert.GateDxReferenceIdeal.nD,
      r.2.mem ((c.tc : Thread Cert.GateDxReferenceIdeal.nD Cert.GateDxReferenceIdeal.τ).loc Cert.GateDxReferenceIdeal.main_arg0) = m ((c.tc : Thread Cert.GateDxReferenceIdeal.nD Cert.GateDxReferenceIdeal.τ).loc Cert.GateDxReferenceIdeal.main_arg0)
      ∧ r.2.mem ((c.tc : Thread Cert.GateDxReferenceIdeal.nD Cert.GateDxReferenceIdeal.τ).loc Cert.GateDxReferenceIdeal.main_arg1) = m ((c.tc : Thread Cert.GateDxReferenceIdeal.nD Cert.GateDxReferenceIdeal.τ).loc Cert.GateDxReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_Group0Dw [hGroup0Dw : Cert.Group0Dw.Facts] : Prop :=
  ∀ (m : (ℓ : Loc Cert.Group0Dw.nD Cert.Group0Dw.τ Cert.Group0Dw.sig) → Buf (Elt Bits) ℓ) (g : Dev Cert.Group0Dw.nD → PrngReg), Pre_Group0Dw m →
    θ_run (Cert.Group0Dw.defs (F := Bits)) (onTc (τ := Cert.Group0Dw.τ) (Cert.Group0Dw.main (F := Bits))) ⟨m, fun _ => 0, g⟩ (fun r => (∀ c : Dev Cert.Group0Dw.nD,
      r.2.mem ((c.tc : Thread Cert.Group0Dw.nD Cert.Group0Dw.τ).loc Cert.Group0Dw.main_arg0) = m ((c.tc : Thread Cert.Group0Dw.nD Cert.Group0Dw.τ).loc Cert.Group0Dw.main_arg0)
      ∧ r.2.mem ((c.tc : Thread Cert.Group0Dw.nD Cert.Group0Dw.τ).loc Cert.Group0Dw.main_arg1) = m ((c.tc : Thread Cert.Group0Dw.nD Cert.Group0Dw.τ).loc Cert.Group0Dw.main_arg1))
      ∧ r.2.sem = fun _ => 0)

def quiescent_Group0DwIdeal [hGroup0DwIdeal : Cert.Group0DwIdeal.Facts] : Prop :=
  ∀ (m : (ℓ : Loc Cert.Group0DwIdeal.nD Cert.Group0DwIdeal.τ Cert.Group0DwIdeal.sig) → Buf (Elt Ideal) ℓ) (g : Dev Cert.Group0DwIdeal.nD → PrngReg), Pre_Group0DwIdeal m →
    θ_run (Cert.Group0DwIdeal.defs (F := Ideal)) (onTc (τ := Cert.Group0DwIdeal.τ) (Cert.Group0DwIdeal.main (F := Ideal))) ⟨m, fun _ => 0, g⟩ (fun r => (∀ c : Dev Cert.Group0DwIdeal.nD,
      r.2.mem ((c.tc : Thread Cert.Group0DwIdeal.nD Cert.Group0DwIdeal.τ).loc Cert.Group0DwIdeal.main_arg0) = m ((c.tc : Thread Cert.Group0DwIdeal.nD Cert.Group0DwIdeal.τ).loc Cert.Group0DwIdeal.main_arg0)
      ∧ r.2.mem ((c.tc : Thread Cert.Group0DwIdeal.nD Cert.Group0DwIdeal.τ).loc Cert.Group0DwIdeal.main_arg1) = m ((c.tc : Thread Cert.Group0DwIdeal.nD Cert.Group0DwIdeal.τ).loc Cert.Group0DwIdeal.main_arg1))
      ∧ r.2.sem = fun _ => 0)

def quiescent_Group0DwReferenceIdeal [hGroup0DwReferenceIdeal : Cert.Group0DwReferenceIdeal.Facts] : Prop :=
  ∀ (m : (ℓ : Loc Cert.Group0DwReferenceIdeal.nD Cert.Group0DwReferenceIdeal.τ Cert.Group0DwReferenceIdeal.sig) → Buf (Elt Ideal) ℓ) (g : Dev Cert.Group0DwReferenceIdeal.nD → PrngReg), Pre_Group0DwReferenceIdeal m →
    θ_run (Cert.Group0DwReferenceIdeal.defs (F := Ideal)) (onTc (τ := Cert.Group0DwReferenceIdeal.τ) (Cert.Group0DwReferenceIdeal.main (F := Ideal))) ⟨m, fun _ => 0, g⟩ (fun r => (∀ c : Dev Cert.Group0DwReferenceIdeal.nD,
      r.2.mem ((c.tc : Thread Cert.Group0DwReferenceIdeal.nD Cert.Group0DwReferenceIdeal.τ).loc Cert.Group0DwReferenceIdeal.main_arg0) = m ((c.tc : Thread Cert.Group0DwReferenceIdeal.nD Cert.Group0DwReferenceIdeal.τ).loc Cert.Group0DwReferenceIdeal.main_arg0)
      ∧ r.2.mem ((c.tc : Thread Cert.Group0DwReferenceIdeal.nD Cert.Group0DwReferenceIdeal.τ).loc Cert.Group0DwReferenceIdeal.main_arg1) = m ((c.tc : Thread Cert.Group0DwReferenceIdeal.nD Cert.Group0DwReferenceIdeal.τ).loc Cert.Group0DwReferenceIdeal.main_arg1))
      ∧ r.2.sem = fun _ => 0)

def quiescent_Group1Dw [hGroup1Dw : Cert.Group1Dw.Facts] : Prop :=
  ∀ (m : (ℓ : Loc Cert.Group1Dw.nD Cert.Group1Dw.τ Cert.Group1Dw.sig) → Buf (Elt Bits) ℓ) (g : Dev Cert.Group1Dw.nD → PrngReg), Pre_Group1Dw m →
    θ_run (Cert.Group1Dw.defs (F := Bits)) (onTc (τ := Cert.Group1Dw.τ) (Cert.Group1Dw.main (F := Bits))) ⟨m, fun _ => 0, g⟩ (fun r => (∀ c : Dev Cert.Group1Dw.nD,
      r.2.mem ((c.tc : Thread Cert.Group1Dw.nD Cert.Group1Dw.τ).loc Cert.Group1Dw.main_arg0) = m ((c.tc : Thread Cert.Group1Dw.nD Cert.Group1Dw.τ).loc Cert.Group1Dw.main_arg0)
      ∧ r.2.mem ((c.tc : Thread Cert.Group1Dw.nD Cert.Group1Dw.τ).loc Cert.Group1Dw.main_arg1) = m ((c.tc : Thread Cert.Group1Dw.nD Cert.Group1Dw.τ).loc Cert.Group1Dw.main_arg1)
      ∧ r.2.mem ((c.tc : Thread Cert.Group1Dw.nD Cert.Group1Dw.τ).loc Cert.Group1Dw.main_arg2) = m ((c.tc : Thread Cert.Group1Dw.nD Cert.Group1Dw.τ).loc Cert.Group1Dw.main_arg2))
      ∧ r.2.sem = fun _ => 0)

def quiescent_Group1DwIdeal [hGroup1DwIdeal : Cert.Group1DwIdeal.Facts] : Prop :=
  ∀ (m : (ℓ : Loc Cert.Group1DwIdeal.nD Cert.Group1DwIdeal.τ Cert.Group1DwIdeal.sig) → Buf (Elt Ideal) ℓ) (g : Dev Cert.Group1DwIdeal.nD → PrngReg), Pre_Group1DwIdeal m →
    θ_run (Cert.Group1DwIdeal.defs (F := Ideal)) (onTc (τ := Cert.Group1DwIdeal.τ) (Cert.Group1DwIdeal.main (F := Ideal))) ⟨m, fun _ => 0, g⟩ (fun r => (∀ c : Dev Cert.Group1DwIdeal.nD,
      r.2.mem ((c.tc : Thread Cert.Group1DwIdeal.nD Cert.Group1DwIdeal.τ).loc Cert.Group1DwIdeal.main_arg0) = m ((c.tc : Thread Cert.Group1DwIdeal.nD Cert.Group1DwIdeal.τ).loc Cert.Group1DwIdeal.main_arg0)
      ∧ r.2.mem ((c.tc : Thread Cert.Group1DwIdeal.nD Cert.Group1DwIdeal.τ).loc Cert.Group1DwIdeal.main_arg1) = m ((c.tc : Thread Cert.Group1DwIdeal.nD Cert.Group1DwIdeal.τ).loc Cert.Group1DwIdeal.main_arg1)
      ∧ r.2.mem ((c.tc : Thread Cert.Group1DwIdeal.nD Cert.Group1DwIdeal.τ).loc Cert.Group1DwIdeal.main_arg2) = m ((c.tc : Thread Cert.Group1DwIdeal.nD Cert.Group1DwIdeal.τ).loc Cert.Group1DwIdeal.main_arg2))
      ∧ r.2.sem = fun _ => 0)

def quiescent_Group1DwReferenceIdeal [hGroup1DwReferenceIdeal : Cert.Group1DwReferenceIdeal.Facts] : Prop :=
  ∀ (m : (ℓ : Loc Cert.Group1DwReferenceIdeal.nD Cert.Group1DwReferenceIdeal.τ Cert.Group1DwReferenceIdeal.sig) → Buf (Elt Ideal) ℓ) (g : Dev Cert.Group1DwReferenceIdeal.nD → PrngReg), Pre_Group1DwReferenceIdeal m →
    θ_run (Cert.Group1DwReferenceIdeal.defs (F := Ideal)) (onTc (τ := Cert.Group1DwReferenceIdeal.τ) (Cert.Group1DwReferenceIdeal.main (F := Ideal))) ⟨m, fun _ => 0, g⟩ (fun r => (∀ c : Dev Cert.Group1DwReferenceIdeal.nD,
      r.2.mem ((c.tc : Thread Cert.Group1DwReferenceIdeal.nD Cert.Group1DwReferenceIdeal.τ).loc Cert.Group1DwReferenceIdeal.main_arg0) = m ((c.tc : Thread Cert.Group1DwReferenceIdeal.nD Cert.Group1DwReferenceIdeal.τ).loc Cert.Group1DwReferenceIdeal.main_arg0)
      ∧ r.2.mem ((c.tc : Thread Cert.Group1DwReferenceIdeal.nD Cert.Group1DwReferenceIdeal.τ).loc Cert.Group1DwReferenceIdeal.main_arg1) = m ((c.tc : Thread Cert.Group1DwReferenceIdeal.nD Cert.Group1DwReferenceIdeal.τ).loc Cert.Group1DwReferenceIdeal.main_arg1)
      ∧ r.2.mem ((c.tc : Thread Cert.Group1DwReferenceIdeal.nD Cert.Group1DwReferenceIdeal.τ).loc Cert.Group1DwReferenceIdeal.main_arg2) = m ((c.tc : Thread Cert.Group1DwReferenceIdeal.nD Cert.Group1DwReferenceIdeal.τ).loc Cert.Group1DwReferenceIdeal.main_arg2))
      ∧ r.2.sem = fun _ => 0)

def quiescent_Group2Dw [hGroup2Dw : Cert.Group2Dw.Facts] : Prop :=
  ∀ (m : (ℓ : Loc Cert.Group2Dw.nD Cert.Group2Dw.τ Cert.Group2Dw.sig) → Buf (Elt Bits) ℓ) (g : Dev Cert.Group2Dw.nD → PrngReg), Pre_Group2Dw m →
    θ_run (Cert.Group2Dw.defs (F := Bits)) (onTc (τ := Cert.Group2Dw.τ) (Cert.Group2Dw.main (F := Bits))) ⟨m, fun _ => 0, g⟩ (fun r => (∀ c : Dev Cert.Group2Dw.nD,
      r.2.mem ((c.tc : Thread Cert.Group2Dw.nD Cert.Group2Dw.τ).loc Cert.Group2Dw.main_arg0) = m ((c.tc : Thread Cert.Group2Dw.nD Cert.Group2Dw.τ).loc Cert.Group2Dw.main_arg0)
      ∧ r.2.mem ((c.tc : Thread Cert.Group2Dw.nD Cert.Group2Dw.τ).loc Cert.Group2Dw.main_arg1) = m ((c.tc : Thread Cert.Group2Dw.nD Cert.Group2Dw.τ).loc Cert.Group2Dw.main_arg1)
      ∧ r.2.mem ((c.tc : Thread Cert.Group2Dw.nD Cert.Group2Dw.τ).loc Cert.Group2Dw.main_arg2) = m ((c.tc : Thread Cert.Group2Dw.nD Cert.Group2Dw.τ).loc Cert.Group2Dw.main_arg2))
      ∧ r.2.sem = fun _ => 0)

def quiescent_Group2DwIdeal [hGroup2DwIdeal : Cert.Group2DwIdeal.Facts] : Prop :=
  ∀ (m : (ℓ : Loc Cert.Group2DwIdeal.nD Cert.Group2DwIdeal.τ Cert.Group2DwIdeal.sig) → Buf (Elt Ideal) ℓ) (g : Dev Cert.Group2DwIdeal.nD → PrngReg), Pre_Group2DwIdeal m →
    θ_run (Cert.Group2DwIdeal.defs (F := Ideal)) (onTc (τ := Cert.Group2DwIdeal.τ) (Cert.Group2DwIdeal.main (F := Ideal))) ⟨m, fun _ => 0, g⟩ (fun r => (∀ c : Dev Cert.Group2DwIdeal.nD,
      r.2.mem ((c.tc : Thread Cert.Group2DwIdeal.nD Cert.Group2DwIdeal.τ).loc Cert.Group2DwIdeal.main_arg0) = m ((c.tc : Thread Cert.Group2DwIdeal.nD Cert.Group2DwIdeal.τ).loc Cert.Group2DwIdeal.main_arg0)
      ∧ r.2.mem ((c.tc : Thread Cert.Group2DwIdeal.nD Cert.Group2DwIdeal.τ).loc Cert.Group2DwIdeal.main_arg1) = m ((c.tc : Thread Cert.Group2DwIdeal.nD Cert.Group2DwIdeal.τ).loc Cert.Group2DwIdeal.main_arg1)
      ∧ r.2.mem ((c.tc : Thread Cert.Group2DwIdeal.nD Cert.Group2DwIdeal.τ).loc Cert.Group2DwIdeal.main_arg2) = m ((c.tc : Thread Cert.Group2DwIdeal.nD Cert.Group2DwIdeal.τ).loc Cert.Group2DwIdeal.main_arg2))
      ∧ r.2.sem = fun _ => 0)

def quiescent_Group2DwReferenceIdeal [hGroup2DwReferenceIdeal : Cert.Group2DwReferenceIdeal.Facts] : Prop :=
  ∀ (m : (ℓ : Loc Cert.Group2DwReferenceIdeal.nD Cert.Group2DwReferenceIdeal.τ Cert.Group2DwReferenceIdeal.sig) → Buf (Elt Ideal) ℓ) (g : Dev Cert.Group2DwReferenceIdeal.nD → PrngReg), Pre_Group2DwReferenceIdeal m →
    θ_run (Cert.Group2DwReferenceIdeal.defs (F := Ideal)) (onTc (τ := Cert.Group2DwReferenceIdeal.τ) (Cert.Group2DwReferenceIdeal.main (F := Ideal))) ⟨m, fun _ => 0, g⟩ (fun r => (∀ c : Dev Cert.Group2DwReferenceIdeal.nD,
      r.2.mem ((c.tc : Thread Cert.Group2DwReferenceIdeal.nD Cert.Group2DwReferenceIdeal.τ).loc Cert.Group2DwReferenceIdeal.main_arg0) = m ((c.tc : Thread Cert.Group2DwReferenceIdeal.nD Cert.Group2DwReferenceIdeal.τ).loc Cert.Group2DwReferenceIdeal.main_arg0)
      ∧ r.2.mem ((c.tc : Thread Cert.Group2DwReferenceIdeal.nD Cert.Group2DwReferenceIdeal.τ).loc Cert.Group2DwReferenceIdeal.main_arg1) = m ((c.tc : Thread Cert.Group2DwReferenceIdeal.nD Cert.Group2DwReferenceIdeal.τ).loc Cert.Group2DwReferenceIdeal.main_arg1)
      ∧ r.2.mem ((c.tc : Thread Cert.Group2DwReferenceIdeal.nD Cert.Group2DwReferenceIdeal.τ).loc Cert.Group2DwReferenceIdeal.main_arg2) = m ((c.tc : Thread Cert.Group2DwReferenceIdeal.nD Cert.Group2DwReferenceIdeal.τ).loc Cert.Group2DwReferenceIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1)
      ∧ r.2.mem ((c.tc : Thread Cert.GateDw.nD Cert.GateDw.τ).loc Cert.GateDw.main_arg2) = m ((c.tc : Thread Cert.GateDw.nD Cert.GateDw.τ).loc Cert.GateDw.main_arg2))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
      ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ r.2.sem = fun _ => 0)

def quiescent_GateDwReferenceIdeal [hGateDwReferenceIdeal : Cert.GateDwReferenceIdeal.Facts] : Prop :=
  ∀ (m : (ℓ : Loc Cert.GateDwReferenceIdeal.nD Cert.GateDwReferenceIdeal.τ Cert.GateDwReferenceIdeal.sig) → Buf (Elt Ideal) ℓ) (g : Dev Cert.GateDwReferenceIdeal.nD → PrngReg), Pre_GateDwReferenceIdeal m →
    θ_run (Cert.GateDwReferenceIdeal.defs (F := Ideal)) (onTc (τ := Cert.GateDwReferenceIdeal.τ) (Cert.GateDwReferenceIdeal.main (F := Ideal))) ⟨m, fun _ => 0, g⟩ (fun r => (∀ c : Dev Cert.GateDwReferenceIdeal.nD,
      r.2.mem ((c.tc : Thread Cert.GateDwReferenceIdeal.nD Cert.GateDwReferenceIdeal.τ).loc Cert.GateDwReferenceIdeal.main_arg0) = m ((c.tc : Thread Cert.GateDwReferenceIdeal.nD Cert.GateDwReferenceIdeal.τ).loc Cert.GateDwReferenceIdeal.main_arg0)
      ∧ r.2.mem ((c.tc : Thread Cert.GateDwReferenceIdeal.nD Cert.GateDwReferenceIdeal.τ).loc Cert.GateDwReferenceIdeal.main_arg1) = m ((c.tc : Thread Cert.GateDwReferenceIdeal.nD Cert.GateDwReferenceIdeal.τ).loc Cert.GateDwReferenceIdeal.main_arg1)
      ∧ r.2.mem ((c.tc : Thread Cert.GateDwReferenceIdeal.nD Cert.GateDwReferenceIdeal.τ).loc Cert.GateDwReferenceIdeal.main_arg2) = m ((c.tc : Thread Cert.GateDwReferenceIdeal.nD Cert.GateDwReferenceIdeal.τ).loc Cert.GateDwReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Value0 [hValue0 : Cert.Value0.Facts] : Prop :=
  ∀ (m : (ℓ : Loc Cert.Value0.nD Cert.Value0.τ Cert.Value0.sig) → Buf (Elt Bits) ℓ) (g : Dev Cert.Value0.nD → PrngReg), Pre_Value0 m →
    θ_run (Cert.Value0.defs (F := Bits)) (onTc (τ := Cert.Value0.τ) (Cert.Value0.main (F := Bits))) ⟨m, fun _ => 0, g⟩ (fun r => (∀ c : Dev Cert.Value0.nD,
      r.2.mem ((c.tc : Thread Cert.Value0.nD Cert.Value0.τ).loc Cert.Value0.main_arg0) = m ((c.tc : Thread Cert.Value0.nD Cert.Value0.τ).loc Cert.Value0.main_arg0)
      ∧ r.2.mem ((c.tc : Thread Cert.Value0.nD Cert.Value0.τ).loc Cert.Value0.main_arg1) = m ((c.tc : Thread Cert.Value0.nD Cert.Value0.τ).loc Cert.Value0.main_arg1))
      ∧ r.2.sem = fun _ => 0)

def quiescent_Value0Ideal [hValue0Ideal : Cert.Value0Ideal.Facts] : Prop :=
  ∀ (m : (ℓ : Loc Cert.Value0Ideal.nD Cert.Value0Ideal.τ Cert.Value0Ideal.sig) → Buf (Elt Ideal) ℓ) (g : Dev Cert.Value0Ideal.nD → PrngReg), Pre_Value0Ideal m →
    θ_run (Cert.Value0Ideal.defs (F := Ideal)) (onTc (τ := Cert.Value0Ideal.τ) (Cert.Value0Ideal.main (F := Ideal))) ⟨m, fun _ => 0, g⟩ (fun r => (∀ c : Dev Cert.Value0Ideal.nD,
      r.2.mem ((c.tc : Thread Cert.Value0Ideal.nD Cert.Value0Ideal.τ).loc Cert.Value0Ideal.main_arg0) = m ((c.tc : Thread Cert.Value0Ideal.nD Cert.Value0Ideal.τ).loc Cert.Value0Ideal.main_arg0)
      ∧ r.2.mem ((c.tc : Thread Cert.Value0Ideal.nD Cert.Value0Ideal.τ).loc Cert.Value0Ideal.main_arg1) = m ((c.tc : Thread Cert.Value0Ideal.nD Cert.Value0Ideal.τ).loc Cert.Value0Ideal.main_arg1))
      ∧ r.2.sem = fun _ => 0)

def quiescent_Value0ReferenceIdeal [hValue0ReferenceIdeal : Cert.Value0ReferenceIdeal.Facts] : Prop :=
  ∀ (m : (ℓ : Loc Cert.Value0ReferenceIdeal.nD Cert.Value0ReferenceIdeal.τ Cert.Value0ReferenceIdeal.sig) → Buf (Elt Ideal) ℓ) (g : Dev Cert.Value0ReferenceIdeal.nD → PrngReg), Pre_Value0ReferenceIdeal m →
    θ_run (Cert.Value0ReferenceIdeal.defs (F := Ideal)) (onTc (τ := Cert.Value0ReferenceIdeal.τ) (Cert.Value0ReferenceIdeal.main (F := Ideal))) ⟨m, fun _ => 0, g⟩ (fun r => (∀ c : Dev Cert.Value0ReferenceIdeal.nD,
      r.2.mem ((c.tc : Thread Cert.Value0ReferenceIdeal.nD Cert.Value0ReferenceIdeal.τ).loc Cert.Value0ReferenceIdeal.main_arg0) = m ((c.tc : Thread Cert.Value0ReferenceIdeal.nD Cert.Value0ReferenceIdeal.τ).loc Cert.Value0ReferenceIdeal.main_arg0)
      ∧ r.2.mem ((c.tc : Thread Cert.Value0ReferenceIdeal.nD Cert.Value0ReferenceIdeal.τ).loc Cert.Value0ReferenceIdeal.main_arg1) = m ((c.tc : Thread Cert.Value0ReferenceIdeal.nD Cert.Value0ReferenceIdeal.τ).loc Cert.Value0ReferenceIdeal.main_arg1))
      ∧ r.2.sem = fun _ => 0)

def quiescent_Value1 [hValue1 : Cert.Value1.Facts] : Prop :=
  ∀ (m : (ℓ : Loc Cert.Value1.nD Cert.Value1.τ Cert.Value1.sig) → Buf (Elt Bits) ℓ) (g : Dev Cert.Value1.nD → PrngReg), Pre_Value1 m →
    θ_run (Cert.Value1.defs (F := Bits)) (onTc (τ := Cert.Value1.τ) (Cert.Value1.main (F := Bits))) ⟨m, fun _ => 0, g⟩ (fun r => (∀ c : Dev Cert.Value1.nD,
      r.2.mem ((c.tc : Thread Cert.Value1.nD Cert.Value1.τ).loc Cert.Value1.main_arg0) = m ((c.tc : Thread Cert.Value1.nD Cert.Value1.τ).loc Cert.Value1.main_arg0)
      ∧ r.2.mem ((c.tc : Thread Cert.Value1.nD Cert.Value1.τ).loc Cert.Value1.main_arg1) = m ((c.tc : Thread Cert.Value1.nD Cert.Value1.τ).loc Cert.Value1.main_arg1))
      ∧ r.2.sem = fun _ => 0)

def quiescent_Value1Ideal [hValue1Ideal : Cert.Value1Ideal.Facts] : Prop :=
  ∀ (m : (ℓ : Loc Cert.Value1Ideal.nD Cert.Value1Ideal.τ Cert.Value1Ideal.sig) → Buf (Elt Ideal) ℓ) (g : Dev Cert.Value1Ideal.nD → PrngReg), Pre_Value1Ideal m →
    θ_run (Cert.Value1Ideal.defs (F := Ideal)) (onTc (τ := Cert.Value1Ideal.τ) (Cert.Value1Ideal.main (F := Ideal))) ⟨m, fun _ => 0, g⟩ (fun r => (∀ c : Dev Cert.Value1Ideal.nD,
      r.2.mem ((c.tc : Thread Cert.Value1Ideal.nD Cert.Value1Ideal.τ).loc Cert.Value1Ideal.main_arg0) = m ((c.tc : Thread Cert.Value1Ideal.nD Cert.Value1Ideal.τ).loc Cert.Value1Ideal.main_arg0)
      ∧ r.2.mem ((c.tc : Thread Cert.Value1Ideal.nD Cert.Value1Ideal.τ).loc Cert.Value1Ideal.main_arg1) = m ((c.tc : Thread Cert.Value1Ideal.nD Cert.Value1Ideal.τ).loc Cert.Value1Ideal.main_arg1))
      ∧ r.2.sem = fun _ => 0)

def quiescent_Value1ReferenceIdeal [hValue1ReferenceIdeal : Cert.Value1ReferenceIdeal.Facts] : Prop :=
  ∀ (m : (ℓ : Loc Cert.Value1ReferenceIdeal.nD Cert.Value1ReferenceIdeal.τ Cert.Value1ReferenceIdeal.sig) → Buf (Elt Ideal) ℓ) (g : Dev Cert.Value1ReferenceIdeal.nD → PrngReg), Pre_Value1ReferenceIdeal m →
    θ_run (Cert.Value1ReferenceIdeal.defs (F := Ideal)) (onTc (τ := Cert.Value1ReferenceIdeal.τ) (Cert.Value1ReferenceIdeal.main (F := Ideal))) ⟨m, fun _ => 0, g⟩ (fun r => (∀ c : Dev Cert.Value1ReferenceIdeal.nD,
      r.2.mem ((c.tc : Thread Cert.Value1ReferenceIdeal.nD Cert.Value1ReferenceIdeal.τ).loc Cert.Value1ReferenceIdeal.main_arg0) = m ((c.tc : Thread Cert.Value1ReferenceIdeal.nD Cert.Value1ReferenceIdeal.τ).loc Cert.Value1ReferenceIdeal.main_arg0)
      ∧ r.2.mem ((c.tc : Thread Cert.Value1ReferenceIdeal.nD Cert.Value1ReferenceIdeal.τ).loc Cert.Value1ReferenceIdeal.main_arg1) = m ((c.tc : Thread Cert.Value1ReferenceIdeal.nD Cert.Value1ReferenceIdeal.τ).loc Cert.Value1ReferenceIdeal.main_arg1))
      ∧ r.2.sem = fun _ => 0)

def quiescent_Value2 [hValue2 : Cert.Value2.Facts] : Prop :=
  ∀ (m : (ℓ : Loc Cert.Value2.nD Cert.Value2.τ Cert.Value2.sig) → Buf (Elt Bits) ℓ) (g : Dev Cert.Value2.nD → PrngReg), Pre_Value2 m →
    θ_run (Cert.Value2.defs (F := Bits)) (onTc (τ := Cert.Value2.τ) (Cert.Value2.main (F := Bits))) ⟨m, fun _ => 0, g⟩ (fun r => (∀ c : Dev Cert.Value2.nD,
      r.2.mem ((c.tc : Thread Cert.Value2.nD Cert.Value2.τ).loc Cert.Value2.main_arg0) = m ((c.tc : Thread Cert.Value2.nD Cert.Value2.τ).loc Cert.Value2.main_arg0)
      ∧ r.2.mem ((c.tc : Thread Cert.Value2.nD Cert.Value2.τ).loc Cert.Value2.main_arg1) = m ((c.tc : Thread Cert.Value2.nD Cert.Value2.τ).loc Cert.Value2.main_arg1))
      ∧ r.2.sem = fun _ => 0)

def quiescent_Value2Ideal [hValue2Ideal : Cert.Value2Ideal.Facts] : Prop :=
  ∀ (m : (ℓ : Loc Cert.Value2Ideal.nD Cert.Value2Ideal.τ Cert.Value2Ideal.sig) → Buf (Elt Ideal) ℓ) (g : Dev Cert.Value2Ideal.nD → PrngReg), Pre_Value2Ideal m →
    θ_run (Cert.Value2Ideal.defs (F := Ideal)) (onTc (τ := Cert.Value2Ideal.τ) (Cert.Value2Ideal.main (F := Ideal))) ⟨m, fun _ => 0, g⟩ (fun r => (∀ c : Dev Cert.Value2Ideal.nD,
      r.2.mem ((c.tc : Thread Cert.Value2Ideal.nD Cert.Value2Ideal.τ).loc Cert.Value2Ideal.main_arg0) = m ((c.tc : Thread Cert.Value2Ideal.nD Cert.Value2Ideal.τ).loc Cert.Value2Ideal.main_arg0)
      ∧ r.2.mem ((c.tc : Thread Cert.Value2Ideal.nD Cert.Value2Ideal.τ).loc Cert.Value2Ideal.main_arg1) = m ((c.tc : Thread Cert.Value2Ideal.nD Cert.Value2Ideal.τ).loc Cert.Value2Ideal.main_arg1))
      ∧ r.2.sem = fun _ => 0)

def quiescent_Value2ReferenceIdeal [hValue2ReferenceIdeal : Cert.Value2ReferenceIdeal.Facts] : Prop :=
  ∀ (m : (ℓ : Loc Cert.Value2ReferenceIdeal.nD Cert.Value2ReferenceIdeal.τ Cert.Value2ReferenceIdeal.sig) → Buf (Elt Ideal) ℓ) (g : Dev Cert.Value2ReferenceIdeal.nD → PrngReg), Pre_Value2ReferenceIdeal m →
    θ_run (Cert.Value2ReferenceIdeal.defs (F := Ideal)) (onTc (τ := Cert.Value2ReferenceIdeal.τ) (Cert.Value2ReferenceIdeal.main (F := Ideal))) ⟨m, fun _ => 0, g⟩ (fun r => (∀ c : Dev Cert.Value2ReferenceIdeal.nD,
      r.2.mem ((c.tc : Thread Cert.Value2ReferenceIdeal.nD Cert.Value2ReferenceIdeal.τ).loc Cert.Value2ReferenceIdeal.main_arg0) = m ((c.tc : Thread Cert.Value2ReferenceIdeal.nD Cert.Value2ReferenceIdeal.τ).loc Cert.Value2ReferenceIdeal.main_arg0)
      ∧ r.2.mem ((c.tc : Thread Cert.Value2ReferenceIdeal.nD Cert.Value2ReferenceIdeal.τ).loc Cert.Value2ReferenceIdeal.main_arg1) = m ((c.tc : Thread Cert.Value2ReferenceIdeal.nD Cert.Value2ReferenceIdeal.τ).loc Cert.Value2ReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Rotated0 [hRotated0 : Cert.Rotated0.Facts] : Prop :=
  ∀ (m : (ℓ : Loc Cert.Rotated0.nD Cert.Rotated0.τ Cert.Rotated0.sig) → Buf (Elt Bits) ℓ) (g : Dev Cert.Rotated0.nD → PrngReg), Pre_Rotated0 m →
    θ_run (Cert.Rotated0.defs (F := Bits)) (onTc (τ := Cert.Rotated0.τ) (Cert.Rotated0.main (F := Bits))) ⟨m, fun _ => 0, g⟩ (fun r => (∀ c : Dev Cert.Rotated0.nD,
      r.2.mem ((c.tc : Thread Cert.Rotated0.nD Cert.Rotated0.τ).loc Cert.Rotated0.main_arg0) = m ((c.tc : Thread Cert.Rotated0.nD Cert.Rotated0.τ).loc Cert.Rotated0.main_arg0)
      ∧ r.2.mem ((c.tc : Thread Cert.Rotated0.nD Cert.Rotated0.τ).loc Cert.Rotated0.main_arg1) = m ((c.tc : Thread Cert.Rotated0.nD Cert.Rotated0.τ).loc Cert.Rotated0.main_arg1)
      ∧ r.2.mem ((c.tc : Thread Cert.Rotated0.nD Cert.Rotated0.τ).loc Cert.Rotated0.main_arg2) = m ((c.tc : Thread Cert.Rotated0.nD Cert.Rotated0.τ).loc Cert.Rotated0.main_arg2))
      ∧ r.2.sem = fun _ => 0)

def quiescent_Rotated0Ideal [hRotated0Ideal : Cert.Rotated0Ideal.Facts] : Prop :=
  ∀ (m : (ℓ : Loc Cert.Rotated0Ideal.nD Cert.Rotated0Ideal.τ Cert.Rotated0Ideal.sig) → Buf (Elt Ideal) ℓ) (g : Dev Cert.Rotated0Ideal.nD → PrngReg), Pre_Rotated0Ideal m →
    θ_run (Cert.Rotated0Ideal.defs (F := Ideal)) (onTc (τ := Cert.Rotated0Ideal.τ) (Cert.Rotated0Ideal.main (F := Ideal))) ⟨m, fun _ => 0, g⟩ (fun r => (∀ c : Dev Cert.Rotated0Ideal.nD,
      r.2.mem ((c.tc : Thread Cert.Rotated0Ideal.nD Cert.Rotated0Ideal.τ).loc Cert.Rotated0Ideal.main_arg0) = m ((c.tc : Thread Cert.Rotated0Ideal.nD Cert.Rotated0Ideal.τ).loc Cert.Rotated0Ideal.main_arg0)
      ∧ r.2.mem ((c.tc : Thread Cert.Rotated0Ideal.nD Cert.Rotated0Ideal.τ).loc Cert.Rotated0Ideal.main_arg1) = m ((c.tc : Thread Cert.Rotated0Ideal.nD Cert.Rotated0Ideal.τ).loc Cert.Rotated0Ideal.main_arg1)
      ∧ r.2.mem ((c.tc : Thread Cert.Rotated0Ideal.nD Cert.Rotated0Ideal.τ).loc Cert.Rotated0Ideal.main_arg2) = m ((c.tc : Thread Cert.Rotated0Ideal.nD Cert.Rotated0Ideal.τ).loc Cert.Rotated0Ideal.main_arg2))
      ∧ r.2.sem = fun _ => 0)

def quiescent_Rotated0ReferenceIdeal [hRotated0ReferenceIdeal : Cert.Rotated0ReferenceIdeal.Facts] : Prop :=
  ∀ (m : (ℓ : Loc Cert.Rotated0ReferenceIdeal.nD Cert.Rotated0ReferenceIdeal.τ Cert.Rotated0ReferenceIdeal.sig) → Buf (Elt Ideal) ℓ) (g : Dev Cert.Rotated0ReferenceIdeal.nD → PrngReg), Pre_Rotated0ReferenceIdeal m →
    θ_run (Cert.Rotated0ReferenceIdeal.defs (F := Ideal)) (onTc (τ := Cert.Rotated0ReferenceIdeal.τ) (Cert.Rotated0ReferenceIdeal.main (F := Ideal))) ⟨m, fun _ => 0, g⟩ (fun r => (∀ c : Dev Cert.Rotated0ReferenceIdeal.nD,
      r.2.mem ((c.tc : Thread Cert.Rotated0ReferenceIdeal.nD Cert.Rotated0ReferenceIdeal.τ).loc Cert.Rotated0ReferenceIdeal.main_arg0) = m ((c.tc : Thread Cert.Rotated0ReferenceIdeal.nD Cert.Rotated0ReferenceIdeal.τ).loc Cert.Rotated0ReferenceIdeal.main_arg0)
      ∧ r.2.mem ((c.tc : Thread Cert.Rotated0ReferenceIdeal.nD Cert.Rotated0ReferenceIdeal.τ).loc Cert.Rotated0ReferenceIdeal.main_arg1) = m ((c.tc : Thread Cert.Rotated0ReferenceIdeal.nD Cert.Rotated0ReferenceIdeal.τ).loc Cert.Rotated0ReferenceIdeal.main_arg1)
      ∧ r.2.mem ((c.tc : Thread Cert.Rotated0ReferenceIdeal.nD Cert.Rotated0ReferenceIdeal.τ).loc Cert.Rotated0ReferenceIdeal.main_arg2) = m ((c.tc : Thread Cert.Rotated0ReferenceIdeal.nD Cert.Rotated0ReferenceIdeal.τ).loc Cert.Rotated0ReferenceIdeal.main_arg2))
      ∧ r.2.sem = fun _ => 0)

def quiescent_Rotated1 [hRotated1 : Cert.Rotated1.Facts] : Prop :=
  ∀ (m : (ℓ : Loc Cert.Rotated1.nD Cert.Rotated1.τ Cert.Rotated1.sig) → Buf (Elt Bits) ℓ) (g : Dev Cert.Rotated1.nD → PrngReg), Pre_Rotated1 m →
    θ_run (Cert.Rotated1.defs (F := Bits)) (onTc (τ := Cert.Rotated1.τ) (Cert.Rotated1.main (F := Bits))) ⟨m, fun _ => 0, g⟩ (fun r => (∀ c : Dev Cert.Rotated1.nD,
      r.2.mem ((c.tc : Thread Cert.Rotated1.nD Cert.Rotated1.τ).loc Cert.Rotated1.main_arg0) = m ((c.tc : Thread Cert.Rotated1.nD Cert.Rotated1.τ).loc Cert.Rotated1.main_arg0)
      ∧ r.2.mem ((c.tc : Thread Cert.Rotated1.nD Cert.Rotated1.τ).loc Cert.Rotated1.main_arg1) = m ((c.tc : Thread Cert.Rotated1.nD Cert.Rotated1.τ).loc Cert.Rotated1.main_arg1)
      ∧ r.2.mem ((c.tc : Thread Cert.Rotated1.nD Cert.Rotated1.τ).loc Cert.Rotated1.main_arg2) = m ((c.tc : Thread Cert.Rotated1.nD Cert.Rotated1.τ).loc Cert.Rotated1.main_arg2))
      ∧ r.2.sem = fun _ => 0)

def quiescent_Rotated1Ideal [hRotated1Ideal : Cert.Rotated1Ideal.Facts] : Prop :=
  ∀ (m : (ℓ : Loc Cert.Rotated1Ideal.nD Cert.Rotated1Ideal.τ Cert.Rotated1Ideal.sig) → Buf (Elt Ideal) ℓ) (g : Dev Cert.Rotated1Ideal.nD → PrngReg), Pre_Rotated1Ideal m →
    θ_run (Cert.Rotated1Ideal.defs (F := Ideal)) (onTc (τ := Cert.Rotated1Ideal.τ) (Cert.Rotated1Ideal.main (F := Ideal))) ⟨m, fun _ => 0, g⟩ (fun r => (∀ c : Dev Cert.Rotated1Ideal.nD,
      r.2.mem ((c.tc : Thread Cert.Rotated1Ideal.nD Cert.Rotated1Ideal.τ).loc Cert.Rotated1Ideal.main_arg0) = m ((c.tc : Thread Cert.Rotated1Ideal.nD Cert.Rotated1Ideal.τ).loc Cert.Rotated1Ideal.main_arg0)
      ∧ r.2.mem ((c.tc : Thread Cert.Rotated1Ideal.nD Cert.Rotated1Ideal.τ).loc Cert.Rotated1Ideal.main_arg1) = m ((c.tc : Thread Cert.Rotated1Ideal.nD Cert.Rotated1Ideal.τ).loc Cert.Rotated1Ideal.main_arg1)
      ∧ r.2.mem ((c.tc : Thread Cert.Rotated1Ideal.nD Cert.Rotated1Ideal.τ).loc Cert.Rotated1Ideal.main_arg2) = m ((c.tc : Thread Cert.Rotated1Ideal.nD Cert.Rotated1Ideal.τ).loc Cert.Rotated1Ideal.main_arg2))
      ∧ r.2.sem = fun _ => 0)

def quiescent_Rotated1ReferenceIdeal [hRotated1ReferenceIdeal : Cert.Rotated1ReferenceIdeal.Facts] : Prop :=
  ∀ (m : (ℓ : Loc Cert.Rotated1ReferenceIdeal.nD Cert.Rotated1ReferenceIdeal.τ Cert.Rotated1ReferenceIdeal.sig) → Buf (Elt Ideal) ℓ) (g : Dev Cert.Rotated1ReferenceIdeal.nD → PrngReg), Pre_Rotated1ReferenceIdeal m →
    θ_run (Cert.Rotated1ReferenceIdeal.defs (F := Ideal)) (onTc (τ := Cert.Rotated1ReferenceIdeal.τ) (Cert.Rotated1ReferenceIdeal.main (F := Ideal))) ⟨m, fun _ => 0, g⟩ (fun r => (∀ c : Dev Cert.Rotated1ReferenceIdeal.nD,
      r.2.mem ((c.tc : Thread Cert.Rotated1ReferenceIdeal.nD Cert.Rotated1ReferenceIdeal.τ).loc Cert.Rotated1ReferenceIdeal.main_arg0) = m ((c.tc : Thread Cert.Rotated1ReferenceIdeal.nD Cert.Rotated1ReferenceIdeal.τ).loc Cert.Rotated1ReferenceIdeal.main_arg0)
      ∧ r.2.mem ((c.tc : Thread Cert.Rotated1ReferenceIdeal.nD Cert.Rotated1ReferenceIdeal.τ).loc Cert.Rotated1ReferenceIdeal.main_arg1) = m ((c.tc : Thread Cert.Rotated1ReferenceIdeal.nD Cert.Rotated1ReferenceIdeal.τ).loc Cert.Rotated1ReferenceIdeal.main_arg1)
      ∧ r.2.mem ((c.tc : Thread Cert.Rotated1ReferenceIdeal.nD Cert.Rotated1ReferenceIdeal.τ).loc Cert.Rotated1ReferenceIdeal.main_arg2) = m ((c.tc : Thread Cert.Rotated1ReferenceIdeal.nD Cert.Rotated1ReferenceIdeal.τ).loc Cert.Rotated1ReferenceIdeal.main_arg2))
      ∧ r.2.sem = fun _ => 0)

def quiescent_Rotated2 [hRotated2 : Cert.Rotated2.Facts] : Prop :=
  ∀ (m : (ℓ : Loc Cert.Rotated2.nD Cert.Rotated2.τ Cert.Rotated2.sig) → Buf (Elt Bits) ℓ) (g : Dev Cert.Rotated2.nD → PrngReg), Pre_Rotated2 m →
    θ_run (Cert.Rotated2.defs (F := Bits)) (onTc (τ := Cert.Rotated2.τ) (Cert.Rotated2.main (F := Bits))) ⟨m, fun _ => 0, g⟩ (fun r => (∀ c : Dev Cert.Rotated2.nD,
      r.2.mem ((c.tc : Thread Cert.Rotated2.nD Cert.Rotated2.τ).loc Cert.Rotated2.main_arg0) = m ((c.tc : Thread Cert.Rotated2.nD Cert.Rotated2.τ).loc Cert.Rotated2.main_arg0)
      ∧ r.2.mem ((c.tc : Thread Cert.Rotated2.nD Cert.Rotated2.τ).loc Cert.Rotated2.main_arg1) = m ((c.tc : Thread Cert.Rotated2.nD Cert.Rotated2.τ).loc Cert.Rotated2.main_arg1)
      ∧ r.2.mem ((c.tc : Thread Cert.Rotated2.nD Cert.Rotated2.τ).loc Cert.Rotated2.main_arg2) = m ((c.tc : Thread Cert.Rotated2.nD Cert.Rotated2.τ).loc Cert.Rotated2.main_arg2))
      ∧ r.2.sem = fun _ => 0)

def quiescent_Rotated2Ideal [hRotated2Ideal : Cert.Rotated2Ideal.Facts] : Prop :=
  ∀ (m : (ℓ : Loc Cert.Rotated2Ideal.nD Cert.Rotated2Ideal.τ Cert.Rotated2Ideal.sig) → Buf (Elt Ideal) ℓ) (g : Dev Cert.Rotated2Ideal.nD → PrngReg), Pre_Rotated2Ideal m →
    θ_run (Cert.Rotated2Ideal.defs (F := Ideal)) (onTc (τ := Cert.Rotated2Ideal.τ) (Cert.Rotated2Ideal.main (F := Ideal))) ⟨m, fun _ => 0, g⟩ (fun r => (∀ c : Dev Cert.Rotated2Ideal.nD,
      r.2.mem ((c.tc : Thread Cert.Rotated2Ideal.nD Cert.Rotated2Ideal.τ).loc Cert.Rotated2Ideal.main_arg0) = m ((c.tc : Thread Cert.Rotated2Ideal.nD Cert.Rotated2Ideal.τ).loc Cert.Rotated2Ideal.main_arg0)
      ∧ r.2.mem ((c.tc : Thread Cert.Rotated2Ideal.nD Cert.Rotated2Ideal.τ).loc Cert.Rotated2Ideal.main_arg1) = m ((c.tc : Thread Cert.Rotated2Ideal.nD Cert.Rotated2Ideal.τ).loc Cert.Rotated2Ideal.main_arg1)
      ∧ r.2.mem ((c.tc : Thread Cert.Rotated2Ideal.nD Cert.Rotated2Ideal.τ).loc Cert.Rotated2Ideal.main_arg2) = m ((c.tc : Thread Cert.Rotated2Ideal.nD Cert.Rotated2Ideal.τ).loc Cert.Rotated2Ideal.main_arg2))
      ∧ r.2.sem = fun _ => 0)

def quiescent_Rotated2ReferenceIdeal [hRotated2ReferenceIdeal : Cert.Rotated2ReferenceIdeal.Facts] : Prop :=
  ∀ (m : (ℓ : Loc Cert.Rotated2ReferenceIdeal.nD Cert.Rotated2ReferenceIdeal.τ Cert.Rotated2ReferenceIdeal.sig) → Buf (Elt Ideal) ℓ) (g : Dev Cert.Rotated2ReferenceIdeal.nD → PrngReg), Pre_Rotated2ReferenceIdeal m →
    θ_run (Cert.Rotated2ReferenceIdeal.defs (F := Ideal)) (onTc (τ := Cert.Rotated2ReferenceIdeal.τ) (Cert.Rotated2ReferenceIdeal.main (F := Ideal))) ⟨m, fun _ => 0, g⟩ (fun r => (∀ c : Dev Cert.Rotated2ReferenceIdeal.nD,
      r.2.mem ((c.tc : Thread Cert.Rotated2ReferenceIdeal.nD Cert.Rotated2ReferenceIdeal.τ).loc Cert.Rotated2ReferenceIdeal.main_arg0) = m ((c.tc : Thread Cert.Rotated2ReferenceIdeal.nD Cert.Rotated2ReferenceIdeal.τ).loc Cert.Rotated2ReferenceIdeal.main_arg0)
      ∧ r.2.mem ((c.tc : Thread Cert.Rotated2ReferenceIdeal.nD Cert.Rotated2ReferenceIdeal.τ).loc Cert.Rotated2ReferenceIdeal.main_arg1) = m ((c.tc : Thread Cert.Rotated2ReferenceIdeal.nD Cert.Rotated2ReferenceIdeal.τ).loc Cert.Rotated2ReferenceIdeal.main_arg1)
      ∧ r.2.mem ((c.tc : Thread Cert.Rotated2ReferenceIdeal.nD Cert.Rotated2ReferenceIdeal.τ).loc Cert.Rotated2ReferenceIdeal.main_arg2) = m ((c.tc : Thread Cert.Rotated2ReferenceIdeal.nD Cert.Rotated2ReferenceIdeal.τ).loc Cert.Rotated2ReferenceIdeal.main_arg2))
      ∧ r.2.sem = fun _ => 0)

def preserves_Kernel_KernelIdeal : Prop :=
  IdealRules.named_const.Statement Cert.KernelIdeal.κ "scale_log2e" .f32 0x3E16C740#32 (((3424635 / 33554432) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v109_0)) (v1 : (c : Dev Cert.KernelIdeal.nD) → Buf (Elt Ideal) ((c.tc : Thread Cert.KernelIdeal.nD Cert.KernelIdeal.τ).loc Cert.KernelIdeal.main_v109_1)) (v2 : (c : Dev Cert.KernelIdeal.nD) → Buf (Elt Ideal) ((c.tc : Thread Cert.KernelIdeal.nD Cert.KernelIdeal.τ).loc Cert.KernelIdeal.main_v109_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109_0) = v0 c
          ∧ r.2.mem ((c.tc : Thread Cert.KernelIdeal.nD Cert.KernelIdeal.τ).loc Cert.KernelIdeal.main_v109_1) = v1 c
          ∧ r.2.mem ((c.tc : Thread Cert.KernelIdeal.nD Cert.KernelIdeal.τ).loc Cert.KernelIdeal.main_v109_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Group1Dx_Group1DxIdeal : Prop :=
  True

def algebraic_Group1DxIdeal_Group1DxReferenceIdeal [hGroup1DxIdeal : Cert.Group1DxIdeal.Facts] [hGroup1DxReferenceIdeal : Cert.Group1DxReferenceIdeal.Facts] : Prop :=
  ∀ (m : (ℓ : Loc Cert.Group1DxIdeal.nD Cert.Group1DxIdeal.τ Cert.Group1DxIdeal.sig) → Buf (Elt Ideal) ℓ) (g : Dev Cert.Group1DxIdeal.nD → PrngReg)
    (m' : (ℓ : Loc Cert.Group1DxReferenceIdeal.nD Cert.Group1DxReferenceIdeal.τ Cert.Group1DxReferenceIdeal.sig) → Buf (Elt Ideal) ℓ) (g' : Dev Cert.Group1DxReferenceIdeal.nD → PrngReg), Pre_Group1DxIdeal m →
    (∀ c : Dev Cert.Group1DxIdeal.nD,
      m' ((c.tc : Thread Cert.Group1DxReferenceIdeal.nD Cert.Group1DxReferenceIdeal.τ).loc Cert.Group1DxReferenceIdeal.main_arg0) = m ((c.tc : Thread Cert.Group1DxIdeal.nD Cert.Group1DxIdeal.τ).loc Cert.Group1DxIdeal.main_arg0)
      ∧ m' ((c.tc : Thread Cert.Group1DxReferenceIdeal.nD Cert.Group1DxReferenceIdeal.τ).loc Cert.Group1DxReferenceIdeal.main_arg1) = m ((c.tc : Thread Cert.Group1DxIdeal.nD Cert.Group1DxIdeal.τ).loc Cert.Group1DxIdeal.main_arg1)) →
    ∃ (v0 : (c : Dev Cert.Group1DxIdeal.nD) → Buf (Elt Ideal) ((c.tc : Thread Cert.Group1DxIdeal.nD Cert.Group1DxIdeal.τ).loc Cert.Group1DxIdeal.main_v2)),
      θ_run (Cert.Group1DxIdeal.defs (F := Ideal)) (onTc (τ := Cert.Group1DxIdeal.τ) (Cert.Group1DxIdeal.main (F := Ideal))) ⟨m, fun _ => 0, g⟩ (fun r => ∀ c : Dev Cert.Group1DxIdeal.nD,
          r.2.mem ((c.tc : Thread Cert.Group1DxIdeal.nD Cert.Group1DxIdeal.τ).loc Cert.Group1DxIdeal.main_v2) = v0 c
          ∧ r.2.mem ((c.tc : Thread Cert.Group1DxIdeal.nD Cert.Group1DxIdeal.τ).loc Cert.Group1DxIdeal.main_arg0) = m ((c.tc : Thread Cert.Group1DxIdeal.nD Cert.Group1DxIdeal.τ).loc Cert.Group1DxIdeal.main_arg0)
          ∧ r.2.mem ((c.tc : Thread Cert.Group1DxIdeal.nD Cert.Group1DxIdeal.τ).loc Cert.Group1DxIdeal.main_arg1) = m ((c.tc : Thread Cert.Group1DxIdeal.nD Cert.Group1DxIdeal.τ).loc Cert.Group1DxIdeal.main_arg1))
      ∧ θ_run (Cert.Group1DxReferenceIdeal.defs (F := Ideal)) (onTc (τ := Cert.Group1DxReferenceIdeal.τ) (Cert.Group1DxReferenceIdeal.main (F := Ideal))) ⟨m', fun _ => 0, g'⟩ (fun r => ∀ c : Dev Cert.Group1DxReferenceIdeal.nD,
          r.2.mem ((c.tc : Thread Cert.Group1DxReferenceIdeal.nD Cert.Group1DxReferenceIdeal.τ).loc Cert.Group1DxReferenceIdeal.main_v4) = v0 c
          ∧ r.2.mem ((c.tc : Thread Cert.Group1DxReferenceIdeal.nD Cert.Group1DxReferenceIdeal.τ).loc Cert.Group1DxReferenceIdeal.main_arg0) = m' ((c.tc : Thread Cert.Group1DxReferenceIdeal.nD Cert.Group1DxReferenceIdeal.τ).loc Cert.Group1DxReferenceIdeal.main_arg0)
          ∧ r.2.mem ((c.tc : Thread Cert.Group1DxReferenceIdeal.nD Cert.Group1DxReferenceIdeal.τ).loc Cert.Group1DxReferenceIdeal.main_arg1) = m' ((c.tc : Thread Cert.Group1DxReferenceIdeal.nD Cert.Group1DxReferenceIdeal.τ).loc Cert.Group1DxReferenceIdeal.main_arg1))

def preserves_Group2Dx_Group2DxIdeal : Prop :=
  True

def algebraic_Group2DxIdeal_Group2DxReferenceIdeal [hGroup2DxIdeal : Cert.Group2DxIdeal.Facts] [hGroup2DxReferenceIdeal : Cert.Group2DxReferenceIdeal.Facts] : Prop :=
  ∀ (m : (ℓ : Loc Cert.Group2DxIdeal.nD Cert.Group2DxIdeal.τ Cert.Group2DxIdeal.sig) → Buf (Elt Ideal) ℓ) (g : Dev Cert.Group2DxIdeal.nD → PrngReg)
    (m' : (ℓ : Loc Cert.Group2DxReferenceIdeal.nD Cert.Group2DxReferenceIdeal.τ Cert.Group2DxReferenceIdeal.sig) → Buf (Elt Ideal) ℓ) (g' : Dev Cert.Group2DxReferenceIdeal.nD → PrngReg), Pre_Group2DxIdeal m →
    (∀ c : Dev Cert.Group2DxIdeal.nD,
      m' ((c.tc : Thread Cert.Group2DxReferenceIdeal.nD Cert.Group2DxReferenceIdeal.τ).loc Cert.Group2DxReferenceIdeal.main_arg0) = m ((c.tc : Thread Cert.Group2DxIdeal.nD Cert.Group2DxIdeal.τ).loc Cert.Group2DxIdeal.main_arg0)
      ∧ m' ((c.tc : Thread Cert.Group2DxReferenceIdeal.nD Cert.Group2DxReferenceIdeal.τ).loc Cert.Group2DxReferenceIdeal.main_arg1) = m ((c.tc : Thread Cert.Group2DxIdeal.nD Cert.Group2DxIdeal.τ).loc Cert.Group2DxIdeal.main_arg1)) →
    ∃ (v0 : (c : Dev Cert.Group2DxIdeal.nD) → Buf (Elt Ideal) ((c.tc : Thread Cert.Group2DxIdeal.nD Cert.Group2DxIdeal.τ).loc Cert.Group2DxIdeal.main_v2)),
      θ_run (Cert.Group2DxIdeal.defs (F := Ideal)) (onTc (τ := Cert.Group2DxIdeal.τ) (Cert.Group2DxIdeal.main (F := Ideal))) ⟨m, fun _ => 0, g⟩ (fun r => ∀ c : Dev Cert.Group2DxIdeal.nD,
          r.2.mem ((c.tc : Thread Cert.Group2DxIdeal.nD Cert.Group2DxIdeal.τ).loc Cert.Group2DxIdeal.main_v2) = v0 c
          ∧ r.2.mem ((c.tc : Thread Cert.Group2DxIdeal.nD Cert.Group2DxIdeal.τ).loc Cert.Group2DxIdeal.main_arg0) = m ((c.tc : Thread Cert.Group2DxIdeal.nD Cert.Group2DxIdeal.τ).loc Cert.Group2DxIdeal.main_arg0)
          ∧ r.2.mem ((c.tc : Thread Cert.Group2DxIdeal.nD Cert.Group2DxIdeal.τ).loc Cert.Group2DxIdeal.main_arg1) = m ((c.tc : Thread Cert.Group2DxIdeal.nD Cert.Group2DxIdeal.τ).loc Cert.Group2DxIdeal.main_arg1))
      ∧ θ_run (Cert.Group2DxReferenceIdeal.defs (F := Ideal)) (onTc (τ := Cert.Group2DxReferenceIdeal.τ) (Cert.Group2DxReferenceIdeal.main (F := Ideal))) ⟨m', fun _ => 0, g'⟩ (fun r => ∀ c : Dev Cert.Group2DxReferenceIdeal.nD,
          r.2.mem ((c.tc : Thread Cert.Group2DxReferenceIdeal.nD Cert.Group2DxReferenceIdeal.τ).loc Cert.Group2DxReferenceIdeal.main_v4) = v0 c
          ∧ r.2.mem ((c.tc : Thread Cert.Group2DxReferenceIdeal.nD Cert.Group2DxReferenceIdeal.τ).loc Cert.Group2DxReferenceIdeal.main_arg0) = m' ((c.tc : Thread Cert.Group2DxReferenceIdeal.nD Cert.Group2DxReferenceIdeal.τ).loc Cert.Group2DxReferenceIdeal.main_arg0)
          ∧ r.2.mem ((c.tc : Thread Cert.Group2DxReferenceIdeal.nD Cert.Group2DxReferenceIdeal.τ).loc Cert.Group2DxReferenceIdeal.main_arg1) = m' ((c.tc : Thread Cert.Group2DxReferenceIdeal.nD Cert.Group2DxReferenceIdeal.τ).loc Cert.Group2DxReferenceIdeal.main_arg1))

def preserves_Group0Dx_Group0DxIdeal : Prop :=
  True

def algebraic_Group0DxIdeal_Group0DxReferenceIdeal [hGroup0DxIdeal : Cert.Group0DxIdeal.Facts] [hGroup0DxReferenceIdeal : Cert.Group0DxReferenceIdeal.Facts] : Prop :=
  ∀ (m : (ℓ : Loc Cert.Group0DxIdeal.nD Cert.Group0DxIdeal.τ Cert.Group0DxIdeal.sig) → Buf (Elt Ideal) ℓ) (g : Dev Cert.Group0DxIdeal.nD → PrngReg)
    (m' : (ℓ : Loc Cert.Group0DxReferenceIdeal.nD Cert.Group0DxReferenceIdeal.τ Cert.Group0DxReferenceIdeal.sig) → Buf (Elt Ideal) ℓ) (g' : Dev Cert.Group0DxReferenceIdeal.nD → PrngReg), Pre_Group0DxIdeal m →
    (∀ c : Dev Cert.Group0DxIdeal.nD,
      m' ((c.tc : Thread Cert.Group0DxReferenceIdeal.nD Cert.Group0DxReferenceIdeal.τ).loc Cert.Group0DxReferenceIdeal.main_arg0) = m ((c.tc : Thread Cert.Group0DxIdeal.nD Cert.Group0DxIdeal.τ).loc Cert.Group0DxIdeal.main_arg0)
      ∧ m' ((c.tc : Thread Cert.Group0DxReferenceIdeal.nD Cert.Group0DxReferenceIdeal.τ).loc Cert.Group0DxReferenceIdeal.main_arg1) = m ((c.tc : Thread Cert.Group0DxIdeal.nD Cert.Group0DxIdeal.τ).loc Cert.Group0DxIdeal.main_arg1)
      ∧ m' ((c.tc : Thread Cert.Group0DxReferenceIdeal.nD Cert.Group0DxReferenceIdeal.τ).loc Cert.Group0DxReferenceIdeal.main_arg2) = m ((c.tc : Thread Cert.Group0DxIdeal.nD Cert.Group0DxIdeal.τ).loc Cert.Group0DxIdeal.main_arg2)) →
    ∃ (v0 : (c : Dev Cert.Group0DxIdeal.nD) → Buf (Elt Ideal) ((c.tc : Thread Cert.Group0DxIdeal.nD Cert.Group0DxIdeal.τ).loc Cert.Group0DxIdeal.main_v2)),
      θ_run (Cert.Group0DxIdeal.defs (F := Ideal)) (onTc (τ := Cert.Group0DxIdeal.τ) (Cert.Group0DxIdeal.main (F := Ideal))) ⟨m, fun _ => 0, g⟩ (fun r => ∀ c : Dev Cert.Group0DxIdeal.nD,
          r.2.mem ((c.tc : Thread Cert.Group0DxIdeal.nD Cert.Group0DxIdeal.τ).loc Cert.Group0DxIdeal.main_v2) = v0 c
          ∧ r.2.mem ((c.tc : Thread Cert.Group0DxIdeal.nD Cert.Group0DxIdeal.τ).loc Cert.Group0DxIdeal.main_arg0) = m ((c.tc : Thread Cert.Group0DxIdeal.nD Cert.Group0DxIdeal.τ).loc Cert.Group0DxIdeal.main_arg0)
          ∧ r.2.mem ((c.tc : Thread Cert.Group0DxIdeal.nD Cert.Group0DxIdeal.τ).loc Cert.Group0DxIdeal.main_arg1) = m ((c.tc : Thread Cert.Group0DxIdeal.nD Cert.Group0DxIdeal.τ).loc Cert.Group0DxIdeal.main_arg1)
          ∧ r.2.mem ((c.tc : Thread Cert.Group0DxIdeal.nD Cert.Group0DxIdeal.τ).loc Cert.Group0DxIdeal.main_arg2) = m ((c.tc : Thread Cert.Group0DxIdeal.nD Cert.Group0DxIdeal.τ).loc Cert.Group0DxIdeal.main_arg2))
      ∧ θ_run (Cert.Group0DxReferenceIdeal.defs (F := Ideal)) (onTc (τ := Cert.Group0DxReferenceIdeal.τ) (Cert.Group0DxReferenceIdeal.main (F := Ideal))) ⟨m', fun _ => 0, g'⟩ (fun r => ∀ c : Dev Cert.Group0DxReferenceIdeal.nD,
          r.2.mem ((c.tc : Thread Cert.Group0DxReferenceIdeal.nD Cert.Group0DxReferenceIdeal.τ).loc Cert.Group0DxReferenceIdeal.main_v4) = v0 c
          ∧ r.2.mem ((c.tc : Thread Cert.Group0DxReferenceIdeal.nD Cert.Group0DxReferenceIdeal.τ).loc Cert.Group0DxReferenceIdeal.main_arg0) = m' ((c.tc : Thread Cert.Group0DxReferenceIdeal.nD Cert.Group0DxReferenceIdeal.τ).loc Cert.Group0DxReferenceIdeal.main_arg0)
          ∧ r.2.mem ((c.tc : Thread Cert.Group0DxReferenceIdeal.nD Cert.Group0DxReferenceIdeal.τ).loc Cert.Group0DxReferenceIdeal.main_arg1) = m' ((c.tc : Thread Cert.Group0DxReferenceIdeal.nD Cert.Group0DxReferenceIdeal.τ).loc Cert.Group0DxReferenceIdeal.main_arg1)
          ∧ r.2.mem ((c.tc : Thread Cert.Group0DxReferenceIdeal.nD Cert.Group0DxReferenceIdeal.τ).loc Cert.Group0DxReferenceIdeal.main_arg2) = m' ((c.tc : Thread Cert.Group0DxReferenceIdeal.nD Cert.Group0DxReferenceIdeal.τ).loc Cert.Group0DxReferenceIdeal.main_arg2))

def preserves_GateDx_GateDxIdeal : Prop :=
  True

def algebraic_GateDxIdeal_GateDxReferenceIdeal [hGateDxIdeal : Cert.GateDxIdeal.Facts] [hGateDxReferenceIdeal : Cert.GateDxReferenceIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxReferenceIdeal.nD Cert.GateDxReferenceIdeal.τ Cert.GateDxReferenceIdeal.sig) → Buf (Elt Ideal) ℓ) (g' : Dev Cert.GateDxReferenceIdeal.nD → PrngReg), Pre_GateDxIdeal m →
    (∀ c : Dev Cert.GateDxIdeal.nD,
      m' ((c.tc : Thread Cert.GateDxReferenceIdeal.nD Cert.GateDxReferenceIdeal.τ).loc Cert.GateDxReferenceIdeal.main_arg0) = m ((c.tc : Thread Cert.GateDxIdeal.nD Cert.GateDxIdeal.τ).loc Cert.GateDxIdeal.main_arg0)
      ∧ m' ((c.tc : Thread Cert.GateDxReferenceIdeal.nD Cert.GateDxReferenceIdeal.τ).loc Cert.GateDxReferenceIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v2)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v2) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxReferenceIdeal.defs (F := Ideal)) (onTc (τ := Cert.GateDxReferenceIdeal.τ) (Cert.GateDxReferenceIdeal.main (F := Ideal))) ⟨m', fun _ => 0, g'⟩ (fun r => ∀ c : Dev Cert.GateDxReferenceIdeal.nD,
          r.2.mem ((c.tc : Thread Cert.GateDxReferenceIdeal.nD Cert.GateDxReferenceIdeal.τ).loc Cert.GateDxReferenceIdeal.main_v3) = v0 c
          ∧ r.2.mem ((c.tc : Thread Cert.GateDxReferenceIdeal.nD Cert.GateDxReferenceIdeal.τ).loc Cert.GateDxReferenceIdeal.main_arg0) = m' ((c.tc : Thread Cert.GateDxReferenceIdeal.nD Cert.GateDxReferenceIdeal.τ).loc Cert.GateDxReferenceIdeal.main_arg0)
          ∧ r.2.mem ((c.tc : Thread Cert.GateDxReferenceIdeal.nD Cert.GateDxReferenceIdeal.τ).loc Cert.GateDxReferenceIdeal.main_arg1) = m' ((c.tc : Thread Cert.GateDxReferenceIdeal.nD Cert.GateDxReferenceIdeal.τ).loc Cert.GateDxReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v3) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v4) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v3) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v4) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_Group0Dw_Group0DwIdeal : Prop :=
  True

def algebraic_Group0DwIdeal_Group0DwReferenceIdeal [hGroup0DwIdeal : Cert.Group0DwIdeal.Facts] [hGroup0DwReferenceIdeal : Cert.Group0DwReferenceIdeal.Facts] : Prop :=
  ∀ (m : (ℓ : Loc Cert.Group0DwIdeal.nD Cert.Group0DwIdeal.τ Cert.Group0DwIdeal.sig) → Buf (Elt Ideal) ℓ) (g : Dev Cert.Group0DwIdeal.nD → PrngReg)
    (m' : (ℓ : Loc Cert.Group0DwReferenceIdeal.nD Cert.Group0DwReferenceIdeal.τ Cert.Group0DwReferenceIdeal.sig) → Buf (Elt Ideal) ℓ) (g' : Dev Cert.Group0DwReferenceIdeal.nD → PrngReg), Pre_Group0DwIdeal m →
    (∀ c : Dev Cert.Group0DwIdeal.nD,
      m' ((c.tc : Thread Cert.Group0DwReferenceIdeal.nD Cert.Group0DwReferenceIdeal.τ).loc Cert.Group0DwReferenceIdeal.main_arg0) = m ((c.tc : Thread Cert.Group0DwIdeal.nD Cert.Group0DwIdeal.τ).loc Cert.Group0DwIdeal.main_arg0)
      ∧ m' ((c.tc : Thread Cert.Group0DwReferenceIdeal.nD Cert.Group0DwReferenceIdeal.τ).loc Cert.Group0DwReferenceIdeal.main_arg1) = m ((c.tc : Thread Cert.Group0DwIdeal.nD Cert.Group0DwIdeal.τ).loc Cert.Group0DwIdeal.main_arg1)) →
    ∃ (v0 : (c : Dev Cert.Group0DwIdeal.nD) → Buf (Elt Ideal) ((c.tc : Thread Cert.Group0DwIdeal.nD Cert.Group0DwIdeal.τ).loc Cert.Group0DwIdeal.main_v3)),
      θ_run (Cert.Group0DwIdeal.defs (F := Ideal)) (onTc (τ := Cert.Group0DwIdeal.τ) (Cert.Group0DwIdeal.main (F := Ideal))) ⟨m, fun _ => 0, g⟩ (fun r => ∀ c : Dev Cert.Group0DwIdeal.nD,
          r.2.mem ((c.tc : Thread Cert.Group0DwIdeal.nD Cert.Group0DwIdeal.τ).loc Cert.Group0DwIdeal.main_v3) = v0 c
          ∧ r.2.mem ((c.tc : Thread Cert.Group0DwIdeal.nD Cert.Group0DwIdeal.τ).loc Cert.Group0DwIdeal.main_arg0) = m ((c.tc : Thread Cert.Group0DwIdeal.nD Cert.Group0DwIdeal.τ).loc Cert.Group0DwIdeal.main_arg0)
          ∧ r.2.mem ((c.tc : Thread Cert.Group0DwIdeal.nD Cert.Group0DwIdeal.τ).loc Cert.Group0DwIdeal.main_arg1) = m ((c.tc : Thread Cert.Group0DwIdeal.nD Cert.Group0DwIdeal.τ).loc Cert.Group0DwIdeal.main_arg1))
      ∧ θ_run (Cert.Group0DwReferenceIdeal.defs (F := Ideal)) (onTc (τ := Cert.Group0DwReferenceIdeal.τ) (Cert.Group0DwReferenceIdeal.main (F := Ideal))) ⟨m', fun _ => 0, g'⟩ (fun r => ∀ c : Dev Cert.Group0DwReferenceIdeal.nD,
          r.2.mem ((c.tc : Thread Cert.Group0DwReferenceIdeal.nD Cert.Group0DwReferenceIdeal.τ).loc Cert.Group0DwReferenceIdeal.main_v4) = v0 c
          ∧ r.2.mem ((c.tc : Thread Cert.Group0DwReferenceIdeal.nD Cert.Group0DwReferenceIdeal.τ).loc Cert.Group0DwReferenceIdeal.main_arg0) = m' ((c.tc : Thread Cert.Group0DwReferenceIdeal.nD Cert.Group0DwReferenceIdeal.τ).loc Cert.Group0DwReferenceIdeal.main_arg0)
          ∧ r.2.mem ((c.tc : Thread Cert.Group0DwReferenceIdeal.nD Cert.Group0DwReferenceIdeal.τ).loc Cert.Group0DwReferenceIdeal.main_arg1) = m' ((c.tc : Thread Cert.Group0DwReferenceIdeal.nD Cert.Group0DwReferenceIdeal.τ).loc Cert.Group0DwReferenceIdeal.main_arg1))

def preserves_Group1Dw_Group1DwIdeal : Prop :=
  True

def algebraic_Group1DwIdeal_Group1DwReferenceIdeal [hGroup1DwIdeal : Cert.Group1DwIdeal.Facts] [hGroup1DwReferenceIdeal : Cert.Group1DwReferenceIdeal.Facts] : Prop :=
  ∀ (m : (ℓ : Loc Cert.Group1DwIdeal.nD Cert.Group1DwIdeal.τ Cert.Group1DwIdeal.sig) → Buf (Elt Ideal) ℓ) (g : Dev Cert.Group1DwIdeal.nD → PrngReg)
    (m' : (ℓ : Loc Cert.Group1DwReferenceIdeal.nD Cert.Group1DwReferenceIdeal.τ Cert.Group1DwReferenceIdeal.sig) → Buf (Elt Ideal) ℓ) (g' : Dev Cert.Group1DwReferenceIdeal.nD → PrngReg), Pre_Group1DwIdeal m →
    (∀ c : Dev Cert.Group1DwIdeal.nD,
      m' ((c.tc : Thread Cert.Group1DwReferenceIdeal.nD Cert.Group1DwReferenceIdeal.τ).loc Cert.Group1DwReferenceIdeal.main_arg0) = m ((c.tc : Thread Cert.Group1DwIdeal.nD Cert.Group1DwIdeal.τ).loc Cert.Group1DwIdeal.main_arg0)
      ∧ m' ((c.tc : Thread Cert.Group1DwReferenceIdeal.nD Cert.Group1DwReferenceIdeal.τ).loc Cert.Group1DwReferenceIdeal.main_arg1) = m ((c.tc : Thread Cert.Group1DwIdeal.nD Cert.Group1DwIdeal.τ).loc Cert.Group1DwIdeal.main_arg1)
      ∧ m' ((c.tc : Thread Cert.Group1DwReferenceIdeal.nD Cert.Group1DwReferenceIdeal.τ).loc Cert.Group1DwReferenceIdeal.main_arg2) = m ((c.tc : Thread Cert.Group1DwIdeal.nD Cert.Group1DwIdeal.τ).loc Cert.Group1DwIdeal.main_arg2)) →
    ∃ (v0 : (c : Dev Cert.Group1DwIdeal.nD) → Buf (Elt Ideal) ((c.tc : Thread Cert.Group1DwIdeal.nD Cert.Group1DwIdeal.τ).loc Cert.Group1DwIdeal.main_v3)),
      θ_run (Cert.Group1DwIdeal.defs (F := Ideal)) (onTc (τ := Cert.Group1DwIdeal.τ) (Cert.Group1DwIdeal.main (F := Ideal))) ⟨m, fun _ => 0, g⟩ (fun r => ∀ c : Dev Cert.Group1DwIdeal.nD,
          r.2.mem ((c.tc : Thread Cert.Group1DwIdeal.nD Cert.Group1DwIdeal.τ).loc Cert.Group1DwIdeal.main_v3) = v0 c
          ∧ r.2.mem ((c.tc : Thread Cert.Group1DwIdeal.nD Cert.Group1DwIdeal.τ).loc Cert.Group1DwIdeal.main_arg0) = m ((c.tc : Thread Cert.Group1DwIdeal.nD Cert.Group1DwIdeal.τ).loc Cert.Group1DwIdeal.main_arg0)
          ∧ r.2.mem ((c.tc : Thread Cert.Group1DwIdeal.nD Cert.Group1DwIdeal.τ).loc Cert.Group1DwIdeal.main_arg1) = m ((c.tc : Thread Cert.Group1DwIdeal.nD Cert.Group1DwIdeal.τ).loc Cert.Group1DwIdeal.main_arg1)
          ∧ r.2.mem ((c.tc : Thread Cert.Group1DwIdeal.nD Cert.Group1DwIdeal.τ).loc Cert.Group1DwIdeal.main_arg2) = m ((c.tc : Thread Cert.Group1DwIdeal.nD Cert.Group1DwIdeal.τ).loc Cert.Group1DwIdeal.main_arg2))
      ∧ θ_run (Cert.Group1DwReferenceIdeal.defs (F := Ideal)) (onTc (τ := Cert.Group1DwReferenceIdeal.τ) (Cert.Group1DwReferenceIdeal.main (F := Ideal))) ⟨m', fun _ => 0, g'⟩ (fun r => ∀ c : Dev Cert.Group1DwReferenceIdeal.nD,
          r.2.mem ((c.tc : Thread Cert.Group1DwReferenceIdeal.nD Cert.Group1DwReferenceIdeal.τ).loc Cert.Group1DwReferenceIdeal.main_v7) = v0 c
          ∧ r.2.mem ((c.tc : Thread Cert.Group1DwReferenceIdeal.nD Cert.Group1DwReferenceIdeal.τ).loc Cert.Group1DwReferenceIdeal.main_arg0) = m' ((c.tc : Thread Cert.Group1DwReferenceIdeal.nD Cert.Group1DwReferenceIdeal.τ).loc Cert.Group1DwReferenceIdeal.main_arg0)
          ∧ r.2.mem ((c.tc : Thread Cert.Group1DwReferenceIdeal.nD Cert.Group1DwReferenceIdeal.τ).loc Cert.Group1DwReferenceIdeal.main_arg1) = m' ((c.tc : Thread Cert.Group1DwReferenceIdeal.nD Cert.Group1DwReferenceIdeal.τ).loc Cert.Group1DwReferenceIdeal.main_arg1)
          ∧ r.2.mem ((c.tc : Thread Cert.Group1DwReferenceIdeal.nD Cert.Group1DwReferenceIdeal.τ).loc Cert.Group1DwReferenceIdeal.main_arg2) = m' ((c.tc : Thread Cert.Group1DwReferenceIdeal.nD Cert.Group1DwReferenceIdeal.τ).loc Cert.Group1DwReferenceIdeal.main_arg2))

def preserves_Group2Dw_Group2DwIdeal : Prop :=
  True

def algebraic_Group2DwIdeal_Group2DwReferenceIdeal [hGroup2DwIdeal : Cert.Group2DwIdeal.Facts] [hGroup2DwReferenceIdeal : Cert.Group2DwReferenceIdeal.Facts] : Prop :=
  ∀ (m : (ℓ : Loc Cert.Group2DwIdeal.nD Cert.Group2DwIdeal.τ Cert.Group2DwIdeal.sig) → Buf (Elt Ideal) ℓ) (g : Dev Cert.Group2DwIdeal.nD → PrngReg)
    (m' : (ℓ : Loc Cert.Group2DwReferenceIdeal.nD Cert.Group2DwReferenceIdeal.τ Cert.Group2DwReferenceIdeal.sig) → Buf (Elt Ideal) ℓ) (g' : Dev Cert.Group2DwReferenceIdeal.nD → PrngReg), Pre_Group2DwIdeal m →
    (∀ c : Dev Cert.Group2DwIdeal.nD,
      m' ((c.tc : Thread Cert.Group2DwReferenceIdeal.nD Cert.Group2DwReferenceIdeal.τ).loc Cert.Group2DwReferenceIdeal.main_arg0) = m ((c.tc : Thread Cert.Group2DwIdeal.nD Cert.Group2DwIdeal.τ).loc Cert.Group2DwIdeal.main_arg0)
      ∧ m' ((c.tc : Thread Cert.Group2DwReferenceIdeal.nD Cert.Group2DwReferenceIdeal.τ).loc Cert.Group2DwReferenceIdeal.main_arg1) = m ((c.tc : Thread Cert.Group2DwIdeal.nD Cert.Group2DwIdeal.τ).loc Cert.Group2DwIdeal.main_arg1)
      ∧ m' ((c.tc : Thread Cert.Group2DwReferenceIdeal.nD Cert.Group2DwReferenceIdeal.τ).loc Cert.Group2DwReferenceIdeal.main_arg2) = m ((c.tc : Thread Cert.Group2DwIdeal.nD Cert.Group2DwIdeal.τ).loc Cert.Group2DwIdeal.main_arg2)) →
    ∃ (v0 : (c : Dev Cert.Group2DwIdeal.nD) → Buf (Elt Ideal) ((c.tc : Thread Cert.Group2DwIdeal.nD Cert.Group2DwIdeal.τ).loc Cert.Group2DwIdeal.main_v3)),
      θ_run (Cert.Group2DwIdeal.defs (F := Ideal)) (onTc (τ := Cert.Group2DwIdeal.τ) (Cert.Group2DwIdeal.main (F := Ideal))) ⟨m, fun _ => 0, g⟩ (fun r => ∀ c : Dev Cert.Group2DwIdeal.nD,
          r.2.mem ((c.tc : Thread Cert.Group2DwIdeal.nD Cert.Group2DwIdeal.τ).loc Cert.Group2DwIdeal.main_v3) = v0 c
          ∧ r.2.mem ((c.tc : Thread Cert.Group2DwIdeal.nD Cert.Group2DwIdeal.τ).loc Cert.Group2DwIdeal.main_arg0) = m ((c.tc : Thread Cert.Group2DwIdeal.nD Cert.Group2DwIdeal.τ).loc Cert.Group2DwIdeal.main_arg0)
          ∧ r.2.mem ((c.tc : Thread Cert.Group2DwIdeal.nD Cert.Group2DwIdeal.τ).loc Cert.Group2DwIdeal.main_arg1) = m ((c.tc : Thread Cert.Group2DwIdeal.nD Cert.Group2DwIdeal.τ).loc Cert.Group2DwIdeal.main_arg1)
          ∧ r.2.mem ((c.tc : Thread Cert.Group2DwIdeal.nD Cert.Group2DwIdeal.τ).loc Cert.Group2DwIdeal.main_arg2) = m ((c.tc : Thread Cert.Group2DwIdeal.nD Cert.Group2DwIdeal.τ).loc Cert.Group2DwIdeal.main_arg2))
      ∧ θ_run (Cert.Group2DwReferenceIdeal.defs (F := Ideal)) (onTc (τ := Cert.Group2DwReferenceIdeal.τ) (Cert.Group2DwReferenceIdeal.main (F := Ideal))) ⟨m', fun _ => 0, g'⟩ (fun r => ∀ c : Dev Cert.Group2DwReferenceIdeal.nD,
          r.2.mem ((c.tc : Thread Cert.Group2DwReferenceIdeal.nD Cert.Group2DwReferenceIdeal.τ).loc Cert.Group2DwReferenceIdeal.main_v7) = v0 c
          ∧ r.2.mem ((c.tc : Thread Cert.Group2DwReferenceIdeal.nD Cert.Group2DwReferenceIdeal.τ).loc Cert.Group2DwReferenceIdeal.main_arg0) = m' ((c.tc : Thread Cert.Group2DwReferenceIdeal.nD Cert.Group2DwReferenceIdeal.τ).loc Cert.Group2DwReferenceIdeal.main_arg0)
          ∧ r.2.mem ((c.tc : Thread Cert.Group2DwReferenceIdeal.nD Cert.Group2DwReferenceIdeal.τ).loc Cert.Group2DwReferenceIdeal.main_arg1) = m' ((c.tc : Thread Cert.Group2DwReferenceIdeal.nD Cert.Group2DwReferenceIdeal.τ).loc Cert.Group2DwReferenceIdeal.main_arg1)
          ∧ r.2.mem ((c.tc : Thread Cert.Group2DwReferenceIdeal.nD Cert.Group2DwReferenceIdeal.τ).loc Cert.Group2DwReferenceIdeal.main_arg2) = m' ((c.tc : Thread Cert.Group2DwReferenceIdeal.nD Cert.Group2DwReferenceIdeal.τ).loc Cert.Group2DwReferenceIdeal.main_arg2))

def preserves_GateDw_GateDwIdeal : Prop :=
  True

def algebraic_GateDwIdeal_GateDwReferenceIdeal [hGateDwIdeal : Cert.GateDwIdeal.Facts] [hGateDwReferenceIdeal : Cert.GateDwReferenceIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwReferenceIdeal.nD Cert.GateDwReferenceIdeal.τ Cert.GateDwReferenceIdeal.sig) → Buf (Elt Ideal) ℓ) (g' : Dev Cert.GateDwReferenceIdeal.nD → PrngReg), Pre_GateDwIdeal m →
    (∀ c : Dev Cert.GateDwIdeal.nD,
      m' ((c.tc : Thread Cert.GateDwReferenceIdeal.nD Cert.GateDwReferenceIdeal.τ).loc Cert.GateDwReferenceIdeal.main_arg0) = m ((c.tc : Thread Cert.GateDwIdeal.nD Cert.GateDwIdeal.τ).loc Cert.GateDwIdeal.main_arg0)
      ∧ m' ((c.tc : Thread Cert.GateDwReferenceIdeal.nD Cert.GateDwReferenceIdeal.τ).loc Cert.GateDwReferenceIdeal.main_arg1) = m ((c.tc : Thread Cert.GateDwIdeal.nD Cert.GateDwIdeal.τ).loc Cert.GateDwIdeal.main_arg1)
      ∧ m' ((c.tc : Thread Cert.GateDwReferenceIdeal.nD Cert.GateDwReferenceIdeal.τ).loc Cert.GateDwReferenceIdeal.main_arg2) = m ((c.tc : Thread Cert.GateDwIdeal.nD Cert.GateDwIdeal.τ).loc Cert.GateDwIdeal.main_arg2)) →
    ∃ (v0 : (c : Dev Cert.GateDwIdeal.nD) → Buf (Elt Ideal) ((c.tc : Thread Cert.GateDwIdeal.nD Cert.GateDwIdeal.τ).loc Cert.GateDwIdeal.main_v3)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v3) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
          ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ θ_run (Cert.GateDwReferenceIdeal.defs (F := Ideal)) (onTc (τ := Cert.GateDwReferenceIdeal.τ) (Cert.GateDwReferenceIdeal.main (F := Ideal))) ⟨m', fun _ => 0, g'⟩ (fun r => ∀ c : Dev Cert.GateDwReferenceIdeal.nD,
          r.2.mem ((c.tc : Thread Cert.GateDwReferenceIdeal.nD Cert.GateDwReferenceIdeal.τ).loc Cert.GateDwReferenceIdeal.main_v6) = v0 c
          ∧ r.2.mem ((c.tc : Thread Cert.GateDwReferenceIdeal.nD Cert.GateDwReferenceIdeal.τ).loc Cert.GateDwReferenceIdeal.main_arg0) = m' ((c.tc : Thread Cert.GateDwReferenceIdeal.nD Cert.GateDwReferenceIdeal.τ).loc Cert.GateDwReferenceIdeal.main_arg0)
          ∧ r.2.mem ((c.tc : Thread Cert.GateDwReferenceIdeal.nD Cert.GateDwReferenceIdeal.τ).loc Cert.GateDwReferenceIdeal.main_arg1) = m' ((c.tc : Thread Cert.GateDwReferenceIdeal.nD Cert.GateDwReferenceIdeal.τ).loc Cert.GateDwReferenceIdeal.main_arg1)
          ∧ r.2.mem ((c.tc : Thread Cert.GateDwReferenceIdeal.nD Cert.GateDwReferenceIdeal.τ).loc Cert.GateDwReferenceIdeal.main_arg2) = m' ((c.tc : Thread Cert.GateDwReferenceIdeal.nD Cert.GateDwReferenceIdeal.τ).loc Cert.GateDwReferenceIdeal.main_arg2))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v1) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Value0_Value0Ideal : Prop :=
  True

def algebraic_Value0Ideal_Value0ReferenceIdeal [hValue0Ideal : Cert.Value0Ideal.Facts] [hValue0ReferenceIdeal : Cert.Value0ReferenceIdeal.Facts] : Prop :=
  ∀ (m : (ℓ : Loc Cert.Value0Ideal.nD Cert.Value0Ideal.τ Cert.Value0Ideal.sig) → Buf (Elt Ideal) ℓ) (g : Dev Cert.Value0Ideal.nD → PrngReg)
    (m' : (ℓ : Loc Cert.Value0ReferenceIdeal.nD Cert.Value0ReferenceIdeal.τ Cert.Value0ReferenceIdeal.sig) → Buf (Elt Ideal) ℓ) (g' : Dev Cert.Value0ReferenceIdeal.nD → PrngReg), Pre_Value0Ideal m →
    (∀ c : Dev Cert.Value0Ideal.nD,
      m' ((c.tc : Thread Cert.Value0ReferenceIdeal.nD Cert.Value0ReferenceIdeal.τ).loc Cert.Value0ReferenceIdeal.main_arg0) = m ((c.tc : Thread Cert.Value0Ideal.nD Cert.Value0Ideal.τ).loc Cert.Value0Ideal.main_arg0)
      ∧ m' ((c.tc : Thread Cert.Value0ReferenceIdeal.nD Cert.Value0ReferenceIdeal.τ).loc Cert.Value0ReferenceIdeal.main_arg1) = m ((c.tc : Thread Cert.Value0Ideal.nD Cert.Value0Ideal.τ).loc Cert.Value0Ideal.main_arg1)) →
    ∃ (v0 : (c : Dev Cert.Value0Ideal.nD) → Buf (Elt Ideal) ((c.tc : Thread Cert.Value0Ideal.nD Cert.Value0Ideal.τ).loc Cert.Value0Ideal.main_v2)),
      θ_run (Cert.Value0Ideal.defs (F := Ideal)) (onTc (τ := Cert.Value0Ideal.τ) (Cert.Value0Ideal.main (F := Ideal))) ⟨m, fun _ => 0, g⟩ (fun r => ∀ c : Dev Cert.Value0Ideal.nD,
          r.2.mem ((c.tc : Thread Cert.Value0Ideal.nD Cert.Value0Ideal.τ).loc Cert.Value0Ideal.main_v2) = v0 c
          ∧ r.2.mem ((c.tc : Thread Cert.Value0Ideal.nD Cert.Value0Ideal.τ).loc Cert.Value0Ideal.main_arg0) = m ((c.tc : Thread Cert.Value0Ideal.nD Cert.Value0Ideal.τ).loc Cert.Value0Ideal.main_arg0)
          ∧ r.2.mem ((c.tc : Thread Cert.Value0Ideal.nD Cert.Value0Ideal.τ).loc Cert.Value0Ideal.main_arg1) = m ((c.tc : Thread Cert.Value0Ideal.nD Cert.Value0Ideal.τ).loc Cert.Value0Ideal.main_arg1))
      ∧ θ_run (Cert.Value0ReferenceIdeal.defs (F := Ideal)) (onTc (τ := Cert.Value0ReferenceIdeal.τ) (Cert.Value0ReferenceIdeal.main (F := Ideal))) ⟨m', fun _ => 0, g'⟩ (fun r => ∀ c : Dev Cert.Value0ReferenceIdeal.nD,
          r.2.mem ((c.tc : Thread Cert.Value0ReferenceIdeal.nD Cert.Value0ReferenceIdeal.τ).loc Cert.Value0ReferenceIdeal.main_v2) = v0 c
          ∧ r.2.mem ((c.tc : Thread Cert.Value0ReferenceIdeal.nD Cert.Value0ReferenceIdeal.τ).loc Cert.Value0ReferenceIdeal.main_arg0) = m' ((c.tc : Thread Cert.Value0ReferenceIdeal.nD Cert.Value0ReferenceIdeal.τ).loc Cert.Value0ReferenceIdeal.main_arg0)
          ∧ r.2.mem ((c.tc : Thread Cert.Value0ReferenceIdeal.nD Cert.Value0ReferenceIdeal.τ).loc Cert.Value0ReferenceIdeal.main_arg1) = m' ((c.tc : Thread Cert.Value0ReferenceIdeal.nD Cert.Value0ReferenceIdeal.τ).loc Cert.Value0ReferenceIdeal.main_arg1))

def preserves_Value1_Value1Ideal : Prop :=
  True

def algebraic_Value1Ideal_Value1ReferenceIdeal [hValue1Ideal : Cert.Value1Ideal.Facts] [hValue1ReferenceIdeal : Cert.Value1ReferenceIdeal.Facts] : Prop :=
  ∀ (m : (ℓ : Loc Cert.Value1Ideal.nD Cert.Value1Ideal.τ Cert.Value1Ideal.sig) → Buf (Elt Ideal) ℓ) (g : Dev Cert.Value1Ideal.nD → PrngReg)
    (m' : (ℓ : Loc Cert.Value1ReferenceIdeal.nD Cert.Value1ReferenceIdeal.τ Cert.Value1ReferenceIdeal.sig) → Buf (Elt Ideal) ℓ) (g' : Dev Cert.Value1ReferenceIdeal.nD → PrngReg), Pre_Value1Ideal m →
    (∀ c : Dev Cert.Value1Ideal.nD,
      m' ((c.tc : Thread Cert.Value1ReferenceIdeal.nD Cert.Value1ReferenceIdeal.τ).loc Cert.Value1ReferenceIdeal.main_arg0) = m ((c.tc : Thread Cert.Value1Ideal.nD Cert.Value1Ideal.τ).loc Cert.Value1Ideal.main_arg0)
      ∧ m' ((c.tc : Thread Cert.Value1ReferenceIdeal.nD Cert.Value1ReferenceIdeal.τ).loc Cert.Value1ReferenceIdeal.main_arg1) = m ((c.tc : Thread Cert.Value1Ideal.nD Cert.Value1Ideal.τ).loc Cert.Value1Ideal.main_arg1)) →
    ∃ (v0 : (c : Dev Cert.Value1Ideal.nD) → Buf (Elt Ideal) ((c.tc : Thread Cert.Value1Ideal.nD Cert.Value1Ideal.τ).loc Cert.Value1Ideal.main_v2)),
      θ_run (Cert.Value1Ideal.defs (F := Ideal)) (onTc (τ := Cert.Value1Ideal.τ) (Cert.Value1Ideal.main (F := Ideal))) ⟨m, fun _ => 0, g⟩ (fun r => ∀ c : Dev Cert.Value1Ideal.nD,
          r.2.mem ((c.tc : Thread Cert.Value1Ideal.nD Cert.Value1Ideal.τ).loc Cert.Value1Ideal.main_v2) = v0 c
          ∧ r.2.mem ((c.tc : Thread Cert.Value1Ideal.nD Cert.Value1Ideal.τ).loc Cert.Value1Ideal.main_arg0) = m ((c.tc : Thread Cert.Value1Ideal.nD Cert.Value1Ideal.τ).loc Cert.Value1Ideal.main_arg0)
          ∧ r.2.mem ((c.tc : Thread Cert.Value1Ideal.nD Cert.Value1Ideal.τ).loc Cert.Value1Ideal.main_arg1) = m ((c.tc : Thread Cert.Value1Ideal.nD Cert.Value1Ideal.τ).loc Cert.Value1Ideal.main_arg1))
      ∧ θ_run (Cert.Value1ReferenceIdeal.defs (F := Ideal)) (onTc (τ := Cert.Value1ReferenceIdeal.τ) (Cert.Value1ReferenceIdeal.main (F := Ideal))) ⟨m', fun _ => 0, g'⟩ (fun r => ∀ c : Dev Cert.Value1ReferenceIdeal.nD,
          r.2.mem ((c.tc : Thread Cert.Value1ReferenceIdeal.nD Cert.Value1ReferenceIdeal.τ).loc Cert.Value1ReferenceIdeal.main_v2) = v0 c
          ∧ r.2.mem ((c.tc : Thread Cert.Value1ReferenceIdeal.nD Cert.Value1ReferenceIdeal.τ).loc Cert.Value1ReferenceIdeal.main_arg0) = m' ((c.tc : Thread Cert.Value1ReferenceIdeal.nD Cert.Value1ReferenceIdeal.τ).loc Cert.Value1ReferenceIdeal.main_arg0)
          ∧ r.2.mem ((c.tc : Thread Cert.Value1ReferenceIdeal.nD Cert.Value1ReferenceIdeal.τ).loc Cert.Value1ReferenceIdeal.main_arg1) = m' ((c.tc : Thread Cert.Value1ReferenceIdeal.nD Cert.Value1ReferenceIdeal.τ).loc Cert.Value1ReferenceIdeal.main_arg1))

def preserves_Value2_Value2Ideal : Prop :=
  True

def algebraic_Value2Ideal_Value2ReferenceIdeal [hValue2Ideal : Cert.Value2Ideal.Facts] [hValue2ReferenceIdeal : Cert.Value2ReferenceIdeal.Facts] : Prop :=
  ∀ (m : (ℓ : Loc Cert.Value2Ideal.nD Cert.Value2Ideal.τ Cert.Value2Ideal.sig) → Buf (Elt Ideal) ℓ) (g : Dev Cert.Value2Ideal.nD → PrngReg)
    (m' : (ℓ : Loc Cert.Value2ReferenceIdeal.nD Cert.Value2ReferenceIdeal.τ Cert.Value2ReferenceIdeal.sig) → Buf (Elt Ideal) ℓ) (g' : Dev Cert.Value2ReferenceIdeal.nD → PrngReg), Pre_Value2Ideal m →
    (∀ c : Dev Cert.Value2Ideal.nD,
      m' ((c.tc : Thread Cert.Value2ReferenceIdeal.nD Cert.Value2ReferenceIdeal.τ).loc Cert.Value2ReferenceIdeal.main_arg0) = m ((c.tc : Thread Cert.Value2Ideal.nD Cert.Value2Ideal.τ).loc Cert.Value2Ideal.main_arg0)
      ∧ m' ((c.tc : Thread Cert.Value2ReferenceIdeal.nD Cert.Value2ReferenceIdeal.τ).loc Cert.Value2ReferenceIdeal.main_arg1) = m ((c.tc : Thread Cert.Value2Ideal.nD Cert.Value2Ideal.τ).loc Cert.Value2Ideal.main_arg1)) →
    ∃ (v0 : (c : Dev Cert.Value2Ideal.nD) → Buf (Elt Ideal) ((c.tc : Thread Cert.Value2Ideal.nD Cert.Value2Ideal.τ).loc Cert.Value2Ideal.main_v2)),
      θ_run (Cert.Value2Ideal.defs (F := Ideal)) (onTc (τ := Cert.Value2Ideal.τ) (Cert.Value2Ideal.main (F := Ideal))) ⟨m, fun _ => 0, g⟩ (fun r => ∀ c : Dev Cert.Value2Ideal.nD,
          r.2.mem ((c.tc : Thread Cert.Value2Ideal.nD Cert.Value2Ideal.τ).loc Cert.Value2Ideal.main_v2) = v0 c
          ∧ r.2.mem ((c.tc : Thread Cert.Value2Ideal.nD Cert.Value2Ideal.τ).loc Cert.Value2Ideal.main_arg0) = m ((c.tc : Thread Cert.Value2Ideal.nD Cert.Value2Ideal.τ).loc Cert.Value2Ideal.main_arg0)
          ∧ r.2.mem ((c.tc : Thread Cert.Value2Ideal.nD Cert.Value2Ideal.τ).loc Cert.Value2Ideal.main_arg1) = m ((c.tc : Thread Cert.Value2Ideal.nD Cert.Value2Ideal.τ).loc Cert.Value2Ideal.main_arg1))
      ∧ θ_run (Cert.Value2ReferenceIdeal.defs (F := Ideal)) (onTc (τ := Cert.Value2ReferenceIdeal.τ) (Cert.Value2ReferenceIdeal.main (F := Ideal))) ⟨m', fun _ => 0, g'⟩ (fun r => ∀ c : Dev Cert.Value2ReferenceIdeal.nD,
          r.2.mem ((c.tc : Thread Cert.Value2ReferenceIdeal.nD Cert.Value2ReferenceIdeal.τ).loc Cert.Value2ReferenceIdeal.main_v2) = v0 c
          ∧ r.2.mem ((c.tc : Thread Cert.Value2ReferenceIdeal.nD Cert.Value2ReferenceIdeal.τ).loc Cert.Value2ReferenceIdeal.main_arg0) = m' ((c.tc : Thread Cert.Value2ReferenceIdeal.nD Cert.Value2ReferenceIdeal.τ).loc Cert.Value2ReferenceIdeal.main_arg0)
          ∧ r.2.mem ((c.tc : Thread Cert.Value2ReferenceIdeal.nD Cert.Value2ReferenceIdeal.τ).loc Cert.Value2ReferenceIdeal.main_arg1) = m' ((c.tc : Thread Cert.Value2ReferenceIdeal.nD Cert.Value2ReferenceIdeal.τ).loc Cert.Value2ReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v0) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Rotated0_Rotated0Ideal : Prop :=
  True

def algebraic_Rotated0Ideal_Rotated0ReferenceIdeal [hRotated0Ideal : Cert.Rotated0Ideal.Facts] [hRotated0ReferenceIdeal : Cert.Rotated0ReferenceIdeal.Facts] : Prop :=
  ∀ (m : (ℓ : Loc Cert.Rotated0Ideal.nD Cert.Rotated0Ideal.τ Cert.Rotated0Ideal.sig) → Buf (Elt Ideal) ℓ) (g : Dev Cert.Rotated0Ideal.nD → PrngReg)
    (m' : (ℓ : Loc Cert.Rotated0ReferenceIdeal.nD Cert.Rotated0ReferenceIdeal.τ Cert.Rotated0ReferenceIdeal.sig) → Buf (Elt Ideal) ℓ) (g' : Dev Cert.Rotated0ReferenceIdeal.nD → PrngReg), Pre_Rotated0Ideal m →
    (∀ c : Dev Cert.Rotated0Ideal.nD,
      m' ((c.tc : Thread Cert.Rotated0ReferenceIdeal.nD Cert.Rotated0ReferenceIdeal.τ).loc Cert.Rotated0ReferenceIdeal.main_arg0) = m ((c.tc : Thread Cert.Rotated0Ideal.nD Cert.Rotated0Ideal.τ).loc Cert.Rotated0Ideal.main_arg0)
      ∧ m' ((c.tc : Thread Cert.Rotated0ReferenceIdeal.nD Cert.Rotated0ReferenceIdeal.τ).loc Cert.Rotated0ReferenceIdeal.main_arg1) = m ((c.tc : Thread Cert.Rotated0Ideal.nD Cert.Rotated0Ideal.τ).loc Cert.Rotated0Ideal.main_arg1)
      ∧ m' ((c.tc : Thread Cert.Rotated0ReferenceIdeal.nD Cert.Rotated0ReferenceIdeal.τ).loc Cert.Rotated0ReferenceIdeal.main_arg2) = m ((c.tc : Thread Cert.Rotated0Ideal.nD Cert.Rotated0Ideal.τ).loc Cert.Rotated0Ideal.main_arg2)) →
    ∃ (v0 : (c : Dev Cert.Rotated0Ideal.nD) → Buf (Elt Ideal) ((c.tc : Thread Cert.Rotated0Ideal.nD Cert.Rotated0Ideal.τ).loc Cert.Rotated0Ideal.main_v35)),
      θ_run (Cert.Rotated0Ideal.defs (F := Ideal)) (onTc (τ := Cert.Rotated0Ideal.τ) (Cert.Rotated0Ideal.main (F := Ideal))) ⟨m, fun _ => 0, g⟩ (fun r => ∀ c : Dev Cert.Rotated0Ideal.nD,
          r.2.mem ((c.tc : Thread Cert.Rotated0Ideal.nD Cert.Rotated0Ideal.τ).loc Cert.Rotated0Ideal.main_v35) = v0 c
          ∧ r.2.mem ((c.tc : Thread Cert.Rotated0Ideal.nD Cert.Rotated0Ideal.τ).loc Cert.Rotated0Ideal.main_arg0) = m ((c.tc : Thread Cert.Rotated0Ideal.nD Cert.Rotated0Ideal.τ).loc Cert.Rotated0Ideal.main_arg0)
          ∧ r.2.mem ((c.tc : Thread Cert.Rotated0Ideal.nD Cert.Rotated0Ideal.τ).loc Cert.Rotated0Ideal.main_arg1) = m ((c.tc : Thread Cert.Rotated0Ideal.nD Cert.Rotated0Ideal.τ).loc Cert.Rotated0Ideal.main_arg1)
          ∧ r.2.mem ((c.tc : Thread Cert.Rotated0Ideal.nD Cert.Rotated0Ideal.τ).loc Cert.Rotated0Ideal.main_arg2) = m ((c.tc : Thread Cert.Rotated0Ideal.nD Cert.Rotated0Ideal.τ).loc Cert.Rotated0Ideal.main_arg2))
      ∧ θ_run (Cert.Rotated0ReferenceIdeal.defs (F := Ideal)) (onTc (τ := Cert.Rotated0ReferenceIdeal.τ) (Cert.Rotated0ReferenceIdeal.main (F := Ideal))) ⟨m', fun _ => 0, g'⟩ (fun r => ∀ c : Dev Cert.Rotated0ReferenceIdeal.nD,
          r.2.mem ((c.tc : Thread Cert.Rotated0ReferenceIdeal.nD Cert.Rotated0ReferenceIdeal.τ).loc Cert.Rotated0ReferenceIdeal.main_v38) = v0 c
          ∧ r.2.mem ((c.tc : Thread Cert.Rotated0ReferenceIdeal.nD Cert.Rotated0ReferenceIdeal.τ).loc Cert.Rotated0ReferenceIdeal.main_arg0) = m' ((c.tc : Thread Cert.Rotated0ReferenceIdeal.nD Cert.Rotated0ReferenceIdeal.τ).loc Cert.Rotated0ReferenceIdeal.main_arg0)
          ∧ r.2.mem ((c.tc : Thread Cert.Rotated0ReferenceIdeal.nD Cert.Rotated0ReferenceIdeal.τ).loc Cert.Rotated0ReferenceIdeal.main_arg1) = m' ((c.tc : Thread Cert.Rotated0ReferenceIdeal.nD Cert.Rotated0ReferenceIdeal.τ).loc Cert.Rotated0ReferenceIdeal.main_arg1)
          ∧ r.2.mem ((c.tc : Thread Cert.Rotated0ReferenceIdeal.nD Cert.Rotated0ReferenceIdeal.τ).loc Cert.Rotated0ReferenceIdeal.main_arg2) = m' ((c.tc : Thread Cert.Rotated0ReferenceIdeal.nD Cert.Rotated0ReferenceIdeal.τ).loc Cert.Rotated0ReferenceIdeal.main_arg2))

def preserves_Rotated1_Rotated1Ideal : Prop :=
  True

def algebraic_Rotated1Ideal_Rotated1ReferenceIdeal [hRotated1Ideal : Cert.Rotated1Ideal.Facts] [hRotated1ReferenceIdeal : Cert.Rotated1ReferenceIdeal.Facts] : Prop :=
  ∀ (m : (ℓ : Loc Cert.Rotated1Ideal.nD Cert.Rotated1Ideal.τ Cert.Rotated1Ideal.sig) → Buf (Elt Ideal) ℓ) (g : Dev Cert.Rotated1Ideal.nD → PrngReg)
    (m' : (ℓ : Loc Cert.Rotated1ReferenceIdeal.nD Cert.Rotated1ReferenceIdeal.τ Cert.Rotated1ReferenceIdeal.sig) → Buf (Elt Ideal) ℓ) (g' : Dev Cert.Rotated1ReferenceIdeal.nD → PrngReg), Pre_Rotated1Ideal m →
    (∀ c : Dev Cert.Rotated1Ideal.nD,
      m' ((c.tc : Thread Cert.Rotated1ReferenceIdeal.nD Cert.Rotated1ReferenceIdeal.τ).loc Cert.Rotated1ReferenceIdeal.main_arg0) = m ((c.tc : Thread Cert.Rotated1Ideal.nD Cert.Rotated1Ideal.τ).loc Cert.Rotated1Ideal.main_arg0)
      ∧ m' ((c.tc : Thread Cert.Rotated1ReferenceIdeal.nD Cert.Rotated1ReferenceIdeal.τ).loc Cert.Rotated1ReferenceIdeal.main_arg1) = m ((c.tc : Thread Cert.Rotated1Ideal.nD Cert.Rotated1Ideal.τ).loc Cert.Rotated1Ideal.main_arg1)
      ∧ m' ((c.tc : Thread Cert.Rotated1ReferenceIdeal.nD Cert.Rotated1ReferenceIdeal.τ).loc Cert.Rotated1ReferenceIdeal.main_arg2) = m ((c.tc : Thread Cert.Rotated1Ideal.nD Cert.Rotated1Ideal.τ).loc Cert.Rotated1Ideal.main_arg2)) →
    ∃ (v0 : (c : Dev Cert.Rotated1Ideal.nD) → Buf (Elt Ideal) ((c.tc : Thread Cert.Rotated1Ideal.nD Cert.Rotated1Ideal.τ).loc Cert.Rotated1Ideal.main_v35)),
      θ_run (Cert.Rotated1Ideal.defs (F := Ideal)) (onTc (τ := Cert.Rotated1Ideal.τ) (Cert.Rotated1Ideal.main (F := Ideal))) ⟨m, fun _ => 0, g⟩ (fun r => ∀ c : Dev Cert.Rotated1Ideal.nD,
          r.2.mem ((c.tc : Thread Cert.Rotated1Ideal.nD Cert.Rotated1Ideal.τ).loc Cert.Rotated1Ideal.main_v35) = v0 c
          ∧ r.2.mem ((c.tc : Thread Cert.Rotated1Ideal.nD Cert.Rotated1Ideal.τ).loc Cert.Rotated1Ideal.main_arg0) = m ((c.tc : Thread Cert.Rotated1Ideal.nD Cert.Rotated1Ideal.τ).loc Cert.Rotated1Ideal.main_arg0)
          ∧ r.2.mem ((c.tc : Thread Cert.Rotated1Ideal.nD Cert.Rotated1Ideal.τ).loc Cert.Rotated1Ideal.main_arg1) = m ((c.tc : Thread Cert.Rotated1Ideal.nD Cert.Rotated1Ideal.τ).loc Cert.Rotated1Ideal.main_arg1)
          ∧ r.2.mem ((c.tc : Thread Cert.Rotated1Ideal.nD Cert.Rotated1Ideal.τ).loc Cert.Rotated1Ideal.main_arg2) = m ((c.tc : Thread Cert.Rotated1Ideal.nD Cert.Rotated1Ideal.τ).loc Cert.Rotated1Ideal.main_arg2))
      ∧ θ_run (Cert.Rotated1ReferenceIdeal.defs (F := Ideal)) (onTc (τ := Cert.Rotated1ReferenceIdeal.τ) (Cert.Rotated1ReferenceIdeal.main (F := Ideal))) ⟨m', fun _ => 0, g'⟩ (fun r => ∀ c : Dev Cert.Rotated1ReferenceIdeal.nD,
          r.2.mem ((c.tc : Thread Cert.Rotated1ReferenceIdeal.nD Cert.Rotated1ReferenceIdeal.τ).loc Cert.Rotated1ReferenceIdeal.main_v38) = v0 c
          ∧ r.2.mem ((c.tc : Thread Cert.Rotated1ReferenceIdeal.nD Cert.Rotated1ReferenceIdeal.τ).loc Cert.Rotated1ReferenceIdeal.main_arg0) = m' ((c.tc : Thread Cert.Rotated1ReferenceIdeal.nD Cert.Rotated1ReferenceIdeal.τ).loc Cert.Rotated1ReferenceIdeal.main_arg0)
          ∧ r.2.mem ((c.tc : Thread Cert.Rotated1ReferenceIdeal.nD Cert.Rotated1ReferenceIdeal.τ).loc Cert.Rotated1ReferenceIdeal.main_arg1) = m' ((c.tc : Thread Cert.Rotated1ReferenceIdeal.nD Cert.Rotated1ReferenceIdeal.τ).loc Cert.Rotated1ReferenceIdeal.main_arg1)
          ∧ r.2.mem ((c.tc : Thread Cert.Rotated1ReferenceIdeal.nD Cert.Rotated1ReferenceIdeal.τ).loc Cert.Rotated1ReferenceIdeal.main_arg2) = m' ((c.tc : Thread Cert.Rotated1ReferenceIdeal.nD Cert.Rotated1ReferenceIdeal.τ).loc Cert.Rotated1ReferenceIdeal.main_arg2))

def preserves_Rotated2_Rotated2Ideal : Prop :=
  True

def algebraic_Rotated2Ideal_Rotated2ReferenceIdeal [hRotated2Ideal : Cert.Rotated2Ideal.Facts] [hRotated2ReferenceIdeal : Cert.Rotated2ReferenceIdeal.Facts] : Prop :=
  ∀ (m : (ℓ : Loc Cert.Rotated2Ideal.nD Cert.Rotated2Ideal.τ Cert.Rotated2Ideal.sig) → Buf (Elt Ideal) ℓ) (g : Dev Cert.Rotated2Ideal.nD → PrngReg)
    (m' : (ℓ : Loc Cert.Rotated2ReferenceIdeal.nD Cert.Rotated2ReferenceIdeal.τ Cert.Rotated2ReferenceIdeal.sig) → Buf (Elt Ideal) ℓ) (g' : Dev Cert.Rotated2ReferenceIdeal.nD → PrngReg), Pre_Rotated2Ideal m →
    (∀ c : Dev Cert.Rotated2Ideal.nD,
      m' ((c.tc : Thread Cert.Rotated2ReferenceIdeal.nD Cert.Rotated2ReferenceIdeal.τ).loc Cert.Rotated2ReferenceIdeal.main_arg0) = m ((c.tc : Thread Cert.Rotated2Ideal.nD Cert.Rotated2Ideal.τ).loc Cert.Rotated2Ideal.main_arg0)
      ∧ m' ((c.tc : Thread Cert.Rotated2ReferenceIdeal.nD Cert.Rotated2ReferenceIdeal.τ).loc Cert.Rotated2ReferenceIdeal.main_arg1) = m ((c.tc : Thread Cert.Rotated2Ideal.nD Cert.Rotated2Ideal.τ).loc Cert.Rotated2Ideal.main_arg1)
      ∧ m' ((c.tc : Thread Cert.Rotated2ReferenceIdeal.nD Cert.Rotated2ReferenceIdeal.τ).loc Cert.Rotated2ReferenceIdeal.main_arg2) = m ((c.tc : Thread Cert.Rotated2Ideal.nD Cert.Rotated2Ideal.τ).loc Cert.Rotated2Ideal.main_arg2)) →
    ∃ (v0 : (c : Dev Cert.Rotated2Ideal.nD) → Buf (Elt Ideal) ((c.tc : Thread Cert.Rotated2Ideal.nD Cert.Rotated2Ideal.τ).loc Cert.Rotated2Ideal.main_v35)),
      θ_run (Cert.Rotated2Ideal.defs (F := Ideal)) (onTc (τ := Cert.Rotated2Ideal.τ) (Cert.Rotated2Ideal.main (F := Ideal))) ⟨m, fun _ => 0, g⟩ (fun r => ∀ c : Dev Cert.Rotated2Ideal.nD,
          r.2.mem ((c.tc : Thread Cert.Rotated2Ideal.nD Cert.Rotated2Ideal.τ).loc Cert.Rotated2Ideal.main_v35) = v0 c
          ∧ r.2.mem ((c.tc : Thread Cert.Rotated2Ideal.nD Cert.Rotated2Ideal.τ).loc Cert.Rotated2Ideal.main_arg0) = m ((c.tc : Thread Cert.Rotated2Ideal.nD Cert.Rotated2Ideal.τ).loc Cert.Rotated2Ideal.main_arg0)
          ∧ r.2.mem ((c.tc : Thread Cert.Rotated2Ideal.nD Cert.Rotated2Ideal.τ).loc Cert.Rotated2Ideal.main_arg1) = m ((c.tc : Thread Cert.Rotated2Ideal.nD Cert.Rotated2Ideal.τ).loc Cert.Rotated2Ideal.main_arg1)
          ∧ r.2.mem ((c.tc : Thread Cert.Rotated2Ideal.nD Cert.Rotated2Ideal.τ).loc Cert.Rotated2Ideal.main_arg2) = m ((c.tc : Thread Cert.Rotated2Ideal.nD Cert.Rotated2Ideal.τ).loc Cert.Rotated2Ideal.main_arg2))
      ∧ θ_run (Cert.Rotated2ReferenceIdeal.defs (F := Ideal)) (onTc (τ := Cert.Rotated2ReferenceIdeal.τ) (Cert.Rotated2ReferenceIdeal.main (F := Ideal))) ⟨m', fun _ => 0, g'⟩ (fun r => ∀ c : Dev Cert.Rotated2ReferenceIdeal.nD,
          r.2.mem ((c.tc : Thread Cert.Rotated2ReferenceIdeal.nD Cert.Rotated2ReferenceIdeal.τ).loc Cert.Rotated2ReferenceIdeal.main_v38) = v0 c
          ∧ r.2.mem ((c.tc : Thread Cert.Rotated2ReferenceIdeal.nD Cert.Rotated2ReferenceIdeal.τ).loc Cert.Rotated2ReferenceIdeal.main_arg0) = m' ((c.tc : Thread Cert.Rotated2ReferenceIdeal.nD Cert.Rotated2ReferenceIdeal.τ).loc Cert.Rotated2ReferenceIdeal.main_arg0)
          ∧ r.2.mem ((c.tc : Thread Cert.Rotated2ReferenceIdeal.nD Cert.Rotated2ReferenceIdeal.τ).loc Cert.Rotated2ReferenceIdeal.main_arg1) = m' ((c.tc : Thread Cert.Rotated2ReferenceIdeal.nD Cert.Rotated2ReferenceIdeal.τ).loc Cert.Rotated2ReferenceIdeal.main_arg1)
          ∧ r.2.mem ((c.tc : Thread Cert.Rotated2ReferenceIdeal.nD Cert.Rotated2ReferenceIdeal.τ).loc Cert.Rotated2ReferenceIdeal.main_arg2) = m' ((c.tc : Thread Cert.Rotated2ReferenceIdeal.nD Cert.Rotated2ReferenceIdeal.τ).loc Cert.Rotated2ReferenceIdeal.main_arg2))

def Claim : Prop :=
  ∃ (hKernel : Cert.Kernel.Facts) (hKernelIdeal : Cert.KernelIdeal.Facts) (hReferenceIdeal : Cert.ReferenceIdeal.Facts) (hGroup1Dx : Cert.Group1Dx.Facts) (hGroup1DxIdeal : Cert.Group1DxIdeal.Facts) (hGroup1DxReferenceIdeal : Cert.Group1DxReferenceIdeal.Facts) (hGroup2Dx : Cert.Group2Dx.Facts) (hGroup2DxIdeal : Cert.Group2DxIdeal.Facts) (hGroup2DxReferenceIdeal : Cert.Group2DxReferenceIdeal.Facts) (hGroup0Dx : Cert.Group0Dx.Facts) (hGroup0DxIdeal : Cert.Group0DxIdeal.Facts) (hGroup0DxReferenceIdeal : Cert.Group0DxReferenceIdeal.Facts) (hGateDx : Cert.GateDx.Facts) (hGateDxIdeal : Cert.GateDxIdeal.Facts) (hGateDxReferenceIdeal : Cert.GateDxReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hInDx : Cert.InDx.Facts) (hInDxIdeal : Cert.InDxIdeal.Facts) (hInDxReferenceIdeal : Cert.InDxReferenceIdeal.Facts) (hInDw : Cert.InDw.Facts) (hInDwIdeal : Cert.InDwIdeal.Facts) (hInDwReferenceIdeal : Cert.InDwReferenceIdeal.Facts) (hGroup0Dw : Cert.Group0Dw.Facts) (hGroup0DwIdeal : Cert.Group0DwIdeal.Facts) (hGroup0DwReferenceIdeal : Cert.Group0DwReferenceIdeal.Facts) (hGroup1Dw : Cert.Group1Dw.Facts) (hGroup1DwIdeal : Cert.Group1DwIdeal.Facts) (hGroup1DwReferenceIdeal : Cert.Group1DwReferenceIdeal.Facts) (hGroup2Dw : Cert.Group2Dw.Facts) (hGroup2DwIdeal : Cert.Group2DwIdeal.Facts) (hGroup2DwReferenceIdeal : Cert.Group2DwReferenceIdeal.Facts) (hGateDw : Cert.GateDw.Facts) (hGateDwIdeal : Cert.GateDwIdeal.Facts) (hGateDwReferenceIdeal : Cert.GateDwReferenceIdeal.Facts) (hGate : Cert.Gate.Facts) (hGateIdeal : Cert.GateIdeal.Facts) (hGateReferenceIdeal : Cert.GateReferenceIdeal.Facts) (hValue0 : Cert.Value0.Facts) (hValue0Ideal : Cert.Value0Ideal.Facts) (hValue0ReferenceIdeal : Cert.Value0ReferenceIdeal.Facts) (hValue1 : Cert.Value1.Facts) (hValue1Ideal : Cert.Value1Ideal.Facts) (hValue1ReferenceIdeal : Cert.Value1ReferenceIdeal.Facts) (hValue2 : Cert.Value2.Facts) (hValue2Ideal : Cert.Value2Ideal.Facts) (hValue2ReferenceIdeal : Cert.Value2ReferenceIdeal.Facts) (hOut : Cert.Out.Facts) (hOutIdeal : Cert.OutIdeal.Facts) (hOutReferenceIdeal : Cert.OutReferenceIdeal.Facts) (hIn : Cert.In.Facts) (hInIdeal : Cert.InIdeal.Facts) (hInReferenceIdeal : Cert.InReferenceIdeal.Facts) (hRotated0 : Cert.Rotated0.Facts) (hRotated0Ideal : Cert.Rotated0Ideal.Facts) (hRotated0ReferenceIdeal : Cert.Rotated0ReferenceIdeal.Facts) (hRotated1 : Cert.Rotated1.Facts) (hRotated1Ideal : Cert.Rotated1Ideal.Facts) (hRotated1ReferenceIdeal : Cert.Rotated1ReferenceIdeal.Facts) (hRotated2 : Cert.Rotated2.Facts) (hRotated2Ideal : Cert.Rotated2Ideal.Facts) (hRotated2ReferenceIdeal : Cert.Rotated2ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Group1Dx (hGroup1Dx := hGroup1Dx)
    ∧ quiescent_Group1DxIdeal (hGroup1DxIdeal := hGroup1DxIdeal)
    ∧ quiescent_Group1DxReferenceIdeal (hGroup1DxReferenceIdeal := hGroup1DxReferenceIdeal)
    ∧ quiescent_Group2Dx (hGroup2Dx := hGroup2Dx)
    ∧ quiescent_Group2DxIdeal (hGroup2DxIdeal := hGroup2DxIdeal)
    ∧ quiescent_Group2DxReferenceIdeal (hGroup2DxReferenceIdeal := hGroup2DxReferenceIdeal)
    ∧ quiescent_Group0Dx (hGroup0Dx := hGroup0Dx)
    ∧ quiescent_Group0DxIdeal (hGroup0DxIdeal := hGroup0DxIdeal)
    ∧ quiescent_Group0DxReferenceIdeal (hGroup0DxReferenceIdeal := hGroup0DxReferenceIdeal)
    ∧ quiescent_GateDx (hGateDx := hGateDx)
    ∧ quiescent_GateDxIdeal (hGateDxIdeal := hGateDxIdeal)
    ∧ quiescent_GateDxReferenceIdeal (hGateDxReferenceIdeal := hGateDxReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_Group0Dw (hGroup0Dw := hGroup0Dw)
    ∧ quiescent_Group0DwIdeal (hGroup0DwIdeal := hGroup0DwIdeal)
    ∧ quiescent_Group0DwReferenceIdeal (hGroup0DwReferenceIdeal := hGroup0DwReferenceIdeal)
    ∧ quiescent_Group1Dw (hGroup1Dw := hGroup1Dw)
    ∧ quiescent_Group1DwIdeal (hGroup1DwIdeal := hGroup1DwIdeal)
    ∧ quiescent_Group1DwReferenceIdeal (hGroup1DwReferenceIdeal := hGroup1DwReferenceIdeal)
    ∧ quiescent_Group2Dw (hGroup2Dw := hGroup2Dw)
    ∧ quiescent_Group2DwIdeal (hGroup2DwIdeal := hGroup2DwIdeal)
    ∧ quiescent_Group2DwReferenceIdeal (hGroup2DwReferenceIdeal := hGroup2DwReferenceIdeal)
    ∧ quiescent_GateDw (hGateDw := hGateDw)
    ∧ quiescent_GateDwIdeal (hGateDwIdeal := hGateDwIdeal)
    ∧ quiescent_GateDwReferenceIdeal (hGateDwReferenceIdeal := hGateDwReferenceIdeal)
    ∧ quiescent_Gate (hGate := hGate)
    ∧ quiescent_GateIdeal (hGateIdeal := hGateIdeal)
    ∧ quiescent_GateReferenceIdeal (hGateReferenceIdeal := hGateReferenceIdeal)
    ∧ quiescent_Value0 (hValue0 := hValue0)
    ∧ quiescent_Value0Ideal (hValue0Ideal := hValue0Ideal)
    ∧ quiescent_Value0ReferenceIdeal (hValue0ReferenceIdeal := hValue0ReferenceIdeal)
    ∧ quiescent_Value1 (hValue1 := hValue1)
    ∧ quiescent_Value1Ideal (hValue1Ideal := hValue1Ideal)
    ∧ quiescent_Value1ReferenceIdeal (hValue1ReferenceIdeal := hValue1ReferenceIdeal)
    ∧ quiescent_Value2 (hValue2 := hValue2)
    ∧ quiescent_Value2Ideal (hValue2Ideal := hValue2Ideal)
    ∧ quiescent_Value2ReferenceIdeal (hValue2ReferenceIdeal := hValue2ReferenceIdeal)
    ∧ quiescent_Out (hOut := hOut)
    ∧ quiescent_OutIdeal (hOutIdeal := hOutIdeal)
    ∧ quiescent_OutReferenceIdeal (hOutReferenceIdeal := hOutReferenceIdeal)
    ∧ quiescent_In (hIn := hIn)
    ∧ quiescent_InIdeal (hInIdeal := hInIdeal)
    ∧ quiescent_InReferenceIdeal (hInReferenceIdeal := hInReferenceIdeal)
    ∧ quiescent_Rotated0 (hRotated0 := hRotated0)
    ∧ quiescent_Rotated0Ideal (hRotated0Ideal := hRotated0Ideal)
    ∧ quiescent_Rotated0ReferenceIdeal (hRotated0ReferenceIdeal := hRotated0ReferenceIdeal)
    ∧ quiescent_Rotated1 (hRotated1 := hRotated1)
    ∧ quiescent_Rotated1Ideal (hRotated1Ideal := hRotated1Ideal)
    ∧ quiescent_Rotated1ReferenceIdeal (hRotated1ReferenceIdeal := hRotated1ReferenceIdeal)
    ∧ quiescent_Rotated2 (hRotated2 := hRotated2)
    ∧ quiescent_Rotated2Ideal (hRotated2Ideal := hRotated2Ideal)
    ∧ quiescent_Rotated2ReferenceIdeal (hRotated2ReferenceIdeal := hRotated2ReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Group1Dx_Group1DxIdeal
    ∧ algebraic_Group1DxIdeal_Group1DxReferenceIdeal (hGroup1DxIdeal := hGroup1DxIdeal) (hGroup1DxReferenceIdeal := hGroup1DxReferenceIdeal)
    ∧ preserves_Group2Dx_Group2DxIdeal
    ∧ algebraic_Group2DxIdeal_Group2DxReferenceIdeal (hGroup2DxIdeal := hGroup2DxIdeal) (hGroup2DxReferenceIdeal := hGroup2DxReferenceIdeal)
    ∧ preserves_Group0Dx_Group0DxIdeal
    ∧ algebraic_Group0DxIdeal_Group0DxReferenceIdeal (hGroup0DxIdeal := hGroup0DxIdeal) (hGroup0DxReferenceIdeal := hGroup0DxReferenceIdeal)
    ∧ preserves_GateDx_GateDxIdeal
    ∧ algebraic_GateDxIdeal_GateDxReferenceIdeal (hGateDxIdeal := hGateDxIdeal) (hGateDxReferenceIdeal := hGateDxReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_InDx_InDxIdeal
    ∧ algebraic_InDxIdeal_InDxReferenceIdeal (hInDxIdeal := hInDxIdeal) (hInDxReferenceIdeal := hInDxReferenceIdeal)
    ∧ preserves_InDw_InDwIdeal
    ∧ algebraic_InDwIdeal_InDwReferenceIdeal (hInDwIdeal := hInDwIdeal) (hInDwReferenceIdeal := hInDwReferenceIdeal)
    ∧ preserves_Group0Dw_Group0DwIdeal
    ∧ algebraic_Group0DwIdeal_Group0DwReferenceIdeal (hGroup0DwIdeal := hGroup0DwIdeal) (hGroup0DwReferenceIdeal := hGroup0DwReferenceIdeal)
    ∧ preserves_Group1Dw_Group1DwIdeal
    ∧ algebraic_Group1DwIdeal_Group1DwReferenceIdeal (hGroup1DwIdeal := hGroup1DwIdeal) (hGroup1DwReferenceIdeal := hGroup1DwReferenceIdeal)
    ∧ preserves_Group2Dw_Group2DwIdeal
    ∧ algebraic_Group2DwIdeal_Group2DwReferenceIdeal (hGroup2DwIdeal := hGroup2DwIdeal) (hGroup2DwReferenceIdeal := hGroup2DwReferenceIdeal)
    ∧ preserves_GateDw_GateDwIdeal
    ∧ algebraic_GateDwIdeal_GateDwReferenceIdeal (hGateDwIdeal := hGateDwIdeal) (hGateDwReferenceIdeal := hGateDwReferenceIdeal)
    ∧ preserves_Gate_GateIdeal
    ∧ algebraic_GateIdeal_GateReferenceIdeal (hGateIdeal := hGateIdeal) (hGateReferenceIdeal := hGateReferenceIdeal)
    ∧ preserves_Value0_Value0Ideal
    ∧ algebraic_Value0Ideal_Value0ReferenceIdeal (hValue0Ideal := hValue0Ideal) (hValue0ReferenceIdeal := hValue0ReferenceIdeal)
    ∧ preserves_Value1_Value1Ideal
    ∧ algebraic_Value1Ideal_Value1ReferenceIdeal (hValue1Ideal := hValue1Ideal) (hValue1ReferenceIdeal := hValue1ReferenceIdeal)
    ∧ preserves_Value2_Value2Ideal
    ∧ algebraic_Value2Ideal_Value2ReferenceIdeal (hValue2Ideal := hValue2Ideal) (hValue2ReferenceIdeal := hValue2ReferenceIdeal)
    ∧ preserves_Out_OutIdeal
    ∧ algebraic_OutIdeal_OutReferenceIdeal (hOutIdeal := hOutIdeal) (hOutReferenceIdeal := hOutReferenceIdeal)
    ∧ preserves_In_InIdeal
    ∧ algebraic_InIdeal_InReferenceIdeal (hInIdeal := hInIdeal) (hInReferenceIdeal := hInReferenceIdeal)
    ∧ preserves_Rotated0_Rotated0Ideal
    ∧ algebraic_Rotated0Ideal_Rotated0ReferenceIdeal (hRotated0Ideal := hRotated0Ideal) (hRotated0ReferenceIdeal := hRotated0ReferenceIdeal)
    ∧ preserves_Rotated1_Rotated1Ideal
    ∧ algebraic_Rotated1Ideal_Rotated1ReferenceIdeal (hRotated1Ideal := hRotated1Ideal) (hRotated1ReferenceIdeal := hRotated1ReferenceIdeal)
    ∧ preserves_Rotated2_Rotated2Ideal
    ∧ algebraic_Rotated2Ideal_Rotated2ReferenceIdeal (hRotated2Ideal := hRotated2Ideal) (hRotated2ReferenceIdeal := hRotated2ReferenceIdeal)
-- ==== Pre_finite.lean ====
abbrev S4x2048x16x96 : Shape := ⟨4, ![4, 2048, 16, 96]⟩
abbrev S4x2048x16x64 : Shape := ⟨4, ![4, 2048, 16, 64]⟩
abbrev S4x2048 : Shape := ⟨2, ![4, 2048]⟩
abbrev S_ : Shape := ⟨0, ![]⟩

class Facts : Prop where
  bcast_S_S4x2048x16x96 : S_.BroadcastsInDim S4x2048x16x96 (![] : Fin 0 → Fin S4x2048x16x96.rank)
  reducesTo_S4x2048x16x96_S_d0_1_2_3 : S4x2048x16x96.ReducesTo [0, 1, 2, 3] S_
  h_S_ : 0 < S_.numel
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_

variable [Facts]

def fn_part1 {F : FTy → Type} [FloatOps F] (main_v13 : IVec S_ 1) (main_v16 : IVec S4x2048x16x64 1) : IVec S_ 1 :=
  let main_c_5 : IVec S_ 1 := constantI S_ 1 1#1
  let main_v17 : IVec S_ 1 := (fun x v => Host.reduce IntOp.andi x v reducesTo_S4x2048x16x64_S_d0_1_2_3 h_S_) main_v16 main_c_5
  let main_v18 : IVec S_ 1 := andi main_v13 main_v17
  main_v18

def fn {F : FTy → Type} [FloatOps F] (main_arg0 : FVec F S4x2048x16x96 .f32) (main_arg1 : FVec F S4x2048x16x96 .f32) (main_arg2 : FVec F S4x2048x16x64 .f32) (main_arg3 : IVec S4x2048 32) (main_arg4 : FVec F S4x2048x16x64 .f32) : IVec S_ 1 :=
  let main_v0 : FVec F S4x2048x16x96 .f32 := Host.absf main_arg0
  let main_cst : FVec F S_ .f32 := constant S_ .f32 0x7F800000#32
  let main_v1 : FVec F S4x2048x16x96 .f32 := broadcastInDim S4x2048x16x96 ![] bcast_S_S4x2048x16x96 main_cst
  let main_v2 : IVec S4x2048x16x96 1 := cmpf .olt main_v0 main_v1
  let main_c : IVec S_ 1 := constantI S_ 1 1#1
  let main_v3 : IVec S_ 1 := (fun x v => Host.reduce IntOp.andi x v reducesTo_S4x2048x16x96_S_d0_1_2_3 h_S_) main_v2 main_c
  let main_v4 : FVec F S4x2048x16x96 .f32 := Host.absf main_arg1
  let main_cst_0 : FVec F S_ .f32 := constant S_ .f32 0x7F800000#32
  let main_v5 : FVec F S4x2048x16x96 .f32 := broadcastInDim S4x2048x16x96 ![] bcast_S_S4x2048x16x96 main_cst_0
  let main_v6 : IVec S4x2048x16x96 1 := cmpf .olt main_v4 main_v5
  let main_c_1 : IVec S_ 1 := constantI S_ 1 1#1
  let main_v7 : IVec S_ 1 := (fun x v => Host.reduce IntOp.andi x v reducesTo_S4x2048x16x96_S_d0_1_2_3 h_S_) main_v6 main_c_1
  let main_v8 : IVec S_ 1 := andi main_v3 main_v7
  let main_v9 : FVec F S4x2048x16x64 .f32 := Host.absf main_arg2
  let main_cst_2 : FVec F S_ .f32 := constant S_ .f32 0x7F800000#32
  let main_v10 : FVec F S4x2048x16x64 .f32 := broadcastInDim S4x2048x16x64 ![] bcast_S_S4x2048x16x64 main_cst_2
  let main_v11 : IVec S4x2048x16x64 1 := cmpf .olt main_v9 main_v10
  let main_c_3 : IVec S_ 1 := constantI S_ 1 1#1
  let main_v12 : IVec S_ 1 := (fun x v => Host.reduce IntOp.andi x v reducesTo_S4x2048x16x64_S_d0_1_2_3 h_S_) main_v11 main_c_3
  let main_v13 : IVec S_ 1 := andi main_v8 main_v12
  let main_v14 : FVec F S4x2048x16x64 .f32 := Host.absf main_arg4
  let main_cst_4 : FVec F S_ .f32 := constant S_ .f32 0x7F800000#32
  let main_v15 : FVec F S4x2048x16x64 .f32 := broadcastInDim S4x2048x16x64 ![] bcast_S_S4x2048x16x64 main_cst_4
  let main_v16 : IVec S4x2048x16x64 1 := cmpf .olt main_v14 main_v15
  fn_part1 (F := F) main_v13 main_v16
-- ==== Kernel.lean ====
abbrev S4x2048x16x96 : Shape := ⟨4, ![4, 2048, 16, 96]⟩
abbrev S4x2048x16x64 : Shape := ⟨4, ![4, 2048, 16, 64]⟩
abbrev S4x2048 : Shape := ⟨2, ![4, 2048]⟩
abbrev S16 : Shape := ⟨1, ![16]⟩
abbrev S_ : Shape := ⟨0, ![]⟩
abbrev S4x2048x1 : Shape := ⟨3, ![4, 2048, 1]⟩
abbrev S1x1x16 : Shape := ⟨3, ![1, 1, 16]⟩
abbrev S4x2048x16 : Shape := ⟨3, ![4, 2048, 16]⟩
abbrev S4x2048x1x16 : Shape := ⟨4, ![4, 2048, 1, 16]⟩
abbrev S4x2048x16x16 : Shape := ⟨4, ![4, 2048, 16, 16]⟩
abbrev S4x16x2048x2048 : Shape := ⟨4, ![4, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x16x64x2048 : Shape := ⟨4, ![4, 16, 64, 2048]⟩
abbrev S4x8x2x2048 : Shape := ⟨4, ![4, 8, 2, 2048]⟩
abbrev S4x8x8x2048 : Shape := ⟨4, ![4, 8, 8, 2048]⟩
abbrev S4x2048x16x128 : Shape := ⟨4, ![4, 2048, 16, 128]⟩
abbrev S4x2048x2048 : Shape := ⟨3, ![4, 2048, 2048]⟩
abbrev S4x2048x1024 : Shape := ⟨3, ![4, 2048, 1024]⟩
abbrev S64 : Shape := ⟨1, ![64]⟩
abbrev S32 : Shape := ⟨1, ![32]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S4x2048x128 : Shape := ⟨3, ![4, 2048, 128]⟩
abbrev S1x2048x512 : Shape := ⟨3, ![1, 2048, 512]⟩
abbrev S1x2048x256 : Shape := ⟨3, ![1, 2048, 256]⟩
abbrev S1x2x8x2048 : Shape := ⟨4, ![1, 2, 8, 2048]⟩
abbrev S1x2048x128 : Shape := ⟨3, ![1, 2048, 128]⟩
abbrev S4x128x2048 : Shape := ⟨3, ![4, 128, 2048]⟩
abbrev S2x8x2048 : Shape := ⟨3, ![2, 8, 2048]⟩
abbrev S256x128 : Shape := ⟨2, ![256, 128]⟩
abbrev S8x128 : Shape := ⟨2, ![8, 128]⟩
abbrev S1x256x128 : Shape := ⟨3, ![1, 256, 128]⟩
abbrev S8x256 : Shape := ⟨2, ![8, 256]⟩
abbrev S1x8x256 : Shape := ⟨3, ![1, 8, 256]⟩
abbrev S256x256 : Shape := ⟨2, ![256, 256]⟩
abbrev S1x1x1x256 : Shape := ⟨4, ![1, 1, 1, 256]⟩
abbrev S1x256 : Shape := ⟨2, ![1, 256]⟩
abbrev S1x1x256 : Shape := ⟨3, ![1, 1, 256]⟩
abbrev S1x128x256 : Shape := ⟨3, ![1, 128, 256]⟩
abbrev S128x256 : Shape := ⟨2, ![128, 256]⟩

abbrev nBuf : Space → Nat
  | .hbm => 153
  | .vmem => 26
  | .smem => 0
  | _ => 0

abbrev hbmTy0_0 (i : Nat) : BufTy := match i % 128 with
  | 0 => ⟨S4x2048x16x96, .f32⟩
  | 1 => ⟨S4x2048x16x96, .f32⟩
  | 2 => ⟨S4x2048x16x64, .f32⟩
  | 3 => ⟨S4x2048, .i32⟩
  | 4 => ⟨S4x2048x16x64, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S4x2048, .f32⟩
  | 16 => ⟨S4x2048x1, .f32⟩
  | 17 => ⟨S1x1x16, .f32⟩
  | 18 => ⟨S4x2048x16, .f32⟩
  | 19 => ⟨S4x2048x16, .f32⟩
  | 20 => ⟨S4x2048x16, .f32⟩
  | 21 => ⟨S4x2048x16, .f32⟩
  | 22 => ⟨S4x2048x1x16, .f32⟩
  | 23 => ⟨S4x2048x16, .f32⟩
  | 24 => ⟨S4x2048x1x16, .f32⟩
  | 25 => ⟨S4x2048x16x16, .f32⟩
  | 26 => ⟨S4x2048x16x16, .f32⟩
  | 27 => ⟨S4x2048x16x64, .f32⟩
  | 28 => ⟨S4x2048x16x16, .f32⟩
  | 29 => ⟨S4x2048x16x16, .f32⟩
  | 30 => ⟨S4x2048x16x16, .f32⟩
  | 31 => ⟨S4x2048x16x16, .f32⟩
  | 32 => ⟨S4x2048x16x16, .f32⟩
  | 33 => ⟨S4x2048x16x16, .f32⟩
  | 34 => ⟨S4x2048x16x16, .f32⟩
  | 35 => ⟨S4x2048x16x16, .f32⟩
  | 36 => ⟨S4x2048x16x16, .f32⟩
  | 37 => ⟨S4x2048x16x16, .f32⟩
  | 38 => ⟨S4x2048x16x96, .f32⟩
  | 39 => ⟨S4x16x2048x2048, .f32⟩
  | 40 => ⟨S_, .f32⟩
  | 41 => ⟨S4x16x2048x2048, .f32⟩
  | 42 => ⟨S4x16x2048x2048, .f32⟩
  | 43 => ⟨S2048, .i32⟩
  | 44 => ⟨S1x2048, .i32⟩
  | 45 => ⟨S2048x1, .i32⟩
  | 46 => ⟨S2048x2048, .i32⟩
  | 47 => ⟨S2048x2048, .i32⟩
  | 48 => ⟨S2048x2048, .i1⟩
  | 49 => ⟨S_, .f32⟩
  | 50 => ⟨S_, .f32⟩
  | 51 => ⟨S4x16x2048x2048, .i1⟩
  | 52 => ⟨S4x16x2048x2048, .f32⟩
  | 53 => ⟨S4x16x2048x2048, .f32⟩
  | 54 => ⟨S_, .f32⟩
  | 55 => ⟨S4x16x2048, .f32⟩
  | 56 => ⟨S4x16x2048x1, .f32⟩
  | 57 => ⟨S4x16x2048x2048, .f32⟩
  | 58 => ⟨S4x16x2048x2048, .f32⟩
  | 59 => ⟨S4x16x2048x2048, .f32⟩
  | 60 => ⟨S_, .f32⟩
  | 61 => ⟨S4x16x2048, .f32⟩
  | 62 => ⟨S4x16x2048x1, .f32⟩
  | 63 => ⟨S4x16x2048x2048, .f32⟩
  | 64 => ⟨S4x16x2048x2048, .f32⟩
  | 65 => ⟨S4x16x64x2048, .f32⟩
  | 66 => ⟨S4x2048x16x64, .f32⟩
  | 67 => ⟨S4x16x2048, .f32⟩
  | 68 => ⟨S4x16x2048, .f32⟩
  | 69 => ⟨S_, .f32⟩
  | 70 => ⟨S_, .f32⟩
  | 71 => ⟨S4x16x2048, .f32⟩
  | 72 => ⟨S4x16x2048, .f32⟩
  | 73 => ⟨S4x8x2x2048, .f32⟩
  | 74 => ⟨S_, .i32⟩
  | 75 => ⟨S_, .f32⟩
  | 76 => ⟨S4x8x8x2048, .f32⟩
  | 77 => ⟨S_, .i32⟩
  | 78 => ⟨S_, .f32⟩
  | 79 => ⟨S4x2048x16x128, .f32⟩
  | 80 => ⟨S4x2048x2048, .f32⟩
  | 81 => ⟨S4x2048x2048, .bf16⟩
  | 82 => ⟨S_, .i32⟩
  | 83 => ⟨S_, .f32⟩
  | 84 => ⟨S4x2048x16x128, .f32⟩
  | 85 => ⟨S4x2048x2048, .f32⟩
  | 86 => ⟨S4x2048x2048, .bf16⟩
  | 87 => ⟨S4x2048x1024, .f32⟩
  | 88 => ⟨S4x2048x1024, .bf16⟩
  | 89 => ⟨S4x2048x1024, .f32⟩
  | 90 => ⟨S4x2048x1024, .bf16⟩
  | 91 => ⟨S4x2048x1024, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S64, .f32⟩
  | 104 => ⟨S_, .f32⟩
  | 105 => ⟨S32, .f32⟩
  | 106 => ⟨S128, .f32⟩
  | 107 => ⟨S1x128, .f32⟩
  | 108 => ⟨S4x2048, .f32⟩
  | 109 => ⟨S8192x1, .f32⟩
  | 110 => ⟨S8192x128, .f32⟩
  | 111 => ⟨S8192x128, .f32⟩
  | 112 => ⟨S8192x128, .f32⟩
  | 113 => ⟨S8192x128, .f32⟩
  | 114 => ⟨S8192x128, .f32⟩
  | 115 => ⟨S8192x128, .i32⟩
  | 116 => ⟨S_, .i32⟩
  | 117 => ⟨S8192x128, .i32⟩
  | 118 => ⟨S8192x128, .i32⟩
  | 119 => ⟨S_, .i32⟩
  | 120 => ⟨S8192x128, .i32⟩
  | 121 => ⟨S8192x128, .i1⟩
  | 122 => ⟨S_, .i32⟩
  | 123 => ⟨S8192x128, .i32⟩
  | 124 => ⟨S8192x128, .i1⟩
  | 125 => ⟨S8192x128, .i1⟩
  | 126 => ⟨S_, .i32⟩
  | 127 => ⟨S8192x128, .i32⟩
  | _ => ⟨S4x2048x16x96, .f32⟩

abbrev hbmTy0_1 (i : Nat) : BufTy := match i % 128 with
  | 0 => ⟨S8192x128, .i1⟩
  | 1 => ⟨S_, .i32⟩
  | 2 => ⟨S8192x128, .i32⟩
  | 3 => ⟨S8192x128, .i1⟩
  | 4 => ⟨S8192x128, .i1⟩
  | 5 => ⟨S8192x128, .i1⟩
  | 6 => ⟨S_, .f32⟩
  | 7 => ⟨S_, .f32⟩
  | 8 => ⟨S8192x128, .f32⟩
  | 9 => ⟨S8192x128, .f32⟩
  | 10 => ⟨S_, .f32⟩
  | 11 => ⟨S_, .f32⟩
  | 12 => ⟨S8192x128, .f32⟩
  | 13 => ⟨S8192x128, .f32⟩
  | 14 => ⟨S8192x128, .f32⟩
  | 15 => ⟨S_, .f32⟩
  | 16 => ⟨S_, .f32⟩
  | 17 => ⟨S8192x128, .f32⟩
  | 18 => ⟨S8192x128, .f32⟩
  | 19 => ⟨S4x2048x128, .f32⟩
  | 20 => ⟨S4x2048x128, .f32⟩
  | 21 => ⟨S4x2048x128, .f32⟩
  | 22 => ⟨S4x2048x2048, .bf16⟩
  | 23 => ⟨S4x2048x2048, .bf16⟩
  | 24 => ⟨S4x2048x1024, .bf16⟩
  | _ => ⟨S4x2048x16x96, .f32⟩

abbrev hbmTy (i : Nat) : BufTy := match i / 128 with
  | 0 => hbmTy0_0 i
  | 1 => hbmTy0_1 i
  | _ => ⟨S4x2048x16x96, .f32⟩

abbrev bufTy : (tb : Table) → Fin (tcTables nBuf tb) → BufTy
  | .hbm, ⟨i, _⟩ => hbmTy i
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .f32⟩
  | .local _ .vmem, ⟨9, _⟩ => ⟨S1x2048x256, .f32⟩
  | .local _ .vmem, ⟨10, _⟩ => ⟨S1x2x8x2048, .f32⟩
  | .local _ .vmem, ⟨11, _⟩ => ⟨S1x2x8x2048, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x512, .bf16⟩
  | .local _ .vmem, ⟨19, _⟩ => ⟨S1x2048x512, .bf16⟩
  | .local _ .vmem, ⟨20, _⟩ => ⟨S1x2048x512, .bf16⟩
  | .local _ .vmem, ⟨21, _⟩ => ⟨S1x2048x512, .bf16⟩
  | .local _ .vmem, ⟨22, _⟩ => ⟨S1x2048x256, .bf16⟩
  | .local _ .vmem, ⟨23, _⟩ => ⟨S1x2048x256, .bf16⟩
  | .local _ .vmem, ⟨24, _⟩ => ⟨S4x128x2048, .f32⟩
  | .local _ .vmem, ⟨25, _⟩ => ⟨S2x8x2048, .f32⟩
  | _, _ => ⟨S4x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c : Ref sig .tc := ⟨.hbm, 74, rfl⟩
abbrev main_call1_v0 : Ref sig .tc := ⟨.hbm, 75, rfl⟩
abbrev main_v58 : Ref sig .tc := ⟨.hbm, 76, rfl⟩
abbrev main_c_7 : Ref sig .tc := ⟨.hbm, 77, rfl⟩
abbrev main_call2_v0 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_8 : Ref sig .tc := ⟨.hbm, 82, rfl⟩
abbrev main_call3_v0 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_cst_11 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_14 : Ref sig .tc := ⟨.hbm, 116, rfl⟩
abbrev main_v89 : Ref sig .tc := ⟨.hbm, 117, rfl⟩
abbrev main_v90 : Ref sig .tc := ⟨.hbm, 118, rfl⟩
abbrev main_c_15 : Ref sig .tc := ⟨.hbm, 119, rfl⟩
abbrev main_v91 : Ref sig .tc := ⟨.hbm, 120, rfl⟩
abbrev main_v92 : Ref sig .tc := ⟨.hbm, 121, rfl⟩
abbrev main_c_16 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_17 : Ref sig .tc := ⟨.hbm, 126, rfl⟩
abbrev main_v96 : Ref sig .tc := ⟨.hbm, 127, rfl⟩
abbrev main_v97 : Ref sig .tc := ⟨.hbm, 128, rfl⟩
abbrev main_c_18 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_19 : Ref sig .tc := ⟨.hbm, 134, rfl⟩
abbrev main_call4_v0 : Ref sig .tc := ⟨.hbm, 135, rfl⟩
abbrev main_call4_v1 : Ref sig .tc := ⟨.hbm, 136, rfl⟩
abbrev main_v102 : Ref sig .tc := ⟨.hbm, 137, rfl⟩
abbrev main_cst_20 : Ref sig .tc := ⟨.hbm, 138, rfl⟩
abbrev main_call5_v0 : Ref sig .tc := ⟨.hbm, 139, rfl⟩
abbrev main_call5_v1 : Ref sig .tc := ⟨.hbm, 140, rfl⟩
abbrev main_v103 : Ref sig .tc := ⟨.hbm, 141, rfl⟩
abbrev main_v104 : Ref sig .tc := ⟨.hbm, 142, rfl⟩
abbrev main_cst_21 : Ref sig .tc := ⟨.hbm, 143, rfl⟩
abbrev main_call6_v0 : Ref sig .tc := ⟨.hbm, 144, rfl⟩
abbrev main_call6_v1 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109_0 : Ref sig .tc := ⟨.hbm, 150, rfl⟩
abbrev main_v109_1 : Ref sig .tc := ⟨.hbm, 151, rfl⟩
abbrev main_v109_2 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_3 : BitVec 32 := 0#32
  let c8_i32 : BitVec 32 := 8#32
  let v17 : BitVec 32 := Scalar.addi c0_i32_3 c8_i32
  let c1_i32 : BitVec 32 := 1#32
  ⟨c0_i32_3, v17, c1_i32⟩
def k0_mult1 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c256_i32 : BitVec 32 := 256#32
  let v24 : BitVec 32 := Scalar.muli arg16 c256_i32
  v24
def k0_off1 (k0_t1 : Fin k0_t1_loop.trips) : Fin 3 → Nat :=
  let c0_16 : Index := 0#32
  let c0_i32_3 : BitVec 32 := 0#32
  let c1_i32 : BitVec 32 := 1#32
  let arg16 : BitVec 32 := Scf.iv c0_i32_3 c1_i32 k0_t1
  let c256_i32 : BitVec 32 := 256#32
  let v24 : BitVec 32 := Scalar.muli arg16 c256_i32
  let v25 : BitVec 32 := v24
  let v26 : Index := Scalar.indexCast v25
  let c0_17 : Index := 0#32
  ![0, v26.toNat, 0]
def k0_mult2 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c256_i32_18 : BitVec 32 := 256#32
  let v30 : BitVec 32 := Scalar.muli arg16 c256_i32_18
  v30
def k0_mult3 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c256_i32_23 : BitVec 32 := 256#32
  let v43 : BitVec 32 := Scalar.muli arg16 c256_i32_23
  v43
def k0_off2 (k0_t1 : Fin k0_t1_loop.trips) : Fin 3 → Nat :=
  let c0_24 : Index := 0#32
  let c0_25 : Index := 0#32
  let c0_i32_3 : BitVec 32 := 0#32
  let c1_i32 : BitVec 32 := 1#32
  let arg16 : BitVec 32 := Scf.iv c0_i32_3 c1_i32 k0_t1
  let c256_i32_23 : BitVec 32 := 256#32
  let v43 : BitVec 32 := Scalar.muli arg16 c256_i32_23
  let v44 : BitVec 32 := v43
  let v45 : Index := Scalar.indexCast v44
  ![0, 0, v45.toNat]
def k0_mult4 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c256_i32_26 : BitVec 32 := 256#32
  let v49 : BitVec 32 := Scalar.muli arg16 c256_i32_26
  v49
def k0_off3 (k0_t1 : Fin k0_t1_loop.trips) : Fin 3 → Nat :=
  let c0_27 : Index := 0#32
  let c0_i32_3 : BitVec 32 := 0#32
  let c1_i32 : BitVec 32 := 1#32
  let arg16 : BitVec 32 := Scf.iv c0_i32_3 c1_i32 k0_t1
  let c256_i32_26 : BitVec 32 := 256#32
  let v49 : BitVec 32 := Scalar.muli arg16 c256_i32_26
  let v50 : BitVec 32 := v49
  let v51 : Index := Scalar.indexCast v50
  let c128 : Index := 128#32
  ![0, v51.toNat, 128]
def k0_mult5 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c256_i32_28 : BitVec 32 := 256#32
  let v55 : BitVec 32 := Scalar.muli arg16 c256_i32_28
  v55
def k0_mult6 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c256_i32_33 : BitVec 32 := 256#32
  let v68 : BitVec 32 := Scalar.muli arg16 c256_i32_33
  v68
def k0_off4 (k0_t1 : Fin k0_t1_loop.trips) : Fin 3 → Nat :=
  let c1 : Index := 1#32
  let c0_34 : Index := 0#32
  let c0_i32_3 : BitVec 32 := 0#32
  let c1_i32 : BitVec 32 := 1#32
  let arg16 : BitVec 32 := Scf.iv c0_i32_3 c1_i32 k0_t1
  let c256_i32_33 : BitVec 32 := 256#32
  let v68 : BitVec 32 := Scalar.muli arg16 c256_i32_33
  let v69 : BitVec 32 := v68
  let v70 : Index := Scalar.indexCast v69
  ![1, 0, v70.toNat]
@[reducible] def k0_t2_loop : Scf.Loop 32 :=
  let c0_i32_8 : BitVec 32 := 0#32
  let c8_i32_9 : BitVec 32 := 8#32
  let v22 : BitVec 32 := Scalar.addi c0_i32_8 c8_i32_9
  let c1_i32_10 : BitVec 32 := 1#32
  ⟨c0_i32_8, v22, c1_i32_10⟩
def k0_mult7 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32 : BitVec 32 := 256#32
  let v24 : BitVec 32 := Scalar.muli arg16 c256_i32
  v24
def k0_off5 (k0_t2 : Fin k0_t2_loop.trips) : Fin 3 → Nat :=
  let c0_16 : Index := 0#32
  let c0_i32_8 : BitVec 32 := 0#32
  let c1_i32_10 : BitVec 32 := 1#32
  let arg16 : BitVec 32 := Scf.iv c0_i32_8 c1_i32_10 k0_t2
  let c256_i32 : BitVec 32 := 256#32
  let v24 : BitVec 32 := Scalar.muli arg16 c256_i32
  let v25 : BitVec 32 := v24
  let v26 : Index := Scalar.indexCast v25
  let c0_17 : Index := 0#32
  ![0, v26.toNat, 0]
def k0_mult8 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_18 : BitVec 32 := 256#32
  let v29 : BitVec 32 := Scalar.muli arg16 c256_i32_18
  v29
def k0_off6 (k0_t2 : Fin k0_t2_loop.trips) : Fin 3 → Nat :=
  let c0_19 : Index := 0#32
  let c0_i32_8 : BitVec 32 := 0#32
  let c1_i32_10 : BitVec 32 := 1#32
  let arg16 : BitVec 32 := Scf.iv c0_i32_8 c1_i32_10 k0_t2
  let c256_i32_18 : BitVec 32 := 256#32
  let v29 : BitVec 32 := Scalar.muli arg16 c256_i32_18
  let v30 : BitVec 32 := v29
  let v31 : Index := Scalar.indexCast v30
  let c128 : Index := 128#32
  ![0, v31.toNat, 128]
def k0_mult9 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_20 : BitVec 32 := 256#32
  let v34 : BitVec 32 := Scalar.muli arg16 c256_i32_20
  v34
def k0_off7 (k0_t2 : Fin k0_t2_loop.trips) : Fin 3 → Nat :=
  let c0_21 : Index := 0#32
  let c0_i32_8 : BitVec 32 := 0#32
  let c1_i32_10 : BitVec 32 := 1#32
  let arg16 : BitVec 32 := Scf.iv c0_i32_8 c1_i32_10 k0_t2
  let c256_i32_20 : BitVec 32 := 256#32
  let v34 : BitVec 32 := Scalar.muli arg16 c256_i32_20
  let v35 : BitVec 32 := v34
  let v36 : Index := Scalar.indexCast v35
  let c256 : Index := 256#32
  ![0, v36.toNat, 256]
def k0_mult10 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_22 : BitVec 32 := 256#32
  let v39 : BitVec 32 := Scalar.muli arg16 c256_i32_22
  v39
def k0_off8 (k0_t2 : Fin k0_t2_loop.trips) : Fin 3 → Nat :=
  let c0_23 : Index := 0#32
  let c0_i32_8 : BitVec 32 := 0#32
  let c1_i32_10 : BitVec 32 := 1#32
  let arg16 : BitVec 32 := Scf.iv c0_i32_8 c1_i32_10 k0_t2
  let c256_i32_22 : BitVec 32 := 256#32
  let v39 : BitVec 32 := Scalar.muli arg16 c256_i32_22
  let v40 : BitVec 32 := v39
  let v41 : Index := Scalar.indexCast v40
  let c384 : Index := 384#32
  ![0, v41.toNat, 384]
def k0_mult11 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_24 : BitVec 32 := 256#32
  let v44 : BitVec 32 := Scalar.muli arg16 c256_i32_24
  v44
def k0_off9 (k0_t2 : Fin k0_t2_loop.trips) : Fin 3 → Nat :=
  let c0_25 : Index := 0#32
  let c0_i32_8 : BitVec 32 := 0#32
  let c1_i32_10 : BitVec 32 := 1#32
  let arg16 : BitVec 32 := Scf.iv c0_i32_8 c1_i32_10 k0_t2
  let c256_i32_24 : BitVec 32 := 256#32
  let v44 : BitVec 32 := Scalar.muli arg16 c256_i32_24
  let v45 : BitVec 32 := v44
  let v46 : Index := Scalar.indexCast v45
  let c0_26 : Index := 0#32
  ![0, v46.toNat, 0]
def k0_mult12 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_30 : BitVec 32 := 256#32
  let v56 : BitVec 32 := Scalar.muli arg16 c256_i32_30
  v56
def k0_off10 (k0_t2 : Fin k0_t2_loop.trips) : Fin 3 → Nat :=
  let c0_31 : Index := 0#32
  let c0_i32_8 : BitVec 32 := 0#32
  let c1_i32_10 : BitVec 32 := 1#32
  let arg16 : BitVec 32 := Scf.iv c0_i32_8 c1_i32_10 k0_t2
  let c256_i32_30 : BitVec 32 := 256#32
  let v56 : BitVec 32 := Scalar.muli arg16 c256_i32_30
  let v57 : BitVec 32 := v56
  let v58 : Index := Scalar.indexCast v57
  let c128_32 : Index := 128#32
  ![0, v58.toNat, 128]
def k0_mult13 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_37 : BitVec 32 := 256#32
  let v69 : BitVec 32 := Scalar.muli arg16 c256_i32_37
  v69
def k0_mult14 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_40 : BitVec 32 := 256#32
  let v74 : BitVec 32 := Scalar.muli arg16 c256_i32_40
  v74
def k0_mult15 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_43 : BitVec 32 := 256#32
  let v79 : BitVec 32 := Scalar.muli arg16 c256_i32_43
  v79
def k0_mult16 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_46 : BitVec 32 := 256#32
  let v84 : BitVec 32 := Scalar.muli arg16 c256_i32_46
  v84
def k0_mult17 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_49 : BitVec 32 := 256#32
  let v89 : BitVec 32 := Scalar.muli arg16 c256_i32_49
  v89
def k0_mult18 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_52 : BitVec 32 := 256#32
  let v94 : BitVec 32 := Scalar.muli arg16 c256_i32_52
  v94
def k0_mult19 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_63 : BitVec 32 := 256#32
  let v107 : BitVec 32 := Scalar.muli arg16 c256_i32_63
  v107
def k0_off11 (k0_t2 : Fin k0_t2_loop.trips) : Fin 4 → Nat :=
  let c0_68 : Index := 0#32
  let c0_69 : Index := 0#32
  let c0_70 : Index := 0#32
  let c0_i32_8 : BitVec 32 := 0#32
  let c1_i32_10 : BitVec 32 := 1#32
  let arg16 : BitVec 32 := Scf.iv c0_i32_8 c1_i32_10 k0_t2
  let c256_i32_63 : BitVec 32 := 256#32
  let v107 : BitVec 32 := Scalar.muli arg16 c256_i32_63
  let v108 : BitVec 32 := v107
  let v122 : Index := Scalar.indexCast v108
  ![0, 0, 0, v122.toNat]
def k0_off12 (k0_t2 : Fin k0_t2_loop.trips) : Fin 3 → Nat :=
  let c0_71 : Index := 0#32
  let c0_72 : Index := 0#32
  let c0_i32_8 : BitVec 32 := 0#32
  let c1_i32_10 : BitVec 32 := 1#32
  let arg16 : BitVec 32 := Scf.iv c0_i32_8 c1_i32_10 k0_t2
  let c256_i32_63 : BitVec 32 := 256#32
  let v107 : BitVec 32 := Scalar.muli arg16 c256_i32_63
  let v108 : BitVec 32 := v107
  let v128 : Index := Scalar.indexCast v108
  ![0, 0, v128.toNat]
def k0_mult20 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_74 : BitVec 32 := 256#32
  let v138 : BitVec 32 := Scalar.muli arg16 c256_i32_74
  v138
def k0_off13 (k0_t2 : Fin k0_t2_loop.trips) : Fin 4 → Nat :=
  let c0_79 : Index := 0#32
  let c0_80 : Index := 0#32
  let c1 : Index := 1#32
  let c0_i32_8 : BitVec 32 := 0#32
  let c1_i32_10 : BitVec 32 := 1#32
  let arg16 : BitVec 32 := Scf.iv c0_i32_8 c1_i32_10 k0_t2
  let c256_i32_74 : BitVec 32 := 256#32
  let v138 : BitVec 32 := Scalar.muli arg16 c256_i32_74
  let v139 : BitVec 32 := v138
  let v153 : Index := Scalar.indexCast v139
  ![0, 0, 1, v153.toNat]
def k0_off14 (k0_t2 : Fin k0_t2_loop.trips) : Fin 3 → Nat :=
  let c0_81 : Index := 0#32
  let c1_82 : Index := 1#32
  let c0_i32_8 : BitVec 32 := 0#32
  let c1_i32_10 : BitVec 32 := 1#32
  let arg16 : BitVec 32 := Scf.iv c0_i32_8 c1_i32_10 k0_t2
  let c256_i32_74 : BitVec 32 := 256#32
  let v138 : BitVec 32 := Scalar.muli arg16 c256_i32_74
  let v139 : BitVec 32 := v138
  let v159 : Index := Scalar.indexCast v139
  ![0, 1, v159.toNat]
def k0_mult21 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_84 : BitVec 32 := 256#32
  let v169 : BitVec 32 := Scalar.muli arg16 c256_i32_84
  v169
def k0_off15 (k0_t2 : Fin k0_t2_loop.trips) : Fin 4 → Nat :=
  let c0_89 : Index := 0#32
  let c1_90 : Index := 1#32
  let c0_91 : Index := 0#32
  let c0_i32_8 : BitVec 32 := 0#32
  let c1_i32_10 : BitVec 32 := 1#32
  let arg16 : BitVec 32 := Scf.iv c0_i32_8 c1_i32_10 k0_t2
  let c256_i32_84 : BitVec 32 := 256#32
  let v169 : BitVec 32 := Scalar.muli arg16 c256_i32_84
  let v170 : BitVec 32 := v169
  let v184 : Index := Scalar.indexCast v170
  ![0, 1, 0, v184.toNat]
def k0_off16 (k0_t2 : Fin k0_t2_loop.trips) : Fin 3 → Nat :=
  let c1_92 : Index := 1#32
  let c0_93 : Index := 0#32
  let c0_i32_8 : BitVec 32 := 0#32
  let c1_i32_10 : BitVec 32 := 1#32
  let arg16 : BitVec 32 := Scf.iv c0_i32_8 c1_i32_10 k0_t2
  let c256_i32_84 : BitVec 32 := 256#32
  let v169 : BitVec 32 := Scalar.muli arg16 c256_i32_84
  let v170 : BitVec 32 := v169
  let v190 : Index := Scalar.indexCast v170
  ![1, 0, v190.toNat]
def k0_mult22 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_95 : BitVec 32 := 256#32
  let v200 : BitVec 32 := Scalar.muli arg16 c256_i32_95
  v200
def k0_off17 (k0_t2 : Fin k0_t2_loop.trips) : Fin 4 → Nat :=
  let c0_100 : Index := 0#32
  let c1_101 : Index := 1#32
  let c1_102 : Index := 1#32
  let c0_i32_8 : BitVec 32 := 0#32
  let c1_i32_10 : BitVec 32 := 1#32
  let arg16 : BitVec 32 := Scf.iv c0_i32_8 c1_i32_10 k0_t2
  let c256_i32_95 : BitVec 32 := 256#32
  let v200 : BitVec 32 := Scalar.muli arg16 c256_i32_95
  let v201 : BitVec 32 := v200
  let v215 : Index := Scalar.indexCast v201
  ![0, 1, 1, v215.toNat]
def k0_off18 (k0_t2 : Fin k0_t2_loop.trips) : Fin 3 → Nat :=
  let c1_103 : Index := 1#32
  let c1_104 : Index := 1#32
  let c0_i32_8 : BitVec 32 := 0#32
  let c1_i32_10 : BitVec 32 := 1#32
  let arg16 : BitVec 32 := Scf.iv c0_i32_8 c1_i32_10 k0_t2
  let c256_i32_95 : BitVec 32 := 256#32
  let v200 : BitVec 32 := Scalar.muli arg16 c256_i32_95
  let v201 : BitVec 32 := v200
  let v221 : Index := Scalar.indexCast v201
  ![1, 1, v221.toNat]
def k0_mult23 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_106 : BitVec 32 := 256#32
  let v231 : BitVec 32 := Scalar.muli arg16 c256_i32_106
  v231
def k0_off19 (k0_t2 : Fin k0_t2_loop.trips) : Fin 3 → Nat :=
  let c0_107 : Index := 0#32
  let c0_108 : Index := 0#32
  let c0_i32_8 : BitVec 32 := 0#32
  let c1_i32_10 : BitVec 32 := 1#32
  let arg16 : BitVec 32 := Scf.iv c0_i32_8 c1_i32_10 k0_t2
  let c256_i32_106 : BitVec 32 := 256#32
  let v231 : BitVec 32 := Scalar.muli arg16 c256_i32_106
  let v232 : BitVec 32 := v231
  let v233 : Index := Scalar.indexCast v232
  ![0, 0, v233.toNat]
def k0_mult24 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_112 : BitVec 32 := 256#32
  let v242 : BitVec 32 := Scalar.muli arg16 c256_i32_112
  v242
def k0_off20 (k0_t2 : Fin k0_t2_loop.trips) : Fin 3 → Nat :=
  let c1_113 : Index := 1#32
  let c0_114 : Index := 0#32
  let c0_i32_8 : BitVec 32 := 0#32
  let c1_i32_10 : BitVec 32 := 1#32
  let arg16 : BitVec 32 := Scf.iv c0_i32_8 c1_i32_10 k0_t2
  let c256_i32_112 : BitVec 32 := 256#32
  let v242 : BitVec 32 := Scalar.muli arg16 c256_i32_112
  let v243 : BitVec 32 := v242
  let v244 : Index := Scalar.indexCast v243
  ![1, 0, v244.toNat]
def k0_mult25 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_118 : BitVec 32 := 256#32
  let v253 : BitVec 32 := Scalar.muli arg16 c256_i32_118
  v253
def k0_off21 (k0_t2 : Fin k0_t2_loop.trips) : Fin 3 → Nat :=
  let c2 : Index := 2#32
  let c0_119 : Index := 0#32
  let c0_i32_8 : BitVec 32 := 0#32
  let c1_i32_10 : BitVec 32 := 1#32
  let arg16 : BitVec 32 := Scf.iv c0_i32_8 c1_i32_10 k0_t2
  let c256_i32_118 : BitVec 32 := 256#32
  let v253 : BitVec 32 := Scalar.muli arg16 c256_i32_118
  let v254 : BitVec 32 := v253
  let v255 : Index := Scalar.indexCast v254
  ![2, 0, v255.toNat]
def k0_mult26 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_123 : BitVec 32 := 256#32
  let v264 : BitVec 32 := Scalar.muli arg16 c256_i32_123
  v264
def k0_off22 (k0_t2 : Fin k0_t2_loop.trips) : Fin 3 → Nat :=
  let c3 : Index := 3#32
  let c0_124 : Index := 0#32
  let c0_i32_8 : BitVec 32 := 0#32
  let c1_i32_10 : BitVec 32 := 1#32
  let arg16 : BitVec 32 := Scf.iv c0_i32_8 c1_i32_10 k0_t2
  let c256_i32_123 : BitVec 32 := 256#32
  let v264 : BitVec 32 := Scalar.muli arg16 c256_i32_123
  let v265 : BitVec 32 := v264
  let v266 : Index := Scalar.indexCast v265
  ![3, 0, v266.toNat]
@[reducible] def k0_t3_loop (k0_t2 : Fin k0_t2_loop.trips) : Scf.Loop 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_139 : BitVec 32 := 1#32
  ⟨v291, v296, c1_i32_139⟩
def k0_mult27 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_161 : BitVec 32 := 256#32
  let v347 : BitVec 32 := Scalar.muli arg17 c256_i32_161
  v347
def k0_off23 (k0_t2 : Fin k0_t2_loop.trips) (k0_t3 : Fin (k0_t3_loop k0_t2).trips) : Fin 3 → Nat :=
  let c0_162 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_161 : BitVec 32 := 256#32
  let v347 : BitVec 32 := Scalar.muli arg17 c256_i32_161
  let v348 : BitVec 32 := v347
  let v349 : Index := Scalar.indexCast v348
  let c0_163 : Index := 0#32
  ![0, v349.toNat, 0]
def k0_mult28 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_164 : BitVec 32 := 256#32
  let v352 : BitVec 32 := Scalar.muli arg17 c256_i32_164
  v352
def k0_off24 (k0_t2 : Fin k0_t2_loop.trips) (k0_t3 : Fin (k0_t3_loop k0_t2).trips) : Fin 3 → Nat :=
  let c0_165 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_164 : BitVec 32 := 256#32
  let v352 : BitVec 32 := Scalar.muli arg17 c256_i32_164
  let v353 : BitVec 32 := v352
  let v354 : Index := Scalar.indexCast v353
  let c128_166 : Index := 128#32
  ![0, v354.toNat, 128]
def k0_mult29 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_167 : BitVec 32 := 256#32
  let v357 : BitVec 32 := Scalar.muli arg17 c256_i32_167
  v357
def k0_off25 (k0_t2 : Fin k0_t2_loop.trips) (k0_t3 : Fin (k0_t3_loop k0_t2).trips) : Fin 3 → Nat :=
  let c0_168 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_167 : BitVec 32 := 256#32
  let v357 : BitVec 32 := Scalar.muli arg17 c256_i32_167
  let v358 : BitVec 32 := v357
  let v359 : Index := Scalar.indexCast v358
  let c256_169 : Index := 256#32
  ![0, v359.toNat, 256]
def k0_mult30 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_170 : BitVec 32 := 256#32
  let v362 : BitVec 32 := Scalar.muli arg17 c256_i32_170
  v362
def k0_off26 (k0_t2 : Fin k0_t2_loop.trips) (k0_t3 : Fin (k0_t3_loop k0_t2).trips) : Fin 3 → Nat :=
  let c0_171 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_170 : BitVec 32 := 256#32
  let v362 : BitVec 32 := Scalar.muli arg17 c256_i32_170
  let v363 : BitVec 32 := v362
  let v364 : Index := Scalar.indexCast v363
  let c384_172 : Index := 384#32
  ![0, v364.toNat, 384]
def k0_mult31 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_173 : BitVec 32 := 256#32
  let v367 : BitVec 32 := Scalar.muli arg17 c256_i32_173
  v367
def k0_off27 (k0_t2 : Fin k0_t2_loop.trips) (k0_t3 : Fin (k0_t3_loop k0_t2).trips) : Fin 3 → Nat :=
  let c0_174 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_173 : BitVec 32 := 256#32
  let v367 : BitVec 32 := Scalar.muli arg17 c256_i32_173
  let v368 : BitVec 32 := v367
  let v369 : Index := Scalar.indexCast v368
  let c0_175 : Index := 0#32
  ![0, v369.toNat, 0]
def k0_mult32 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_176 : BitVec 32 := 256#32
  let v372 : BitVec 32 := Scalar.muli arg17 c256_i32_176
  v372
def k0_off28 (k0_t2 : Fin k0_t2_loop.trips) (k0_t3 : Fin (k0_t3_loop k0_t2).trips) : Fin 3 → Nat :=
  let c0_177 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_176 : BitVec 32 := 256#32
  let v372 : BitVec 32 := Scalar.muli arg17 c256_i32_176
  let v373 : BitVec 32 := v372
  let v374 : Index := Scalar.indexCast v373
  let c128_178 : Index := 128#32
  ![0, v374.toNat, 128]
def k0_mult33 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_187 : BitVec 32 := 256#32
  let v385 : BitVec 32 := Scalar.muli arg17 c256_i32_187
  v385
def k0_off29 (k0_t2 : Fin k0_t2_loop.trips) (k0_t3 : Fin (k0_t3_loop k0_t2).trips) : Fin 4 → Nat :=
  let c0_189 : Index := 0#32
  let c0_190 : Index := 0#32
  let c0_191 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_187 : BitVec 32 := 256#32
  let v385 : BitVec 32 := Scalar.muli arg17 c256_i32_187
  let v386 : BitVec 32 := v385
  let v389 : Index := Scalar.indexCast v386
  ![0, 0, 0, v389.toNat]
def k0_off30 (k0_t2 : Fin k0_t2_loop.trips) (k0_t3 : Fin (k0_t3_loop k0_t2).trips) : Fin 3 → Nat :=
  let c0_192 : Index := 0#32
  let c0_193 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_187 : BitVec 32 := 256#32
  let v385 : BitVec 32 := Scalar.muli arg17 c256_i32_187
  let v386 : BitVec 32 := v385
  let v395 : Index := Scalar.indexCast v386
  ![0, 0, v395.toNat]
def k0_mult34 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_195 : BitVec 32 := 256#32
  let v405 : BitVec 32 := Scalar.muli arg17 c256_i32_195
  v405
def k0_off31 (k0_t2 : Fin k0_t2_loop.trips) (k0_t3 : Fin (k0_t3_loop k0_t2).trips) : Fin 4 → Nat :=
  let c0_197 : Index := 0#32
  let c0_198 : Index := 0#32
  let c1_199 : Index := 1#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_195 : BitVec 32 := 256#32
  let v405 : BitVec 32 := Scalar.muli arg17 c256_i32_195
  let v406 : BitVec 32 := v405
  let v409 : Index := Scalar.indexCast v406
  ![0, 0, 1, v409.toNat]
def k0_off32 (k0_t2 : Fin k0_t2_loop.trips) (k0_t3 : Fin (k0_t3_loop k0_t2).trips) : Fin 3 → Nat :=
  let c0_200 : Index := 0#32
  let c1_201 : Index := 1#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_195 : BitVec 32 := 256#32
  let v405 : BitVec 32 := Scalar.muli arg17 c256_i32_195
  let v406 : BitVec 32 := v405
  let v415 : Index := Scalar.indexCast v406
  ![0, 1, v415.toNat]
def k0_mult35 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_203 : BitVec 32 := 256#32
  let v425 : BitVec 32 := Scalar.muli arg17 c256_i32_203
  v425
def k0_off33 (k0_t2 : Fin k0_t2_loop.trips) (k0_t3 : Fin (k0_t3_loop k0_t2).trips) : Fin 4 → Nat :=
  let c0_205 : Index := 0#32
  let c1_206 : Index := 1#32
  let c0_207 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_203 : BitVec 32 := 256#32
  let v425 : BitVec 32 := Scalar.muli arg17 c256_i32_203
  let v426 : BitVec 32 := v425
  let v429 : Index := Scalar.indexCast v426
  ![0, 1, 0, v429.toNat]
def k0_off34 (k0_t2 : Fin k0_t2_loop.trips) (k0_t3 : Fin (k0_t3_loop k0_t2).trips) : Fin 3 → Nat :=
  let c1_208 : Index := 1#32
  let c0_209 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_203 : BitVec 32 := 256#32
  let v425 : BitVec 32 := Scalar.muli arg17 c256_i32_203
  let v426 : BitVec 32 := v425
  let v435 : Index := Scalar.indexCast v426
  ![1, 0, v435.toNat]
def k0_mult36 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_211 : BitVec 32 := 256#32
  let v445 : BitVec 32 := Scalar.muli arg17 c256_i32_211
  v445
def k0_off35 (k0_t2 : Fin k0_t2_loop.trips) (k0_t3 : Fin (k0_t3_loop k0_t2).trips) : Fin 4 → Nat :=
  let c0_213 : Index := 0#32
  let c1_214 : Index := 1#32
  let c1_215 : Index := 1#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_211 : BitVec 32 := 256#32
  let v445 : BitVec 32 := Scalar.muli arg17 c256_i32_211
  let v446 : BitVec 32 := v445
  let v449 : Index := Scalar.indexCast v446
  ![0, 1, 1, v449.toNat]
def k0_off36 (k0_t2 : Fin k0_t2_loop.trips) (k0_t3 : Fin (k0_t3_loop k0_t2).trips) : Fin 3 → Nat :=
  let c1_216 : Index := 1#32
  let c1_217 : Index := 1#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_211 : BitVec 32 := 256#32
  let v445 : BitVec 32 := Scalar.muli arg17 c256_i32_211
  let v446 : BitVec 32 := v445
  let v455 : Index := Scalar.indexCast v446
  ![1, 1, v455.toNat]
def k0_mult37 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_219 : BitVec 32 := 256#32
  let v465 : BitVec 32 := Scalar.muli arg17 c256_i32_219
  v465
def k0_off37 (k0_t2 : Fin k0_t2_loop.trips) (k0_t3 : Fin (k0_t3_loop k0_t2).trips) : Fin 3 → Nat :=
  let c0_220 : Index := 0#32
  let c0_221 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_219 : BitVec 32 := 256#32
  let v465 : BitVec 32 := Scalar.muli arg17 c256_i32_219
  let v466 : BitVec 32 := v465
  let v467 : Index := Scalar.indexCast v466
  ![0, 0, v467.toNat]
def k0_mult38 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_225 : BitVec 32 := 256#32
  let v476 : BitVec 32 := Scalar.muli arg17 c256_i32_225
  v476
def k0_off38 (k0_t2 : Fin k0_t2_loop.trips) (k0_t3 : Fin (k0_t3_loop k0_t2).trips) : Fin 3 → Nat :=
  let c1_226 : Index := 1#32
  let c0_227 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_225 : BitVec 32 := 256#32
  let v476 : BitVec 32 := Scalar.muli arg17 c256_i32_225
  let v477 : BitVec 32 := v476
  let v478 : Index := Scalar.indexCast v477
  ![1, 0, v478.toNat]
def k0_mult39 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_231 : BitVec 32 := 256#32
  let v487 : BitVec 32 := Scalar.muli arg17 c256_i32_231
  v487
def k0_off39 (k0_t2 : Fin k0_t2_loop.trips) (k0_t3 : Fin (k0_t3_loop k0_t2).trips) : Fin 3 → Nat :=
  let c2_232 : Index := 2#32
  let c0_233 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_231 : BitVec 32 := 256#32
  let v487 : BitVec 32 := Scalar.muli arg17 c256_i32_231
  let v488 : BitVec 32 := v487
  let v489 : Index := Scalar.indexCast v488
  ![2, 0, v489.toNat]
def k0_mult40 (k0_t2 : Fin k0_t2_loop.trips) (k0_t3 : Fin (k0_t3_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_237 : BitVec 32 := 256#32
  let v498 : BitVec 32 := Scalar.muli arg17 c256_i32_237
  v498
def k0_off40 (k0_t2 : Fin k0_t2_loop.trips) (k0_t3 : Fin (k0_t3_loop k0_t2).trips) : Fin 3 → Nat :=
  let c3_238 : Index := 3#32
  let c0_239 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c1_i32_139 : BitVec 32 := 1#32
  let arg17 : BitVec 32 := Scf.iv v291 c1_i32_139 k0_t3
  let c256_i32_237 : BitVec 32 := 256#32
  let v498 : BitVec 32 := Scalar.muli arg17 c256_i32_237
  let v499 : BitVec 32 := v498
  let v500 : Index := Scalar.indexCast v499
  ![3, 0, v500.toNat]
@[reducible] def k0_t4_loop (k0_t2 : Fin k0_t2_loop.trips) : Scf.Loop 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let v293 : BitVec 32 := Scalar.addi v291 v292
  let c1_i32_140 : BitVec 32 := 1#32
  ⟨v296, v293, c1_i32_140⟩
def k0_mult41 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_161 : BitVec 32 := 256#32
  let v347 : BitVec 32 := Scalar.muli arg17 c256_i32_161
  v347
def k0_off41 (k0_t2 : Fin k0_t2_loop.trips) (k0_t4 : Fin (k0_t4_loop k0_t2).trips) : Fin 3 → Nat :=
  let c0_162 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_161 : BitVec 32 := 256#32
  let v347 : BitVec 32 := Scalar.muli arg17 c256_i32_161
  let v348 : BitVec 32 := v347
  let v349 : Index := Scalar.indexCast v348
  let c0_163 : Index := 0#32
  ![0, v349.toNat, 0]
def k0_mult42 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_164 : BitVec 32 := 256#32
  let v352 : BitVec 32 := Scalar.muli arg17 c256_i32_164
  v352
def k0_off42 (k0_t2 : Fin k0_t2_loop.trips) (k0_t4 : Fin (k0_t4_loop k0_t2).trips) : Fin 3 → Nat :=
  let c0_165 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_164 : BitVec 32 := 256#32
  let v352 : BitVec 32 := Scalar.muli arg17 c256_i32_164
  let v353 : BitVec 32 := v352
  let v354 : Index := Scalar.indexCast v353
  let c128_166 : Index := 128#32
  ![0, v354.toNat, 128]
def k0_mult43 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_167 : BitVec 32 := 256#32
  let v357 : BitVec 32 := Scalar.muli arg17 c256_i32_167
  v357
def k0_off43 (k0_t2 : Fin k0_t2_loop.trips) (k0_t4 : Fin (k0_t4_loop k0_t2).trips) : Fin 3 → Nat :=
  let c0_168 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_167 : BitVec 32 := 256#32
  let v357 : BitVec 32 := Scalar.muli arg17 c256_i32_167
  let v358 : BitVec 32 := v357
  let v359 : Index := Scalar.indexCast v358
  let c256_169 : Index := 256#32
  ![0, v359.toNat, 256]
def k0_mult44 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_170 : BitVec 32 := 256#32
  let v362 : BitVec 32 := Scalar.muli arg17 c256_i32_170
  v362
def k0_off44 (k0_t2 : Fin k0_t2_loop.trips) (k0_t4 : Fin (k0_t4_loop k0_t2).trips) : Fin 3 → Nat :=
  let c0_171 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_170 : BitVec 32 := 256#32
  let v362 : BitVec 32 := Scalar.muli arg17 c256_i32_170
  let v363 : BitVec 32 := v362
  let v364 : Index := Scalar.indexCast v363
  let c384_172 : Index := 384#32
  ![0, v364.toNat, 384]
def k0_mult45 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_173 : BitVec 32 := 256#32
  let v367 : BitVec 32 := Scalar.muli arg17 c256_i32_173
  v367
def k0_off45 (k0_t2 : Fin k0_t2_loop.trips) (k0_t4 : Fin (k0_t4_loop k0_t2).trips) : Fin 3 → Nat :=
  let c0_174 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_173 : BitVec 32 := 256#32
  let v367 : BitVec 32 := Scalar.muli arg17 c256_i32_173
  let v368 : BitVec 32 := v367
  let v369 : Index := Scalar.indexCast v368
  let c0_175 : Index := 0#32
  ![0, v369.toNat, 0]
def k0_mult46 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_176 : BitVec 32 := 256#32
  let v372 : BitVec 32 := Scalar.muli arg17 c256_i32_176
  v372
def k0_off46 (k0_t2 : Fin k0_t2_loop.trips) (k0_t4 : Fin (k0_t4_loop k0_t2).trips) : Fin 3 → Nat :=
  let c0_177 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_176 : BitVec 32 := 256#32
  let v372 : BitVec 32 := Scalar.muli arg17 c256_i32_176
  let v373 : BitVec 32 := v372
  let v374 : Index := Scalar.indexCast v373
  let c128_178 : Index := 128#32
  ![0, v374.toNat, 128]
def k0_mult47 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_187 : BitVec 32 := 256#32
  let v385 : BitVec 32 := Scalar.muli arg17 c256_i32_187
  v385
def k0_off47 (k0_t2 : Fin k0_t2_loop.trips) (k0_t4 : Fin (k0_t4_loop k0_t2).trips) : Fin 4 → Nat :=
  let c0_189 : Index := 0#32
  let c0_190 : Index := 0#32
  let c0_191 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_187 : BitVec 32 := 256#32
  let v385 : BitVec 32 := Scalar.muli arg17 c256_i32_187
  let v386 : BitVec 32 := v385
  let v389 : Index := Scalar.indexCast v386
  ![0, 0, 0, v389.toNat]
def k0_off48 (k0_t2 : Fin k0_t2_loop.trips) (k0_t4 : Fin (k0_t4_loop k0_t2).trips) : Fin 3 → Nat :=
  let c0_192 : Index := 0#32
  let c0_193 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_187 : BitVec 32 := 256#32
  let v385 : BitVec 32 := Scalar.muli arg17 c256_i32_187
  let v386 : BitVec 32 := v385
  let v395 : Index := Scalar.indexCast v386
  ![0, 0, v395.toNat]
def k0_mult48 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_195 : BitVec 32 := 256#32
  let v405 : BitVec 32 := Scalar.muli arg17 c256_i32_195
  v405
def k0_off49 (k0_t2 : Fin k0_t2_loop.trips) (k0_t4 : Fin (k0_t4_loop k0_t2).trips) : Fin 4 → Nat :=
  let c0_197 : Index := 0#32
  let c0_198 : Index := 0#32
  let c1_199 : Index := 1#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_195 : BitVec 32 := 256#32
  let v405 : BitVec 32 := Scalar.muli arg17 c256_i32_195
  let v406 : BitVec 32 := v405
  let v409 : Index := Scalar.indexCast v406
  ![0, 0, 1, v409.toNat]
def k0_off50 (k0_t2 : Fin k0_t2_loop.trips) (k0_t4 : Fin (k0_t4_loop k0_t2).trips) : Fin 3 → Nat :=
  let c0_200 : Index := 0#32
  let c1_201 : Index := 1#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_195 : BitVec 32 := 256#32
  let v405 : BitVec 32 := Scalar.muli arg17 c256_i32_195
  let v406 : BitVec 32 := v405
  let v415 : Index := Scalar.indexCast v406
  ![0, 1, v415.toNat]
def k0_mult49 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_203 : BitVec 32 := 256#32
  let v425 : BitVec 32 := Scalar.muli arg17 c256_i32_203
  v425
def k0_off51 (k0_t2 : Fin k0_t2_loop.trips) (k0_t4 : Fin (k0_t4_loop k0_t2).trips) : Fin 4 → Nat :=
  let c0_205 : Index := 0#32
  let c1_206 : Index := 1#32
  let c0_207 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_203 : BitVec 32 := 256#32
  let v425 : BitVec 32 := Scalar.muli arg17 c256_i32_203
  let v426 : BitVec 32 := v425
  let v429 : Index := Scalar.indexCast v426
  ![0, 1, 0, v429.toNat]
def k0_off52 (k0_t2 : Fin k0_t2_loop.trips) (k0_t4 : Fin (k0_t4_loop k0_t2).trips) : Fin 3 → Nat :=
  let c1_208 : Index := 1#32
  let c0_209 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_203 : BitVec 32 := 256#32
  let v425 : BitVec 32 := Scalar.muli arg17 c256_i32_203
  let v426 : BitVec 32 := v425
  let v435 : Index := Scalar.indexCast v426
  ![1, 0, v435.toNat]
def k0_mult50 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_211 : BitVec 32 := 256#32
  let v445 : BitVec 32 := Scalar.muli arg17 c256_i32_211
  v445
def k0_off53 (k0_t2 : Fin k0_t2_loop.trips) (k0_t4 : Fin (k0_t4_loop k0_t2).trips) : Fin 4 → Nat :=
  let c0_213 : Index := 0#32
  let c1_214 : Index := 1#32
  let c1_215 : Index := 1#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_211 : BitVec 32 := 256#32
  let v445 : BitVec 32 := Scalar.muli arg17 c256_i32_211
  let v446 : BitVec 32 := v445
  let v449 : Index := Scalar.indexCast v446
  ![0, 1, 1, v449.toNat]
def k0_off54 (k0_t2 : Fin k0_t2_loop.trips) (k0_t4 : Fin (k0_t4_loop k0_t2).trips) : Fin 3 → Nat :=
  let c1_216 : Index := 1#32
  let c1_217 : Index := 1#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_211 : BitVec 32 := 256#32
  let v445 : BitVec 32 := Scalar.muli arg17 c256_i32_211
  let v446 : BitVec 32 := v445
  let v455 : Index := Scalar.indexCast v446
  ![1, 1, v455.toNat]
def k0_mult51 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_219 : BitVec 32 := 256#32
  let v465 : BitVec 32 := Scalar.muli arg17 c256_i32_219
  v465
def k0_off55 (k0_t2 : Fin k0_t2_loop.trips) (k0_t4 : Fin (k0_t4_loop k0_t2).trips) : Fin 3 → Nat :=
  let c0_220 : Index := 0#32
  let c0_221 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_219 : BitVec 32 := 256#32
  let v465 : BitVec 32 := Scalar.muli arg17 c256_i32_219
  let v466 : BitVec 32 := v465
  let v467 : Index := Scalar.indexCast v466
  ![0, 0, v467.toNat]
def k0_mult52 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_225 : BitVec 32 := 256#32
  let v476 : BitVec 32 := Scalar.muli arg17 c256_i32_225
  v476
def k0_off56 (k0_t2 : Fin k0_t2_loop.trips) (k0_t4 : Fin (k0_t4_loop k0_t2).trips) : Fin 3 → Nat :=
  let c1_226 : Index := 1#32
  let c0_227 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_225 : BitVec 32 := 256#32
  let v476 : BitVec 32 := Scalar.muli arg17 c256_i32_225
  let v477 : BitVec 32 := v476
  let v478 : Index := Scalar.indexCast v477
  ![1, 0, v478.toNat]
def k0_mult53 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_231 : BitVec 32 := 256#32
  let v487 : BitVec 32 := Scalar.muli arg17 c256_i32_231
  v487
def k0_off57 (k0_t2 : Fin k0_t2_loop.trips) (k0_t4 : Fin (k0_t4_loop k0_t2).trips) : Fin 3 → Nat :=
  let c2_232 : Index := 2#32
  let c0_233 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_231 : BitVec 32 := 256#32
  let v487 : BitVec 32 := Scalar.muli arg17 c256_i32_231
  let v488 : BitVec 32 := v487
  let v489 : Index := Scalar.indexCast v488
  ![2, 0, v489.toNat]
def k0_mult54 (k0_t2 : Fin k0_t2_loop.trips) (k0_t4 : Fin (k0_t4_loop k0_t2).trips) : BitVec 32 :=
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_237 : BitVec 32 := 256#32
  let v498 : BitVec 32 := Scalar.muli arg17 c256_i32_237
  v498
def k0_off58 (k0_t2 : Fin k0_t2_loop.trips) (k0_t4 : Fin (k0_t4_loop k0_t2).trips) : Fin 3 → Nat :=
  let c3_238 : Index := 3#32
  let c0_239 : Index := 0#32
  let c0_i32_8 : BitVec 32 := 0#32
  let c1_i32_10 : BitVec 32 := 1#32
  let arg16 : BitVec 32 := Scf.iv c0_i32_8 c1_i32_10 k0_t2
  let c1_i32_136 : BitVec 32 := 1#32
  let v291 : BitVec 32 := Scalar.addi arg16 c1_i32_136
  let c8_i32_137 : BitVec 32 := 8#32
  let v292 : BitVec 32 := Scalar.subi c8_i32_137 v291
  let c1_i32_138 : BitVec 32 := 1#32
  let v294 : BitVec 32 := Scalar.divsi v292 c1_i32_138
  let v295 : BitVec 32 := Scalar.muli v294 c1_i32_138
  let v296 : BitVec 32 := Scalar.addi v291 v295
  let c1_i32_140 : BitVec 32 := 1#32
  let arg17 : BitVec 32 := Scf.iv v296 c1_i32_140 k0_t4
  let c256_i32_237 : BitVec 32 := 256#32
  let v498 : BitVec 32 := Scalar.muli arg17 c256_i32_237
  let v499 : BitVec 32 := v498
  let v500 : Index := Scalar.indexCast v499
  ![3, 0, v500.toNat]
def k0_mult55 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_141 : BitVec 32 := 256#32
  let v300 : BitVec 32 := Scalar.muli arg16 c256_i32_141
  v300
def k0_mult56 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_144 : BitVec 32 := 256#32
  let v307 : BitVec 32 := Scalar.muli arg16 c256_i32_144
  v307
def k0_mult57 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_147 : BitVec 32 := 256#32
  let v314 : BitVec 32 := Scalar.muli arg16 c256_i32_147
  v314
def k0_mult58 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_150 : BitVec 32 := 256#32
  let v321 : BitVec 32 := Scalar.muli arg16 c256_i32_150
  v321
def k0_mult59 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_154 : BitVec 32 := 256#32
  let v331 : BitVec 32 := Scalar.muli arg16 c256_i32_154
  v331
def k0_mult60 (k0_t2 : Fin k0_t2_loop.trips) : BitVec 32 :=
  let c0_i32_8 : BitVec 32 := 0#32
  let c1_i32_10 : BitVec 32 := 1#32
  let arg16 : BitVec 32 := Scf.iv c0_i32_8 c1_i32_10 k0_t2
  let c256_i32_158 : BitVec 32 := 256#32
  let v341 : BitVec 32 := Scalar.muli arg16 c256_i32_158
  v341
@[reducible] def k0_t5_loop : Scf.Loop 32 :=
  let c0_i32_12 : BitVec 32 := 0#32
  let c8_i32_13 : BitVec 32 := 8#32
  let v23 : BitVec 32 := Scalar.addi c0_i32_12 c8_i32_13
  let c1_i32_14 : BitVec 32 := 1#32
  ⟨c0_i32_12, v23, c1_i32_14⟩
def k0_mult61 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32 : BitVec 32 := 256#32
  let v24 : BitVec 32 := Scalar.muli arg16 c256_i32
  v24
def k0_off59 (k0_t5 : Fin k0_t5_loop.trips) : Fin 3 → Nat :=
  let c0_16 : Index := 0#32
  let c0_i32_12 : BitVec 32 := 0#32
  let c1_i32_14 : BitVec 32 := 1#32
  let arg16 : BitVec 32 := Scf.iv c0_i32_12 c1_i32_14 k0_t5
  let c256_i32 : BitVec 32 := 256#32
  let v24 : BitVec 32 := Scalar.muli arg16 c256_i32
  let v25 : BitVec 32 := v24
  let v26 : Index := Scalar.indexCast v25
  let c0_17 : Index := 0#32
  ![0, v26.toNat, 0]
def k0_mult62 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32_18 : BitVec 32 := 256#32
  let v29 : BitVec 32 := Scalar.muli arg16 c256_i32_18
  v29
def k0_mult63 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32_21 : BitVec 32 := 256#32
  let v34 : BitVec 32 := Scalar.muli arg16 c256_i32_21
  v34
def k0_mult64 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32_24 : BitVec 32 := 256#32
  let v39 : BitVec 32 := Scalar.muli arg16 c256_i32_24
  v39
def k0_off60 (k0_t5 : Fin k0_t5_loop.trips) : Fin 3 → Nat :=
  let c0_25 : Index := 0#32
  let c0_26 : Index := 0#32
  let c0_i32_12 : BitVec 32 := 0#32
  let c1_i32_14 : BitVec 32 := 1#32
  let arg16 : BitVec 32 := Scf.iv c0_i32_12 c1_i32_14 k0_t5
  let c256_i32_24 : BitVec 32 := 256#32
  let v39 : BitVec 32 := Scalar.muli arg16 c256_i32_24
  let v40 : BitVec 32 := v39
  let v41 : Index := Scalar.indexCast v40
  ![0, 0, v41.toNat]
def k0_mult65 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32_27 : BitVec 32 := 256#32
  let v53 : BitVec 32 := Scalar.muli arg16 c256_i32_27
  v53
def k0_off61 (k0_t5 : Fin k0_t5_loop.trips) : Fin 3 → Nat :=
  let c0_28 : Index := 0#32
  let c0_i32_12 : BitVec 32 := 0#32
  let c1_i32_14 : BitVec 32 := 1#32
  let arg16 : BitVec 32 := Scf.iv c0_i32_12 c1_i32_14 k0_t5
  let c256_i32_27 : BitVec 32 := 256#32
  let v53 : BitVec 32 := Scalar.muli arg16 c256_i32_27
  let v54 : BitVec 32 := v53
  let v55 : Index := Scalar.indexCast v54
  let c0_29 : Index := 0#32
  ![0, v55.toNat, 0]
def k0_mult66 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32_30 : BitVec 32 := 256#32
  let v59 : BitVec 32 := Scalar.muli arg16 c256_i32_30
  v59
def k0_off62 (k0_t5 : Fin k0_t5_loop.trips) : Fin 3 → Nat :=
  let c1 : Index := 1#32
  let c0_31 : Index := 0#32
  let c0_i32_12 : BitVec 32 := 0#32
  let c1_i32_14 : BitVec 32 := 1#32
  let arg16 : BitVec 32 := Scf.iv c0_i32_12 c1_i32_14 k0_t5
  let c256_i32_30 : BitVec 32 := 256#32
  let v59 : BitVec 32 := Scalar.muli arg16 c256_i32_30
  let v60 : BitVec 32 := v59
  let v61 : Index := Scalar.indexCast v60
  ![1, 0, v61.toNat]
def k0_mult67 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32_34 : BitVec 32 := 256#32
  let v73 : BitVec 32 := Scalar.muli arg16 c256_i32_34
  v73
def k0_off63 (k0_t5 : Fin k0_t5_loop.trips) : Fin 3 → Nat :=
  let c0_35 : Index := 0#32
  let c0_i32_12 : BitVec 32 := 0#32
  let c1_i32_14 : BitVec 32 := 1#32
  let arg16 : BitVec 32 := Scf.iv c0_i32_12 c1_i32_14 k0_t5
  let c256_i32_34 : BitVec 32 := 256#32
  let v73 : BitVec 32 := Scalar.muli arg16 c256_i32_34
  let v74 : BitVec 32 := v73
  let v75 : Index := Scalar.indexCast v74
  let c128 : Index := 128#32
  ![0, v75.toNat, 128]
def k0_mult68 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32_36 : BitVec 32 := 256#32
  let v79 : BitVec 32 := Scalar.muli arg16 c256_i32_36
  v79
def k0_off64 (k0_t5 : Fin k0_t5_loop.trips) : Fin 3 → Nat :=
  let c2 : Index := 2#32
  let c0_37 : Index := 0#32
  let c0_i32_12 : BitVec 32 := 0#32
  let c1_i32_14 : BitVec 32 := 1#32
  let arg16 : BitVec 32 := Scf.iv c0_i32_12 c1_i32_14 k0_t5
  let c256_i32_36 : BitVec 32 := 256#32
  let v79 : BitVec 32 := Scalar.muli arg16 c256_i32_36
  let v80 : BitVec 32 := v79
  let v81 : Index := Scalar.indexCast v80
  ![2, 0, v81.toNat]
def k0_mult69 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32_40 : BitVec 32 := 256#32
  let v93 : BitVec 32 := Scalar.muli arg16 c256_i32_40
  v93
def k0_off65 (k0_t5 : Fin k0_t5_loop.trips) : Fin 3 → Nat :=
  let c0_41 : Index := 0#32
  let c0_i32_12 : BitVec 32 := 0#32
  let c1_i32_14 : BitVec 32 := 1#32
  let arg16 : BitVec 32 := Scf.iv c0_i32_12 c1_i32_14 k0_t5
  let c256_i32_40 : BitVec 32 := 256#32
  let v93 : BitVec 32 := Scalar.muli arg16 c256_i32_40
  let v94 : BitVec 32 := v93
  let v95 : Index := Scalar.indexCast v94
  let c256 : Index := 256#32
  ![0, v95.toNat, 256]
def k0_mult70 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32_42 : BitVec 32 := 256#32
  let v99 : BitVec 32 := Scalar.muli arg16 c256_i32_42
  v99
def k0_off66 (k0_t5 : Fin k0_t5_loop.trips) : Fin 3 → Nat :=
  let c3 : Index := 3#32
  let c0_43 : Index := 0#32
  let c0_i32_12 : BitVec 32 := 0#32
  let c1_i32_14 : BitVec 32 := 1#32
  let arg16 : BitVec 32 := Scf.iv c0_i32_12 c1_i32_14 k0_t5
  let c256_i32_42 : BitVec 32 := 256#32
  let v99 : BitVec 32 := Scalar.muli arg16 c256_i32_42
  let v100 : BitVec 32 := v99
  let v101 : Index := Scalar.indexCast v100
  ![3, 0, v101.toNat]
def k0_mult71 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32_46 : BitVec 32 := 256#32
  let v113 : BitVec 32 := Scalar.muli arg16 c256_i32_46
  v113
def k0_off67 (k0_t5 : Fin k0_t5_loop.trips) : Fin 3 → Nat :=
  let c0_47 : Index := 0#32
  let c0_i32_12 : BitVec 32 := 0#32
  let c1_i32_14 : BitVec 32 := 1#32
  let arg16 : BitVec 32 := Scf.iv c0_i32_12 c1_i32_14 k0_t5
  let c256_i32_46 : BitVec 32 := 256#32
  let v113 : BitVec 32 := Scalar.muli arg16 c256_i32_46
  let v114 : BitVec 32 := v113
  let v115 : Index := Scalar.indexCast v114
  let c384 : Index := 384#32
  ![0, v115.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | "scale_log2e" => some (((3424635 / 33554432) * (Real.log 2)⁻¹ : ℝ) : EReal)
  | _ => none
-- ==== ReferenceIdeal.lean ====
abbrev S4x2048x16x96 : Shape := ⟨4, ![4, 2048, 16, 96]⟩
abbrev S4x2048x16x64 : Shape := ⟨4, ![4, 2048, 16, 64]⟩
abbrev S4x2048 : Shape := ⟨2, ![4, 2048]⟩
abbrev S4x2048x16x32 : Shape := ⟨4, ![4, 2048, 16, 32]⟩
abbrev S16 : Shape := ⟨1, ![16]⟩
abbrev S_ : Shape := ⟨0, ![]⟩
abbrev S4x2048x1 : Shape := ⟨3, ![4, 2048, 1]⟩
abbrev S1x1x16 : Shape := ⟨3, ![1, 1, 16]⟩
abbrev S4x2048x16 : Shape := ⟨3, ![4, 2048, 16]⟩
abbrev S4x2048x1x16 : Shape := ⟨4, ![4, 2048, 1, 16]⟩
abbrev S4x2048x16x16 : Shape := ⟨4, ![4, 2048, 16, 16]⟩
abbrev S4x16x2048x2048 : Shape := ⟨4, ![4, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩
abbrev S4x16x64x2048 : Shape := ⟨4, ![4, 16, 64, 2048]⟩
abbrev S4x16x2048x96 : Shape := ⟨4, ![4, 16, 2048, 96]⟩
abbrev S4x2048x16x128 : Shape := ⟨4, ![4, 2048, 16, 128]⟩
abbrev S4x2048x2048 : Shape := ⟨3, ![4, 2048, 2048]⟩
abbrev S4x2048x1024 : Shape := ⟨3, ![4, 2048, 1024]⟩

abbrev nBuf : Space → Nat
  | .hbm => 164
  | .vmem => 0
  | .smem => 0
  | _ => 0

abbrev hbmTy0_0 (i : Nat) : BufTy := match i % 128 with
  | 0 => ⟨S4x2048x16x96, .f32⟩
  | 1 => ⟨S4x2048x16x96, .f32⟩
  | 2 => ⟨S4x2048x16x64, .f32⟩
  | 3 => ⟨S4x2048, .i32⟩
  | 4 => ⟨S4x2048x16x64, .f32⟩
  | 5 => ⟨S4x2048x16x64, .f32⟩
  | 6 => ⟨S4x2048x16x32, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S4x2048, .f32⟩
  | 18 => ⟨S4x2048x1, .f32⟩
  | 19 => ⟨S1x1x16, .f32⟩
  | 20 => ⟨S4x2048x16, .f32⟩
  | 21 => ⟨S4x2048x16, .f32⟩
  | 22 => ⟨S4x2048x16, .f32⟩
  | 23 => ⟨S4x2048x16, .f32⟩
  | 24 => ⟨S4x2048x1x16, .f32⟩
  | 25 => ⟨S4x2048x16, .f32⟩
  | 26 => ⟨S4x2048x1x16, .f32⟩
  | 27 => ⟨S4x2048x16x16, .f32⟩
  | 28 => ⟨S4x2048x16x16, .f32⟩
  | 29 => ⟨S4x2048x16x16, .f32⟩
  | 30 => ⟨S4x2048x16x16, .f32⟩
  | 31 => ⟨S4x2048x16x16, .f32⟩
  | 32 => ⟨S4x2048x16x16, .f32⟩
  | 33 => ⟨S4x2048x16x16, .f32⟩
  | 34 => ⟨S4x2048x16x16, .f32⟩
  | 35 => ⟨S4x2048x16x16, .f32⟩
  | 36 => ⟨S4x2048x16x16, .f32⟩
  | 37 => ⟨S4x2048x16x16, .f32⟩
  | 38 => ⟨S4x2048x16x16, .f32⟩
  | 39 => ⟨S4x2048x16x32, .f32⟩
  | 40 => ⟨S4x2048x16x96, .f32⟩
  | 41 => ⟨S4x16x2048x2048, .f32⟩
  | 42 => ⟨S_, .f32⟩
  | 43 => ⟨S4x16x2048x2048, .f32⟩
  | 44 => ⟨S4x16x2048x2048, .f32⟩
  | 45 => ⟨S2048, .i32⟩
  | 46 => ⟨S1x2048, .i32⟩
  | 47 => ⟨S2048x1, .i32⟩
  | 48 => ⟨S2048x2048, .i32⟩
  | 49 => ⟨S2048x2048, .i32⟩
  | 50 => ⟨S2048x2048, .i1⟩
  | 51 => ⟨S1x1x2048x2048, .i1⟩
  | 52 => ⟨S_, .f32⟩
  | 53 => ⟨S_, .f32⟩
  | 54 => ⟨S4x16x2048x2048, .i1⟩
  | 55 => ⟨S4x16x2048x2048, .f32⟩
  | 56 => ⟨S4x16x2048x2048, .f32⟩
  | 57 => ⟨S_, .f32⟩
  | 58 => ⟨S4x16x2048x2048, .f32⟩
  | 59 => ⟨S_, .f32⟩
  | 60 => ⟨S4x16x2048, .f32⟩
  | 61 => ⟨S4x16x2048x1, .f32⟩
  | 62 => ⟨S4x16x2048x2048, .f32⟩
  | 63 => ⟨S4x16x2048x2048, .i1⟩
  | 64 => ⟨S4x16x2048x2048, .f32⟩
  | 65 => ⟨S_, .f32⟩
  | 66 => ⟨S4x16x2048, .f32⟩
  | 67 => ⟨S_, .f32⟩
  | 68 => ⟨S4x16x2048, .f32⟩
  | 69 => ⟨S4x16x2048, .f32⟩
  | 70 => ⟨S_, .f32⟩
  | 71 => ⟨S4x16x2048, .f32⟩
  | 72 => ⟨S4x16x2048, .i1⟩
  | 73 => ⟨S_, .f32⟩
  | 74 => ⟨S4x16x2048, .f32⟩
  | 75 => ⟨S4x16x2048, .i1⟩
  | 76 => ⟨S_, .f32⟩
  | 77 => ⟨S4x16x2048, .f32⟩
  | 78 => ⟨S_, .f32⟩
  | 79 => ⟨S4x16x2048, .f32⟩
  | 80 => ⟨S_, .f32⟩
  | 81 => ⟨S4x16x2048, .f32⟩
  | 82 => ⟨S4x16x2048, .f32⟩
  | 83 => ⟨S4x16x2048, .f32⟩
  | 84 => ⟨S4x16x2048x1, .f32⟩
  | 85 => ⟨S4x16x2048x2048, .f32⟩
  | 86 => ⟨S4x16x2048x2048, .f32⟩
  | 87 => ⟨S4x16x2048x2048, .f32⟩
  | 88 => ⟨S_, .f32⟩
  | 89 => ⟨S4x16x2048, .f32⟩
  | 90 => ⟨S4x16x2048x1, .f32⟩
  | 91 => ⟨S4x16x2048x2048, .f32⟩
  | 92 => ⟨S4x16x2048x2048, .f32⟩
  | 93 => ⟨S4x16x2048x1, .f32⟩
  | 94 => ⟨S_, .f32⟩
  | 95 => ⟨S4x16x2048x1, .f32⟩
  | 96 => ⟨S4x16x2048x1, .f32⟩
  | 97 => ⟨S4x16x64x2048, .f32⟩
  | 98 => ⟨S4x2048x16x64, .f32⟩
  | 99 => ⟨S4x16x64x2048, .f32⟩
  | 100 => ⟨S4x16x2048x2048, .f32⟩
  | 101 => ⟨S4x16x64x2048, .f32⟩
  | 102 => ⟨S4x2048x16x64, .f32⟩
  | 103 => ⟨S4x16x2048x2048, .f32⟩
  | 104 => ⟨S4x16x2048x2048, .f32⟩
  | 105 => ⟨S4x16x2048x2048, .f32⟩
  | 106 => ⟨S_, .f32⟩
  | 107 => ⟨S4x16x2048, .f32⟩
  | 108 => ⟨S4x16x2048x1, .f32⟩
  | 109 => ⟨S4x16x2048x1, .f32⟩
  | 110 => ⟨S4x16x2048x2048, .f32⟩
  | 111 => ⟨S4x16x2048x2048, .f32⟩
  | 112 => ⟨S_, .f32⟩
  | 113 => ⟨S4x16x2048, .f32⟩
  | 114 => ⟨S4x16x2048x2048, .f32⟩
  | 115 => ⟨S4x16x2048x2048, .f32⟩
  | 116 => ⟨S4x16x2048x2048, .f32⟩
  | 117 => ⟨S_, .f32⟩
  | 118 => ⟨S4x16x2048x2048, .f32⟩
  | 119 => ⟨S4x16x2048x2048, .f32⟩
  | 120 => ⟨S_, .f32⟩
  | 121 => ⟨S4x16x2048x2048, .f32⟩
  | 122 => ⟨S4x16x2048x2048, .f32⟩
  | 123 => ⟨S4x16x2048x96, .f32⟩
  | 124 => ⟨S4x2048x16x96, .f32⟩
  | 125 => ⟨S4x16x2048x96, .f32⟩
  | 126 => ⟨S4x2048x16x96, .f32⟩
  | 127 => ⟨S4x2048x16x64, .f32⟩
  | _ => ⟨S4x2048x16x96, .f32⟩

abbrev hbmTy0_1 (i : Nat) : BufTy := match i % 128 with
  | 0 => ⟨S4x2048x16x32, .f32⟩
  | 1 => ⟨S4x2048x16x16, .f32⟩
  | 2 => ⟨S4x2048x16x16, .f32⟩
  | 3 => ⟨S4x2048x16x16, .f32⟩
  | 4 => ⟨S4x2048x16x16, .f32⟩
  | 5 => ⟨S4x2048x16x16, .f32⟩
  | 6 => ⟨S4x2048x16x16, .f32⟩
  | 7 => ⟨S4x2048x16x16, .f32⟩
  | 8 => ⟨S4x2048x16x16, .f32⟩
  | 9 => ⟨S4x2048x16x16, .f32⟩
  | 10 => ⟨S4x2048x16x16, .f32⟩
  | 11 => ⟨S4x2048x16x16, .f32⟩
  | 12 => ⟨S4x2048x16x16, .f32⟩
  | 13 => ⟨S4x2048x16x16, .f32⟩
  | 14 => ⟨S_, .f32⟩
  | 15 => ⟨S4x2048x16x32, .f32⟩
  | 16 => ⟨S_, .f32⟩
  | 17 => ⟨S4x2048x16x32, .f32⟩
  | 18 => ⟨S4x2048x16x32, .f32⟩
  | 19 => ⟨S_, .f32⟩
  | 20 => ⟨S4x2048x16x96, .f32⟩
  | 21 => ⟨S_, .f32⟩
  | 22 => ⟨S4x2048x16x96, .f32⟩
  | 23 => ⟨S4x2048x16x96, .f32⟩
  | 24 => ⟨S_, .i32⟩
  | 25 => ⟨S_, .f32⟩
  | 26 => ⟨S4x2048x16x128, .f32⟩
  | 27 => ⟨S4x2048x2048, .f32⟩
  | 28 => ⟨S4x2048x2048, .bf16⟩
  | 29 => ⟨S_, .i32⟩
  | 30 => ⟨S_, .f32⟩
  | 31 => ⟨S4x2048x16x128, .f32⟩
  | 32 => ⟨S4x2048x2048, .f32⟩
  | 33 => ⟨S4x2048x2048, .bf16⟩
  | 34 => ⟨S4x2048x1024, .f32⟩
  | 35 => ⟨S4x2048x1024, .bf16⟩
  | _ => ⟨S4x2048x16x96, .f32⟩

abbrev hbmTy (i : Nat) : BufTy := match i / 128 with
  | 0 => hbmTy0_0 i
  | 1 => hbmTy0_1 i
  | _ => ⟨S4x2048x16x96, .f32⟩

abbrev bufTy : (tb : Table) → Fin (tcTables nBuf tb) → BufTy
  | .hbm, ⟨i, _⟩ => hbmTy i
  | _, _ => ⟨S4x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_call0_v0 : Ref sig .tc := ⟨.hbm, 53, rfl⟩
abbrev main_v43_1 : Ref sig .tc := ⟨.hbm, 54, rfl⟩
abbrev main_call0_v2 : Ref sig .tc := ⟨.hbm, 55, rfl⟩
abbrev main_v43_0 : Ref sig .tc := ⟨.hbm, 56, rfl⟩
abbrev main_call0_cst : Ref sig .tc := ⟨.hbm, 57, rfl⟩
abbrev main_v43_2 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_call1_cst : Ref sig .tc := ⟨.hbm, 117, rfl⟩
abbrev main_call1_v0 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_17 : Ref sig .tc := ⟨.hbm, 142, rfl⟩
abbrev main_v112 : Ref sig .tc := ⟨.hbm, 143, rfl⟩
abbrev main_cst_18 : Ref sig .tc := ⟨.hbm, 144, rfl⟩
abbrev main_v113 : Ref sig .tc := ⟨.hbm, 145, rfl⟩
abbrev main_v114 : Ref sig .tc := ⟨.hbm, 146, rfl⟩
abbrev main_cst_19 : Ref sig .tc := ⟨.hbm, 147, rfl⟩
abbrev main_v115 : Ref sig .tc := ⟨.hbm, 148, rfl⟩
abbrev main_cst_20 : Ref sig .tc := ⟨.hbm, 149, rfl⟩
abbrev main_v116 : Ref sig .tc := ⟨.hbm, 150, rfl⟩
abbrev main_v117 : Ref sig .tc := ⟨.hbm, 151, rfl⟩
abbrev main_c : Ref sig .tc := ⟨.hbm, 152, rfl⟩
abbrev main_call2_v0 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_c_21 : Ref sig .tc := ⟨.hbm, 157, rfl⟩
abbrev main_call3_v0 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩

abbrev nD : Nat := 1
abbrev τ : Topo := Topo.v7x

variable {F : FTy → Type} [FloatOps F]
-- ==== Group1Dx.lean ====
abbrev S1024x10240 : Shape := ⟨2, ![1024, 10240]⟩
abbrev S8192x3072 : Shape := ⟨2, ![8192, 3072]⟩
abbrev S8192x1024 : Shape := ⟨2, ![8192, 1024]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x10240, .f32⟩
  | .hbm, ⟨1, _⟩ => ⟨S8192x3072, .f32⟩
  | .hbm, ⟨2, _⟩ => ⟨S8192x3072, .bf16⟩
  | .hbm, ⟨3, _⟩ => ⟨S1024x10240, .bf16⟩
  | .hbm, ⟨4, _⟩ => ⟨S8192x1024, .bf16⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | _, _ => ⟨S1024x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Group1DxReferenceIdeal.lean ====
abbrev S1024x10240 : Shape := ⟨2, ![1024, 10240]⟩
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x10240, .f32⟩
  | .hbm, ⟨1, _⟩ => ⟨S8192x3072, .f32⟩
  | .hbm, ⟨2, _⟩ => ⟨S1024x3072, .f32⟩
  | .hbm, ⟨3, _⟩ => ⟨S_, .f32⟩
  | .hbm, ⟨4, _⟩ => ⟨S8192x1024, .f32⟩
  | .hbm, ⟨5, _⟩ => ⟨S8192x3072, .f32⟩
  | .hbm, ⟨6, _⟩ => ⟨S8192x1024, .f32⟩
  | .hbm, ⟨7, _⟩ => ⟨S8192x1024, .bf16⟩
  | _, _ => ⟨S1024x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Group2Dx.lean ====
abbrev S1024x10240 : Shape := ⟨2, ![1024, 10240]⟩
abbrev S8192x3072 : Shape := ⟨2, ![8192, 3072]⟩
abbrev S8192x1024 : Shape := ⟨2, ![8192, 1024]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x10240, .f32⟩
  | .hbm, ⟨1, _⟩ => ⟨S8192x3072, .f32⟩
  | .hbm, ⟨2, _⟩ => ⟨S8192x3072, .bf16⟩
  | .hbm, ⟨3, _⟩ => ⟨S1024x10240, .bf16⟩
  | .hbm, ⟨4, _⟩ => ⟨S8192x1024, .bf16⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | _, _ => ⟨S1024x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Group2DxReferenceIdeal.lean ====
abbrev S1024x10240 : Shape := ⟨2, ![1024, 10240]⟩
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x10240, .f32⟩
  | .hbm, ⟨1, _⟩ => ⟨S8192x3072, .f32⟩
  | .hbm, ⟨2, _⟩ => ⟨S1024x3072, .f32⟩
  | .hbm, ⟨3, _⟩ => ⟨S_, .f32⟩
  | .hbm, ⟨4, _⟩ => ⟨S8192x1024, .f32⟩
  | .hbm, ⟨5, _⟩ => ⟨S8192x3072, .f32⟩
  | .hbm, ⟨6, _⟩ => ⟨S8192x1024, .f32⟩
  | .hbm, ⟨7, _⟩ => ⟨S8192x1024, .bf16⟩
  | _, _ => ⟨S1024x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Group0Dx.lean ====
abbrev S1024x10240 : Shape := ⟨2, ![1024, 10240]⟩
abbrev S8192x3072 : Shape := ⟨2, ![8192, 3072]⟩
abbrev S8192x1024 : Shape := ⟨2, ![8192, 1024]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x10240, .f32⟩
  | .hbm, ⟨1, _⟩ => ⟨S8192x3072, .f32⟩
  | .hbm, ⟨2, _⟩ => ⟨S8192x1024, .f32⟩
  | .hbm, ⟨3, _⟩ => ⟨S8192x3072, .bf16⟩
  | .hbm, ⟨4, _⟩ => ⟨S1024x10240, .bf16⟩
  | .hbm, ⟨5, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Group0DxReferenceIdeal.lean ====
abbrev S1024x10240 : Shape := ⟨2, ![1024, 10240]⟩
abbrev S8192x3072 : Shape := ⟨2, ![8192, 3072]⟩
abbrev S8192x1024 : Shape := ⟨2, ![8192, 1024]⟩
abbrev S1024x3072 : Shape := ⟨2, ![1024, 3072]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x10240, .f32⟩
  | .hbm, ⟨1, _⟩ => ⟨S8192x3072, .f32⟩
  | .hbm, ⟨2, _⟩ => ⟨S8192x1024, .f32⟩
  | .hbm, ⟨3, _⟩ => ⟨S1024x3072, .f32⟩
  | .hbm, ⟨4, _⟩ => ⟨S_, .f32⟩
  | .hbm, ⟨5, _⟩ => ⟨S8192x1024, .f32⟩
  | .hbm, ⟨6, _⟩ => ⟨S8192x3072, .f32⟩
  | .hbm, ⟨7, _⟩ => ⟨S8192x1024, .f32⟩
  | .hbm, ⟨8, _⟩ => ⟨S8192x1024, .f32⟩
  | _, _ => ⟨S1024x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GateDx.lean ====
abbrev S1024x10240 : Shape := ⟨2, ![1024, 10240]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x10240, .f32⟩
  | .hbm, ⟨1, _⟩ => ⟨S8192x1024, .f32⟩
  | .hbm, ⟨2, _⟩ => ⟨S8192x1024, .bf16⟩
  | .hbm, ⟨3, _⟩ => ⟨S1024x10240, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg2 c9_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxReferenceIdeal.lean ====
abbrev S1024x10240 : Shape := ⟨2, ![1024, 10240]⟩
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x10240, .f32⟩
  | .hbm, ⟨1, _⟩ => ⟨S8192x1024, .f32⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S1024x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDx.lean ====
abbrev S1024x1408 : Shape := ⟨2, ![1024, 1408]⟩
abbrev S8192x1408 : Shape := ⟨2, ![8192, 1408]⟩
abbrev S8192x1024 : Shape := ⟨2, ![8192, 1024]⟩
abbrev S512x1408 : Shape := ⟨2, ![512, 1408]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1408, .f32⟩
  | .hbm, ⟨1, _⟩ => ⟨S8192x1408, .f32⟩
  | .hbm, ⟨2, _⟩ => ⟨S8192x1408, .bf16⟩
  | .hbm, ⟨3, _⟩ => ⟨S1024x1408, .bf16⟩
  | .hbm, ⟨4, _⟩ => ⟨S8192x1024, .bf16⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S512x1024, .bf16⟩
  | .local _ .vmem, ⟨4, _⟩ => ⟨S512x1024, .bf16⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S1024x1408 : Shape := ⟨2, ![1024, 1408]⟩
abbrev S8192x1408 : Shape := ⟨2, ![8192, 1408]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S8192x1408, .f32⟩
  | .hbm, ⟨2, _⟩ => ⟨S_, .f32⟩
  | .hbm, ⟨3, _⟩ => ⟨S8192x1024, .f32⟩
  | .hbm, ⟨4, _⟩ => ⟨S8192x1408, .f32⟩
  | .hbm, ⟨5, _⟩ => ⟨S8192x1024, .f32⟩
  | .hbm, ⟨6, _⟩ => ⟨S8192x1024, .bf16⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDw.lean ====
abbrev S8192x1024 : Shape := ⟨2, ![8192, 1024]⟩
abbrev S8192x1408 : Shape := ⟨2, ![8192, 1408]⟩
abbrev S1024x1408 : Shape := ⟨2, ![1024, 1408]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1408, .f32⟩
  | .hbm, ⟨2, _⟩ => ⟨S8192x1024, .bf16⟩
  | .hbm, ⟨3, _⟩ => ⟨S8192x1408, .bf16⟩
  | .hbm, ⟨4, _⟩ => ⟨S1024x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S8192x1024 : Shape := ⟨2, ![8192, 1024]⟩
abbrev S8192x1408 : Shape := ⟨2, ![8192, 1408]⟩
abbrev S_ : Shape := ⟨0, ![]⟩
abbrev S1024x1408 : Shape := ⟨2, ![1024, 1408]⟩
abbrev S1408x1024 : Shape := ⟨2, ![1408, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1408, .f32⟩
  | .hbm, ⟨2, _⟩ => ⟨S_, .f32⟩
  | .hbm, ⟨3, _⟩ => ⟨S1024x1408, .f32⟩
  | .hbm, ⟨4, _⟩ => ⟨S8192x1408, .f32⟩
  | .hbm, ⟨5, _⟩ => ⟨S1408x1024, .f32⟩
  | .hbm, ⟨6, _⟩ => ⟨S1024x1408, .f32⟩
  | .hbm, ⟨7, _⟩ => ⟨S1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Group0Dw.lean ====
abbrev S8192x1024 : Shape := ⟨2, ![8192, 1024]⟩
abbrev S8192x3072 : Shape := ⟨2, ![8192, 3072]⟩
abbrev S1024x10240 : Shape := ⟨2, ![1024, 10240]⟩
abbrev S2048x512 : Shape := ⟨2, ![2048, 512]⟩
abbrev S2048x1024 : Shape := ⟨2, ![2048, 1024]⟩
abbrev S512x1024 : Shape := ⟨2, ![512, 1024]⟩
abbrev S1024x3072 : Shape := ⟨2, ![1024, 3072]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x10240, .bf16⟩
  | .hbm, ⟨5, _⟩ => ⟨S1024x3072, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Group0DwReferenceIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Group1Dw.lean ====
abbrev S8192x1024 : Shape := ⟨2, ![8192, 1024]⟩
abbrev S8192x3072 : Shape := ⟨2, ![8192, 3072]⟩
abbrev S1024x10240 : Shape := ⟨2, ![1024, 10240]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S1024x10240, .f32⟩
  | .hbm, ⟨3, _⟩ => ⟨S8192x1024, .bf16⟩
  | .hbm, ⟨4, _⟩ => ⟨S8192x3072, .bf16⟩
  | .hbm, ⟨5, _⟩ => ⟨S1024x10240, .bf16⟩
  | .hbm, ⟨6, _⟩ => ⟨S1024x10240, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg0 c3_i32
  let c0_i32 : BitVec 32 := 0#32
  ![arg1.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Group1DwReferenceIdeal.lean ====
abbrev S8192x1024 : Shape := ⟨2, ![8192, 1024]⟩
abbrev S8192x3072 : Shape := ⟨2, ![8192, 3072]⟩
abbrev S1024x10240 : Shape := ⟨2, ![1024, 10240]⟩
abbrev S1024x3072 : Shape := ⟨2, ![1024, 3072]⟩
abbrev S_ : Shape := ⟨0, ![]⟩
abbrev S3072x1024 : Shape := ⟨2, ![3072, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S1024x10240, .f32⟩
  | .hbm, ⟨3, _⟩ => ⟨S1024x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x4096, .f32⟩
  | .hbm, ⟨10, _⟩ => ⟨S1024x10240, .f32⟩
  | .hbm, ⟨11, _⟩ => ⟨S1024x10240, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Group2Dw.lean ====
abbrev S8192x1024 : Shape := ⟨2, ![8192, 1024]⟩
abbrev S8192x3072 : Shape := ⟨2, ![8192, 3072]⟩
abbrev S1024x10240 : Shape := ⟨2, ![1024, 10240]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S1024x10240, .f32⟩
  | .hbm, ⟨3, _⟩ => ⟨S8192x1024, .bf16⟩
  | .hbm, ⟨4, _⟩ => ⟨S8192x3072, .bf16⟩
  | .hbm, ⟨5, _⟩ => ⟨S1024x10240, .bf16⟩
  | .hbm, ⟨6, _⟩ => ⟨S1024x10240, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg0 c6_i32
  let c0_i32 : BitVec 32 := 0#32
  ![arg1.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Group2DwReferenceIdeal.lean ====
abbrev S8192x1024 : Shape := ⟨2, ![8192, 1024]⟩
abbrev S8192x3072 : Shape := ⟨2, ![8192, 3072]⟩
abbrev S1024x10240 : Shape := ⟨2, ![1024, 10240]⟩
abbrev S1024x6144 : Shape := ⟨2, ![1024, 6144]⟩
abbrev S_ : Shape := ⟨0, ![]⟩
abbrev S1024x3072 : Shape := ⟨2, ![1024, 3072]⟩
abbrev S3072x1024 : Shape := ⟨2, ![3072, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S1024x10240, .f32⟩
  | .hbm, ⟨3, _⟩ => ⟨S1024x6144, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x1024, .f32⟩
  | .hbm, ⟨10, _⟩ => ⟨S1024x10240, .f32⟩
  | .hbm, ⟨11, _⟩ => ⟨S1024x10240, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== GateDw.lean ====
abbrev S8192x1024 : Shape := ⟨2, ![8192, 1024]⟩
abbrev S1024x10240 : Shape := ⟨2, ![1024, 10240]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x10240, .f32⟩
  | .hbm, ⟨3, _⟩ => ⟨S8192x1024, .bf16⟩
  | .hbm, ⟨4, _⟩ => ⟨S8192x1024, .bf16⟩
  | .hbm, ⟨5, _⟩ => ⟨S1024x10240, .bf16⟩
  | .hbm, ⟨6, _⟩ => ⟨S1024x10240, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg0 c9_i32
  let c0_i32 : BitVec 32 := 0#32
  ![arg1.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwReferenceIdeal.lean ====
abbrev S8192x1024 : Shape := ⟨2, ![8192, 1024]⟩
abbrev S1024x10240 : Shape := ⟨2, ![1024, 10240]⟩
abbrev S1024x9216 : Shape := ⟨2, ![1024, 9216]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x10240, .f32⟩
  | .hbm, ⟨3, _⟩ => ⟨S1024x9216, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x10240, .f32⟩
  | .hbm, ⟨10, _⟩ => ⟨S1024x10240, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Gate.lean ====
abbrev S8192x1024 : Shape := ⟨2, ![8192, 1024]⟩
abbrev S1024x10240 : Shape := ⟨2, ![1024, 10240]⟩
abbrev S512x1024 : Shape := ⟨2, ![512, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S8192x1024, .bf16⟩
  | .hbm, ⟨3, _⟩ => ⟨S1024x10240, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg0 c9_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S8192x1024 : Shape := ⟨2, ![8192, 1024]⟩
abbrev S1024x10240 : Shape := ⟨2, ![1024, 10240]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Value0.lean ====
abbrev S8192x1024 : Shape := ⟨2, ![8192, 1024]⟩
abbrev S1024x10240 : Shape := ⟨2, ![1024, 10240]⟩
abbrev S512x1024 : Shape := ⟨2, ![512, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S8192x1024, .bf16⟩
  | .hbm, ⟨3, _⟩ => ⟨S1024x10240, .bf16⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Value0ReferenceIdeal.lean ====
abbrev S8192x1024 : Shape := ⟨2, ![8192, 1024]⟩
abbrev S1024x10240 : Shape := ⟨2, ![1024, 10240]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S1024x1024, .f32⟩
  | .hbm, ⟨3, _⟩ => ⟨S8192x1024, .f32⟩
  | .hbm, ⟨4, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Value1.lean ====
abbrev S8192x1024 : Shape := ⟨2, ![8192, 1024]⟩
abbrev S1024x10240 : Shape := ⟨2, ![1024, 10240]⟩
abbrev S512x1024 : Shape := ⟨2, ![512, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S8192x1024, .bf16⟩
  | .hbm, ⟨3, _⟩ => ⟨S1024x10240, .bf16⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg0 c5_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Value1ReferenceIdeal.lean ====
abbrev S8192x1024 : Shape := ⟨2, ![8192, 1024]⟩
abbrev S1024x10240 : Shape := ⟨2, ![1024, 10240]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S1024x1024, .f32⟩
  | .hbm, ⟨3, _⟩ => ⟨S8192x1024, .f32⟩
  | .hbm, ⟨4, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Value2.lean ====
abbrev S8192x1024 : Shape := ⟨2, ![8192, 1024]⟩
abbrev S1024x10240 : Shape := ⟨2, ![1024, 10240]⟩
abbrev S512x1024 : Shape := ⟨2, ![512, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S8192x1024, .bf16⟩
  | .hbm, ⟨3, _⟩ => ⟨S1024x10240, .bf16⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg0 c8_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Value2ReferenceIdeal.lean ====
abbrev S8192x1024 : Shape := ⟨2, ![8192, 1024]⟩
abbrev S1024x10240 : Shape := ⟨2, ![1024, 10240]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S1024x1024, .f32⟩
  | .hbm, ⟨3, _⟩ => ⟨S8192x1024, .f32⟩
  | .hbm, ⟨4, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== In.lean ====
abbrev S8192x1024 : Shape := ⟨2, ![8192, 1024]⟩
abbrev S1024x1408 : Shape := ⟨2, ![1024, 1408]⟩
abbrev S8192x1408 : Shape := ⟨2, ![8192, 1408]⟩
abbrev S512x1024 : Shape := ⟨2, ![512, 1024]⟩
abbrev S512x1408 : Shape := ⟨2, ![512, 1408]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1408, .f32⟩
  | .hbm, ⟨2, _⟩ => ⟨S8192x1024, .bf16⟩
  | .hbm, ⟨3, _⟩ => ⟨S1024x1408, .bf16⟩
  | .hbm, ⟨4, _⟩ => ⟨S8192x1408, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S512x1408, .f32⟩
  | .local _ .vmem, ⟨4, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S8192x1024 : Shape := ⟨2, ![8192, 1024]⟩
abbrev S1024x1408 : Shape := ⟨2, ![1024, 1408]⟩
abbrev S8192x1408 : Shape := ⟨2, ![8192, 1408]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1408, .f32⟩
  | .hbm, ⟨2, _⟩ => ⟨S8192x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Rotated0.lean ====
abbrev S8192x1024 : Shape := ⟨2, ![8192, 1024]⟩
abbrev S1024x10240 : Shape := ⟨2, ![1024, 10240]⟩
abbrev S8192 : Shape := ⟨1, ![8192]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S8192x2048 : Shape := ⟨2, ![8192, 2048]⟩
abbrev S512x1024 : Shape := ⟨2, ![512, 1024]⟩
abbrev S1024x1024 : Shape := ⟨2, ![1024, 1024]⟩
abbrev S512x128 : Shape := ⟨2, ![512, 128]⟩
abbrev S128x1024 : Shape := ⟨2, ![128, 1024]⟩
abbrev S128x128 : Shape := ⟨2, ![128, 128]⟩

abbrev nBuf : Space → Nat
  | .hbm => 56
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S8192, .i32⟩
  | .hbm, ⟨3, _⟩ => ⟨S8192x1024, .bf16⟩
  | .hbm, ⟨4, _⟩ => ⟨S1024x10240, .bf16⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S96, .f32⟩
  | .hbm, ⟨17, _⟩ => ⟨S128, .f32⟩
  | .hbm, ⟨18, _⟩ => ⟨S1x128, .f32⟩
  | .hbm, ⟨19, _⟩ => ⟨S8192, .f32⟩
  | .hbm, ⟨20, _⟩ => ⟨S8192x1, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .i32⟩
  | .hbm, ⟨27, _⟩ => ⟨S_, .i32⟩
  | .hbm, ⟨28, _⟩ => ⟨S8192x128, .i32⟩
  | .hbm, ⟨29, _⟩ => ⟨S8192x128, .i1⟩
  | .hbm, ⟨30, _⟩ => ⟨S_, .i32⟩
  | .hbm, ⟨31, _⟩ => ⟨S8192x128, .i32⟩
  | .hbm, ⟨32, _⟩ => ⟨S8192x128, .i1⟩
  | .hbm, ⟨33, _⟩ => ⟨S8192x128, .i1⟩
  | .hbm, ⟨34, _⟩ => ⟨S_, .i32⟩
  | .hbm, ⟨35, _⟩ => ⟨S8192x128, .i32⟩
  | .hbm, ⟨36, _⟩ => ⟨S8192x128, .i1⟩
  | .hbm, ⟨37, _⟩ => ⟨S_, .i32⟩
  | .hbm, ⟨38, _⟩ => ⟨S8192x128, .i32⟩
  | .hbm, ⟨39, _⟩ => ⟨S8192x128, .i1⟩
  | .hbm, ⟨40, _⟩ => ⟨S8192x128, .i1⟩
  | .hbm, ⟨41, _⟩ => ⟨S8192x128, .i1⟩
  | .hbm, ⟨42, _⟩ => ⟨S_, .f32⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S_, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S_, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v31 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_call2_v0 : Ref sig .tc := ⟨.hbm, 52, rfl⟩
abbrev main_call2_v1 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Rotated0ReferenceIdeal.lean ====
abbrev S8192x1024 : Shape := ⟨2, ![8192, 1024]⟩
abbrev S1024x10240 : Shape := ⟨2, ![1024, 10240]⟩
abbrev S8192 : Shape := ⟨1, ![8192]⟩
abbrev S1024x2048 : Shape := ⟨2, ![1024, 2048]⟩
abbrev S8192x2048 : Shape := ⟨2, ![8192, 2048]⟩
abbrev S1x8192x16x128 : Shape := ⟨4, ![1, 8192, 16, 128]⟩
abbrev S1x8192 : Shape := ⟨2, ![1, 8192]⟩
abbrev S1x8192x16x32 : Shape := ⟨4, ![1, 8192, 16, 32]⟩
abbrev S16 : Shape := ⟨1, ![16]⟩
abbrev S_ : Shape := ⟨0, ![]⟩
abbrev S1x8192x1 : Shape := ⟨3, ![1, 8192, 1]⟩
abbrev S1x1x16 : Shape := ⟨3, ![1, 1, 16]⟩
abbrev S1x8192x16 : Shape := ⟨3, ![1, 8192, 16]⟩
abbrev S1x8192x1x16 : Shape := ⟨4, ![1, 8192, 1, 16]⟩
abbrev S1x8192x16x16 : Shape := ⟨4, ![1, 8192, 16, 16]⟩
abbrev S1x8192x16x96 : Shape := ⟨4, ![1, 8192, 16, 96]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S8192, .i32⟩
  | .hbm, ⟨3, _⟩ => ⟨S1024x2048, .f32⟩
  | .hbm, ⟨4, _⟩ => ⟨S8192x2048, .f32⟩
  | .hbm, ⟨5, _⟩ => ⟨S1x8192x16x128, .f32⟩
  | .hbm, ⟨6, _⟩ => ⟨S1x8192, .i32⟩
  | .hbm, ⟨7, _⟩ => ⟨S1x8192x16x32, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S1x8192, .f32⟩
  | .hbm, ⟨19, _⟩ => ⟨S1x8192x1, .f32⟩
  | .hbm, ⟨20, _⟩ => ⟨S1x1x16, .f32⟩
  | .hbm, ⟨21, _⟩ => ⟨S1x8192x16, .f32⟩
  | .hbm, ⟨22, _⟩ => ⟨S1x8192x16, .f32⟩
  | .hbm, ⟨23, _⟩ => ⟨S1x8192x16, .f32⟩
  | .hbm, ⟨24, _⟩ => ⟨S1x8192x16, .f32⟩
  | .hbm, ⟨25, _⟩ => ⟨S1x8192x1x16, .f32⟩
  | .hbm, ⟨26, _⟩ => ⟨S1x8192x16, .f32⟩
  | .hbm, ⟨27, _⟩ => ⟨S1x8192x1x16, .f32⟩
  | .hbm, ⟨28, _⟩ => ⟨S1x8192x16x16, .f32⟩
  | .hbm, ⟨29, _⟩ => ⟨S1x8192x16x16, .f32⟩
  | .hbm, ⟨30, _⟩ => ⟨S1x8192x16x16, .f32⟩
  | .hbm, ⟨31, _⟩ => ⟨S1x8192x16x16, .f32⟩
  | .hbm, ⟨32, _⟩ => ⟨S1x8192x16x16, .f32⟩
  | .hbm, ⟨33, _⟩ => ⟨S1x8192x16x16, .f32⟩
  | .hbm, ⟨34, _⟩ => ⟨S1x8192x16x16, .f32⟩
  | .hbm, ⟨35, _⟩ => ⟨S1x8192x16x16, .f32⟩
  | .hbm, ⟨36, _⟩ => ⟨S1x8192x16x16, .f32⟩
  | .hbm, ⟨37, _⟩ => ⟨S1x8192x16x16, .f32⟩
  | .hbm, ⟨38, _⟩ => ⟨S1x8192x16x16, .f32⟩
  | .hbm, ⟨39, _⟩ => ⟨S1x8192x16x16, .f32⟩
  | .hbm, ⟨40, _⟩ => ⟨S1x8192x16x32, .f32⟩
  | .hbm, ⟨41, _⟩ => ⟨S1x8192x16x96, .f32⟩
  | .hbm, ⟨42, _⟩ => ⟨S1x8192x16x128, .f32⟩
  | .hbm, ⟨43, _⟩ => ⟨S8192x2048, .f32⟩
  | .hbm, ⟨44, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Rotated1.lean ====
abbrev S8192x1024 : Shape := ⟨2, ![8192, 1024]⟩
abbrev S1024x10240 : Shape := ⟨2, ![1024, 10240]⟩
abbrev S8192 : Shape := ⟨1, ![8192]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S8192x2048 : Shape := ⟨2, ![8192, 2048]⟩
abbrev S512x1024 : Shape := ⟨2, ![512, 1024]⟩
abbrev S1024x1024 : Shape := ⟨2, ![1024, 1024]⟩
abbrev S512x128 : Shape := ⟨2, ![512, 128]⟩
abbrev S128x1024 : Shape := ⟨2, ![128, 1024]⟩
abbrev S128x128 : Shape := ⟨2, ![128, 128]⟩

abbrev nBuf : Space → Nat
  | .hbm => 56
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S8192, .i32⟩
  | .hbm, ⟨3, _⟩ => ⟨S8192x1024, .bf16⟩
  | .hbm, ⟨4, _⟩ => ⟨S1024x10240, .bf16⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S96, .f32⟩
  | .hbm, ⟨17, _⟩ => ⟨S128, .f32⟩
  | .hbm, ⟨18, _⟩ => ⟨S1x128, .f32⟩
  | .hbm, ⟨19, _⟩ => ⟨S8192, .f32⟩
  | .hbm, ⟨20, _⟩ => ⟨S8192x1, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .i32⟩
  | .hbm, ⟨27, _⟩ => ⟨S_, .i32⟩
  | .hbm, ⟨28, _⟩ => ⟨S8192x128, .i32⟩
  | .hbm, ⟨29, _⟩ => ⟨S8192x128, .i1⟩
  | .hbm, ⟨30, _⟩ => ⟨S_, .i32⟩
  | .hbm, ⟨31, _⟩ => ⟨S8192x128, .i32⟩
  | .hbm, ⟨32, _⟩ => ⟨S8192x128, .i1⟩
  | .hbm, ⟨33, _⟩ => ⟨S8192x128, .i1⟩
  | .hbm, ⟨34, _⟩ => ⟨S_, .i32⟩
  | .hbm, ⟨35, _⟩ => ⟨S8192x128, .i32⟩
  | .hbm, ⟨36, _⟩ => ⟨S8192x128, .i1⟩
  | .hbm, ⟨37, _⟩ => ⟨S_, .i32⟩
  | .hbm, ⟨38, _⟩ => ⟨S8192x128, .i32⟩
  | .hbm, ⟨39, _⟩ => ⟨S8192x128, .i1⟩
  | .hbm, ⟨40, _⟩ => ⟨S8192x128, .i1⟩
  | .hbm, ⟨41, _⟩ => ⟨S8192x128, .i1⟩
  | .hbm, ⟨42, _⟩ => ⟨S_, .f32⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S_, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S_, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v31 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_call2_v0 : Ref sig .tc := ⟨.hbm, 52, rfl⟩
abbrev main_call2_v1 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg0 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Rotated1ReferenceIdeal.lean ====
abbrev S8192x1024 : Shape := ⟨2, ![8192, 1024]⟩
abbrev S1024x10240 : Shape := ⟨2, ![1024, 10240]⟩
abbrev S8192 : Shape := ⟨1, ![8192]⟩
abbrev S1024x2048 : Shape := ⟨2, ![1024, 2048]⟩
abbrev S8192x2048 : Shape := ⟨2, ![8192, 2048]⟩
abbrev S1x8192x16x128 : Shape := ⟨4, ![1, 8192, 16, 128]⟩
abbrev S1x8192 : Shape := ⟨2, ![1, 8192]⟩
abbrev S1x8192x16x32 : Shape := ⟨4, ![1, 8192, 16, 32]⟩
abbrev S16 : Shape := ⟨1, ![16]⟩
abbrev S_ : Shape := ⟨0, ![]⟩
abbrev S1x8192x1 : Shape := ⟨3, ![1, 8192, 1]⟩
abbrev S1x1x16 : Shape := ⟨3, ![1, 1, 16]⟩
abbrev S1x8192x16 : Shape := ⟨3, ![1, 8192, 16]⟩
abbrev S1x8192x1x16 : Shape := ⟨4, ![1, 8192, 1, 16]⟩
abbrev S1x8192x16x16 : Shape := ⟨4, ![1, 8192, 16, 16]⟩
abbrev S1x8192x16x96 : Shape := ⟨4, ![1, 8192, 16, 96]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S8192, .i32⟩
  | .hbm, ⟨3, _⟩ => ⟨S1024x2048, .f32⟩
  | .hbm, ⟨4, _⟩ => ⟨S8192x2048, .f32⟩
  | .hbm, ⟨5, _⟩ => ⟨S1x8192x16x128, .f32⟩
  | .hbm, ⟨6, _⟩ => ⟨S1x8192, .i32⟩
  | .hbm, ⟨7, _⟩ => ⟨S1x8192x16x32, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S1x8192, .f32⟩
  | .hbm, ⟨19, _⟩ => ⟨S1x8192x1, .f32⟩
  | .hbm, ⟨20, _⟩ => ⟨S1x1x16, .f32⟩
  | .hbm, ⟨21, _⟩ => ⟨S1x8192x16, .f32⟩
  | .hbm, ⟨22, _⟩ => ⟨S1x8192x16, .f32⟩
  | .hbm, ⟨23, _⟩ => ⟨S1x8192x16, .f32⟩
  | .hbm, ⟨24, _⟩ => ⟨S1x8192x16, .f32⟩
  | .hbm, ⟨25, _⟩ => ⟨S1x8192x1x16, .f32⟩
  | .hbm, ⟨26, _⟩ => ⟨S1x8192x16, .f32⟩
  | .hbm, ⟨27, _⟩ => ⟨S1x8192x1x16, .f32⟩
  | .hbm, ⟨28, _⟩ => ⟨S1x8192x16x16, .f32⟩
  | .hbm, ⟨29, _⟩ => ⟨S1x8192x16x16, .f32⟩
  | .hbm, ⟨30, _⟩ => ⟨S1x8192x16x16, .f32⟩
  | .hbm, ⟨31, _⟩ => ⟨S1x8192x16x16, .f32⟩
  | .hbm, ⟨32, _⟩ => ⟨S1x8192x16x16, .f32⟩
  | .hbm, ⟨33, _⟩ => ⟨S1x8192x16x16, .f32⟩
  | .hbm, ⟨34, _⟩ => ⟨S1x8192x16x16, .f32⟩
  | .hbm, ⟨35, _⟩ => ⟨S1x8192x16x16, .f32⟩
  | .hbm, ⟨36, _⟩ => ⟨S1x8192x16x16, .f32⟩
  | .hbm, ⟨37, _⟩ => ⟨S1x8192x16x16, .f32⟩
  | .hbm, ⟨38, _⟩ => ⟨S1x8192x16x16, .f32⟩
  | .hbm, ⟨39, _⟩ => ⟨S1x8192x16x16, .f32⟩
  | .hbm, ⟨40, _⟩ => ⟨S1x8192x16x32, .f32⟩
  | .hbm, ⟨41, _⟩ => ⟨S1x8192x16x96, .f32⟩
  | .hbm, ⟨42, _⟩ => ⟨S1x8192x16x128, .f32⟩
  | .hbm, ⟨43, _⟩ => ⟨S8192x2048, .f32⟩
  | .hbm, ⟨44, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Rotated2.lean ====
abbrev S8192x1024 : Shape := ⟨2, ![8192, 1024]⟩
abbrev S1024x10240 : Shape := ⟨2, ![1024, 10240]⟩
abbrev S8192 : Shape := ⟨1, ![8192]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S8192x2048 : Shape := ⟨2, ![8192, 2048]⟩
abbrev S512x1024 : Shape := ⟨2, ![512, 1024]⟩
abbrev S1024x1024 : Shape := ⟨2, ![1024, 1024]⟩
abbrev S512x128 : Shape := ⟨2, ![512, 128]⟩
abbrev S128x1024 : Shape := ⟨2, ![128, 1024]⟩
abbrev S128x128 : Shape := ⟨2, ![128, 128]⟩

abbrev nBuf : Space → Nat
  | .hbm => 56
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S8192, .i32⟩
  | .hbm, ⟨3, _⟩ => ⟨S8192x1024, .bf16⟩
  | .hbm, ⟨4, _⟩ => ⟨S1024x10240, .bf16⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S96, .f32⟩
  | .hbm, ⟨17, _⟩ => ⟨S128, .f32⟩
  | .hbm, ⟨18, _⟩ => ⟨S1x128, .f32⟩
  | .hbm, ⟨19, _⟩ => ⟨S8192, .f32⟩
  | .hbm, ⟨20, _⟩ => ⟨S8192x1, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .i32⟩
  | .hbm, ⟨27, _⟩ => ⟨S_, .i32⟩
  | .hbm, ⟨28, _⟩ => ⟨S8192x128, .i32⟩
  | .hbm, ⟨29, _⟩ => ⟨S8192x128, .i1⟩
  | .hbm, ⟨30, _⟩ => ⟨S_, .i32⟩
  | .hbm, ⟨31, _⟩ => ⟨S8192x128, .i32⟩
  | .hbm, ⟨32, _⟩ => ⟨S8192x128, .i1⟩
  | .hbm, ⟨33, _⟩ => ⟨S8192x128, .i1⟩
  | .hbm, ⟨34, _⟩ => ⟨S_, .i32⟩
  | .hbm, ⟨35, _⟩ => ⟨S8192x128, .i32⟩
  | .hbm, ⟨36, _⟩ => ⟨S8192x128, .i1⟩
  | .hbm, ⟨37, _⟩ => ⟨S_, .i32⟩
  | .hbm, ⟨38, _⟩ => ⟨S8192x128, .i32⟩
  | .hbm, ⟨39, _⟩ => ⟨S8192x128, .i1⟩
  | .hbm, ⟨40, _⟩ => ⟨S8192x128, .i1⟩
  | .hbm, ⟨41, _⟩ => ⟨S8192x128, .i1⟩
  | .hbm, ⟨42, _⟩ => ⟨S_, .f32⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S_, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S_, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v31 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_call2_v0 : Ref sig .tc := ⟨.hbm, 52, rfl⟩
abbrev main_call2_v1 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg0 c6_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Rotated2ReferenceIdeal.lean ====
abbrev S8192x1024 : Shape := ⟨2, ![8192, 1024]⟩
abbrev S1024x10240 : Shape := ⟨2, ![1024, 10240]⟩
abbrev S8192 : Shape := ⟨1, ![8192]⟩
abbrev S1024x2048 : Shape := ⟨2, ![1024, 2048]⟩
abbrev S8192x2048 : Shape := ⟨2, ![8192, 2048]⟩
abbrev S1x8192x16x128 : Shape := ⟨4, ![1, 8192, 16, 128]⟩
abbrev S1x8192 : Shape := ⟨2, ![1, 8192]⟩
abbrev S1x8192x16x32 : Shape := ⟨4, ![1, 8192, 16, 32]⟩
abbrev S16 : Shape := ⟨1, ![16]⟩
abbrev S_ : Shape := ⟨0, ![]⟩
abbrev S1x8192x1 : Shape := ⟨3, ![1, 8192, 1]⟩
abbrev S1x1x16 : Shape := ⟨3, ![1, 1, 16]⟩
abbrev S1x8192x16 : Shape := ⟨3, ![1, 8192, 16]⟩
abbrev S1x8192x1x16 : Shape := ⟨4, ![1, 8192, 1, 16]⟩
abbrev S1x8192x16x16 : Shape := ⟨4, ![1, 8192, 16, 16]⟩
abbrev S1x8192x16x96 : Shape := ⟨4, ![1, 8192, 16, 96]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x10240, .f32⟩
  | .hbm, ⟨2, _⟩ => ⟨S8192, .i32⟩
  | .hbm, ⟨3, _⟩ => ⟨S1024x2048, .f32⟩
  | .hbm, ⟨4, _⟩ => ⟨S8192x2048, .f32⟩
  | .hbm, ⟨5, _⟩ => ⟨S1x8192x16x128, .f32⟩
  | .hbm, ⟨6, _⟩ => ⟨S1x8192, .i32⟩
  | .hbm, ⟨7, _⟩ => ⟨S1x8192x16x32, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S1x8192, .f32⟩
  | .hbm, ⟨19, _⟩ => ⟨S1x8192x1, .f32⟩
  | .hbm, ⟨20, _⟩ => ⟨S1x1x16, .f32⟩
  | .hbm, ⟨21, _⟩ => ⟨S1x8192x16, .f32⟩
  | .hbm, ⟨22, _⟩ => ⟨S1x8192x16, .f32⟩
  | .hbm, ⟨23, _⟩ => ⟨S1x8192x16, .f32⟩
  | .hbm, ⟨24, _⟩ => ⟨S1x8192x16, .f32⟩
  | .hbm, ⟨25, _⟩ => ⟨S1x8192x1x16, .f32⟩
  | .hbm, ⟨26, _⟩ => ⟨S1x8192x16, .f32⟩
  | .hbm, ⟨27, _⟩ => ⟨S1x8192x1x16, .f32⟩
  | .hbm, ⟨28, _⟩ => ⟨S1x8192x16x16, .f32⟩
  | .hbm, ⟨29, _⟩ => ⟨S1x8192x16x16, .f32⟩
  | .hbm, ⟨30, _⟩ => ⟨S1x8192x16x16, .f32⟩
  | .hbm, ⟨31, _⟩ => ⟨S1x8192x16x16, .f32⟩
  | .hbm, ⟨32, _⟩ => ⟨S1x8192x16x16, .f32⟩
  | .hbm, ⟨33, _⟩ => ⟨S1x8192x16x16, .f32⟩
  | .hbm, ⟨34, _⟩ => ⟨S1x8192x16x16, .f32⟩
  | .hbm, ⟨35, _⟩ => ⟨S1x8192x16x16, .f32⟩
  | .hbm, ⟨36, _⟩ => ⟨S1x8192x16x16, .f32⟩
  | .hbm, ⟨37, _⟩ => ⟨S1x8192x16x16, .f32⟩
  | .hbm, ⟨38, _⟩ => ⟨S1x8192x16x16, .f32⟩
  | .hbm, ⟨39, _⟩ => ⟨S1x8192x16x16, .f32⟩
  | .hbm, ⟨40, _⟩ => ⟨S1x8192x16x32, .f32⟩
  | .hbm, ⟨41, _⟩ => ⟨S1x8192x16x96, .f32⟩
  | .hbm, ⟨42, _⟩ => ⟨S1x8192x16x128, .f32⟩
  | .hbm, ⟨43, _⟩ => ⟨S8192x2048, .f32⟩
  | .hbm, ⟨44, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Proof.Ideal.Loop.lean ====
/- The key-block loop of the attention gradient: one trip takes 256 keys, adds their share to the
   query gradient's scratch and stores the 256 rows of dk and dv. The loops over query blocks nested in
   it stand by the generated invariants; this module states the loop over key blocks around them. -/
module

public import proofs.«01_k».proof.Proof.Gen.KernelIdeal.Frame
public import proofs.«01_k».proof.Proof.Gen.KernelIdeal.Loops

@[expose] public section

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The buffers that one trip touches: six read at their contents, dk's block, dv's block and the
    query gradient's scratch written. -/
abbrev KvRes (c : Dev nD) (arg2 : Memref sig .tc .vmem S1x2048x512 .bf16) (arg3 : Memref sig .tc .vmem S1x2048x512 .bf16) (arg4 : Memref sig .tc .vmem S1x2048x256 .bf16) (arg5 : Memref sig .tc .vmem S1x2048x256 .bf16) (arg7 : Memref sig .tc .vmem S1x2x8x2048 .f32) (arg15 : Memref sig .tc .vmem S2x8x2048 .f32) (arg12 : Memref sig .tc .vmem S1x2048x512 .bf16) (arg13 : Memref sig .tc .vmem S1x2048x256 .bf16) (arg14 : Memref sig .tc .vmem S4x128x2048 .f32) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X15 : BufTy.Contents (Elt F) arg15.view.ty) (f12 : BufTy.Contents (Elt F) arg12.view.ty) (f13 : BufTy.Contents (Elt F) arg13.view.ty) (f14 : BufTy.Contents (Elt F) arg14.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg15.view.loc (c : Thread nD τ) ↦[arg15.view.set]{fullShare} X15) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

/-- One trip, at the contents `f14` of the scratch that it finds: the pieces that it writes into dk's
    block, dv's block and the scratch. -/
@[irreducible] def kvTrip (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .f32) (harg6 : arg6.IsWhole) (arg7 : Memref sig .tc .vmem S1x2x8x2048 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x2048x256 .bf16) (harg13 : arg13.IsWhole) (arg14 : Memref sig .tc .vmem S4x128x2048 .f32) (harg14 : arg14.IsWhole) (arg15 : Memref sig .tc .vmem S2x8x2048 .f32) (harg15 : arg15.IsWhole) (v0 : IVec S256x128 32) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X15 : BufTy.Contents (Elt F) arg15.view.ty) (k : Fin k0_t2_loop.trips) :
    Σ' (L12 : BufTy.Contents (Elt F) arg14.view.ty → List (View.Piece (Elt F) S1x2048x512 .bf16)) (L13 : BufTy.Contents (Elt F) arg14.view.ty → List (View.Piece (Elt F) S1x2048x256 .bf16)), { L14 : BufTy.Contents (Elt F) arg14.view.ty → List (View.Piece (Elt F) S4x128x2048 .f32) // ∀ (E : Set ℕ) (f12 : BufTy.Contents (Elt F) arg12.view.ty) (f13 : BufTy.Contents (Elt F) arg13.view.ty) (f14 : BufTy.Contents (Elt F) arg14.view.ty),
      KvRes (F := F) c arg2 arg3 arg4 arg5 arg7 arg15 arg12 arg13 arg14 X2 X3 X4 X5 X7 X15 f12 f13 f14
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v0 k ())
          (fun _ => KvRes (F := F) c arg2 arg3 arg4 arg5 arg7 arg15 arg12 arg13 arg14 X2 X3 X4 X5 X7 X15 (arg12.view.writes (Elt F) f12 (L12 f14)) (arg13.view.writes (Elt F) f13 (L13 f14)) (arg14.view.writes (Elt F) f14 (L14 f14))) } := by
  have hk : k.val < 8 := Nat.lt_of_lt_of_le k.isLt k0_t2_abs.2.1
  refine ⟨?_, ?_, ?_, fun E f12 f13 f14 => ?run⟩
  case run =>
    unfold k0_t2_body
    iintro ⟨H2, H3, H4, H5, H7, H15, H12, H13, H14⟩
    sl_exec
    sl_step
    sl_close

/-- The pieces of the trips before `k` (last first): dk's, dv's and the scratch's. -/
def kvSt (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .f32) (harg6 : arg6.IsWhole) (arg7 : Memref sig .tc .vmem S1x2x8x2048 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x2048x256 .bf16) (harg13 : arg13.IsWhole) (arg14 : Memref sig .tc .vmem S4x128x2048 .f32) (harg14 : arg14.IsWhole) (arg15 : Memref sig .tc .vmem S2x8x2048 .f32) (harg15 : arg15.IsWhole) (v0 : IVec S256x128 32) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X15 : BufTy.Contents (Elt F) arg15.view.ty) (G14 : BufTy.Contents (Elt F) arg14.view.ty) : ℕ → List (View.Piece (Elt F) S1x2048x512 .bf16) × List (View.Piece (Elt F) S1x2048x256 .bf16) × List (View.Piece (Elt F) S4x128x2048 .f32)
  | 0 => ([], [], [])
  | k + 1 =>
    if h : k < k0_t2_loop.trips then
      ((kvTrip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 ⟨k, h⟩).1 (arg14.view.writes (Elt F) G14 (kvSt 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k).2.2) ++ (kvSt 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k).1,
        (kvTrip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 ⟨k, h⟩).2.1 (arg14.view.writes (Elt F) G14 (kvSt 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k).2.2) ++ (kvSt 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k).2.1,
        (kvTrip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 ⟨k, h⟩).2.2.1 (arg14.view.writes (Elt F) G14 (kvSt 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k).2.2) ++ (kvSt 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k).2.2)
    else kvSt 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k

theorem kvSt_succ (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .f32) (harg6 : arg6.IsWhole) (arg7 : Memref sig .tc .vmem S1x2x8x2048 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x2048x256 .bf16) (harg13 : arg13.IsWhole) (arg14 : Memref sig .tc .vmem S4x128x2048 .f32) (harg14 : arg14.IsWhole) (arg15 : Memref sig .tc .vmem S2x8x2048 .f32) (harg15 : arg15.IsWhole) (v0 : IVec S256x128 32) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X15 : BufTy.Contents (Elt F) arg15.view.ty) (G14 : BufTy.Contents (Elt F) arg14.view.ty) (k : Fin k0_t2_loop.trips) :
    kvSt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 (k.val + 1)
      = ((kvTrip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 k).1 (arg14.view.writes (Elt F) G14 (kvSt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k.val).2.2) ++ (kvSt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k.val).1,
        (kvTrip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 k).2.1 (arg14.view.writes (Elt F) G14 (kvSt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k.val).2.2) ++ (kvSt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k.val).2.1,
        (kvTrip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 k).2.2.1 (arg14.view.writes (Elt F) G14 (kvSt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k.val).2.2) ++ (kvSt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k.val).2.2) := by
  rw [kvSt.eq_2]; exact dif_pos k.isLt

/-- What holds before trip `k`. -/
abbrev kvInv (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .f32) (harg6 : arg6.IsWhole) (arg7 : Memref sig .tc .vmem S1x2x8x2048 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x2048x256 .bf16) (harg13 : arg13.IsWhole) (arg14 : Memref sig .tc .vmem S4x128x2048 .f32) (harg14 : arg14.IsWhole) (arg15 : Memref sig .tc .vmem S2x8x2048 .f32) (harg15 : arg15.IsWhole) (v0 : IVec S256x128 32) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X15 : BufTy.Contents (Elt F) arg15.view.ty) (G12 : BufTy.Contents (Elt F) arg12.view.ty) (G13 : BufTy.Contents (Elt F) arg13.view.ty) (G14 : BufTy.Contents (Elt F) arg14.view.ty) (k : ℕ) (_u : PUnit) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg15.view.loc (c : Thread nD τ) ↦[arg15.view.set]{fullShare} X15) ∗ (∃ f, (arg12.view.loc (c : Thread nD τ) ↦[arg12.view.set]{fullShare} f) ∗ ⌜f = arg12.view.writes (Elt F) G12 (kvSt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k).1⌝)
    ∗ (∃ f, (arg13.view.loc (c : Thread nD τ) ↦[arg13.view.set]{fullShare} f) ∗ ⌜f = arg13.view.writes (Elt F) G13 (kvSt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k).2.1⌝)
    ∗ (∃ f, (arg14.view.loc (c : Thread nD τ) ↦[arg14.view.set]{fullShare} f) ∗ ⌜f = arg14.view.writes (Elt F) G14 (kvSt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G14 k).2.2⌝))

set_option warn.classDefReducibility false in
/-- The loop by its invariant. -/
@[sl_loop] def loopInv_k0_t2 (𝒱 : Variants) (c : Dev nD) (bd : Option 𝒱.V) (E : Set ℕ) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .f32) (harg6 : arg6.IsWhole) (arg7 : Memref sig .tc .vmem S1x2x8x2048 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x2048x256 .bf16) (harg13 : arg13.IsWhole) (arg14 : Memref sig .tc .vmem S4x128x2048 .f32) (harg14 : arg14.IsWhole) (arg15 : Memref sig .tc .vmem S2x8x2048 .f32) (harg15 : arg15.IsWhole) (v0 : IVec S256x128 32) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X15 : BufTy.Contents (Elt F) arg15.view.ty) (G12 : BufTy.Contents (Elt F) arg12.view.ty) (G13 : BufTy.Contents (Elt F) arg13.view.ty) (G14 : BufTy.Contents (Elt F) arg14.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v0 where
  inv := kvInv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 G12 G13 G14
  step k acc := by
    iintro ⟨H2, H3, H4, H5, H7, H15, ⟨%f12, H12, %h12⟩, ⟨%f13, H13, %h13⟩, ⟨%f14, H14, %h14⟩⟩
    iapply (wp_wand_r Idealize.ShloMosaic.frame (wpE (defs₀ (F := F)) 𝒱 (c : Thread nD τ) bd) E)
    isplitl [H2 H3 H4 H5 H7 H15 H12 H13 H14]
    · iapply ((kvTrip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 X2 X3 X4 X5 X7 X15 k).2.2.2 E f12 f13 f14)
      isplitl [H2]; · iexact H2
      isplitl [H3]; · iexact H3
      isplitl [H4]; · iexact H4
      isplitl [H5]; · iexact H5
      isplitl [H7]; · iexact H7
      isplitl [H15]; · iexact H15
      isplitl [H12]; · iexact H12
      isplitl [H13]; · iexact H13
      iexact H14
    · iintro %_ ⟨H2, H3, H4, H5, H7, H15, H12, H13, H14⟩
      isplitl [H2]; · iexact H2
      isplitl [H3]; · iexact H3
      isplitl [H4]; · iexact H4
      isplitl [H5]; · iexact H5
      isplitl [H7]; · iexact H7
      isplitl [H15]; · iexact H15
      rw [kvSt_succ]
      isplitl [H12]
      · iexists _; isplitl [H12]; · iexact H12
        ipureintro; rw [h12, h14, ← View.writes_append]
      isplitl [H13]
      · iexists _; isplitl [H13]; · iexact H13
        ipureintro; rw [h13, h14, ← View.writes_append]
      iexists _; isplitl [H14]; · iexact H14
      ipureintro; rw [h14, ← View.writes_append]

end Cert.KernelIdeal.Body

end
-- ==== Proof.Ideal.Run.lean ====
/- The whole kernel body at one grid point, over any contents of its buffers: the sums of the output times
   its cotangent, the query gradient's scratch cleared, the loop over key blocks, the loop that turns the
   scratch back into rows. -/
module

public import proofs.«01_k».proof.Proof.Ideal.Loop
public import proofs.«01_k».proof.Proof.Gen.KernelIdeal.Skeleton

@[expose] public section

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The body run once: nine blocks read, the pieces written into the three result blocks as functions of what
    the two scratch buffers held. -/
@[irreducible] def bodyRun (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .f32) (harg6 : arg6.IsWhole) (arg7 : Memref sig .tc .vmem S1x2x8x2048 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x2048x256 .bf16) (harg13 : arg13.IsWhole) (arg14 : Memref sig .tc .vmem S4x128x2048 .f32) (harg14 : arg14.IsWhole) (arg15 : Memref sig .tc .vmem S2x8x2048 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    Σ' (L11 : BufTy.Contents (Elt F) arg14.view.ty → BufTy.Contents (Elt F) arg15.view.ty → List (View.Piece (Elt F) S1x2048x512 .bf16)) (L12 : BufTy.Contents (Elt F) arg14.view.ty → BufTy.Contents (Elt F) arg15.view.ty → List (View.Piece (Elt F) S1x2048x512 .bf16)), { L13 : BufTy.Contents (Elt F) arg14.view.ty → BufTy.Contents (Elt F) arg15.view.ty → List (View.Piece (Elt F) S1x2048x256 .bf16) // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp (MT nD τ sig Unit (Elt F) ℕ (UR sig nD τ) ℕ))
      ⊢ wp frame (wpE (defs₀ (F := F)) 𝒱 (c : Thread nD τ) bd) E (cc0_attn_b_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} (arg11.view.writes (Elt F) f11 (L11 f14 f15))) ∗ (arg12.view.loc (c : Thread nD τ) ↦[arg12.view.set]{fullShare} (arg12.view.writes (Elt F) f12 (L12 f14 f15))) ∗ (arg13.view.loc (c : Thread nD τ) ↦[arg13.view.set]{fullShare} (arg13.view.writes (Elt F) f13 (L13 f14 f15))) ∗ (∃ g, (arg14.view.loc (c : Thread nD τ) ↦[arg14.view.set]{fullShare} g)) ∗ (∃ g, (arg15.view.loc (c : Thread nD τ) ↦[arg15.view.set]{fullShare} g)))) } := by
  refine ⟨?_, ?_, ?_, fun E f11 f12 f13 f14 f15 => ?run⟩
  case run =>
    simp only [cc0_attn_b_bwd_eq_skeleton]; unfold cc0_attn_b_bwd_skel
    iintro ⟨H2, H3, H4, H5, H6, H7, H8, H9, H10, H11, H12, H13, H14, H15⟩
    sl_exec
    sl_step
    sl_close

end Cert.KernelIdeal.Body

end
-- ==== Proof.Ideal.Frame.lean ====
/- The launch of the kernel: at every grid point the body runs from its nine input blocks, whatever the result
   blocks and the scratch held, and the whole program ends with its arguments as they were launched. -/
module

public import proofs.«01_k».proof.Proof.Ideal.Run
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] [∀ e, Nonempty (Elt F e)]
variable (m : (l : Loc nD τ sig) → Buf (Elt F) l) (ρ : Dev nD → PrngReg)

local notation "𝕄" => MT nD τ sig Unit (Elt F) ℕ (UR sig nD τ) ℕ

/-- The body's run with a continuation. -/
theorem bodyTriple (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .f32) (harg6 : arg6.IsWhole) (arg7 : Memref sig .tc .vmem S1x2x8x2048 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x2048x256 .bf16) (harg13 : arg13.IsWhole) (arg14 : Memref sig .tc .vmem S4x128x2048 .f32) (harg14 : arg14.IsWhole) (arg15 : Memref sig .tc .vmem S2x8x2048 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (K : PUnit → sProp 𝕄) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} (arg11.view.writes (Elt F) f11 ((bodyRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).1 f14 f15))) ∗ (arg12.view.loc (c : Thread nD τ) ↦[arg12.view.set]{fullShare} (arg12.view.writes (Elt F) f12 ((bodyRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).2.1 f14 f15))) ∗ (arg13.view.loc (c : Thread nD τ) ↦[arg13.view.set]{fullShare} (arg13.view.writes (Elt F) f13 ((bodyRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).2.2.1 f14 f15))) ∗ (∃ g, (arg14.view.loc (c : Thread nD τ) ↦[arg14.view.set]{fullShare} g)) ∗ (∃ g, (arg15.view.loc (c : Thread nD τ) ↦[arg15.view.set]{fullShare} g))) -∗ K ⟨⟩)) : sProp 𝕄)
      ⊢ wp frame (wpE (defs₀ (F := F)) 𝒱 (c : Thread nD τ) bd) Set.univ (cc0_attn_b_bwd (F := F) i arg2 harg2 arg3 harg3 arg4 harg4 arg5 harg5 arg6 harg6 arg7 harg7 arg8 harg8 arg9 harg9 arg10 harg10 arg11 harg11 arg12 harg12 arg13 harg13 arg14 harg14 arg15 harg15) K := by
  refine .trans ?_ (wp_wand_r frame (wpE (defs₀ (F := F)) 𝒱 (c : Thread nD τ) bd) Set.univ (Q := fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} (arg11.view.writes (Elt F) f11 ((bodyRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).1 f14 f15))) ∗ (arg12.view.loc (c : Thread nD τ) ↦[arg12.view.set]{fullShare} (arg12.view.writes (Elt F) f12 ((bodyRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).2.1 f14 f15))) ∗ (arg13.view.loc (c : Thread nD τ) ↦[arg13.view.set]{fullShare} (arg13.view.writes (Elt F) f13 ((bodyRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).2.2.1 f14 f15))) ∗ (∃ g, (arg14.view.loc (c : Thread nD τ) ↦[arg14.view.set]{fullShare} g)) ∗ (∃ g, (arg15.view.loc (c : Thread nD τ) ↦[arg15.view.set]{fullShare} g)))))
  refine .trans ?_ (sep_mono ((bodyRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).2.2.2 Set.univ f11 f12 f13 f14 f15) .rfl)
  iintro ⟨H2, H3, H4, H5, H6, H7, H8, H9, H10, H11, H12, H13, H14, H15, Hk⟩
  isplitr [Hk]
  · skip
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %u H
    iapply Hk
    iexact H

/-- The three result windows are forgotten: this module says nothing of what the kernel leaves in them. -/
def forgets0 : Fin 12 → Bool := ![false, false, false, false, false, false, false, false, false, true, true, true]

/-- The proof data: every input block is left as it was found, the result blocks are unnamed, nothing is owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => Pipeline.Dat.unnamed (cfg := cfg0) 9 t
    | 10 => Pipeline.Dat.unnamed (cfg := cfg0) 10 t
    | 11 => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]

/-- The core's own buffers between points: both scratch buffers at some contents, the generator register. -/
theorem PhiA0_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA
  rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X))
/-- What the body returns at a point. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X))

set_option maxHeartbeats 4000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after_0 m c t, after_1 m c t, after_2 m c t, after_3 m c t, after_4 m c t, after_5 m c t, after_6 m c t, after_7 m c t, after_8 m c t]
  simp only [before0_0_of m (dats m 0 c) (A_eq m c 0) (after_0 m c) t, before0_1_of m (dats m 0 c) (A_eq m c 1) (after_1 m c) t, before0_2_of m (dats m 0 c) (A_eq m c 2) (after_2 m c) t, before0_3_of m (dats m 0 c) (A_eq m c 3) (after_3 m c) t, before0_4_of m (dats m 0 c) (A_eq m c 4) (after_4 m c) t, before0_5_of m (dats m 0 c) (A_eq m c 5) (after_5 m c) t, before0_6_of m (dats m 0 c) (A_eq m c 6) (after_6 m c) t, before0_7_of m (dats m 0 c) (A_eq m c 7) (after_7 m c) t, before0_8_of m (dats m 0 c) (A_eq m c 8) (after_8 m c) t]
  unfold owns
  iintro ⟨⟨⟨⟨%d14, %f14, -, H14⟩, ⟨%d15, %f15, -, H15⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩⟩
  iapply (bodyTriple (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) f0 f1 f2 f3 f4 f5 f6 f7 f8 f9 f10 f11 f14 f15 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H14]; · iexact H14
  isplitl [H15]; · iexact H15
  iintro ⟨H0, H1, H2, H3, H4, H5, H6, H7, H8, H9, H10, H11, H14, H15⟩
  isplitl [H14 H15 Hg]
  · isplitl [H14 H15]
    · isplitl [H14]
      · icases H14 with ⟨%g, H14⟩
        iexists _, g; isplitr; · ipureintro; rfl
        iexact H14
      · icases H15 with ⟨%g, H15⟩
        iexists _, g; isplitr; · ipureintro; rfl
        iexact H15
    · iexact Hg
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The obligation the pipeline asks of the body, the result windows forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the program: no window's array is an argument, every buffer that is none keeps its contents, every
    counter is zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The frame: from any memory with zero counters the program ends, its arguments and counters as launched. -/
theorem quiescent :
    θ_run defs (onTc (τ := τ) (main (F := F))) (s₀ m ρ)
      (fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4)) ∧ r.2.sem = fun _ => 0) :=
  (run_main m ρ).mono fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c)⟩, h.2⟩

end Cert.KernelIdeal.Body

end
-- ==== Proof.Claims.lean ====
/- The claims that compare nothing: every program ends with its arguments and counters as they were launched, and
   each named constant is the number its name stands for. -/
module

public import proofs.«01_k».proof.Defs
public import proofs.«01_k».proof.Proof.Bits.Frame
public import proofs.«01_k».proof.Proof.Ideal.Frame
public import proofs.«01_k».proof.Proof.Gen.ReferenceIdeal.Run

@[expose] public section

noncomputable section

namespace Cert.Proof

open Idealize.ShloMosaic Idealize.SL.Sem

theorem frame_kernel : Cert.quiescent_Kernel :=
  fun m g _ => Cert.Kernel.Body.quiescent m g

theorem frame_kernelIdeal : Cert.quiescent_KernelIdeal :=
  fun m g _ => Cert.KernelIdeal.Body.quiescent m g

/-- The reference declares no semaphore, so its counters are zero whatever it does. -/
theorem frame_referenceIdeal : Cert.quiescent_ReferenceIdeal :=
  fun m g _ => (θ_run _ _ _).mono (fun r h =>
    ⟨fun c => (h c).2.2.2, sem_eq_zero_of_no_sems (by decide) r.2⟩) (Cert.ReferenceIdeal.Value.run m g)

/-- The scale over the logarithm of two, and the mask. -/
theorem preserves : Cert.preserves_Kernel_KernelIdeal :=
  ⟨IdealRules.named_const.statement Cert.KernelIdeal.κ "scale_log2e" .f32 0x3E16C740#32 _ rfl,
    IdealRules.named_const.statement Cert.KernelIdeal.κ "mask" .f32 0xF149F2CA#32 _ rfl⟩

end Cert.Proof

end
-- ==== Proof.Value.Block.lean ====
/- What one block of the kernel computes, element by element: the probabilities and the score gradient of
   256 keys against 256 queries, and the products that the kernel adds up. -/
module

public import proofs.«01_k».proof.Proof.Ideal.Run
public import Idealize.ShloMosaic.Lib.Pointwise

@[expose] public section

set_option maxRecDepth 16384
set_option maxHeartbeats 1000000

noncomputable section

namespace Cert.KernelIdeal.Value

open Cert.KernelIdeal Cert.KernelIdeal.Gen
open Idealize.ShloMosaic

/-- The scores' factor, log 2 divided out. -/
def c2 : EReal := (((3424635 / 33554432) * (Real.log 2)⁻¹ : ℝ) : EReal)

/-- The rounded scale `96 ^ (-1/2)`. -/
def sc : EReal := Ideal.ofBits .f32 0x3DD105EC#32

abbrev Kv := FVec Ideal S256x128 .bf16
abbrev Acc := FVec Ideal S256x128 .f32
abbrev Stat := Vec Ideal S1x1x1x256 .f32
abbrev Sums := Vec Ideal S1x1x256 .f32

/-- Keys against queries. -/
def nt (A B : Kv) : FVec Ideal S256x256 .f32 :=
  matmul dot_S256x128_S256x128_S256x256_1_1_0_0_n_n none A B (constant S256x256 .f32 0x00000000#32)

theorem nt_apply (A B : Kv) (r c : Fin 256) : nt A B (ix2 r c) = ∑ l : Fin 128, A (ix2 r l) * B (ix2 c l) := by
  pointwise [nt]

/-- The probabilities of a block below the diagonal. -/
def pB (K Q : Kv) (L : Stat) : FVec Ideal S256x256 .bf16 := k0_pay25 (F := Ideal) (nt K Q) L

/-- The score gradient of a block below the diagonal. -/
def dsB (K V Q D : Kv) (L : Stat) (S : Sums) : FVec Ideal S256x256 .bf16 :=
  k0_pay24 (F := Ideal) (nt K Q) (nt V D) L S

/-- The probabilities of a diagonal block. -/
def pM (a : BitVec 32) (K Q : Kv) (L : Stat) : FVec Ideal S256x256 .bf16 := k0_pay98 (F := Ideal) a (nt K Q) L

/-- The score gradient of a diagonal block. -/
def dsM (a : BitVec 32) (K V Q D : Kv) (L : Stat) (S : Sums) : FVec Ideal S256x256 .bf16 :=
  k0_pay97 (F := Ideal) a (nt K Q) (nt V D) L S

theorem named_c2 : (Named.named κ "scale_log2e" 0x3E16C740#32 : Ideal .f32) = c2 := by
  rfl

theorem named_mask : (Named.named κ "mask" 0xF149F2CA#32 : Ideal .f32) = (⊥ : EReal) := by
  rfl

theorem pB_apply (K Q : Kv) (L : Stat) (r c : Fin 256) :
    pB K Q L (ix2 r c) = Ideal.exp2 ((∑ l : Fin 128, K (ix2 r l) * Q (ix2 c l)) * c2 - L (ix4 0 0 0 c)) := by
  pointwise [pB, k0_pay25, k0_pay23, nt]
  rw [named_c2]; rfl

theorem dsB_apply (K V Q D : Kv) (L : Stat) (S : Sums) (r c : Fin 256) :
    dsB K V Q D L S (ix2 r c)
      = Ideal.exp2 ((∑ l : Fin 128, K (ix2 r l) * Q (ix2 c l)) * c2 - L (ix4 0 0 0 c))
        * ((∑ l : Fin 128, V (ix2 r l) * D (ix2 c l)) - S (ix3 0 0 c)) * sc := by
  pointwise [dsB, k0_pay24, k0_pay23, nt, sc]
  rw [named_c2]; rfl

/-- The words compared on the diagonal: the key's row against the query's. -/
theorem diag_le (a : BitVec 32) (ha : a.toNat < 8) (r c : Fin 256) :
    IntOp.cmpi .sle (IntOp.addi (Scalar.muli a 256#32) (BitVec.ofNat 32 r.val)) (IntOp.addi (Scalar.muli a 256#32) (BitVec.ofNat 32 c.val))
      = BitVec.ofBool (decide (r.val ≤ c.val)) := by
  have hr := r.isLt
  have hc := c.isLt
  have e : ∀ x : ℕ, x < 256 → (IntOp.addi (Scalar.muli a 256#32) (BitVec.ofNat 32 x)).toInt = 256 * a.toNat + x := by
    intro x hx
    have h : (IntOp.addi (Scalar.muli a 256#32) (BitVec.ofNat 32 x)).toNat = 256 * a.toNat + x := by
      simp only [IntOp.addi, Scalar.muli, IntOp.muli, BitVec.toNat_add, BitVec.toNat_mul, BitVec.toNat_ofNat]
      omega
    rw [BitVec.toInt_eq_toNat_of_lt (by omega), h]; simp
  unfold IntOp.cmpi
  simp only [BitVec.sle, e r.val hr, e c.val hc]
  congr 1
  simp

theorem select_bit (p : Prop) [Decidable p] (x y : EReal) :
    Scalar.select (BitVec.ofBool (decide p)) x y = if p then x else y := by
  by_cases h : p
  · simp only [h, decide_true, if_true]; rfl
  · simp only [h, decide_false, if_false]; rfl

theorem pM_apply (a : BitVec 32) (ha : a.toNat < 8) (K Q : Kv) (L : Stat) (r c : Fin 256) :
    pM a K Q L (ix2 r c)
      = Ideal.exp2 ((if r.val ≤ c.val then (∑ l : Fin 128, K (ix2 r l) * Q (ix2 c l)) * c2 else ⊥) - L (ix4 0 0 0 c)) := by
  pointwise [pM, k0_pay98, k0_pay96, nt]
  rw [named_c2, named_mask, diag_le a ha, select_bit]; rfl

theorem dsM_apply (a : BitVec 32) (ha : a.toNat < 8) (K V Q D : Kv) (L : Stat) (S : Sums) (r c : Fin 256) :
    dsM a K V Q D L S (ix2 r c)
      = Ideal.exp2 ((if r.val ≤ c.val then (∑ l : Fin 128, K (ix2 r l) * Q (ix2 c l)) * c2 else ⊥) - L (ix4 0 0 0 c))
        * ((∑ l : Fin 128, V (ix2 r l) * D (ix2 c l)) - S (ix3 0 0 c)) * sc := by
  pointwise [dsM, k0_pay97, k0_pay96, nt, sc]
  rw [named_c2, named_mask, diag_le a ha, select_bit]; rfl

/-- An accumulator's addition. -/
def accAdd (A : Acc) (Q : Kv) (D : FVec Ideal S256x256 .bf16) : Acc := k0_pay121 (F := Ideal) A Q D

theorem accAdd_apply (A : Acc) (Q : Kv) (D : FVec Ideal S256x256 .bf16) (r : Fin 256) (d : Fin 128) :
    accAdd A Q D (ix2 r d) = A (ix2 r d) + ∑ c : Fin 256, D (ix2 r c) * Q (ix2 c d) := by
  pointwise [accAdd, k0_pay121]

/-- The scratch's addition. -/
def scrAdd (K : Kv) (D : FVec Ideal S256x256 .bf16) (O : Vec Ideal S1x128x256 .f32) : FVec Ideal S1x128x256 .f32 :=
  k0_pay111 (F := Ideal) K D O

theorem scrAdd_apply (K : Kv) (D : FVec Ideal S256x256 .bf16) (O : Vec Ideal S1x128x256 .f32) (d : Fin 128) (c : Fin 256) :
    scrAdd K D O (ix3 0 d c) = O (ix3 0 d c) + ∑ r : Fin 256, K (ix2 r d) * D (ix2 r c) := by
  pointwise [scrAdd, k0_pay111]

end Cert.KernelIdeal.Value

end
-- ==== Proof.Value.Env.lean ====
/- The state of one grid point, and the rows and lanes of its blocks as functions of a head, a row and a lane. -/
module

public import proofs.«01_k».proof.Proof.Value.Block

@[expose] public section

set_option maxRecDepth 16384
set_option maxHeartbeats 1000000

noncomputable section

namespace Cert.KernelIdeal.Value

open Cert.KernelIdeal Cert.KernelIdeal.Gen Cert.KernelIdeal.Body
open Idealize.ShloMosaic

/-- One run of the body: its thread, its grid point, its buffers and what the blocks that it reads hold. -/
structure Env where
  𝒱 : Variants
  c : Dev nD
  bd : Option 𝒱.V
  i : grid0.Coords
  arg2 : Memref sig .tc .vmem S1x2048x512 .bf16
  harg2 : arg2.IsWhole
  arg3 : Memref sig .tc .vmem S1x2048x512 .bf16
  harg3 : arg3.IsWhole
  arg4 : Memref sig .tc .vmem S1x2048x256 .bf16
  harg4 : arg4.IsWhole
  arg5 : Memref sig .tc .vmem S1x2048x256 .bf16
  harg5 : arg5.IsWhole
  arg6 : Memref sig .tc .vmem S1x2048x256 .f32
  harg6 : arg6.IsWhole
  arg7 : Memref sig .tc .vmem S1x2x8x2048 .f32
  harg7 : arg7.IsWhole
  arg8 : Memref sig .tc .vmem S1x2048x128 .f32
  harg8 : arg8.IsWhole
  arg9 : Memref sig .tc .vmem S1x2048x128 .f32
  harg9 : arg9.IsWhole
  arg10 : Memref sig .tc .vmem S1x2048x128 .f32
  harg10 : arg10.IsWhole
  arg11 : Memref sig .tc .vmem S1x2048x512 .bf16
  harg11 : arg11.IsWhole
  arg12 : Memref sig .tc .vmem S1x2048x512 .bf16
  harg12 : arg12.IsWhole
  arg13 : Memref sig .tc .vmem S1x2048x256 .bf16
  harg13 : arg13.IsWhole
  arg14 : Memref sig .tc .vmem S4x128x2048 .f32
  harg14 : arg14.IsWhole
  arg15 : Memref sig .tc .vmem S2x8x2048 .f32
  harg15 : arg15.IsWhole
  X2 : BufTy.Contents (Elt Ideal) arg2.view.ty
  X3 : BufTy.Contents (Elt Ideal) arg3.view.ty
  X4 : BufTy.Contents (Elt Ideal) arg4.view.ty
  X5 : BufTy.Contents (Elt Ideal) arg5.view.ty
  X6 : BufTy.Contents (Elt Ideal) arg6.view.ty
  X7 : BufTy.Contents (Elt Ideal) arg7.view.ty
  X8 : BufTy.Contents (Elt Ideal) arg8.view.ty
  X9 : BufTy.Contents (Elt Ideal) arg9.view.ty
  X10 : BufTy.Contents (Elt Ideal) arg10.view.ty
  X15 : BufTy.Contents (Elt Ideal) arg15.view.ty

abbrev Accs := FVec Ideal S256x128 .f32 × FVec Ideal S256x128 .f32 × FVec Ideal S256x128 .f32 × FVec Ideal S256x128 .f32 × FVec Ideal S256x128 .f32 × FVec Ideal S256x128 .f32 × FVec Ideal S256x128 .f32 × FVec Ideal S256x128 .f32

/-- dk's accumulators, and dv's. -/
def dkAcc (a : Accs) : Fin 4 → Acc := ![a.1, a.2.1, a.2.2.1, a.2.2.2.1]
def dvAcc (a : Accs) : Fin 4 → Acc := ![a.2.2.2.2.1, a.2.2.2.2.2.1, a.2.2.2.2.2.2.1, a.2.2.2.2.2.2.2]

abbrev KB := Fin k0_t2_loop.trips

theorem trips2 : k0_t2_loop.trips = 8 := by decide +kernel
theorem trips3 : ∀ kb : KB, (k0_t3_loop kb).trips = 7 - kb.val := by decide +kernel
theorem KB.lt (kb : KB) : kb.val < 8 := trips2 ▸ kb.isLt

/-- The lane's number. -/
abbrev v0 : IVec S256x128 32 := bodyRun.sl.v0

/-- The row `c` of block `b`. -/
def row (b : ℕ) (hb : b < 8) (c : Fin 256) : Fin 2048 := ⟨256 * b + c.val, by have := c.isLt; omega⟩

/-- The lane `d` of head `h`, and of pair `p`. -/
def lane4 (h : Fin 4) (d : Fin 128) : Fin 512 := ⟨128 * h.val + d.val, by have := h.isLt; have := d.isLt; omega⟩
def lane2 (p : Fin 2) (d : Fin 128) : Fin 256 := ⟨128 * p.val + d.val, by have := p.isLt; have := d.isLt; omega⟩

/-- A head's pair, and its place in the pair. -/
def pr (h : Fin 4) : Fin 2 := ⟨h.val / 2, by have := h.isLt; omega⟩
def sd (h : Fin 4) : Fin 8 := ⟨h.val % 2, by omega⟩

variable (e : Env)

def Env.Q (h : Fin 4) (q : Fin 2048) (d : Fin 128) : EReal := e.arg2.view.read (Elt Ideal) e.X2 (ix3 0 q (lane4 h d))
def Env.K (h : Fin 4) (q : Fin 2048) (d : Fin 128) : EReal := e.arg3.view.read (Elt Ideal) e.X3 (ix3 0 q (lane4 h d))
def Env.Vp (p : Fin 2) (q : Fin 2048) (d : Fin 128) : EReal := e.arg4.view.read (Elt Ideal) e.X4 (ix3 0 q (lane2 p d))
def Env.DO (p : Fin 2) (q : Fin 2048) (d : Fin 128) : EReal := e.arg5.view.read (Elt Ideal) e.X5 (ix3 0 q (lane2 p d))
def Env.O (p : Fin 2) (q : Fin 2048) (d : Fin 128) : EReal := e.arg6.view.read (Elt Ideal) e.X6 (ix3 0 q (lane2 p d))
def Env.L (h : Fin 4) (q : Fin 2048) : EReal := e.arg7.view.read (Elt Ideal) e.X7 (ix4 0 (pr h) (sd h) q)
def Env.S (h : Fin 4) (q : Fin 2048) : EReal := e.arg15.view.read (Elt Ideal) e.X15 (ix3 (pr h) (sd h) q)

/-- A head's half of its pair's values, zero on the other head's lanes. -/
def Env.V (h : Fin 4) (q : Fin 2048) (d : Fin 128) : EReal :=
  if (d.val < 64 ↔ h.val % 2 = 0) then e.Vp (pr h) q d else 0

theorem cast_apply {α : Type} (x : S1x256x128.Idx → α) (h : S1x256x128.ShapeCasts S256x128) (r : Fin 256) (d : Fin 128) :
    shapeCast S256x128 x h (ix2 r d) = x (ix3 0 r d) := by
  pointwise

/-- A block of 256 rows and 128 lanes read out of a buffer of rows. -/
theorem load_apply {N : ℕ} {ε : EltTy} (m : Memref sig .tc .vmem (⟨3, ![1, 2048, N]⟩ : Shape) ε) (X : BufTy.Contents (Elt Ideal) m.view.ty)
    (off : Fin 3 → ℕ) (inb : ∀ a, off a + S1x256x128.size a ≤ (⟨3, ![1, 2048, N]⟩ : Shape).size a) (h : S1x256x128.ShapeCasts S256x128)
    (a b : ℕ) (ho : off = ![0, a, b]) (r : Fin 256) (d : Fin 128) (q : Fin 2048) (l : Fin N) (hq : q.val = a + r.val) (hl : l.val = b + d.val) :
    shapeCast S256x128 (m.view.readAt (Elt Ideal) (Rect.unit (s := (⟨3, ![1, 2048, N]⟩ : Shape)) off S1x256x128.size inb).toLoadRect X) h (ix2 r d)
      = m.view.read (Elt Ideal) X (ix3 0 q l) := by
  subst ho
  rw [cast_apply]
  refine congrArg (m.view.read (Elt Ideal) X) ?_
  funext a
  apply Fin.ext
  fin_cases a
  · rfl
  · show _ + 1 * r.val = q.val
    rw [hq, one_mul]; rfl
  · show _ + 1 * d.val = l.val
    rw [hl, one_mul]; rfl

/-- The row statistics of 256 queries. -/
theorem stat_apply (m : Memref sig .tc .vmem S1x2x8x2048 .f32) (X : BufTy.Contents (Elt Ideal) m.view.ty)
    (off : Fin 4 → ℕ) (inb : ∀ a, off a + S1x1x1x256.size a ≤ S1x2x8x2048.size a)
    (p s a : ℕ) (ho : off = ![0, p, s, a]) (r : Fin 256) (p' : Fin 2) (s' : Fin 8) (q : Fin 2048) (hp : p'.val = p) (hs : s'.val = s) (hq : q.val = a + r.val) :
    m.view.readAt (Elt Ideal) (Rect.unit (s := S1x2x8x2048) off S1x1x1x256.size inb).toLoadRect X (ix4 0 0 0 r) = m.view.read (Elt Ideal) X (ix4 0 p' s' q) := by
  subst ho
  show m.view.read (Elt Ideal) X _ = _
  congr 1
  idx_ext

theorem sums_apply (m : Memref sig .tc .vmem S2x8x2048 .f32) (X : BufTy.Contents (Elt Ideal) m.view.ty)
    (off : Fin 3 → ℕ) (inb : ∀ a, off a + S1x1x256.size a ≤ S2x8x2048.size a)
    (p s a : ℕ) (ho : off = ![p, s, a]) (r : Fin 256) (p' : Fin 2) (s' : Fin 8) (q : Fin 2048) (hp : p'.val = p) (hs : s'.val = s) (hq : q.val = a + r.val) :
    m.view.readAt (Elt Ideal) (Rect.unit (s := S2x8x2048) off S1x1x256.size inb).toLoadRect X (ix3 0 0 r) = m.view.read (Elt Ideal) X (ix3 p' s' q) := by
  subst ho
  show m.view.read (Elt Ideal) X _ = _
  congr 1
  idx_ext

/-- A head's block of the query gradient's scratch. -/
theorem scr_apply (m : Memref sig .tc .vmem S4x128x2048 .f32) (X : BufTy.Contents (Elt Ideal) m.view.ty)
    (off : Fin 3 → ℕ) (inb : ∀ a, off a + S1x128x256.size a ≤ S4x128x2048.size a)
    (p a : ℕ) (ho : off = ![p, 0, a]) (d : Fin 128) (r : Fin 256) (p' : Fin 4) (q : Fin 2048) (hp : p'.val = p) (hq : q.val = a + r.val) :
    m.view.readAt (Elt Ideal) (Rect.unit (s := S4x128x2048) off S1x128x256.size inb).toLoadRect X (ix3 0 d r) = m.view.read (Elt Ideal) X (ix3 p' d q) := by
  subst ho
  show m.view.read (Elt Ideal) X _ = _
  congr 1
  idx_ext

end Cert.KernelIdeal.Value

end
-- ==== Proof.Value.Inner.lean ====
/- The loop over the query blocks behind the diagonal: what one trip adds to the gradients of the key block,
   and to the scratch of the query gradient. -/
module

public import proofs.«01_k».proof.Proof.Value.Env

@[expose] public section

set_option maxRecDepth 16384
set_option maxHeartbeats 1000000

noncomputable section

namespace Cert.KernelIdeal.Value

open Cert.KernelIdeal Cert.KernelIdeal.Gen Cert.KernelIdeal.Body
open Idealize.ShloMosaic

variable (e : Env)

/-- The key block and the masked value block of a head. -/
def Env.kB (kb : KB) : Fin 4 → Kv := ![kvTrip.sl.v28 e.arg3 e.X3 kb, kvTrip.sl.v33 e.arg3 e.X3 kb, kvTrip.sl.v38 e.arg3 e.X3 kb, kvTrip.sl.v43 e.arg3 e.X3 kb]
def Env.vB (kb : KB) : Fin 4 → Kv := ![kvTrip.sl.v52 e.arg4 v0 e.X4 kb, kvTrip.sl.v55 e.arg4 v0 e.X4 kb, kvTrip.sl.v64 e.arg4 v0 e.X4 kb, kvTrip.sl.v67 e.arg4 v0 e.X4 kb]

abbrev QB (kb : KB) := Fin (k0_t3_loop kb).trips

/-- One trip's results and pieces, and the state after `n` trips. -/
abbrev Env.R3 (kb : KB) (j : QB kb) (a : Accs) (f : BufTy.Contents (Elt Ideal) e.arg14.view.ty) : Accs :=
  tripR_k0_t3 (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 kb (kvTrip.sl.arg16 kb) (kvTrip.sl.v28 e.arg3 e.X3 kb) (kvTrip.sl.v33 e.arg3 e.X3 kb) (kvTrip.sl.v38 e.arg3 e.X3 kb) (kvTrip.sl.v43 e.arg3 e.X3 kb) (kvTrip.sl.v52 e.arg4 v0 e.X4 kb) (kvTrip.sl.v55 e.arg4 v0 e.X4 kb) (kvTrip.sl.v64 e.arg4 v0 e.X4 kb) (kvTrip.sl.v67 e.arg4 v0 e.X4 kb) kvTrip.sl.v68 (kvTrip.sl.v73 e.arg2 e.X2 kb) (kvTrip.sl.v78 e.arg2 e.X2 kb) (kvTrip.sl.v83 e.arg2 e.X2 kb) (kvTrip.sl.v88 e.arg2 e.X2 kb) (kvTrip.sl.v93 e.arg5 e.X5 kb) (kvTrip.sl.v98 e.arg5 e.X5 kb) (kvTrip.sl.r_6 e.arg2 e.arg3 e.arg4 e.arg5 e.arg7 e.arg15 v0 e.X2 e.X3 e.X4 e.X5 e.X7 e.X15 kb) (kvTrip.sl.r_7 e.arg2 e.arg3 e.arg7 e.X2 e.X3 e.X7 kb) (kvTrip.sl.r_8 e.arg2 e.arg3 e.arg4 e.arg5 e.arg7 e.arg15 v0 e.X2 e.X3 e.X4 e.X5 e.X7 e.X15 kb) (kvTrip.sl.r_9 e.arg2 e.arg3 e.arg7 e.X2 e.X3 e.X7 kb) (kvTrip.sl.r_11 e.arg2 e.arg3 e.arg4 e.arg5 e.arg7 e.arg15 v0 e.X2 e.X3 e.X4 e.X5 e.X7 e.X15 kb) (kvTrip.sl.r_12 e.arg2 e.arg3 e.arg7 e.X2 e.X3 e.X7 kb) (kvTrip.sl.v229 e.arg2 e.arg3 e.arg4 e.arg5 e.arg7 e.arg15 v0 e.X2 e.X3 e.X4 e.X5 e.X7 e.X15 kb) (kvTrip.sl.v230 e.arg2 e.arg3 e.arg7 e.X2 e.X3 e.X7 kb) (kvTrip.sl.v24 kb) (kvTrip.sl.v291 kb) e.X2 e.X5 e.X7 e.X15 j a f
abbrev Env.L3 (kb : KB) (j : QB kb) (a : Accs) (f : BufTy.Contents (Elt Ideal) e.arg14.view.ty) : List (View.Piece (Elt Ideal) S4x128x2048 .f32) :=
  tripL_k0_t3 (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 kb (kvTrip.sl.arg16 kb) (kvTrip.sl.v28 e.arg3 e.X3 kb) (kvTrip.sl.v33 e.arg3 e.X3 kb) (kvTrip.sl.v38 e.arg3 e.X3 kb) (kvTrip.sl.v43 e.arg3 e.X3 kb) (kvTrip.sl.v52 e.arg4 v0 e.X4 kb) (kvTrip.sl.v55 e.arg4 v0 e.X4 kb) (kvTrip.sl.v64 e.arg4 v0 e.X4 kb) (kvTrip.sl.v67 e.arg4 v0 e.X4 kb) kvTrip.sl.v68 (kvTrip.sl.v73 e.arg2 e.X2 kb) (kvTrip.sl.v78 e.arg2 e.X2 kb) (kvTrip.sl.v83 e.arg2 e.X2 kb) (kvTrip.sl.v88 e.arg2 e.X2 kb) (kvTrip.sl.v93 e.arg5 e.X5 kb) (kvTrip.sl.v98 e.arg5 e.X5 kb) (kvTrip.sl.r_6 e.arg2 e.arg3 e.arg4 e.arg5 e.arg7 e.arg15 v0 e.X2 e.X3 e.X4 e.X5 e.X7 e.X15 kb) (kvTrip.sl.r_7 e.arg2 e.arg3 e.arg7 e.X2 e.X3 e.X7 kb) (kvTrip.sl.r_8 e.arg2 e.arg3 e.arg4 e.arg5 e.arg7 e.arg15 v0 e.X2 e.X3 e.X4 e.X5 e.X7 e.X15 kb) (kvTrip.sl.r_9 e.arg2 e.arg3 e.arg7 e.X2 e.X3 e.X7 kb) (kvTrip.sl.r_11 e.arg2 e.arg3 e.arg4 e.arg5 e.arg7 e.arg15 v0 e.X2 e.X3 e.X4 e.X5 e.X7 e.X15 kb) (kvTrip.sl.r_12 e.arg2 e.arg3 e.arg7 e.X2 e.X3 e.X7 kb) (kvTrip.sl.v229 e.arg2 e.arg3 e.arg4 e.arg5 e.arg7 e.arg15 v0 e.X2 e.X3 e.X4 e.X5 e.X7 e.X15 kb) (kvTrip.sl.v230 e.arg2 e.arg3 e.arg7 e.X2 e.X3 e.X7 kb) (kvTrip.sl.v24 kb) (kvTrip.sl.v291 kb) e.X2 e.X5 e.X7 e.X15 j a f
abbrev Env.st3 (kb : KB) (G : BufTy.Contents (Elt Ideal) e.arg14.view.ty) (a : Accs) (n : ℕ) : Accs × List (View.Piece (Elt Ideal) S4x128x2048 .f32) :=
  st_k0_t3 (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 kb (kvTrip.sl.arg16 kb) (kvTrip.sl.v28 e.arg3 e.X3 kb) (kvTrip.sl.v33 e.arg3 e.X3 kb) (kvTrip.sl.v38 e.arg3 e.X3 kb) (kvTrip.sl.v43 e.arg3 e.X3 kb) (kvTrip.sl.v52 e.arg4 v0 e.X4 kb) (kvTrip.sl.v55 e.arg4 v0 e.X4 kb) (kvTrip.sl.v64 e.arg4 v0 e.X4 kb) (kvTrip.sl.v67 e.arg4 v0 e.X4 kb) kvTrip.sl.v68 (kvTrip.sl.v73 e.arg2 e.X2 kb) (kvTrip.sl.v78 e.arg2 e.X2 kb) (kvTrip.sl.v83 e.arg2 e.X2 kb) (kvTrip.sl.v88 e.arg2 e.X2 kb) (kvTrip.sl.v93 e.arg5 e.X5 kb) (kvTrip.sl.v98 e.arg5 e.X5 kb) (kvTrip.sl.r_6 e.arg2 e.arg3 e.arg4 e.arg5 e.arg7 e.arg15 v0 e.X2 e.X3 e.X4 e.X5 e.X7 e.X15 kb) (kvTrip.sl.r_7 e.arg2 e.arg3 e.arg7 e.X2 e.X3 e.X7 kb) (kvTrip.sl.r_8 e.arg2 e.arg3 e.arg4 e.arg5 e.arg7 e.arg15 v0 e.X2 e.X3 e.X4 e.X5 e.X7 e.X15 kb) (kvTrip.sl.r_9 e.arg2 e.arg3 e.arg7 e.X2 e.X3 e.X7 kb) (kvTrip.sl.r_11 e.arg2 e.arg3 e.arg4 e.arg5 e.arg7 e.arg15 v0 e.X2 e.X3 e.X4 e.X5 e.X7 e.X15 kb) (kvTrip.sl.r_12 e.arg2 e.arg3 e.arg7 e.X2 e.X3 e.X7 kb) (kvTrip.sl.v229 e.arg2 e.arg3 e.arg4 e.arg5 e.arg7 e.arg15 v0 e.X2 e.X3 e.X4 e.X5 e.X7 e.X15 kb) (kvTrip.sl.v230 e.arg2 e.arg3 e.arg7 e.X2 e.X3 e.X7 kb) (kvTrip.sl.v24 kb) (kvTrip.sl.v291 kb) e.X2 e.X5 e.X7 e.X15 G a n

theorem Env.st3_succ (kb : KB) (G a) (j : QB kb) :
    e.st3 kb G a (j.val + 1) = (e.R3 kb j (e.st3 kb G a j.val).1 (e.arg14.view.writes (Elt Ideal) G (e.st3 kb G a j.val).2),
      e.L3 kb j (e.st3 kb G a j.val).1 (e.arg14.view.writes (Elt Ideal) G (e.st3 kb G a j.val).2) ++ (e.st3 kb G a j.val).2) :=
  st_k0_t3_succ (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 kb (kvTrip.sl.arg16 kb) (kvTrip.sl.v28 e.arg3 e.X3 kb) (kvTrip.sl.v33 e.arg3 e.X3 kb) (kvTrip.sl.v38 e.arg3 e.X3 kb) (kvTrip.sl.v43 e.arg3 e.X3 kb) (kvTrip.sl.v52 e.arg4 v0 e.X4 kb) (kvTrip.sl.v55 e.arg4 v0 e.X4 kb) (kvTrip.sl.v64 e.arg4 v0 e.X4 kb) (kvTrip.sl.v67 e.arg4 v0 e.X4 kb) kvTrip.sl.v68 (kvTrip.sl.v73 e.arg2 e.X2 kb) (kvTrip.sl.v78 e.arg2 e.X2 kb) (kvTrip.sl.v83 e.arg2 e.X2 kb) (kvTrip.sl.v88 e.arg2 e.X2 kb) (kvTrip.sl.v93 e.arg5 e.X5 kb) (kvTrip.sl.v98 e.arg5 e.X5 kb) (kvTrip.sl.r_6 e.arg2 e.arg3 e.arg4 e.arg5 e.arg7 e.arg15 v0 e.X2 e.X3 e.X4 e.X5 e.X7 e.X15 kb) (kvTrip.sl.r_7 e.arg2 e.arg3 e.arg7 e.X2 e.X3 e.X7 kb) (kvTrip.sl.r_8 e.arg2 e.arg3 e.arg4 e.arg5 e.arg7 e.arg15 v0 e.X2 e.X3 e.X4 e.X5 e.X7 e.X15 kb) (kvTrip.sl.r_9 e.arg2 e.arg3 e.arg7 e.X2 e.X3 e.X7 kb) (kvTrip.sl.r_11 e.arg2 e.arg3 e.arg4 e.arg5 e.arg7 e.arg15 v0 e.X2 e.X3 e.X4 e.X5 e.X7 e.X15 kb) (kvTrip.sl.r_12 e.arg2 e.arg3 e.arg7 e.X2 e.X3 e.X7 kb) (kvTrip.sl.v229 e.arg2 e.arg3 e.arg4 e.arg5 e.arg7 e.arg15 v0 e.X2 e.X3 e.X4 e.X5 e.X7 e.X15 kb) (kvTrip.sl.v230 e.arg2 e.arg3 e.arg7 e.X2 e.X3 e.X7 kb) (kvTrip.sl.v24 kb) (kvTrip.sl.v291 kb) e.X2 e.X5 e.X7 e.X15 G a j

/-- The query block of a trip, and its rows of the statistics. -/
def Env.q3 (kb : KB) (j : QB kb) : Fin 4 → Kv := ![trip_k0_t3.sl.v351 e.arg2 kb e.X2 j, trip_k0_t3.sl.v356 e.arg2 kb e.X2 j, trip_k0_t3.sl.v361 e.arg2 kb e.X2 j, trip_k0_t3.sl.v366 e.arg2 kb e.X2 j]
def Env.d3 (kb : KB) (j : QB kb) : Fin 4 → Kv := ![trip_k0_t3.sl.v371 e.arg5 kb e.X5 j, trip_k0_t3.sl.v371 e.arg5 kb e.X5 j, trip_k0_t3.sl.v376 e.arg5 kb e.X5 j, trip_k0_t3.sl.v376 e.arg5 kb e.X5 j]
def Env.l3 (kb : KB) (j : QB kb) : Fin 4 → Stat := ![e.arg7.view.readAt (Elt Ideal) (Rect.unit (s := S1x2x8x2048) (k0_off29 kb j) S1x1x1x256.size (k0_off29_inb kb j)).toLoadRect e.X7, e.arg7.view.readAt (Elt Ideal) (Rect.unit (s := S1x2x8x2048) (k0_off31 kb j) S1x1x1x256.size (k0_off31_inb kb j)).toLoadRect e.X7, e.arg7.view.readAt (Elt Ideal) (Rect.unit (s := S1x2x8x2048) (k0_off33 kb j) S1x1x1x256.size (k0_off33_inb kb j)).toLoadRect e.X7, e.arg7.view.readAt (Elt Ideal) (Rect.unit (s := S1x2x8x2048) (k0_off35 kb j) S1x1x1x256.size (k0_off35_inb kb j)).toLoadRect e.X7]
def Env.s3 (kb : KB) (j : QB kb) : Fin 4 → Sums := ![e.arg15.view.readAt (Elt Ideal) (Rect.unit (s := S2x8x2048) (k0_off30 kb j) S1x1x256.size (k0_off30_inb kb j)).toLoadRect e.X15, e.arg15.view.readAt (Elt Ideal) (Rect.unit (s := S2x8x2048) (k0_off32 kb j) S1x1x256.size (k0_off32_inb kb j)).toLoadRect e.X15, e.arg15.view.readAt (Elt Ideal) (Rect.unit (s := S2x8x2048) (k0_off34 kb j) S1x1x256.size (k0_off34_inb kb j)).toLoadRect e.X15, e.arg15.view.readAt (Elt Ideal) (Rect.unit (s := S2x8x2048) (k0_off36 kb j) S1x1x256.size (k0_off36_inb kb j)).toLoadRect e.X15]
def Env.o3 (kb : KB) (j : QB kb) (f : BufTy.Contents (Elt Ideal) e.arg14.view.ty) : Fin 4 → FVec Ideal S1x128x256 .f32 := ![(e.arg14.view.readAt (Elt Ideal) (Rect.unit (s := S4x128x2048) (k0_off37 kb j) S1x128x256.size (k0_off37_inb kb j)).toLoadRect f), (e.arg14.view.readAt (Elt Ideal) (Rect.unit (s := S4x128x2048) (k0_off38 kb j) S1x128x256.size (k0_off38_inb kb j)).toLoadRect f), (e.arg14.view.readAt (Elt Ideal) (Rect.unit (s := S4x128x2048) (k0_off39 kb j) S1x128x256.size (k0_off39_inb kb j)).toLoadRect f), (e.arg14.view.readAt (Elt Ideal) (Rect.unit (s := S4x128x2048) (k0_off40 kb j) S1x128x256.size (k0_off40_inb kb j)).toLoadRect f)]
def Env.ds3 (kb : KB) (j : QB kb) (h : Fin 4) := dsB (e.kB kb h) (e.vB kb h) (e.q3 kb j h) (e.d3 kb j h) (e.l3 kb j h) (e.s3 kb j h)

theorem Env.R3_dk (kb : KB) (j : QB kb) (a f) (h : Fin 4) :
    dkAcc (e.R3 kb j a f) h = accAdd (dkAcc a h) (e.q3 kb j h) (e.ds3 kb j h) := by
  unfold Env.R3 tripR_k0_t3 trip_k0_t3
  fin_cases h <;> rfl

theorem Env.R3_dv (kb : KB) (j : QB kb) (a f) (h : Fin 4) :
    dvAcc (e.R3 kb j a f) h = accAdd (dvAcc a h) (e.d3 kb j h) (pB (e.kB kb h) (e.q3 kb j h) (e.l3 kb j h)) := by
  unfold Env.R3 tripR_k0_t3 trip_k0_t3
  fin_cases h <;> rfl

theorem Env.L3_eq (kb : KB) (j : QB kb) (a f) :
    e.L3 kb j a f = [⟨Rect.unit (k0_off40 kb j) S1x128x256.size (k0_off40_inb kb j), scrAdd (e.kB kb 3) (e.ds3 kb j 3) (e.o3 kb j f 3)⟩, ⟨Rect.unit (k0_off39 kb j) S1x128x256.size (k0_off39_inb kb j), scrAdd (e.kB kb 2) (e.ds3 kb j 2) (e.o3 kb j f 2)⟩, ⟨Rect.unit (k0_off38 kb j) S1x128x256.size (k0_off38_inb kb j), scrAdd (e.kB kb 1) (e.ds3 kb j 1) (e.o3 kb j f 1)⟩, ⟨Rect.unit (k0_off37 kb j) S1x128x256.size (k0_off37_inb kb j), scrAdd (e.kB kb 0) (e.ds3 kb j 0) (e.o3 kb j f 0)⟩] := by
  unfold Env.L3 tripL_k0_t3 trip_k0_t3
  rfl

end Cert.KernelIdeal.Value

end
-- ==== Proof.Value.Diag.lean ====
/- One trip of the key-block loop: the block on the diagonal, the blocks behind it, and what is stored. -/
module

public import proofs.«01_k».proof.Proof.Value.Inner

@[expose] public section

set_option maxRecDepth 16384
set_option maxHeartbeats 1000000

noncomputable section

namespace Cert.KernelIdeal.Value

open Cert.KernelIdeal Cert.KernelIdeal.Gen Cert.KernelIdeal.Body
open Idealize.ShloMosaic

variable (e : Env)

/-- The diagonal's query block, and its rows of the statistics. -/
def Env.qD (kb : KB) : Fin 4 → Kv := ![kvTrip.sl.v73 e.arg2 e.X2 kb, kvTrip.sl.v78 e.arg2 e.X2 kb, kvTrip.sl.v83 e.arg2 e.X2 kb, kvTrip.sl.v88 e.arg2 e.X2 kb]
def Env.dD (kb : KB) : Fin 4 → Kv := ![kvTrip.sl.v93 e.arg5 e.X5 kb, kvTrip.sl.v93 e.arg5 e.X5 kb, kvTrip.sl.v98 e.arg5 e.X5 kb, kvTrip.sl.v98 e.arg5 e.X5 kb]
def Env.lD (kb : KB) : Fin 4 → Stat := ![e.arg7.view.readAt (Elt Ideal) (Rect.unit (s := S1x2x8x2048) (k0_off11 kb) S1x1x1x256.size (k0_off11_inb kb)).toLoadRect e.X7, e.arg7.view.readAt (Elt Ideal) (Rect.unit (s := S1x2x8x2048) (k0_off13 kb) S1x1x1x256.size (k0_off13_inb kb)).toLoadRect e.X7, e.arg7.view.readAt (Elt Ideal) (Rect.unit (s := S1x2x8x2048) (k0_off15 kb) S1x1x1x256.size (k0_off15_inb kb)).toLoadRect e.X7, e.arg7.view.readAt (Elt Ideal) (Rect.unit (s := S1x2x8x2048) (k0_off17 kb) S1x1x1x256.size (k0_off17_inb kb)).toLoadRect e.X7]
def Env.sD (kb : KB) : Fin 4 → Sums := ![e.arg15.view.readAt (Elt Ideal) (Rect.unit (s := S2x8x2048) (k0_off12 kb) S1x1x256.size (k0_off12_inb kb)).toLoadRect e.X15, e.arg15.view.readAt (Elt Ideal) (Rect.unit (s := S2x8x2048) (k0_off14 kb) S1x1x256.size (k0_off14_inb kb)).toLoadRect e.X15, e.arg15.view.readAt (Elt Ideal) (Rect.unit (s := S2x8x2048) (k0_off16 kb) S1x1x256.size (k0_off16_inb kb)).toLoadRect e.X15, e.arg15.view.readAt (Elt Ideal) (Rect.unit (s := S2x8x2048) (k0_off18 kb) S1x1x256.size (k0_off18_inb kb)).toLoadRect e.X15]
def Env.oD (kb : KB) (f : BufTy.Contents (Elt Ideal) e.arg14.view.ty) : Fin 4 → FVec Ideal S1x128x256 .f32 := ![(e.arg14.view.readAt (Elt Ideal) (Rect.unit (s := S4x128x2048) (k0_off19 kb) S1x128x256.size (k0_off19_inb kb)).toLoadRect f), (e.arg14.view.readAt (Elt Ideal) (Rect.unit (s := S4x128x2048) (k0_off20 kb) S1x128x256.size (k0_off20_inb kb)).toLoadRect f), (e.arg14.view.readAt (Elt Ideal) (Rect.unit (s := S4x128x2048) (k0_off21 kb) S1x128x256.size (k0_off21_inb kb)).toLoadRect f), (e.arg14.view.readAt (Elt Ideal) (Rect.unit (s := S4x128x2048) (k0_off22 kb) S1x128x256.size (k0_off22_inb kb)).toLoadRect f)]
def Env.dsD (kb : KB) (h : Fin 4) := dsM (kvTrip.sl.arg16 kb) (e.kB kb h) (e.vB kb h) (e.qD kb h) (e.dD kb h) (e.lD kb h) (e.sD kb h)
def Env.pD (kb : KB) (h : Fin 4) := pM (kvTrip.sl.arg16 kb) (e.kB kb h) (e.qD kb h) (e.lD kb h)

/-- The diagonal's pieces of the scratch, and the accumulators behind it. -/
def Env.P14 (kb : KB) (f : BufTy.Contents (Elt Ideal) e.arg14.view.ty) : List (View.Piece (Elt Ideal) S4x128x2048 .f32) :=
  [⟨Rect.unit (k0_off22 kb) S1x128x256.size (k0_off22_inb kb), k0_pay111 (kvTrip.sl.v43 e.arg3 e.X3 kb) (kvTrip.sl.v229 e.arg2 e.arg3 e.arg4 e.arg5 e.arg7 e.arg15 v0 e.X2 e.X3 e.X4 e.X5 e.X7 e.X15 kb) (kvTrip.sl.v267 e.arg14 kb f)⟩,
   ⟨Rect.unit (k0_off21 kb) S1x128x256.size (k0_off21_inb kb), kvTrip.sl.v263 e.arg2 e.arg3 e.arg4 e.arg5 e.arg7 e.arg14 e.arg15 v0 e.X2 e.X3 e.X4 e.X5 e.X7 e.X15 kb f⟩, ⟨Rect.unit (k0_off20 kb) S1x128x256.size (k0_off20_inb kb), kvTrip.sl.v252 e.arg2 e.arg3 e.arg4 e.arg5 e.arg7 e.arg14 e.arg15 v0 e.X2 e.X3 e.X4 e.X5 e.X7 e.X15 kb f⟩, ⟨Rect.unit (k0_off19 kb) S1x128x256.size (k0_off19_inb kb), kvTrip.sl.v241 e.arg2 e.arg3 e.arg4 e.arg5 e.arg7 e.arg14 e.arg15 v0 e.X2 e.X3 e.X4 e.X5 e.X7 e.X15 kb f⟩]
theorem Env.P14_eq (kb : KB) (f) : e.P14 kb f =
  [⟨Rect.unit (k0_off22 kb) S1x128x256.size (k0_off22_inb kb), scrAdd (e.kB kb 3) (e.dsD kb 3) (e.oD kb f 3)⟩, ⟨Rect.unit (k0_off21 kb) S1x128x256.size (k0_off21_inb kb), scrAdd (e.kB kb 2) (e.dsD kb 2) (e.oD kb f 2)⟩, ⟨Rect.unit (k0_off20 kb) S1x128x256.size (k0_off20_inb kb), scrAdd (e.kB kb 1) (e.dsD kb 1) (e.oD kb f 1)⟩, ⟨Rect.unit (k0_off19 kb) S1x128x256.size (k0_off19_inb kb), scrAdd (e.kB kb 0) (e.dsD kb 0) (e.oD kb f 0)⟩] := rfl
def Env.dkD (kb : KB) (h : Fin 4) : Acc := accAdd kvTrip.sl.v68 (e.qD kb h) (e.dsD kb h)
def Env.dvD (kb : KB) (h : Fin 4) : Acc := accAdd kvTrip.sl.v68 (e.dD kb h) (e.pD kb h)
def Env.aD (kb : KB) : Accs := (k0_pay112 kvTrip.sl.v68 (kvTrip.sl.v73 e.arg2 e.X2 kb) (kvTrip.sl.r_6 e.arg2 e.arg3 e.arg4 e.arg5 e.arg7 e.arg15 v0 e.X2 e.X3 e.X4 e.X5 e.X7 e.X15 kb), k0_pay113 kvTrip.sl.v68 (kvTrip.sl.v78 e.arg2 e.X2 kb) (kvTrip.sl.r_8 e.arg2 e.arg3 e.arg4 e.arg5 e.arg7 e.arg15 v0 e.X2 e.X3 e.X4 e.X5 e.X7 e.X15 kb), k0_pay114 kvTrip.sl.v68 (kvTrip.sl.v83 e.arg2 e.X2 kb) (kvTrip.sl.r_11 e.arg2 e.arg3 e.arg4 e.arg5 e.arg7 e.arg15 v0 e.X2 e.X3 e.X4 e.X5 e.X7 e.X15 kb), k0_pay115 kvTrip.sl.v68 (kvTrip.sl.v88 e.arg2 e.X2 kb) (kvTrip.sl.v229 e.arg2 e.arg3 e.arg4 e.arg5 e.arg7 e.arg15 v0 e.X2 e.X3 e.X4 e.X5 e.X7 e.X15 kb), k0_pay116 kvTrip.sl.v68 (kvTrip.sl.v93 e.arg5 e.X5 kb) (kvTrip.sl.r_7 e.arg2 e.arg3 e.arg7 e.X2 e.X3 e.X7 kb), k0_pay117 kvTrip.sl.v68 (kvTrip.sl.v93 e.arg5 e.X5 kb) (kvTrip.sl.r_9 e.arg2 e.arg3 e.arg7 e.X2 e.X3 e.X7 kb), k0_pay118 kvTrip.sl.v68 (kvTrip.sl.v98 e.arg5 e.X5 kb) (kvTrip.sl.r_12 e.arg2 e.arg3 e.arg7 e.X2 e.X3 e.X7 kb), k0_pay119 kvTrip.sl.v68 (kvTrip.sl.v98 e.arg5 e.X5 kb) (kvTrip.sl.v230 e.arg2 e.arg3 e.arg7 e.X2 e.X3 e.X7 kb))
theorem Env.dkAcc_aD (kb : KB) (h : Fin 4) : dkAcc (e.aD kb) h = e.dkD kb h := by fin_cases h <;> rfl
theorem Env.dvAcc_aD (kb : KB) (h : Fin 4) : dvAcc (e.aD kb) h = e.dvD kb h := by fin_cases h <;> rfl

/-- The state behind all query blocks. -/
abbrev Env.S3 (kb : KB) (f : BufTy.Contents (Elt Ideal) e.arg14.view.ty) : Accs × List (View.Piece (Elt Ideal) S4x128x2048 .f32) :=
  e.st3 kb (e.arg14.view.writes (Elt Ideal) f (e.P14 kb f)) (e.aD kb) (k0_t3_loop kb).trips

/-- The remainder loop makes no trip. -/
theorem trips4 : ∀ kb : KB, (k0_t4_loop kb).trips = 0 := fun kb => Nat.le_zero.1 (k0_t4_abs kb).2.1

abbrev Env.S4 (kb : KB) (G : BufTy.Contents (Elt Ideal) e.arg14.view.ty) (a : Accs) (n : ℕ) : Accs × List (View.Piece (Elt Ideal) S4x128x2048 .f32) :=
  st_k0_t4 (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 kb (kvTrip.sl.arg16 kb) (kvTrip.sl.v28 e.arg3 e.X3 kb) (kvTrip.sl.v33 e.arg3 e.X3 kb) (kvTrip.sl.v38 e.arg3 e.X3 kb) (kvTrip.sl.v43 e.arg3 e.X3 kb) (kvTrip.sl.v52 e.arg4 v0 e.X4 kb) (kvTrip.sl.v55 e.arg4 v0 e.X4 kb) (kvTrip.sl.v64 e.arg4 v0 e.X4 kb) (kvTrip.sl.v67 e.arg4 v0 e.X4 kb) kvTrip.sl.v68 (kvTrip.sl.v73 e.arg2 e.X2 kb) (kvTrip.sl.v78 e.arg2 e.X2 kb) (kvTrip.sl.v83 e.arg2 e.X2 kb) (kvTrip.sl.v88 e.arg2 e.X2 kb) (kvTrip.sl.v93 e.arg5 e.X5 kb) (kvTrip.sl.v98 e.arg5 e.X5 kb) (kvTrip.sl.r_6 e.arg2 e.arg3 e.arg4 e.arg5 e.arg7 e.arg15 v0 e.X2 e.X3 e.X4 e.X5 e.X7 e.X15 kb) (kvTrip.sl.r_7 e.arg2 e.arg3 e.arg7 e.X2 e.X3 e.X7 kb) (kvTrip.sl.r_8 e.arg2 e.arg3 e.arg4 e.arg5 e.arg7 e.arg15 v0 e.X2 e.X3 e.X4 e.X5 e.X7 e.X15 kb) (kvTrip.sl.r_9 e.arg2 e.arg3 e.arg7 e.X2 e.X3 e.X7 kb) (kvTrip.sl.r_11 e.arg2 e.arg3 e.arg4 e.arg5 e.arg7 e.arg15 v0 e.X2 e.X3 e.X4 e.X5 e.X7 e.X15 kb) (kvTrip.sl.r_12 e.arg2 e.arg3 e.arg7 e.X2 e.X3 e.X7 kb) (kvTrip.sl.v229 e.arg2 e.arg3 e.arg4 e.arg5 e.arg7 e.arg15 v0 e.X2 e.X3 e.X4 e.X5 e.X7 e.X15 kb) (kvTrip.sl.v230 e.arg2 e.arg3 e.arg7 e.X2 e.X3 e.X7 kb) (kvTrip.sl.v24 kb) 8#32 e.X2 e.X5 e.X7 e.X15 G a n
abbrev Env.S4' (kb : KB) (f : BufTy.Contents (Elt Ideal) e.arg14.view.ty) : Accs × List (View.Piece (Elt Ideal) S4x128x2048 .f32) :=
  e.S4 kb (e.arg14.view.writes (Elt Ideal) f ((e.S3 kb f).2 ++ e.P14 kb f)) (e.S3 kb f).1 (k0_t4_loop kb).trips

theorem Env.S4'_eq (kb : KB) (f) : e.S4' kb f = ((e.S3 kb f).1, []) := by
  unfold Env.S4'
  rw [trips4 kb]
  rfl

/-- What is stored of a head's key gradient, and of a pair's value gradient. -/
def dkOut (a : Acc) : FVec Ideal S1x256x128 .bf16 := shapeCast S1x256x128 (truncf .bf16 a (by decide)) (by decide)
def dvOut (a b : Acc) : FVec Ideal S1x256x128 .bf16 := k0_pay4 (truncf .bf16 (select (kvTrip.sl.v328 v0) a b) (by decide))

abbrev Env.T (kb : KB) := kvTrip (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 v0 e.X2 e.X3 e.X4 e.X5 e.X7 e.X15 kb

section
attribute [local irreducible] st_k0_t3 st_k0_t4 Scf.trips View.writes

theorem Env.T12_aux (kb : KB) (f) : (e.T kb).1 f = [⟨Rect.unit (k0_off8 kb) S1x256x128.size (k0_off8_inb kb), dkOut (dkAcc (e.S4' kb f).1 3)⟩, ⟨Rect.unit (k0_off7 kb) S1x256x128.size (k0_off7_inb kb), dkOut (dkAcc (e.S4' kb f).1 2)⟩, ⟨Rect.unit (k0_off6 kb) S1x256x128.size (k0_off6_inb kb), dkOut (dkAcc (e.S4' kb f).1 1)⟩, ⟨Rect.unit (k0_off5 kb) S1x256x128.size (k0_off5_inb kb), dkOut (dkAcc (e.S4' kb f).1 0)⟩] := by
  unfold Env.T kvTrip
  rfl
theorem Env.T13_aux (kb : KB) (f) : (e.T kb).2.1 f = [⟨Rect.unit (k0_off10 kb) S1x256x128.size (k0_off10_inb kb), dvOut (dvAcc (e.S4' kb f).1 2) (dvAcc (e.S4' kb f).1 3)⟩, ⟨Rect.unit (k0_off9 kb) S1x256x128.size (k0_off9_inb kb), dvOut (dvAcc (e.S4' kb f).1 0) (dvAcc (e.S4' kb f).1 1)⟩] := by
  unfold Env.T kvTrip
  rfl
theorem Env.T14_aux (kb : KB) (f) : (e.T kb).2.2.1 f = (e.S4' kb f).2 ++ ((e.S3 kb f).2 ++ e.P14 kb f) := by
  unfold Env.T kvTrip
  rfl

end

theorem Env.T12 (kb : KB) (f) : (e.T kb).1 f = [⟨Rect.unit (k0_off8 kb) S1x256x128.size (k0_off8_inb kb), dkOut (dkAcc (e.S3 kb f).1 3)⟩, ⟨Rect.unit (k0_off7 kb) S1x256x128.size (k0_off7_inb kb), dkOut (dkAcc (e.S3 kb f).1 2)⟩, ⟨Rect.unit (k0_off6 kb) S1x256x128.size (k0_off6_inb kb), dkOut (dkAcc (e.S3 kb f).1 1)⟩, ⟨Rect.unit (k0_off5 kb) S1x256x128.size (k0_off5_inb kb), dkOut (dkAcc (e.S3 kb f).1 0)⟩] := by
  rw [Env.T12_aux, Env.S4'_eq]
theorem Env.T13 (kb : KB) (f) : (e.T kb).2.1 f = [⟨Rect.unit (k0_off10 kb) S1x256x128.size (k0_off10_inb kb), dvOut (dvAcc (e.S3 kb f).1 2) (dvAcc (e.S3 kb f).1 3)⟩, ⟨Rect.unit (k0_off9 kb) S1x256x128.size (k0_off9_inb kb), dvOut (dvAcc (e.S3 kb f).1 0) (dvAcc (e.S3 kb f).1 1)⟩] := by
  rw [Env.T13_aux, Env.S4'_eq]
theorem Env.T14 (kb : KB) (f) : (e.T kb).2.2.1 f = (e.S3 kb f).2 ++ e.P14 kb f := by
  rw [Env.T14_aux, Env.S4'_eq]
  rfl

end Cert.KernelIdeal.Value

end
-- ==== Proof.Value.Elem.lean ====
/- The blocks of one trip, read at a row and a lane: the score, its share and the share's gradient of a key and a query. -/
module

public import proofs.«01_k».proof.Proof.Value.Diag

@[expose] public section

set_option maxRecDepth 16384
set_option maxHeartbeats 1000000

noncomputable section

namespace Cert.KernelIdeal.Value

open Cert.KernelIdeal Cert.KernelIdeal.Gen Cert.KernelIdeal.Body
open Idealize.ShloMosaic

variable (e : Env)

theorem QB.lt (kb : KB) (j : QB kb) : kb.val + 1 + j.val < 8 := by
  have h1 := j.isLt
  have h2 := trips3 kb
  omega

/-- The rows of the trip's query block. -/
abbrev qrow (kb : KB) (j : QB kb) (c : Fin 256) : Fin 2048 := row (kb.val + 1 + j.val) (QB.lt kb j) c
abbrev krow (kb : KB) (r : Fin 256) : Fin 2048 := row kb.val (KB.lt kb) r

theorem Env.kB_apply (kb : KB) (h : Fin 4) (r : Fin 256) (d : Fin 128) : e.kB kb h (ix2 r d) = e.K h (krow kb r) d := by
  fin_cases h <;> [refine load_apply e.arg3 e.X3 _ _ _ _ _ (k0_off5_eq kb) r d _ _ ?_ ?_; refine load_apply e.arg3 e.X3 _ _ _ _ _ (k0_off6_eq kb) r d _ _ ?_ ?_; refine load_apply e.arg3 e.X3 _ _ _ _ _ (k0_off7_eq kb) r d _ _ ?_ ?_; refine load_apply e.arg3 e.X3 _ _ _ _ _ (k0_off8_eq kb) r d _ _ ?_ ?_] <;> simp [krow, row, lane4]

theorem Env.qD_apply (kb : KB) (h : Fin 4) (r : Fin 256) (d : Fin 128) : e.qD kb h (ix2 r d) = e.Q h (krow kb r) d := by
  fin_cases h <;> [refine load_apply e.arg2 e.X2 _ _ _ _ _ (k0_off5_eq kb) r d _ _ ?_ ?_; refine load_apply e.arg2 e.X2 _ _ _ _ _ (k0_off6_eq kb) r d _ _ ?_ ?_; refine load_apply e.arg2 e.X2 _ _ _ _ _ (k0_off7_eq kb) r d _ _ ?_ ?_; refine load_apply e.arg2 e.X2 _ _ _ _ _ (k0_off8_eq kb) r d _ _ ?_ ?_] <;> simp [krow, row, lane4]

theorem Env.dD_apply (kb : KB) (h : Fin 4) (r : Fin 256) (d : Fin 128) : e.dD kb h (ix2 r d) = e.DO (pr h) (krow kb r) d := by
  fin_cases h <;> [refine load_apply e.arg5 e.X5 _ _ _ _ _ (k0_off9_eq kb) r d _ _ ?_ ?_; refine load_apply e.arg5 e.X5 _ _ _ _ _ (k0_off9_eq kb) r d _ _ ?_ ?_; refine load_apply e.arg5 e.X5 _ _ _ _ _ (k0_off10_eq kb) r d _ _ ?_ ?_; refine load_apply e.arg5 e.X5 _ _ _ _ _ (k0_off10_eq kb) r d _ _ ?_ ?_] <;> simp [krow, row, lane2, pr]

theorem Env.lD_apply (kb : KB) (h : Fin 4) (r : Fin 256) : e.lD kb h (ix4 0 0 0 r) = e.L h (krow kb r) := by
  fin_cases h <;> [refine stat_apply e.arg7 e.X7 _ _ _ _ _ (k0_off11_eq kb) r _ _ _ ?_ ?_ ?_; refine stat_apply e.arg7 e.X7 _ _ _ _ _ (k0_off13_eq kb) r _ _ _ ?_ ?_ ?_; refine stat_apply e.arg7 e.X7 _ _ _ _ _ (k0_off15_eq kb) r _ _ _ ?_ ?_ ?_; refine stat_apply e.arg7 e.X7 _ _ _ _ _ (k0_off17_eq kb) r _ _ _ ?_ ?_ ?_] <;> simp [krow, row, pr, sd]

theorem Env.sD_apply (kb : KB) (h : Fin 4) (r : Fin 256) : e.sD kb h (ix3 0 0 r) = e.S h (krow kb r) := by
  fin_cases h <;> [refine sums_apply e.arg15 e.X15 _ _ _ _ _ (k0_off12_eq kb) r _ _ _ ?_ ?_ ?_; refine sums_apply e.arg15 e.X15 _ _ _ _ _ (k0_off14_eq kb) r _ _ _ ?_ ?_ ?_; refine sums_apply e.arg15 e.X15 _ _ _ _ _ (k0_off16_eq kb) r _ _ _ ?_ ?_ ?_; refine sums_apply e.arg15 e.X15 _ _ _ _ _ (k0_off18_eq kb) r _ _ _ ?_ ?_ ?_] <;> simp [krow, row, pr, sd]

theorem Env.oD_apply (kb : KB) (f) (h : Fin 4) (d : Fin 128) (r : Fin 256) : e.oD kb f h (ix3 0 d r) = e.arg14.view.read (Elt Ideal) f (ix3 h d (krow kb r)) := by
  fin_cases h <;> [refine scr_apply e.arg14 f _ _ _ _ (k0_off19_eq kb) d r _ _ ?_ ?_; refine scr_apply e.arg14 f _ _ _ _ (k0_off20_eq kb) d r _ _ ?_ ?_; refine scr_apply e.arg14 f _ _ _ _ (k0_off21_eq kb) d r _ _ ?_ ?_; refine scr_apply e.arg14 f _ _ _ _ (k0_off22_eq kb) d r _ _ ?_ ?_] <;> simp [krow, row]

theorem Env.q3_apply (kb : KB) (j : QB kb) (h : Fin 4) (r : Fin 256) (d : Fin 128) : e.q3 kb j h (ix2 r d) = e.Q h (qrow kb j r) d := by
  fin_cases h <;> [refine load_apply e.arg2 e.X2 _ _ _ _ _ (k0_off23_eq kb j) r d _ _ ?_ ?_; refine load_apply e.arg2 e.X2 _ _ _ _ _ (k0_off24_eq kb j) r d _ _ ?_ ?_; refine load_apply e.arg2 e.X2 _ _ _ _ _ (k0_off25_eq kb j) r d _ _ ?_ ?_; refine load_apply e.arg2 e.X2 _ _ _ _ _ (k0_off26_eq kb j) r d _ _ ?_ ?_] <;> simp [qrow, row, lane4] <;> omega

theorem Env.d3_apply (kb : KB) (j : QB kb) (h : Fin 4) (r : Fin 256) (d : Fin 128) : e.d3 kb j h (ix2 r d) = e.DO (pr h) (qrow kb j r) d := by
  fin_cases h <;> [refine load_apply e.arg5 e.X5 _ _ _ _ _ (k0_off27_eq kb j) r d _ _ ?_ ?_; refine load_apply e.arg5 e.X5 _ _ _ _ _ (k0_off27_eq kb j) r d _ _ ?_ ?_; refine load_apply e.arg5 e.X5 _ _ _ _ _ (k0_off28_eq kb j) r d _ _ ?_ ?_; refine load_apply e.arg5 e.X5 _ _ _ _ _ (k0_off28_eq kb j) r d _ _ ?_ ?_] <;> simp [qrow, row, lane2, pr] <;> omega

theorem Env.l3_apply (kb : KB) (j : QB kb) (h : Fin 4) (r : Fin 256) : e.l3 kb j h (ix4 0 0 0 r) = e.L h (qrow kb j r) := by
  fin_cases h <;> [refine stat_apply e.arg7 e.X7 _ _ _ _ _ (k0_off29_eq kb j) r _ _ _ ?_ ?_ ?_; refine stat_apply e.arg7 e.X7 _ _ _ _ _ (k0_off31_eq kb j) r _ _ _ ?_ ?_ ?_; refine stat_apply e.arg7 e.X7 _ _ _ _ _ (k0_off33_eq kb j) r _ _ _ ?_ ?_ ?_; refine stat_apply e.arg7 e.X7 _ _ _ _ _ (k0_off35_eq kb j) r _ _ _ ?_ ?_ ?_] <;> simp [qrow, row, pr, sd] <;> omega

theorem Env.s3_apply (kb : KB) (j : QB kb) (h : Fin 4) (r : Fin 256) : e.s3 kb j h (ix3 0 0 r) = e.S h (qrow kb j r) := by
  fin_cases h <;> [refine sums_apply e.arg15 e.X15 _ _ _ _ _ (k0_off30_eq kb j) r _ _ _ ?_ ?_ ?_; refine sums_apply e.arg15 e.X15 _ _ _ _ _ (k0_off32_eq kb j) r _ _ _ ?_ ?_ ?_; refine sums_apply e.arg15 e.X15 _ _ _ _ _ (k0_off34_eq kb j) r _ _ _ ?_ ?_ ?_; refine sums_apply e.arg15 e.X15 _ _ _ _ _ (k0_off36_eq kb j) r _ _ _ ?_ ?_ ?_] <;> simp [qrow, row, pr, sd] <;> omega

theorem Env.o3_apply (kb : KB) (j : QB kb) (f) (h : Fin 4) (d : Fin 128) (r : Fin 256) : e.o3 kb j f h (ix3 0 d r) = e.arg14.view.read (Elt Ideal) f (ix3 h d (qrow kb j r)) := by
  fin_cases h <;> [refine scr_apply e.arg14 f _ _ _ _ (k0_off37_eq kb j) d r _ _ ?_ ?_; refine scr_apply e.arg14 f _ _ _ _ (k0_off38_eq kb j) d r _ _ ?_ ?_; refine scr_apply e.arg14 f _ _ _ _ (k0_off39_eq kb j) d r _ _ ?_ ?_; refine scr_apply e.arg14 f _ _ _ _ (k0_off40_eq kb j) d r _ _ ?_ ?_] <;> simp [qrow, row] <;> omega

/-- The lane's number compared with 64. -/
theorem lane_lt (r : Fin 256) (d : Fin 128) : kvTrip.sl.v51 v0 (ix2 r d) = BitVec.ofBool (decide (d.val < 64)) := by
  have h : ∀ d : Fin 128, (BitVec.ofNat 32 d.val).slt 64#32 = decide (d.val < 64) := by decide
  show BitVec.ofBool ((BitVec.ofNat 32 _).slt 64#32) = _
  refine Eq.trans (congrArg (fun n => BitVec.ofBool ((BitVec.ofNat 32 n).slt 64#32)) (?_ : _ = d.val)) (congrArg BitVec.ofBool (h d))
  show 0 * 128 + d.val = d.val
  omega

theorem Env.vB_apply (kb : KB) (h : Fin 4) (r : Fin 256) (d : Fin 128) : e.vB kb h (ix2 r d) = e.V h (krow kb r) d := by
  have h0 : kvTrip.sl.v48 e.arg4 e.X4 kb (ix2 r d) = e.Vp 0 (krow kb r) d :=
    load_apply e.arg4 e.X4 _ _ _ _ _ (k0_off9_eq kb) r d _ _ (by simp [krow, row]) (by simp [lane2])
  have h1 : kvTrip.sl.v60 e.arg4 e.X4 kb (ix2 r d) = e.Vp 1 (krow kb r) d :=
    load_apply e.arg4 e.X4 _ _ _ _ _ (k0_off10_eq kb) r d _ _ (by simp [krow, row]) (by simp [lane2])
  have hz : (kvTrip.sl.v49 : FVec Ideal S256x128 .bf16) (ix2 r d) = 0 := by
    show Ideal.ofBits .bf16 0 = 0
    simp
  have key : ∀ a b : FVec Ideal S256x128 .bf16, select (kvTrip.sl.v51 v0) a b (ix2 r d) = if d.val < 64 then a (ix2 r d) else b (ix2 r d) := fun a b => by
    show Scalar.select (kvTrip.sl.v51 v0 (ix2 r d)) _ _ = _
    rw [lane_lt]
    by_cases hd : d.val < 64 <;> simp [hd, Scalar.select]
  by_cases hd : d.val < 64
  · fin_cases h <;> refine (key _ _).trans ?_ <;> simp [hd, Env.V, h0, h1, hz, pr]
  · fin_cases h <;> refine (key _ _).trans ?_ <;> simp [hd, Env.V, h0, h1, hz, pr]

/-- The score of a key and a query in powers of two, its share, and the gradient of the scaled score. -/
def Env.gP (h : Fin 4) (k q : Fin 2048) : EReal :=
  Ideal.exp2 ((if k.val ≤ q.val then (∑ l : Fin 128, e.K h k l * e.Q h q l) * c2 else ⊥) - e.L h q)
def Env.gT (h : Fin 4) (k q : Fin 2048) : EReal :=
  e.gP h k q * ((∑ d : Fin 128, e.V h k d * e.DO (pr h) q d) - e.S h q) * sc

theorem arg16_toNat : ∀ kb : KB, (kvTrip.sl.arg16 kb).toNat = kb.val := by decide +kernel
theorem arg16_lt (kb : KB) : (kvTrip.sl.arg16 kb).toNat < 8 := by rw [arg16_toNat]; exact KB.lt kb

theorem krow_le (kb : KB) (j : QB kb) (r c : Fin 256) : (krow kb r).val ≤ (qrow kb j c).val := by
  have := r.isLt
  simp only [krow, qrow, row]
  omega

theorem krow_le_krow (kb : KB) (r c : Fin 256) : (krow kb r).val ≤ (krow kb c).val ↔ r.val ≤ c.val := by
  simp only [krow, row]
  omega

theorem Env.p3_apply (kb : KB) (j : QB kb) (h : Fin 4) (r c : Fin 256) :
    pB (e.kB kb h) (e.q3 kb j h) (e.l3 kb j h) (ix2 r c) = e.gP h (krow kb r) (qrow kb j c) := by
  rw [pB_apply]
  simp only [e.kB_apply, e.q3_apply, e.l3_apply, Env.gP, krow_le, if_true]

theorem Env.ds3_apply (kb : KB) (j : QB kb) (h : Fin 4) (r c : Fin 256) :
    e.ds3 kb j h (ix2 r c) = e.gT h (krow kb r) (qrow kb j c) := by
  rw [Env.ds3, dsB_apply]
  simp only [e.kB_apply, e.vB_apply, e.q3_apply, e.d3_apply, e.l3_apply, e.s3_apply, Env.gT, Env.gP, krow_le, if_true]

theorem Env.pD_apply (kb : KB) (h : Fin 4) (r c : Fin 256) :
    e.pD kb h (ix2 r c) = e.gP h (krow kb r) (krow kb c) := by
  rw [Env.pD, pM_apply _ (arg16_lt kb)]
  simp only [e.kB_apply, e.qD_apply, e.lD_apply, Env.gP, krow_le_krow]

theorem Env.dsD_apply (kb : KB) (h : Fin 4) (r c : Fin 256) :
    e.dsD kb h (ix2 r c) = e.gT h (krow kb r) (krow kb c) := by
  rw [Env.dsD, dsM_apply _ (arg16_lt kb)]
  simp only [e.kB_apply, e.vB_apply, e.qD_apply, e.dD_apply, e.lD_apply, e.sD_apply, Env.gT, Env.gP, krow_le_krow]

end Cert.KernelIdeal.Value

end
-- ==== Proof.Value.Accum.lean ====
/- The loops' totals: what the buffers hold after a number of trips of the key-block loop. -/
module

public import proofs.«01_k».proof.Proof.Value.Elem

@[expose] public section

set_option maxRecDepth 16384
set_option maxHeartbeats 1000000

noncomputable section

namespace Cert.KernelIdeal.Value

open Cert.KernelIdeal Cert.KernelIdeal.Gen Cert.KernelIdeal.Body
open Idealize.ShloMosaic

/-- A stored block of rows, read back. -/
theorem rows_write {N : ℕ} {ε : EltTy} (m : Memref sig .tc .vmem (⟨3, ![1, 2048, N]⟩ : Shape) ε) (G : BufTy.Contents (Elt Ideal) m.view.ty)
    (P : List (View.Piece (Elt Ideal) (⟨3, ![1, 2048, N]⟩ : Shape) ε)) (off : Fin 3 → ℕ) (inb : ∀ a, off a + S1x256x128.size a ≤ (⟨3, ![1, 2048, N]⟩ : Shape).size a)
    (w : S1x256x128.Idx → Elt Ideal ε) (b p : ℕ) (ho : off = ![0, 256 * b, 128 * p]) (q : Fin 2048) (l : Fin N) :
    m.view.read (Elt Ideal) (m.view.writes (Elt Ideal) G (⟨Rect.unit off S1x256x128.size inb, w⟩ :: P)) (ix3 0 q l)
      = if q.val / 256 = b ∧ l.val / 128 = p then w (ix3 0 ⟨q.val % 256, Nat.mod_lt _ (by decide)⟩ ⟨l.val % 128, Nat.mod_lt _ (by decide)⟩)
        else m.view.read (Elt Ideal) (m.view.writes (Elt Ideal) G P) (ix3 0 q l) := by
  subst ho
  by_cases h1 : q.val / 256 = b
  · by_cases h2 : l.val / 128 = p
    · rw [if_pos ⟨h1, h2⟩]
      refine View.read_writes_cons_hit_of_coords m.view G (Rect.unit (s := (⟨3, ![1, 2048, N]⟩ : Shape)) ![0, 256 * b, 128 * p] S1x256x128.size inb) w P (ix3 0 ⟨q.val % 256, Nat.mod_lt _ (by decide)⟩ ⟨l.val % 128, Nat.mod_lt _ (by decide)⟩) _ (fun a => ?_)
      fin_cases a
      · rfl
      · show q.val = 256 * b + 1 * (q.val % 256)
        omega
      · show l.val = 128 * p + 1 * (l.val % 128)
        omega
    · rw [if_neg (fun h => h2 h.2)]
      refine View.read_writes_cons_miss_of_axis _ _ _ _ _ (2 : Fin 3) (128 * p) 128 rfl rfl rfl ?_
      show l.val < 128 * p ∨ 128 * p + 128 ≤ l.val
      omega
  · rw [if_neg (fun h => h1 h.1)]
    refine View.read_writes_cons_miss_of_axis _ _ _ _ _ (1 : Fin 3) (256 * b) 256 rfl rfl rfl ?_
    show q.val < 256 * b ∨ 256 * b + 256 ≤ q.val
    omega

/-- A stored block of the scratch, read back. -/
theorem scr_write1 (m : Memref sig .tc .vmem S4x128x2048 .f32) (G : BufTy.Contents (Elt Ideal) m.view.ty)
    (P : List (View.Piece (Elt Ideal) S4x128x2048 .f32)) (off : Fin 3 → ℕ) (inb : ∀ a, off a + S1x128x256.size a ≤ S4x128x2048.size a)
    (w : FVec Ideal S1x128x256 .f32) (b p : ℕ) (ho : off = ![p, 0, 256 * b]) (h : Fin 4) (d : Fin 128) (q : Fin 2048) :
    m.view.read (Elt Ideal) (m.view.writes (Elt Ideal) G (⟨Rect.unit off S1x128x256.size inb, w⟩ :: P)) (ix3 h d q)
      = if h.val = p ∧ q.val / 256 = b then w (ix3 0 d ⟨q.val % 256, Nat.mod_lt _ (by decide)⟩)
        else m.view.read (Elt Ideal) (m.view.writes (Elt Ideal) G P) (ix3 h d q) := by
  subst ho
  by_cases h1 : q.val / 256 = b
  · by_cases h2 : h.val = p
    · rw [if_pos ⟨h2, h1⟩]
      refine View.read_writes_cons_hit_of_coords m.view G (Rect.unit (s := S4x128x2048) ![p, 0, 256 * b] S1x128x256.size inb) w P (ix3 0 d ⟨q.val % 256, Nat.mod_lt _ (by decide)⟩) _ (fun a => ?_)
      fin_cases a
      · show h.val = p + 1 * 0
        omega
      · show d.val = 0 + 1 * d.val
        omega
      · show q.val = 256 * b + 1 * (q.val % 256)
        omega
    · rw [if_neg (fun h => h2 h.1)]
      refine View.read_writes_cons_miss_of_axis _ _ _ _ _ (0 : Fin 3) p 1 rfl rfl rfl ?_
      show h.val < p ∨ p + 1 ≤ h.val
      omega
  · rw [if_neg (fun h => h1 h.2)]
    refine View.read_writes_cons_miss_of_axis _ _ _ _ _ (2 : Fin 3) (256 * b) 256 rfl rfl rfl ?_
    show q.val < 256 * b ∨ 256 * b + 256 ≤ q.val
    omega

/-- The four heads' blocks stored together. -/
theorem scr_write (m : Memref sig .tc .vmem S4x128x2048 .f32) (G : BufTy.Contents (Elt Ideal) m.view.ty)
    (P : List (View.Piece (Elt Ideal) S4x128x2048 .f32)) (o0 o1 o2 o3 : Fin 3 → ℕ) (i0 : ∀ a, o0 a + S1x128x256.size a ≤ S4x128x2048.size a)
    (i1 : ∀ a, o1 a + S1x128x256.size a ≤ S4x128x2048.size a) (i2 : ∀ a, o2 a + S1x128x256.size a ≤ S4x128x2048.size a)
    (i3 : ∀ a, o3 a + S1x128x256.size a ≤ S4x128x2048.size a) (w : Fin 4 → FVec Ideal S1x128x256 .f32) (b : ℕ)
    (h0 : o0 = ![0, 0, 256 * b]) (h1 : o1 = ![1, 0, 256 * b]) (h2 : o2 = ![2, 0, 256 * b]) (h3 : o3 = ![3, 0, 256 * b])
    (h : Fin 4) (d : Fin 128) (q : Fin 2048) :
    m.view.read (Elt Ideal) (m.view.writes (Elt Ideal) G (⟨Rect.unit o3 S1x128x256.size i3, w 3⟩ :: ⟨Rect.unit o2 S1x128x256.size i2, w 2⟩
        :: ⟨Rect.unit o1 S1x128x256.size i1, w 1⟩ :: ⟨Rect.unit o0 S1x128x256.size i0, w 0⟩ :: P)) (ix3 h d q)
      = if q.val / 256 = b then w h (ix3 0 d ⟨q.val % 256, Nat.mod_lt _ (by decide)⟩)
        else m.view.read (Elt Ideal) (m.view.writes (Elt Ideal) G P) (ix3 h d q) := by
  rw [scr_write1 m G _ o3 i3 _ b 3 h3, scr_write1 m G _ o2 i2 _ b 2 h2, scr_write1 m G _ o1 i1 _ b 1 h1, scr_write1 m G _ o0 i0 _ b 0 h0]
  by_cases hq : q.val / 256 = b
  · fin_cases h <;> simp [hq]
  · simp [hq]

theorem dkOut_apply (a : Acc) (r : Fin 256) (d : Fin 128) : dkOut a (ix3 0 r d) = a (ix2 r d) := by
  pointwise [dkOut]
theorem dvOut_apply (a b : Acc) (r : Fin 256) (d : Fin 128) : dvOut a b (ix3 0 r d) = if d.val < 64 then a (ix2 r d) else b (ix2 r d) := by
  have h : dvOut a b (ix3 0 r d) = select (kvTrip.sl.v328 v0) a b (ix2 r d) := by
    pointwise [dvOut, k0_pay4]
  rw [h]
  show Scalar.select (kvTrip.sl.v51 v0 (ix2 r d)) _ _ = _
  rw [lane_lt]
  by_cases hd : d.val < 64 <;> simp [hd, Scalar.select]

variable (e : Env)

/-- One query block's share of a key row's gradients, and one key block's share of a query's. -/
def Env.DK (h : Fin 4) (k : Fin 2048) (d : Fin 128) (b : ℕ) : EReal :=
  if hb : b < 8 then ∑ c : Fin 256, e.gT h k (row b hb c) * e.Q h (row b hb c) d else 0
def Env.DV (h : Fin 4) (k : Fin 2048) (d : Fin 128) (b : ℕ) : EReal :=
  if hb : b < 8 then ∑ c : Fin 256, e.gP h k (row b hb c) * e.DO (pr h) (row b hb c) d else 0
def Env.DQ (h : Fin 4) (d : Fin 128) (q : Fin 2048) (b : ℕ) : EReal :=
  if hb : b < 8 then ∑ r : Fin 256, e.K h (row b hb r) d * e.gT h (row b hb r) q else 0

theorem row_div_mod (q : Fin 2048) (b : ℕ) (hb : b < 8) (hq : q.val / 256 = b) : row b hb ⟨q.val % 256, Nat.mod_lt _ (by decide)⟩ = q := by
  apply Fin.ext
  show 256 * b + q.val % 256 = q.val
  omega

theorem Env.R3_dk_apply (kb : KB) (j : QB kb) (a f) (h : Fin 4) (r : Fin 256) (d : Fin 128) :
    dkAcc (e.R3 kb j a f) h (ix2 r d) = dkAcc a h (ix2 r d) + e.DK h (krow kb r) d (kb.val + 1 + j.val) := by
  rw [e.R3_dk, accAdd_apply, Env.DK, dif_pos (QB.lt kb j)]
  simp only [e.ds3_apply, e.q3_apply]

theorem Env.R3_dv_apply (kb : KB) (j : QB kb) (a f) (h : Fin 4) (r : Fin 256) (d : Fin 128) :
    dvAcc (e.R3 kb j a f) h (ix2 r d) = dvAcc a h (ix2 r d) + e.DV h (krow kb r) d (kb.val + 1 + j.val) := by
  rw [e.R3_dv, accAdd_apply, Env.DV, dif_pos (QB.lt kb j)]
  simp only [e.p3_apply, e.d3_apply]

abbrev Env.rd (f : BufTy.Contents (Elt Ideal) e.arg14.view.ty) (h : Fin 4) (d : Fin 128) (q : Fin 2048) : EReal := e.arg14.view.read (Elt Ideal) f (ix3 h d q)

theorem Env.L3_read (kb : KB) (j : QB kb) (a f) (G) (P) (h : Fin 4) (d : Fin 128) (q : Fin 2048) :
    e.rd (e.arg14.view.writes (Elt Ideal) G (e.L3 kb j a f ++ P)) h d q
      = if q.val / 256 = kb.val + 1 + j.val then e.rd f h d q + e.DQ h d q kb.val else e.rd (e.arg14.view.writes (Elt Ideal) G P) h d q := by
  rw [e.L3_eq]
  refine (scr_write e.arg14 G P _ _ _ _ _ _ _ _ (fun h => scrAdd (e.kB kb h) (e.ds3 kb j h) (e.o3 kb j f h)) (kb.val + 1 + j.val)
    ((k0_off37_eq kb j).trans ?_) ((k0_off38_eq kb j).trans ?_) ((k0_off39_eq kb j).trans ?_) ((k0_off40_eq kb j).trans ?_) h d q).trans ?_
  · congr 3; omega
  · congr 3; omega
  · congr 3; omega
  · congr 3; omega
  · by_cases hq : q.val / 256 = kb.val + 1 + j.val
    · rw [if_pos hq, if_pos hq]
      show scrAdd _ _ _ _ = _
      rw [scrAdd_apply, e.o3_apply, qrow, row_div_mod q _ _ hq, Env.DQ, dif_pos (KB.lt kb)]
      simp only [e.kB_apply, e.ds3_apply, qrow, row_div_mod q _ _ hq]
    · rw [if_neg hq, if_neg hq]

theorem Env.st3_dk (kb : KB) (G a) (h : Fin 4) (r : Fin 256) (d : Fin 128) : ∀ n, n ≤ (k0_t3_loop kb).trips →
    dkAcc (e.st3 kb G a n).1 h (ix2 r d) = dkAcc a h (ix2 r d) + ∑ j ∈ Finset.range n, e.DK h (krow kb r) d (kb.val + 1 + j)
  | 0, _ => by rw [Finset.range_zero, Finset.sum_empty, add_zero]; rfl
  | n + 1, hn => by
    rw [e.st3_succ kb G a ⟨n, hn⟩, e.R3_dk_apply, Env.st3_dk kb G a h r d n (by omega), Finset.sum_range_succ, add_assoc]

theorem Env.st3_dv (kb : KB) (G a) (h : Fin 4) (r : Fin 256) (d : Fin 128) : ∀ n, n ≤ (k0_t3_loop kb).trips →
    dvAcc (e.st3 kb G a n).1 h (ix2 r d) = dvAcc a h (ix2 r d) + ∑ j ∈ Finset.range n, e.DV h (krow kb r) d (kb.val + 1 + j)
  | 0, _ => by rw [Finset.range_zero, Finset.sum_empty, add_zero]; rfl
  | n + 1, hn => by
    rw [e.st3_succ kb G a ⟨n, hn⟩, e.R3_dv_apply, Env.st3_dv kb G a h r d n (by omega), Finset.sum_range_succ, add_assoc]

theorem Env.st3_read (kb : KB) (G a) (h : Fin 4) (d : Fin 128) (q : Fin 2048) : ∀ n, n ≤ (k0_t3_loop kb).trips →
    e.rd (e.arg14.view.writes (Elt Ideal) G (e.st3 kb G a n).2) h d q
      = e.rd G h d q + if kb.val + 1 ≤ q.val / 256 ∧ q.val / 256 < kb.val + 1 + n then e.DQ h d q kb.val else 0
  | 0, _ => by
    rw [if_neg (by omega), add_zero]
    rfl
  | n + 1, hn => by
    have ih := Env.st3_read kb G a h d q n (by omega)
    rw [e.st3_succ kb G a ⟨n, hn⟩, e.L3_read]
    by_cases hq : q.val / 256 = kb.val + 1 + n
    · rw [if_pos hq, ih, if_neg (by omega), if_pos (by omega), add_zero]
    · rw [if_neg hq, ih]
      by_cases h1 : kb.val + 1 ≤ q.val / 256 ∧ q.val / 256 < kb.val + 1 + n
      · rw [if_pos h1, if_pos (by omega)]
      · rw [if_neg h1, if_neg (by omega)]

/-- A key row's gradients: the query blocks from its own on. -/
def Env.dk (h : Fin 4) (k : Fin 2048) (d : Fin 128) : EReal := ∑ b ∈ Finset.range 8, if k.val / 256 ≤ b then e.DK h k d b else 0
def Env.dv (h : Fin 4) (k : Fin 2048) (d : Fin 128) : EReal := ∑ b ∈ Finset.range 8, if k.val / 256 ≤ b then e.DV h k d b else 0

theorem sum_from {M : Type} [AddCommMonoid M] (g : ℕ → M) (k : ℕ) (hk : k < 8) :
    (0 + g k) + ∑ j ∈ Finset.range (7 - k), g (k + 1 + j) = ∑ b ∈ Finset.range 8, if k ≤ b then g b else 0 := by
  rw [zero_add]
  interval_cases k <;> simp [Finset.sum_range_succ, add_assoc]

theorem krow_div (kb : KB) (r : Fin 256) : (krow kb r).val / 256 = kb.val := by
  have := r.isLt
  show (256 * kb.val + r.val) / 256 = kb.val
  omega

theorem v68_apply (r : Fin 256) (d : Fin 128) : (kvTrip.sl.v68 : Acc) (ix2 r d) = 0 := by
  show Ideal.ofBits .f32 0 = 0
  simp

theorem Env.S3_dk (kb : KB) (f) (h : Fin 4) (r : Fin 256) (d : Fin 128) : dkAcc (e.S3 kb f).1 h (ix2 r d) = e.dk h (krow kb r) d := by
  rw [Env.S3, e.st3_dk kb _ _ h r d _ le_rfl, e.dkAcc_aD, Env.dkD, accAdd_apply, v68_apply, trips3, Env.dk, krow_div,
    ← sum_from (e.DK h (krow kb r) d) kb.val (KB.lt kb)]
  congr 2
  rw [Env.DK, dif_pos (KB.lt kb)]
  simp only [e.dsD_apply, e.qD_apply]

theorem Env.S3_dv (kb : KB) (f) (h : Fin 4) (r : Fin 256) (d : Fin 128) : dvAcc (e.S3 kb f).1 h (ix2 r d) = e.dv h (krow kb r) d := by
  rw [Env.S3, e.st3_dv kb _ _ h r d _ le_rfl, e.dvAcc_aD, Env.dvD, accAdd_apply, v68_apply, trips3, Env.dv, krow_div,
    ← sum_from (e.DV h (krow kb r) d) kb.val (KB.lt kb)]
  congr 2
  rw [Env.DV, dif_pos (KB.lt kb)]
  simp only [e.pD_apply, e.dD_apply]

theorem Env.P14_read (kb : KB) (f) (h : Fin 4) (d : Fin 128) (q : Fin 2048) :
    e.rd (e.arg14.view.writes (Elt Ideal) f (e.P14 kb f)) h d q = e.rd f h d q + if q.val / 256 = kb.val then e.DQ h d q kb.val else 0 := by
  rw [e.P14_eq]
  refine (scr_write e.arg14 f [] _ _ _ _ _ _ _ _ (fun h => scrAdd (e.kB kb h) (e.dsD kb h) (e.oD kb f h)) kb.val
    (k0_off19_eq kb) (k0_off20_eq kb) (k0_off21_eq kb) (k0_off22_eq kb) h d q).trans ?_
  by_cases hq : q.val / 256 = kb.val
  · rw [if_pos hq, if_pos hq]
    show scrAdd _ _ _ _ = _
    rw [scrAdd_apply, e.oD_apply, krow, row_div_mod q _ _ hq, Env.DQ, dif_pos (KB.lt kb)]
    simp only [e.kB_apply, e.dsD_apply, krow, row_div_mod q _ _ hq]
  · rw [if_neg hq, if_neg hq, add_zero]
    rfl

theorem Env.T14_read (kb : KB) (f) (h : Fin 4) (d : Fin 128) (q : Fin 2048) :
    e.rd (e.arg14.view.writes (Elt Ideal) f ((e.T kb).2.2.1 f)) h d q = e.rd f h d q + if kb.val ≤ q.val / 256 then e.DQ h d q kb.val else 0 := by
  have hq : q.val / 256 < 8 := by have := q.isLt; omega
  have ht := trips3 kb
  have hk := KB.lt kb
  rw [e.T14, View.writes_append, Env.S3, e.st3_read kb _ _ h d q _ le_rfl, e.P14_read, add_assoc]
  congr 1
  by_cases h1 : q.val / 256 = kb.val
  · rw [if_pos h1, if_neg (by omega), if_pos (by omega), add_zero]
  · rw [if_neg h1, zero_add]
    by_cases h2 : kb.val ≤ q.val / 256
    · rw [if_pos (by omega), if_pos h2]
    · rw [if_neg (by omega), if_neg h2]

/-- The pieces of the key-block loop's trips. -/
abbrev Env.kv (G : BufTy.Contents (Elt Ideal) e.arg14.view.ty) (n : ℕ) := kvSt (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 v0 e.X2 e.X3 e.X4 e.X5 e.X7 e.X15 G n

theorem Env.kv_succ (G) (kb : KB) : e.kv G (kb.val + 1) =
    ((e.T kb).1 (e.arg14.view.writes (Elt Ideal) G (e.kv G kb.val).2.2) ++ (e.kv G kb.val).1,
      (e.T kb).2.1 (e.arg14.view.writes (Elt Ideal) G (e.kv G kb.val).2.2) ++ (e.kv G kb.val).2.1,
      (e.T kb).2.2.1 (e.arg14.view.writes (Elt Ideal) G (e.kv G kb.val).2.2) ++ (e.kv G kb.val).2.2) :=
  kvSt_succ (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 v0 e.X2 e.X3 e.X4 e.X5 e.X7 e.X15 G kb

theorem Env.kv_read14 (G) (h : Fin 4) (d : Fin 128) (q : Fin 2048) : ∀ n, n ≤ 8 →
    e.rd (e.arg14.view.writes (Elt Ideal) G (e.kv G n).2.2) h d q
      = e.rd G h d q + ∑ b ∈ Finset.range n, if b ≤ q.val / 256 then e.DQ h d q b else 0
  | 0, _ => by rw [Finset.range_zero, Finset.sum_empty, add_zero]; rfl
  | n + 1, hn => by
    have ih := Env.kv_read14 G h d q n (by omega)
    rw [e.kv_succ G ⟨n, trips2.symm ▸ hn⟩, View.writes_append, e.T14_read, ih, Finset.sum_range_succ, add_assoc]

theorem Env.kv_read12 (G) (G12 : BufTy.Contents (Elt Ideal) e.arg12.view.ty) (k : Fin 2048) (h : Fin 4) (d : Fin 128) : ∀ n, n ≤ 8 →
    e.arg12.view.read (Elt Ideal) (e.arg12.view.writes (Elt Ideal) G12 (e.kv G n).1) (ix3 0 k (lane4 h d))
      = if k.val / 256 < n then e.dk h k d else e.arg12.view.read (Elt Ideal) G12 (ix3 0 k (lane4 h d))
  | 0, _ => by rw [if_neg (by omega)]; rfl
  | n + 1, hn => by
    have ih := Env.kv_read12 G G12 k h d n (by omega)
    rw [e.kv_succ G ⟨n, trips2.symm ▸ hn⟩, e.T12]
    simp only [List.cons_append, List.nil_append]
    rw [rows_write e.arg12 G12 _ _ _ _ n 3 (k0_off8_eq _), rows_write e.arg12 G12 _ _ _ _ n 2 (k0_off7_eq _),
      rows_write e.arg12 G12 _ _ _ _ n 1 (k0_off6_eq _), rows_write e.arg12 G12 _ _ _ _ n 0 (k0_off5_eq _), ih]
    have hl : (lane4 h d).val / 128 = h.val := by
      have := d.isLt
      show (128 * h.val + d.val) / 128 = h.val
      omega
    have hm : (⟨(lane4 h d).val % 128, Nat.mod_lt _ (by decide)⟩ : Fin 128) = d := by
      apply Fin.ext
      have := d.isLt
      show (128 * h.val + d.val) % 128 = d.val
      omega
    rw [hl, hm]
    by_cases hk : k.val / 256 = n
    · have hr : krow ⟨n, trips2.symm ▸ hn⟩ ⟨k.val % 256, Nat.mod_lt _ (by decide)⟩ = k := row_div_mod k n (by omega) hk
      simp only [dkOut_apply, e.S3_dk, hr]
      rw [if_pos (show k.val / 256 < n + 1 by omega)]
      fin_cases h <;> simp [hk]
    · simp only [hk, false_and, if_false]
      by_cases h2 : k.val / 256 < n
      · rw [if_pos h2, if_pos (by omega)]
      · rw [if_neg h2, if_neg (by omega)]

/-- The head of a pair that a lane belongs to. -/
def hd (p : Fin 2) (d : Fin 128) : Fin 4 := ⟨2 * p.val + if d.val < 64 then 0 else 1, by have := p.isLt; split <;> omega⟩

theorem Env.kv_read13 (G) (G13 : BufTy.Contents (Elt Ideal) e.arg13.view.ty) (k : Fin 2048) (p : Fin 2) (d : Fin 128) : ∀ n, n ≤ 8 →
    e.arg13.view.read (Elt Ideal) (e.arg13.view.writes (Elt Ideal) G13 (e.kv G n).2.1) (ix3 0 k (lane2 p d))
      = if k.val / 256 < n then e.dv (hd p d) k d else e.arg13.view.read (Elt Ideal) G13 (ix3 0 k (lane2 p d))
  | 0, _ => by rw [if_neg (by omega)]; rfl
  | n + 1, hn => by
    have ih := Env.kv_read13 G G13 k p d n (by omega)
    rw [e.kv_succ G ⟨n, trips2.symm ▸ hn⟩, e.T13]
    simp only [List.cons_append, List.nil_append]
    rw [rows_write e.arg13 G13 _ _ _ _ n 1 (k0_off10_eq _), rows_write e.arg13 G13 _ _ _ _ n 0 (k0_off9_eq _), ih]
    have hl : (lane2 p d).val / 128 = p.val := by
      have := d.isLt
      show (128 * p.val + d.val) / 128 = p.val
      omega
    have hm : (⟨(lane2 p d).val % 128, Nat.mod_lt _ (by decide)⟩ : Fin 128) = d := by
      apply Fin.ext
      have := d.isLt
      show (128 * p.val + d.val) % 128 = d.val
      omega
    rw [hl, hm]
    by_cases hk : k.val / 256 = n
    · have hr : krow ⟨n, trips2.symm ▸ hn⟩ ⟨k.val % 256, Nat.mod_lt _ (by decide)⟩ = k := row_div_mod k n (by omega) hk
      simp only [dvOut_apply, e.S3_dv, hr]
      rw [if_pos (show k.val / 256 < n + 1 by omega)]
      by_cases hd' : d.val < 64 <;> fin_cases p <;> simp [hk, hd, hd'] <;> rfl
    · simp only [hk, false_and, if_false]
      by_cases h2 : k.val / 256 < n
      · rw [if_pos h2, if_pos (by omega)]
      · rw [if_neg h2, if_neg (by omega)]

end Cert.KernelIdeal.Value

end
-- ==== Proof.Value.Body.lean ====
/- The sums over a row in front of the loops, the rotation behind them, and what one run of the body leaves. -/
module

public import proofs.«01_k».proof.Proof.Value.Accum

@[expose] public section

set_option maxRecDepth 16384
set_option maxHeartbeats 1000000

noncomputable section

namespace Cert.KernelIdeal.Value

open Cert.KernelIdeal Cert.KernelIdeal.Gen Cert.KernelIdeal.Body
open Idealize.ShloMosaic

/-- The lanes whose products a row of the sums adds up. -/
def sel (i : Fin 8) (l : Fin 128) : EReal := if i.val < 2 ∧ (l.val < 64 ↔ i.val = 0) then 1 else 0

theorem sel_apply (i : Fin 8) (l : Fin 128) : (k0_pay1 : FVec Ideal S8x128 .bf16) (ix2 i l) = sel i l := by
  have h1 : ∀ (i : Fin 8) (l : Fin 128), IntOp.xori (IntOp.xori (IntOp.cmpi CmpIPredicate.slt (BitVec.ofNat 32 l.val) 64#32)
      (IntOp.cmpi CmpIPredicate.eq (BitVec.ofNat 32 i.val) 0#32)) 1#1 = BitVec.ofBool (decide (l.val < 64 ↔ i.val = 0)) := by decide +kernel
  have h2 : ∀ i : Fin 8, IntOp.cmpi CmpIPredicate.slt (BitVec.ofNat 32 i.val) 2#32 = BitVec.ofBool (decide (i.val < 2)) := by decide +kernel
  pointwise [k0_pay1]
  rw [h1, h2, sel]
  by_cases a : i.val < 2 <;> by_cases b : (l.val < 64 ↔ i.val = 0)
  · rw [if_pos ⟨a, b⟩, decide_eq_true a, decide_eq_true b]; rfl
  · rw [if_neg (fun h => b h.2), decide_eq_true a, decide_eq_false b]; rfl
  · rw [if_neg (fun h => a h.1), decide_eq_false a]; rfl
  · rw [if_neg (fun h => a h.1), decide_eq_false a]; rfl

/-- The sums over a row of a block of products, taken in a rounded part and the rest. -/
def sumB (D : Kv) (O : Acc) : FVec Ideal S1x8x256 .f32 :=
  k0_pay2 (truncf .bf16 (mulf (extf .f32 D (by decide)) O) (by decide))
    (truncf .bf16 (subf (mulf (extf .f32 D (by decide)) O) (extf .f32 (truncf .bf16 (mulf (extf .f32 D (by decide)) O) (by decide)) (by decide))) (by decide))

def sumRow (i : Fin 8) (x : Fin 128 → EReal) : EReal := (∑ l : Fin 128, sel i l * x l) + ∑ l : Fin 128, sel i l * (x l - x l)

theorem sumB_apply (D : Kv) (O : Acc) (i : Fin 8) (c : Fin 256) :
    sumB D O (ix3 0 i c) = sumRow i (fun l => D (ix2 c l) * O (ix2 c l)) := by
  pointwise [sumB, k0_pay2]
  simp only [sel_apply, sumRow]

def up (d : Fin 128) : Fin 128 := ⟨(d.val + 16) % 128, Nat.mod_lt _ (by decide)⟩
def down (d : Fin 128) : Fin 128 := ⟨(d.val + 112) % 128, Nat.mod_lt _ (by decide)⟩

/-- A block of the query gradient turned back. -/
theorem rope_apply (A B C : Acc) (X : FVec Ideal S128x256 .f32) (r : Fin 256) (d : Fin 128) :
    k0_pay5 A B C X (ix3 0 r d) = X (ix2 d r) * A (ix2 r d) + X (ix2 (up d) r) * B (ix2 r (up d)) + X (ix2 (down d) r) * C (ix2 r (down d)) := by
  have h1 : ∀ h : (d.val + 128 - 112) % 128 < 128, (⟨(d.val + 128 - 112) % 128, h⟩ : Fin 128) = up d := fun h => by
    apply Fin.ext
    show (d.val + 128 - 112) % 128 = (d.val + 16) % 128
    omega
  have h2 : ∀ h : (d.val + 128 - 16) % 128 < 128, (⟨(d.val + 128 - 16) % 128, h⟩ : Fin 128) = down d := fun h => by
    apply Fin.ext
    show (d.val + 128 - 16) % 128 = (d.val + 112) % 128
    omega
  pointwise [k0_pay5]
  rw [h1, h2]

/-- A stored block of the sums, read back. -/
theorem sums_write (m : Memref sig .tc .vmem S2x8x2048 .f32) (G : BufTy.Contents (Elt Ideal) m.view.ty)
    (P : List (View.Piece (Elt Ideal) S2x8x2048 .f32)) (off : Fin 3 → ℕ) (inb : ∀ a, off a + S1x8x256.size a ≤ S2x8x2048.size a)
    (w : FVec Ideal S1x8x256 .f32) (b p : ℕ) (ho : off = ![p, 0, 256 * b]) (h : Fin 2) (i : Fin 8) (q : Fin 2048) :
    m.view.read (Elt Ideal) (m.view.writes (Elt Ideal) G (⟨Rect.unit off S1x8x256.size inb, w⟩ :: P)) (ix3 h i q)
      = if h.val = p ∧ q.val / 256 = b then w (ix3 0 i ⟨q.val % 256, Nat.mod_lt _ (by decide)⟩)
        else m.view.read (Elt Ideal) (m.view.writes (Elt Ideal) G P) (ix3 h i q) := by
  subst ho
  by_cases h1 : q.val / 256 = b
  · by_cases h2 : h.val = p
    · rw [if_pos ⟨h2, h1⟩]
      refine View.read_writes_cons_hit_of_coords m.view G (Rect.unit (s := S2x8x2048) ![p, 0, 256 * b] S1x8x256.size inb) w P (ix3 0 i ⟨q.val % 256, Nat.mod_lt _ (by decide)⟩) _ (fun a => ?_)
      fin_cases a
      · show h.val = p + 1 * 0
        omega
      · show i.val = 0 + 1 * i.val
        omega
      · show q.val = 256 * b + 1 * (q.val % 256)
        omega
    · rw [if_neg (fun h => h2 h.1)]
      refine View.read_writes_cons_miss_of_axis _ _ _ _ _ (0 : Fin 3) p 1 rfl rfl rfl ?_
      show h.val < p ∨ p + 1 ≤ h.val
      omega
  · rw [if_neg (fun h => h1 h.2)]
    refine View.read_writes_cons_miss_of_axis _ _ _ _ _ (2 : Fin 3) (256 * b) 256 rfl rfl rfl ?_
    show q.val < 256 * b ∨ 256 * b + 256 ≤ q.val
    omega

variable (e : Env)

theorem trips1 : k0_t1_loop.trips = 8 := by decide +kernel
theorem trips5 : k0_t5_loop.trips = 8 := by decide +kernel

abbrev Env.L1 (k : Fin k0_t1_loop.trips) := tripL_k0_t1 (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.X5 e.X6 k
abbrev Env.pb1 (n : ℕ) := pb_k0_t1 (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.X5 e.X6 n

theorem Env.L1_eq (k : Fin k0_t1_loop.trips) : e.L1 k =
    [⟨Rect.unit (k0_off4 k) S1x8x256.size (k0_off4_inb k), sumB (trip_k0_t1.sl.v53 e.arg5 e.X5 k) (trip_k0_t1.sl.v59 e.arg6 e.X6 k)⟩,
     ⟨Rect.unit (k0_off2 k) S1x8x256.size (k0_off2_inb k), sumB (trip_k0_t1.sl.v28 e.arg5 e.X5 k) (trip_k0_t1.sl.v34 e.arg6 e.X6 k)⟩] := by
  unfold Env.L1 tripL_k0_t1 trip_k0_t1
  rfl

theorem Env.pb1_succ (k : Fin k0_t1_loop.trips) : e.pb1 (k.val + 1) = e.L1 k ++ e.pb1 k.val :=
  pb_k0_t1_succ (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.X5 e.X6 k

theorem Env.pb1_read (G : BufTy.Contents (Elt Ideal) e.arg15.view.ty) (p : Fin 2) (i : Fin 8) (q : Fin 2048) : ∀ n, n ≤ 8 →
    e.arg15.view.read (Elt Ideal) (e.arg15.view.writes (Elt Ideal) G (e.pb1 n)) (ix3 p i q)
      = if q.val / 256 < n then sumRow i (fun l => e.DO p q l * e.O p q l) else e.arg15.view.read (Elt Ideal) G (ix3 p i q)
  | 0, _ => by rw [if_neg (by omega)]; rfl
  | n + 1, hn => by
    have ih := Env.pb1_read G p i q n (by omega)
    rw [e.pb1_succ ⟨n, trips1.symm ▸ hn⟩, e.L1_eq]
    simp only [List.cons_append, List.nil_append]
    rw [sums_write e.arg15 G _ _ _ _ n 1 (k0_off4_eq _), sums_write e.arg15 G _ _ _ _ n 0 (k0_off2_eq _), ih]
    by_cases hk : q.val / 256 = n
    · have hr : row n (by omega) ⟨q.val % 256, Nat.mod_lt _ (by decide)⟩ = q := row_div_mod q n (by omega) hk
      rw [if_pos (show q.val / 256 < n + 1 by omega)]
      simp only [sumB_apply]
      have a0 : ∀ l, trip_k0_t1.sl.v28 e.arg5 e.X5 ⟨n, trips1.symm ▸ hn⟩ (ix2 ⟨q.val % 256, Nat.mod_lt _ (by decide)⟩ l) = e.DO 0 q l := fun l =>
        load_apply e.arg5 e.X5 _ _ _ _ _ (k0_off1_eq _) _ l _ _ (by simp only; omega) (by simp [lane2])
      have b0 : ∀ l, trip_k0_t1.sl.v34 e.arg6 e.X6 ⟨n, trips1.symm ▸ hn⟩ (ix2 ⟨q.val % 256, Nat.mod_lt _ (by decide)⟩ l) = e.O 0 q l := fun l =>
        load_apply e.arg6 e.X6 _ _ _ _ _ (k0_off1_eq _) _ l _ _ (by simp only; omega) (by simp [lane2])
      have a1 : ∀ l, trip_k0_t1.sl.v53 e.arg5 e.X5 ⟨n, trips1.symm ▸ hn⟩ (ix2 ⟨q.val % 256, Nat.mod_lt _ (by decide)⟩ l) = e.DO 1 q l := fun l =>
        load_apply e.arg5 e.X5 _ _ _ _ _ (k0_off3_eq _) _ l _ _ (by simp only; omega) (by simp [lane2])
      have b1 : ∀ l, trip_k0_t1.sl.v59 e.arg6 e.X6 ⟨n, trips1.symm ▸ hn⟩ (ix2 ⟨q.val % 256, Nat.mod_lt _ (by decide)⟩ l) = e.O 1 q l := fun l =>
        load_apply e.arg6 e.X6 _ _ _ _ _ (k0_off3_eq _) _ l _ _ (by simp only; omega) (by simp [lane2])
      simp only [a0, b0, a1, b1]
      fin_cases p <;> simp [hk]
    · simp only [hk, and_false, if_false]
      by_cases h2 : q.val / 256 < n
      · rw [if_pos h2, if_pos (by omega)]
      · rw [if_neg h2, if_neg (by omega)]

abbrev Env.L5 (G : BufTy.Contents (Elt Ideal) e.arg14.view.ty) (k : Fin k0_t5_loop.trips) := tripL_k0_t5 (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.X8 e.X9 e.X10 G k
abbrev Env.pb5 (G : BufTy.Contents (Elt Ideal) e.arg14.view.ty) (n : ℕ) := pb_k0_t5 (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.X8 e.X9 e.X10 G n

theorem Env.L5_eq (G) (k : Fin k0_t5_loop.trips) : e.L5 G k =
    [⟨Rect.unit (k0_off67 k) S1x256x128.size (k0_off67_inb k), k0_pay5 (trip_k0_t5.sl.v28 e.arg8 e.X8 k) (trip_k0_t5.sl.v33 e.arg9 e.X9 k) (trip_k0_t5.sl.v38 e.arg10 e.X10 k) (shapeCast S128x256 (e.arg14.view.readAt (Elt Ideal) (Rect.unit (s := S4x128x2048) (k0_off66 k) S1x128x256.size (k0_off66_inb k)).toLoadRect G) shapeCasts_S1x128x256_S128x256)⟩, ⟨Rect.unit (k0_off65 k) S1x256x128.size (k0_off65_inb k), k0_pay5 (trip_k0_t5.sl.v28 e.arg8 e.X8 k) (trip_k0_t5.sl.v33 e.arg9 e.X9 k) (trip_k0_t5.sl.v38 e.arg10 e.X10 k) (shapeCast S128x256 (e.arg14.view.readAt (Elt Ideal) (Rect.unit (s := S4x128x2048) (k0_off64 k) S1x128x256.size (k0_off64_inb k)).toLoadRect G) shapeCasts_S1x128x256_S128x256)⟩, ⟨Rect.unit (k0_off63 k) S1x256x128.size (k0_off63_inb k), k0_pay5 (trip_k0_t5.sl.v28 e.arg8 e.X8 k) (trip_k0_t5.sl.v33 e.arg9 e.X9 k) (trip_k0_t5.sl.v38 e.arg10 e.X10 k) (shapeCast S128x256 (e.arg14.view.readAt (Elt Ideal) (Rect.unit (s := S4x128x2048) (k0_off62 k) S1x128x256.size (k0_off62_inb k)).toLoadRect G) shapeCasts_S1x128x256_S128x256)⟩, ⟨Rect.unit (k0_off61 k) S1x256x128.size (k0_off61_inb k), k0_pay5 (trip_k0_t5.sl.v28 e.arg8 e.X8 k) (trip_k0_t5.sl.v33 e.arg9 e.X9 k) (trip_k0_t5.sl.v38 e.arg10 e.X10 k) (shapeCast S128x256 (e.arg14.view.readAt (Elt Ideal) (Rect.unit (s := S4x128x2048) (k0_off60 k) S1x128x256.size (k0_off60_inb k)).toLoadRect G) shapeCasts_S1x128x256_S128x256)⟩] := by
  unfold Env.L5 tripL_k0_t5 trip_k0_t5
  rfl

theorem Env.pb5_succ (G) (k : Fin k0_t5_loop.trips) : e.pb5 G (k.val + 1) = e.L5 G k ++ e.pb5 G k.val :=
  pb_k0_t5_succ (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.X8 e.X9 e.X10 G k

def Env.tab8 (q : Fin 2048) (d : Fin 128) : EReal := e.arg8.view.read (Elt Ideal) e.X8 (ix3 0 q d)
def Env.tab9 (q : Fin 2048) (d : Fin 128) : EReal := e.arg9.view.read (Elt Ideal) e.X9 (ix3 0 q d)
def Env.tab10 (q : Fin 2048) (d : Fin 128) : EReal := e.arg10.view.read (Elt Ideal) e.X10 (ix3 0 q d)

/-- A row of a head turned back by the tables. -/
def Env.turn (x : Fin 128 → EReal) (q : Fin 2048) (d : Fin 128) : EReal :=
  x d * e.tab8 q d + x (up d) * e.tab9 q (up d) + x (down d) * e.tab10 q (down d)

theorem cast2_apply {α : Type} (x : S1x128x256.Idx → α) (h : S1x128x256.ShapeCasts S128x256) (d : Fin 128) (r : Fin 256) :
    shapeCast S128x256 x h (ix2 d r) = x (ix3 0 d r) := by
  pointwise

theorem Env.pb5_read (G) (G11 : BufTy.Contents (Elt Ideal) e.arg11.view.ty) (q : Fin 2048) (h : Fin 4) (d : Fin 128) : ∀ n, n ≤ 8 →
    e.arg11.view.read (Elt Ideal) (e.arg11.view.writes (Elt Ideal) G11 (e.pb5 G n)) (ix3 0 q (lane4 h d))
      = if q.val / 256 < n then e.turn (fun d => e.rd G h d q) q d else e.arg11.view.read (Elt Ideal) G11 (ix3 0 q (lane4 h d))
  | 0, _ => by rw [if_neg (by omega)]; rfl
  | n + 1, hn => by
    have ih := Env.pb5_read G G11 q h d n (by omega)
    rw [e.pb5_succ G ⟨n, trips5.symm ▸ hn⟩, e.L5_eq]
    simp only [List.cons_append, List.nil_append]
    rw [rows_write e.arg11 G11 _ _ _ _ n 3 (k0_off67_eq _), rows_write e.arg11 G11 _ _ _ _ n 2 (k0_off65_eq _),
      rows_write e.arg11 G11 _ _ _ _ n 1 (k0_off63_eq _), rows_write e.arg11 G11 _ _ _ _ n 0 (k0_off61_eq _), ih]
    have hl : (lane4 h d).val / 128 = h.val := by
      have := d.isLt
      show (128 * h.val + d.val) / 128 = h.val
      omega
    have hm : (⟨(lane4 h d).val % 128, Nat.mod_lt _ (by decide)⟩ : Fin 128) = d := by
      apply Fin.ext
      have := d.isLt
      show (128 * h.val + d.val) % 128 = d.val
      omega
    rw [hl, hm]
    by_cases hk : q.val / 256 = n
    · rw [if_pos (show q.val / 256 < n + 1 by omega)]
      simp only [rope_apply, cast2_apply]
      have a0 : ∀ l, trip_k0_t5.sl.v28 e.arg8 e.X8 ⟨n, trips5.symm ▸ hn⟩ (ix2 ⟨q.val % 256, Nat.mod_lt _ (by decide)⟩ l) = e.tab8 q l := fun l =>
        load_apply e.arg8 e.X8 _ _ _ _ _ (k0_off59_eq _) _ l _ _ (by simp only; omega) (by omega)
      have a1 : ∀ l, trip_k0_t5.sl.v33 e.arg9 e.X9 ⟨n, trips5.symm ▸ hn⟩ (ix2 ⟨q.val % 256, Nat.mod_lt _ (by decide)⟩ l) = e.tab9 q l := fun l =>
        load_apply e.arg9 e.X9 _ _ _ _ _ (k0_off59_eq _) _ l _ _ (by simp only; omega) (by omega)
      have a2 : ∀ l, trip_k0_t5.sl.v38 e.arg10 e.X10 ⟨n, trips5.symm ▸ hn⟩ (ix2 ⟨q.val % 256, Nat.mod_lt _ (by decide)⟩ l) = e.tab10 q l := fun l =>
        load_apply e.arg10 e.X10 _ _ _ _ _ (k0_off59_eq _) _ l _ _ (by simp only; omega) (by omega)
      simp only [a0, a1, a2]
      have s0 : ∀ d, e.arg14.view.readAt (Elt Ideal) (Rect.unit (s := S4x128x2048) (k0_off60 ⟨n, trips5.symm ▸ hn⟩) S1x128x256.size (k0_off60_inb _)).toLoadRect G (ix3 0 d ⟨q.val % 256, Nat.mod_lt _ (by decide)⟩) = e.rd G 0 d q := fun d =>
        scr_apply e.arg14 G _ _ _ _ (k0_off60_eq _) d _ _ _ rfl (by simp only; omega)
      have s1 : ∀ d, e.arg14.view.readAt (Elt Ideal) (Rect.unit (s := S4x128x2048) (k0_off62 ⟨n, trips5.symm ▸ hn⟩) S1x128x256.size (k0_off62_inb _)).toLoadRect G (ix3 0 d ⟨q.val % 256, Nat.mod_lt _ (by decide)⟩) = e.rd G 1 d q := fun d =>
        scr_apply e.arg14 G _ _ _ _ (k0_off62_eq _) d _ _ _ rfl (by simp only; omega)
      have s2 : ∀ d, e.arg14.view.readAt (Elt Ideal) (Rect.unit (s := S4x128x2048) (k0_off64 ⟨n, trips5.symm ▸ hn⟩) S1x128x256.size (k0_off64_inb _)).toLoadRect G (ix3 0 d ⟨q.val % 256, Nat.mod_lt _ (by decide)⟩) = e.rd G 2 d q := fun d =>
        scr_apply e.arg14 G _ _ _ _ (k0_off64_eq _) d _ _ _ rfl (by simp only; omega)
      have s3 : ∀ d, e.arg14.view.readAt (Elt Ideal) (Rect.unit (s := S4x128x2048) (k0_off66 ⟨n, trips5.symm ▸ hn⟩) S1x128x256.size (k0_off66_inb _)).toLoadRect G (ix3 0 d ⟨q.val % 256, Nat.mod_lt _ (by decide)⟩) = e.rd G 3 d q := fun d =>
        scr_apply e.arg14 G _ _ _ _ (k0_off66_eq _) d _ _ _ rfl (by simp only; omega)
      simp only [s0, s1, s2, s3]
      fin_cases h <;> simp [hk, Env.turn]
    · simp only [hk, false_and, if_false]
      by_cases h2 : q.val / 256 < n
      · rw [if_pos h2, if_pos (by omega)]
      · rw [if_neg h2, if_neg (by omega)]

/-- The body's run, and the state that its loops find. -/
abbrev Env.B := bodyRun (F := Ideal) e.𝒱 e.c e.bd e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.X2 e.X3 e.X4 e.X5 e.X6 e.X7 e.X8 e.X9 e.X10

/-- The state whose sums are those that the first loop writes. -/
def Env.fill (f15 : BufTy.Contents (Elt Ideal) e.arg15.view.ty) : Env :=
  { e with X15 := e.arg15.view.writes (Elt Ideal) f15 (e.pb1 8) }

theorem Env.fill_S (f15) (h : Fin 4) (q : Fin 2048) : (e.fill f15).S h q = sumRow (sd h) (fun l => e.DO (pr h) q l * e.O (pr h) q l) :=
  (e.pb1_read f15 (pr h) (sd h) q 8 le_rfl).trans (if_pos (by have := q.isLt; omega))

/-- The cleared scratch. -/
abbrev Env.G14 : BufTy.Contents (Elt Ideal) e.arg14.view.ty := e.arg14.view.writes (Elt Ideal) e.arg14.view.junk bodyRun.sl.H14_1

theorem Env.G14_read (h : Fin 4) (d : Fin 128) (q : Fin 2048) : e.rd e.G14 h d q = 0 := by
  refine (View.read_writes_cons_hit_of_coords (Val := Elt Ideal) e.arg14.view e.arg14.view.junk (Rect.unit (s := S4x128x2048) ![0, 0, 0] S4x128x2048.size inb_S4x128x2048_S4x128x2048_0_0_0)
    (k0_pay3 (F := Ideal)) [] (ix3 h d q) (ix3 h d q) (fun a => ?_)).trans ?_
  · fin_cases a
    · show h.val = 0 + 1 * h.val
      omega
    · show d.val = 0 + 1 * d.val
      omega
    · show q.val = 0 + 1 * q.val
      omega
  · pointwise [k0_pay3]

theorem Env.B12 (f14 f15) : (e.B).2.1 f14 f15 = ((e.fill f15).kv e.G14 8).1 := by
  unfold Env.B bodyRun
  rfl
theorem Env.B13 (f14 f15) : (e.B).2.2.1 f14 f15 = ((e.fill f15).kv e.G14 8).2.1 := by
  unfold Env.B bodyRun
  rfl
theorem Env.B11 (f14 f15) : (e.B).1 f14 f15
    = e.pb5 (e.arg14.view.writes (Elt Ideal) e.arg14.view.junk (((e.fill f15).kv e.G14 8).2.2 ++ bodyRun.sl.H14_1)) 8 := by
  unfold Env.B bodyRun
  rfl

/-- The query gradient before it is turned back. -/
def Env.dq (h : Fin 4) (q : Fin 2048) (d : Fin 128) : EReal := ∑ b ∈ Finset.range 8, if b ≤ q.val / 256 then e.DQ h d q b else 0

theorem Env.read12 (f14 f15) (G12 : BufTy.Contents (Elt Ideal) e.arg12.view.ty) (k : Fin 2048) (h : Fin 4) (d : Fin 128) :
    e.arg12.view.read (Elt Ideal) (e.arg12.view.writes (Elt Ideal) G12 ((e.B).2.1 f14 f15)) (ix3 0 k (lane4 h d)) = (e.fill f15).dk h k d := by
  rw [e.B12]
  exact ((e.fill f15).kv_read12 e.G14 G12 k h d 8 le_rfl).trans (if_pos (by have := k.isLt; omega))

theorem Env.read13 (f14 f15) (G13 : BufTy.Contents (Elt Ideal) e.arg13.view.ty) (k : Fin 2048) (p : Fin 2) (d : Fin 128) :
    e.arg13.view.read (Elt Ideal) (e.arg13.view.writes (Elt Ideal) G13 ((e.B).2.2.1 f14 f15)) (ix3 0 k (lane2 p d)) = (e.fill f15).dv (hd p d) k d := by
  rw [e.B13]
  exact ((e.fill f15).kv_read13 e.G14 G13 k p d 8 le_rfl).trans (if_pos (by have := k.isLt; omega))

theorem Env.read11 (f14 f15) (G11 : BufTy.Contents (Elt Ideal) e.arg11.view.ty) (q : Fin 2048) (h : Fin 4) (d : Fin 128) :
    e.arg11.view.read (Elt Ideal) (e.arg11.view.writes (Elt Ideal) G11 ((e.B).1 f14 f15)) (ix3 0 q (lane4 h d)) = e.turn ((e.fill f15).dq h q) q d := by
  rw [e.B11]
  refine (e.pb5_read _ G11 q h d 8 le_rfl).trans ((if_pos (by have := q.isLt; omega)).trans (congrArg (fun x => e.turn x q d) (funext fun d => ?_)))
  rw [View.writes_append]
  refine ((e.fill f15).kv_read14 e.G14 h d q 8 le_rfl).trans ?_
  refine (congrArg (· + _) (e.G14_read h d q)).trans (zero_add _)

end Cert.KernelIdeal.Value

end
-- ==== Proof.Value.Spec.lean ====
/- One head's backward pass as sums over all keys and queries, and the three result arrays made of it. -/
module

public import proofs.«01_k».proof.Proof.Value.Body

@[expose] public section

set_option maxRecDepth 16384
set_option maxHeartbeats 1000000

noncomputable section

namespace Cert.KernelIdeal.Value

open Cert.KernelIdeal Cert.KernelIdeal.Gen Cert.KernelIdeal.Body
open Idealize.ShloMosaic

/-- What one head reads: its rotated queries, keys, values and incoming gradient, the row sums and the row offsets. -/
@[ext] structure Head where
  Q : Fin 2048 → Fin 128 → EReal
  K : Fin 2048 → Fin 128 → EReal
  V : Fin 2048 → Fin 128 → EReal
  DO : Fin 2048 → Fin 128 → EReal
  S : Fin 2048 → EReal
  L : Fin 2048 → EReal

namespace Head
variable (H : Head)

/-- A key's share of a query, and the gradient of its score. -/
def gP (k q : Fin 2048) : EReal := Ideal.exp2 ((if k.val ≤ q.val then (∑ l : Fin 128, H.K k l * H.Q q l) * c2 else ⊥) - H.L q)
def gT (k q : Fin 2048) : EReal := H.gP k q * ((∑ d : Fin 128, H.V k d * H.DO q d) - H.S q) * sc

def dk (k : Fin 2048) (d : Fin 128) : EReal := ∑ q : Fin 2048, H.gT k q * H.Q q d
def dv (k : Fin 2048) (d : Fin 128) : EReal := ∑ q : Fin 2048, H.gP k q * H.DO q d
def dq (q : Fin 2048) (d : Fin 128) : EReal := ∑ k : Fin 2048, H.K k d * H.gT k q

/-- A key after the query has no share. -/
theorem gP_zero {k q : Fin 2048} (h : q.val < k.val) : H.gP k q = 0 := by
  unfold gP
  rw [if_neg (by omega), sub_eq_add_neg, EReal.bot_add]
  rfl

theorem gT_zero {k q : Fin 2048} (h : q.val < k.val) : H.gT k q = 0 := by
  unfold gT
  rw [H.gP_zero h, zero_mul, zero_mul]

end Head

/-- A sum over the rows, block by block. -/
theorem sum_rows (f : Fin 2048 → EReal) : (∑ q : Fin 2048, f q)
    = ∑ b ∈ Finset.range 8, (if hb : b < 8 then ∑ c : Fin 256, f (row b hb c) else 0) := by
  rw [Finset.sum_range]
  have h := Fin.sum_univ_tiles (J := 8) (T := 256) (N := 2048) (by decide) f
  rw [h]
  refine Finset.sum_congr rfl fun b _ => ?_
  rw [dif_pos b.isLt]
  refine Finset.sum_congr rfl fun c _ => congrArg f (Fin.ext ?_)
  show b.val * 256 + c.val = 256 * b.val + c.val
  omega

variable (e : Env)

/-- The head of the block that the point reads. -/
def Env.head (h : Fin 4) : Head := ⟨e.Q h, e.K h, e.V h, e.DO (pr h), e.S h, e.L h⟩

theorem Env.gP_eq (h) (k q) : e.gP h k q = (e.head h).gP k q := rfl
theorem Env.gT_eq (h) (k q) : e.gT h k q = (e.head h).gT k q := rfl

theorem Env.dk_eq (h : Fin 4) (k : Fin 2048) (d : Fin 128) : e.dk h k d = (e.head h).dk k d := by
  unfold Env.dk Head.dk
  rw [sum_rows]
  refine Finset.sum_congr rfl fun b hb => ?_
  have hb8 : b < 8 := Finset.mem_range.1 hb
  unfold Env.DK
  rw [dif_pos hb8, dif_pos hb8]
  by_cases hk : k.val / 256 ≤ b
  · rw [if_pos hk]
    rfl
  · rw [if_neg hk]
    refine (Finset.sum_eq_zero fun c _ => ?_).symm
    have hlt : (row b hb8 c).val < k.val := by
      have := c.isLt
      show 256 * b + c.val < k.val
      omega
    rw [(e.head h).gT_zero hlt, zero_mul]

theorem Env.dv_eq (h : Fin 4) (k : Fin 2048) (d : Fin 128) : e.dv h k d = (e.head h).dv k d := by
  unfold Env.dv Head.dv
  rw [sum_rows]
  refine Finset.sum_congr rfl fun b hb => ?_
  have hb8 : b < 8 := Finset.mem_range.1 hb
  unfold Env.DV
  rw [dif_pos hb8, dif_pos hb8]
  by_cases hk : k.val / 256 ≤ b
  · rw [if_pos hk]
    rfl
  · rw [if_neg hk]
    refine (Finset.sum_eq_zero fun c _ => ?_).symm
    have hlt : (row b hb8 c).val < k.val := by
      have := c.isLt
      show 256 * b + c.val < k.val
      omega
    rw [(e.head h).gP_zero hlt, zero_mul]

theorem Env.dq_eq (h : Fin 4) (q : Fin 2048) (d : Fin 128) : e.dq h q d = (e.head h).dq q d := by
  unfold Env.dq Head.dq
  rw [sum_rows]
  refine Finset.sum_congr rfl fun b hb => ?_
  have hb8 : b < 8 := Finset.mem_range.1 hb
  unfold Env.DQ
  rw [dif_pos hb8, dif_pos hb8]
  by_cases hk : b ≤ q.val / 256
  · rw [if_pos hk]
    rfl
  · rw [if_neg hk]
    refine (Finset.sum_eq_zero fun c _ => ?_).symm
    have hlt : q.val < (row b hb8 c).val := by
      have := c.isLt
      show q.val < 256 * b + c.val
      omega
    rw [(e.head h).gT_zero hlt, mul_zero]

/-- The lane `d` of one of the sixteen heads, and of one of the eight pairs. -/
def laneH (h : Fin 16) (d : Fin 128) : Fin 2048 := ⟨128 * h.val + d.val, by have := h.isLt; have := d.isLt; omega⟩
def laneP (p : Fin 8) (d : Fin 128) : Fin 1024 := ⟨128 * p.val + d.val, by have := p.isLt; have := d.isLt; omega⟩
def prH (h : Fin 16) : Fin 8 := ⟨h.val / 2, by have := h.isLt; omega⟩
def sdH (h : Fin 16) : Fin 8 := ⟨h.val % 2, by omega⟩

abbrev Wide := S4x2048x2048.Idx → EReal
abbrev Pairs := S4x2048x1024.Idx → EReal
abbrev Table := S4x2048x128.Idx → EReal

/-- The nine arrays that the kernel reads. -/
structure Ins where
  q : Wide
  k : Wide
  v : Pairs
  do_ : Pairs
  o : Pairs
  lse : S4x8x8x2048.Idx → EReal
  t0 : Table
  t1 : Table
  t2 : Table

namespace Ins
variable (a : Ins)

/-- A head of a batch. -/
def head (b : Fin 4) (h : Fin 16) : Head where
  Q q d := a.q (ix3 b q (laneH h d))
  K q d := a.k (ix3 b q (laneH h d))
  V q d := if (d.val < 64 ↔ h.val % 2 = 0) then a.v (ix3 b q (laneP (prH h) d)) else 0
  DO q d := a.do_ (ix3 b q (laneP (prH h) d))
  S q := sumRow (sdH h) fun d => a.do_ (ix3 b q (laneP (prH h) d)) * a.o (ix3 b q (laneP (prH h) d))
  L q := a.lse (ix4 b (prH h) (sdH h) q)

/-- A row turned back by the tables of its batch. -/
def turn (b : Fin 4) (x : Fin 128 → EReal) (q : Fin 2048) (d : Fin 128) : EReal :=
  x d * a.t0 (ix3 b q d) + x (up d) * a.t1 (ix3 b q (up d)) + x (down d) * a.t2 (ix3 b q (down d))

/-- The head and the lane of a place of a row, for the wide arrays and for the arrays of pairs. -/
def hdW (l : Fin 2048) : Fin 16 := ⟨l.val / 128, by have := l.isLt; omega⟩
def hdP (l : Fin 1024) : Fin 16 := ⟨2 * (l.val / 128) + (if l.val % 128 < 64 then 0 else 1), by have := l.isLt; split <;> omega⟩
def ln (n : ℕ) : Fin 128 := ⟨n % 128, Nat.mod_lt _ (by decide)⟩

def dqArr : Wide := fun i => a.turn (i 0) ((a.head (i 0) (hdW (i 2))).dq (i 1)) (i 1) (ln (i 2).val)
def dkArr : Wide := fun i => (a.head (i 0) (hdW (i 2))).dk (i 1) (ln (i 2).val)
def dvArr : Pairs := fun i => (a.head (i 0) (hdP (i 2))).dv (i 1) (ln (i 2).val)

end Ins

/-- The places of group `g` in the arrays. -/
def pos4 (g : Fin 4) (l : Fin 512) : Fin 2048 := ⟨512 * g.val + l.val, by have := g.isLt; have := l.isLt; omega⟩
def pos2 (g : Fin 4) (l : Fin 256) : Fin 1024 := ⟨256 * g.val + l.val, by have := g.isLt; have := l.isLt; omega⟩
def posP (g : Fin 4) (p : Fin 2) : Fin 8 := ⟨2 * g.val + p.val, by have := g.isLt; have := p.isLt; omega⟩
def headG (g : Fin 4) (h : Fin 4) : Fin 16 := ⟨4 * g.val + h.val, by have := g.isLt; have := h.isLt; omega⟩

/-- The point's blocks are the blocks `b`, `g` of the arrays. -/
structure Env.Reads (a : Ins) (b g : Fin 4) : Prop where
  h2 : ∀ q l, e.arg2.view.read (Elt Ideal) e.X2 (ix3 0 q l) = a.q (ix3 b q (pos4 g l))
  h3 : ∀ q l, e.arg3.view.read (Elt Ideal) e.X3 (ix3 0 q l) = a.k (ix3 b q (pos4 g l))
  h4 : ∀ q l, e.arg4.view.read (Elt Ideal) e.X4 (ix3 0 q l) = a.v (ix3 b q (pos2 g l))
  h5 : ∀ q l, e.arg5.view.read (Elt Ideal) e.X5 (ix3 0 q l) = a.do_ (ix3 b q (pos2 g l))
  h6 : ∀ q l, e.arg6.view.read (Elt Ideal) e.X6 (ix3 0 q l) = a.o (ix3 b q (pos2 g l))
  h7 : ∀ p i q, e.arg7.view.read (Elt Ideal) e.X7 (ix4 0 p i q) = a.lse (ix4 b (posP g p) i q)
  h8 : ∀ q l, e.arg8.view.read (Elt Ideal) e.X8 (ix3 0 q l) = a.t0 (ix3 b q l)
  h9 : ∀ q l, e.arg9.view.read (Elt Ideal) e.X9 (ix3 0 q l) = a.t1 (ix3 b q l)
  h10 : ∀ q l, e.arg10.view.read (Elt Ideal) e.X10 (ix3 0 q l) = a.t2 (ix3 b q l)

variable {e}

theorem pos4_lane (g h : Fin 4) (d : Fin 128) : pos4 g (lane4 h d) = laneH (headG g h) d :=
  Fin.ext (show 512 * g.val + (128 * h.val + d.val) = 128 * (4 * g.val + h.val) + d.val by omega)

theorem pos2_lane (g h : Fin 4) (d : Fin 128) : pos2 g (lane2 (pr h) d) = laneP (prH (headG g h)) d :=
  Fin.ext (show 256 * g.val + (128 * (h.val / 2) + d.val) = 128 * ((4 * g.val + h.val) / 2) + d.val by omega)

theorem posP_pr (g h : Fin 4) : posP g (pr h) = prH (headG g h) :=
  Fin.ext (show 2 * g.val + h.val / 2 = (4 * g.val + h.val) / 2 by omega)

theorem sd_eq (g h : Fin 4) : sd h = sdH (headG g h) :=
  Fin.ext (show h.val % 2 = (4 * g.val + h.val) % 2 by omega)

theorem Env.Reads.DO_eq {a : Ins} {b g : Fin 4} (r : e.Reads a b g) (h : Fin 4) (q d) :
    e.DO (pr h) q d = a.do_ (ix3 b q (laneP (prH (headG g h)) d)) := (r.h5 q _).trans (by rw [pos2_lane])

theorem Env.Reads.head_eq {a : Ins} {b g : Fin 4} (r : e.Reads a b g) (f15) (h : Fin 4) : (e.fill f15).head h = a.head b (headG g h) := by
  refine Head.ext (funext fun q => funext fun d => ?_) (funext fun q => funext fun d => ?_) (funext fun q => funext fun d => ?_)
    (funext fun q => funext fun d => ?_) (funext fun q => ?_) (funext fun q => ?_)
  · exact (r.h2 q _).trans (by rw [pos4_lane]; rfl)
  · exact (r.h3 q _).trans (by rw [pos4_lane]; rfl)
  · have hm : (headG g h).val % 2 = h.val % 2 := congrArg Fin.val (sd_eq g h).symm
    show (if (d.val < 64 ↔ h.val % 2 = 0) then e.Vp (pr h) q d else 0) = if (d.val < 64 ↔ (headG g h).val % 2 = 0) then _ else 0
    rw [hm]
    refine if_congr Iff.rfl ((r.h4 q _).trans (by rw [pos2_lane])) rfl
  · exact r.DO_eq h q d
  · refine (e.fill_S f15 h q).trans ?_
    rw [sd_eq g h]
    refine congrArg (sumRow _) (funext fun d => ?_)
    rw [r.DO_eq h q d]
    exact congrArg _ ((r.h6 q _).trans (by rw [pos2_lane]))
  · exact (r.h7 _ _ q).trans (by rw [posP_pr, sd_eq g h]; rfl)

/-- The three result blocks. -/
theorem Env.Reads.out12 {a : Ins} {b g : Fin 4} (r : e.Reads a b g) (f14 f15) (G12 : BufTy.Contents (Elt Ideal) e.arg12.view.ty) (k : Fin 2048) (l : Fin 512) :
    e.arg12.view.read (Elt Ideal) (e.arg12.view.writes (Elt Ideal) G12 ((e.B).2.1 f14 f15)) (ix3 0 k l) = a.dkArr (ix3 b k (pos4 g l)) := by
  have hl := l.isLt
  obtain ⟨h, d, rfl⟩ : ∃ h : Fin 4, ∃ d : Fin 128, l = lane4 h d :=
    ⟨⟨l.val / 128, by omega⟩, ⟨l.val % 128, by omega⟩, Fin.ext (show l.val = 128 * (l.val / 128) + l.val % 128 by omega)⟩
  have hd := d.isLt
  rw [e.read12, Env.dk_eq, r.head_eq, pos4_lane]
  show _ = (a.head b (Ins.hdW (laneH (headG g h) d))).dk k (Ins.ln (laneH (headG g h) d).val)
  congr 1
  · congr 1
    exact Fin.ext (show 4 * g.val + h.val = (128 * (4 * g.val + h.val) + d.val) / 128 by omega)
  · exact Fin.ext (show d.val = (128 * (4 * g.val + h.val) + d.val) % 128 by omega)

theorem Env.Reads.turn_eq {a : Ins} {b g : Fin 4} (r : e.Reads a b g) (x q d) : e.turn x q d = a.turn b x q d := by
  unfold Env.turn Ins.turn
  refine congrArg₂ (· + ·) (congrArg₂ (· + ·) (congrArg (x d * ·) (r.h8 q d)) (congrArg (x (up d) * ·) (r.h9 q (up d)))) (congrArg (x (down d) * ·) (r.h10 q (down d)))

theorem Env.Reads.out11 {a : Ins} {b g : Fin 4} (r : e.Reads a b g) (f14 f15) (G11 : BufTy.Contents (Elt Ideal) e.arg11.view.ty) (q : Fin 2048) (l : Fin 512) :
    e.arg11.view.read (Elt Ideal) (e.arg11.view.writes (Elt Ideal) G11 ((e.B).1 f14 f15)) (ix3 0 q l) = a.dqArr (ix3 b q (pos4 g l)) := by
  have hl := l.isLt
  obtain ⟨h, d, rfl⟩ : ∃ h : Fin 4, ∃ d : Fin 128, l = lane4 h d :=
    ⟨⟨l.val / 128, by omega⟩, ⟨l.val % 128, by omega⟩, Fin.ext (show l.val = 128 * (l.val / 128) + l.val % 128 by omega)⟩
  have hd := d.isLt
  have e1 : Ins.hdW (laneH (headG g h) d) = headG g h := Fin.ext (show (128 * (4 * g.val + h.val) + d.val) / 128 = 4 * g.val + h.val by omega)
  have e2 : Ins.ln (laneH (headG g h) d).val = d := Fin.ext (show (128 * (4 * g.val + h.val) + d.val) % 128 = d.val by omega)
  rw [e.read11, pos4_lane, r.turn_eq]
  show _ = a.turn b ((a.head b (Ins.hdW (laneH (headG g h) d))).dq q) q (Ins.ln (laneH (headG g h) d).val)
  rw [e1, e2]
  refine congrArg (fun x => a.turn b x q d) (funext fun d' => ?_)
  rw [Env.dq_eq, r.head_eq]

theorem Env.Reads.out13 {a : Ins} {b g : Fin 4} (r : e.Reads a b g) (f14 f15) (G13 : BufTy.Contents (Elt Ideal) e.arg13.view.ty) (k : Fin 2048) (l : Fin 256) :
    e.arg13.view.read (Elt Ideal) (e.arg13.view.writes (Elt Ideal) G13 ((e.B).2.2.1 f14 f15)) (ix3 0 k l) = a.dvArr (ix3 b k (pos2 g l)) := by
  have hl := l.isLt
  obtain ⟨p, d, rfl⟩ : ∃ p : Fin 2, ∃ d : Fin 128, l = lane2 p d :=
    ⟨⟨l.val / 128, by omega⟩, ⟨l.val % 128, by omega⟩, Fin.ext (show l.val = 128 * (l.val / 128) + l.val % 128 by omega)⟩
  have hd := d.isLt
  have hp := p.isLt
  rw [e.read13, Env.dv_eq, r.head_eq]
  show _ = (a.head b (Ins.hdP (pos2 g (lane2 p d)))).dv k (Ins.ln (pos2 g (lane2 p d)).val)
  have e1 : Ins.hdP (pos2 g (lane2 p d)) = headG g (Value.hd p d) := Fin.ext (by
    show 2 * ((256 * g.val + (128 * p.val + d.val)) / 128) + (if (256 * g.val + (128 * p.val + d.val)) % 128 < 64 then 0 else 1)
      = 4 * g.val + (2 * p.val + if d.val < 64 then 0 else 1)
    have h1 : (256 * g.val + (128 * p.val + d.val)) / 128 = 2 * g.val + p.val := by omega
    have h2 : (256 * g.val + (128 * p.val + d.val)) % 128 = d.val := by omega
    rw [h1, h2]
    split <;> omega)
  have e2 : Ins.ln (pos2 g (lane2 p d)).val = d := Fin.ext (show (256 * g.val + (128 * p.val + d.val)) % 128 = d.val by omega)
  rw [e1, e2]

end Cert.KernelIdeal.Value

end
-- ==== Proof.Value.Launch.lean ====
/- The launch of the kernel with its results named: at every grid point the body leaves its blocks of the three result
   arrays, and the run ends with those arrays. -/
module

public import proofs.«01_k».proof.Proof.Value.Spec
public import proofs.«01_k».proof.Proof.Ideal.Frame
public import Idealize.ShloMosaic.Lib.Pipeline.ValueKit

@[expose] public section

set_option maxRecDepth 16384

noncomputable section

namespace Cert.KernelIdeal.Value

open Cert.KernelIdeal Cert.KernelIdeal.Gen
open Cert.KernelIdeal.Body (bodyTriple PhiA0_eq defs₀_row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (l : Loc nD τ sig) → Buf (Elt Ideal) l) (ρ : Dev nD → PrngReg)

local notation "𝕄" => MT nD τ sig Unit (Elt Ideal) ℕ (UR sig nD τ) ℕ

/-- The nine arrays as the host code leaves them. -/
def ins (c : Dev nD) : Ins where
  q := V m c (Pipeline.arrRef spec0 0)
  k := V m c (Pipeline.arrRef spec0 1)
  v := V m c (Pipeline.arrRef spec0 2)
  do_ := V m c (Pipeline.arrRef spec0 3)
  o := V m c (Pipeline.arrRef spec0 4)
  lse := V m c (Pipeline.arrRef spec0 5)
  t0 := V m c (Pipeline.arrRef spec0 6)
  t1 := V m c (Pipeline.arrRef spec0 7)
  t2 := V m c (Pipeline.arrRef spec0 8)

/-- A grid point's batch and group. -/
def gb (t : Fin cfg0.N) : Fin 4 := grid0.coords t 0
def gg (t : Fin cfg0.N) : Fin 4 := grid0.coords t 1

theorem idx0_0 : ∀ t : Fin cfg0.N, win0_0.index t 0 = (gb t).val := by decide +kernel
theorem idx0_1 : ∀ t : Fin cfg0.N, win0_0.index t 1 = 0 := by decide +kernel
theorem idx0_2 : ∀ t : Fin cfg0.N, win0_0.index t 2 = (gg t).val := by decide +kernel
theorem idx1_0 : ∀ t : Fin cfg0.N, win0_1.index t 0 = (gb t).val := by decide +kernel
theorem idx1_1 : ∀ t : Fin cfg0.N, win0_1.index t 1 = 0 := by decide +kernel
theorem idx1_2 : ∀ t : Fin cfg0.N, win0_1.index t 2 = (gg t).val := by decide +kernel
theorem idx2_0 : ∀ t : Fin cfg0.N, win0_2.index t 0 = (gb t).val := by decide +kernel
theorem idx2_1 : ∀ t : Fin cfg0.N, win0_2.index t 1 = 0 := by decide +kernel
theorem idx2_2 : ∀ t : Fin cfg0.N, win0_2.index t 2 = (gg t).val := by decide +kernel
theorem idx3_0 : ∀ t : Fin cfg0.N, win0_3.index t 0 = (gb t).val := by decide +kernel
theorem idx3_1 : ∀ t : Fin cfg0.N, win0_3.index t 1 = 0 := by decide +kernel
theorem idx3_2 : ∀ t : Fin cfg0.N, win0_3.index t 2 = (gg t).val := by decide +kernel
theorem idx4_0 : ∀ t : Fin cfg0.N, win0_4.index t 0 = (gb t).val := by decide +kernel
theorem idx4_1 : ∀ t : Fin cfg0.N, win0_4.index t 1 = 0 := by decide +kernel
theorem idx4_2 : ∀ t : Fin cfg0.N, win0_4.index t 2 = (gg t).val := by decide +kernel
theorem idx5_0 : ∀ t : Fin cfg0.N, win0_5.index t 0 = (gb t).val := by decide +kernel
theorem idx5_1 : ∀ t : Fin cfg0.N, win0_5.index t 1 = (gg t).val := by decide +kernel
theorem idx5_2 : ∀ t : Fin cfg0.N, win0_5.index t 2 = 0 := by decide +kernel
theorem idx5_3 : ∀ t : Fin cfg0.N, win0_5.index t 3 = 0 := by decide +kernel
theorem idx6_0 : ∀ t : Fin cfg0.N, win0_6.index t 0 = (gb t).val := by decide +kernel
theorem idx6_1 : ∀ t : Fin cfg0.N, win0_6.index t 1 = 0 := by decide +kernel
theorem idx6_2 : ∀ t : Fin cfg0.N, win0_6.index t 2 = 0 := by decide +kernel
theorem idx7_0 : ∀ t : Fin cfg0.N, win0_7.index t 0 = (gb t).val := by decide +kernel
theorem idx7_1 : ∀ t : Fin cfg0.N, win0_7.index t 1 = 0 := by decide +kernel
theorem idx7_2 : ∀ t : Fin cfg0.N, win0_7.index t 2 = 0 := by decide +kernel
theorem idx8_0 : ∀ t : Fin cfg0.N, win0_8.index t 0 = (gb t).val := by decide +kernel
theorem idx8_1 : ∀ t : Fin cfg0.N, win0_8.index t 1 = 0 := by decide +kernel
theorem idx8_2 : ∀ t : Fin cfg0.N, win0_8.index t 2 = 0 := by decide +kernel
theorem idx9_0 : ∀ t : Fin cfg0.N, win0_9.index t 0 = (gb t).val := by decide +kernel
theorem idx9_1 : ∀ t : Fin cfg0.N, win0_9.index t 1 = 0 := by decide +kernel
theorem idx9_2 : ∀ t : Fin cfg0.N, win0_9.index t 2 = (gg t).val := by decide +kernel
theorem idx10_0 : ∀ t : Fin cfg0.N, win0_10.index t 0 = (gb t).val := by decide +kernel
theorem idx10_1 : ∀ t : Fin cfg0.N, win0_10.index t 1 = 0 := by decide +kernel
theorem idx10_2 : ∀ t : Fin cfg0.N, win0_10.index t 2 = (gg t).val := by decide +kernel
theorem idx11_0 : ∀ t : Fin cfg0.N, win0_11.index t 0 = (gb t).val := by decide +kernel
theorem idx11_1 : ∀ t : Fin cfg0.N, win0_11.index t 1 = 0 := by decide +kernel
theorem idx11_2 : ∀ t : Fin cfg0.N, win0_11.index t 2 = (gg t).val := by decide +kernel

theorem place_0 (G : Wide) (t : Fin cfg0.N) (q : Fin 2048) (l : Fin 512) : ((cfg0.win 0).blk t).view.read (Elt Ideal) G (ix3 0 q l) = G (ix3 (gb t) q (pos4 (gg t) l)) := by
  refine congrArg G (funext fun a => Fin.ext ?_)
  refine (win0_0.rect_emb_val t (ix3 0 q l) a).trans ?_
  fin_cases a
  · refine (congrArg (· * 1 + 0) (idx0_0 t)).trans ?_
    show (gb t).val * 1 + 0 = (gb t).val
    omega
  · refine (congrArg (· * 2048 + q.val) (idx0_1 t)).trans ?_
    show 0 * 2048 + q.val = q.val
    omega
  · refine (congrArg (· * 512 + l.val) (idx0_2 t)).trans ?_
    show (gg t).val * 512 + l.val = 512 * (gg t).val + l.val
    omega
theorem blk_0 (c : Dev nD) (t : Fin cfg0.N) (q : Fin 2048) (l : Fin 512) : iblk m c 0 t (ix3 0 q l) = (ins m c).q (ix3 (gb t) q (pos4 (gg t) l)) := by
  unfold iblk
  exact place_0 (V m c (Pipeline.arrRef spec0 0)) t q l
theorem place_1 (G : Wide) (t : Fin cfg0.N) (q : Fin 2048) (l : Fin 512) : ((cfg0.win 1).blk t).view.read (Elt Ideal) G (ix3 0 q l) = G (ix3 (gb t) q (pos4 (gg t) l)) := by
  refine congrArg G (funext fun a => Fin.ext ?_)
  refine (win0_1.rect_emb_val t (ix3 0 q l) a).trans ?_
  fin_cases a
  · refine (congrArg (· * 1 + 0) (idx1_0 t)).trans ?_
    show (gb t).val * 1 + 0 = (gb t).val
    omega
  · refine (congrArg (· * 2048 + q.val) (idx1_1 t)).trans ?_
    show 0 * 2048 + q.val = q.val
    omega
  · refine (congrArg (· * 512 + l.val) (idx1_2 t)).trans ?_
    show (gg t).val * 512 + l.val = 512 * (gg t).val + l.val
    omega
theorem blk_1 (c : Dev nD) (t : Fin cfg0.N) (q : Fin 2048) (l : Fin 512) : iblk m c 1 t (ix3 0 q l) = (ins m c).k (ix3 (gb t) q (pos4 (gg t) l)) := by
  unfold iblk
  exact place_1 (V m c (Pipeline.arrRef spec0 1)) t q l
theorem place_2 (G : Pairs) (t : Fin cfg0.N) (q : Fin 2048) (l : Fin 256) : ((cfg0.win 2).blk t).view.read (Elt Ideal) G (ix3 0 q l) = G (ix3 (gb t) q (pos2 (gg t) l)) := by
  refine congrArg G (funext fun a => Fin.ext ?_)
  refine (win0_2.rect_emb_val t (ix3 0 q l) a).trans ?_
  fin_cases a
  · refine (congrArg (· * 1 + 0) (idx2_0 t)).trans ?_
    show (gb t).val * 1 + 0 = (gb t).val
    omega
  · refine (congrArg (· * 2048 + q.val) (idx2_1 t)).trans ?_
    show 0 * 2048 + q.val = q.val
    omega
  · refine (congrArg (· * 256 + l.val) (idx2_2 t)).trans ?_
    show (gg t).val * 256 + l.val = 256 * (gg t).val + l.val
    omega
theorem blk_2 (c : Dev nD) (t : Fin cfg0.N) (q : Fin 2048) (l : Fin 256) : iblk m c 2 t (ix3 0 q l) = (ins m c).v (ix3 (gb t) q (pos2 (gg t) l)) := by
  unfold iblk
  exact place_2 (V m c (Pipeline.arrRef spec0 2)) t q l
theorem place_3 (G : Pairs) (t : Fin cfg0.N) (q : Fin 2048) (l : Fin 256) : ((cfg0.win 3).blk t).view.read (Elt Ideal) G (ix3 0 q l) = G (ix3 (gb t) q (pos2 (gg t) l)) := by
  refine congrArg G (funext fun a => Fin.ext ?_)
  refine (win0_3.rect_emb_val t (ix3 0 q l) a).trans ?_
  fin_cases a
  · refine (congrArg (· * 1 + 0) (idx3_0 t)).trans ?_
    show (gb t).val * 1 + 0 = (gb t).val
    omega
  · refine (congrArg (· * 2048 + q.val) (idx3_1 t)).trans ?_
    show 0 * 2048 + q.val = q.val
    omega
  · refine (congrArg (· * 256 + l.val) (idx3_2 t)).trans ?_
    show (gg t).val * 256 + l.val = 256 * (gg t).val + l.val
    omega
theorem blk_3 (c : Dev nD) (t : Fin cfg0.N) (q : Fin 2048) (l : Fin 256) : iblk m c 3 t (ix3 0 q l) = (ins m c).do_ (ix3 (gb t) q (pos2 (gg t) l)) := by
  unfold iblk
  exact place_3 (V m c (Pipeline.arrRef spec0 3)) t q l
theorem place_4 (G : Pairs) (t : Fin cfg0.N) (q : Fin 2048) (l : Fin 256) : ((cfg0.win 4).blk t).view.read (Elt Ideal) G (ix3 0 q l) = G (ix3 (gb t) q (pos2 (gg t) l)) := by
  refine congrArg G (funext fun a => Fin.ext ?_)
  refine (win0_4.rect_emb_val t (ix3 0 q l) a).trans ?_
  fin_cases a
  · refine (congrArg (· * 1 + 0) (idx4_0 t)).trans ?_
    show (gb t).val * 1 + 0 = (gb t).val
    omega
  · refine (congrArg (· * 2048 + q.val) (idx4_1 t)).trans ?_
    show 0 * 2048 + q.val = q.val
    omega
  · refine (congrArg (· * 256 + l.val) (idx4_2 t)).trans ?_
    show (gg t).val * 256 + l.val = 256 * (gg t).val + l.val
    omega
theorem blk_4 (c : Dev nD) (t : Fin cfg0.N) (q : Fin 2048) (l : Fin 256) : iblk m c 4 t (ix3 0 q l) = (ins m c).o (ix3 (gb t) q (pos2 (gg t) l)) := by
  unfold iblk
  exact place_4 (V m c (Pipeline.arrRef spec0 4)) t q l
theorem place_5 (G : (S4x8x8x2048.Idx → EReal)) (t : Fin cfg0.N) (p : Fin 2) (i : Fin 8) (q : Fin 2048) : ((cfg0.win 5).blk t).view.read (Elt Ideal) G (ix4 0 p i q) = G (ix4 (gb t) (posP (gg t) p) i q) := by
  refine congrArg G (funext fun a => Fin.ext ?_)
  refine (win0_5.rect_emb_val t (ix4 0 p i q) a).trans ?_
  fin_cases a
  · refine (congrArg (· * 1 + 0) (idx5_0 t)).trans ?_
    show (gb t).val * 1 + 0 = (gb t).val
    omega
  · refine (congrArg (· * 2 + p.val) (idx5_1 t)).trans ?_
    show (gg t).val * 2 + p.val = 2 * (gg t).val + p.val
    omega
  · refine (congrArg (· * 8 + i.val) (idx5_2 t)).trans ?_
    show 0 * 8 + i.val = i.val
    omega
  · refine (congrArg (· * 2048 + q.val) (idx5_3 t)).trans ?_
    show 0 * 2048 + q.val = q.val
    omega
theorem blk_5 (c : Dev nD) (t : Fin cfg0.N) (p : Fin 2) (i : Fin 8) (q : Fin 2048) : iblk m c 5 t (ix4 0 p i q) = (ins m c).lse (ix4 (gb t) (posP (gg t) p) i q) := by
  unfold iblk
  exact place_5 (V m c (Pipeline.arrRef spec0 5)) t p i q
theorem place_6 (G : Table) (t : Fin cfg0.N) (q : Fin 2048) (l : Fin 128) : ((cfg0.win 6).blk t).view.read (Elt Ideal) G (ix3 0 q l) = G (ix3 (gb t) q (l)) := by
  refine congrArg G (funext fun a => Fin.ext ?_)
  refine (win0_6.rect_emb_val t (ix3 0 q l) a).trans ?_
  fin_cases a
  · refine (congrArg (· * 1 + 0) (idx6_0 t)).trans ?_
    show (gb t).val * 1 + 0 = (gb t).val
    omega
  · refine (congrArg (· * 2048 + q.val) (idx6_1 t)).trans ?_
    show 0 * 2048 + q.val = q.val
    omega
  · refine (congrArg (· * 128 + l.val) (idx6_2 t)).trans ?_
    show 0 * 128 + l.val = l.val
    omega
theorem blk_6 (c : Dev nD) (t : Fin cfg0.N) (q : Fin 2048) (l : Fin 128) : iblk m c 6 t (ix3 0 q l) = (ins m c).t0 (ix3 (gb t) q (l)) := by
  unfold iblk
  exact place_6 (V m c (Pipeline.arrRef spec0 6)) t q l
theorem place_7 (G : Table) (t : Fin cfg0.N) (q : Fin 2048) (l : Fin 128) : ((cfg0.win 7).blk t).view.read (Elt Ideal) G (ix3 0 q l) = G (ix3 (gb t) q (l)) := by
  refine congrArg G (funext fun a => Fin.ext ?_)
  refine (win0_7.rect_emb_val t (ix3 0 q l) a).trans ?_
  fin_cases a
  · refine (congrArg (· * 1 + 0) (idx7_0 t)).trans ?_
    show (gb t).val * 1 + 0 = (gb t).val
    omega
  · refine (congrArg (· * 2048 + q.val) (idx7_1 t)).trans ?_
    show 0 * 2048 + q.val = q.val
    omega
  · refine (congrArg (· * 128 + l.val) (idx7_2 t)).trans ?_
    show 0 * 128 + l.val = l.val
    omega
theorem blk_7 (c : Dev nD) (t : Fin cfg0.N) (q : Fin 2048) (l : Fin 128) : iblk m c 7 t (ix3 0 q l) = (ins m c).t1 (ix3 (gb t) q (l)) := by
  unfold iblk
  exact place_7 (V m c (Pipeline.arrRef spec0 7)) t q l
theorem place_8 (G : Table) (t : Fin cfg0.N) (q : Fin 2048) (l : Fin 128) : ((cfg0.win 8).blk t).view.read (Elt Ideal) G (ix3 0 q l) = G (ix3 (gb t) q (l)) := by
  refine congrArg G (funext fun a => Fin.ext ?_)
  refine (win0_8.rect_emb_val t (ix3 0 q l) a).trans ?_
  fin_cases a
  · refine (congrArg (· * 1 + 0) (idx8_0 t)).trans ?_
    show (gb t).val * 1 + 0 = (gb t).val
    omega
  · refine (congrArg (· * 2048 + q.val) (idx8_1 t)).trans ?_
    show 0 * 2048 + q.val = q.val
    omega
  · refine (congrArg (· * 128 + l.val) (idx8_2 t)).trans ?_
    show 0 * 128 + l.val = l.val
    omega
theorem blk_8 (c : Dev nD) (t : Fin cfg0.N) (q : Fin 2048) (l : Fin 128) : iblk m c 8 t (ix3 0 q l) = (ins m c).t2 (ix3 (gb t) q (l)) := by
  unfold iblk
  exact place_8 (V m c (Pipeline.arrRef spec0 8)) t q l
theorem place_9 (G : Wide) (t : Fin cfg0.N) (q : Fin 2048) (l : Fin 512) : ((cfg0.win 9).blk t).view.read (Elt Ideal) G (ix3 0 q l) = G (ix3 (gb t) q (pos4 (gg t) l)) := by
  refine congrArg G (funext fun a => Fin.ext ?_)
  refine (win0_9.rect_emb_val t (ix3 0 q l) a).trans ?_
  fin_cases a
  · refine (congrArg (· * 1 + 0) (idx9_0 t)).trans ?_
    show (gb t).val * 1 + 0 = (gb t).val
    omega
  · refine (congrArg (· * 2048 + q.val) (idx9_1 t)).trans ?_
    show 0 * 2048 + q.val = q.val
    omega
  · refine (congrArg (· * 512 + l.val) (idx9_2 t)).trans ?_
    show (gg t).val * 512 + l.val = 512 * (gg t).val + l.val
    omega
theorem place_10 (G : Wide) (t : Fin cfg0.N) (q : Fin 2048) (l : Fin 512) : ((cfg0.win 10).blk t).view.read (Elt Ideal) G (ix3 0 q l) = G (ix3 (gb t) q (pos4 (gg t) l)) := by
  refine congrArg G (funext fun a => Fin.ext ?_)
  refine (win0_10.rect_emb_val t (ix3 0 q l) a).trans ?_
  fin_cases a
  · refine (congrArg (· * 1 + 0) (idx10_0 t)).trans ?_
    show (gb t).val * 1 + 0 = (gb t).val
    omega
  · refine (congrArg (· * 2048 + q.val) (idx10_1 t)).trans ?_
    show 0 * 2048 + q.val = q.val
    omega
  · refine (congrArg (· * 512 + l.val) (idx10_2 t)).trans ?_
    show (gg t).val * 512 + l.val = 512 * (gg t).val + l.val
    omega
theorem place_11 (G : Pairs) (t : Fin cfg0.N) (q : Fin 2048) (l : Fin 256) : ((cfg0.win 11).blk t).view.read (Elt Ideal) G (ix3 0 q l) = G (ix3 (gb t) q (pos2 (gg t) l)) := by
  refine congrArg G (funext fun a => Fin.ext ?_)
  refine (win0_11.rect_emb_val t (ix3 0 q l) a).trans ?_
  fin_cases a
  · refine (congrArg (· * 1 + 0) (idx11_0 t)).trans ?_
    show (gb t).val * 1 + 0 = (gb t).val
    omega
  · refine (congrArg (· * 2048 + q.val) (idx11_1 t)).trans ?_
    show 0 * 2048 + q.val = q.val
    omega
  · refine (congrArg (· * 256 + l.val) (idx11_2 t)).trans ?_
    show (gg t).val * 256 + l.val = 256 * (gg t).val + l.val
    omega

/-- The proof data: every input block is left as it was found, every result block is its block of the result array. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => ((cfg0.win 9).blk t).view.read (Elt Ideal) (ins m c).dqArr
    | 10 => ((cfg0.win 10).blk t).view.read (Elt Ideal) (ins m c).dkArr
    | 11 => ((cfg0.win 11).blk t).view.read (Elt Ideal) (ins m c).dvArr
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = ((cfg0.win 9).blk t).view.read (Elt Ideal) (ins m c).dqArr := by dsimp only [dats]
theorem after_10 (c : Dev nD) (t : Fin cfg0.N) : (dats m 0 c).after 10 t = ((cfg0.win 10).blk t).view.read (Elt Ideal) (ins m c).dkArr := by dsimp only [dats]
theorem after_11 (c : Dev nD) (t : Fin cfg0.N) : (dats m 0 c).after 11 t = ((cfg0.win 11).blk t).view.read (Elt Ideal) (ins m c).dvArr := by dsimp only [dats]

/-- The run of the body at a point. -/
def env (c : Dev nD) (t : Fin cfg0.N) (f0 : BufTy.Contents (Elt Ideal) (win0_0.stage (cfg0.slots t 0)).view.ty) (f1 : BufTy.Contents (Elt Ideal) (win0_1.stage (cfg0.slots t 1)).view.ty) (f2 : BufTy.Contents (Elt Ideal) (win0_2.stage (cfg0.slots t 2)).view.ty) (f3 : BufTy.Contents (Elt Ideal) (win0_3.stage (cfg0.slots t 3)).view.ty) (f4 : BufTy.Contents (Elt Ideal) (win0_4.stage (cfg0.slots t 4)).view.ty) (f5 : BufTy.Contents (Elt Ideal) (win0_5.stage (cfg0.slots t 5)).view.ty) (f6 : BufTy.Contents (Elt Ideal) (win0_6.stage (cfg0.slots t 6)).view.ty) (f7 : BufTy.Contents (Elt Ideal) (win0_7.stage (cfg0.slots t 7)).view.ty) (f8 : BufTy.Contents (Elt Ideal) (win0_8.stage (cfg0.slots t 8)).view.ty) : Env :=
  ⟨Variants.none, c, none, grid0.coords t, (win0_0.stage (cfg0.slots t 0)), (hstage0_0 ((cfg0.slots t 0).cast nbuf0_0)), (win0_1.stage (cfg0.slots t 1)), (hstage0_1 ((cfg0.slots t 1).cast nbuf0_1)), (win0_2.stage (cfg0.slots t 2)), (hstage0_2 ((cfg0.slots t 2).cast nbuf0_2)), (win0_3.stage (cfg0.slots t 3)), (hstage0_3 ((cfg0.slots t 3).cast nbuf0_3)), (win0_4.stage (cfg0.slots t 4)), (hstage0_4 ((cfg0.slots t 4).cast nbuf0_4)), (win0_5.stage (cfg0.slots t 5)), (hstage0_5 ((cfg0.slots t 5).cast nbuf0_5)), (win0_6.stage (cfg0.slots t 6)), (hstage0_6 ((cfg0.slots t 6).cast nbuf0_6)), (win0_7.stage (cfg0.slots t 7)), (hstage0_7 ((cfg0.slots t 7).cast nbuf0_7)), (win0_8.stage (cfg0.slots t 8)), (hstage0_8 ((cfg0.slots t 8).cast nbuf0_8)), (win0_9.stage (cfg0.slots t 9)), (hstage0_9 ((cfg0.slots t 9).cast nbuf0_9)), (win0_10.stage (cfg0.slots t 10)), (hstage0_10 ((cfg0.slots t 10).cast nbuf0_10)), (win0_11.stage (cfg0.slots t 11)), (hstage0_11 ((cfg0.slots t 11).cast nbuf0_11)), Memref.whole cc0_scratch0, Memref.isWhole_whole _, Memref.whole cc0_scratch1, Memref.isWhole_whole _,
    f0, f1, f2, f3, f4, f5, f6, f7, f8, (Memref.whole cc0_scratch1).view.junk⟩

theorem env_reads (c : Dev nD) (t : Fin cfg0.N) (f0 : BufTy.Contents (Elt Ideal) (win0_0.stage (cfg0.slots t 0)).view.ty) (f1 : BufTy.Contents (Elt Ideal) (win0_1.stage (cfg0.slots t 1)).view.ty) (f2 : BufTy.Contents (Elt Ideal) (win0_2.stage (cfg0.slots t 2)).view.ty) (f3 : BufTy.Contents (Elt Ideal) (win0_3.stage (cfg0.slots t 3)).view.ty) (f4 : BufTy.Contents (Elt Ideal) (win0_4.stage (cfg0.slots t 4)).view.ty) (f5 : BufTy.Contents (Elt Ideal) (win0_5.stage (cfg0.slots t 5)).view.ty) (f6 : BufTy.Contents (Elt Ideal) (win0_6.stage (cfg0.slots t 6)).view.ty) (f7 : BufTy.Contents (Elt Ideal) (win0_7.stage (cfg0.slots t 7)).view.ty) (f8 : BufTy.Contents (Elt Ideal) (win0_8.stage (cfg0.slots t 8)).view.ty)
    (e0 : (win0_0.stage (cfg0.slots t 0)).view.read (Elt Ideal) f0 = iblk m c 0 t) (e1 : (win0_1.stage (cfg0.slots t 1)).view.read (Elt Ideal) f1 = iblk m c 1 t) (e2 : (win0_2.stage (cfg0.slots t 2)).view.read (Elt Ideal) f2 = iblk m c 2 t) (e3 : (win0_3.stage (cfg0.slots t 3)).view.read (Elt Ideal) f3 = iblk m c 3 t) (e4 : (win0_4.stage (cfg0.slots t 4)).view.read (Elt Ideal) f4 = iblk m c 4 t) (e5 : (win0_5.stage (cfg0.slots t 5)).view.read (Elt Ideal) f5 = iblk m c 5 t) (e6 : (win0_6.stage (cfg0.slots t 6)).view.read (Elt Ideal) f6 = iblk m c 6 t) (e7 : (win0_7.stage (cfg0.slots t 7)).view.read (Elt Ideal) f7 = iblk m c 7 t) (e8 : (win0_8.stage (cfg0.slots t 8)).view.read (Elt Ideal) f8 = iblk m c 8 t) : (env c t f0 f1 f2 f3 f4 f5 f6 f7 f8).Reads (ins m c) (gb t) (gg t) where
  h2 q l := (congrFun e0 _).trans (blk_0 m c t q l)
  h3 q l := (congrFun e1 _).trans (blk_1 m c t q l)
  h4 q l := (congrFun e2 _).trans (blk_2 m c t q l)
  h5 q l := (congrFun e3 _).trans (blk_3 m c t q l)
  h6 q l := (congrFun e4 _).trans (blk_4 m c t q l)
  h7 p i q := (congrFun e5 _).trans (blk_5 m c t p i q)
  h8 q l := (congrFun e6 _).trans (blk_6 m c t q l)
  h9 q l := (congrFun e7 _).trans (blk_7 m c t q l)
  h10 q l := (congrFun e8 _).trans (blk_8 m c t q l)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))
/-- What the body returns at a point. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t))

theorem eq_of_rows {N : ℕ} {x y : (⟨3, ![1, 2048, N]⟩ : Shape).Idx → EReal} (h : ∀ q l, x (ix3 0 q l) = y (ix3 0 q l)) : x = y := by
  funext i
  have hi : i = ix3 0 (i 1) (i 2) := by
    funext a
    fin_cases a
    · exact Subsingleton.elim (α := Fin 1) _ _
    · rfl
    · rfl
  rw [hi]
  exact h _ _

set_option maxHeartbeats 4000000 in
/-- The body at a point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after_0 m c t, after_1 m c t, after_2 m c t, after_3 m c t, after_4 m c t, after_5 m c t, after_6 m c t, after_7 m c t, after_8 m c t, after_9 m c t, after_10 m c t, after_11 m c t]
  simp only [before0_0_of m (dats m 0 c) (A_eq m c 0) (after_0 m c) t, before0_1_of m (dats m 0 c) (A_eq m c 1) (after_1 m c) t, before0_2_of m (dats m 0 c) (A_eq m c 2) (after_2 m c) t, before0_3_of m (dats m 0 c) (A_eq m c 3) (after_3 m c) t, before0_4_of m (dats m 0 c) (A_eq m c 4) (after_4 m c) t, before0_5_of m (dats m 0 c) (A_eq m c 5) (after_5 m c) t, before0_6_of m (dats m 0 c) (A_eq m c 6) (after_6 m c) t, before0_7_of m (dats m 0 c) (A_eq m c 7) (after_7 m c) t, before0_8_of m (dats m 0 c) (A_eq m c 8) (after_8 m c) t]
  unfold owns
  iintro ⟨⟨⟨⟨%d14, %f14, -, H14⟩, ⟨%d15, %f15, -, H15⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩⟩
  have r := env_reads m c t f0 f1 f2 f3 f4 f5 f6 f7 f8 e0 e1 e2 e3 e4 e5 e6 e7 e8
  iapply (bodyTriple (F := Ideal) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) f0 f1 f2 f3 f4 f5 f6 f7 f8 f9 f10 f11 f14 f15 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H14]; · iexact H14
  isplitl [H15]; · iexact H15
  iintro ⟨H0, H1, H2, H3, H4, H5, H6, H7, H8, H9, H10, H11, H14, H15⟩
  isplitl [H14 H15 Hg]
  · isplitl [H14 H15]
    · isplitl [H14]
      · icases H14 with ⟨%g, H14⟩
        iexists _, g; isplitr; · ipureintro; rfl
        iexact H14
      · icases H15 with ⟨%g, H15⟩
        iexists _, g; isplitr; · ipureintro; rfl
        iexact H15
    · iexact Hg
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists _; isplitr; swap; · iexact H9
    ipureintro
    exact eq_of_rows fun q l => (r.out11 f14 f15 f9 q l).trans (place_9 _ t q l).symm
  isplitl [H10]
  · iexists _; isplitr; swap; · iexact H10
    ipureintro
    exact eq_of_rows fun q l => (r.out12 f14 f15 f10 q l).trans (place_10 _ t q l).symm
  iexists _; isplitr; swap; · iexact H11
  ipureintro
  exact eq_of_rows fun q l => (r.out13 f14 f15 f11 q l).trans (place_11 _ t q l).symm

/-- The obligation the pipeline asks of the body. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run of the program. -/
theorem run_main :
    θ_run defs (onTc (τ := τ) (main (F := Ideal))) (s₀ m ρ)
      (Pipeline.FramePost cfgs (dats m) (0 : Fin 1) (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem arr_9 (c : Dev nD) (G : Wide) (dat : Dat τ (Elt Ideal) Unit ℕ (UR sig nD τ) ℕ cfg0 c)
    (h : ∀ t, dat.after 9 t = ((cfg0.win 9).blk t).view.read (Elt Ideal) G) : dat.arrAt 9 (cfgs 0).N = G := by
  refine dat.arrAt_eq_of_covers 9 _ (by decide +kernel) fun t hf y => ?_
  rw [h]
  rfl

theorem arr_10 (c : Dev nD) (G : Wide) (dat : Dat τ (Elt Ideal) Unit ℕ (UR sig nD τ) ℕ cfg0 c)
    (h : ∀ t, dat.after 10 t = ((cfg0.win 10).blk t).view.read (Elt Ideal) G) : dat.arrAt 10 (cfgs 0).N = G := by
  refine dat.arrAt_eq_of_covers 10 _ (by decide +kernel) fun t hf y => ?_
  rw [h]
  rfl

theorem arr_11 (c : Dev nD) (G : Pairs) (dat : Dat τ (Elt Ideal) Unit ℕ (UR sig nD τ) ℕ cfg0 c)
    (h : ∀ t, dat.after 11 t = ((cfg0.win 11).blk t).view.read (Elt Ideal) G) : dat.arrAt 11 (cfgs 0).N = G := by
  refine dat.arrAt_eq_of_covers 11 _ (by decide +kernel) fun t hf y => ?_
  rw [h]
  rfl

/-- The run ends with the three result arrays, its arguments as launched. -/
theorem run :
    θ_run defs (onTc (τ := τ) (main (F := Ideal))) (s₀ m ρ)
      (fun r => ∀ c : Dev nD, r.2.mem ((c : Thread nD τ).loc main_v109_0) = (ins m c).dqArr ∧ r.2.mem ((c : Thread nD τ).loc main_v109_1) = (ins m c).dkArr
        ∧ r.2.mem ((c : Thread nD τ).loc main_v109_2) = (ins m c).dvArr ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4)) :=
  (run_main m ρ).mono fun r h c => ⟨((h c).1 9).trans (arr_9 c _ (dats m 0 c) (after_9 m c)), ((h c).1 10).trans (arr_10 c _ (dats m 0 c) (after_10 m c)), ((h c).1 11).trans (arr_11 c _ (dats m 0 c) (after_11 m c)),
    ((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c)⟩

end Cert.KernelIdeal.Value

end
-- ==== Proof.Value.Steps.lean ====
/- The host code in front of the kernel: what it does to the five arguments, as named steps, and the kernel's nine arrays
   as those steps of the arguments. -/
module

public import proofs.«01_k».proof.Proof.Value.Launch

@[expose] public section

set_option maxRecDepth 16384
set_option maxHeartbeats 1000000

noncomputable section

namespace Cert.KernelIdeal.Value

open Cert.KernelIdeal Cert.KernelIdeal.Gen
open Idealize.ShloMosaic Idealize.ShloMosaic.TcCoe Idealize.ShloMosaic.Tactic

abbrev A96 := FVec Ideal S4x2048x16x96 .f32
abbrev A64 := FVec Ideal S4x2048x16x64 .f32
abbrev AScore := FVec Ideal S4x16x2048x2048 .f32
abbrev ARow := FVec Ideal S4x16x2048 .f32
abbrev APos := IVec S4x2048 32

/-- The sixteen inverse frequencies. -/
def invf : FVec Ideal S16 .f32 :=
  Host.divf (broadcastInDim S16 ![] bcast_S_S16 (constant S_ .f32 0x3F800000#32))
    (Host.powf (broadcastInDim S16 ![] bcast_S_S16 (constant S_ .f32 0x461C4000#32))
      (mulf (sitofp .f32 (iotaInDim S16 32 0)) (broadcastInDim S16 ![] bcast_S_S16 (constant S_ .f32 0x3D800000#32))))

/-- The angles of a position. -/
def ang (pos : APos) : FVec Ideal S4x2048x16 .f32 :=
  mulf (broadcastInDim S4x2048x16 ![0, 1, 2] bcast_S4x2048x1_S4x2048x16_0_1_2 (broadcastInDim S4x2048x1 ![0, 1] bcast_S4x2048_S4x2048x1_0_1 (sitofp .f32 pos : FVec Ideal S4x2048 .f32)))
    (broadcastInDim S4x2048x16 ![0, 1, 2] bcast_S1x1x16_S4x2048x16_0_1_2 (broadcastInDim S1x1x16 ![2] bcast_S16_S1x1x16_2 invf))

/-- A function of the angles, for every head. -/
def onHeads (x : FVec Ideal S4x2048x16 .f32) : FVec Ideal S4x2048x16x16 .f32 :=
  broadcastInDim S4x2048x16x16 ![0, 1, 2, 3] bcast_S4x2048x1x16_S4x2048x16x16_0_1_2_3 (broadcastInDim S4x2048x1x16 ![0, 1, 3] bcast_S4x2048x16_S4x2048x1x16_0_1_3 x)

def half1 (q : A96) : FVec Ideal S4x2048x16x16 .f32 := extractStridedSlice S4x2048x16x16 ![0, 0, 0, 64] q slices_S4x2048x16x96_S4x2048x16x16_0_0_0_64
def half2 (q : A96) : FVec Ideal S4x2048x16x16 .f32 := extractStridedSlice S4x2048x16x16 ![0, 0, 0, 80] q slices_S4x2048x16x96_S4x2048x16x16_0_0_0_80
def rot1 (q : A96) (pos : APos) : FVec Ideal S4x2048x16x16 .f32 :=
  subf (mulf (half1 q) (onHeads (Host.cos (ang pos)))) (mulf (half2 q) (onHeads (Host.sin (ang pos))))
def rot2 (q : A96) (pos : APos) : FVec Ideal S4x2048x16x16 .f32 :=
  addf (mulf (half2 q) (onHeads (Host.cos (ang pos)))) (mulf (half1 q) (onHeads (Host.sin (ang pos))))

/-- The rotated queries. -/
def rot (q : A96) (pos : APos) : A96 :=
  concatenate S4x2048x16x96 3 [⟨S4x2048x16x64, extractStridedSlice S4x2048x16x64 ![0, 0, 0, 0] q slices_S4x2048x16x96_S4x2048x16x64_0_0_0_0⟩,
    ⟨S4x2048x16x16, rot1 q pos⟩, ⟨S4x2048x16x16, rot2 q pos⟩] concatenates_S4x2048x16x64_S4x2048x16x16_S4x2048x16x16_S4x2048x16x96_d3

/-- The scores, the later keys masked. -/
def scores (x k : A96) : AScore :=
  mulf (Host.dotGeneral dot_S4x2048x16x96_S4x2048x16x96_S4x16x2048x2048_3_3_1_1_02_02 none x k) (broadcastInDim S4x16x2048x2048 ![] bcast_S_S4x16x2048x2048 (constant S_ .f32 0x3DD105EC#32))
def causal : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))
def masked (s : AScore) : AScore :=
  select (broadcastInDim S4x16x2048x2048 ![2, 3] bcast_S2048x2048_S4x16x2048x2048_2_3 causal) s (broadcastInDim S4x16x2048x2048 ![] bcast_S_S4x16x2048x2048 (constant S_ .f32 0xFF800000#32))

def rowMax (s : AScore) : ARow := Host.reduce FloatOps.maximumf s (constant S_ .f32 0xFF800000#32 : FVec Ideal S_ .f32) reducesTo_S4x16x2048x2048_S4x16x2048_d3 h_S_
def onKeys (x : ARow) : AScore := broadcastInDim S4x16x2048x2048 ![0, 1, 2, 3] bcast_S4x16x2048x1_S4x16x2048x2048_0_1_2_3 (broadcastInDim S4x16x2048x1 ![0, 1, 2] bcast_S4x16x2048_S4x16x2048x1_0_1_2 x)
def expo (s : AScore) : AScore := Host.exp (subf s (onKeys (rowMax s)))
def rowSum (e : AScore) : ARow := Host.reduceAdd e (constant S_ .f32 0x00000000#32) reducesTo_S4x16x2048x2048_S4x16x2048_d3 h_S_

/-- The attention's output, and its row offsets. -/
def outp (v : A64) (e : AScore) : A64 :=
  transpose S4x2048x16x64 [0, 3, 1, 2] (Host.dotGeneral dot_S4x2048x16x64_S4x16x2048x2048_S4x16x64x2048_1_3_3_2_02_01 none v (Host.divf e (onKeys (rowSum e)))) transposes_S4x16x64x2048_S4x2048x16x64_0_3_1_2
def offs (s : AScore) : ARow :=
  Host.divf (addf (rowMax s) (Host.log (rowSum (expo s)))) (broadcastInDim S4x16x2048 ![] bcast_S_S4x16x2048 (Host.log (constant S_ .f32 0x40000000#32)))
def zeroI : FVec Ideal S_ .f32 := sitofp .f32 (constantI S_ 32 0#32)
def padRows (x : ARow) : FVec Ideal S4x8x8x2048 .f32 :=
  pad S4x8x8x2048 ![0, 0, 0, 0] ![0, 0, 6, 0] ![0, 0, 0, 0] (shapeCast S4x8x2x2048 x shapeCasts_S4x16x2048_S4x8x2x2048) zeroI pads_S4x8x2x2048_S4x8x8x2048_000_000_060_000 h_S_

/-- A head of 96 on 128 lanes, and the heads of 64 side by side. -/
def wide (x : A96) : FVec Ideal S4x2048x2048 .bf16 :=
  truncf .bf16 (shapeCast S4x2048x2048 (pad S4x2048x16x128 ![0, 0, 0, 0] ![0, 0, 0, 32] ![0, 0, 0, 0] x zeroI pads_S4x2048x16x96_S4x2048x16x128_000_000_000_0320 h_S_) shapeCasts_S4x2048x16x128_S4x2048x2048) bitsLt_bf16_f32
def flat (x : A64) : FVec Ideal S4x2048x1024 .f32 := shapeCast S4x2048x1024 x shapeCasts_S4x2048x16x64_S4x2048x1024

/-- The angles on the lanes of a head, and the three tables. -/
def freqs : FVec Ideal S128 .f32 :=
  concatenate S128 0 [⟨S64, broadcastInDim S64 ![] bcast_S_S64 (constant S_ .f32 0x00000000#32 : FVec Ideal S_ .f32)⟩, ⟨S16, invf⟩, ⟨S16, invf⟩,
    ⟨S32, broadcastInDim S32 ![] bcast_S_S32 (constant S_ .f32 0x00000000#32 : FVec Ideal S_ .f32)⟩] concatenates_S64_S16_S16_S32_S128_d0
def lang (pos : APos) : FVec Ideal S8192x128 .f32 :=
  mulf (broadcastInDim S8192x128 ![0, 1] bcast_S8192x1_S8192x128_0_1 (shapeCast S8192x1 (sitofp .f32 pos : FVec Ideal S4x2048 .f32) shapeCasts_S4x2048_S8192x1))
    (broadcastInDim S8192x128 ![0, 1] bcast_S1x128_S8192x128_0_1 (shapeCast S1x128 freqs shapeCasts_S128_S1x128))
def lnum : IVec S8192x128 32 := subi (iotaInDim S8192x128 32 1) (broadcastInDim S8192x128 ![] bcast_S_S8192x128 (constantI S_ 32 64#32))
def inRange (a b : BitVec 32) : IVec S8192x128 1 :=
  andi (cmpi .sge lnum (broadcastInDim S8192x128 ![] bcast_S_S8192x128 (constantI S_ 32 a))) (cmpi .slt lnum (broadcastInDim S8192x128 ![] bcast_S_S8192x128 (constantI S_ 32 b)))
def tabOf (c : IVec S8192x128 1) (x : FVec Ideal S8192x128 .f32) (w : BitVec 32) : FVec Ideal S4x2048x128 .f32 :=
  shapeCast S4x2048x128 (select c x (broadcastInDim S8192x128 ![] bcast_S_S8192x128 (constant S_ .f32 w : FVec Ideal S_ .f32))) shapeCasts_S8192x128_S4x2048x128
def tabC (pos : APos) := tabOf (ori (inRange 0#32 16#32) (inRange 16#32 32#32)) (Host.cos (lang pos)) 0x3F800000#32
def tabS (pos : APos) := tabOf (inRange 16#32 32#32) (Host.sin (lang pos)) 0x00000000#32
def tabN (pos : APos) := tabOf (inRange 0#32 16#32) (Host.negf (Host.sin (lang pos))) 0x00000000#32

variable (m : (l : Loc nD τ sig) → Buf (Elt Ideal) l)

section
abbrev aq (c : Dev nD) : A96 := m ((c : Thread nD τ).loc main_arg0)
abbrev ak (c : Dev nD) : A96 := m ((c : Thread nD τ).loc main_arg1)
abbrev av (c : Dev nD) : A64 := m ((c : Thread nD τ).loc main_arg2)
abbrev apos (c : Dev nD) : APos := m ((c : Thread nD τ).loc main_arg3)
abbrev act (c : Dev nD) : A64 := m ((c : Thread nD τ).loc main_arg4)
end

end Cert.KernelIdeal.Value

end
-- ==== Proof.Value.HostRead.lean ====
/- The host steps in front of the kernel, read at an index. -/
module

public import proofs.«01_k».proof.Proof.Value.Steps
public import Idealize.ShloMosaic.Lib.Pointwise

@[expose] public section

set_option maxRecDepth 16384
set_option maxHeartbeats 1000000

noncomputable section

namespace Cert.KernelIdeal.Value

open Cert.KernelIdeal Cert.KernelIdeal.Gen
open Idealize.ShloMosaic Idealize.ShloMosaic.TcCoe Idealize.ShloMosaic.Tactic

theorem zeroW : (FloatOps.sitofp FTy.f32 (0#32 : BitVec 32) : Ideal .f32) = 0 := by
  show (((0#32 : BitVec 32).toInt : ℝ) : EReal) = 0
  simp

theorem wide_at (x : A96) (b : Fin 4) (q : Fin 2048) (h : Fin 16) (d : Fin 128) :
    wide x (ix3 b q (laneH h d)) = if hd : d.val < 96 then x (ix4 b q h ⟨d.val, hd⟩) else 0 := by
  pointwise [wide, zeroI, laneH]
  rw [zeroW]

theorem flat_at (x : A64) (b : Fin 4) (q : Fin 2048) (p : Fin 8) (d : Fin 128) :
    flat x (ix3 b q (laneP p d)) = x (ix4 b q ⟨2 * p.val + d.val / 64, by omega⟩ ⟨d.val % 64, by omega⟩) := by
  pointwise [flat, laneP]
  congr 2 <;> (apply Fin.ext; simp only []; omega)

theorem padRows_at (x : ARow) (b : Fin 4) (h : Fin 16) (q : Fin 2048) :
    padRows x (ix4 b (prH h) (sdH h) q) = x (ix3 b h q) := by
  pointwise [padRows, prH, sdH]
  rw [dif_pos (by omega)]

theorem botW : Ideal.ofBits .f32 0xFF800000#32 = ⊥ := by simp [Ideal.ofBits, Ideal.ieee]

theorem select_ofBool {α : Type} (b : Bool) (x y : α) : Scalar.select (BitVec.ofBool b) x y = if b = true then x else y := by
  cases b <;> rfl

theorem scores_at (x k : A96) (b : Fin 4) (h : Fin 16) (q j : Fin 2048) :
    scores x k (ix4 b h q j) = (∑ l : Fin 96, x (ix4 b q h l) * k (ix4 b j h l)) * sc := by
  pointwise [scores, sc]

theorem masked_at (s : AScore) (b : Fin 4) (h : Fin 16) (q j : Fin 2048) :
    masked s (ix4 b h q j) = if j.val ≤ q.val then s (ix4 b h q j) else ⊥ := by
  pointwise [masked, causal]
  rw [botW, WordCmp.cmpi_sle_ofNat (by omega) (by omega), select_ofBool]
  simp only [decide_eq_true_eq]

theorem rowMax_at (s : AScore) (b : Fin 4) (h : Fin 16) (q : Fin 2048) :
    rowMax s (ix3 b h q) = (Finset.univ : Finset (Fin 2048)).fold max ⊥ (fun j => s (ix4 b h q j)) := by
  pointwise [rowMax]
  rw [botW]

theorem expo_at (s : AScore) (b : Fin 4) (h : Fin 16) (q j : Fin 2048) :
    expo s (ix4 b h q j) = Ideal.exp (s (ix4 b h q j) - rowMax s (ix3 b h q)) := by
  generalize hm : rowMax s = y
  unfold expo
  rw [hm]
  pointwise [onKeys]

theorem rowSum_at (e : AScore) (b : Fin 4) (h : Fin 16) (q : Fin 2048) :
    rowSum e (ix3 b h q) = ∑ j : Fin 2048, e (ix4 b h q j) := by
  pointwise [rowSum]

theorem outp_at (v : A64) (e : AScore) (b : Fin 4) (q : Fin 2048) (h : Fin 16) (d : Fin 64) :
    outp v e (ix4 b q h d) = ∑ j : Fin 2048, v (ix4 b j h d) * Ideal.div (e (ix4 b h q j)) (rowSum e (ix3 b h q)) := by
  unfold outp
  generalize rowSum e = y
  pointwise [onKeys]

theorem bcast_row (w : FVec Ideal S_ .f32) (i : S4x16x2048.Idx) :
    broadcastInDim S4x16x2048 ![] bcast_S_S4x16x2048 w i = w (Shape.Idx.first h_S_) :=
  congrArg w (funext fun a => a.elim0)

theorem divlog_at (z y w : ARow) (i : S4x16x2048.Idx) : Host.divf (addf z (Host.log y)) w i = Ideal.div (z i + Ideal.log (y i)) (w i) := rfl

theorem log_at (w : FVec Ideal S_ .f32) (i : S_.Idx) : Host.log w i = Ideal.log (w i) := rfl

theorem offs_at (s : AScore) (b : Fin 4) (h : Fin 16) (q : Fin 2048) :
    offs s (ix3 b h q) = Ideal.div (rowMax s (ix3 b h q) + Ideal.log (rowSum (expo s) (ix3 b h q))) (Ideal.log (Ideal.ofBits .f32 0x40000000#32)) := by
  unfold offs
  rw [divlog_at, bcast_row, log_at]
  refine congrArg (Ideal.div (rowMax s (ix3 b h q) + Ideal.log (rowSum (expo s) (ix3 b h q)))) (congrArg Ideal.log ?_)
  rfl

theorem rot_lo (q : A96) (pos : APos) (b : Fin 4) (t : Fin 2048) (h : Fin 16) (d : Fin 96) (hd : d.val < 64) :
    rot q pos (ix4 b t h d) = q (ix4 b t h d) := by
  pointwise [rot]
  rw [dif_pos hd]

theorem rot_mid (q : A96) (pos : APos) (b : Fin 4) (t : Fin 2048) (h : Fin 16) (j : Fin 16) :
    rot q pos (ix4 b t h ⟨64 + j.val, by omega⟩) = q (ix4 b t h ⟨64 + j.val, by omega⟩) * Ideal.cos (ang pos (ix3 b t j)) - q (ix4 b t h ⟨80 + j.val, by omega⟩) * Ideal.sin (ang pos (ix3 b t j)) := by
  pointwise [rot, rot1, half1, half2, onHeads]

theorem rot_hi (q : A96) (pos : APos) (b : Fin 4) (t : Fin 2048) (h : Fin 16) (j : Fin 16) :
    rot q pos (ix4 b t h ⟨80 + j.val, by omega⟩) = q (ix4 b t h ⟨80 + j.val, by omega⟩) * Ideal.cos (ang pos (ix3 b t j)) + q (ix4 b t h ⟨64 + j.val, by omega⟩) * Ideal.sin (ang pos (ix3 b t j)) := by
  have e : 80 + j.val - 64 - 16 = j.val := by omega
  pointwise [rot, rot2, half1, half2, onHeads]
  rw [dif_neg (by omega), dif_neg (by omega)]
  simp only [e]

theorem ang_at (pos : APos) (b : Fin 4) (t : Fin 2048) (j : Fin 16) :
    ang pos (ix3 b t j) = ((((pos (ix2 b t)).toInt : ℝ)) : EReal) * invf (ix1 j) := by
  pointwise [ang]
  rfl

theorem in1 (d : Fin 128) : IntOp.andi (IntOp.cmpi CmpIPredicate.sge (IntOp.subi (BitVec.ofNat 32 d.val) 64#32) 0#32)
    (IntOp.cmpi CmpIPredicate.slt (IntOp.subi (BitVec.ofNat 32 d.val) 64#32) 16#32) = BitVec.ofBool (decide (64 ≤ d.val ∧ d.val < 80)) := by
  revert d; decide

theorem in2 (d : Fin 128) : IntOp.andi (IntOp.cmpi CmpIPredicate.sge (IntOp.subi (BitVec.ofNat 32 d.val) 64#32) 16#32)
    (IntOp.cmpi CmpIPredicate.slt (IntOp.subi (BitVec.ofNat 32 d.val) 64#32) 32#32) = BitVec.ofBool (decide (80 ≤ d.val ∧ d.val < 96)) := by
  revert d; decide

theorem tabC_at (pos : APos) (b : Fin 4) (t : Fin 2048) (d : Fin 128) :
    tabC pos (ix3 b t d) = if h1 : 64 ≤ d.val ∧ d.val < 80 then Ideal.cos (ang pos (ix3 b t ⟨d.val - 64, by omega⟩))
      else if h2 : 80 ≤ d.val ∧ d.val < 96 then Ideal.cos (ang pos (ix3 b t ⟨d.val - 64 - 16, by omega⟩)) else 1 := by
  pointwise [tabC, tabOf, inRange, lnum, lang, freqs, ang]
  rw [in1, in2]
  by_cases h1 : 64 ≤ d.val ∧ d.val < 80
  · rw [dif_pos h1, decide_eq_true h1, dif_neg (by omega), dif_pos (by omega), show IntOp.ori (BitVec.ofBool true) (BitVec.ofBool (decide (80 ≤ d.val ∧ d.val < 96))) = BitVec.ofBool true by rw [decide_eq_false (by omega)]; rfl, select_ofBool, if_pos rfl]
  · rw [dif_neg h1, decide_eq_false h1]
    by_cases h2 : 80 ≤ d.val ∧ d.val < 96
    · rw [dif_pos h2, decide_eq_true h2, dif_neg (by omega), dif_neg (by omega), dif_pos (by omega), show IntOp.ori (BitVec.ofBool false) (BitVec.ofBool true) = BitVec.ofBool true from rfl, select_ofBool, if_pos rfl]
    · rw [dif_neg h2, decide_eq_false h2, show IntOp.ori (BitVec.ofBool false) (BitVec.ofBool false) = BitVec.ofBool false from rfl, select_ofBool, if_neg (by simp)]

theorem tabS_at (pos : APos) (b : Fin 4) (t : Fin 2048) (d : Fin 128) :
    tabS pos (ix3 b t d) = if h2 : 80 ≤ d.val ∧ d.val < 96 then Ideal.sin (ang pos (ix3 b t ⟨d.val - 64 - 16, by omega⟩)) else 0 := by
  pointwise [tabS, tabOf, inRange, lnum, lang, freqs, ang]
  rw [in2]
  by_cases h2 : 80 ≤ d.val ∧ d.val < 96
  · rw [dif_pos h2, decide_eq_true h2, dif_neg (by omega), dif_neg (by omega), dif_pos (by omega), select_ofBool, if_pos rfl]
  · rw [dif_neg h2, decide_eq_false h2, select_ofBool, if_neg (by simp)]

theorem tabN_at (pos : APos) (b : Fin 4) (t : Fin 2048) (d : Fin 128) :
    tabN pos (ix3 b t d) = if h1 : 64 ≤ d.val ∧ d.val < 80 then - Ideal.sin (ang pos (ix3 b t ⟨d.val - 64, by omega⟩)) else 0 := by
  pointwise [tabN, tabOf, inRange, lnum, lang, freqs, ang]
  rw [in1]
  by_cases h1 : 64 ≤ d.val ∧ d.val < 80
  · rw [dif_pos h1, decide_eq_true h1, dif_neg (by omega), dif_pos (by omega), select_ofBool, if_pos rfl]
  · rw [dif_neg h1, decide_eq_false h1, select_ofBool, if_neg (by simp)]

end Cert.KernelIdeal.Value

end
-- ==== Proof.Value.RefRead.lean ====
/- The reference's steps, read at an index. -/
module

public import proofs.«01_k».proof.Proof.Value.HostRead
public import proofs.«01_k».proof.Proof.Gen.ReferenceIdeal.Read

@[expose] public section

set_option maxRecDepth 16384
set_option maxHeartbeats 1000000

noncomputable section

namespace Cert.KernelIdeal.Value

open Cert.KernelIdeal Cert.KernelIdeal.Gen
open Idealize.ShloMosaic Idealize.ShloMosaic.TcCoe Idealize.ShloMosaic.Tactic

open Cert.ReferenceIdeal.Read

/-- The masked scores. -/
def scoresOf (x0 x1 : A96) (x3 : APos) : AScore := masked (scores (rot x0 x3) x1)

theorem ref_ang (x3 : APos) : val_main_v14 (F := Ideal) x3 = ang x3 := rfl

theorem ref_lo (x0 : A96) (x3 : APos) (b : Fin 4) (t : Fin 2048) (h : Fin 16) (d : Fin 96) (hd : d.val < 64) :
    val_main_v32 (F := Ideal) x0 x3 (ix4 b t h d) = x0 (ix4 b t h d) := by
  pointwise [val_main_v32, val_main_v0]
  rw [dif_pos hd]

theorem ref_mid (x0 : A96) (x3 : APos) (b : Fin 4) (t : Fin 2048) (h : Fin 16) (j : Fin 16) :
    val_main_v32 (F := Ideal) x0 x3 (ix4 b t h ⟨64 + j.val, by omega⟩) = x0 (ix4 b t h ⟨64 + j.val, by omega⟩) * Ideal.cos (ang x3 (ix3 b t j)) - x0 (ix4 b t h ⟨80 + j.val, by omega⟩) * Ideal.sin (ang x3 (ix3 b t j)) := by
  rw [← ref_ang]
  pointwise [val_main_v32, val_main_v31, val_main_v25, val_main_v22, val_main_v24, val_main_v19, val_main_v20, val_main_v21, val_main_v23, val_main_v16, val_main_v18, val_main_v1, val_main_v15, val_main_v17]
  simp only [show 64 + (16 + j.val) = 80 + j.val by omega]

theorem ref_hi (x0 : A96) (x3 : APos) (b : Fin 4) (t : Fin 2048) (h : Fin 16) (j : Fin 16) :
    val_main_v32 (F := Ideal) x0 x3 (ix4 b t h ⟨80 + j.val, by omega⟩) = x0 (ix4 b t h ⟨80 + j.val, by omega⟩) * Ideal.cos (ang x3 (ix3 b t j)) + x0 (ix4 b t h ⟨64 + j.val, by omega⟩) * Ideal.sin (ang x3 (ix3 b t j)) := by
  rw [← ref_ang]
  pointwise [val_main_v32, val_main_v31, val_main_v30, val_main_v27, val_main_v29, val_main_v19, val_main_v20, val_main_v26, val_main_v28, val_main_v16, val_main_v18, val_main_v1, val_main_v15, val_main_v17]
  rw [dif_neg (by omega), dif_neg (by omega)]
  simp only [show 80 + j.val - 64 - 16 = j.val by omega, show 64 + (16 + j.val) = 80 + j.val by omega]

/-- The first and the second half of a head's turned lanes. -/
def lane64 (j : Fin 16) : Fin 96 := ⟨64 + j.val, by omega⟩
def lane80 (j : Fin 16) : Fin 96 := ⟨80 + j.val, by omega⟩

theorem ref_rot (x0 : A96) (x3 : APos) : val_main_v32 (F := Ideal) x0 x3 = rot x0 x3 := by
  funext i
  obtain ⟨b, t, h, d, rfl⟩ : ∃ (b : Fin 4) (t : Fin 2048) (h : Fin 16) (d : Fin 96), i = ix4 b t h d := ⟨_, _, _, _, eq_ix4 i⟩
  have hlt := d.isLt
  by_cases h1 : d.val < 64
  · exact (ref_lo x0 x3 b t h d h1).trans (rot_lo x0 x3 b t h d h1).symm
  · by_cases h2 : d.val < 80
    · obtain ⟨j, rfl⟩ : ∃ j : Fin 16, d = lane64 j := ⟨⟨d.val - 64, by omega⟩, Fin.ext (show d.val = 64 + (d.val - 64) by omega)⟩
      exact (ref_mid x0 x3 b t h j).trans (rot_mid x0 x3 b t h j).symm
    · obtain ⟨j, rfl⟩ : ∃ j : Fin 16, d = lane80 j := ⟨⟨d.val - 80, by omega⟩, Fin.ext (show d.val = 80 + (d.val - 80) by omega)⟩
      exact (ref_hi x0 x3 b t h j).trans (rot_hi x0 x3 b t h j).symm

theorem ref_mask (b : Fin 4) (h : Fin 16) (q j : Fin 2048) : val_main_v43_1 (F := Ideal) (ix4 b h q j) = IntOp.cmpi .sle (BitVec.ofNat 32 j.val) (BitVec.ofNat 32 q.val) := by
  pointwise [val_main_v43_1, val_main_v42, val_main_v41, val_main_v39, val_main_v40, val_main_v37, val_main_v38, val_main_v36]

theorem ref_masked (x0 x1 : A96) (x3 : APos) :
    val_main_v43_0 (F := Ideal) x0 x1 x3 = scoresOf x0 x1 x3 := by
  unfold scoresOf
  unfold val_main_v43_0 val_main_v35 val_main_v33
  rw [ref_rot]
  funext i
  idx_vars i
  pointwise [masked, causal, scores, val_main_v34, val_main_cst_2, val_main_call0_v2, val_main_call0_v0, val_main_cst_3]
  rw [ref_mask]
  refine congrArg (Scalar.select _ _) ?_
  rfl

theorem ref_max0 (x0 x1 : A96) (x3 : APos) :
    val_main_v44 (F := Ideal) x0 x1 x3 = rowMax (scoresOf x0 x1 x3) := by
  unfold val_main_v44 val_main_cst_4 rowMax
  rw [ref_masked]

theorem max_bot (y : ARow) : maximumf (val_main_v50 (F := Ideal)) y = y := by
  funext i
  idx_vars i
  pointwise [val_main_v50, val_main_cst_6]
  rw [show Ideal.ofBits .f32 0xFF800000#32 = ⊥ by simp [Ideal.ofBits, Ideal.ieee]]
  exact max_eq_right bot_le

theorem ref_max (x0 x1 : A96) (x3 : APos) :
    val_main_v51 (F := Ideal) x0 x1 x3 = rowMax (scoresOf x0 x1 x3) := by
  unfold val_main_v51
  rw [ref_max0]
  exact max_bot _

theorem ref_expo (x0 x1 : A96) (x3 : APos) :
    val_main_v64 (F := Ideal) x0 x1 x3 = expo (scoresOf x0 x1 x3) := by
  unfold val_main_v64 val_main_v63 val_main_v62 val_main_v61 expo onKeys
  rw [ref_max, ref_masked]

theorem ref_sum (x0 x1 : A96) (x3 : APos) :
    val_main_v65 (F := Ideal) x0 x1 x3 = rowSum (expo (scoresOf x0 x1 x3)) := by
  unfold val_main_v65 val_main_cst_12 rowSum
  rw [ref_expo]

theorem ref_dP (x2 x4 : A64) (b : Fin 4) (h : Fin 16) (q j : Fin 2048) :
    val_main_v75 (F := Ideal) x2 x4 (ix4 b h q j) = ∑ d : Fin 64, x4 (ix4 b q h d) * x2 (ix4 b j h d) := by
  pointwise [val_main_v75, val_main_v74]

theorem ref_dv (x0 x1 : A96) (x3 : APos) (x4 : A64) (b : Fin 4) (h : Fin 16) (q : Fin 2048) (d : Fin 64) :
    val_main_v77 (F := Ideal) x0 x1 x3 x4 (ix4 b q h d) = ∑ j : Fin 2048, x4 (ix4 b j h d) * Ideal.div (val_main_v64 (F := Ideal) x0 x1 x3 (ix4 b h j q)) (val_main_v65 (F := Ideal) x0 x1 x3 (ix3 b h j)) := by
  generalize he : val_main_v64 (F := Ideal) x0 x1 x3 = e
  generalize hl : val_main_v65 (F := Ideal) x0 x1 x3 = l
  unfold val_main_v77 val_main_v76 val_main_v68 val_main_v67 val_main_v66
  rw [he, hl]
  pointwise [val_main_v74]

theorem ref_corr (x0 x1 : A96) (x2 : A64) (x3 : APos) (x4 : A64) (b : Fin 4) (h : Fin 16) (q : Fin 2048) :
    val_main_v86 (F := Ideal) x0 x1 x2 x3 x4 (ix3 b h q) = - ∑ j : Fin 2048, val_main_v75 (F := Ideal) x2 x4 (ix4 b h q j)
        * Ideal.div 1 (val_main_v65 (F := Ideal) x0 x1 x3 (ix3 b h q) * val_main_v65 (F := Ideal) x0 x1 x3 (ix3 b h q)) * val_main_v64 (F := Ideal) x0 x1 x3 (ix4 b h q j) := by
  generalize he : val_main_v64 (F := Ideal) x0 x1 x3 = e
  generalize hl : val_main_v65 (F := Ideal) x0 x1 x3 = l
  generalize hp : val_main_v75 (F := Ideal) x2 x4 = p
  unfold val_main_v86 val_main_v83 val_main_v82 val_main_v81 val_main_v80 val_main_v79 val_main_v78 val_main_v71 val_main_v69 val_main_v66
  rw [he, hl, hp]
  pointwise [val_main_v70, val_main_cst_13, val_main_cst_14, val_main_cst_15]
  exact Fin.sum_univ_one _

theorem ref_dS (x0 x1 : A96) (x2 : A64) (x3 : APos) (x4 : A64) (b : Fin 4) (h : Fin 16) (q j : Fin 2048) :
    val_main_v92 (F := Ideal) x0 x1 x2 x3 x4 (ix4 b h q j) = Scalar.select (val_main_v43_1 (F := Ideal) (ix4 b h q j))
      ((Ideal.div (val_main_v75 (F := Ideal) x2 x4 (ix4 b h q j)) (val_main_v65 (F := Ideal) x0 x1 x3 (ix3 b h q)) + val_main_v86 (F := Ideal) x0 x1 x2 x3 x4 (ix3 b h q)) * val_main_v64 (F := Ideal) x0 x1 x3 (ix4 b h q j)) 0 * sc := by
  generalize he : val_main_v64 (F := Ideal) x0 x1 x3 = e
  generalize hl : val_main_v65 (F := Ideal) x0 x1 x3 = l
  generalize hp : val_main_v75 (F := Ideal) x2 x4 = p
  generalize hc : val_main_v86 (F := Ideal) x0 x1 x2 x3 x4 = c
  generalize hm : val_main_v43_1 (F := Ideal) = k
  unfold val_main_v92 val_main_v90 val_main_v89 val_main_v88 val_main_v87 val_main_v85 val_main_v84 val_main_v66
  rw [he, hl, hp, hc, hm]
  pointwise [val_main_v91, val_main_cst_16, val_main_call1_v0, val_main_call1_cst, sc]

theorem ref_dk (x0 x1 : A96) (x2 : A64) (x3 : APos) (x4 : A64) (b : Fin 4) (h : Fin 16) (j : Fin 2048) (d : Fin 96) :
    val_main_v94 (F := Ideal) x0 x1 x2 x3 x4 (ix4 b j h d) = ∑ q : Fin 2048, val_main_v92 (F := Ideal) x0 x1 x2 x3 x4 (ix4 b h q j) * val_main_v32 (F := Ideal) x0 x3 (ix4 b q h d) := by
  unfold val_main_v94 val_main_v93
  generalize val_main_v92 (F := Ideal) x0 x1 x2 x3 x4 = e
  generalize val_main_v32 (F := Ideal) x0 x3 = r
  pointwise []

theorem ref_dqr (x0 x1 : A96) (x2 : A64) (x3 : APos) (x4 : A64) (b : Fin 4) (h : Fin 16) (q : Fin 2048) (d : Fin 96) :
    val_main_v96 (F := Ideal) x0 x1 x2 x3 x4 (ix4 b q h d) = ∑ j : Fin 2048, val_main_v92 (F := Ideal) x0 x1 x2 x3 x4 (ix4 b h q j) * x1 (ix4 b j h d) := by
  unfold val_main_v96 val_main_v95
  generalize val_main_v92 (F := Ideal) x0 x1 x2 x3 x4 = e
  pointwise []

theorem ref_out3 (x0 x1 : A96) (x3 : APos) (x4 : A64) (b : Fin 4) (q : Fin 2048) (p : Fin 8) (d : Fin 128) :
    val_main_v125 (F := Ideal) x0 x1 x3 x4 (ix3 b q (laneP p d)) = val_main_v77 (F := Ideal) x0 x1 x3 x4 (ix4 b q ⟨2 * p.val + d.val / 64, by omega⟩ ⟨d.val % 64, by omega⟩) := by
  unfold val_main_v125 val_main_v124
  generalize val_main_v77 (F := Ideal) x0 x1 x3 x4 = e
  pointwise [laneP]
  congr 2 <;> (apply Fin.ext; simp only []; omega)

theorem ref_out2 (x0 x1 : A96) (x2 : A64) (x3 : APos) (x4 : A64) :
    val_main_v123 (F := Ideal) x0 x1 x2 x3 x4 = wide (val_main_v94 (F := Ideal) x0 x1 x2 x3 x4) := by
  unfold val_main_v123 val_main_v122 val_main_v121
  generalize val_main_v94 (F := Ideal) x0 x1 x2 x3 x4 = e
  rfl

theorem ref_out1 (x0 x1 : A96) (x2 : A64) (x3 : APos) (x4 : A64) :
    val_main_v120 (F := Ideal) x0 x1 x2 x3 x4 = wide (val_main_v117 (F := Ideal) x0 x1 x2 x3 x4) := by
  unfold val_main_v120 val_main_v119 val_main_v118
  generalize val_main_v117 (F := Ideal) x0 x1 x2 x3 x4 = e
  rfl

theorem ref_turn_lo (x0 x1 : A96) (x2 : A64) (x3 : APos) (x4 : A64) (b : Fin 4) (t : Fin 2048) (h : Fin 16) (d : Fin 96) (hd : d.val < 64) :
    val_main_v117 (F := Ideal) x0 x1 x2 x3 x4 (ix4 b t h d) = val_main_v96 (F := Ideal) x0 x1 x2 x3 x4 (ix4 b t h d) := by
  rw [val_main_v117]
  unfold val_main_v116 val_main_v115 val_main_v97
  generalize val_main_v114 (F := Ideal) x0 x1 x2 x3 x4 = z
  generalize val_main_v96 (F := Ideal) x0 x1 x2 x3 x4 = g
  pointwise [val_main_cst_19, val_main_cst_20]
  rw [dif_neg (by omega), dif_pos (by omega), zero_add]

theorem ref_turn_mid (x0 x1 : A96) (x2 : A64) (x3 : APos) (x4 : A64) (b : Fin 4) (t : Fin 2048) (h : Fin 16) (j : Fin 16) (g : A96) (hg : val_main_v96 (F := Ideal) x0 x1 x2 x3 x4 = g) :
    val_main_v117 (F := Ideal) x0 x1 x2 x3 x4 (ix4 b t h ⟨64 + j.val, by omega⟩) = g (ix4 b t h ⟨80 + j.val, by omega⟩) * Ideal.sin (ang x3 (ix3 b t j)) + g (ix4 b t h ⟨64 + j.val, by omega⟩) * Ideal.cos (ang x3 (ix3 b t j)) := by
  rw [← ref_ang]
  unfold val_main_v117 val_main_v116 val_main_v115 val_main_v114 val_main_v112 val_main_v113 val_main_v111 val_main_v108 val_main_v107 val_main_v110 val_main_v105 val_main_v104 val_main_v102 val_main_v99 val_main_v100 val_main_v97 val_main_v98
  rw [hg]
  pointwise [val_main_v101, val_main_v103, val_main_v106, val_main_v109, val_main_v16, val_main_v18, val_main_v15, val_main_v17, val_main_cst_17, val_main_cst_18, val_main_cst_19, val_main_cst_20]
  rw [dif_pos (by omega), dif_neg (fun h => h.1), zero_add]
  simp only [show 64 + (16 + j.val) = 80 + j.val by omega]

theorem ref_turn_hi (x0 x1 : A96) (x2 : A64) (x3 : APos) (x4 : A64) (b : Fin 4) (t : Fin 2048) (h : Fin 16) (d : Fin 96) (hd : 80 ≤ d.val) (g : A96) (hg : val_main_v96 (F := Ideal) x0 x1 x2 x3 x4 = g) :
    val_main_v117 (F := Ideal) x0 x1 x2 x3 x4 (ix4 b t h d) = g (ix4 b t h d) * Ideal.cos (ang x3 (ix3 b t ⟨d.val - 64 - 16, by omega⟩)) + -g (ix4 b t h ⟨64 + (d.val - 64 - 16), by omega⟩) * Ideal.sin (ang x3 (ix3 b t ⟨d.val - 64 - 16, by omega⟩)) := by
  rw [← ref_ang]
  unfold val_main_v117 val_main_v116 val_main_v115 val_main_v114 val_main_v112 val_main_v113 val_main_v111 val_main_v108 val_main_v107 val_main_v110 val_main_v105 val_main_v104 val_main_v102 val_main_v99 val_main_v100 val_main_v97 val_main_v98
  rw [hg]
  pointwise [val_main_v101, val_main_v103, val_main_v106, val_main_v109, val_main_v16, val_main_v18, val_main_v15, val_main_v17, val_main_cst_17, val_main_cst_18, val_main_cst_19, val_main_cst_20]
  have h1 : 64 ≤ d.val ∧ d.val - 64 < 32 := by omega
  have h2 : 16 ≤ d.val - 64 ∧ d.val - 64 - 16 < 16 := by omega
  have h3 : ¬ (d.val - 64 < 16) := by omega
  have h4 : ¬ (d.val < 64) := by omega
  refine (congrArg₂ (· + ·) (dif_pos h1) (dif_neg h4)).trans ?_
  refine (add_zero _).trans ?_
  refine (congrArg₂ (· + ·) (dif_pos h2) (dif_neg h3)).trans ?_
  refine (add_zero _).trans ?_
  simp only [show 64 + (16 + (d.val - 64 - 16)) = d.val by omega]

end Cert.KernelIdeal.Value

end
-- ==== Proof.Value.Real.lean ====
/- One head's backward pass over the reals, and the kernel's head as it. -/
module

public import proofs.«01_k».proof.Proof.Value.Spec

@[expose] public section

set_option maxRecDepth 16384
set_option maxHeartbeats 1000000

noncomputable section

namespace Cert.KernelIdeal.Value

open Cert.KernelIdeal Cert.KernelIdeal.Gen
open Idealize.ShloMosaic Idealize.ShloMosaic.TcCoe Idealize.ShloMosaic.Tactic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 128 lanes of which only 96 are filled. -/
theorem sum_lanes (f : Fin 96 → EReal) : (∑ l : Fin 128, if h : l.val < 96 then f ⟨l.val, h⟩ else 0) = ∑ l : Fin 96, f l := by
  have h := Fin.sum_univ_add (a := 96) (b := 32) (fun l : Fin 128 => if h : l.val < 96 then f ⟨l.val, h⟩ else 0)
  refine h.trans ?_
  have h2 : (∑ i : Fin 32, (fun l : Fin 128 => if h : l.val < 96 then f ⟨l.val, h⟩ else 0) (Fin.natAdd 96 i)) = 0 :=
    Finset.sum_eq_zero fun i _ => dif_neg (by show ¬ (96 + i.val < 96); omega)
  rw [h2, add_zero]
  exact Finset.sum_congr rfl fun i _ => dif_pos (show i.val < 96 from i.isLt)

/-- A sum over 128 lanes of which only one half is filled. -/
theorem sum_half (c : ℕ) (hc : c < 2) (f : Fin 128 → EReal) :
    (∑ d : Fin 128, if (d.val < 64 ↔ c = 0) then f d else 0) = ∑ d : Fin 64, f ⟨64 * c + d.val, by have := d.isLt; omega⟩ := by
  have h := Fin.sum_univ_add (a := 64) (b := 64) (fun d : Fin 128 => if (d.val < 64 ↔ c = 0) then f d else 0)
  refine h.trans ?_
  by_cases h0 : c = 0
  · subst h0
    have h2 : (∑ i : Fin 64, (fun d : Fin 128 => if (d.val < 64 ↔ 0 = 0) then f d else 0) (Fin.natAdd 64 i)) = 0 :=
      Finset.sum_eq_zero fun i _ => if_neg (by show ¬ (64 + i.val < 64 ↔ 0 = 0); omega)
    rw [h2, add_zero]
    refine Finset.sum_congr rfl fun i _ => (if_pos (by show (i.val < 64 ↔ 0 = 0); have := i.isLt; omega)).trans (congrArg f (Fin.ext ?_))
    show i.val = 64 * 0 + i.val
    omega
  · have h1 : c = 1 := by omega
    subst h1
    have h2 : (∑ i : Fin 64, (fun d : Fin 128 => if (d.val < 64 ↔ 1 = 0) then f d else 0) (Fin.castAdd 64 i)) = 0 :=
      Finset.sum_eq_zero fun i _ => if_neg (by show ¬ (i.val < 64 ↔ 1 = 0); have := i.isLt; omega)
    rw [h2, zero_add]
    exact Finset.sum_congr rfl fun i _ => (if_pos (by show (64 + i.val < 64 ↔ 1 = 0); omega)).trans (congrArg f (Fin.ext rfl))

/-- The row sum of a head is over its half of the lanes, when the products are finite. -/
theorem sumRow_coe (h : Fin 16) (f : Fin 128 → EReal) (g : Fin 128 → ℝ) (hf : ∀ l, f l = (g l : EReal)) :
    sumRow (sdH h) f = ∑ d : Fin 64, f ⟨64 * (h.val % 2) + d.val, by have := d.isLt; omega⟩ := by
  unfold sumRow
  have h2 : (∑ l : Fin 128, sel (sdH h) l * (f l - f l)) = 0 :=
    Finset.sum_eq_zero fun l _ => by rw [hf, ← EReal.coe_sub, sub_self, EReal.coe_zero, mul_zero]
  rw [h2, add_zero, ← sum_half (h.val % 2) (by omega) f]
  refine Finset.sum_congr rfl fun l _ => ?_
  unfold sel
  have hlt : (sdH h).val < 2 := show h.val % 2 < 2 by omega
  by_cases hc : (l.val < 64 ↔ h.val % 2 = 0)
  · rw [if_pos hc, if_pos ⟨hlt, hc⟩, one_mul]
  · rw [if_neg hc, if_neg (fun h' => hc h'.2), zero_mul]

theorem sc_coe : sc = ((3424635 / 33554432 : ℝ) : EReal) := by
  unfold sc
  simp [Ideal.ofBits, Ideal.ieee, -EReal.coe_mul]
  norm_num

/-- The numbers of one head: its rotated queries, keys, values, incoming gradient, and an offset for every query. -/
structure Row where
  R : Fin 2048 → Fin 96 → ℝ
  K : Fin 2048 → Fin 96 → ℝ
  V : Fin 2048 → Fin 64 → ℝ
  D : Fin 2048 → Fin 64 → ℝ
  M : Fin 2048 → ℝ

namespace Row
variable (w : Row)

def s (q k : Fin 2048) : ℝ := (∑ l : Fin 96, w.R q l * w.K k l) * (3424635 / 33554432)
def e (q k : Fin 2048) : ℝ := if k.val ≤ q.val then Real.exp (w.s q k - w.M q) else 0
def l (q : Fin 2048) : ℝ := ∑ k : Fin 2048, w.e q k
def p (q k : Fin 2048) : ℝ := w.e q k / w.l q
def dP (q k : Fin 2048) : ℝ := ∑ d : Fin 64, w.D q d * w.V k d
/-- The gradient of a score. -/
def T (q k : Fin 2048) : ℝ := w.p q k * (w.dP q k - ∑ j : Fin 2048, w.p q j * w.dP q j) * (3424635 / 33554432)
def dk (k : Fin 2048) (d : Fin 96) : ℝ := ∑ q : Fin 2048, w.T q k * w.R q d
def dq (q : Fin 2048) (d : Fin 96) : ℝ := ∑ k : Fin 2048, w.T q k * w.K k d
def dv (k : Fin 2048) (d : Fin 64) : ℝ := ∑ q : Fin 2048, w.D q d * w.p q k

theorem e_nonneg (q k : Fin 2048) : 0 ≤ w.e q k := by
  unfold e
  split
  · exact (Real.exp_pos _).le
  · exact le_rfl

theorem l_pos (q : Fin 2048) : 0 < w.l q := by
  refine lt_of_lt_of_le ?_ (Finset.single_le_sum (f := w.e q) (fun k _ => w.e_nonneg q k) (Finset.mem_univ q))
  unfold e
  rw [if_pos le_rfl]
  exact Real.exp_pos _

/-- The row sum of the output against the incoming gradient. -/
theorem sum_out (q : Fin 2048) : (∑ d : Fin 64, w.D q d * ∑ k : Fin 2048, w.V k d * w.p q k) = ∑ j : Fin 2048, w.p q j * w.dP q j := by
  simp only [dP, Finset.mul_sum]
  rw [Finset.sum_comm]
  exact Finset.sum_congr rfl fun j _ => Finset.sum_congr rfl fun d _ => by ring

/-- The gradient of a score, as differentiation writes it. -/
theorem T_eq (q k : Fin 2048) :
    ((w.dP q k / w.l q + -∑ j : Fin 2048, w.dP q j * (1 / (w.l q * w.l q)) * w.e q j) * w.e q k) * (3424635 / 33554432) = w.T q k := by
  have hl := (w.l_pos q).ne'
  have h : (∑ j : Fin 2048, w.dP q j * (1 / (w.l q * w.l q)) * w.e q j) = (∑ j : Fin 2048, w.p q j * w.dP q j) / w.l q := by
    rw [Finset.sum_div]
    refine Finset.sum_congr rfl fun j _ => ?_
    unfold p
    field_simp
  rw [h]
  unfold T p
  field_simp
  ring

/-- The share of a key as the kernel computes it, a power of two. -/
theorem p_eq (q k : Fin 2048) (h : k.val ≤ q.val) :
    Real.rpow 2 ((∑ l : Fin 96, w.R q l * w.K k l) * (3424635 / 33554432 * (Real.log 2)⁻¹) - (w.M q + Real.log (w.l q)) / Real.log 2) = w.p q k := by
  have h2 : Real.log 2 ≠ 0 := (Real.log_pos (by norm_num)).ne'
  have hr : Real.rpow 2 ((∑ l : Fin 96, w.R q l * w.K k l) * (3424635 / 33554432 * (Real.log 2)⁻¹) - (w.M q + Real.log (w.l q)) / Real.log 2)
      = Real.exp (Real.log 2 * ((∑ l : Fin 96, w.R q l * w.K k l) * (3424635 / 33554432 * (Real.log 2)⁻¹) - (w.M q + Real.log (w.l q)) / Real.log 2)) :=
    Real.rpow_def_of_pos (by norm_num) _
  rw [hr, show Real.log 2 * ((∑ l : Fin 96, w.R q l * w.K k l) * (3424635 / 33554432 * (Real.log 2)⁻¹) - (w.M q + Real.log (w.l q)) / Real.log 2)
      = (w.s q k - w.M q) - Real.log (w.l q) by unfold s; field_simp; ring]
  rw [Real.exp_sub, Real.exp_log (w.l_pos q)]
  unfold p e
  rw [if_pos h]

end Row

/-- The kernel's head reads the numbers of `w`. -/
structure Head.Of (H : Head) (w : Row) : Prop where
  Q : ∀ q l, H.Q q l = if h : l.val < 96 then (w.R q ⟨l.val, h⟩ : EReal) else 0
  K : ∀ k l, H.K k l = if h : l.val < 96 then (w.K k ⟨l.val, h⟩ : EReal) else 0
  VD : ∀ q k, (∑ d : Fin 128, H.V k d * H.DO q d) = (w.dP q k : EReal)
  S : ∀ q, H.S q = ((∑ d : Fin 64, w.D q d * ∑ k : Fin 2048, w.V k d * w.p q k : ℝ) : EReal)
  L : ∀ q, H.L q = (((w.M q + Real.log (w.l q)) / Real.log 2 : ℝ) : EReal)

namespace Head.Of
variable {H : Head} {w : Row} (o : H.Of w)
include o

theorem gP (k q : Fin 2048) : H.gP k q = (w.p q k : EReal) := by
  by_cases h : k.val ≤ q.val
  · have hs : (∑ l : Fin 128, H.K k l * H.Q q l) = ((∑ l : Fin 96, w.R q l * w.K k l : ℝ) : EReal) := by
      rw [coe_sum, ← sum_lanes]
      refine Finset.sum_congr rfl fun l _ => ?_
      rw [o.K, o.Q]
      by_cases hl : l.val < 96
      · rw [dif_pos hl, dif_pos hl, dif_pos hl, ← EReal.coe_mul, mul_comm]
      · rw [dif_neg hl, dif_neg hl, dif_neg hl, zero_mul]
    unfold Head.gP
    rw [if_pos h, hs, o.L]
    unfold c2
    rw [← EReal.coe_mul, ← EReal.coe_sub, Ideal.exp2_coe, w.p_eq q k h]
  · rw [H.gP_zero (by omega)]
    unfold Row.p Row.e
    rw [if_neg h, zero_div, EReal.coe_zero]

theorem gT (k q : Fin 2048) : H.gT k q = (w.T q k : EReal) := by
  unfold Head.gT
  rw [o.gP, o.VD, o.S, w.sum_out, sc_coe, ← EReal.coe_sub, ← EReal.coe_mul, ← EReal.coe_mul]
  rfl

theorem dk (k : Fin 2048) (d : Fin 128) : H.dk k d = if h : d.val < 96 then (w.dk k ⟨d.val, h⟩ : EReal) else 0 := by
  unfold Head.dk
  by_cases h : d.val < 96
  · rw [dif_pos h]
    unfold Row.dk
    rw [coe_sum]
    exact Finset.sum_congr rfl fun q _ => by rw [o.gT, o.Q, dif_pos h, EReal.coe_mul]
  · rw [dif_neg h]
    exact Finset.sum_eq_zero fun q _ => by rw [o.Q, dif_neg h, mul_zero]

theorem dq (q : Fin 2048) (d : Fin 128) : H.dq q d = if h : d.val < 96 then (w.dq q ⟨d.val, h⟩ : EReal) else 0 := by
  unfold Head.dq
  by_cases h : d.val < 96
  · rw [dif_pos h]
    unfold Row.dq
    rw [coe_sum]
    exact Finset.sum_congr rfl fun k _ => by rw [o.gT, o.K, dif_pos h, EReal.coe_mul, mul_comm]
  · rw [dif_neg h]
    exact Finset.sum_eq_zero fun k _ => by rw [o.K, dif_neg h, zero_mul]

theorem dv (k : Fin 2048) (d : Fin 128) (j : Fin 64) (hD : ∀ q, H.DO q d = (w.D q j : EReal)) : H.dv k d = (w.dv k j : EReal) := by
  unfold Head.dv Row.dv
  rw [coe_sum]
  exact Finset.sum_congr rfl fun q _ => by rw [o.gP, hD, EReal.coe_mul, mul_comm]

end Head.Of

end Cert.KernelIdeal.Value

end
-- ==== Proof.Value.Finite.lean ====
/- Finite arguments have finite rotated queries and finite row maxima. -/
module

public import proofs.«01_k».proof.Proof.Value.HostRead
public import proofs.«01_k».proof.Proof.Value.RefRead
public import proofs.«01_k».proof.Proof.Value.Real

@[expose] public section

set_option maxRecDepth 16384
set_option maxHeartbeats 1000000

noncomputable section

namespace Cert.KernelIdeal.Value

open Cert.KernelIdeal Cert.KernelIdeal.Gen
open Idealize.ShloMosaic Idealize.ShloMosaic.TcCoe Idealize.ShloMosaic.Tactic

/-- A finite number. -/
def IsR (x : EReal) : Prop := ∃ r : ℝ, x = (r : EReal)

theorem IsR.coe {x : EReal} (h : IsR x) : x = (x.toReal : EReal) := by
  obtain ⟨r, rfl⟩ := h
  rfl
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.add {x y : EReal} (hx : IsR x) (hy : IsR y) : IsR (x + y) := by
  obtain ⟨a, rfl⟩ := hx
  obtain ⟨b, rfl⟩ := hy
  exact ⟨a + b, (EReal.coe_add a b).symm⟩
theorem IsR.sub {x y : EReal} (hx : IsR x) (hy : IsR y) : IsR (x - y) := by
  obtain ⟨a, rfl⟩ := hx
  obtain ⟨b, rfl⟩ := hy
  exact ⟨a - b, (EReal.coe_sub a b).symm⟩
theorem IsR.cos {x : EReal} (hx : IsR x) : IsR (Ideal.cos x) := by
  obtain ⟨a, rfl⟩ := hx
  exact ⟨Real.cos a, rfl⟩
theorem IsR.sin {x : EReal} (hx : IsR x) : IsR (Ideal.sin x) := by
  obtain ⟨a, rfl⟩ := hx
  exact ⟨Real.sin a, rfl⟩
theorem IsR.sum {n : ℕ} {f : Fin n → EReal} (h : ∀ i, IsR (f i)) : IsR (∑ i, f i) := by
  refine ⟨∑ i, (f i).toReal, ?_⟩
  rw [coe_sum]
  exact Finset.sum_congr rfl fun i _ => (h i).coe

theorem base_coe : Ideal.ofBits .f32 0x461C4000#32 = ((10000 : ℝ) : EReal) := by
  simp [Ideal.ofBits, Ideal.ieee, -EReal.coe_mul]
  norm_num

theorem step_coe : Ideal.ofBits .f32 0x3D800000#32 = ((1 / 16 : ℝ) : EReal) := by
  simp [Ideal.ofBits, Ideal.ieee, -EReal.coe_mul]
  norm_num

theorem two_coe : Ideal.ofBits .f32 0x40000000#32 = ((2 : ℝ) : EReal) := by
  simp [Ideal.ofBits, Ideal.ieee, -EReal.coe_mul]
  norm_num

theorem invf_at (j : Fin 16) : invf (ix1 j)
    = Ideal.div 1 (Ideal.pow (Ideal.ofBits .f32 0x461C4000#32) ((((BitVec.ofNat 32 j.val).toInt : ℝ) : EReal) * Ideal.ofBits .f32 0x3D800000#32)) := by
  pointwise [invf]
  rfl

theorem invf_real (j : Fin 16) : IsR (invf (ix1 j)) := by
  rw [invf_at, base_coe, step_coe, ← EReal.coe_mul, Ideal.pow_coe_coe]
  generalize ((BitVec.ofNat 32 j.val).toInt : ℝ) * (1 / 16) = y
  have hp : Real.rpow 10000 y ≠ 0 := (Real.rpow_pos_of_pos (by norm_num) y).ne'
  rw [Ideal.div_coe hp]
  exact IsR.mul ⟨1, rfl⟩ ⟨_, rfl⟩

theorem ang_real (pos : APos) (b : Fin 4) (t : Fin 2048) (j : Fin 16) : IsR (ang pos (ix3 b t j)) := by
  rw [ang_at]
  exact IsR.mul ⟨_, rfl⟩ (invf_real j)

theorem rot_real (q : A96) (pos : APos) (hq : ∀ i, IsR (q i)) (b : Fin 4) (t : Fin 2048) (h : Fin 16) (d : Fin 96) : IsR (rot q pos (ix4 b t h d)) := by
  have hlt := d.isLt
  by_cases h1 : d.val < 64
  · rw [rot_lo q pos b t h d h1]
    exact hq _
  · by_cases h2 : d.val < 80
    · obtain ⟨j, rfl⟩ : ∃ j : Fin 16, d = lane64 j := ⟨⟨d.val - 64, by omega⟩, Fin.ext (show d.val = 64 + (d.val - 64) by omega)⟩
      refine (rot_mid q pos b t h j).symm ▸ ?_
      exact ((hq _).mul (ang_real pos b t j).cos).sub ((hq _).mul (ang_real pos b t j).sin)
    · obtain ⟨j, rfl⟩ : ∃ j : Fin 16, d = lane80 j := ⟨⟨d.val - 80, by omega⟩, Fin.ext (show d.val = 80 + (d.val - 80) by omega)⟩
      refine (rot_hi q pos b t h j).symm ▸ ?_
      exact ((hq _).mul (ang_real pos b t j).cos).add ((hq _).mul (ang_real pos b t j).sin)

/-- The greatest of finitely many numbers that are finite or absent, one of them finite, is finite. -/
theorem fold_max_real {n : ℕ} (f : Fin n → EReal) (hf : ∀ i, IsR (f i) ∨ f i = ⊥) (i₀ : Fin n) (h₀ : IsR (f i₀)) :
    IsR ((Finset.univ : Finset (Fin n)).fold max ⊥ f) := by
  have hlow : f i₀ ≤ (Finset.univ : Finset (Fin n)).fold max ⊥ f := (Finset.le_fold_max _).2 (Or.inr ⟨i₀, Finset.mem_univ _, le_rfl⟩)
  have hup : (Finset.univ : Finset (Fin n)).fold max ⊥ f < ⊤ := (Finset.fold_max_lt _).2 ⟨bot_lt_top, fun i _ => by
    rcases hf i with ⟨r, hr⟩ | hr
    · rw [hr]; exact EReal.coe_lt_top r
    · rw [hr]; exact bot_lt_top⟩
  generalize (Finset.univ : Finset (Fin n)).fold max ⊥ f = y at hlow hup
  obtain ⟨r, hr⟩ := h₀
  rw [hr] at hlow
  induction y using EReal.rec with
  | bot => exact absurd (lt_of_lt_of_le (EReal.bot_lt_coe r) hlow) (lt_irrefl _)
  | coe y => exact ⟨y, rfl⟩
  | top => exact absurd hup (lt_irrefl _)

end Cert.KernelIdeal.Value

end
-- ==== Proof.Value.Numbers.lean ====
/- The host's and the reference's numbers for one head, over the reals. -/
module

public import proofs.«01_k».proof.Proof.Value.Finite

@[expose] public section

set_option maxRecDepth 16384
set_option maxHeartbeats 1000000

noncomputable section

namespace Cert.KernelIdeal.Value

open Cert.KernelIdeal Cert.KernelIdeal.Gen
open Idealize.ShloMosaic Idealize.ShloMosaic.TcCoe Idealize.ShloMosaic.Tactic

/-- Four finite arrays. -/
structure AllR (q k : A96) (v ct : A64) : Prop where
  q : ∀ i, IsR (q i)
  k : ∀ i, IsR (k i)
  v : ∀ i, IsR (v i)
  ct : ∀ i, IsR (ct i)

/-- The numbers of a head of a batch. -/
def numbers (q k : A96) (v : A64) (pos : APos) (ct : A64) (b : Fin 4) (h : Fin 16) : Row where
  R t l := (rot q pos (ix4 b t h l)).toReal
  K t l := (k (ix4 b t h l)).toReal
  V t d := (v (ix4 b t h d)).toReal
  D t d := (ct (ix4 b t h d)).toReal
  M t := (rowMax (scoresOf q k pos) (ix3 b h t)).toReal

variable {q k : A96} {v ct : A64} (pos : APos) (r : AllR q k v ct) (b : Fin 4) (h : Fin 16)

theorem M_def (t : Fin 2048) : (numbers q k v pos ct b h).M t = (rowMax (scoresOf q k pos) (ix3 b h t)).toReal := by
  unfold numbers
  generalize rowMax (scoresOf q k pos) = y
  rfl

include r

theorem R_coe (t l) : rot q pos (ix4 b t h l) = ((numbers q k v pos ct b h).R t l : EReal) := (rot_real q pos r.q b t h l).coe
theorem K_coe (t l) : k (ix4 b t h l) = ((numbers q k v pos ct b h).K t l : EReal) := (r.k _).coe
theorem V_coe (t d) : v (ix4 b t h d) = ((numbers q k v pos ct b h).V t d : EReal) := (r.v _).coe
theorem D_coe (t d) : ct (ix4 b t h d) = ((numbers q k v pos ct b h).D t d : EReal) := (r.ct _).coe

theorem scores_coe (t j : Fin 2048) : scoresOf q k pos (ix4 b h t j) = if j.val ≤ t.val then ((numbers q k v pos ct b h).s t j : EReal) else ⊥ := by
  unfold scoresOf
  rw [masked_at, scores_at]
  refine if_congr Iff.rfl ?_ rfl
  unfold Row.s
  rw [sc_coe, EReal.coe_mul, coe_sum]
  refine congrArg (· * _) (Finset.sum_congr rfl fun l _ => ?_)
  rw [R_coe pos r, K_coe pos r, EReal.coe_mul]

theorem M_coe (t : Fin 2048) : rowMax (scoresOf q k pos) (ix3 b h t) = ((numbers q k v pos ct b h).M t : EReal) := by
  have hM : IsR (rowMax (scoresOf q k pos) (ix3 b h t)) := by
    rw [rowMax_at]
    refine fold_max_real _ (fun j => ?_) t ?_
    · rw [scores_coe pos r]
      split
      · exact Or.inl ⟨_, rfl⟩
      · exact Or.inr rfl
    · rw [scores_coe pos r, if_pos le_rfl]
      exact ⟨_, rfl⟩
  rw [M_def]
  exact hM.coe

theorem e_coe (t j : Fin 2048) : expo (scoresOf q k pos) (ix4 b h t j) = ((numbers q k v pos ct b h).e t j : EReal) := by
  rw [expo_at, scores_coe pos r, M_coe pos r]
  unfold Row.e
  split
  · rw [← EReal.coe_sub, Ideal.exp_coe]
  · rw [sub_eq_add_neg, EReal.bot_add]
    rfl

theorem l_coe (t : Fin 2048) : rowSum (expo (scoresOf q k pos)) (ix3 b h t) = ((numbers q k v pos ct b h).l t : EReal) := by
  rw [rowSum_at]
  unfold Row.l
  rw [coe_sum]
  exact Finset.sum_congr rfl fun j _ => e_coe pos r b h t j

theorem div_l (t : Fin 2048) (x : ℝ) : Ideal.div (x : EReal) ((numbers q k v pos ct b h).l t : EReal) = ((x / (numbers q k v pos ct b h).l t : ℝ) : EReal) := by
  rw [Ideal.div_coe (Row.l_pos _ t).ne', ← EReal.coe_mul, div_eq_mul_one_div x]

theorem o_coe (t : Fin 2048) (d : Fin 64) : outp v (expo (scoresOf q k pos)) (ix4 b t h d)
    = ((∑ j : Fin 2048, (numbers q k v pos ct b h).V j d * (numbers q k v pos ct b h).p t j : ℝ) : EReal) := by
  rw [outp_at, coe_sum]
  refine Finset.sum_congr rfl fun j _ => ?_
  rw [V_coe pos r, e_coe pos r, l_coe pos r, div_l pos r, EReal.coe_mul]
  rfl

theorem offs_coe (t : Fin 2048) : offs (scoresOf q k pos) (ix3 b h t)
    = ((((numbers q k v pos ct b h).M t + Real.log ((numbers q k v pos ct b h).l t)) / Real.log 2 : ℝ) : EReal) := by
  rw [offs_at, M_coe pos r, l_coe pos r, two_coe, Ideal.log_coe, Ideal.log_coe, if_neg (not_le.2 (Row.l_pos _ t)), if_neg (by norm_num),
    ← EReal.coe_add, Ideal.div_coe (Real.log_pos (by norm_num)).ne', ← EReal.coe_mul]
  exact congrArg _ (mul_one_div _ _)

open Cert.ReferenceIdeal.Read

theorem ref_e (t j : Fin 2048) : val_main_v64 (F := Ideal) q k pos (ix4 b h t j) = ((numbers q k v pos ct b h).e t j : EReal) :=
  (congrFun (ref_expo q k pos) _).trans (e_coe pos r b h t j)

theorem ref_l (t : Fin 2048) : val_main_v65 (F := Ideal) q k pos (ix3 b h t) = ((numbers q k v pos ct b h).l t : EReal) :=
  (congrFun (ref_sum q k pos) _).trans (l_coe pos r b h t)

theorem ref_dP_coe (t j : Fin 2048) : val_main_v75 (F := Ideal) v ct (ix4 b h t j) = ((numbers q k v pos ct b h).dP t j : EReal) := by
  rw [ref_dP]
  unfold Row.dP
  rw [coe_sum]
  refine Finset.sum_congr rfl fun d _ => ?_
  rw [D_coe pos r, V_coe pos r, EReal.coe_mul]

theorem ref_corr_coe (t : Fin 2048) : val_main_v86 (F := Ideal) q k v pos ct (ix3 b h t)
    = ((-∑ j : Fin 2048, (numbers q k v pos ct b h).dP t j * (1 / ((numbers q k v pos ct b h).l t * (numbers q k v pos ct b h).l t)) * (numbers q k v pos ct b h).e t j : ℝ) : EReal) := by
  have hl := Row.l_pos (numbers q k v pos ct b h) t
  rw [ref_corr, EReal.coe_neg, coe_sum]
  refine congrArg (- ·) (Finset.sum_congr rfl fun j _ => ?_)
  rw [ref_dP_coe pos r, ref_l pos r, ref_e pos r, ← EReal.coe_mul, Ideal.div_coe (mul_pos hl hl).ne', one_mul, ← EReal.coe_mul, ← EReal.coe_mul]

theorem ref_T (t j : Fin 2048) : val_main_v92 (F := Ideal) q k v pos ct (ix4 b h t j) = ((numbers q k v pos ct b h).T t j : EReal) := by
  rw [ref_dS, ref_mask, WordCmp.cmpi_sle_ofNat (by omega) (by omega), select_ofBool]
  simp only [decide_eq_true_eq]
  rw [ref_dP_coe pos r, ref_l pos r, ref_e pos r, ref_corr_coe pos r, div_l pos r, sc_coe, ← EReal.coe_add, ← EReal.coe_mul]
  by_cases hj : j.val ≤ t.val
  · rw [if_pos hj, ← EReal.coe_mul, Row.T_eq]
  · rw [if_neg hj, zero_mul]
    unfold Row.T Row.p Row.e
    rw [if_neg hj, zero_div, zero_mul, zero_mul, EReal.coe_zero]

theorem ref_dk_coe (j : Fin 2048) (d : Fin 96) : val_main_v94 (F := Ideal) q k v pos ct (ix4 b j h d) = ((numbers q k v pos ct b h).dk j d : EReal) := by
  rw [ref_dk]
  unfold Row.dk
  rw [coe_sum]
  refine Finset.sum_congr rfl fun t _ => ?_
  rw [ref_T pos r, ref_rot, R_coe pos r, EReal.coe_mul]

theorem ref_dqr_coe (t : Fin 2048) (d : Fin 96) : val_main_v96 (F := Ideal) q k v pos ct (ix4 b t h d) = ((numbers q k v pos ct b h).dq t d : EReal) := by
  rw [ref_dqr]
  unfold Row.dq
  rw [coe_sum]
  refine Finset.sum_congr rfl fun j _ => ?_
  rw [ref_T pos r, K_coe pos r, EReal.coe_mul]

theorem ref_dv_coe (j : Fin 2048) (d : Fin 64) : val_main_v77 (F := Ideal) q k pos ct (ix4 b j h d) = ((numbers q k v pos ct b h).dv j d : EReal) := by
  rw [ref_dv]
  unfold Row.dv
  rw [coe_sum]
  refine Finset.sum_congr rfl fun t _ => ?_
  rw [D_coe pos r, ref_e pos r, ref_l pos r, div_l pos r, EReal.coe_mul]
  rfl

end Cert.KernelIdeal.Value

end
-- ==== Proof.Value.Precondition.lean ====
/- What the precondition says: the four float arguments hold finite numbers. -/
module

public import proofs.«01_k».proof.Defs
public import proofs.«01_k».proof.Proof.Value.Numbers
public import Idealize.ShloMosaic.Lib.ReduceAll

@[expose] public section

set_option maxRecDepth 16384
set_option maxHeartbeats 1000000

noncomputable section

namespace Cert.KernelIdeal.Value

open Cert.KernelIdeal Cert.KernelIdeal.Gen
open Idealize.ShloMosaic Idealize.ShloMosaic.TcCoe Idealize.ShloMosaic.Tactic

/-- The side conditions of the precondition. -/
theorem finite_facts : Cert.Pre_finite.Facts where
  bcast_S_S4x2048x16x96 := by decide
  reducesTo_S4x2048x16x96_S_d0_1_2_3 := by decide
  h_S_ := by decide
  bcast_S_S4x2048x16x64 := by decide
  reducesTo_S4x2048x16x64_S_d0_1_2_3 := by decide

/-- A number whose absolute value is below infinity is finite. -/
theorem isR_of_lt (x : EReal) (h : Ideal.cmp .olt (max x (-x)) (Ideal.ofBits .f32 0x7F800000#32) = 1#1) : IsR x := by
  have ht : Ideal.ofBits .f32 0x7F800000#32 = ⊤ := by simp [Ideal.ofBits, Ideal.ieee]
  rw [ht] at h
  have hl : max x (-x) < ⊤ := by
    by_contra hn
    unfold Ideal.cmp at h
    simp [hn] at h
  induction x using EReal.rec with
  | bot => simp at hl
  | coe r => exact ⟨r, rfl⟩
  | top => simp at hl

instance : Subsingleton (⟨0, ![]⟩ : Shape).Idx := ⟨fun i j => funext fun a => a.elim0⟩

/-- `all (|x| < ∞)`, read at an element. -/
theorem isR_of_all {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant (⟨0, ![]⟩ : Shape) .f32 0x7F800000#32))) (constantI (⟨0, ![]⟩ : Shape) 1 1#1) hr hu j = 1#1) (i : s.Idx) : IsR (x i) :=
  isR_of_lt _ (Host.reduce_andi_all _ _ hr hu j h i)

attribute [local instance] finite_facts

theorem allR_of_fn (q k : A96) (v ct : A64) (pos : APos) (h : Cert.Pre_finite.fn (F := Ideal) q k v pos ct = fun _ => 1#1) : AllR q k v ct := by
  have h0 := congrFun h (fun a => a.elim0)
  obtain ⟨h1, h4⟩ := IntOp.andi_eq_one.1 h0
  obtain ⟨h1, h3⟩ := IntOp.andi_eq_one.1 h1
  obtain ⟨h1, h2⟩ := IntOp.andi_eq_one.1 h1
  exact ⟨isR_of_all q _ _ _ _ h1, isR_of_all k _ _ _ _ h2, isR_of_all v _ _ _ _ h3, isR_of_all ct _ _ _ _ h4⟩

end Cert.KernelIdeal.Value

end
-- ==== Proof.Value.Equation.lean ====
/- The kernel's three arrays are the reference's. -/
module

public import proofs.«01_k».proof.Proof.Value.Numbers

@[expose] public section

set_option maxRecDepth 16384
set_option maxHeartbeats 1000000

noncomputable section

namespace Cert.KernelIdeal.Value

open Cert.KernelIdeal Cert.KernelIdeal.Gen
open Idealize.ShloMosaic Idealize.ShloMosaic.TcCoe Idealize.ShloMosaic.Tactic

open Cert.ReferenceIdeal.Read

/-- The nine arrays are the host's, of the five arguments. -/
structure Ins.Of (a : Ins) (q k : A96) (v : A64) (pos : APos) (ct : A64) : Prop where
  iq : a.q = wide (rot q pos)
  ik : a.k = wide k
  iv : a.v = truncf .bf16 (flat v) bitsLt_bf16_f32
  ido_ : a.do_ = truncf .bf16 (flat ct) bitsLt_bf16_f32
  io : a.o = flat (outp v (expo (scoresOf q k pos)))
  ilse : a.lse = padRows (offs (scoresOf q k pos))
  it0 : a.t0 = tabC pos
  it1 : a.t1 = tabS pos
  it2 : a.t2 = tabN pos

/-- A lane of a pair, in the half of the head `h`. -/
def laneIn (h : Fin 16) (d : Fin 64) : Fin 128 := ⟨64 * (h.val % 2) + d.val, by have := d.isLt; omega⟩

theorem flat_in (x : A64) (b : Fin 4) (t : Fin 2048) (h : Fin 16) (d : Fin 64) : flat x (ix3 b t (laneP (prH h) (laneIn h d))) = x (ix4 b t h d) := by
  have hd := d.isLt
  rw [flat_at]
  congr 2
  · exact Fin.ext (show 2 * (h.val / 2) + (64 * (h.val % 2) + d.val) / 64 = h.val by omega)
  · exact Fin.ext (show (64 * (h.val % 2) + d.val) % 64 = d.val by omega)

theorem trunc_at (x : FVec Ideal S4x2048x1024 .f32) (i : S4x2048x1024.Idx) : (truncf .bf16 x bitsLt_bf16_f32 : FVec Ideal S4x2048x1024 .bf16) i = x i := rfl

variable {a : Ins} {q k : A96} {v ct : A64} {pos : APos} (i : a.Of q k v pos ct) (r : AllR q k v ct)
include i

theorem Ins.Of.DO_in (b : Fin 4) (t : Fin 2048) (h : Fin 16) (d : Fin 64) : a.do_ (ix3 b t (laneP (prH h) (laneIn h d))) = ct (ix4 b t h d) := by
  rw [i.ido_, trunc_at, flat_in]

include r

/-- The kernel's head reads the head's numbers. -/
theorem Ins.Of.head_of (b : Fin 4) (h : Fin 16) : (a.head b h).Of (numbers q k v pos ct b h) where
  Q t l := by
    show a.q (ix3 b t (laneH h l)) = _
    rw [i.iq, wide_at]
    split
    · exact R_coe pos r b h t _
    · rfl
  K t l := by
    show a.k (ix3 b t (laneH h l)) = _
    rw [i.ik, wide_at]
    split
    · exact K_coe pos r b h t _
    · rfl
  VD t j := by
    show (∑ d : Fin 128, (if (d.val < 64 ↔ h.val % 2 = 0) then a.v (ix3 b j (laneP (prH h) d)) else 0) * a.do_ (ix3 b t (laneP (prH h) d))) = _
    have e1 : ∀ d : Fin 128, (if (d.val < 64 ↔ h.val % 2 = 0) then a.v (ix3 b j (laneP (prH h) d)) else 0) * a.do_ (ix3 b t (laneP (prH h) d))
        = if (d.val < 64 ↔ h.val % 2 = 0) then a.v (ix3 b j (laneP (prH h) d)) * a.do_ (ix3 b t (laneP (prH h) d)) else 0 := fun d => by
      split
      · rfl
      · rw [zero_mul]
    rw [Finset.sum_congr rfl fun d _ => e1 d, sum_half (h.val % 2) (by omega) (fun d => a.v (ix3 b j (laneP (prH h) d)) * a.do_ (ix3 b t (laneP (prH h) d)))]
    unfold Row.dP
    rw [coe_sum]
    refine Finset.sum_congr rfl fun d _ => ?_
    show a.v (ix3 b j (laneP (prH h) (laneIn h d))) * a.do_ (ix3 b t (laneP (prH h) (laneIn h d))) = _
    rw [i.DO_in, i.iv, trunc_at, flat_in, V_coe pos r, D_coe pos r, EReal.coe_mul, mul_comm]
  S t := by
    show sumRow (sdH h) (fun d => a.do_ (ix3 b t (laneP (prH h) d)) * a.o (ix3 b t (laneP (prH h) d))) = _
    have hr : ∀ d, IsR (a.do_ (ix3 b t (laneP (prH h) d)) * a.o (ix3 b t (laneP (prH h) d))) := fun d => by
      rw [i.ido_, trunc_at, flat_at, i.io, flat_at]
      refine (r.ct _).mul ?_
      rw [o_coe pos r]
      exact ⟨_, rfl⟩
    rw [sumRow_coe h _ (fun d => (a.do_ (ix3 b t (laneP (prH h) d)) * a.o (ix3 b t (laneP (prH h) d))).toReal) (fun d => (hr d).coe), coe_sum]
    refine Finset.sum_congr rfl fun d _ => ?_
    show a.do_ (ix3 b t (laneP (prH h) (laneIn h d))) * a.o (ix3 b t (laneP (prH h) (laneIn h d))) = _
    rw [i.DO_in, i.io, flat_in, o_coe pos r, D_coe pos r, EReal.coe_mul]
  L t := by
    show a.lse (ix4 b (prH h) (sdH h) t) = _
    rw [i.ilse, padRows_at, offs_coe pos r]

theorem wide_ext (x : A96) (f : Wide) (hf : ∀ (b : Fin 4) (t : Fin 2048) (h : Fin 16) (d : Fin 128), f (ix3 b t (laneH h d)) = if hd : d.val < 96 then x (ix4 b t h ⟨d.val, hd⟩) else 0) :
    f = wide x := by
  funext j
  obtain ⟨b, t, l, rfl⟩ : ∃ (b : Fin 4) (t : Fin 2048) (l : Fin 2048), j = ix3 b t l := ⟨_, _, _, eq_ix3 j⟩
  have hl := l.isLt
  obtain ⟨h, d, rfl⟩ : ∃ (h : Fin 16) (d : Fin 128), l = laneH h d :=
    ⟨⟨l.val / 128, by omega⟩, ⟨l.val % 128, by omega⟩, Fin.ext (show l.val = 128 * (l.val / 128) + l.val % 128 by omega)⟩
  rw [hf, wide_at]

theorem hdW_lane (h : Fin 16) (d : Fin 128) : Ins.hdW (laneH h d) = h := Fin.ext (show (128 * h.val + d.val) / 128 = h.val by have := d.isLt; omega)
theorem ln_lane (h : Fin 16) (d : Fin 128) : Ins.ln (laneH h d).val = d := Fin.ext (show (128 * h.val + d.val) % 128 = d.val by have := d.isLt; omega)

/-- The gradient of the keys. -/
theorem Ins.Of.dk_eq : a.dkArr = val_main_v123 (F := Ideal) q k v pos ct := by
  rw [ref_out2]
  refine wide_ext i r _ _ fun b t h d => ?_
  show (a.head b (Ins.hdW (laneH h d))).dk t (Ins.ln (laneH h d).val) = _
  rw [hdW_lane i r, ln_lane i r, (i.head_of r b h).dk]
  split
  · exact (ref_dk_coe pos r b h t _).symm
  · rfl

/-- The gradient of the values. -/
theorem Ins.Of.dv_eq : a.dvArr = val_main_v125 (F := Ideal) q k pos ct := by
  funext j
  obtain ⟨b, t, l, rfl⟩ : ∃ (b : Fin 4) (t : Fin 2048) (l : Fin 1024), j = ix3 b t l := ⟨_, _, _, eq_ix3 j⟩
  have hl := l.isLt
  obtain ⟨p, d, rfl⟩ : ∃ (p : Fin 8) (d : Fin 128), l = laneP p d :=
    ⟨⟨l.val / 128, by omega⟩, ⟨l.val % 128, by omega⟩, Fin.ext (show l.val = 128 * (l.val / 128) + l.val % 128 by omega)⟩
  clear hl
  have hd := d.isLt
  have hp := p.isLt
  rw [ref_out3]
  obtain ⟨h, hh⟩ : ∃ h : Fin 16, h.val = 2 * p.val + d.val / 64 := ⟨⟨2 * p.val + d.val / 64, by omega⟩, rfl⟩
  obtain ⟨d', hd'⟩ : ∃ d' : Fin 64, d'.val = d.val % 64 := ⟨⟨d.val % 64, by omega⟩, rfl⟩
  have e1 : Ins.hdP (laneP p d) = h := Fin.ext (by
    show 2 * ((128 * p.val + d.val) / 128) + (if (128 * p.val + d.val) % 128 < 64 then 0 else 1) = h.val
    split <;> omega)
  have e2 : Ins.ln (laneP p d).val = laneIn h d' := Fin.ext (show (128 * p.val + d.val) % 128 = 64 * (h.val % 2) + d'.val by omega)
  have e3 : (⟨2 * p.val + d.val / 64, by omega⟩ : Fin 16) = h := Fin.ext hh.symm
  have e4 : (⟨d.val % 64, by omega⟩ : Fin 64) = d' := Fin.ext hd'.symm
  show (a.head b (Ins.hdP (laneP p d))).dv t (Ins.ln (laneP p d).val) = _
  rw [e1, e2, e3, e4, ref_dv_coe pos r]
  exact (i.head_of r b h).dv t _ d' fun s => (i.DO_in b s h d').trans (D_coe pos r b h s d')

/-- The gradient of the queries, turned back. -/
theorem Ins.Of.dq_eq : a.dqArr = val_main_v120 (F := Ideal) q k v pos ct := by
  rw [ref_out1]
  refine wide_ext i r _ _ fun b t h d => ?_
  show a.turn b ((a.head b (Ins.hdW (laneH h d))).dq t) t (Ins.ln (laneH h d).val) = _
  rw [hdW_lane i r, ln_lane i r]
  have hx : ∀ l : Fin 128, (a.head b h).dq t l = if hl : l.val < 96 then val_main_v96 (F := Ideal) q k v pos ct (ix4 b t h ⟨l.val, hl⟩) else 0 := fun l => by
    rw [(i.head_of r b h).dq]
    split
    · exact (ref_dqr_coe pos r b h t _).symm
    · rfl
  generalize hg : val_main_v96 (F := Ideal) q k v pos ct = g at hx
  generalize (a.head b h).dq t = x at hx
  have hd := d.isLt
  have hu : (up d).val = (d.val + 16) % 128 := rfl
  have hw : (down d).val = (d.val + 112) % 128 := rfl
  unfold Ins.turn
  rw [i.it0, i.it1, i.it2, tabC_at, tabS_at, tabN_at]
  by_cases c1 : d.val < 64
  · rw [dif_neg (show ¬ (64 ≤ d.val ∧ d.val < 80) by omega), dif_neg (show ¬ (80 ≤ d.val ∧ d.val < 96) by omega),
      dif_neg (show ¬ (80 ≤ (up d).val ∧ (up d).val < 96) by omega), dif_neg (show ¬ (64 ≤ (down d).val ∧ (down d).val < 80) by omega),
      mul_zero, mul_zero, mul_one, add_zero, add_zero, hx, dif_pos (show d.val < 96 by omega), dif_pos (show d.val < 96 by omega)]
    exact (congrFun hg _).symm.trans (ref_turn_lo q k v pos ct b t h ⟨d.val, by omega⟩ c1).symm
  · by_cases c2 : d.val < 80
    · rw [dif_pos (show 64 ≤ d.val ∧ d.val < 80 by omega), dif_pos (show 80 ≤ (up d).val ∧ (up d).val < 96 by omega),
        dif_neg (show ¬ (64 ≤ (down d).val ∧ (down d).val < 80) by omega), mul_zero, add_zero, hx, hx, dif_pos (show d.val < 96 by omega),
        dif_pos (show (up d).val < 96 by omega), dif_pos (show d.val < 96 by omega), add_comm]
      obtain ⟨j, hj⟩ : ∃ j : Fin 16, j.val = d.val - 64 := ⟨⟨d.val - 64, by omega⟩, rfl⟩
      have e1 : (⟨d.val, by omega⟩ : Fin 96) = lane64 j := Fin.ext (show d.val = 64 + j.val by omega)
      have e2 : (⟨(up d).val, by omega⟩ : Fin 96) = lane80 j := Fin.ext (show (up d).val = 80 + j.val by omega)
      have e3 : (⟨d.val - 64, by omega⟩ : Fin 16) = j := Fin.ext hj.symm
      have e4 : (⟨(up d).val - 64 - 16, by omega⟩ : Fin 16) = j := Fin.ext (show (up d).val - 64 - 16 = j.val by omega)
      rw [e1, e2, e3, e4]
      exact (ref_turn_mid q k v pos ct b t h j g hg).symm
    · by_cases c3 : d.val < 96
      · rw [dif_neg (show ¬ (64 ≤ d.val ∧ d.val < 80) by omega), dif_pos (show 80 ≤ d.val ∧ d.val < 96 by omega),
          dif_neg (show ¬ (80 ≤ (up d).val ∧ (up d).val < 96) by omega), dif_pos (show 64 ≤ (down d).val ∧ (down d).val < 80 by omega),
          mul_zero, add_zero, hx, hx, dif_pos c3, dif_pos (show (down d).val < 96 by omega), dif_pos c3, mul_neg, ← neg_mul]
        have e2 : (⟨(down d).val, by omega⟩ : Fin 96) = ⟨64 + (d.val - 64 - 16), by omega⟩ := Fin.ext (show (down d).val = 64 + (d.val - 64 - 16) by omega)
        have e4 : (⟨(down d).val - 64, by omega⟩ : Fin 16) = ⟨d.val - 64 - 16, by omega⟩ := Fin.ext (show (down d).val - 64 = d.val - 64 - 16 by omega)
        rw [e2, e4]
        exact (ref_turn_hi q k v pos ct b t h ⟨d.val, c3⟩ (by show 80 ≤ d.val; omega) g hg).symm
      · rw [dif_neg (show ¬ (64 ≤ d.val ∧ d.val < 80) by omega), dif_neg (show ¬ (80 ≤ d.val ∧ d.val < 96) by omega),
          dif_neg (show ¬ (80 ≤ (up d).val ∧ (up d).val < 96) by omega), dif_neg (show ¬ (64 ≤ (down d).val ∧ (down d).val < 80) by omega),
          mul_zero, mul_zero, mul_one, add_zero, add_zero, hx, dif_neg c3, dif_neg c3]

end Cert.KernelIdeal.Value

end
-- ==== Proof.Value.Host.lean ====
/- The kernel's arrays as steps of the arguments: the heads, the outputs and the offsets. -/
module

public import proofs.«01_k».proof.Proof.Value.Steps
public import Idealize.ShloMosaic.Lib.StableHlo.RunRead

@[expose] public section

set_option maxRecDepth 16384
set_option maxHeartbeats 1000000

noncomputable section

namespace Cert.KernelIdeal.Value

open Cert.KernelIdeal Cert.KernelIdeal.Gen
open Idealize.ShloMosaic Idealize.ShloMosaic.TcCoe Idealize.ShloMosaic.Tactic

variable (m : (l : Loc nD τ sig) → Buf (Elt Ideal) l)

theorem ins_q (c : Dev nD) : (ins m c).q = wide (rot (aq m c) (apos m c)) := by
  show V m c main_v61 = _
  unfold_abbrev_sides
  after_reads_simp [Matrix.cons_val_zero, Matrix.cons_val_one, Matrix.cons_val]
  refine congrArg (fun x => truncf .bf16 x bitsLt_bf16_f32) ?_
  refine congrArg (fun x => shapeCast S4x2048x2048 x shapeCasts_S4x2048x16x128_S4x2048x2048) ?_
  refine congrArg₂ (fun (x : A96) (y : FVec Ideal S_ .f32) => pad S4x2048x16x128 ![0, 0, 0, 0] ![0, 0, 0, 32] ![0, 0, 0, 0] x y pads_S4x2048x16x96_S4x2048x16x128_000_000_000_0320 h_S_) ?_ ?_
  · rfl
  · rfl

theorem ins_k (c : Dev nD) : (ins m c).k = wide (ak m c) := by
  show V m c main_v64 = _
  unfold_abbrev_sides
  after_reads_simp [Matrix.cons_val_zero, Matrix.cons_val_one, Matrix.cons_val]
  refine congrArg (fun x => truncf .bf16 x bitsLt_bf16_f32) ?_
  refine congrArg (fun x => shapeCast S4x2048x2048 x shapeCasts_S4x2048x16x128_S4x2048x2048) ?_
  refine congrArg₂ (fun (x : A96) (y : FVec Ideal S_ .f32) => pad S4x2048x16x128 ![0, 0, 0, 0] ![0, 0, 0, 32] ![0, 0, 0, 0] x y pads_S4x2048x16x96_S4x2048x16x128_000_000_000_0320 h_S_) ?_ ?_
  · rfl
  · rfl

theorem ins_v (c : Dev nD) : (ins m c).v = truncf .bf16 (flat (av m c)) bitsLt_bf16_f32 := by
  show V m c main_v66 = _
  unfold_abbrev_sides
  after_reads_simp [Matrix.cons_val_zero, Matrix.cons_val_one, Matrix.cons_val]
  rfl

theorem ins_do_ (c : Dev nD) : (ins m c).do_ = truncf .bf16 (flat (act m c)) bitsLt_bf16_f32 := by
  show V m c main_v68 = _
  unfold_abbrev_sides
  after_reads_simp [Matrix.cons_val_zero, Matrix.cons_val_one, Matrix.cons_val]
  rfl

theorem ins_o (c : Dev nD) : (ins m c).o = flat (outp (av m c) (expo (masked (scores (rot (aq m c) (apos m c)) (ak m c))))) := by
  show V m c main_v69 = _
  unfold_abbrev_sides
  after_reads_simp [Matrix.cons_val_zero, Matrix.cons_val_one, Matrix.cons_val]
  rfl

theorem ins_lse (c : Dev nD) : (ins m c).lse = padRows (offs (masked (scores (rot (aq m c) (apos m c)) (ak m c)))) := by
  show V m c main_v58 = _
  unfold_abbrev_sides
  after_reads_simp [Matrix.cons_val_zero, Matrix.cons_val_one, Matrix.cons_val]
  rfl

end Cert.KernelIdeal.Value

end
-- ==== Proof.Value.HostTables.lean ====
/- The kernel's three tables as steps of the positions. -/
module

public import proofs.«01_k».proof.Proof.Value.Steps
public import Idealize.ShloMosaic.Lib.StableHlo.RunRead

@[expose] public section

set_option maxRecDepth 16384
set_option maxHeartbeats 1000000

noncomputable section

namespace Cert.KernelIdeal.Value

open Cert.KernelIdeal Cert.KernelIdeal.Gen
open Idealize.ShloMosaic Idealize.ShloMosaic.TcCoe Idealize.ShloMosaic.Tactic

variable (m : (l : Loc nD τ sig) → Buf (Elt Ideal) l)

theorem ins_t0 (c : Dev nD) : (ins m c).t0 = tabC (apos m c) := by
  show V m c main_v106 = _
  unfold_abbrev_sides
  after_reads_simp [Matrix.cons_val_zero, Matrix.cons_val_one, Matrix.cons_val]
  rfl

theorem ins_t1 (c : Dev nD) : (ins m c).t1 = tabS (apos m c) := by
  show V m c main_v107 = _
  unfold_abbrev_sides
  after_reads_simp [Matrix.cons_val_zero, Matrix.cons_val_one, Matrix.cons_val]
  rfl

theorem ins_t2 (c : Dev nD) : (ins m c).t2 = tabN (apos m c) := by
  show V m c main_v108 = _
  unfold_abbrev_sides
  after_reads_simp [Matrix.cons_val_zero, Matrix.cons_val_one, Matrix.cons_val]
  rfl

end Cert.KernelIdeal.Value

end
-- ==== Proof.Value.Algebraic.lean ====
/- The kernel and the reference end with the same three arrays. -/
module

public import proofs.«01_k».proof.Proof.Value.Precondition
public import proofs.«01_k».proof.Proof.Value.Equation
public import proofs.«01_k».proof.Proof.Value.Host
public import proofs.«01_k».proof.Proof.Value.HostTables

@[expose] public section

set_option maxRecDepth 16384
set_option maxHeartbeats 1000000

noncomputable section

namespace Cert.KernelIdeal.Value

open Cert.KernelIdeal Cert.KernelIdeal.Gen
open Idealize.ShloMosaic Idealize.ShloMosaic.TcCoe Idealize.ShloMosaic.Tactic

variable (m : (l : Loc nD τ sig) → Buf (Elt Ideal) l)

theorem ins_of (c : Dev nD) : (ins m c).Of (aq m c) (ak m c) (av m c) (apos m c) (act m c) :=
  ⟨ins_q m c, ins_k m c, ins_v m c, ins_do_ m c, ins_o m c, ins_lse m c, ins_t0 m c, ins_t1 m c, ins_t2 m c⟩

attribute [local instance] finite_facts Cert.ReferenceIdeal.Gen.facts

theorem val120_congr {q q' k k' : A96} {v v' ct ct' : A64} {p p' : APos} (h0 : q = q') (h1 : k = k') (h2 : v = v') (h3 : p = p') (h4 : ct = ct') :
    Cert.ReferenceIdeal.Read.val_main_v120 (F := Ideal) q k v p ct = Cert.ReferenceIdeal.Read.val_main_v120 (F := Ideal) q' k' v' p' ct' := by
  rw [h0, h1, h2, h3, h4]
theorem val123_congr {q q' k k' : A96} {v v' ct ct' : A64} {p p' : APos} (h0 : q = q') (h1 : k = k') (h2 : v = v') (h3 : p = p') (h4 : ct = ct') :
    Cert.ReferenceIdeal.Read.val_main_v123 (F := Ideal) q k v p ct = Cert.ReferenceIdeal.Read.val_main_v123 (F := Ideal) q' k' v' p' ct' := by
  rw [h0, h1, h2, h3, h4]
theorem val125_congr {q q' k k' : A96} {ct ct' : A64} {p p' : APos} (h0 : q = q') (h1 : k = k') (h3 : p = p') (h4 : ct = ct') :
    Cert.ReferenceIdeal.Read.val_main_v125 (F := Ideal) q k p ct = Cert.ReferenceIdeal.Read.val_main_v125 (F := Ideal) q' k' p' ct' := by
  rw [h0, h1, h3, h4]

theorem algebraic : Cert.algebraic_KernelIdeal_ReferenceIdeal_pre_finite := by
  intro m g m' g' hp hm
  refine ⟨fun c => (ins m c).dqArr, fun c => (ins m c).dkArr, fun c => (ins m c).dvArr, run m g, ?_⟩
  refine (θ_run _ _ _).mono (fun r h c => ?_) (Cert.ReferenceIdeal.Value.run m' g')
  obtain ⟨h1, h2, h3, h4⟩ := h c
  obtain ⟨e0, e1, e2, e3, e4⟩ := hm c
  have r := allR_of_fn _ _ _ _ _ (hp c)
  have i := ins_of m c
  have k1 := i.dq_eq r
  have k2 := i.dk_eq r
  have k3 := i.dv_eq r
  have h1 := h1.trans (Cert.ReferenceIdeal.Read.val_main_v120_eq (StableHlo.launchContents m' c))
  have h2 := h2.trans (Cert.ReferenceIdeal.Read.val_main_v123_eq (StableHlo.launchContents m' c))
  have h3 := h3.trans (Cert.ReferenceIdeal.Read.val_main_v125_eq (StableHlo.launchContents m' c))
  exact ⟨h1.trans ((val120_congr e0 e1 e2 e3 e4).trans k1.symm), h2.trans ((val123_congr e0 e1 e2 e3 e4).trans k2.symm), h3.trans ((val125_congr e0 e1 e3 e4).trans k3.symm), h4⟩

end Cert.KernelIdeal.Value

end
-- ==== Proof.Products.Group1Dx.lean ====
/- The gradient of the rows through the second column group of a_w_in: the array that the kernel ends with, the run, and the
   equation with the reference. -/
module

public import proofs.«01_k».proof.Proof.Gen.Group1DxIdeal.Value
public import proofs.«01_k».proof.Proof.Gen.Group1DxReferenceIdeal.Run
public import proofs.«01_k».proof.Proof.Gen.Group1DxReferenceIdeal.Read
public import proofs.«01_k».proof.Defs
public import Idealize.ShloMosaic.Lib.Pipeline.ValueKit
public import Idealize.ShloMosaic.Lib.Pointwise

@[expose] public section

set_option maxRecDepth 16384

noncomputable section

namespace Cert.Group1DxIdeal.Value

open Cert.Group1DxIdeal Cert.Group1DxIdeal.Gen
open Idealize.ShloMosaic Idealize.ShloMosaic.TcCoe Idealize.SL.Sem
open Idealize.ShloMosaic.Pipeline (Dat)

/-- The gradient: a row of the cotangent against a row of the weights' columns 3072 to 6143. -/
def grad (w : FVec Ideal S1024x10240 .f32) (ct : FVec Ideal S8192x3072 .f32) : FVec Ideal S8192x1024 .bf16 :=
  fun i => ∑ k : Fin 3072, ct (ix2 (i 0) k) * w (ix2 (i 1) ⟨3072 + k.val, by omega⟩)

/-- A block of the cotangent against a block of the weights. -/
theorem pay_apply (x : Vec Ideal S512x3072 .bf16) (y : Vec Ideal S1024x3072 .bf16) (r : Fin 512) (j : Fin 1024) :
    k0_pay1 (F := Ideal) x y (ix2 r j) = ∑ k : Fin 3072, x (ix2 r k) * y (ix2 j k) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 1 := by decide +kernel
theorem idx2 : ∀ t : Fin cfg0.N, win0_2.index t 0 = t.val ∧ win0_2.index t 1 = 0 := by decide +kernel

theorem entry_ct (c : Dev nD) : V m c (Pipeline.arrRef spec0 0) = m ((c : Thread nD τ).loc main_arg1) := by
  show V m c main_v0 = _
  entry_read
  rfl
theorem entry_w (c : Dev nD) : V m c (Pipeline.arrRef spec0 1) = m ((c : Thread nD τ).loc main_arg0) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the cotangent is 512 of its rows. -/
theorem place0 (G : FVec Ideal S8192x3072 .bf16) (t : Fin cfg0.N) (r : Fin 512) (k : Fin 3072) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 3072 + k.val) (idx0 t).2).trans ?_
    show 0 * 3072 + k.val = k.val
    omega

theorem blk_ct (c : Dev nD) (t : Fin cfg0.N) (r : Fin 512) (k : Fin 3072) :
    iblk m c 0 t (ix2 r k) = m ((c : Thread nD τ).loc main_arg1) (ix2 (row t r) k) := by
  unfold iblk
  exact (place0 (V m c (Pipeline.arrRef spec0 0)) t r k).trans (congrFun (entry_ct m c) _)

/-- The block of the weights is their columns 3072 to 6143. -/
theorem place1 (G : FVec Ideal S1024x10240 .bf16) (t : Fin cfg0.N) (y : ((cfg0.win 1).xblock (cfg0.grid.coords t)).Idx) (j : Fin 1024) (k : Fin 3072)
    (h0 : (y 0).val = j.val) (h1 : (y 1).val = k.val) :
    ((cfg0.win 1).blk t).view.read (Elt Ideal) G y = G (ix2 j ⟨3072 + k.val, by omega⟩) := by
  refine congrArg G (funext fun a => Fin.ext ?_)
  refine (win0_1.rect_emb_val t y a).trans ?_
  fin_cases a
  · refine (congrArg₂ (· * 1024 + ·) (idx1 t).1 h0).trans ?_
    show 0 * 1024 + j.val = j.val
    omega
  · refine (congrArg₂ (· * 3072 + ·) (idx1 t).2 h1).trans ?_
    show 1 * 3072 + k.val = 3072 + k.val
    omega

theorem blk_w (c : Dev nD) (t : Fin cfg0.N) (j : Fin 1024) (k : Fin 3072) :
    X0_1 m c t (ix2 j k) = m ((c : Thread nD τ).loc main_arg0) (ix2 j ⟨3072 + k.val, by omega⟩) := by
  unfold X0_1 Pipeline.Window.fill
  rw [dif_pos (moved0_1 t (ix2 j k))]
  unfold iblk
  exact (place1 (V m c (Pipeline.arrRef spec0 1)) t _ j k rfl rfl).trans (congrFun (entry_w m c) _)

/-- A block of the result is 512 of its rows. -/
theorem place2 (t : Fin cfg0.N) (r : Fin 512) (j : Fin 1024) :
    (((View.whole main_v2).slice (win0_2.rect t)).emb (ix2 r j) : S8192x1024.Idx) = ix2 (row t r) j := by
  refine funext fun a => Fin.ext ?_
  refine (win0_2.rect_emb_val t (ix2 r j) a).trans ?_
  fin_cases a
  · refine (congrArg (· * 512 + r.val) (idx2 t).1).trans ?_
    show t.val * 512 + r.val = 512 * t.val + r.val
    omega
  · refine (congrArg (· * 1024 + j.val) (idx2 t).2).trans ?_
    show 0 * 1024 + j.val = j.val
    omega

/-- The kernel's result array. -/
theorem result (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  obtain ⟨r, j, rfl⟩ : ∃ (r : Fin 512) (j : Fin 1024), y = ix2 r j := ⟨y 0, y 1, eq_ix2 y⟩
  rw [place2 t r j]
  refine (pay_apply _ _ r j).trans ?_
  exact Finset.sum_congr rfl fun k _ => congrArg₂ (fun a b : EReal => a * b) (blk_ct m c t r k) (blk_w m c t j k)

/-- The run of the kernel ends with the gradient. -/
theorem run_grad : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (w : FVec Ideal S1024x10240 .f32) (ct : FVec Ideal S8192x3072 .f32) :
    Cert.Group1DxReferenceIdeal.Read.val_main_v4 (F := Ideal) w ct = grad w ct := by
  funext i
  refine (Cert.Group1DxReferenceIdeal.Read.val_main_v3_apply w ct i).trans (Finset.sum_congr rfl fun k _ => ?_)
  refine congrArg₂ (fun a b : EReal => a * b) (congrArg ct ?_) ((Cert.Group1DxReferenceIdeal.Read.val_main_v0_apply (F := Ideal) w _).trans (congrArg w ?_))
  · exact eq_ix2 _
  · refine funext fun a => Fin.ext ?_
    fin_cases a <;> simp <;> rfl

theorem algebraic : Cert.algebraic_Group1DxIdeal_Group1DxReferenceIdeal := by
  intro m g m' g' _ h
  refine ⟨fun c => grad (m ((c : Thread nD τ).loc main_arg0)) (m ((c : Thread nD τ).loc main_arg1)), run_grad m g, ?_⟩
  refine (θ_run _ _ _).mono (fun r hr c => ⟨(hr c).1.trans ?_, (hr c).2⟩) (Cert.Group1DxReferenceIdeal.Value.run m' g')
  refine (Cert.Group1DxReferenceIdeal.Read.val_main_v4_eq (F := Ideal) _ _).trans ((reference _ _).trans ?_)
  exact congrArg₂ grad (h c).1 (h c).2

end Cert.Group1DxIdeal.Value

end
-- ==== Proof.Products.Group2Dx.lean ====
/- The gradient of the rows through the third column group of a_w_in: the array that the kernel ends with, the run, and the
   equation with the reference. -/
module

public import proofs.«01_k».proof.Proof.Gen.Group2DxIdeal.Value
public import proofs.«01_k».proof.Proof.Gen.Group2DxReferenceIdeal.Run
public import proofs.«01_k».proof.Proof.Gen.Group2DxReferenceIdeal.Read
public import proofs.«01_k».proof.Defs
public import Idealize.ShloMosaic.Lib.Pipeline.ValueKit
public import Idealize.ShloMosaic.Lib.Pointwise

@[expose] public section

set_option maxRecDepth 16384

noncomputable section

namespace Cert.Group2DxIdeal.Value

open Cert.Group2DxIdeal Cert.Group2DxIdeal.Gen
open Idealize.ShloMosaic Idealize.ShloMosaic.TcCoe Idealize.SL.Sem
open Idealize.ShloMosaic.Pipeline (Dat)

/-- The gradient: a row of the cotangent against a row of the weights' columns 6144 to 9215. -/
def grad (w : FVec Ideal S1024x10240 .f32) (ct : FVec Ideal S8192x3072 .f32) : FVec Ideal S8192x1024 .bf16 :=
  fun i => ∑ k : Fin 3072, ct (ix2 (i 0) k) * w (ix2 (i 1) ⟨6144 + k.val, by omega⟩)

/-- A block of the cotangent against a block of the weights. -/
theorem pay_apply (x : Vec Ideal S512x3072 .bf16) (y : Vec Ideal S1024x3072 .bf16) (r : Fin 512) (j : Fin 1024) :
    k0_pay1 (F := Ideal) x y (ix2 r j) = ∑ k : Fin 3072, x (ix2 r k) * y (ix2 j k) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 2 := by decide +kernel
theorem idx2 : ∀ t : Fin cfg0.N, win0_2.index t 0 = t.val ∧ win0_2.index t 1 = 0 := by decide +kernel

theorem entry_ct (c : Dev nD) : V m c (Pipeline.arrRef spec0 0) = m ((c : Thread nD τ).loc main_arg1) := by
  show V m c main_v0 = _
  entry_read
  rfl
theorem entry_w (c : Dev nD) : V m c (Pipeline.arrRef spec0 1) = m ((c : Thread nD τ).loc main_arg0) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the cotangent is 512 of its rows. -/
theorem place0 (G : FVec Ideal S8192x3072 .bf16) (t : Fin cfg0.N) (r : Fin 512) (k : Fin 3072) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 3072 + k.val) (idx0 t).2).trans ?_
    show 0 * 3072 + k.val = k.val
    omega

theorem blk_ct (c : Dev nD) (t : Fin cfg0.N) (r : Fin 512) (k : Fin 3072) :
    iblk m c 0 t (ix2 r k) = m ((c : Thread nD τ).loc main_arg1) (ix2 (row t r) k) := by
  unfold iblk
  exact (place0 (V m c (Pipeline.arrRef spec0 0)) t r k).trans (congrFun (entry_ct m c) _)

/-- The block of the weights is their columns 6144 to 9215. -/
theorem place1 (G : FVec Ideal S1024x10240 .bf16) (t : Fin cfg0.N) (y : ((cfg0.win 1).xblock (cfg0.grid.coords t)).Idx) (j : Fin 1024) (k : Fin 3072)
    (h0 : (y 0).val = j.val) (h1 : (y 1).val = k.val) :
    ((cfg0.win 1).blk t).view.read (Elt Ideal) G y = G (ix2 j ⟨6144 + k.val, by omega⟩) := by
  refine congrArg G (funext fun a => Fin.ext ?_)
  refine (win0_1.rect_emb_val t y a).trans ?_
  fin_cases a
  · refine (congrArg₂ (· * 1024 + ·) (idx1 t).1 h0).trans ?_
    show 0 * 1024 + j.val = j.val
    omega
  · refine (congrArg₂ (· * 3072 + ·) (idx1 t).2 h1).trans ?_
    show 2 * 3072 + k.val = 6144 + k.val
    omega

theorem blk_w (c : Dev nD) (t : Fin cfg0.N) (j : Fin 1024) (k : Fin 3072) :
    X0_1 m c t (ix2 j k) = m ((c : Thread nD τ).loc main_arg0) (ix2 j ⟨6144 + k.val, by omega⟩) := by
  unfold X0_1 Pipeline.Window.fill
  rw [dif_pos (moved0_1 t (ix2 j k))]
  unfold iblk
  exact (place1 (V m c (Pipeline.arrRef spec0 1)) t _ j k rfl rfl).trans (congrFun (entry_w m c) _)

/-- A block of the result is 512 of its rows. -/
theorem place2 (t : Fin cfg0.N) (r : Fin 512) (j : Fin 1024) :
    (((View.whole main_v2).slice (win0_2.rect t)).emb (ix2 r j) : S8192x1024.Idx) = ix2 (row t r) j := by
  refine funext fun a => Fin.ext ?_
  refine (win0_2.rect_emb_val t (ix2 r j) a).trans ?_
  fin_cases a
  · refine (congrArg (· * 512 + r.val) (idx2 t).1).trans ?_
    show t.val * 512 + r.val = 512 * t.val + r.val
    omega
  · refine (congrArg (· * 1024 + j.val) (idx2 t).2).trans ?_
    show 0 * 1024 + j.val = j.val
    omega

/-- The kernel's result array. -/
theorem result (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  obtain ⟨r, j, rfl⟩ : ∃ (r : Fin 512) (j : Fin 1024), y = ix2 r j := ⟨y 0, y 1, eq_ix2 y⟩
  rw [place2 t r j]
  refine (pay_apply _ _ r j).trans ?_
  exact Finset.sum_congr rfl fun k _ => congrArg₂ (fun a b : EReal => a * b) (blk_ct m c t r k) (blk_w m c t j k)

/-- The run of the kernel ends with the gradient. -/
theorem run_grad : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (w : FVec Ideal S1024x10240 .f32) (ct : FVec Ideal S8192x3072 .f32) :
    Cert.Group2DxReferenceIdeal.Read.val_main_v4 (F := Ideal) w ct = grad w ct := by
  funext i
  refine (Cert.Group2DxReferenceIdeal.Read.val_main_v3_apply w ct i).trans (Finset.sum_congr rfl fun k _ => ?_)
  refine congrArg₂ (fun a b : EReal => a * b) (congrArg ct ?_) ((Cert.Group2DxReferenceIdeal.Read.val_main_v0_apply (F := Ideal) w _).trans (congrArg w ?_))
  · exact eq_ix2 _
  · refine funext fun a => Fin.ext ?_
    fin_cases a <;> simp <;> rfl

theorem algebraic : Cert.algebraic_Group2DxIdeal_Group2DxReferenceIdeal := by
  intro m g m' g' _ h
  refine ⟨fun c => grad (m ((c : Thread nD τ).loc main_arg0)) (m ((c : Thread nD τ).loc main_arg1)), run_grad m g, ?_⟩
  refine (θ_run _ _ _).mono (fun r hr c => ⟨(hr c).1.trans ?_, (hr c).2⟩) (Cert.Group2DxReferenceIdeal.Value.run m' g')
  refine (Cert.Group2DxReferenceIdeal.Read.val_main_v4_eq (F := Ideal) _ _).trans ((reference _ _).trans ?_)
  exact congrArg₂ grad (h c).1 (h c).2

end Cert.Group2DxIdeal.Value

end
-- ==== Proof.Products.Group0Dx.lean ====
/- The gradient of the rows through the first column group of a_w_in, added to what it is given: the array that the kernel ends with, the run, and the
   equation with the reference. -/
module

public import proofs.«01_k».proof.Proof.Gen.Group0DxIdeal.Value
public import proofs.«01_k».proof.Proof.Gen.Group0DxReferenceIdeal.Run
public import proofs.«01_k».proof.Proof.Gen.Group0DxReferenceIdeal.Read
public import proofs.«01_k».proof.Defs
public import Idealize.ShloMosaic.Lib.Pipeline.ValueKit
public import Idealize.ShloMosaic.Lib.Pointwise

@[expose] public section

set_option maxRecDepth 16384

noncomputable section

namespace Cert.Group0DxIdeal.Value

open Cert.Group0DxIdeal Cert.Group0DxIdeal.Gen
open Idealize.ShloMosaic Idealize.ShloMosaic.TcCoe Idealize.SL.Sem
open Idealize.ShloMosaic.Pipeline (Dat)

/-- The gradient: a row of the cotangent against a row of the weights' columns 0 to 3071, added to what is given. -/
def grad (w : FVec Ideal S1024x10240 .f32) (ct : FVec Ideal S8192x3072 .f32) (prev : FVec Ideal S8192x1024 .f32) : FVec Ideal S8192x1024 .f32 :=
  fun i => (∑ k : Fin 3072, ct (ix2 (i 0) k) * w (ix2 (i 1) ⟨k.val, by omega⟩)) + prev (ix2 (i 0) (i 1))

/-- A block of the cotangent against a block of the weights. -/
theorem pay_apply (x : Vec Ideal S512x3072 .bf16) (y : Vec Ideal S1024x3072 .bf16) (z : Vec Ideal S512x1024 .f32) (r : Fin 512) (j : Fin 1024) :
    k0_pay1 (F := Ideal) y x z (ix2 r j) = (∑ k : Fin 3072, x (ix2 r k) * y (ix2 j k)) + z (ix2 r j) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel

theorem entry_ct (c : Dev nD) : V m c (Pipeline.arrRef spec0 0) = m ((c : Thread nD τ).loc main_arg1) := by
  show V m c main_v0 = _
  entry_read
  rfl
theorem entry_w (c : Dev nD) : V m c (Pipeline.arrRef spec0 1) = m ((c : Thread nD τ).loc main_arg0) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the cotangent is 512 of its rows. -/
theorem place0 (G : FVec Ideal S8192x3072 .bf16) (t : Fin cfg0.N) (r : Fin 512) (k : Fin 3072) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 3072 + k.val) (idx0 t).2).trans ?_
    show 0 * 3072 + k.val = k.val
    omega

theorem blk_ct (c : Dev nD) (t : Fin cfg0.N) (r : Fin 512) (k : Fin 3072) :
    iblk m c 0 t (ix2 r k) = m ((c : Thread nD τ).loc main_arg1) (ix2 (row t r) k) := by
  unfold iblk
  exact (place0 (V m c (Pipeline.arrRef spec0 0)) t r k).trans (congrFun (entry_ct m c) _)

/-- The block of the weights is their columns 0 to 3071. -/
theorem place1 (G : FVec Ideal S1024x10240 .bf16) (t : Fin cfg0.N) (y : ((cfg0.win 1).xblock (cfg0.grid.coords t)).Idx) (j : Fin 1024) (k : Fin 3072)
    (h0 : (y 0).val = j.val) (h1 : (y 1).val = k.val) :
    ((cfg0.win 1).blk t).view.read (Elt Ideal) G y = G (ix2 j ⟨k.val, by omega⟩) := by
  refine congrArg G (funext fun a => Fin.ext ?_)
  refine (win0_1.rect_emb_val t y a).trans ?_
  fin_cases a
  · refine (congrArg₂ (· * 1024 + ·) (idx1 t).1 h0).trans ?_
    show 0 * 1024 + j.val = j.val
    omega
  · refine (congrArg₂ (· * 3072 + ·) (idx1 t).2 h1).trans ?_
    show 0 * 3072 + k.val = k.val
    omega

theorem blk_w (c : Dev nD) (t : Fin cfg0.N) (j : Fin 1024) (k : Fin 3072) :
    X0_1 m c t (ix2 j k) = m ((c : Thread nD τ).loc main_arg0) (ix2 j ⟨k.val, by omega⟩) := by
  unfold X0_1 Pipeline.Window.fill
  rw [dif_pos (moved0_1 t (ix2 j k))]
  unfold iblk
  exact (place1 (V m c (Pipeline.arrRef spec0 1)) t _ j k rfl rfl).trans (congrFun (entry_w m c) _)

/-- A block of what is given is 512 of its rows. -/
theorem place2 (G : FVec Ideal S8192x1024 .f32) (t : Fin cfg0.N) (r : Fin 512) (j : Fin 1024) :
    ((cfg0.win 2).blk t).view.read (Elt Ideal) G (ix2 r j) = G (ix2 (row t r) j) := by
  refine congrArg G (funext fun a => Fin.ext ?_)
  refine (win0_2.rect_emb_val t (ix2 r j) a).trans ?_
  fin_cases a
  · refine (congrArg (· * 512 + r.val) (idx2 t).1).trans ?_
    show t.val * 512 + r.val = 512 * t.val + r.val
    omega
  · refine (congrArg (· * 1024 + j.val) (idx2 t).2).trans ?_
    show 0 * 1024 + j.val = j.val
    omega

theorem blk_prev (c : Dev nD) (t : Fin cfg0.N) (r : Fin 512) (j : Fin 1024) :
    iblk m c 2 t (ix2 r j) = m ((c : Thread nD τ).loc main_arg2) (ix2 (row t r) j) := by
  unfold iblk
  exact (place2 (V m c (Pipeline.arrRef spec0 2)) t r j).trans (congrFun (V_main_arg2 m c) _)

/-- A block of the result is 512 of its rows. -/
theorem place3 (t : Fin cfg0.N) (r : Fin 512) (j : Fin 1024) :
    (((View.whole main_v2).slice (win0_3.rect t)).emb (ix2 r j) : S8192x1024.Idx) = ix2 (row t r) j := by
  refine funext fun a => Fin.ext ?_
  refine (win0_3.rect_emb_val t (ix2 r j) a).trans ?_
  fin_cases a
  · refine (congrArg (· * 512 + r.val) (idx3 t).1).trans ?_
    show t.val * 512 + r.val = 512 * t.val + r.val
    omega
  · refine (congrArg (· * 1024 + j.val) (idx3 t).2).trans ?_
    show 0 * 1024 + j.val = j.val
    omega

/-- The kernel's result array. -/
theorem result (c : Dev nD) : (dats m 0 c).arrAt 3 cfg0.N = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  obtain ⟨r, j, rfl⟩ : ∃ (r : Fin 512) (j : Fin 1024), y = ix2 r j := ⟨y 0, y 1, eq_ix2 y⟩
  rw [place3 t r j]
  refine (pay_apply _ _ _ r j).trans ?_
  exact congrArg₂ (fun a b : EReal => a + b) (Finset.sum_congr rfl fun k _ => congrArg₂ (fun a b : EReal => a * b) (blk_ct m c t r k) (blk_w m c t j k)) (blk_prev m c t r j)

/-- The run of the kernel ends with the gradient. -/
theorem run_grad : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (run_blocks m ρ)

/-- The reference is the same sum. -/
theorem reference (w : FVec Ideal S1024x10240 .f32) (ct : FVec Ideal S8192x3072 .f32) (prev : FVec Ideal S8192x1024 .f32) :
    Cert.Group0DxReferenceIdeal.Read.val_main_v4 (F := Ideal) w ct prev = grad w ct prev := by
  funext i
  refine (add_comm (G := EReal) (prev i) (Cert.Group0DxReferenceIdeal.Read.val_main_v3 (F := Ideal) w ct i)).trans (congrArg₂ (fun a b : EReal => a + b) ?_ (congrArg prev (eq_ix2 i)))
  refine (Cert.Group0DxReferenceIdeal.Read.val_main_v3_apply w ct i).trans (Finset.sum_congr rfl fun k _ => ?_)
  refine congrArg₂ (fun a b : EReal => a * b) (congrArg ct ?_) ((Cert.Group0DxReferenceIdeal.Read.val_main_v0_apply (F := Ideal) w _).trans (congrArg w ?_))
  · exact eq_ix2 _
  · refine funext fun a => Fin.ext ?_
    fin_cases a <;> simp <;> rfl

theorem algebraic : Cert.algebraic_Group0DxIdeal_Group0DxReferenceIdeal := by
  intro m g m' g' _ h
  refine ⟨fun c => grad (m ((c : Thread nD τ).loc main_arg0)) (m ((c : Thread nD τ).loc main_arg1)) (m ((c : Thread nD τ).loc main_arg2)), run_grad m g, ?_⟩
  refine (θ_run _ _ _).mono (fun r hr c => ⟨(hr c).1.trans ?_, (hr c).2⟩) (Cert.Group0DxReferenceIdeal.Value.run m' g')
  refine (Cert.Group0DxReferenceIdeal.Read.val_main_v4_eq (F := Ideal) _ _ _).trans ((reference _ _ _).trans ?_)
  rw [(h c).1, (h c).2.1, (h c).2.2]

end Cert.Group0DxIdeal.Value

end
-- ==== Proof.Products.GateDx.lean ====
/- The gradient of the rows through the gate columns of a_w_in: the array that the kernel ends with, the run, and the
   equation with the reference. -/
module

public import proofs.«01_k».proof.Proof.Gen.GateDxIdeal.Value
public import proofs.«01_k».proof.Proof.Gen.GateDxReferenceIdeal.Run
public import proofs.«01_k».proof.Proof.Gen.GateDxReferenceIdeal.Read
public import proofs.«01_k».proof.Defs
public import Idealize.ShloMosaic.Lib.Pipeline.ValueKit
public import Idealize.ShloMosaic.Lib.Pointwise

@[expose] public section

set_option maxRecDepth 16384

noncomputable section

namespace Cert.GateDxIdeal.Value

open Cert.GateDxIdeal Cert.GateDxIdeal.Gen
open Idealize.ShloMosaic Idealize.ShloMosaic.TcCoe Idealize.SL.Sem
open Idealize.ShloMosaic.Pipeline (Dat)

/-- The gradient: a row of the cotangent against a row of the weights' columns 9216 to 10239. -/
def grad (w : FVec Ideal S1024x10240 .f32) (ct : FVec Ideal S8192x1024 .f32) : FVec Ideal S8192x1024 .f32 :=
  fun i => ∑ k : Fin 1024, ct (ix2 (i 0) k) * w (ix2 (i 1) ⟨9216 + k.val, by omega⟩)

/-- A block of the cotangent against a block of the weights. -/
theorem pay_apply (x : Vec Ideal S512x1024 .bf16) (y : Vec Ideal S1024x1024 .bf16) (r : Fin 512) (j : Fin 1024) :
    k0_pay1 (F := Ideal) x y (ix2 r j) = ∑ k : Fin 1024, x (ix2 r k) * y (ix2 j k) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 9 := by decide +kernel
theorem idx2 : ∀ t : Fin cfg0.N, win0_2.index t 0 = t.val ∧ win0_2.index t 1 = 0 := by decide +kernel

theorem entry_ct (c : Dev nD) : V m c (Pipeline.arrRef spec0 0) = m ((c : Thread nD τ).loc main_arg1) := by
  show V m c main_v0 = _
  entry_read
  rfl
theorem entry_w (c : Dev nD) : V m c (Pipeline.arrRef spec0 1) = m ((c : Thread nD τ).loc main_arg0) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the cotangent is 512 of its rows. -/
theorem place0 (G : FVec Ideal S8192x1024 .f32) (t : Fin cfg0.N) (r : Fin 512) (k : Fin 1024) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 1024 + k.val) (idx0 t).2).trans ?_
    show 0 * 1024 + k.val = k.val
    omega

theorem blk_ct (c : Dev nD) (t : Fin cfg0.N) (r : Fin 512) (k : Fin 1024) :
    iblk m c 0 t (ix2 r k) = m ((c : Thread nD τ).loc main_arg1) (ix2 (row t r) k) := by
  unfold iblk
  exact (place0 (V m c (Pipeline.arrRef spec0 0)) t r k).trans (congrFun (entry_ct m c) _)

/-- The block of the weights is their columns 9216 to 10239. -/
theorem place1 (G : FVec Ideal S1024x10240 .bf16) (t : Fin cfg0.N) (y : S1024x1024.Idx) (j : Fin 1024) (k : Fin 1024)
    (h0 : (y 0).val = j.val) (h1 : (y 1).val = k.val) :
    ((cfg0.win 1).blk t).view.read (Elt Ideal) G y = G (ix2 j ⟨9216 + k.val, by omega⟩) := by
  refine congrArg G (funext fun a => Fin.ext ?_)
  refine (win0_1.rect_emb_val t y a).trans ?_
  fin_cases a
  · refine (congrArg₂ (· * 1024 + ·) (idx1 t).1 h0).trans ?_
    show 0 * 1024 + j.val = j.val
    omega
  · refine (congrArg₂ (· * 1024 + ·) (idx1 t).2 h1).trans ?_
    show 9 * 1024 + k.val = 9216 + k.val
    omega

theorem blk_w (c : Dev nD) (t : Fin cfg0.N) (j : Fin 1024) (k : Fin 1024) :
    iblk m c 1 t (ix2 j k) = m ((c : Thread nD τ).loc main_arg0) (ix2 j ⟨9216 + k.val, by omega⟩) := by
  unfold iblk
  exact (place1 (V m c (Pipeline.arrRef spec0 1)) t _ j k rfl rfl).trans (congrFun (entry_w m c) _)

/-- A block of the result is 512 of its rows. -/
theorem place2 (t : Fin cfg0.N) (r : Fin 512) (j : Fin 1024) :
    (((View.whole main_v2).slice (win0_2.rect t)).emb (ix2 r j) : S8192x1024.Idx) = ix2 (row t r) j := by
  refine funext fun a => Fin.ext ?_
  refine (win0_2.rect_emb_val t (ix2 r j) a).trans ?_
  fin_cases a
  · refine (congrArg (· * 512 + r.val) (idx2 t).1).trans ?_
    show t.val * 512 + r.val = 512 * t.val + r.val
    omega
  · refine (congrArg (· * 1024 + j.val) (idx2 t).2).trans ?_
    show 0 * 1024 + j.val = j.val
    omega

/-- The kernel's result array. -/
theorem result (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ (r : Fin 512) (j : Fin 1024), y = ix2 r j := ⟨y 0, y 1, eq_ix2 y⟩
  rw [place2 t r j]
  refine (pay_apply _ _ r j).trans ?_
  exact Finset.sum_congr rfl fun k _ => congrArg₂ (fun a b : EReal => a * b) (blk_ct m c t r k) (blk_w m c t j k)

/-- The run of the kernel ends with the gradient. -/
theorem run_grad : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (w : FVec Ideal S1024x10240 .f32) (ct : FVec Ideal S8192x1024 .f32) :
    Cert.GateDxReferenceIdeal.Read.val_main_v3 (F := Ideal) w ct = grad w ct := by
  funext i
  refine (Cert.GateDxReferenceIdeal.Read.val_main_v3_apply w ct i).trans (Finset.sum_congr rfl fun k _ => ?_)
  refine congrArg₂ (fun a b : EReal => a * b) (congrArg ct ?_) ((Cert.GateDxReferenceIdeal.Read.val_main_v0_apply (F := Ideal) w _).trans (congrArg w ?_))
  · exact eq_ix2 _
  · refine funext fun a => Fin.ext ?_
    fin_cases a <;> simp <;> rfl

theorem algebraic : Cert.algebraic_GateDxIdeal_GateDxReferenceIdeal := by
  intro m g m' g' _ h
  refine ⟨fun c => grad (m ((c : Thread nD τ).loc main_arg0)) (m ((c : Thread nD τ).loc main_arg1)), run_grad m g, ?_⟩
  refine (θ_run _ _ _).mono (fun r hr c => ⟨(hr c).1.trans ?_, (hr c).2⟩) (Cert.GateDxReferenceIdeal.Value.run m' g')
  refine (Cert.GateDxReferenceIdeal.Read.val_main_v3_eq (F := Ideal) _ _).trans ((reference _ _).trans ?_)
  exact congrArg₂ grad (h c).1 (h c).2

end Cert.GateDxIdeal.Value

end
-- ==== Proof.Products.OutDx.lean ====
/- The gradient of the rows through an output product: the array that the kernel ends with, the run, and the
   equation with the reference. -/
module

public import proofs.«01_k».proof.Proof.Gen.OutDxIdeal.Value
public import proofs.«01_k».proof.Proof.Gen.OutDxReferenceIdeal.Run
public import proofs.«01_k».proof.Proof.Gen.OutDxReferenceIdeal.Read
public import proofs.«01_k».proof.Defs
public import Idealize.ShloMosaic.Lib.Pipeline.ValueKit
public import Idealize.ShloMosaic.Lib.Pointwise

@[expose] public section

set_option maxRecDepth 16384

noncomputable section

namespace Cert.OutDxIdeal.Value

open Cert.OutDxIdeal Cert.OutDxIdeal.Gen
open Idealize.ShloMosaic Idealize.ShloMosaic.TcCoe Idealize.SL.Sem
open Idealize.ShloMosaic.Pipeline (Dat)

/-- The gradient: a row of the cotangent against a row of the weights. -/
def grad (w : FVec Ideal S1024x1024 .f32) (ct : FVec Ideal S8192x1024 .f32) : FVec Ideal S8192x1024 .bf16 :=
  fun i => ∑ k : Fin 1024, ct (ix2 (i 0) k) * w (ix2 (i 1) k)

/-- A block of the cotangent against a block of the weights. -/
theorem pay_apply (x : Vec Ideal S512x1024 .bf16) (y : Vec Ideal S1024x1024 .bf16) (r : Fin 512) (j : Fin 1024) :
    k0_pay1 (F := Ideal) x y (ix2 r j) = ∑ k : Fin 1024, x (ix2 r k) * y (ix2 j k) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel

theorem entry_ct (c : Dev nD) : V m c (Pipeline.arrRef spec0 0) = m ((c : Thread nD τ).loc main_arg1) := by
  show V m c main_v0 = _
  entry_read
  rfl
theorem entry_w (c : Dev nD) : V m c (Pipeline.arrRef spec0 1) = m ((c : Thread nD τ).loc main_arg0) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the cotangent is 512 of its rows. -/
theorem place0 (G : FVec Ideal S8192x1024 .bf16) (t : Fin cfg0.N) (r : Fin 512) (k : Fin 1024) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 1024 + k.val) (idx0 t).2).trans ?_
    show 0 * 1024 + k.val = k.val
    omega

theorem blk_ct (c : Dev nD) (t : Fin cfg0.N) (r : Fin 512) (k : Fin 1024) :
    iblk m c 0 t (ix2 r k) = m ((c : Thread nD τ).loc main_arg1) (ix2 (row t r) k) := by
  unfold iblk
  exact (place0 (V m c (Pipeline.arrRef spec0 0)) t r k).trans (congrFun (entry_ct m c) _)

/-- The block of the weights is the whole array. -/
theorem place1 (G : FVec Ideal S1024x1024 .bf16) (t : Fin cfg0.N) (y : S1024x1024.Idx) (j : Fin 1024) (k : Fin 1024)
    (h0 : (y 0).val = j.val) (h1 : (y 1).val = k.val) :
    ((cfg0.win 1).blk t).view.read (Elt Ideal) G y = G (ix2 j k) := by
  refine congrArg G (funext fun a => Fin.ext ?_)
  refine (win0_1.rect_emb_val t y a).trans ?_
  fin_cases a
  · refine (congrArg₂ (· * 1024 + ·) (idx1 t).1 h0).trans ?_
    show 0 * 1024 + j.val = j.val
    omega
  · refine (congrArg₂ (· * 1024 + ·) (idx1 t).2 h1).trans ?_
    show 0 * 1024 + k.val = k.val
    omega

theorem blk_w (c : Dev nD) (t : Fin cfg0.N) (j : Fin 1024) (k : Fin 1024) :
    iblk m c 1 t (ix2 j k) = m ((c : Thread nD τ).loc main_arg0) (ix2 j k) := by
  unfold iblk
  exact (place1 (V m c (Pipeline.arrRef spec0 1)) t _ j k rfl rfl).trans (congrFun (entry_w m c) _)

/-- A block of the result is 512 of its rows. -/
theorem place2 (t : Fin cfg0.N) (r : Fin 512) (j : Fin 1024) :
    (((View.whole main_v2).slice (win0_2.rect t)).emb (ix2 r j) : S8192x1024.Idx) = ix2 (row t r) j := by
  refine funext fun a => Fin.ext ?_
  refine (win0_2.rect_emb_val t (ix2 r j) a).trans ?_
  fin_cases a
  · refine (congrArg (· * 512 + r.val) (idx2 t).1).trans ?_
    show t.val * 512 + r.val = 512 * t.val + r.val
    omega
  · refine (congrArg (· * 1024 + j.val) (idx2 t).2).trans ?_
    show 0 * 1024 + j.val = j.val
    omega

/-- The kernel's result array. -/
theorem result (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ (r : Fin 512) (j : Fin 1024), y = ix2 r j := ⟨y 0, y 1, eq_ix2 y⟩
  rw [place2 t r j]
  refine (pay_apply _ _ r j).trans ?_
  exact Finset.sum_congr rfl fun k _ => congrArg₂ (fun a b : EReal => a * b) (blk_ct m c t r k) (blk_w m c t j k)

/-- The run of the kernel ends with the gradient. -/
theorem run_grad : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (w : FVec Ideal S1024x1024 .f32) (ct : FVec Ideal S8192x1024 .f32) :
    Cert.OutDxReferenceIdeal.Read.val_main_v3 (F := Ideal) w ct = grad w ct := by
  funext i
  refine (Cert.OutDxReferenceIdeal.Read.val_main_v2_apply w ct i).trans (Finset.sum_congr rfl fun k _ => ?_)
  exact congrArg₂ (fun a b : EReal => a * b) (congrArg ct (eq_ix2 _)) (congrArg w (eq_ix2 _))

theorem algebraic : Cert.algebraic_OutDxIdeal_OutDxReferenceIdeal := by
  intro m g m' g' _ h
  refine ⟨fun c => grad (m ((c : Thread nD τ).loc main_arg0)) (m ((c : Thread nD τ).loc main_arg1)), run_grad m g, ?_⟩
  refine (θ_run _ _ _).mono (fun r hr c => ⟨(hr c).1.trans ?_, (hr c).2⟩) (Cert.OutDxReferenceIdeal.Value.run m' g')
  refine (Cert.OutDxReferenceIdeal.Read.val_main_v3_eq (F := Ideal) _ _).trans ((reference _ _).trans ?_)
  exact congrArg₂ grad (h c).1 (h c).2

end Cert.OutDxIdeal.Value

end
-- ==== Proof.Products.OutDw.lean ====
/- The gradient of the weights of an output product: the array that the kernel ends with, the run, and the
   equation with the reference. -/
module

public import proofs.«01_k».proof.Proof.Gen.OutDwIdeal.Value
public import proofs.«01_k».proof.Proof.Gen.OutDwReferenceIdeal.Run
public import proofs.«01_k».proof.Proof.Gen.OutDwReferenceIdeal.Read
public import proofs.«01_k».proof.Defs
public import Idealize.ShloMosaic.Lib.Pipeline.ValueKit
public import Idealize.ShloMosaic.Lib.Pointwise

@[expose] public section

set_option maxRecDepth 16384

noncomputable section

namespace Cert.OutDwIdeal.Value

open Cert.OutDwIdeal Cert.OutDwIdeal.Gen
open Idealize.ShloMosaic Idealize.ShloMosaic.TcCoe Idealize.SL.Sem
open Idealize.ShloMosaic.Pipeline (Dat)

/-- The gradient: a column of the input against a column of the cotangent. -/
def grad (h : FVec Ideal S8192x1024 .f32) (ct : FVec Ideal S8192x1024 .f32) : FVec Ideal S1024x1024 .bf16 :=
  fun i => ∑ l : Fin 8192, h (ix2 l (i 0)) * ct (ix2 l (i 1))

/-- A block of the input against a block of the cotangent, over their rows. -/
theorem part_apply (x : Vec Ideal S2048x512 .bf16) (y : Vec Ideal S2048x1024 .bf16) (r : Fin 512) (j : Fin 1024) :
    k0_pay1 (F := Ideal) x y (ix2 r j) = ∑ k : Fin 2048, x (ix2 k r) * y (ix2 k j) := by
  pointwise [k0_pay1]

/-- The first product of a run is stored as it is. -/
theorem first_apply (x : Vec Ideal S2048x512 .bf16) (y : Vec Ideal S2048x1024 .bf16) (r : Fin 512) (j : Fin 1024) :
    k0_pay2 (F := Ideal) x y (ix2 r j) = ∑ k : Fin 2048, x (ix2 k r) * y (ix2 k j) := by
  pointwise [k0_pay2, k0_pay1]

/-- A later product is added to what the sum holds. -/
theorem next_apply (x : Vec Ideal S2048x512 .bf16) (y : Vec Ideal S2048x1024 .bf16) (acc : Vec Ideal S512x1024 .f32) (r : Fin 512)
    (j : Fin 1024) : k0_pay3 (F := Ideal) x y acc (ix2 r j) = acc (ix2 r j) + ∑ k : Fin 2048, x (ix2 k r) * y (ix2 k j) := by
  pointwise [k0_pay3, k0_pay1]

variable (m : (l : Loc nD τ sig) → Buf (Elt Ideal) l) (ρ : Dev nD → PrngReg)

theorem idx0 : ∀ t : Fin cfg0.N, win0_0.index t 0 = t.val % 4 ∧ win0_0.index t 1 = t.val / 4 := by decide +kernel
theorem idx1 : ∀ t : Fin cfg0.N, win0_1.index t 0 = t.val % 4 ∧ win0_1.index t 1 = 0 := by decide +kernel
theorem idx2 : ∀ t : Fin cfg0.N, win0_2.index t 0 = t.val / 4 ∧ win0_2.index t 1 = 0 := by decide +kernel

theorem entry_h (c : Dev nD) : V m c (Pipeline.arrRef spec0 0) = m ((c : Thread nD τ).loc main_arg0) := by
  show V m c main_v0 = _
  entry_read
  rfl
theorem entry_ct (c : Dev nD) : V m c (Pipeline.arrRef spec0 1) = m ((c : Thread nD τ).loc main_arg1) := by
  show V m c main_v1 = _
  entry_read
  rfl

/-- Row `k` of grid point `t`'s blocks of the two inputs. -/
def row (t : Fin cfg0.N) (k : Fin 2048) : Fin 8192 := ⟨t.val % 4 * 2048 + k.val, by omega⟩

/-- Column `r` of grid point `t`'s block of the input, and row of its block of the result. -/
def col (t : Fin cfg0.N) (r : Fin 512) : Fin 1024 := ⟨t.val / 4 * 512 + r.val, by have := lt_of_lt_of_eq t.isLt N_0; omega⟩

theorem place0 (G : FVec Ideal S8192x1024 .bf16) (t : Fin cfg0.N) (k : Fin 2048) (r : Fin 512) :
    ((cfg0.win 0).blk t).view.read (Elt Ideal) G (ix2 k r) = G (ix2 (row t k) (col t r)) := by
  refine congrArg G (funext fun a => Fin.ext ?_)
  refine (win0_0.rect_emb_val t (ix2 k r) a).trans ?_
  fin_cases a
  · exact congrArg (· * 2048 + k.val) (idx0 t).1
  · exact congrArg (· * 512 + r.val) (idx0 t).2

theorem blk_h (c : Dev nD) (t : Fin cfg0.N) (k : Fin 2048) (r : Fin 512) :
    iblk m c 0 t (ix2 k r) = m ((c : Thread nD τ).loc main_arg0) (ix2 (row t k) (col t r)) := by
  unfold iblk
  exact (place0 (V m c (Pipeline.arrRef spec0 0)) t k r).trans (congrFun (entry_h m c) _)

theorem place1 (G : FVec Ideal S8192x1024 .bf16) (t : Fin cfg0.N) (k : Fin 2048) (j : Fin 1024) :
    ((cfg0.win 1).blk t).view.read (Elt Ideal) G (ix2 k j) = G (ix2 (row t k) j) := by
  refine congrArg G (funext fun a => Fin.ext ?_)
  refine (win0_1.rect_emb_val t (ix2 k j) a).trans ?_
  fin_cases a
  · exact congrArg (· * 2048 + k.val) (idx1 t).1
  · refine (congrArg (· * 1024 + j.val) (idx1 t).2).trans ?_
    show 0 * 1024 + j.val = j.val
    omega

theorem blk_ct (c : Dev nD) (t : Fin cfg0.N) (k : Fin 2048) (j : Fin 1024) :
    iblk m c 1 t (ix2 k j) = m ((c : Thread nD τ).loc main_arg1) (ix2 (row t k) j) := by
  unfold iblk
  exact (place1 (V m c (Pipeline.arrRef spec0 1)) t k j).trans (congrFun (entry_ct m c) _)

/-- A block of the result is 512 of its rows. -/
theorem place2 (t : Fin cfg0.N) (r : Fin 512) (j : Fin 1024) :
    (((View.whole main_v2).slice (win0_2.rect t)).emb (ix2 r j) : S1024x1024.Idx) = ix2 (col t r) j := by
  refine funext fun a => Fin.ext ?_
  refine (win0_2.rect_emb_val t (ix2 r j) a).trans ?_
  fin_cases a
  · exact congrArg (· * 512 + r.val) (idx2 t).1
  · refine (congrArg (· * 1024 + j.val) (idx2 t).2).trans ?_
    show 0 * 1024 + j.val = j.val
    omega

/-- What grid point `t` adds to the sum. -/
def term (h : FVec Ideal S8192x1024 .f32) (ct : FVec Ideal S8192x1024 .f32) (t : Fin cfg0.N) (i : S512x1024.Idx) : EReal :=
  ∑ k : Fin 2048, h (ix2 (row t k) (col t (i 0))) * ct (ix2 (row t k) (i 1))

theorem first_eq (c : Dev nD) (t : Fin cfg0.N) (r : Fin 512) (j : Fin 1024) :
    k0_pay2 (F := Ideal) (iblk m c 0 t) (iblk m c 1 t) (ix2 r j) = term (m ((c : Thread nD τ).loc main_arg0)) (m ((c : Thread nD τ).loc main_arg1)) t (ix2 r j) :=
  (first_apply _ _ r j).trans (Finset.sum_congr rfl fun k _ => congrArg₂ (fun a b : EReal => a * b) (blk_h m c t k r) (blk_ct m c t k j))

theorem next_eq (c : Dev nD) (t : Fin cfg0.N) (acc : Vec Ideal S512x1024 .f32) (r : Fin 512) (j : Fin 1024) :
    k0_pay3 (F := Ideal) (iblk m c 0 t) (iblk m c 1 t) acc (ix2 r j) = acc (ix2 r j) + term (m ((c : Thread nD τ).loc main_arg0)) (m ((c : Thread nD τ).loc main_arg1)) t (ix2 r j) :=
  (next_apply _ _ acc r j).trans (congrArg (fun a : EReal => acc (ix2 r j) + a)
    (Finset.sum_congr rfl fun k _ => congrArg₂ (fun a b : EReal => a * b) (blk_h m c t k r) (blk_ct m c t k j)))

/-- The sum starts at the first point of a run of four … -/
theorem sum_first (c : Dev nD) (t : Fin cfg0.N) (h : t.val % 4 = 0) (r : Fin 512) (j : Fin 1024) :
    (outsAt0 m c t.val t.isLt).2 (ix2 r j) = 0 + term (m ((c : Thread nD τ).loc main_arg0)) (m ((c : Thread nD τ).loc main_arg1)) t (ix2 r j) := by
  rw [outsAt0_A m c t h (by omega) (by omega)]
  frame_out
  rw [zero_add]
  exact first_eq m c t r j

/-- … and grows by one product at each later one. -/
theorem sum_next (c : Dev nD) (t : Fin cfg0.N) (h : ¬t.val % 4 = 0) (r : Fin 512) (j : Fin 1024) :
    (outsAt0 m c t.val t.isLt).2 (ix2 r j)
      = (outsAt0 m c (t.val - 1) (Nat.lt_of_le_of_lt (Nat.sub_le _ _) t.isLt)).2 (ix2 r j) + term (m ((c : Thread nD τ).loc main_arg0)) (m ((c : Thread nD τ).loc main_arg1)) t (ix2 r j) := by
  by_cases h2 : t.val % 4 = 3
  · rw [outsAt0_C m c t h (by omega) h2]
    frame_out
    refine (congrArg (fun a => k0_pay3 (F := Ideal) (iblk m c 0 t) (iblk m c 1 t) a (ix2 r j)) (Memref.IsWhole.read_unread _ _)).trans ?_
    exact next_eq m c t _ r j
  · rw [outsAt0_B m c t h (by omega) h2]
    frame_out
    refine (congrArg (fun a => k0_pay3 (F := Ideal) (iblk m c 0 t) (iblk m c 1 t) a (ix2 r j)) (Memref.IsWhole.read_unread _ _)).trans ?_
    exact next_eq m c t _ r j

/-- The last point of a run writes the sum out. -/
theorem out_last (c : Dev nD) (t : Fin cfg0.N) (h2 : t.val % 4 = 3) (r : Fin 512) (j : Fin 1024) :
    (outsAt0 m c t.val t.isLt).1 (ix2 r j) = (outsAt0 m c t.val t.isLt).2 (ix2 r j) := by
  rw [outsAt0_C m c t (by omega) (by omega) h2]
  frame_out
  rfl

theorem run_lt (t : Fin cfg0.N) (s : Fin 4) : 4 * (t.val / 4) + s.val < cfg0.N := by
  have := lt_of_lt_of_eq t.isLt N_0
  have := s.isLt
  exact lt_of_lt_of_eq (by omega) N_0.symm

/-- The sum at the last point of a run: over all the rows. -/
theorem sum_last (c : Dev nD) (t : Fin cfg0.N) (h2 : t.val % 4 = 3) (r : Fin 512) (j : Fin 1024) :
    (outsAt0 m c t.val t.isLt).2 (ix2 r j)
      = grad (m ((c : Thread nD τ).loc main_arg0)) (m ((c : Thread nD τ).loc main_arg1)) (ix2 (col t r) j) := by
  have key := Pipeline.eq_sum_fin_of_reset_step_apply_of_flush (M := EReal) (fun n h i => (outsAt0 m c n h).2 i) 4 (fun _ => 0) (term (m ((c : Thread nD τ).loc main_arg0)) (m ((c : Thread nD τ).loc main_arg1)))
    (fun t h i => by rw [eq_ix2 i]; exact sum_first m c t h (i 0) (i 1))
    (fun t h i => by rw [eq_ix2 i]; exact sum_next m c t h (i 0) (i 1)) t h2 (ix2 r j)
  refine key.trans ?_
  rw [zero_add]
  refine Fin.sum_mul_add_congr fun s k hl => ?_
  have e0 : row ⟨4 * (t.val / 4) + s.val, run_lt t s⟩ k = ⟨s.val * 2048 + k.val, hl⟩ :=
    Fin.ext (by show (4 * (t.val / 4) + s.val) % 4 * 2048 + k.val = _; have := s.isLt; have e : (4 * (t.val / 4) + s.val) % 4 = s.val := by omega
                rw [e])
  have e1 : col ⟨4 * (t.val / 4) + s.val, run_lt t s⟩ r = col t r :=
    Fin.ext (by show (4 * (t.val / 4) + s.val) / 4 * 512 + r.val = t.val / 4 * 512 + r.val; have := s.isLt
                have e : (4 * (t.val / 4) + s.val) / 4 = t.val / 4 := by omega
                rw [e])
  exact congrArg₂ (fun a b : EReal => a * b) (congrArg _ (congrArg₂ ix2 e0 e1)) (congrArg _ (congrArg (fun a => ix2 a j) e0))

/-- The kernel's result array. -/
theorem result (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 512) (j : Fin 1024), y = ix2 r j := ⟨y 0, y 1, eq_ix2 y⟩
  rw [place2 t r j]
  have h2 := (flush0_2 t).mp hf
  exact (out_last m c t h2 r j).trans (sum_last m c t h2 r j)

/-- The run of the kernel ends with the gradient. -/
theorem run_grad : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (h : FVec Ideal S8192x1024 .f32) (ct : FVec Ideal S8192x1024 .f32) :
    Cert.OutDwReferenceIdeal.Read.val_main_v4 (F := Ideal) h ct = grad h ct := by
  funext i
  refine (Cert.OutDwReferenceIdeal.Read.val_main_v3_apply (F := Ideal) h ct i).trans ?_
  refine (Cert.OutDwReferenceIdeal.Read.val_main_v2_apply h ct _).trans (Finset.sum_congr rfl fun k _ => ?_)
  refine (mul_comm (G := EReal) _ _).trans ?_
  exact congrArg₂ (fun a b : EReal => a * b) (congrArg h (eq_ix2 _)) (congrArg ct (eq_ix2 _))

theorem algebraic : Cert.algebraic_OutDwIdeal_OutDwReferenceIdeal := by
  intro m g m' g' _ h
  refine ⟨fun c => grad (m ((c : Thread nD τ).loc main_arg0)) (m ((c : Thread nD τ).loc main_arg1)), run_grad m g, ?_⟩
  refine (θ_run _ _ _).mono (fun r hr c => ⟨(hr c).1.trans ?_, (hr c).2⟩) (Cert.OutDwReferenceIdeal.Value.run m' g')
  refine (Cert.OutDwReferenceIdeal.Read.val_main_v4_eq (F := Ideal) _ _).trans ((reference _ _).trans ?_)
  exact congrArg₂ grad (h c).1 (h c).2

end Cert.OutDwIdeal.Value

end
-- ==== Proof.Products.InDx.lean ====
/- The gradient of the rows through b_w_in: the array that the kernel ends with, the run, and the
   equation with the reference. -/
module

public import proofs.«01_k».proof.Proof.Gen.InDxIdeal.Value
public import proofs.«01_k».proof.Proof.Gen.InDxReferenceIdeal.Run
public import proofs.«01_k».proof.Proof.Gen.InDxReferenceIdeal.Read
public import proofs.«01_k».proof.Defs
public import Idealize.ShloMosaic.Lib.Pipeline.ValueKit
public import Idealize.ShloMosaic.Lib.Pointwise

@[expose] public section

set_option maxRecDepth 16384

noncomputable section

namespace Cert.InDxIdeal.Value

open Cert.InDxIdeal Cert.InDxIdeal.Gen
open Idealize.ShloMosaic Idealize.ShloMosaic.TcCoe Idealize.SL.Sem
open Idealize.ShloMosaic.Pipeline (Dat)

/-- The gradient: a row of the cotangent against a row of the weights. -/
def grad (w : FVec Ideal S1024x1408 .f32) (ct : FVec Ideal S8192x1408 .f32) : FVec Ideal S8192x1024 .bf16 :=
  fun i => ∑ k : Fin 1408, ct (ix2 (i 0) k) * w (ix2 (i 1) k)

/-- A block of the cotangent against a block of the weights. -/
theorem pay_apply (x : Vec Ideal S512x1408 .bf16) (y : Vec Ideal S1024x1408 .bf16) (r : Fin 512) (j : Fin 1024) :
    k0_pay1 (F := Ideal) x y (ix2 r j) = ∑ k : Fin 1408, x (ix2 r k) * y (ix2 j k) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel

theorem entry_ct (c : Dev nD) : V m c (Pipeline.arrRef spec0 0) = m ((c : Thread nD τ).loc main_arg1) := by
  show V m c main_v0 = _
  entry_read
  rfl
theorem entry_w (c : Dev nD) : V m c (Pipeline.arrRef spec0 1) = m ((c : Thread nD τ).loc main_arg0) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the cotangent is 512 of its rows. -/
theorem place0 (G : FVec Ideal S8192x1408 .bf16) (t : Fin cfg0.N) (r : Fin 512) (k : Fin 1408) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 1408 + k.val) (idx0 t).2).trans ?_
    show 0 * 1408 + k.val = k.val
    omega

theorem blk_ct (c : Dev nD) (t : Fin cfg0.N) (r : Fin 512) (k : Fin 1408) :
    iblk m c 0 t (ix2 r k) = m ((c : Thread nD τ).loc main_arg1) (ix2 (row t r) k) := by
  unfold iblk
  exact (place0 (V m c (Pipeline.arrRef spec0 0)) t r k).trans (congrFun (entry_ct m c) _)

/-- The block of the weights is the whole array. -/
theorem place1 (G : FVec Ideal S1024x1408 .bf16) (t : Fin cfg0.N) (y : S1024x1408.Idx) (j : Fin 1024) (k : Fin 1408)
    (h0 : (y 0).val = j.val) (h1 : (y 1).val = k.val) :
    ((cfg0.win 1).blk t).view.read (Elt Ideal) G y = G (ix2 j k) := by
  refine congrArg G (funext fun a => Fin.ext ?_)
  refine (win0_1.rect_emb_val t y a).trans ?_
  fin_cases a
  · refine (congrArg₂ (· * 1024 + ·) (idx1 t).1 h0).trans ?_
    show 0 * 1024 + j.val = j.val
    omega
  · refine (congrArg₂ (· * 1408 + ·) (idx1 t).2 h1).trans ?_
    show 0 * 1408 + k.val = k.val
    omega

theorem blk_w (c : Dev nD) (t : Fin cfg0.N) (j : Fin 1024) (k : Fin 1408) :
    iblk m c 1 t (ix2 j k) = m ((c : Thread nD τ).loc main_arg0) (ix2 j k) := by
  unfold iblk
  exact (place1 (V m c (Pipeline.arrRef spec0 1)) t _ j k rfl rfl).trans (congrFun (entry_w m c) _)

/-- A block of the result is 512 of its rows. -/
theorem place2 (t : Fin cfg0.N) (r : Fin 512) (j : Fin 1024) :
    (((View.whole main_v2).slice (win0_2.rect t)).emb (ix2 r j) : S8192x1024.Idx) = ix2 (row t r) j := by
  refine funext fun a => Fin.ext ?_
  refine (win0_2.rect_emb_val t (ix2 r j) a).trans ?_
  fin_cases a
  · refine (congrArg (· * 512 + r.val) (idx2 t).1).trans ?_
    show t.val * 512 + r.val = 512 * t.val + r.val
    omega
  · refine (congrArg (· * 1024 + j.val) (idx2 t).2).trans ?_
    show 0 * 1024 + j.val = j.val
    omega

/-- The kernel's result array. -/
theorem result (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ (r : Fin 512) (j : Fin 1024), y = ix2 r j := ⟨y 0, y 1, eq_ix2 y⟩
  rw [place2 t r j]
  refine (pay_apply _ _ r j).trans ?_
  exact Finset.sum_congr rfl fun k _ => congrArg₂ (fun a b : EReal => a * b) (blk_ct m c t r k) (blk_w m c t j k)

/-- The run of the kernel ends with the gradient. -/
theorem run_grad : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (w : FVec Ideal S1024x1408 .f32) (ct : FVec Ideal S8192x1408 .f32) :
    Cert.InDxReferenceIdeal.Read.val_main_v3 (F := Ideal) w ct = grad w ct := by
  funext i
  refine (Cert.InDxReferenceIdeal.Read.val_main_v2_apply w ct i).trans (Finset.sum_congr rfl fun k _ => ?_)
  exact congrArg₂ (fun a b : EReal => a * b) (congrArg ct (eq_ix2 _)) (congrArg w (eq_ix2 _))

theorem algebraic : Cert.algebraic_InDxIdeal_InDxReferenceIdeal := by
  intro m g m' g' _ h
  refine ⟨fun c => grad (m ((c : Thread nD τ).loc main_arg0)) (m ((c : Thread nD τ).loc main_arg1)), run_grad m g, ?_⟩
  refine (θ_run _ _ _).mono (fun r hr c => ⟨(hr c).1.trans ?_, (hr c).2⟩) (Cert.InDxReferenceIdeal.Value.run m' g')
  refine (Cert.InDxReferenceIdeal.Read.val_main_v3_eq (F := Ideal) _ _).trans ((reference _ _).trans ?_)
  exact congrArg₂ grad (h c).1 (h c).2

end Cert.InDxIdeal.Value

end
-- ==== Proof.Products.InDw.lean ====
/- The gradient of the weights of the second layer's input product: the array that the kernel ends with, the run, and the
   equation with the reference. -/
module

public import proofs.«01_k».proof.Proof.Gen.InDwIdeal.Value
public import proofs.«01_k».proof.Proof.Gen.InDwReferenceIdeal.Run
public import proofs.«01_k».proof.Proof.Gen.InDwReferenceIdeal.Read
public import proofs.«01_k».proof.Defs
public import Idealize.ShloMosaic.Lib.Pipeline.ValueKit
public import Idealize.ShloMosaic.Lib.Pointwise

@[expose] public section

set_option maxRecDepth 16384

noncomputable section

namespace Cert.InDwIdeal.Value

open Cert.InDwIdeal Cert.InDwIdeal.Gen
open Idealize.ShloMosaic Idealize.ShloMosaic.TcCoe Idealize.SL.Sem
open Idealize.ShloMosaic.Pipeline (Dat)

/-- The gradient: a column of the input against a column of the cotangent. -/
def grad (h : FVec Ideal S8192x1024 .f32) (ct : FVec Ideal S8192x1408 .f32) : FVec Ideal S1024x1408 .bf16 :=
  fun i => ∑ l : Fin 8192, h (ix2 l (i 0)) * ct (ix2 l (i 1))

/-- A block of the input against a block of the cotangent, over their rows. -/
theorem part_apply (x : Vec Ideal S2048x512 .bf16) (y : Vec Ideal S2048x1408 .bf16) (r : Fin 512) (j : Fin 1408) :
    k0_pay1 (F := Ideal) x y (ix2 r j) = ∑ k : Fin 2048, x (ix2 k r) * y (ix2 k j) := by
  pointwise [k0_pay1]

/-- The first product of a run is stored as it is. -/
theorem first_apply (x : Vec Ideal S2048x512 .bf16) (y : Vec Ideal S2048x1408 .bf16) (r : Fin 512) (j : Fin 1408) :
    k0_pay2 (F := Ideal) x y (ix2 r j) = ∑ k : Fin 2048, x (ix2 k r) * y (ix2 k j) := by
  pointwise [k0_pay2, k0_pay1]

/-- A later product is added to what the sum holds. -/
theorem next_apply (x : Vec Ideal S2048x512 .bf16) (y : Vec Ideal S2048x1408 .bf16) (acc : Vec Ideal S512x1408 .f32) (r : Fin 512)
    (j : Fin 1408) : k0_pay3 (F := Ideal) x y acc (ix2 r j) = acc (ix2 r j) + ∑ k : Fin 2048, x (ix2 k r) * y (ix2 k j) := by
  pointwise [k0_pay3, k0_pay1]

variable (m : (l : Loc nD τ sig) → Buf (Elt Ideal) l) (ρ : Dev nD → PrngReg)

theorem idx0 : ∀ t : Fin cfg0.N, win0_0.index t 0 = t.val % 4 ∧ win0_0.index t 1 = t.val / 4 := by decide +kernel
theorem idx1 : ∀ t : Fin cfg0.N, win0_1.index t 0 = t.val % 4 ∧ win0_1.index t 1 = 0 := by decide +kernel
theorem idx2 : ∀ t : Fin cfg0.N, win0_2.index t 0 = t.val / 4 ∧ win0_2.index t 1 = 0 := by decide +kernel

theorem entry_h (c : Dev nD) : V m c (Pipeline.arrRef spec0 0) = m ((c : Thread nD τ).loc main_arg0) := by
  show V m c main_v0 = _
  entry_read
  rfl
theorem entry_ct (c : Dev nD) : V m c (Pipeline.arrRef spec0 1) = m ((c : Thread nD τ).loc main_arg1) := by
  show V m c main_v1 = _
  entry_read
  rfl

/-- Row `k` of grid point `t`'s blocks of the two inputs. -/
def row (t : Fin cfg0.N) (k : Fin 2048) : Fin 8192 := ⟨t.val % 4 * 2048 + k.val, by omega⟩

/-- Column `r` of grid point `t`'s block of the input, and row of its block of the result. -/
def col (t : Fin cfg0.N) (r : Fin 512) : Fin 1024 := ⟨t.val / 4 * 512 + r.val, by have := lt_of_lt_of_eq t.isLt N_0; omega⟩

theorem place0 (G : FVec Ideal S8192x1024 .bf16) (t : Fin cfg0.N) (k : Fin 2048) (r : Fin 512) :
    ((cfg0.win 0).blk t).view.read (Elt Ideal) G (ix2 k r) = G (ix2 (row t k) (col t r)) := by
  refine congrArg G (funext fun a => Fin.ext ?_)
  refine (win0_0.rect_emb_val t (ix2 k r) a).trans ?_
  fin_cases a
  · exact congrArg (· * 2048 + k.val) (idx0 t).1
  · exact congrArg (· * 512 + r.val) (idx0 t).2

theorem blk_h (c : Dev nD) (t : Fin cfg0.N) (k : Fin 2048) (r : Fin 512) :
    iblk m c 0 t (ix2 k r) = m ((c : Thread nD τ).loc main_arg0) (ix2 (row t k) (col t r)) := by
  unfold iblk
  exact (place0 (V m c (Pipeline.arrRef spec0 0)) t k r).trans (congrFun (entry_h m c) _)

theorem place1 (G : FVec Ideal S8192x1408 .bf16) (t : Fin cfg0.N) (k : Fin 2048) (j : Fin 1408) :
    ((cfg0.win 1).blk t).view.read (Elt Ideal) G (ix2 k j) = G (ix2 (row t k) j) := by
  refine congrArg G (funext fun a => Fin.ext ?_)
  refine (win0_1.rect_emb_val t (ix2 k j) a).trans ?_
  fin_cases a
  · exact congrArg (· * 2048 + k.val) (idx1 t).1
  · refine (congrArg (· * 1408 + j.val) (idx1 t).2).trans ?_
    show 0 * 1408 + j.val = j.val
    omega

theorem blk_ct (c : Dev nD) (t : Fin cfg0.N) (k : Fin 2048) (j : Fin 1408) :
    iblk m c 1 t (ix2 k j) = m ((c : Thread nD τ).loc main_arg1) (ix2 (row t k) j) := by
  unfold iblk
  exact (place1 (V m c (Pipeline.arrRef spec0 1)) t k j).trans (congrFun (entry_ct m c) _)

/-- A block of the result is 512 of its rows. -/
theorem place2 (t : Fin cfg0.N) (r : Fin 512) (j : Fin 1408) :
    (((View.whole main_v2).slice (win0_2.rect t)).emb (ix2 r j) : S1024x1408.Idx) = ix2 (col t r) j := by
  refine funext fun a => Fin.ext ?_
  refine (win0_2.rect_emb_val t (ix2 r j) a).trans ?_
  fin_cases a
  · exact congrArg (· * 512 + r.val) (idx2 t).1
  · refine (congrArg (· * 1408 + j.val) (idx2 t).2).trans ?_
    show 0 * 1408 + j.val = j.val
    omega

/-- What grid point `t` adds to the sum. -/
def term (h : FVec Ideal S8192x1024 .f32) (ct : FVec Ideal S8192x1408 .f32) (t : Fin cfg0.N) (i : S512x1408.Idx) : EReal :=
  ∑ k : Fin 2048, h (ix2 (row t k) (col t (i 0))) * ct (ix2 (row t k) (i 1))

theorem first_eq (c : Dev nD) (t : Fin cfg0.N) (r : Fin 512) (j : Fin 1408) :
    k0_pay2 (F := Ideal) (iblk m c 0 t) (iblk m c 1 t) (ix2 r j) = term (m ((c : Thread nD τ).loc main_arg0)) (m ((c : Thread nD τ).loc main_arg1)) t (ix2 r j) :=
  (first_apply _ _ r j).trans (Finset.sum_congr rfl fun k _ => congrArg₂ (fun a b : EReal => a * b) (blk_h m c t k r) (blk_ct m c t k j))

theorem next_eq (c : Dev nD) (t : Fin cfg0.N) (acc : Vec Ideal S512x1408 .f32) (r : Fin 512) (j : Fin 1408) :
    k0_pay3 (F := Ideal) (iblk m c 0 t) (iblk m c 1 t) acc (ix2 r j) = acc (ix2 r j) + term (m ((c : Thread nD τ).loc main_arg0)) (m ((c : Thread nD τ).loc main_arg1)) t (ix2 r j) :=
  (next_apply _ _ acc r j).trans (congrArg (fun a : EReal => acc (ix2 r j) + a)
    (Finset.sum_congr rfl fun k _ => congrArg₂ (fun a b : EReal => a * b) (blk_h m c t k r) (blk_ct m c t k j)))

/-- The sum starts at the first point of a run of four … -/
theorem sum_first (c : Dev nD) (t : Fin cfg0.N) (h : t.val % 4 = 0) (r : Fin 512) (j : Fin 1408) :
    (outsAt0 m c t.val t.isLt).2 (ix2 r j) = 0 + term (m ((c : Thread nD τ).loc main_arg0)) (m ((c : Thread nD τ).loc main_arg1)) t (ix2 r j) := by
  rw [outsAt0_A m c t h (by omega) (by omega)]
  frame_out
  rw [zero_add]
  exact first_eq m c t r j

/-- … and grows by one product at each later one. -/
theorem sum_next (c : Dev nD) (t : Fin cfg0.N) (h : ¬t.val % 4 = 0) (r : Fin 512) (j : Fin 1408) :
    (outsAt0 m c t.val t.isLt).2 (ix2 r j)
      = (outsAt0 m c (t.val - 1) (Nat.lt_of_le_of_lt (Nat.sub_le _ _) t.isLt)).2 (ix2 r j) + term (m ((c : Thread nD τ).loc main_arg0)) (m ((c : Thread nD τ).loc main_arg1)) t (ix2 r j) := by
  by_cases h2 : t.val % 4 = 3
  · rw [outsAt0_C m c t h (by omega) h2]
    frame_out
    refine (congrArg (fun a => k0_pay3 (F := Ideal) (iblk m c 0 t) (iblk m c 1 t) a (ix2 r j)) (Memref.IsWhole.read_unread _ _)).trans ?_
    exact next_eq m c t _ r j
  · rw [outsAt0_B m c t h (by omega) h2]
    frame_out
    refine (congrArg (fun a => k0_pay3 (F := Ideal) (iblk m c 0 t) (iblk m c 1 t) a (ix2 r j)) (Memref.IsWhole.read_unread _ _)).trans ?_
    exact next_eq m c t _ r j

/-- The last point of a run writes the sum out. -/
theorem out_last (c : Dev nD) (t : Fin cfg0.N) (h2 : t.val % 4 = 3) (r : Fin 512) (j : Fin 1408) :
    (outsAt0 m c t.val t.isLt).1 (ix2 r j) = (outsAt0 m c t.val t.isLt).2 (ix2 r j) := by
  rw [outsAt0_C m c t (by omega) (by omega) h2]
  frame_out
  rfl

theorem run_lt (t : Fin cfg0.N) (s : Fin 4) : 4 * (t.val / 4) + s.val < cfg0.N := by
  have := lt_of_lt_of_eq t.isLt N_0
  have := s.isLt
  exact lt_of_lt_of_eq (by omega) N_0.symm

/-- The sum at the last point of a run: over all the rows. -/
theorem sum_last (c : Dev nD) (t : Fin cfg0.N) (h2 : t.val % 4 = 3) (r : Fin 512) (j : Fin 1408) :
    (outsAt0 m c t.val t.isLt).2 (ix2 r j)
      = grad (m ((c : Thread nD τ).loc main_arg0)) (m ((c : Thread nD τ).loc main_arg1)) (ix2 (col t r) j) := by
  have key := Pipeline.eq_sum_fin_of_reset_step_apply_of_flush (M := EReal) (fun n h i => (outsAt0 m c n h).2 i) 4 (fun _ => 0) (term (m ((c : Thread nD τ).loc main_arg0)) (m ((c : Thread nD τ).loc main_arg1)))
    (fun t h i => by rw [eq_ix2 i]; exact sum_first m c t h (i 0) (i 1))
    (fun t h i => by rw [eq_ix2 i]; exact sum_next m c t h (i 0) (i 1)) t h2 (ix2 r j)
  refine key.trans ?_
  rw [zero_add]
  refine Fin.sum_mul_add_congr fun s k hl => ?_
  have e0 : row ⟨4 * (t.val / 4) + s.val, run_lt t s⟩ k = ⟨s.val * 2048 + k.val, hl⟩ :=
    Fin.ext (by show (4 * (t.val / 4) + s.val) % 4 * 2048 + k.val = _; have := s.isLt; have e : (4 * (t.val / 4) + s.val) % 4 = s.val := by omega
                rw [e])
  have e1 : col ⟨4 * (t.val / 4) + s.val, run_lt t s⟩ r = col t r :=
    Fin.ext (by show (4 * (t.val / 4) + s.val) / 4 * 512 + r.val = t.val / 4 * 512 + r.val; have := s.isLt
                have e : (4 * (t.val / 4) + s.val) / 4 = t.val / 4 := by omega
                rw [e])
  exact congrArg₂ (fun a b : EReal => a * b) (congrArg _ (congrArg₂ ix2 e0 e1)) (congrArg _ (congrArg (fun a => ix2 a j) e0))

/-- The kernel's result array. -/
theorem result (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 512) (j : Fin 1408), y = ix2 r j := ⟨y 0, y 1, eq_ix2 y⟩
  rw [place2 t r j]
  have h2 := (flush0_2 t).mp hf
  exact (out_last m c t h2 r j).trans (sum_last m c t h2 r j)

/-- The run of the kernel ends with the gradient. -/
theorem run_grad : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (h : FVec Ideal S8192x1024 .f32) (ct : FVec Ideal S8192x1408 .f32) :
    Cert.InDwReferenceIdeal.Read.val_main_v4 (F := Ideal) h ct = grad h ct := by
  funext i
  refine (Cert.InDwReferenceIdeal.Read.val_main_v3_apply (F := Ideal) h ct i).trans ?_
  refine (Cert.InDwReferenceIdeal.Read.val_main_v2_apply h ct _).trans (Finset.sum_congr rfl fun k _ => ?_)
  refine (mul_comm (G := EReal) _ _).trans ?_
  exact congrArg₂ (fun a b : EReal => a * b) (congrArg h (eq_ix2 _)) (congrArg ct (eq_ix2 _))

theorem algebraic : Cert.algebraic_InDwIdeal_InDwReferenceIdeal := by
  intro m g m' g' _ h
  refine ⟨fun c => grad (m ((c : Thread nD τ).loc main_arg0)) (m ((c : Thread nD τ).loc main_arg1)), run_grad m g, ?_⟩
  refine (θ_run _ _ _).mono (fun r hr c => ⟨(hr c).1.trans ?_, (hr c).2⟩) (Cert.InDwReferenceIdeal.Value.run m' g')
  refine (Cert.InDwReferenceIdeal.Read.val_main_v4_eq (F := Ideal) _ _).trans ((reference _ _).trans ?_)
  exact congrArg₂ grad (h c).1 (h c).2

end Cert.InDwIdeal.Value

end
-- ==== Proof.Products.Group0Dw.lean ====
/- The gradient of the weights of the first layer's input product, the columns 0 to 3071: the array that the kernel ends with, the run, and the
   equation with the reference. -/
module

public import proofs.«01_k».proof.Proof.Gen.Group0DwIdeal.Frame
public import proofs.«01_k».proof.Proof.Gen.Group0DwReferenceIdeal.Run
public import proofs.«01_k».proof.Proof.Gen.Group0DwReferenceIdeal.Read
public import proofs.«01_k».proof.Defs
public import Idealize.ShloMosaic.Lib.Pipeline.ValueKit
public import Idealize.ShloMosaic.Lib.Pointwise

@[expose] public section

set_option maxRecDepth 16384

noncomputable section

namespace Cert.Group0DwIdeal.Value

open Cert.Group0DwIdeal Cert.Group0DwIdeal.Gen
open Idealize.ShloMosaic Idealize.ShloMosaic.TcCoe Idealize.SL.Sem
open Idealize.ShloMosaic.Pipeline (Dat)

/-- The gradient, at column `j` of the whole array: a column of the input against the column of the cotangent in its group. -/
def sums (h : FVec Ideal S8192x1024 .f32) (ct : FVec Ideal S8192x3072 .f32) : FVec Ideal S1024x10240 .bf16 :=
  fun i => ∑ l : Fin 8192, h (ix2 l (i 0)) * ct (ix2 l ⟨(i 1).val % 3072, Nat.mod_lt _ (by decide)⟩)

/-- The array the call writes: the gradient in its columns, and what was there before in the others. -/
def written (h : FVec Ideal S8192x1024 .f32) (ct : FVec Ideal S8192x3072 .f32) (prev : FVec Ideal S1024x10240 .bf16) : FVec Ideal S1024x10240 .bf16 :=
  fun i => if (i 1).val / 1024 < 3 then sums h ct i else prev i

/-- The gradient: the columns that are kept. -/
def grad (h : FVec Ideal S8192x1024 .f32) (ct : FVec Ideal S8192x3072 .f32) : FVec Ideal S1024x3072 .bf16 :=
  fun i => ∑ l : Fin 8192, h (ix2 l (i 0)) * ct (ix2 l (i 1))

/-- A block of the input against a block of the cotangent, over their rows. -/
theorem part_apply (x : Vec Ideal S2048x512 .bf16) (y : Vec Ideal S2048x1024 .bf16) (r : Fin 512) (j : Fin 1024) :
    k0_pay1 (F := Ideal) x y (ix2 r j) = ∑ k : Fin 2048, x (ix2 k r) * y (ix2 k j) := by
  pointwise [k0_pay1]

/-- The first product of a run is stored as it is. -/
theorem first_apply (x : Vec Ideal S2048x512 .bf16) (y : Vec Ideal S2048x1024 .bf16) (r : Fin 512) (j : Fin 1024) :
    k0_pay2 (F := Ideal) x y (ix2 r j) = ∑ k : Fin 2048, x (ix2 k r) * y (ix2 k j) := by
  pointwise [k0_pay2, k0_pay1]

/-- A later product is added to what the sum holds. -/
theorem next_apply (x : Vec Ideal S2048x512 .bf16) (y : Vec Ideal S2048x1024 .bf16) (acc : Vec Ideal S512x1024 .f32) (r : Fin 512)
    (j : Fin 1024) : k0_pay3 (F := Ideal) x y acc (ix2 r j) = acc (ix2 r j) + ∑ k : Fin 2048, x (ix2 k r) * y (ix2 k j) := by
  pointwise [k0_pay3, k0_pay1]

variable (m : (l : Loc nD τ sig) → Buf (Elt Ideal) l) (ρ : Dev nD → PrngReg)

theorem idx0 : ∀ t : Fin cfg0.N, win0_0.index t 0 = t.val % 4 ∧ win0_0.index t 1 = t.val / 4 % 2 := by decide +kernel
theorem idx1 : ∀ t : Fin cfg0.N, win0_1.index t 0 = t.val % 4 ∧ win0_1.index t 1 = t.val / 8 := by decide +kernel
theorem idx2 : ∀ t : Fin cfg0.N, win0_2.index t 0 = t.val / 4 % 2 ∧ win0_2.index t 1 = t.val / 8 := by decide +kernel

theorem entry_h (c : Dev nD) : V m c (Pipeline.arrRef spec0 0) = m ((c : Thread nD τ).loc main_arg0) := by
  show V m c main_v0 = _
  entry_read
  rfl
theorem entry_ct (c : Dev nD) : V m c (Pipeline.arrRef spec0 1) = m ((c : Thread nD τ).loc main_arg1) := by
  show V m c main_v1 = _
  entry_read
  rfl

/-- Row `k` of grid point `t`'s blocks of the two inputs. -/
def row (t : Fin cfg0.N) (k : Fin 2048) : Fin 8192 := ⟨t.val % 4 * 2048 + k.val, by omega⟩

/-- Column `r` of grid point `t`'s block of the input, and row of its block of the result. -/
def col (t : Fin cfg0.N) (r : Fin 512) : Fin 1024 := ⟨t.val / 4 % 2 * 512 + r.val, by omega⟩

/-- Column `j` of grid point `t`'s block of the cotangent. -/
def ccol (t : Fin cfg0.N) (j : Fin 1024) : Fin 3072 := ⟨t.val / 8 * 1024 + j.val, by have := lt_of_lt_of_eq t.isLt N_0; omega⟩

/-- Column `j` of grid point `t`'s block of the result. -/
def ocol (t : Fin cfg0.N) (j : Fin 1024) : Fin 10240 := ⟨t.val / 8 * 1024 + j.val, by have := lt_of_lt_of_eq t.isLt N_0; omega⟩

theorem place0 (G : FVec Ideal S8192x1024 .bf16) (t : Fin cfg0.N) (k : Fin 2048) (r : Fin 512) :
    ((cfg0.win 0).blk t).view.read (Elt Ideal) G (ix2 k r) = G (ix2 (row t k) (col t r)) := by
  refine congrArg G (funext fun a => Fin.ext ?_)
  refine (win0_0.rect_emb_val t (ix2 k r) a).trans ?_
  fin_cases a
  · exact congrArg (· * 2048 + k.val) (idx0 t).1
  · exact congrArg (· * 512 + r.val) (idx0 t).2

theorem blk_h (c : Dev nD) (t : Fin cfg0.N) (k : Fin 2048) (r : Fin 512) :
    iblk m c 0 t (ix2 k r) = m ((c : Thread nD τ).loc main_arg0) (ix2 (row t k) (col t r)) := by
  unfold iblk
  exact (place0 (V m c (Pipeline.arrRef spec0 0)) t k r).trans (congrFun (entry_h m c) _)

theorem place1 (G : FVec Ideal S8192x3072 .bf16) (t : Fin cfg0.N) (k : Fin 2048) (j : Fin 1024) :
    ((cfg0.win 1).blk t).view.read (Elt Ideal) G (ix2 k j) = G (ix2 (row t k) (ccol t j)) := by
  refine congrArg G (funext fun a => Fin.ext ?_)
  refine (win0_1.rect_emb_val t (ix2 k j) a).trans ?_
  fin_cases a
  · exact congrArg (· * 2048 + k.val) (idx1 t).1
  · exact congrArg (· * 1024 + j.val) (idx1 t).2

theorem blk_ct (c : Dev nD) (t : Fin cfg0.N) (k : Fin 2048) (j : Fin 1024) :
    iblk m c 1 t (ix2 k j) = m ((c : Thread nD τ).loc main_arg1) (ix2 (row t k) (ccol t j)) := by
  unfold iblk
  exact (place1 (V m c (Pipeline.arrRef spec0 1)) t k j).trans (congrFun (entry_ct m c) _)

/-- A block of the result is 512 of its rows and 1024 of its columns. -/
theorem place2 (t : Fin cfg0.N) (r : Fin 512) (j : Fin 1024) :
    (((View.whole main_v2).slice (win0_2.rect t)).emb (ix2 r j) : S1024x10240.Idx) = ix2 (col t r) (ocol t j) := by
  refine funext fun a => Fin.ext ?_
  refine (win0_2.rect_emb_val t (ix2 r j) a).trans ?_
  fin_cases a
  · exact congrArg (· * 512 + r.val) (idx2 t).1
  · exact congrArg (· * 1024 + j.val) (idx2 t).2

/-- What grid point `t` adds to the sum. -/
def term (h : FVec Ideal S8192x1024 .f32) (ct : FVec Ideal S8192x3072 .f32) (t : Fin cfg0.N) (i : S512x1024.Idx) : EReal :=
  ∑ k : Fin 2048, h (ix2 (row t k) (col t (i 0))) * ct (ix2 (row t k) (ccol t (i 1)))

theorem first_eq (c : Dev nD) (t : Fin cfg0.N) (r : Fin 512) (j : Fin 1024) :
    k0_pay2 (F := Ideal) (iblk m c 0 t) (iblk m c 1 t) (ix2 r j) = term (m ((c : Thread nD τ).loc main_arg0)) (m ((c : Thread nD τ).loc main_arg1)) t (ix2 r j) :=
  (first_apply _ _ r j).trans (Finset.sum_congr rfl fun k _ => congrArg₂ (fun a b : EReal => a * b) (blk_h m c t k r) (blk_ct m c t k j))

theorem next_eq (c : Dev nD) (t : Fin cfg0.N) (acc : Vec Ideal S512x1024 .f32) (r : Fin 512) (j : Fin 1024) :
    k0_pay3 (F := Ideal) (iblk m c 0 t) (iblk m c 1 t) acc (ix2 r j) = acc (ix2 r j) + term (m ((c : Thread nD τ).loc main_arg0)) (m ((c : Thread nD τ).loc main_arg1)) t (ix2 r j) :=
  (next_apply _ _ acc r j).trans (congrArg (fun a : EReal => acc (ix2 r j) + a)
    (Finset.sum_congr rfl fun k _ => congrArg₂ (fun a b : EReal => a * b) (blk_h m c t k r) (blk_ct m c t k j)))

/-- The sum starts at the first point of a run of four … -/
theorem sum_first (c : Dev nD) (t : Fin cfg0.N) (h : t.val % 4 = 0) (r : Fin 512) (j : Fin 1024) :
    (outsAt0 m c t.val t.isLt).2 (ix2 r j) = 0 + term (m ((c : Thread nD τ).loc main_arg0)) (m ((c : Thread nD τ).loc main_arg1)) t (ix2 r j) := by
  rw [outsAt0_A m c t h (by omega) (by omega)]
  frame_out
  rw [zero_add]
  exact first_eq m c t r j

/-- … and grows by one product at each later one. -/
theorem sum_next (c : Dev nD) (t : Fin cfg0.N) (h : ¬t.val % 4 = 0) (r : Fin 512) (j : Fin 1024) :
    (outsAt0 m c t.val t.isLt).2 (ix2 r j)
      = (outsAt0 m c (t.val - 1) (Nat.lt_of_le_of_lt (Nat.sub_le _ _) t.isLt)).2 (ix2 r j) + term (m ((c : Thread nD τ).loc main_arg0)) (m ((c : Thread nD τ).loc main_arg1)) t (ix2 r j) := by
  by_cases h2 : t.val % 4 = 3
  · rw [outsAt0_C m c t h (by omega) h2]
    frame_out
    refine (congrArg (fun a => k0_pay3 (F := Ideal) (iblk m c 0 t) (iblk m c 1 t) a (ix2 r j)) (Memref.IsWhole.read_unread _ _)).trans ?_
    exact next_eq m c t _ r j
  · rw [outsAt0_B m c t h (by omega) h2]
    frame_out
    refine (congrArg (fun a => k0_pay3 (F := Ideal) (iblk m c 0 t) (iblk m c 1 t) a (ix2 r j)) (Memref.IsWhole.read_unread _ _)).trans ?_
    exact next_eq m c t _ r j

/-- The last point of a run writes the sum out. -/
theorem out_last (c : Dev nD) (t : Fin cfg0.N) (h2 : t.val % 4 = 3) (r : Fin 512) (j : Fin 1024) :
    (outsAt0 m c t.val t.isLt).1 (ix2 r j) = (outsAt0 m c t.val t.isLt).2 (ix2 r j) := by
  rw [outsAt0_C m c t (by omega) (by omega) h2]
  frame_out
  rfl

theorem run_lt (t : Fin cfg0.N) (s : Fin 4) : 4 * (t.val / 4) + s.val < cfg0.N := by
  have := lt_of_lt_of_eq t.isLt N_0
  have := s.isLt
  exact lt_of_lt_of_eq (by omega) N_0.symm

/-- The sum at the last point of a run: over all the rows. -/
theorem sum_last (c : Dev nD) (t : Fin cfg0.N) (h2 : t.val % 4 = 3) (r : Fin 512) (j : Fin 1024) :
    (outsAt0 m c t.val t.isLt).2 (ix2 r j)
      = sums (m ((c : Thread nD τ).loc main_arg0)) (m ((c : Thread nD τ).loc main_arg1)) (ix2 (col t r) (ocol t j)) := by
  have key := Pipeline.eq_sum_fin_of_reset_step_apply_of_flush (M := EReal) (fun n h i => (outsAt0 m c n h).2 i) 4 (fun _ => 0) (term (m ((c : Thread nD τ).loc main_arg0)) (m ((c : Thread nD τ).loc main_arg1)))
    (fun t h i => by rw [eq_ix2 i]; exact sum_first m c t h (i 0) (i 1))
    (fun t h i => by rw [eq_ix2 i]; exact sum_next m c t h (i 0) (i 1)) t h2 (ix2 r j)
  refine key.trans ?_
  rw [zero_add]
  refine Fin.sum_mul_add_congr fun s k hl => ?_
  have e0 : row ⟨4 * (t.val / 4) + s.val, run_lt t s⟩ k = ⟨s.val * 2048 + k.val, hl⟩ :=
    Fin.ext (by show (4 * (t.val / 4) + s.val) % 4 * 2048 + k.val = _; have := s.isLt; have e : (4 * (t.val / 4) + s.val) % 4 = s.val := by omega
                rw [e])
  have e1 : col ⟨4 * (t.val / 4) + s.val, run_lt t s⟩ r = col t r :=
    Fin.ext (by show (4 * (t.val / 4) + s.val) / 4 % 2 * 512 + r.val = t.val / 4 % 2 * 512 + r.val; have := s.isLt
                have e : (4 * (t.val / 4) + s.val) / 4 = t.val / 4 := by omega
                rw [e])
  have e2 : ccol ⟨4 * (t.val / 4) + s.val, run_lt t s⟩ j = ⟨(ocol t j).val % 3072, Nat.mod_lt _ (by decide)⟩ :=
    Fin.ext (by show (4 * (t.val / 4) + s.val) / 8 * 1024 + j.val = (t.val / 8 * 1024 + j.val) % 3072
                have := s.isLt; have := lt_of_lt_of_eq t.isLt N_0
                omega)
  exact congrArg₂ (fun a b : EReal => a * b) (congrArg _ (congrArg₂ ix2 e0 e1)) (congrArg _ (congrArg₂ ix2 e0 e2))

/-- The array after the call. -/
theorem result (c : Dev nD) : (dats m 0 c).arrAt 2 cfg0.N
    = written (m ((c : Thread nD τ).loc main_arg0)) (m ((c : Thread nD τ).loc main_arg1)) (V m c (Pipeline.arrRef spec0 2)) := by
  refine (dats m 0 c).arrAt_eq_of_coversWhere 2 (sums (m ((c : Thread nD τ).loc main_arg0)) (m ((c : Thread nD τ).loc main_arg1))) (fun β => β (1 : Fin _) < 3) (by decide +kernel)
    (fun t hf y => ?_) (fun j => Iff.rfl)
  blk_simp
  rw [after0_2]
  obtain ⟨r, j, rfl⟩ : ∃ (r : Fin 512) (j : Fin 1024), y = ix2 r j := ⟨y 0, y 1, eq_ix2 y⟩
  rw [place2 t r j]
  have h2 := (flush0_2 t).mp hf
  exact (out_last m c t h2 r j).trans (sum_last m c t h2 r j)

theorem written_in (h : FVec Ideal S8192x1024 .f32) (ct : FVec Ideal S8192x3072 .f32) (prev : FVec Ideal S1024x10240 .bf16) (a : Fin 1024) (b : Fin 10240)
    (hb : b.val / 1024 < 3) : written h ct prev (ix2 a b) = sums h ct (ix2 a b) := if_pos hb

/-- Its first 3072 columns are the gradient. -/
theorem kept (h : FVec Ideal S8192x1024 .f32) (ct : FVec Ideal S8192x3072 .f32) (prev : FVec Ideal S1024x10240 .bf16) :
    extractStridedSlice S1024x3072 ![0, 0] (written h ct prev) slices_S1024x10240_S1024x3072_0_0 = grad h ct := by
  funext i
  obtain ⟨a, b, rfl⟩ : ∃ (a : Fin 1024) (b : Fin 3072), i = ix2 a b := ⟨i 0, i 1, eq_ix2 i⟩
  have hb : b.val < 10240 := by omega
  have e : extractStridedSlice S1024x3072 ![0, 0] (written h ct prev) slices_S1024x10240_S1024x3072_0_0 (ix2 a b) = written h ct prev (ix2 a ⟨b.val, hb⟩) := by
    refine congrArg (written h ct prev) (funext fun x => Fin.ext ?_)
    fin_cases x <;> exact Nat.zero_add _
  refine e.trans ((written_in h ct prev a ⟨b.val, hb⟩ (by show b.val / 1024 < 3; omega)).trans ?_)
  have e2 : (⟨b.val % 3072, Nat.mod_lt _ (by decide)⟩ : Fin 3072) = b := Fin.ext (Nat.mod_eq_of_lt b.isLt)
  show (∑ l : Fin 8192, h (ix2 l a) * ct (ix2 l ⟨b.val % 3072, Nat.mod_lt _ (by decide)⟩) : EReal) = ∑ l : Fin 8192, h (ix2 l a) * ct (ix2 l b)
  rw [e2]

/-- What the line after the call leaves. -/
theorem tail (c : Dev nD) : Pipeline.afterTail₀ cfgs (dats m) 0 (V0 m) [hostOps1] c main_v3
    = grad (m ((c : Thread nD τ).loc main_arg0)) (m ((c : Thread nD τ).loc main_arg1)) := by
  refine Eq.trans ?_ (kept _ _ (V m c (Pipeline.arrRef spec0 2)))
  rw [← result m c]
  unfold Pipeline.afterTail₀
  show StableHlo.after hostOps1 _ _ = _
  after_results
  exact congrArg (fun x => extractStridedSlice S1024x3072 ![0, 0] x slices_S1024x10240_S1024x3072_0_0)
    (Pipeline.withArrays_arr cfg0.spec (by decide) c (V0 m c) (fun w => (dats m 0 c).arrAt w cfg0.N) 2)

/-- The run of the kernel ends with the gradient. -/
theorem run_grad : θ_run defs (onTc (τ := τ) (main (F := Ideal))) ⟨m, fun _ => 0, ρ⟩ fun r => ∀ c : Dev nD,
      r.2.mem ((c : Thread nD τ).loc main_v3) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v3 (Pipeline.mem_restRefs_of main_v3 (by decide) (by decide))).trans (tail m c), h.2 c⟩)
    (θ_run_and (run_main m ρ) (unchanged m ρ))

/-- The reference is the same sum. -/
theorem reference (h : FVec Ideal S8192x1024 .f32) (ct : FVec Ideal S8192x3072 .f32) :
    Cert.Group0DwReferenceIdeal.Read.val_main_v4 (F := Ideal) h ct = grad h ct := by
  funext i
  refine (Cert.Group0DwReferenceIdeal.Read.val_main_v4_apply (F := Ideal) h ct i).trans ?_
  refine (Cert.Group0DwReferenceIdeal.Read.val_main_v3_apply (F := Ideal) h ct i).trans ?_
  refine (Cert.Group0DwReferenceIdeal.Read.val_main_v2_apply h ct _).trans (Finset.sum_congr rfl fun k _ => ?_)
  refine (mul_comm (G := EReal) _ _).trans ?_
  exact congrArg₂ (fun a b : EReal => a * b) (congrArg h (eq_ix2 _)) (congrArg ct (eq_ix2 _))

theorem algebraic : Cert.algebraic_Group0DwIdeal_Group0DwReferenceIdeal := by
  intro m g m' g' _ h
  refine ⟨fun c => grad (m ((c : Thread nD τ).loc main_arg0)) (m ((c : Thread nD τ).loc main_arg1)), run_grad m g, ?_⟩
  refine (θ_run _ _ _).mono (fun r hr c => ⟨(hr c).1.trans ?_, (hr c).2⟩) (Cert.Group0DwReferenceIdeal.Value.run m' g')
  refine (Cert.Group0DwReferenceIdeal.Read.val_main_v4_eq (F := Ideal) _ _).trans ((reference _ _).trans ?_)
  exact congrArg₂ grad (h c).1 (h c).2

end Cert.Group0DwIdeal.Value

end
-- ==== Proof.Products.Group1Dw.lean ====
/- The gradient of the weights of the first layer's input product, the columns 3072 to 6143: the array that the kernel ends with, the run, and the
   equation with the reference. -/
module

public import proofs.«01_k».proof.Proof.Gen.Group1DwIdeal.Value
public import proofs.«01_k».proof.Proof.Gen.Group1DwReferenceIdeal.Run
public import proofs.«01_k».proof.Proof.Gen.Group1DwReferenceIdeal.Read
public import proofs.«01_k».proof.Defs
public import Idealize.ShloMosaic.Lib.Pipeline.ValueKit
public import Idealize.ShloMosaic.Lib.Pointwise

@[expose] public section

set_option maxRecDepth 16384

noncomputable section

namespace Cert.Group1DwIdeal.Value

open Cert.Group1DwIdeal Cert.Group1DwIdeal.Gen
open Idealize.ShloMosaic Idealize.ShloMosaic.TcCoe Idealize.SL.Sem
open Idealize.ShloMosaic.Pipeline (Dat)

/-- The gradient, at column `j` of the whole array: a column of the input against the column of the cotangent in its group. -/
def sums (h : FVec Ideal S8192x1024 .f32) (ct : FVec Ideal S8192x3072 .f32) : FVec Ideal S1024x10240 .bf16 :=
  fun i => ∑ l : Fin 8192, h (ix2 l (i 0)) * ct (ix2 l ⟨(i 1).val % 3072, Nat.mod_lt _ (by decide)⟩)

/-- The gradient in its columns, and what was handed on in the others. -/
def grad (h : FVec Ideal S8192x1024 .f32) (ct : FVec Ideal S8192x3072 .f32) (prev : FVec Ideal S1024x10240 .f32) : FVec Ideal S1024x10240 .bf16 :=
  fun i => if 3 ≤ (i 1).val / 1024 ∧ (i 1).val / 1024 < 6 then sums h ct i else prev i

/-- A block of the input against a block of the cotangent, over their rows. -/
theorem part_apply (x : Vec Ideal S2048x512 .bf16) (y : Vec Ideal S2048x1024 .bf16) (r : Fin 512) (j : Fin 1024) :
    k0_pay1 (F := Ideal) x y (ix2 r j) = ∑ k : Fin 2048, x (ix2 k r) * y (ix2 k j) := by
  pointwise [k0_pay1]

/-- The first product of a run is stored as it is. -/
theorem first_apply (x : Vec Ideal S2048x512 .bf16) (y : Vec Ideal S2048x1024 .bf16) (r : Fin 512) (j : Fin 1024) :
    k0_pay2 (F := Ideal) x y (ix2 r j) = ∑ k : Fin 2048, x (ix2 k r) * y (ix2 k j) := by
  pointwise [k0_pay2, k0_pay1]

/-- A later product is added to what the sum holds. -/
theorem next_apply (x : Vec Ideal S2048x512 .bf16) (y : Vec Ideal S2048x1024 .bf16) (acc : Vec Ideal S512x1024 .f32) (r : Fin 512)
    (j : Fin 1024) : k0_pay3 (F := Ideal) x y acc (ix2 r j) = acc (ix2 r j) + ∑ k : Fin 2048, x (ix2 k r) * y (ix2 k j) := by
  pointwise [k0_pay3, k0_pay1]

variable (m : (l : Loc nD τ sig) → Buf (Elt Ideal) l) (ρ : Dev nD → PrngReg)

theorem idx0 : ∀ t : Fin cfg0.N, win0_0.index t 0 = t.val % 4 ∧ win0_0.index t 1 = t.val / 4 % 2 := by decide +kernel
theorem idx1 : ∀ t : Fin cfg0.N, win0_1.index t 0 = t.val % 4 ∧ win0_1.index t 1 = t.val / 8 := by decide +kernel
theorem idx2 : ∀ t : Fin cfg0.N, win0_2.index t 0 = t.val / 4 % 2 ∧ win0_2.index t 1 = t.val / 8 + 3 := by decide +kernel

theorem entry_h (c : Dev nD) : V m c (Pipeline.arrRef spec0 0) = m ((c : Thread nD τ).loc main_arg0) := by
  show V m c main_v0 = _
  entry_read
  rfl
theorem entry_ct (c : Dev nD) : V m c (Pipeline.arrRef spec0 1) = m ((c : Thread nD τ).loc main_arg1) := by
  show V m c main_v1 = _
  entry_read
  rfl

/-- Row `k` of grid point `t`'s blocks of the two inputs. -/
def row (t : Fin cfg0.N) (k : Fin 2048) : Fin 8192 := ⟨t.val % 4 * 2048 + k.val, by omega⟩

/-- Column `r` of grid point `t`'s block of the input, and row of its block of the result. -/
def col (t : Fin cfg0.N) (r : Fin 512) : Fin 1024 := ⟨t.val / 4 % 2 * 512 + r.val, by omega⟩

/-- Column `j` of grid point `t`'s block of the cotangent. -/
def ccol (t : Fin cfg0.N) (j : Fin 1024) : Fin 3072 := ⟨t.val / 8 * 1024 + j.val, by have := lt_of_lt_of_eq t.isLt N_0; omega⟩

/-- Column `j` of grid point `t`'s block of the result. -/
def ocol (t : Fin cfg0.N) (j : Fin 1024) : Fin 10240 := ⟨(t.val / 8 + 3) * 1024 + j.val, by have := lt_of_lt_of_eq t.isLt N_0; omega⟩

theorem place0 (G : FVec Ideal S8192x1024 .bf16) (t : Fin cfg0.N) (k : Fin 2048) (r : Fin 512) :
    ((cfg0.win 0).blk t).view.read (Elt Ideal) G (ix2 k r) = G (ix2 (row t k) (col t r)) := by
  refine congrArg G (funext fun a => Fin.ext ?_)
  refine (win0_0.rect_emb_val t (ix2 k r) a).trans ?_
  fin_cases a
  · exact congrArg (· * 2048 + k.val) (idx0 t).1
  · exact congrArg (· * 512 + r.val) (idx0 t).2

theorem blk_h (c : Dev nD) (t : Fin cfg0.N) (k : Fin 2048) (r : Fin 512) :
    iblk m c 0 t (ix2 k r) = m ((c : Thread nD τ).loc main_arg0) (ix2 (row t k) (col t r)) := by
  unfold iblk
  exact (place0 (V m c (Pipeline.arrRef spec0 0)) t k r).trans (congrFun (entry_h m c) _)

theorem place1 (G : FVec Ideal S8192x3072 .bf16) (t : Fin cfg0.N) (k : Fin 2048) (j : Fin 1024) :
    ((cfg0.win 1).blk t).view.read (Elt Ideal) G (ix2 k j) = G (ix2 (row t k) (ccol t j)) := by
  refine congrArg G (funext fun a => Fin.ext ?_)
  refine (win0_1.rect_emb_val t (ix2 k j) a).trans ?_
  fin_cases a
  · exact congrArg (· * 2048 + k.val) (idx1 t).1
  · exact congrArg (· * 1024 + j.val) (idx1 t).2

theorem blk_ct (c : Dev nD) (t : Fin cfg0.N) (k : Fin 2048) (j : Fin 1024) :
    iblk m c 1 t (ix2 k j) = m ((c : Thread nD τ).loc main_arg1) (ix2 (row t k) (ccol t j)) := by
  unfold iblk
  exact (place1 (V m c (Pipeline.arrRef spec0 1)) t k j).trans (congrFun (entry_ct m c) _)

/-- A block of the result is 512 of its rows and 1024 of its columns. -/
theorem place2 (t : Fin cfg0.N) (r : Fin 512) (j : Fin 1024) :
    (((View.whole main_v3).slice (win0_2.rect t)).emb (ix2 r j) : S1024x10240.Idx) = ix2 (col t r) (ocol t j) := by
  refine funext fun a => Fin.ext ?_
  refine (win0_2.rect_emb_val t (ix2 r j) a).trans ?_
  fin_cases a
  · exact congrArg (· * 512 + r.val) (idx2 t).1
  · exact congrArg (· * 1024 + j.val) (idx2 t).2

/-- What grid point `t` adds to the sum. -/
def term (h : FVec Ideal S8192x1024 .f32) (ct : FVec Ideal S8192x3072 .f32) (t : Fin cfg0.N) (i : S512x1024.Idx) : EReal :=
  ∑ k : Fin 2048, h (ix2 (row t k) (col t (i 0))) * ct (ix2 (row t k) (ccol t (i 1)))

theorem first_eq (c : Dev nD) (t : Fin cfg0.N) (r : Fin 512) (j : Fin 1024) :
    k0_pay2 (F := Ideal) (iblk m c 0 t) (iblk m c 1 t) (ix2 r j) = term (m ((c : Thread nD τ).loc main_arg0)) (m ((c : Thread nD τ).loc main_arg1)) t (ix2 r j) :=
  (first_apply _ _ r j).trans (Finset.sum_congr rfl fun k _ => congrArg₂ (fun a b : EReal => a * b) (blk_h m c t k r) (blk_ct m c t k j))

theorem next_eq (c : Dev nD) (t : Fin cfg0.N) (acc : Vec Ideal S512x1024 .f32) (r : Fin 512) (j : Fin 1024) :
    k0_pay3 (F := Ideal) (iblk m c 0 t) (iblk m c 1 t) acc (ix2 r j) = acc (ix2 r j) + term (m ((c : Thread nD τ).loc main_arg0)) (m ((c : Thread nD τ).loc main_arg1)) t (ix2 r j) :=
  (next_apply _ _ acc r j).trans (congrArg (fun a : EReal => acc (ix2 r j) + a)
    (Finset.sum_congr rfl fun k _ => congrArg₂ (fun a b : EReal => a * b) (blk_h m c t k r) (blk_ct m c t k j)))

/-- The sum starts at the first point of a run of four … -/
theorem sum_first (c : Dev nD) (t : Fin cfg0.N) (h : t.val % 4 = 0) (r : Fin 512) (j : Fin 1024) :
    (outsAt0 m c t.val t.isLt).2 (ix2 r j) = 0 + term (m ((c : Thread nD τ).loc main_arg0)) (m ((c : Thread nD τ).loc main_arg1)) t (ix2 r j) := by
  rw [outsAt0_A m c t h (by omega) (by omega)]
  frame_out
  rw [zero_add]
  exact first_eq m c t r j

/-- … and grows by one product at each later one. -/
theorem sum_next (c : Dev nD) (t : Fin cfg0.N) (h : ¬t.val % 4 = 0) (r : Fin 512) (j : Fin 1024) :
    (outsAt0 m c t.val t.isLt).2 (ix2 r j)
      = (outsAt0 m c (t.val - 1) (Nat.lt_of_le_of_lt (Nat.sub_le _ _) t.isLt)).2 (ix2 r j) + term (m ((c : Thread nD τ).loc main_arg0)) (m ((c : Thread nD τ).loc main_arg1)) t (ix2 r j) := by
  by_cases h2 : t.val % 4 = 3
  · rw [outsAt0_C m c t h (by omega) h2]
    frame_out
    refine (congrArg (fun a => k0_pay3 (F := Ideal) (iblk m c 0 t) (iblk m c 1 t) a (ix2 r j)) (Memref.IsWhole.read_unread _ _)).trans ?_
    exact next_eq m c t _ r j
  · rw [outsAt0_B m c t h (by omega) h2]
    frame_out
    refine (congrArg (fun a => k0_pay3 (F := Ideal) (iblk m c 0 t) (iblk m c 1 t) a (ix2 r j)) (Memref.IsWhole.read_unread _ _)).trans ?_
    exact next_eq m c t _ r j

/-- The last point of a run writes the sum out. -/
theorem out_last (c : Dev nD) (t : Fin cfg0.N) (h2 : t.val % 4 = 3) (r : Fin 512) (j : Fin 1024) :
    (outsAt0 m c t.val t.isLt).1 (ix2 r j) = (outsAt0 m c t.val t.isLt).2 (ix2 r j) := by
  rw [outsAt0_C m c t (by omega) (by omega) h2]
  frame_out
  rfl

theorem run_lt (t : Fin cfg0.N) (s : Fin 4) : 4 * (t.val / 4) + s.val < cfg0.N := by
  have := lt_of_lt_of_eq t.isLt N_0
  have := s.isLt
  exact lt_of_lt_of_eq (by omega) N_0.symm

/-- The sum at the last point of a run: over all the rows. -/
theorem sum_last (c : Dev nD) (t : Fin cfg0.N) (h2 : t.val % 4 = 3) (r : Fin 512) (j : Fin 1024) :
    (outsAt0 m c t.val t.isLt).2 (ix2 r j)
      = sums (m ((c : Thread nD τ).loc main_arg0)) (m ((c : Thread nD τ).loc main_arg1)) (ix2 (col t r) (ocol t j)) := by
  have key := Pipeline.eq_sum_fin_of_reset_step_apply_of_flush (M := EReal) (fun n h i => (outsAt0 m c n h).2 i) 4 (fun _ => 0) (term (m ((c : Thread nD τ).loc main_arg0)) (m ((c : Thread nD τ).loc main_arg1)))
    (fun t h i => by rw [eq_ix2 i]; exact sum_first m c t h (i 0) (i 1))
    (fun t h i => by rw [eq_ix2 i]; exact sum_next m c t h (i 0) (i 1)) t h2 (ix2 r j)
  refine key.trans ?_
  rw [zero_add]
  refine Fin.sum_mul_add_congr fun s k hl => ?_
  have e0 : row ⟨4 * (t.val / 4) + s.val, run_lt t s⟩ k = ⟨s.val * 2048 + k.val, hl⟩ :=
    Fin.ext (by show (4 * (t.val / 4) + s.val) % 4 * 2048 + k.val = _; have := s.isLt; have e : (4 * (t.val / 4) + s.val) % 4 = s.val := by omega
                rw [e])
  have e1 : col ⟨4 * (t.val / 4) + s.val, run_lt t s⟩ r = col t r :=
    Fin.ext (by show (4 * (t.val / 4) + s.val) / 4 % 2 * 512 + r.val = t.val / 4 % 2 * 512 + r.val; have := s.isLt
                have e : (4 * (t.val / 4) + s.val) / 4 = t.val / 4 := by omega
                rw [e])
  have e2 : ccol ⟨4 * (t.val / 4) + s.val, run_lt t s⟩ j = ⟨(ocol t j).val % 3072, Nat.mod_lt _ (by decide)⟩ :=
    Fin.ext (by show (4 * (t.val / 4) + s.val) / 8 * 1024 + j.val = ((t.val / 8 + 3) * 1024 + j.val) % 3072
                have := s.isLt; have := lt_of_lt_of_eq t.isLt N_0
                omega)
  exact congrArg₂ (fun a b : EReal => a * b) (congrArg _ (congrArg₂ ix2 e0 e1)) (congrArg _ (congrArg₂ ix2 e0 e2))

/-- What the result's array holds before the call: what was handed on. -/
theorem entry_prev (c : Dev nD) : V m c (Pipeline.arrRef spec0 2) = m ((c : Thread nD τ).loc main_arg2) := by
  show V m c main_v3 = _
  entry_read
  rfl

/-- The kernel's result array. -/
theorem result (c : Dev nD) : (dats m 0 c).arrAt 2 cfg0.N = grad (m ((c : Thread nD τ).loc main_arg0)) (m ((c : Thread nD τ).loc main_arg1)) (m ((c : Thread nD τ).loc main_arg2)) := by
  rw [← entry_prev m c]
  refine (dats m 0 c).arrAt_eq_of_coversWhere 2 (sums (m ((c : Thread nD τ).loc main_arg0)) (m ((c : Thread nD τ).loc main_arg1))) (fun β => 3 ≤ β (1 : Fin _) ∧ β (1 : Fin _) < 6) (by decide +kernel)
    (fun t hf y => ?_) (fun j => Iff.rfl)
  blk_simp
  rw [after0_2]
  obtain ⟨r, j, rfl⟩ : ∃ (r : Fin 512) (j : Fin 1024), y = ix2 r j := ⟨y 0, y 1, eq_ix2 y⟩
  rw [place2 t r j]
  have h2 := (flush0_2 t).mp hf
  exact (out_last m c t h2 r j).trans (sum_last m c t h2 r j)

/-- The run of the kernel ends with the gradient. -/
theorem run_grad : θ_run defs (onTc (τ := τ) (main (F := Ideal))) ⟨m, fun _ => 0, ρ⟩ fun r => ∀ c : Dev nD,
      r.2.mem ((c : Thread nD τ).loc main_v3) = grad (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (run_blocks m ρ)

/-- The reference's product is the same sum. -/
theorem reference_sums (h : FVec Ideal S8192x1024 .f32) (ct : FVec Ideal S8192x3072 .f32) (a : Fin 1024) (b : Fin 3072) :
    Cert.Group1DwReferenceIdeal.Read.val_main_v4 (F := Ideal) h ct (ix2 a b) = ∑ l : Fin 8192, h (ix2 l a) * ct (ix2 l b) := by
  refine (Cert.Group1DwReferenceIdeal.Read.val_main_v4_apply (F := Ideal) h ct _).trans ?_
  refine (Cert.Group1DwReferenceIdeal.Read.val_main_v3_apply h ct _).trans (Finset.sum_congr rfl fun k _ => ?_)
  refine (mul_comm (G := EReal) _ _).trans ?_
  exact congrArg₂ (fun a b : EReal => a * b) (congrArg h (eq_ix2 _)) (congrArg ct (eq_ix2 _))

theorem grad_in (h : FVec Ideal S8192x1024 .f32) (ct : FVec Ideal S8192x3072 .f32) (prev : FVec Ideal S1024x10240 .f32) (a : Fin 1024) (b : Fin 10240)
    (hb : 3 ≤ b.val / 1024 ∧ b.val / 1024 < 6) : grad h ct prev (ix2 a b) = sums h ct (ix2 a b) := if_pos hb

theorem grad_out (h : FVec Ideal S8192x1024 .f32) (ct : FVec Ideal S8192x3072 .f32) (prev : FVec Ideal S1024x10240 .f32) (a : Fin 1024) (b : Fin 10240)
    (hb : ¬(3 ≤ b.val / 1024 ∧ b.val / 1024 < 6)) : grad h ct prev (ix2 a b) = prev (ix2 a b) := if_neg hb

/-- The reference is the same array. -/
theorem reference (h : FVec Ideal S8192x1024 .f32) (ct : FVec Ideal S8192x3072 .f32) (prev : FVec Ideal S1024x10240 .f32) :
    Cert.Group1DwReferenceIdeal.Read.val_main_v7 (F := Ideal) h ct prev = grad h ct prev := by
  funext i
  refine (Cert.Group1DwReferenceIdeal.Read.val_main_v7_apply (F := Ideal) h ct prev i).trans ?_
  show Cert.Group1DwReferenceIdeal.Read.val_main_v6 (F := Ideal) h ct prev i = _
  obtain ⟨a, b, rfl⟩ : ∃ (a : Fin 1024) (b : Fin 10240), i = ix2 a b := ⟨i 0, i 1, eq_ix2 i⟩
  unfold Cert.Group1DwReferenceIdeal.Read.val_main_v6
  pointwise
  by_cases h1 : b.val < 3072
  · rw [dif_pos h1, grad_out h ct prev a b (by omega)]
    refine (Cert.Group1DwReferenceIdeal.Read.val_main_v0_apply (F := Ideal) prev _).trans (congrArg prev (funext fun x => Fin.ext ?_))
    fin_cases x <;> rfl
  · rw [dif_neg h1]
    by_cases h2 : b.val - 3072 < 3072
    · rw [dif_pos h2, grad_in h ct prev a b (by omega)]
      refine (reference_sums h ct a _).trans ?_
      have e : (⟨b.val - 3072, h2⟩ : Fin 3072) = ⟨b.val % 3072, Nat.mod_lt _ (by decide)⟩ := Fin.ext (by show b.val - 3072 = b.val % 3072; omega)
      rw [e]
      rfl
    · rw [dif_neg h2, grad_out h ct prev a b (by omega)]
      refine (Cert.Group1DwReferenceIdeal.Read.val_main_v5_apply (F := Ideal) prev _).trans (congrArg prev (funext fun x => Fin.ext ?_))
      fin_cases x
      · rfl
      · show 6144 + (b.val - 3072 - 3072) = b.val
        omega

theorem algebraic : Cert.algebraic_Group1DwIdeal_Group1DwReferenceIdeal := by
  intro m g m' g' _ h
  refine ⟨fun c => grad (m ((c : Thread nD τ).loc main_arg0)) (m ((c : Thread nD τ).loc main_arg1)) (m ((c : Thread nD τ).loc main_arg2)), run_grad m g, ?_⟩
  refine (θ_run _ _ _).mono (fun r hr c => ⟨(hr c).1.trans ?_, (hr c).2⟩) (Cert.Group1DwReferenceIdeal.Value.run m' g')
  refine (Cert.Group1DwReferenceIdeal.Read.val_main_v7_eq (F := Ideal) _ _ _).trans ((reference _ _ _).trans ?_)
  rw [(h c).1, (h c).2.1, (h c).2.2]

end Cert.Group1DwIdeal.Value

end
-- ==== Proof.Products.Group2Dw.lean ====
/- The gradient of the weights of the first layer's input product, the columns 6144 to 9215: the array that the kernel ends with, the run, and the
   equation with the reference. -/
module

public import proofs.«01_k».proof.Proof.Gen.Group2DwIdeal.Value
public import proofs.«01_k».proof.Proof.Gen.Group2DwReferenceIdeal.Run
public import proofs.«01_k».proof.Proof.Gen.Group2DwReferenceIdeal.Read
public import proofs.«01_k».proof.Defs
public import Idealize.ShloMosaic.Lib.Pipeline.ValueKit
public import Idealize.ShloMosaic.Lib.Pointwise

@[expose] public section

set_option maxRecDepth 16384

noncomputable section

namespace Cert.Group2DwIdeal.Value

open Cert.Group2DwIdeal Cert.Group2DwIdeal.Gen
open Idealize.ShloMosaic Idealize.ShloMosaic.TcCoe Idealize.SL.Sem
open Idealize.ShloMosaic.Pipeline (Dat)

/-- The gradient, at column `j` of the whole array: a column of the input against the column of the cotangent in its group. -/
def sums (h : FVec Ideal S8192x1024 .f32) (ct : FVec Ideal S8192x3072 .f32) : FVec Ideal S1024x10240 .bf16 :=
  fun i => ∑ l : Fin 8192, h (ix2 l (i 0)) * ct (ix2 l ⟨(i 1).val % 3072, Nat.mod_lt _ (by decide)⟩)

/-- The gradient in its columns, and what was handed on in the others. -/
def grad (h : FVec Ideal S8192x1024 .f32) (ct : FVec Ideal S8192x3072 .f32) (prev : FVec Ideal S1024x10240 .f32) : FVec Ideal S1024x10240 .bf16 :=
  fun i => if 6 ≤ (i 1).val / 1024 ∧ (i 1).val / 1024 < 9 then sums h ct i else prev i

/-- A block of the input against a block of the cotangent, over their rows. -/
theorem part_apply (x : Vec Ideal S2048x512 .bf16) (y : Vec Ideal S2048x1024 .bf16) (r : Fin 512) (j : Fin 1024) :
    k0_pay1 (F := Ideal) x y (ix2 r j) = ∑ k : Fin 2048, x (ix2 k r) * y (ix2 k j) := by
  pointwise [k0_pay1]

/-- The first product of a run is stored as it is. -/
theorem first_apply (x : Vec Ideal S2048x512 .bf16) (y : Vec Ideal S2048x1024 .bf16) (r : Fin 512) (j : Fin 1024) :
    k0_pay2 (F := Ideal) x y (ix2 r j) = ∑ k : Fin 2048, x (ix2 k r) * y (ix2 k j) := by
  pointwise [k0_pay2, k0_pay1]

/-- A later product is added to what the sum holds. -/
theorem next_apply (x : Vec Ideal S2048x512 .bf16) (y : Vec Ideal S2048x1024 .bf16) (acc : Vec Ideal S512x1024 .f32) (r : Fin 512)
    (j : Fin 1024) : k0_pay3 (F := Ideal) x y acc (ix2 r j) = acc (ix2 r j) + ∑ k : Fin 2048, x (ix2 k r) * y (ix2 k j) := by
  pointwise [k0_pay3, k0_pay1]

variable (m : (l : Loc nD τ sig) → Buf (Elt Ideal) l) (ρ : Dev nD → PrngReg)

theorem idx0 : ∀ t : Fin cfg0.N, win0_0.index t 0 = t.val % 4 ∧ win0_0.index t 1 = t.val / 4 % 2 := by decide +kernel
theorem idx1 : ∀ t : Fin cfg0.N, win0_1.index t 0 = t.val % 4 ∧ win0_1.index t 1 = t.val / 8 := by decide +kernel
theorem idx2 : ∀ t : Fin cfg0.N, win0_2.index t 0 = t.val / 4 % 2 ∧ win0_2.index t 1 = t.val / 8 + 6 := by decide +kernel

theorem entry_h (c : Dev nD) : V m c (Pipeline.arrRef spec0 0) = m ((c : Thread nD τ).loc main_arg0) := by
  show V m c main_v0 = _
  entry_read
  rfl
theorem entry_ct (c : Dev nD) : V m c (Pipeline.arrRef spec0 1) = m ((c : Thread nD τ).loc main_arg1) := by
  show V m c main_v1 = _
  entry_read
  rfl

/-- Row `k` of grid point `t`'s blocks of the two inputs. -/
def row (t : Fin cfg0.N) (k : Fin 2048) : Fin 8192 := ⟨t.val % 4 * 2048 + k.val, by omega⟩

/-- Column `r` of grid point `t`'s block of the input, and row of its block of the result. -/
def col (t : Fin cfg0.N) (r : Fin 512) : Fin 1024 := ⟨t.val / 4 % 2 * 512 + r.val, by omega⟩

/-- Column `j` of grid point `t`'s block of the cotangent. -/
def ccol (t : Fin cfg0.N) (j : Fin 1024) : Fin 3072 := ⟨t.val / 8 * 1024 + j.val, by have := lt_of_lt_of_eq t.isLt N_0; omega⟩

/-- Column `j` of grid point `t`'s block of the result. -/
def ocol (t : Fin cfg0.N) (j : Fin 1024) : Fin 10240 := ⟨(t.val / 8 + 6) * 1024 + j.val, by have := lt_of_lt_of_eq t.isLt N_0; omega⟩

theorem place0 (G : FVec Ideal S8192x1024 .bf16) (t : Fin cfg0.N) (k : Fin 2048) (r : Fin 512) :
    ((cfg0.win 0).blk t).view.read (Elt Ideal) G (ix2 k r) = G (ix2 (row t k) (col t r)) := by
  refine congrArg G (funext fun a => Fin.ext ?_)
  refine (win0_0.rect_emb_val t (ix2 k r) a).trans ?_
  fin_cases a
  · exact congrArg (· * 2048 + k.val) (idx0 t).1
  · exact congrArg (· * 512 + r.val) (idx0 t).2

theorem blk_h (c : Dev nD) (t : Fin cfg0.N) (k : Fin 2048) (r : Fin 512) :
    iblk m c 0 t (ix2 k r) = m ((c : Thread nD τ).loc main_arg0) (ix2 (row t k) (col t r)) := by
  unfold iblk
  exact (place0 (V m c (Pipeline.arrRef spec0 0)) t k r).trans (congrFun (entry_h m c) _)

theorem place1 (G : FVec Ideal S8192x3072 .bf16) (t : Fin cfg0.N) (k : Fin 2048) (j : Fin 1024) :
    ((cfg0.win 1).blk t).view.read (Elt Ideal) G (ix2 k j) = G (ix2 (row t k) (ccol t j)) := by
  refine congrArg G (funext fun a => Fin.ext ?_)
  refine (win0_1.rect_emb_val t (ix2 k j) a).trans ?_
  fin_cases a
  · exact congrArg (· * 2048 + k.val) (idx1 t).1
  · exact congrArg (· * 1024 + j.val) (idx1 t).2

theorem blk_ct (c : Dev nD) (t : Fin cfg0.N) (k : Fin 2048) (j : Fin 1024) :
    iblk m c 1 t (ix2 k j) = m ((c : Thread nD τ).loc main_arg1) (ix2 (row t k) (ccol t j)) := by
  unfold iblk
  exact (place1 (V m c (Pipeline.arrRef spec0 1)) t k j).trans (congrFun (entry_ct m c) _)

/-- A block of the result is 512 of its rows and 1024 of its columns. -/
theorem place2 (t : Fin cfg0.N) (r : Fin 512) (j : Fin 1024) :
    (((View.whole main_v3).slice (win0_2.rect t)).emb (ix2 r j) : S1024x10240.Idx) = ix2 (col t r) (ocol t j) := by
  refine funext fun a => Fin.ext ?_
  refine (win0_2.rect_emb_val t (ix2 r j) a).trans ?_
  fin_cases a
  · exact congrArg (· * 512 + r.val) (idx2 t).1
  · exact congrArg (· * 1024 + j.val) (idx2 t).2

/-- What grid point `t` adds to the sum. -/
def term (h : FVec Ideal S8192x1024 .f32) (ct : FVec Ideal S8192x3072 .f32) (t : Fin cfg0.N) (i : S512x1024.Idx) : EReal :=
  ∑ k : Fin 2048, h (ix2 (row t k) (col t (i 0))) * ct (ix2 (row t k) (ccol t (i 1)))

theorem first_eq (c : Dev nD) (t : Fin cfg0.N) (r : Fin 512) (j : Fin 1024) :
    k0_pay2 (F := Ideal) (iblk m c 0 t) (iblk m c 1 t) (ix2 r j) = term (m ((c : Thread nD τ).loc main_arg0)) (m ((c : Thread nD τ).loc main_arg1)) t (ix2 r j) :=
  (first_apply _ _ r j).trans (Finset.sum_congr rfl fun k _ => congrArg₂ (fun a b : EReal => a * b) (blk_h m c t k r) (blk_ct m c t k j))

theorem next_eq (c : Dev nD) (t : Fin cfg0.N) (acc : Vec Ideal S512x1024 .f32) (r : Fin 512) (j : Fin 1024) :
    k0_pay3 (F := Ideal) (iblk m c 0 t) (iblk m c 1 t) acc (ix2 r j) = acc (ix2 r j) + term (m ((c : Thread nD τ).loc main_arg0)) (m ((c : Thread nD τ).loc main_arg1)) t (ix2 r j) :=
  (next_apply _ _ acc r j).trans (congrArg (fun a : EReal => acc (ix2 r j) + a)
    (Finset.sum_congr rfl fun k _ => congrArg₂ (fun a b : EReal => a * b) (blk_h m c t k r) (blk_ct m c t k j)))

/-- The sum starts at the first point of a run of four … -/
theorem sum_first (c : Dev nD) (t : Fin cfg0.N) (h : t.val % 4 = 0) (r : Fin 512) (j : Fin 1024) :
    (outsAt0 m c t.val t.isLt).2 (ix2 r j) = 0 + term (m ((c : Thread nD τ).loc main_arg0)) (m ((c : Thread nD τ).loc main_arg1)) t (ix2 r j) := by
  rw [outsAt0_A m c t h (by omega) (by omega)]
  frame_out
  rw [zero_add]
  exact first_eq m c t r j

/-- … and grows by one product at each later one. -/
theorem sum_next (c : Dev nD) (t : Fin cfg0.N) (h : ¬t.val % 4 = 0) (r : Fin 512) (j : Fin 1024) :
    (outsAt0 m c t.val t.isLt).2 (ix2 r j)
      = (outsAt0 m c (t.val - 1) (Nat.lt_of_le_of_lt (Nat.sub_le _ _) t.isLt)).2 (ix2 r j) + term (m ((c : Thread nD τ).loc main_arg0)) (m ((c : Thread nD τ).loc main_arg1)) t (ix2 r j) := by
  by_cases h2 : t.val % 4 = 3
  · rw [outsAt0_C m c t h (by omega) h2]
    frame_out
    refine (congrArg (fun a => k0_pay3 (F := Ideal) (iblk m c 0 t) (iblk m c 1 t) a (ix2 r j)) (Memref.IsWhole.read_unread _ _)).trans ?_
    exact next_eq m c t _ r j
  · rw [outsAt0_B m c t h (by omega) h2]
    frame_out
    refine (congrArg (fun a => k0_pay3 (F := Ideal) (iblk m c 0 t) (iblk m c 1 t) a (ix2 r j)) (Memref.IsWhole.read_unread _ _)).trans ?_
    exact next_eq m c t _ r j

/-- The last point of a run writes the sum out. -/
theorem out_last (c : Dev nD) (t : Fin cfg0.N) (h2 : t.val % 4 = 3) (r : Fin 512) (j : Fin 1024) :
    (outsAt0 m c t.val t.isLt).1 (ix2 r j) = (outsAt0 m c t.val t.isLt).2 (ix2 r j) := by
  rw [outsAt0_C m c t (by omega) (by omega) h2]
  frame_out
  rfl

theorem run_lt (t : Fin cfg0.N) (s : Fin 4) : 4 * (t.val / 4) + s.val < cfg0.N := by
  have := lt_of_lt_of_eq t.isLt N_0
  have := s.isLt
  exact lt_of_lt_of_eq (by omega) N_0.symm

/-- The sum at the last point of a run: over all the rows. -/
theorem sum_last (c : Dev nD) (t : Fin cfg0.N) (h2 : t.val % 4 = 3) (r : Fin 512) (j : Fin 1024) :
    (outsAt0 m c t.val t.isLt).2 (ix2 r j)
      = sums (m ((c : Thread nD τ).loc main_arg0)) (m ((c : Thread nD τ).loc main_arg1)) (ix2 (col t r) (ocol t j)) := by
  have key := Pipeline.eq_sum_fin_of_reset_step_apply_of_flush (M := EReal) (fun n h i => (outsAt0 m c n h).2 i) 4 (fun _ => 0) (term (m ((c : Thread nD τ).loc main_arg0)) (m ((c : Thread nD τ).loc main_arg1)))
    (fun t h i => by rw [eq_ix2 i]; exact sum_first m c t h (i 0) (i 1))
    (fun t h i => by rw [eq_ix2 i]; exact sum_next m c t h (i 0) (i 1)) t h2 (ix2 r j)
  refine key.trans ?_
  rw [zero_add]
  refine Fin.sum_mul_add_congr fun s k hl => ?_
  have e0 : row ⟨4 * (t.val / 4) + s.val, run_lt t s⟩ k = ⟨s.val * 2048 + k.val, hl⟩ :=
    Fin.ext (by show (4 * (t.val / 4) + s.val) % 4 * 2048 + k.val = _; have := s.isLt; have e : (4 * (t.val / 4) + s.val) % 4 = s.val := by omega
                rw [e])
  have e1 : col ⟨4 * (t.val / 4) + s.val, run_lt t s⟩ r = col t r :=
    Fin.ext (by show (4 * (t.val / 4) + s.val) / 4 % 2 * 512 + r.val = t.val / 4 % 2 * 512 + r.val; have := s.isLt
                have e : (4 * (t.val / 4) + s.val) / 4 = t.val / 4 := by omega
                rw [e])
  have e2 : ccol ⟨4 * (t.val / 4) + s.val, run_lt t s⟩ j = ⟨(ocol t j).val % 3072, Nat.mod_lt _ (by decide)⟩ :=
    Fin.ext (by show (4 * (t.val / 4) + s.val) / 8 * 1024 + j.val = ((t.val / 8 + 6) * 1024 + j.val) % 3072
                have := s.isLt; have := lt_of_lt_of_eq t.isLt N_0
                omega)
  exact congrArg₂ (fun a b : EReal => a * b) (congrArg _ (congrArg₂ ix2 e0 e1)) (congrArg _ (congrArg₂ ix2 e0 e2))

/-- What the result's array holds before the call: what was handed on. -/
theorem entry_prev (c : Dev nD) : V m c (Pipeline.arrRef spec0 2) = m ((c : Thread nD τ).loc main_arg2) := by
  show V m c main_v3 = _
  entry_read
  rfl

/-- The kernel's result array. -/
theorem result (c : Dev nD) : (dats m 0 c).arrAt 2 cfg0.N = grad (m ((c : Thread nD τ).loc main_arg0)) (m ((c : Thread nD τ).loc main_arg1)) (m ((c : Thread nD τ).loc main_arg2)) := by
  rw [← entry_prev m c]
  refine (dats m 0 c).arrAt_eq_of_coversWhere 2 (sums (m ((c : Thread nD τ).loc main_arg0)) (m ((c : Thread nD τ).loc main_arg1))) (fun β => 6 ≤ β (1 : Fin _) ∧ β (1 : Fin _) < 9) (by decide +kernel)
    (fun t hf y => ?_) (fun j => Iff.rfl)
  blk_simp
  rw [after0_2]
  obtain ⟨r, j, rfl⟩ : ∃ (r : Fin 512) (j : Fin 1024), y = ix2 r j := ⟨y 0, y 1, eq_ix2 y⟩
  rw [place2 t r j]
  have h2 := (flush0_2 t).mp hf
  exact (out_last m c t h2 r j).trans (sum_last m c t h2 r j)

/-- The run of the kernel ends with the gradient. -/
theorem run_grad : θ_run defs (onTc (τ := τ) (main (F := Ideal))) ⟨m, fun _ => 0, ρ⟩ fun r => ∀ c : Dev nD,
      r.2.mem ((c : Thread nD τ).loc main_v3) = grad (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (run_blocks m ρ)

/-- The reference's product is the same sum. -/
theorem reference_sums (h : FVec Ideal S8192x1024 .f32) (ct : FVec Ideal S8192x3072 .f32) (a : Fin 1024) (b : Fin 3072) :
    Cert.Group2DwReferenceIdeal.Read.val_main_v4 (F := Ideal) h ct (ix2 a b) = ∑ l : Fin 8192, h (ix2 l a) * ct (ix2 l b) := by
  refine (Cert.Group2DwReferenceIdeal.Read.val_main_v4_apply (F := Ideal) h ct _).trans ?_
  refine (Cert.Group2DwReferenceIdeal.Read.val_main_v3_apply h ct _).trans (Finset.sum_congr rfl fun k _ => ?_)
  refine (mul_comm (G := EReal) _ _).trans ?_
  exact congrArg₂ (fun a b : EReal => a * b) (congrArg h (eq_ix2 _)) (congrArg ct (eq_ix2 _))

theorem grad_in (h : FVec Ideal S8192x1024 .f32) (ct : FVec Ideal S8192x3072 .f32) (prev : FVec Ideal S1024x10240 .f32) (a : Fin 1024) (b : Fin 10240)
    (hb : 6 ≤ b.val / 1024 ∧ b.val / 1024 < 9) : grad h ct prev (ix2 a b) = sums h ct (ix2 a b) := if_pos hb

theorem grad_out (h : FVec Ideal S8192x1024 .f32) (ct : FVec Ideal S8192x3072 .f32) (prev : FVec Ideal S1024x10240 .f32) (a : Fin 1024) (b : Fin 10240)
    (hb : ¬(6 ≤ b.val / 1024 ∧ b.val / 1024 < 9)) : grad h ct prev (ix2 a b) = prev (ix2 a b) := if_neg hb

/-- The reference is the same array. -/
theorem reference (h : FVec Ideal S8192x1024 .f32) (ct : FVec Ideal S8192x3072 .f32) (prev : FVec Ideal S1024x10240 .f32) :
    Cert.Group2DwReferenceIdeal.Read.val_main_v7 (F := Ideal) h ct prev = grad h ct prev := by
  funext i
  refine (Cert.Group2DwReferenceIdeal.Read.val_main_v7_apply (F := Ideal) h ct prev i).trans ?_
  show Cert.Group2DwReferenceIdeal.Read.val_main_v6 (F := Ideal) h ct prev i = _
  obtain ⟨a, b, rfl⟩ : ∃ (a : Fin 1024) (b : Fin 10240), i = ix2 a b := ⟨i 0, i 1, eq_ix2 i⟩
  unfold Cert.Group2DwReferenceIdeal.Read.val_main_v6
  pointwise
  by_cases h1 : b.val < 6144
  · rw [dif_pos h1, grad_out h ct prev a b (by omega)]
    refine (Cert.Group2DwReferenceIdeal.Read.val_main_v0_apply (F := Ideal) prev _).trans (congrArg prev (funext fun x => Fin.ext ?_))
    fin_cases x <;> rfl
  · rw [dif_neg h1]
    by_cases h2 : b.val - 6144 < 3072
    · rw [dif_pos h2, grad_in h ct prev a b (by omega)]
      refine (reference_sums h ct a _).trans ?_
      have e : (⟨b.val - 6144, h2⟩ : Fin 3072) = ⟨b.val % 3072, Nat.mod_lt _ (by decide)⟩ := Fin.ext (by show b.val - 6144 = b.val % 3072; omega)
      rw [e]
      rfl
    · rw [dif_neg h2, grad_out h ct prev a b (by omega)]
      refine (Cert.Group2DwReferenceIdeal.Read.val_main_v5_apply (F := Ideal) prev _).trans (congrArg prev (funext fun x => Fin.ext ?_))
      fin_cases x
      · rfl
      · show 9216 + (b.val - 6144 - 3072) = b.val
        omega

theorem algebraic : Cert.algebraic_Group2DwIdeal_Group2DwReferenceIdeal := by
  intro m g m' g' _ h
  refine ⟨fun c => grad (m ((c : Thread nD τ).loc main_arg0)) (m ((c : Thread nD τ).loc main_arg1)) (m ((c : Thread nD τ).loc main_arg2)), run_grad m g, ?_⟩
  refine (θ_run _ _ _).mono (fun r hr c => ⟨(hr c).1.trans ?_, (hr c).2⟩) (Cert.Group2DwReferenceIdeal.Value.run m' g')
  refine (Cert.Group2DwReferenceIdeal.Read.val_main_v7_eq (F := Ideal) _ _ _).trans ((reference _ _ _).trans ?_)
  rw [(h c).1, (h c).2.1, (h c).2.2]

end Cert.Group2DwIdeal.Value

end
-- ==== Proof.Products.GateDw.lean ====
/- The gradient of the weights of the first layer's input product, the columns 9216 to 10239: the array that the kernel ends with, the run, and the
   equation with the reference. -/
module

public import proofs.«01_k».proof.Proof.Gen.GateDwIdeal.Value
public import proofs.«01_k».proof.Proof.Gen.GateDwReferenceIdeal.Run
public import proofs.«01_k».proof.Proof.Gen.GateDwReferenceIdeal.Read
public import proofs.«01_k».proof.Defs
public import Idealize.ShloMosaic.Lib.Pipeline.ValueKit
public import Idealize.ShloMosaic.Lib.Pointwise

@[expose] public section

set_option maxRecDepth 16384

noncomputable section

namespace Cert.GateDwIdeal.Value

open Cert.GateDwIdeal Cert.GateDwIdeal.Gen
open Idealize.ShloMosaic Idealize.ShloMosaic.TcCoe Idealize.SL.Sem
open Idealize.ShloMosaic.Pipeline (Dat)

/-- The gradient, at column `j` of the whole array: a column of the input against the column of the cotangent in its group. -/
def sums (h : FVec Ideal S8192x1024 .f32) (ct : FVec Ideal S8192x1024 .f32) : FVec Ideal S1024x10240 .bf16 :=
  fun i => ∑ l : Fin 8192, h (ix2 l (i 0)) * ct (ix2 l ⟨(i 1).val % 1024, Nat.mod_lt _ (by decide)⟩)

/-- The gradient in its columns, and what was handed on in the others. -/
def grad (h : FVec Ideal S8192x1024 .f32) (ct : FVec Ideal S8192x1024 .f32) (prev : FVec Ideal S1024x10240 .f32) : FVec Ideal S1024x10240 .bf16 :=
  fun i => if 9 ≤ (i 1).val / 1024 then sums h ct i else prev i

/-- A block of the input against a block of the cotangent, over their rows. -/
theorem part_apply (x : Vec Ideal S2048x512 .bf16) (y : Vec Ideal S2048x1024 .bf16) (r : Fin 512) (j : Fin 1024) :
    k0_pay1 (F := Ideal) x y (ix2 r j) = ∑ k : Fin 2048, x (ix2 k r) * y (ix2 k j) := by
  pointwise [k0_pay1]

/-- The first product of a run is stored as it is. -/
theorem first_apply (x : Vec Ideal S2048x512 .bf16) (y : Vec Ideal S2048x1024 .bf16) (r : Fin 512) (j : Fin 1024) :
    k0_pay2 (F := Ideal) x y (ix2 r j) = ∑ k : Fin 2048, x (ix2 k r) * y (ix2 k j) := by
  pointwise [k0_pay2, k0_pay1]

/-- A later product is added to what the sum holds. -/
theorem next_apply (x : Vec Ideal S2048x512 .bf16) (y : Vec Ideal S2048x1024 .bf16) (acc : Vec Ideal S512x1024 .f32) (r : Fin 512)
    (j : Fin 1024) : k0_pay3 (F := Ideal) x y acc (ix2 r j) = acc (ix2 r j) + ∑ k : Fin 2048, x (ix2 k r) * y (ix2 k j) := by
  pointwise [k0_pay3, k0_pay1]

variable (m : (l : Loc nD τ sig) → Buf (Elt Ideal) l) (ρ : Dev nD → PrngReg)

theorem idx0 : ∀ t : Fin cfg0.N, win0_0.index t 0 = t.val % 4 ∧ win0_0.index t 1 = t.val / 4 % 2 := by decide +kernel
theorem idx1 : ∀ t : Fin cfg0.N, win0_1.index t 0 = t.val % 4 ∧ win0_1.index t 1 = t.val / 8 := by decide +kernel
theorem idx2 : ∀ t : Fin cfg0.N, win0_2.index t 0 = t.val / 4 % 2 ∧ win0_2.index t 1 = t.val / 8 + 9 := by decide +kernel

theorem entry_h (c : Dev nD) : V m c (Pipeline.arrRef spec0 0) = m ((c : Thread nD τ).loc main_arg0) := by
  show V m c main_v0 = _
  entry_read
  rfl
theorem entry_ct (c : Dev nD) : V m c (Pipeline.arrRef spec0 1) = m ((c : Thread nD τ).loc main_arg1) := by
  show V m c main_v1 = _
  entry_read
  rfl

/-- Row `k` of grid point `t`'s blocks of the two inputs. -/
def row (t : Fin cfg0.N) (k : Fin 2048) : Fin 8192 := ⟨t.val % 4 * 2048 + k.val, by omega⟩

/-- Column `r` of grid point `t`'s block of the input, and row of its block of the result. -/
def col (t : Fin cfg0.N) (r : Fin 512) : Fin 1024 := ⟨t.val / 4 % 2 * 512 + r.val, by omega⟩

/-- Column `j` of grid point `t`'s block of the cotangent. -/
def ccol (t : Fin cfg0.N) (j : Fin 1024) : Fin 1024 := ⟨t.val / 8 * 1024 + j.val, by have := lt_of_lt_of_eq t.isLt N_0; omega⟩

/-- Column `j` of grid point `t`'s block of the result. -/
def ocol (t : Fin cfg0.N) (j : Fin 1024) : Fin 10240 := ⟨(t.val / 8 + 9) * 1024 + j.val, by have := lt_of_lt_of_eq t.isLt N_0; omega⟩

theorem place0 (G : FVec Ideal S8192x1024 .bf16) (t : Fin cfg0.N) (k : Fin 2048) (r : Fin 512) :
    ((cfg0.win 0).blk t).view.read (Elt Ideal) G (ix2 k r) = G (ix2 (row t k) (col t r)) := by
  refine congrArg G (funext fun a => Fin.ext ?_)
  refine (win0_0.rect_emb_val t (ix2 k r) a).trans ?_
  fin_cases a
  · exact congrArg (· * 2048 + k.val) (idx0 t).1
  · exact congrArg (· * 512 + r.val) (idx0 t).2

theorem blk_h (c : Dev nD) (t : Fin cfg0.N) (k : Fin 2048) (r : Fin 512) :
    iblk m c 0 t (ix2 k r) = m ((c : Thread nD τ).loc main_arg0) (ix2 (row t k) (col t r)) := by
  unfold iblk
  exact (place0 (V m c (Pipeline.arrRef spec0 0)) t k r).trans (congrFun (entry_h m c) _)

theorem place1 (G : FVec Ideal S8192x1024 .bf16) (t : Fin cfg0.N) (k : Fin 2048) (j : Fin 1024) :
    ((cfg0.win 1).blk t).view.read (Elt Ideal) G (ix2 k j) = G (ix2 (row t k) (ccol t j)) := by
  refine congrArg G (funext fun a => Fin.ext ?_)
  refine (win0_1.rect_emb_val t (ix2 k j) a).trans ?_
  fin_cases a
  · exact congrArg (· * 2048 + k.val) (idx1 t).1
  · exact congrArg (· * 1024 + j.val) (idx1 t).2

theorem blk_ct (c : Dev nD) (t : Fin cfg0.N) (k : Fin 2048) (j : Fin 1024) :
    iblk m c 1 t (ix2 k j) = m ((c : Thread nD τ).loc main_arg1) (ix2 (row t k) (ccol t j)) := by
  unfold iblk
  exact (place1 (V m c (Pipeline.arrRef spec0 1)) t k j).trans (congrFun (entry_ct m c) _)

/-- A block of the result is 512 of its rows and 1024 of its columns. -/
theorem place2 (t : Fin cfg0.N) (r : Fin 512) (j : Fin 1024) :
    (((View.whole main_v3).slice (win0_2.rect t)).emb (ix2 r j) : S1024x10240.Idx) = ix2 (col t r) (ocol t j) := by
  refine funext fun a => Fin.ext ?_
  refine (win0_2.rect_emb_val t (ix2 r j) a).trans ?_
  fin_cases a
  · exact congrArg (· * 512 + r.val) (idx2 t).1
  · exact congrArg (· * 1024 + j.val) (idx2 t).2

/-- What grid point `t` adds to the sum. -/
def term (h : FVec Ideal S8192x1024 .f32) (ct : FVec Ideal S8192x1024 .f32) (t : Fin cfg0.N) (i : S512x1024.Idx) : EReal :=
  ∑ k : Fin 2048, h (ix2 (row t k) (col t (i 0))) * ct (ix2 (row t k) (ccol t (i 1)))

theorem first_eq (c : Dev nD) (t : Fin cfg0.N) (r : Fin 512) (j : Fin 1024) :
    k0_pay2 (F := Ideal) (iblk m c 0 t) (iblk m c 1 t) (ix2 r j) = term (m ((c : Thread nD τ).loc main_arg0)) (m ((c : Thread nD τ).loc main_arg1)) t (ix2 r j) :=
  (first_apply _ _ r j).trans (Finset.sum_congr rfl fun k _ => congrArg₂ (fun a b : EReal => a * b) (blk_h m c t k r) (blk_ct m c t k j))

theorem next_eq (c : Dev nD) (t : Fin cfg0.N) (acc : Vec Ideal S512x1024 .f32) (r : Fin 512) (j : Fin 1024) :
    k0_pay3 (F := Ideal) (iblk m c 0 t) (iblk m c 1 t) acc (ix2 r j) = acc (ix2 r j) + term (m ((c : Thread nD τ).loc main_arg0)) (m ((c : Thread nD τ).loc main_arg1)) t (ix2 r j) :=
  (next_apply _ _ acc r j).trans (congrArg (fun a : EReal => acc (ix2 r j) + a)
    (Finset.sum_congr rfl fun k _ => congrArg₂ (fun a b : EReal => a * b) (blk_h m c t k r) (blk_ct m c t k j)))

/-- The sum starts at the first point of a run of four … -/
theorem sum_first (c : Dev nD) (t : Fin cfg0.N) (h : t.val % 4 = 0) (r : Fin 512) (j : Fin 1024) :
    (outsAt0 m c t.val t.isLt).2 (ix2 r j) = 0 + term (m ((c : Thread nD τ).loc main_arg0)) (m ((c : Thread nD τ).loc main_arg1)) t (ix2 r j) := by
  rw [outsAt0_A m c t h (by omega) (by omega)]
  frame_out
  rw [zero_add]
  exact first_eq m c t r j

/-- … and grows by one product at each later one. -/
theorem sum_next (c : Dev nD) (t : Fin cfg0.N) (h : ¬t.val % 4 = 0) (r : Fin 512) (j : Fin 1024) :
    (outsAt0 m c t.val t.isLt).2 (ix2 r j)
      = (outsAt0 m c (t.val - 1) (Nat.lt_of_le_of_lt (Nat.sub_le _ _) t.isLt)).2 (ix2 r j) + term (m ((c : Thread nD τ).loc main_arg0)) (m ((c : Thread nD τ).loc main_arg1)) t (ix2 r j) := by
  by_cases h2 : t.val % 4 = 3
  · rw [outsAt0_C m c t h (by omega) h2]
    frame_out
    refine (congrArg (fun a => k0_pay3 (F := Ideal) (iblk m c 0 t) (iblk m c 1 t) a (ix2 r j)) (Memref.IsWhole.read_unread _ _)).trans ?_
    exact next_eq m c t _ r j
  · rw [outsAt0_B m c t h (by omega) h2]
    frame_out
    refine (congrArg (fun a => k0_pay3 (F := Ideal) (iblk m c 0 t) (iblk m c 1 t) a (ix2 r j)) (Memref.IsWhole.read_unread _ _)).trans ?_
    exact next_eq m c t _ r j

/-- The last point of a run writes the sum out. -/
theorem out_last (c : Dev nD) (t : Fin cfg0.N) (h2 : t.val % 4 = 3) (r : Fin 512) (j : Fin 1024) :
    (outsAt0 m c t.val t.isLt).1 (ix2 r j) = (outsAt0 m c t.val t.isLt).2 (ix2 r j) := by
  rw [outsAt0_C m c t (by omega) (by omega) h2]
  frame_out
  rfl

theorem run_lt (t : Fin cfg0.N) (s : Fin 4) : 4 * (t.val / 4) + s.val < cfg0.N := by
  have := lt_of_lt_of_eq t.isLt N_0
  have := s.isLt
  exact lt_of_lt_of_eq (by omega) N_0.symm

/-- The sum at the last point of a run: over all the rows. -/
theorem sum_last (c : Dev nD) (t : Fin cfg0.N) (h2 : t.val % 4 = 3) (r : Fin 512) (j : Fin 1024) :
    (outsAt0 m c t.val t.isLt).2 (ix2 r j)
      = sums (m ((c : Thread nD τ).loc main_arg0)) (m ((c : Thread nD τ).loc main_arg1)) (ix2 (col t r) (ocol t j)) := by
  have key := Pipeline.eq_sum_fin_of_reset_step_apply_of_flush (M := EReal) (fun n h i => (outsAt0 m c n h).2 i) 4 (fun _ => 0) (term (m ((c : Thread nD τ).loc main_arg0)) (m ((c : Thread nD τ).loc main_arg1)))
    (fun t h i => by rw [eq_ix2 i]; exact sum_first m c t h (i 0) (i 1))
    (fun t h i => by rw [eq_ix2 i]; exact sum_next m c t h (i 0) (i 1)) t h2 (ix2 r j)
  refine key.trans ?_
  rw [zero_add]
  refine Fin.sum_mul_add_congr fun s k hl => ?_
  have e0 : row ⟨4 * (t.val / 4) + s.val, run_lt t s⟩ k = ⟨s.val * 2048 + k.val, hl⟩ :=
    Fin.ext (by show (4 * (t.val / 4) + s.val) % 4 * 2048 + k.val = _; have := s.isLt; have e : (4 * (t.val / 4) + s.val) % 4 = s.val := by omega
                rw [e])
  have e1 : col ⟨4 * (t.val / 4) + s.val, run_lt t s⟩ r = col t r :=
    Fin.ext (by show (4 * (t.val / 4) + s.val) / 4 % 2 * 512 + r.val = t.val / 4 % 2 * 512 + r.val; have := s.isLt
                have e : (4 * (t.val / 4) + s.val) / 4 = t.val / 4 := by omega
                rw [e])
  have e2 : ccol ⟨4 * (t.val / 4) + s.val, run_lt t s⟩ j = ⟨(ocol t j).val % 1024, Nat.mod_lt _ (by decide)⟩ :=
    Fin.ext (by show (4 * (t.val / 4) + s.val) / 8 * 1024 + j.val = ((t.val / 8 + 9) * 1024 + j.val) % 1024
                have := s.isLt; have := lt_of_lt_of_eq t.isLt N_0
                omega)
  exact congrArg₂ (fun a b : EReal => a * b) (congrArg _ (congrArg₂ ix2 e0 e1)) (congrArg _ (congrArg₂ ix2 e0 e2))

/-- What the result's array holds before the call: what was handed on. -/
theorem entry_prev (c : Dev nD) : V m c (Pipeline.arrRef spec0 2) = m ((c : Thread nD τ).loc main_arg2) := by
  show V m c main_v3 = _
  entry_read
  rfl

/-- The kernel's result array. -/
theorem result (c : Dev nD) : (dats m 0 c).arrAt 2 cfg0.N = grad (m ((c : Thread nD τ).loc main_arg0)) (m ((c : Thread nD τ).loc main_arg1)) (m ((c : Thread nD τ).loc main_arg2)) := by
  rw [← entry_prev m c]
  refine (dats m 0 c).arrAt_eq_of_coversWhere 2 (sums (m ((c : Thread nD τ).loc main_arg0)) (m ((c : Thread nD τ).loc main_arg1))) (fun β => 9 ≤ β (1 : Fin _)) (by decide +kernel)
    (fun t hf y => ?_) (fun j => Iff.rfl)
  blk_simp
  rw [after0_2]
  obtain ⟨r, j, rfl⟩ : ∃ (r : Fin 512) (j : Fin 1024), y = ix2 r j := ⟨y 0, y 1, eq_ix2 y⟩
  rw [place2 t r j]
  have h2 := (flush0_2 t).mp hf
  exact (out_last m c t h2 r j).trans (sum_last m c t h2 r j)

/-- The run of the kernel ends with the gradient. -/
theorem run_grad : θ_run defs (onTc (τ := τ) (main (F := Ideal))) ⟨m, fun _ => 0, ρ⟩ fun r => ∀ c : Dev nD,
      r.2.mem ((c : Thread nD τ).loc main_v3) = grad (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (run_blocks m ρ)

/-- The reference's product is the same sum. -/
theorem reference_sums (h : FVec Ideal S8192x1024 .f32) (ct : FVec Ideal S8192x1024 .f32) (a : Fin 1024) (b : Fin 1024) :
    Cert.GateDwReferenceIdeal.Read.val_main_v4 (F := Ideal) h ct (ix2 a b) = ∑ l : Fin 8192, h (ix2 l a) * ct (ix2 l b) := by
  refine (Cert.GateDwReferenceIdeal.Read.val_main_v4_apply (F := Ideal) h ct _).trans ?_
  refine (Cert.GateDwReferenceIdeal.Read.val_main_v3_apply h ct _).trans (Finset.sum_congr rfl fun k _ => ?_)
  refine (mul_comm (G := EReal) _ _).trans ?_
  exact congrArg₂ (fun a b : EReal => a * b) (congrArg h (eq_ix2 _)) (congrArg ct (eq_ix2 _))

theorem grad_in (h : FVec Ideal S8192x1024 .f32) (ct : FVec Ideal S8192x1024 .f32) (prev : FVec Ideal S1024x10240 .f32) (a : Fin 1024) (b : Fin 10240)
    (hb : 9 ≤ b.val / 1024) : grad h ct prev (ix2 a b) = sums h ct (ix2 a b) := if_pos hb

theorem grad_out (h : FVec Ideal S8192x1024 .f32) (ct : FVec Ideal S8192x1024 .f32) (prev : FVec Ideal S1024x10240 .f32) (a : Fin 1024) (b : Fin 10240)
    (hb : ¬(9 ≤ b.val / 1024)) : grad h ct prev (ix2 a b) = prev (ix2 a b) := if_neg hb

/-- The reference is the same array. -/
theorem reference (h : FVec Ideal S8192x1024 .f32) (ct : FVec Ideal S8192x1024 .f32) (prev : FVec Ideal S1024x10240 .f32) :
    Cert.GateDwReferenceIdeal.Read.val_main_v6 (F := Ideal) h ct prev = grad h ct prev := by
  funext i
  refine (Cert.GateDwReferenceIdeal.Read.val_main_v6_apply (F := Ideal) h ct prev i).trans ?_
  show Cert.GateDwReferenceIdeal.Read.val_main_v5 (F := Ideal) h ct prev i = _
  obtain ⟨a, b, rfl⟩ : ∃ (a : Fin 1024) (b : Fin 10240), i = ix2 a b := ⟨i 0, i 1, eq_ix2 i⟩
  unfold Cert.GateDwReferenceIdeal.Read.val_main_v5
  pointwise
  by_cases h1 : b.val < 9216
  · rw [dif_pos h1, grad_out h ct prev a b (by omega)]
    refine (Cert.GateDwReferenceIdeal.Read.val_main_v0_apply (F := Ideal) prev _).trans (congrArg prev (funext fun x => Fin.ext ?_))
    fin_cases x <;> rfl
  · rw [dif_neg h1, grad_in h ct prev a b (by omega)]
    refine (reference_sums h ct a _).trans ?_
    have e : (⟨b.val - 9216, by omega⟩ : Fin 1024) = ⟨b.val % 1024, Nat.mod_lt _ (by decide)⟩ := Fin.ext (by show b.val - 9216 = b.val % 1024; omega)
    rw [e]
    rfl

theorem algebraic : Cert.algebraic_GateDwIdeal_GateDwReferenceIdeal := by
  intro m g m' g' _ h
  refine ⟨fun c => grad (m ((c : Thread nD τ).loc main_arg0)) (m ((c : Thread nD τ).loc main_arg1)) (m ((c : Thread nD τ).loc main_arg2)), run_grad m g, ?_⟩
  refine (θ_run _ _ _).mono (fun r hr c => ⟨(hr c).1.trans ?_, (hr c).2⟩) (Cert.GateDwReferenceIdeal.Value.run m' g')
  refine (Cert.GateDwReferenceIdeal.Read.val_main_v6_eq (F := Ideal) _ _ _).trans ((reference _ _ _).trans ?_)
  rw [(h c).1, (h c).2.1, (h c).2.2]

end Cert.GateDwIdeal.Value

end
-- ==== Proof.Products.Gate.lean ====
/- The product of the first layer's normed input with its input weights' columns of the gate: the array that the kernel ends with, the run, and the
   equation with the reference. -/
module

public import proofs.«01_k».proof.Proof.Gen.GateIdeal.Value
public import proofs.«01_k».proof.Proof.Gen.GateReferenceIdeal.Run
public import proofs.«01_k».proof.Proof.Gen.GateReferenceIdeal.Read
public import proofs.«01_k».proof.Defs
public import Idealize.ShloMosaic.Lib.Pipeline.ValueKit
public import Idealize.ShloMosaic.Lib.Pointwise

@[expose] public section

set_option maxRecDepth 16384

noncomputable section

namespace Cert.GateIdeal.Value

open Cert.GateIdeal Cert.GateIdeal.Gen
open Idealize.ShloMosaic Idealize.ShloMosaic.TcCoe Idealize.SL.Sem
open Idealize.ShloMosaic.Pipeline (Dat)

/-- The column of the weights that column `j` of the result takes. -/
def col (j : Fin 1024) : Fin 10240 := ⟨9216 + j.val, by omega⟩

/-- The product: a row of the input against a column of the weights. -/
def prod (h : FVec Ideal S8192x1024 .f32) (w : FVec Ideal S1024x10240 .f32) : FVec Ideal S8192x1024 .f32 :=
  fun i => ∑ k : Fin 1024, h (ix2 (i 0) k) * w (ix2 k (col (i 1)))

/-- A block of the input against a block of the weights. -/
theorem pay_apply (x : Vec Ideal S512x1024 .bf16) (y : Vec Ideal S1024x1024 .bf16) (r : Fin 512) (j : Fin 1024) :
    k0_pay1 (F := Ideal) x y (ix2 r j) = ∑ k : Fin 1024, x (ix2 r k) * y (ix2 k j) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 9 := by decide +kernel
theorem idx2 : ∀ t : Fin cfg0.N, win0_2.index t 0 = t.val ∧ win0_2.index t 1 = 0 := by decide +kernel

theorem entry_h (c : Dev nD) : V m c (Pipeline.arrRef spec0 0) = m ((c : Thread nD τ).loc main_arg0) := by
  show V m c main_v0 = _
  entry_read
  rfl
theorem entry_w (c : Dev nD) : V m c (Pipeline.arrRef spec0 1) = m ((c : Thread nD τ).loc main_arg1) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the input is 512 of its rows. -/
theorem place0 (G : FVec Ideal S8192x1024 .bf16) (t : Fin cfg0.N) (r : Fin 512) (k : Fin 1024) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 1024 + k.val) (idx0 t).2).trans ?_
    show 0 * 1024 + k.val = k.val
    omega

theorem blk_h (c : Dev nD) (t : Fin cfg0.N) (r : Fin 512) (k : Fin 1024) :
    iblk m c 0 t (ix2 r k) = m ((c : Thread nD τ).loc main_arg0) (ix2 (row t r) k) := by
  unfold iblk
  exact (place0 (V m c (Pipeline.arrRef spec0 0)) t r k).trans (congrFun (entry_h m c) _)

/-- The block of the weights is their columns 9216 to 10239. -/
theorem place1 (G : FVec Ideal S1024x10240 .bf16) (t : Fin cfg0.N) (y : S1024x1024.Idx) (k : Fin 1024) (j : Fin 1024)
    (h0 : (y 0).val = k.val) (h1 : (y 1).val = j.val) :
    ((cfg0.win 1).blk t).view.read (Elt Ideal) G y = G (ix2 k (col j)) := by
  refine congrArg G (funext fun a => Fin.ext ?_)
  refine (win0_1.rect_emb_val t y a).trans ?_
  fin_cases a
  · refine (congrArg₂ (· * 1024 + ·) (idx1 t).1 h0).trans ?_
    show 0 * 1024 + k.val = k.val
    omega
  · refine (congrArg₂ (· * 1024 + ·) (idx1 t).2 h1).trans ?_
    show 9 * 1024 + j.val = 9216 + j.val
    omega

theorem blk_w (c : Dev nD) (t : Fin cfg0.N) (k : Fin 1024) (j : Fin 1024) :
    iblk m c 1 t (ix2 k j) = m ((c : Thread nD τ).loc main_arg1) (ix2 k (col j)) := by
  unfold iblk
  exact (place1 (V m c (Pipeline.arrRef spec0 1)) t _ k j rfl rfl).trans (congrFun (entry_w m c) _)

/-- A block of the result is 512 of its rows. -/
theorem place2 (t : Fin cfg0.N) (r : Fin 512) (j : Fin 1024) :
    (((View.whole main_v2).slice (win0_2.rect t)).emb (ix2 r j) : S8192x1024.Idx) = ix2 (row t r) j := by
  refine funext fun a => Fin.ext ?_
  refine (win0_2.rect_emb_val t (ix2 r j) a).trans ?_
  fin_cases a
  · refine (congrArg (· * 512 + r.val) (idx2 t).1).trans ?_
    show t.val * 512 + r.val = 512 * t.val + r.val
    omega
  · refine (congrArg (· * 1024 + j.val) (idx2 t).2).trans ?_
    show 0 * 1024 + j.val = j.val
    omega

/-- The kernel's result array. -/
theorem result (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ (r : Fin 512) (j : Fin 1024), y = ix2 r j := ⟨y 0, y 1, eq_ix2 y⟩
  rw [place2 t r j]
  refine (pay_apply _ _ r j).trans ?_
  exact Finset.sum_congr rfl fun k _ => congrArg₂ (fun a b : EReal => a * b) (blk_h m c t r k) (blk_w m c t k j)

/-- The run of the kernel ends with the product. -/
theorem run_prod : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (h : FVec Ideal S8192x1024 .f32) (w : FVec Ideal S1024x10240 .f32) :
    Cert.GateReferenceIdeal.Read.val_main_v1 (F := Ideal) h w = prod h w := by
  funext i
  obtain ⟨a, j, rfl⟩ : ∃ (a : Fin 8192) (j : Fin 1024), i = ix2 a j := ⟨i 0, i 1, eq_ix2 i⟩
  refine (Cert.GateReferenceIdeal.Read.val_main_v1_apply h w (ix2 a j)).trans (Finset.sum_congr rfl fun k _ => ?_)
  refine congrArg₂ (fun a b : EReal => a * b) (congrArg h (eq_ix2 _)) ((Cert.GateReferenceIdeal.Read.val_main_v0_apply (F := Ideal) w _).trans (congrArg w ?_))
  refine funext fun x => Fin.ext ?_
  fin_cases x <;> simp <;> rfl

theorem algebraic : Cert.algebraic_GateIdeal_GateReferenceIdeal := by
  intro m g m' g' _ h
  refine ⟨fun c => prod (m ((c : Thread nD τ).loc main_arg0)) (m ((c : Thread nD τ).loc main_arg1)), run_prod m g, ?_⟩
  refine (θ_run _ _ _).mono (fun r hr c => ⟨(hr c).1.trans ?_, (hr c).2⟩) (Cert.GateReferenceIdeal.Value.run m' g')
  refine (Cert.GateReferenceIdeal.Read.val_main_v1_eq (F := Ideal) _ _).trans ((reference _ _).trans ?_)
  exact congrArg₂ prod (h c).1 (h c).2

end Cert.GateIdeal.Value

end
-- ==== Proof.Products.Value0.lean ====
/- The product of the first layer's normed input with its input weights' columns of the values, first group: the array that the kernel ends with, the run, and the
   equation with the reference. -/
module

public import proofs.«01_k».proof.Proof.Gen.Value0Ideal.Value
public import proofs.«01_k».proof.Proof.Gen.Value0ReferenceIdeal.Run
public import proofs.«01_k».proof.Proof.Gen.Value0ReferenceIdeal.Read
public import proofs.«01_k».proof.Defs
public import Idealize.ShloMosaic.Lib.Pipeline.ValueKit
public import Idealize.ShloMosaic.Lib.Pointwise

@[expose] public section

set_option maxRecDepth 16384

noncomputable section

namespace Cert.Value0Ideal.Value

open Cert.Value0Ideal Cert.Value0Ideal.Gen
open Idealize.ShloMosaic Idealize.ShloMosaic.TcCoe Idealize.SL.Sem
open Idealize.ShloMosaic.Pipeline (Dat)

/-- The column of the weights that column `j` of the result takes. -/
def col (j : Fin 1024) : Fin 10240 := ⟨2048 + j.val, by omega⟩

/-- The product: a row of the input against a column of the weights. -/
def prod (h : FVec Ideal S8192x1024 .f32) (w : FVec Ideal S1024x10240 .f32) : FVec Ideal S8192x1024 .bf16 :=
  fun i => ∑ k : Fin 1024, h (ix2 (i 0) k) * w (ix2 k (col (i 1)))

/-- A block of the input against a block of the weights. -/
theorem pay_apply (x : Vec Ideal S512x1024 .bf16) (y : Vec Ideal S1024x1024 .bf16) (r : Fin 512) (j : Fin 1024) :
    k0_pay1 (F := Ideal) x y (ix2 r j) = ∑ k : Fin 1024, x (ix2 r k) * y (ix2 k j) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 2 := by decide +kernel
theorem idx2 : ∀ t : Fin cfg0.N, win0_2.index t 0 = t.val ∧ win0_2.index t 1 = 0 := by decide +kernel

theorem entry_h (c : Dev nD) : V m c (Pipeline.arrRef spec0 0) = m ((c : Thread nD τ).loc main_arg0) := by
  show V m c main_v0 = _
  entry_read
  rfl
theorem entry_w (c : Dev nD) : V m c (Pipeline.arrRef spec0 1) = m ((c : Thread nD τ).loc main_arg1) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the input is 512 of its rows. -/
theorem place0 (G : FVec Ideal S8192x1024 .bf16) (t : Fin cfg0.N) (r : Fin 512) (k : Fin 1024) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 1024 + k.val) (idx0 t).2).trans ?_
    show 0 * 1024 + k.val = k.val
    omega

theorem blk_h (c : Dev nD) (t : Fin cfg0.N) (r : Fin 512) (k : Fin 1024) :
    iblk m c 0 t (ix2 r k) = m ((c : Thread nD τ).loc main_arg0) (ix2 (row t r) k) := by
  unfold iblk
  exact (place0 (V m c (Pipeline.arrRef spec0 0)) t r k).trans (congrFun (entry_h m c) _)

/-- The block of the weights is their columns 2048 to 3071. -/
theorem place1 (G : FVec Ideal S1024x10240 .bf16) (t : Fin cfg0.N) (y : S1024x1024.Idx) (k : Fin 1024) (j : Fin 1024)
    (h0 : (y 0).val = k.val) (h1 : (y 1).val = j.val) :
    ((cfg0.win 1).blk t).view.read (Elt Ideal) G y = G (ix2 k (col j)) := by
  refine congrArg G (funext fun a => Fin.ext ?_)
  refine (win0_1.rect_emb_val t y a).trans ?_
  fin_cases a
  · refine (congrArg₂ (· * 1024 + ·) (idx1 t).1 h0).trans ?_
    show 0 * 1024 + k.val = k.val
    omega
  · refine (congrArg₂ (· * 1024 + ·) (idx1 t).2 h1).trans ?_
    show 2 * 1024 + j.val = 2048 + j.val
    omega

theorem blk_w (c : Dev nD) (t : Fin cfg0.N) (k : Fin 1024) (j : Fin 1024) :
    iblk m c 1 t (ix2 k j) = m ((c : Thread nD τ).loc main_arg1) (ix2 k (col j)) := by
  unfold iblk
  exact (place1 (V m c (Pipeline.arrRef spec0 1)) t _ k j rfl rfl).trans (congrFun (entry_w m c) _)

/-- A block of the result is 512 of its rows. -/
theorem place2 (t : Fin cfg0.N) (r : Fin 512) (j : Fin 1024) :
    (((View.whole main_v2).slice (win0_2.rect t)).emb (ix2 r j) : S8192x1024.Idx) = ix2 (row t r) j := by
  refine funext fun a => Fin.ext ?_
  refine (win0_2.rect_emb_val t (ix2 r j) a).trans ?_
  fin_cases a
  · refine (congrArg (· * 512 + r.val) (idx2 t).1).trans ?_
    show t.val * 512 + r.val = 512 * t.val + r.val
    omega
  · refine (congrArg (· * 1024 + j.val) (idx2 t).2).trans ?_
    show 0 * 1024 + j.val = j.val
    omega

/-- The kernel's result array. -/
theorem result (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ (r : Fin 512) (j : Fin 1024), y = ix2 r j := ⟨y 0, y 1, eq_ix2 y⟩
  rw [place2 t r j]
  refine (pay_apply _ _ r j).trans ?_
  exact Finset.sum_congr rfl fun k _ => congrArg₂ (fun a b : EReal => a * b) (blk_h m c t r k) (blk_w m c t k j)

/-- The run of the kernel ends with the product. -/
theorem run_prod : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (h : FVec Ideal S8192x1024 .f32) (w : FVec Ideal S1024x10240 .f32) :
    Cert.Value0ReferenceIdeal.Read.val_main_v2 (F := Ideal) h w = prod h w := by
  funext i
  obtain ⟨a, j, rfl⟩ : ∃ (a : Fin 8192) (j : Fin 1024), i = ix2 a j := ⟨i 0, i 1, eq_ix2 i⟩
  refine (Cert.Value0ReferenceIdeal.Read.val_main_v2_apply (F := Ideal) h w (ix2 a j)).trans ?_
  refine (Cert.Value0ReferenceIdeal.Read.val_main_v1_apply h w (ix2 a j)).trans (Finset.sum_congr rfl fun k _ => ?_)
  refine congrArg₂ (fun a b : EReal => a * b) (congrArg h (eq_ix2 _)) ((Cert.Value0ReferenceIdeal.Read.val_main_v0_apply (F := Ideal) w _).trans (congrArg w ?_))
  refine funext fun x => Fin.ext ?_
  fin_cases x <;> simp <;> rfl

theorem algebraic : Cert.algebraic_Value0Ideal_Value0ReferenceIdeal := by
  intro m g m' g' _ h
  refine ⟨fun c => prod (m ((c : Thread nD τ).loc main_arg0)) (m ((c : Thread nD τ).loc main_arg1)), run_prod m g, ?_⟩
  refine (θ_run _ _ _).mono (fun r hr c => ⟨(hr c).1.trans ?_, (hr c).2⟩) (Cert.Value0ReferenceIdeal.Value.run m' g')
  refine (Cert.Value0ReferenceIdeal.Read.val_main_v2_eq (F := Ideal) _ _).trans ((reference _ _).trans ?_)
  exact congrArg₂ prod (h c).1 (h c).2

end Cert.Value0Ideal.Value

end
-- ==== Proof.Products.Value1.lean ====
/- The product of the first layer's normed input with its input weights' columns of the values, second group: the array that the kernel ends with, the run, and the
   equation with the reference. -/
module

public import proofs.«01_k».proof.Proof.Gen.Value1Ideal.Value
public import proofs.«01_k».proof.Proof.Gen.Value1ReferenceIdeal.Run
public import proofs.«01_k».proof.Proof.Gen.Value1ReferenceIdeal.Read
public import proofs.«01_k».proof.Defs
public import Idealize.ShloMosaic.Lib.Pipeline.ValueKit
public import Idealize.ShloMosaic.Lib.Pointwise

@[expose] public section

set_option maxRecDepth 16384

noncomputable section

namespace Cert.Value1Ideal.Value

open Cert.Value1Ideal Cert.Value1Ideal.Gen
open Idealize.ShloMosaic Idealize.ShloMosaic.TcCoe Idealize.SL.Sem
open Idealize.ShloMosaic.Pipeline (Dat)

/-- The column of the weights that column `j` of the result takes. -/
def col (j : Fin 1024) : Fin 10240 := ⟨5120 + j.val, by omega⟩

/-- The product: a row of the input against a column of the weights. -/
def prod (h : FVec Ideal S8192x1024 .f32) (w : FVec Ideal S1024x10240 .f32) : FVec Ideal S8192x1024 .bf16 :=
  fun i => ∑ k : Fin 1024, h (ix2 (i 0) k) * w (ix2 k (col (i 1)))

/-- A block of the input against a block of the weights. -/
theorem pay_apply (x : Vec Ideal S512x1024 .bf16) (y : Vec Ideal S1024x1024 .bf16) (r : Fin 512) (j : Fin 1024) :
    k0_pay1 (F := Ideal) x y (ix2 r j) = ∑ k : Fin 1024, x (ix2 r k) * y (ix2 k j) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 5 := by decide +kernel
theorem idx2 : ∀ t : Fin cfg0.N, win0_2.index t 0 = t.val ∧ win0_2.index t 1 = 0 := by decide +kernel

theorem entry_h (c : Dev nD) : V m c (Pipeline.arrRef spec0 0) = m ((c : Thread nD τ).loc main_arg0) := by
  show V m c main_v0 = _
  entry_read
  rfl
theorem entry_w (c : Dev nD) : V m c (Pipeline.arrRef spec0 1) = m ((c : Thread nD τ).loc main_arg1) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the input is 512 of its rows. -/
theorem place0 (G : FVec Ideal S8192x1024 .bf16) (t : Fin cfg0.N) (r : Fin 512) (k : Fin 1024) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 1024 + k.val) (idx0 t).2).trans ?_
    show 0 * 1024 + k.val = k.val
    omega

theorem blk_h (c : Dev nD) (t : Fin cfg0.N) (r : Fin 512) (k : Fin 1024) :
    iblk m c 0 t (ix2 r k) = m ((c : Thread nD τ).loc main_arg0) (ix2 (row t r) k) := by
  unfold iblk
  exact (place0 (V m c (Pipeline.arrRef spec0 0)) t r k).trans (congrFun (entry_h m c) _)

/-- The block of the weights is their columns 5120 to 6143. -/
theorem place1 (G : FVec Ideal S1024x10240 .bf16) (t : Fin cfg0.N) (y : S1024x1024.Idx) (k : Fin 1024) (j : Fin 1024)
    (h0 : (y 0).val = k.val) (h1 : (y 1).val = j.val) :
    ((cfg0.win 1).blk t).view.read (Elt Ideal) G y = G (ix2 k (col j)) := by
  refine congrArg G (funext fun a => Fin.ext ?_)
  refine (win0_1.rect_emb_val t y a).trans ?_
  fin_cases a
  · refine (congrArg₂ (· * 1024 + ·) (idx1 t).1 h0).trans ?_
    show 0 * 1024 + k.val = k.val
    omega
  · refine (congrArg₂ (· * 1024 + ·) (idx1 t).2 h1).trans ?_
    show 5 * 1024 + j.val = 5120 + j.val
    omega

theorem blk_w (c : Dev nD) (t : Fin cfg0.N) (k : Fin 1024) (j : Fin 1024) :
    iblk m c 1 t (ix2 k j) = m ((c : Thread nD τ).loc main_arg1) (ix2 k (col j)) := by
  unfold iblk
  exact (place1 (V m c (Pipeline.arrRef spec0 1)) t _ k j rfl rfl).trans (congrFun (entry_w m c) _)

/-- A block of the result is 512 of its rows. -/
theorem place2 (t : Fin cfg0.N) (r : Fin 512) (j : Fin 1024) :
    (((View.whole main_v2).slice (win0_2.rect t)).emb (ix2 r j) : S8192x1024.Idx) = ix2 (row t r) j := by
  refine funext fun a => Fin.ext ?_
  refine (win0_2.rect_emb_val t (ix2 r j) a).trans ?_
  fin_cases a
  · refine (congrArg (· * 512 + r.val) (idx2 t).1).trans ?_
    show t.val * 512 + r.val = 512 * t.val + r.val
    omega
  · refine (congrArg (· * 1024 + j.val) (idx2 t).2).trans ?_
    show 0 * 1024 + j.val = j.val
    omega

/-- The kernel's result array. -/
theorem result (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ (r : Fin 512) (j : Fin 1024), y = ix2 r j := ⟨y 0, y 1, eq_ix2 y⟩
  rw [place2 t r j]
  refine (pay_apply _ _ r j).trans ?_
  exact Finset.sum_congr rfl fun k _ => congrArg₂ (fun a b : EReal => a * b) (blk_h m c t r k) (blk_w m c t k j)

/-- The run of the kernel ends with the product. -/
theorem run_prod : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (h : FVec Ideal S8192x1024 .f32) (w : FVec Ideal S1024x10240 .f32) :
    Cert.Value1ReferenceIdeal.Read.val_main_v2 (F := Ideal) h w = prod h w := by
  funext i
  obtain ⟨a, j, rfl⟩ : ∃ (a : Fin 8192) (j : Fin 1024), i = ix2 a j := ⟨i 0, i 1, eq_ix2 i⟩
  refine (Cert.Value1ReferenceIdeal.Read.val_main_v2_apply (F := Ideal) h w (ix2 a j)).trans ?_
  refine (Cert.Value1ReferenceIdeal.Read.val_main_v1_apply h w (ix2 a j)).trans (Finset.sum_congr rfl fun k _ => ?_)
  refine congrArg₂ (fun a b : EReal => a * b) (congrArg h (eq_ix2 _)) ((Cert.Value1ReferenceIdeal.Read.val_main_v0_apply (F := Ideal) w _).trans (congrArg w ?_))
  refine funext fun x => Fin.ext ?_
  fin_cases x <;> simp <;> rfl

theorem algebraic : Cert.algebraic_Value1Ideal_Value1ReferenceIdeal := by
  intro m g m' g' _ h
  refine ⟨fun c => prod (m ((c : Thread nD τ).loc main_arg0)) (m ((c : Thread nD τ).loc main_arg1)), run_prod m g, ?_⟩
  refine (θ_run _ _ _).mono (fun r hr c => ⟨(hr c).1.trans ?_, (hr c).2⟩) (Cert.Value1ReferenceIdeal.Value.run m' g')
  refine (Cert.Value1ReferenceIdeal.Read.val_main_v2_eq (F := Ideal) _ _).trans ((reference _ _).trans ?_)
  exact congrArg₂ prod (h c).1 (h c).2

end Cert.Value1Ideal.Value

end
-- ==== Proof.Products.Value2.lean ====
/- The product of the first layer's normed input with its input weights' columns of the values, third group: the array that the kernel ends with, the run, and the
   equation with the reference. -/
module

public import proofs.«01_k».proof.Proof.Gen.Value2Ideal.Value
public import proofs.«01_k».proof.Proof.Gen.Value2ReferenceIdeal.Run
public import proofs.«01_k».proof.Proof.Gen.Value2ReferenceIdeal.Read
public import proofs.«01_k».proof.Defs
public import Idealize.ShloMosaic.Lib.Pipeline.ValueKit
public import Idealize.ShloMosaic.Lib.Pointwise

@[expose] public section

set_option maxRecDepth 16384

noncomputable section

namespace Cert.Value2Ideal.Value

open Cert.Value2Ideal Cert.Value2Ideal.Gen
open Idealize.ShloMosaic Idealize.ShloMosaic.TcCoe Idealize.SL.Sem
open Idealize.ShloMosaic.Pipeline (Dat)

/-- The column of the weights that column `j` of the result takes. -/
def col (j : Fin 1024) : Fin 10240 := ⟨8192 + j.val, by omega⟩

/-- The product: a row of the input against a column of the weights. -/
def prod (h : FVec Ideal S8192x1024 .f32) (w : FVec Ideal S1024x10240 .f32) : FVec Ideal S8192x1024 .bf16 :=
  fun i => ∑ k : Fin 1024, h (ix2 (i 0) k) * w (ix2 k (col (i 1)))

/-- A block of the input against a block of the weights. -/
theorem pay_apply (x : Vec Ideal S512x1024 .bf16) (y : Vec Ideal S1024x1024 .bf16) (r : Fin 512) (j : Fin 1024) :
    k0_pay1 (F := Ideal) x y (ix2 r j) = ∑ k : Fin 1024, x (ix2 r k) * y (ix2 k j) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 8 := by decide +kernel
theorem idx2 : ∀ t : Fin cfg0.N, win0_2.index t 0 = t.val ∧ win0_2.index t 1 = 0 := by decide +kernel

theorem entry_h (c : Dev nD) : V m c (Pipeline.arrRef spec0 0) = m ((c : Thread nD τ).loc main_arg0) := by
  show V m c main_v0 = _
  entry_read
  rfl
theorem entry_w (c : Dev nD) : V m c (Pipeline.arrRef spec0 1) = m ((c : Thread nD τ).loc main_arg1) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the input is 512 of its rows. -/
theorem place0 (G : FVec Ideal S8192x1024 .bf16) (t : Fin cfg0.N) (r : Fin 512) (k : Fin 1024) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 1024 + k.val) (idx0 t).2).trans ?_
    show 0 * 1024 + k.val = k.val
    omega

theorem blk_h (c : Dev nD) (t : Fin cfg0.N) (r : Fin 512) (k : Fin 1024) :
    iblk m c 0 t (ix2 r k) = m ((c : Thread nD τ).loc main_arg0) (ix2 (row t r) k) := by
  unfold iblk
  exact (place0 (V m c (Pipeline.arrRef spec0 0)) t r k).trans (congrFun (entry_h m c) _)

/-- The block of the weights is their columns 8192 to 9215. -/
theorem place1 (G : FVec Ideal S1024x10240 .bf16) (t : Fin cfg0.N) (y : S1024x1024.Idx) (k : Fin 1024) (j : Fin 1024)
    (h0 : (y 0).val = k.val) (h1 : (y 1).val = j.val) :
    ((cfg0.win 1).blk t).view.read (Elt Ideal) G y = G (ix2 k (col j)) := by
  refine congrArg G (funext fun a => Fin.ext ?_)
  refine (win0_1.rect_emb_val t y a).trans ?_
  fin_cases a
  · refine (congrArg₂ (· * 1024 + ·) (idx1 t).1 h0).trans ?_
    show 0 * 1024 + k.val = k.val
    omega
  · refine (congrArg₂ (· * 1024 + ·) (idx1 t).2 h1).trans ?_
    show 8 * 1024 + j.val = 8192 + j.val
    omega

theorem blk_w (c : Dev nD) (t : Fin cfg0.N) (k : Fin 1024) (j : Fin 1024) :
    iblk m c 1 t (ix2 k j) = m ((c : Thread nD τ).loc main_arg1) (ix2 k (col j)) := by
  unfold iblk
  exact (place1 (V m c (Pipeline.arrRef spec0 1)) t _ k j rfl rfl).trans (congrFun (entry_w m c) _)

/-- A block of the result is 512 of its rows. -/
theorem place2 (t : Fin cfg0.N) (r : Fin 512) (j : Fin 1024) :
    (((View.whole main_v2).slice (win0_2.rect t)).emb (ix2 r j) : S8192x1024.Idx) = ix2 (row t r) j := by
  refine funext fun a => Fin.ext ?_
  refine (win0_2.rect_emb_val t (ix2 r j) a).trans ?_
  fin_cases a
  · refine (congrArg (· * 512 + r.val) (idx2 t).1).trans ?_
    show t.val * 512 + r.val = 512 * t.val + r.val
    omega
  · refine (congrArg (· * 1024 + j.val) (idx2 t).2).trans ?_
    show 0 * 1024 + j.val = j.val
    omega

/-- The kernel's result array. -/
theorem result (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ (r : Fin 512) (j : Fin 1024), y = ix2 r j := ⟨y 0, y 1, eq_ix2 y⟩
  rw [place2 t r j]
  refine (pay_apply _ _ r j).trans ?_
  exact Finset.sum_congr rfl fun k _ => congrArg₂ (fun a b : EReal => a * b) (blk_h m c t r k) (blk_w m c t k j)

/-- The run of the kernel ends with the product. -/
theorem run_prod : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (h : FVec Ideal S8192x1024 .f32) (w : FVec Ideal S1024x10240 .f32) :
    Cert.Value2ReferenceIdeal.Read.val_main_v2 (F := Ideal) h w = prod h w := by
  funext i
  obtain ⟨a, j, rfl⟩ : ∃ (a : Fin 8192) (j : Fin 1024), i = ix2 a j := ⟨i 0, i 1, eq_ix2 i⟩
  refine (Cert.Value2ReferenceIdeal.Read.val_main_v2_apply (F := Ideal) h w (ix2 a j)).trans ?_
  refine (Cert.Value2ReferenceIdeal.Read.val_main_v1_apply h w (ix2 a j)).trans (Finset.sum_congr rfl fun k _ => ?_)
  refine congrArg₂ (fun a b : EReal => a * b) (congrArg h (eq_ix2 _)) ((Cert.Value2ReferenceIdeal.Read.val_main_v0_apply (F := Ideal) w _).trans (congrArg w ?_))
  refine funext fun x => Fin.ext ?_
  fin_cases x <;> simp <;> rfl

theorem algebraic : Cert.algebraic_Value2Ideal_Value2ReferenceIdeal := by
  intro m g m' g' _ h
  refine ⟨fun c => prod (m ((c : Thread nD τ).loc main_arg0)) (m ((c : Thread nD τ).loc main_arg1)), run_prod m g, ?_⟩
  refine (θ_run _ _ _).mono (fun r hr c => ⟨(hr c).1.trans ?_, (hr c).2⟩) (Cert.Value2ReferenceIdeal.Value.run m' g')
  refine (Cert.Value2ReferenceIdeal.Read.val_main_v2_eq (F := Ideal) _ _).trans ((reference _ _).trans ?_)
  exact congrArg₂ prod (h c).1 (h c).2

end Cert.Value2Ideal.Value

end
-- ==== Proof.Products.Out.lean ====
/- The output product of a layer: the array that the kernel ends with, the run, and the
   equation with the reference. -/
module

public import proofs.«01_k».proof.Proof.Gen.OutIdeal.Value
public import proofs.«01_k».proof.Proof.Gen.OutReferenceIdeal.Run
public import proofs.«01_k».proof.Proof.Gen.OutReferenceIdeal.Read
public import proofs.«01_k».proof.Defs
public import Idealize.ShloMosaic.Lib.Pipeline.ValueKit
public import Idealize.ShloMosaic.Lib.Pointwise

@[expose] public section

set_option maxRecDepth 16384

noncomputable section

namespace Cert.OutIdeal.Value

open Cert.OutIdeal Cert.OutIdeal.Gen
open Idealize.ShloMosaic Idealize.ShloMosaic.TcCoe Idealize.SL.Sem
open Idealize.ShloMosaic.Pipeline (Dat)

/-- The product: a row of the input against a column of the weights. -/
def prod (h : FVec Ideal S8192x1024 .f32) (w : FVec Ideal S1024x1024 .f32) : FVec Ideal S8192x1024 .f32 :=
  fun i => ∑ k : Fin 1024, h (ix2 (i 0) k) * w (ix2 k (i 1))

/-- A block of the input against a block of the weights. -/
theorem pay_apply (x : Vec Ideal S512x1024 .bf16) (y : Vec Ideal S1024x1024 .bf16) (r : Fin 512) (j : Fin 1024) :
    k0_pay1 (F := Ideal) x y (ix2 r j) = ∑ k : Fin 1024, x (ix2 r k) * y (ix2 k j) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel

theorem entry_h (c : Dev nD) : V m c (Pipeline.arrRef spec0 0) = m ((c : Thread nD τ).loc main_arg0) := by
  show V m c main_v0 = _
  entry_read
  rfl
theorem entry_w (c : Dev nD) : V m c (Pipeline.arrRef spec0 1) = m ((c : Thread nD τ).loc main_arg1) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the input is 512 of its rows. -/
theorem place0 (G : FVec Ideal S8192x1024 .bf16) (t : Fin cfg0.N) (r : Fin 512) (k : Fin 1024) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 1024 + k.val) (idx0 t).2).trans ?_
    show 0 * 1024 + k.val = k.val
    omega

theorem blk_h (c : Dev nD) (t : Fin cfg0.N) (r : Fin 512) (k : Fin 1024) :
    iblk m c 0 t (ix2 r k) = m ((c : Thread nD τ).loc main_arg0) (ix2 (row t r) k) := by
  unfold iblk
  exact (place0 (V m c (Pipeline.arrRef spec0 0)) t r k).trans (congrFun (entry_h m c) _)

/-- The block of the weights is the whole array. -/
theorem place1 (G : FVec Ideal S1024x1024 .bf16) (t : Fin cfg0.N) (y : S1024x1024.Idx) (k : Fin 1024) (j : Fin 1024)
    (h0 : (y 0).val = k.val) (h1 : (y 1).val = j.val) :
    ((cfg0.win 1).blk t).view.read (Elt Ideal) G y = G (ix2 k j) := by
  refine congrArg G (funext fun a => Fin.ext ?_)
  refine (win0_1.rect_emb_val t y a).trans ?_
  fin_cases a
  · refine (congrArg₂ (· * 1024 + ·) (idx1 t).1 h0).trans ?_
    show 0 * 1024 + k.val = k.val
    omega
  · refine (congrArg₂ (· * 1024 + ·) (idx1 t).2 h1).trans ?_
    show 0 * 1024 + j.val = j.val
    omega

theorem blk_w (c : Dev nD) (t : Fin cfg0.N) (k : Fin 1024) (j : Fin 1024) :
    iblk m c 1 t (ix2 k j) = m ((c : Thread nD τ).loc main_arg1) (ix2 k j) := by
  unfold iblk
  exact (place1 (V m c (Pipeline.arrRef spec0 1)) t _ k j rfl rfl).trans (congrFun (entry_w m c) _)

/-- A block of the result is 512 of its rows. -/
theorem place2 (t : Fin cfg0.N) (r : Fin 512) (j : Fin 1024) :
    (((View.whole main_v2).slice (win0_2.rect t)).emb (ix2 r j) : S8192x1024.Idx) = ix2 (row t r) j := by
  refine funext fun a => Fin.ext ?_
  refine (win0_2.rect_emb_val t (ix2 r j) a).trans ?_
  fin_cases a
  · refine (congrArg (· * 512 + r.val) (idx2 t).1).trans ?_
    show t.val * 512 + r.val = 512 * t.val + r.val
    omega
  · refine (congrArg (· * 1024 + j.val) (idx2 t).2).trans ?_
    show 0 * 1024 + j.val = j.val
    omega

/-- The kernel's result array. -/
theorem result (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ (r : Fin 512) (j : Fin 1024), y = ix2 r j := ⟨y 0, y 1, eq_ix2 y⟩
  rw [place2 t r j]
  refine (pay_apply _ _ r j).trans ?_
  exact Finset.sum_congr rfl fun k _ => congrArg₂ (fun a b : EReal => a * b) (blk_h m c t r k) (blk_w m c t k j)

/-- The run of the kernel ends with the product. -/
theorem run_prod : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (h : FVec Ideal S8192x1024 .f32) (w : FVec Ideal S1024x1024 .f32) :
    Cert.OutReferenceIdeal.Read.val_main_v0 (F := Ideal) h w = prod h w := by
  funext i
  obtain ⟨a, j, rfl⟩ : ∃ (a : Fin 8192) (j : Fin 1024), i = ix2 a j := ⟨i 0, i 1, eq_ix2 i⟩
  refine (Cert.OutReferenceIdeal.Read.val_main_v0_apply h w (ix2 a j)).trans (Finset.sum_congr rfl fun k _ => ?_)
  exact congrArg₂ (fun a b : EReal => a * b) (congrArg h (eq_ix2 _)) (congrArg w (eq_ix2 _))

theorem algebraic : Cert.algebraic_OutIdeal_OutReferenceIdeal := by
  intro m g m' g' _ h
  refine ⟨fun c => prod (m ((c : Thread nD τ).loc main_arg0)) (m ((c : Thread nD τ).loc main_arg1)), run_prod m g, ?_⟩
  refine (θ_run _ _ _).mono (fun r hr c => ⟨(hr c).1.trans ?_, (hr c).2⟩) (Cert.OutReferenceIdeal.Value.run m' g')
  refine (Cert.OutReferenceIdeal.Read.val_main_v0_eq (F := Ideal) _ _).trans ((reference _ _).trans ?_)
  exact congrArg₂ prod (h c).1 (h c).2

end Cert.OutIdeal.Value

end
-- ==== Proof.Products.In.lean ====
/- The input product of the second layer: the array that the kernel ends with, the run, and the
   equation with the reference. -/
module

public import proofs.«01_k».proof.Proof.Gen.InIdeal.Value
public import proofs.«01_k».proof.Proof.Gen.InReferenceIdeal.Run
public import proofs.«01_k».proof.Proof.Gen.InReferenceIdeal.Read
public import proofs.«01_k».proof.Defs
public import Idealize.ShloMosaic.Lib.Pipeline.ValueKit
public import Idealize.ShloMosaic.Lib.Pointwise

@[expose] public section

set_option maxRecDepth 16384

noncomputable section

namespace Cert.InIdeal.Value

open Cert.InIdeal Cert.InIdeal.Gen
open Idealize.ShloMosaic Idealize.ShloMosaic.TcCoe Idealize.SL.Sem
open Idealize.ShloMosaic.Pipeline (Dat)

/-- The product: a row of the input against a column of the weights. -/
def prod (h : FVec Ideal S8192x1024 .f32) (w : FVec Ideal S1024x1408 .f32) : FVec Ideal S8192x1408 .f32 :=
  fun i => ∑ k : Fin 1024, h (ix2 (i 0) k) * w (ix2 k (i 1))

/-- A block of the input against a block of the weights. -/
theorem pay_apply (x : Vec Ideal S512x1024 .bf16) (y : Vec Ideal S1024x1408 .bf16) (r : Fin 512) (j : Fin 1408) :
    k0_pay1 (F := Ideal) x y (ix2 r j) = ∑ k : Fin 1024, x (ix2 r k) * y (ix2 k j) := by
  pointwise [k0_pay1]

variable (m : (l : Loc nD τ sig) → Buf (Elt Ideal) l) (ρ : Dev nD → PrngReg)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel

theorem entry_h (c : Dev nD) : V m c (Pipeline.arrRef spec0 0) = m ((c : Thread nD τ).loc main_arg0) := by
  show V m c main_v0 = _
  entry_read
  rfl
theorem entry_w (c : Dev nD) : V m c (Pipeline.arrRef spec0 1) = m ((c : Thread nD τ).loc main_arg1) := by
  show V m c main_v1 = _
  entry_read
  rfl

/-- Row `r` of grid point `t`'s block. -/
def row (t : Fin cfg0.N) (r : Fin 512) : Fin 8192 :=
  ⟨512 * t.val + r.val, by have := lt_of_lt_of_eq t.isLt N_0; omega⟩

/-- A block of the input is 512 of its rows. -/
theorem place0 (G : FVec Ideal S8192x1024 .bf16) (t : Fin cfg0.N) (r : Fin 512) (k : Fin 1024) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val * 512 + r.val = 512 * t.val + r.val
    omega
  · refine (congrArg (· * 1024 + k.val) (idx0 t).2).trans ?_
    show 0 * 1024 + k.val = k.val
    omega

theorem blk_h (c : Dev nD) (t : Fin cfg0.N) (r : Fin 512) (k : Fin 1024) :
    iblk m c 0 t (ix2 r k) = m ((c : Thread nD τ).loc main_arg0) (ix2 (row t r) k) := by
  unfold iblk
  exact (place0 (V m c (Pipeline.arrRef spec0 0)) t r k).trans (congrFun (entry_h m c) _)

/-- The block of the weights is the whole array. -/
theorem place1 (G : FVec Ideal S1024x1408 .bf16) (t : Fin cfg0.N) (y : S1024x1408.Idx) (k : Fin 1024) (j : Fin 1408)
    (h0 : (y 0).val = k.val) (h1 : (y 1).val = j.val) :
    ((cfg0.win 1).blk t).view.read (Elt Ideal) G y = G (ix2 k j) := by
  refine congrArg G (funext fun a => Fin.ext ?_)
  refine (win0_1.rect_emb_val t y a).trans ?_
  fin_cases a
  · refine (congrArg₂ (· * 1024 + ·) (idx1 t).1 h0).trans ?_
    show 0 * 1024 + k.val = k.val
    omega
  · refine (congrArg₂ (· * 1408 + ·) (idx1 t).2 h1).trans ?_
    show 0 * 1408 + j.val = j.val
    omega

theorem blk_w (c : Dev nD) (t : Fin cfg0.N) (k : Fin 1024) (j : Fin 1408) :
    iblk m c 1 t (ix2 k j) = m ((c : Thread nD τ).loc main_arg1) (ix2 k j) := by
  unfold iblk
  exact (place1 (V m c (Pipeline.arrRef spec0 1)) t _ k j rfl rfl).trans (congrFun (entry_w m c) _)

/-- A block of the result is 512 of its rows. -/
theorem place2 (t : Fin cfg0.N) (r : Fin 512) (j : Fin 1408) :
    (((View.whole main_v2).slice (win0_2.rect t)).emb (ix2 r j) : S8192x1408.Idx) = ix2 (row t r) j := by
  refine funext fun a => Fin.ext ?_
  refine (win0_2.rect_emb_val t (ix2 r j) a).trans ?_
  fin_cases a
  · refine (congrArg (· * 512 + r.val) (idx2 t).1).trans ?_
    show t.val * 512 + r.val = 512 * t.val + r.val
    omega
  · refine (congrArg (· * 1408 + j.val) (idx2 t).2).trans ?_
    show 0 * 1408 + j.val = j.val
    omega

/-- The kernel's result array. -/
theorem result (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ (r : Fin 512) (j : Fin 1408), y = ix2 r j := ⟨y 0, y 1, eq_ix2 y⟩
  rw [place2 t r j]
  refine (pay_apply _ _ r j).trans ?_
  exact Finset.sum_congr rfl fun k _ => congrArg₂ (fun a b : EReal => a * b) (blk_h m c t r k) (blk_w m c t k j)

/-- The run of the kernel ends with the product. -/
theorem run_prod : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

/-- The reference is the same sum. -/
theorem reference (h : FVec Ideal S8192x1024 .f32) (w : FVec Ideal S1024x1408 .f32) :
    Cert.InReferenceIdeal.Read.val_main_v0 (F := Ideal) h w = prod h w := by
  funext i
  obtain ⟨a, j, rfl⟩ : ∃ (a : Fin 8192) (j : Fin 1408), i = ix2 a j := ⟨i 0, i 1, eq_ix2 i⟩
  refine (Cert.InReferenceIdeal.Read.val_main_v0_apply h w (ix2 a j)).trans (Finset.sum_congr rfl fun k _ => ?_)
  exact congrArg₂ (fun a b : EReal => a * b) (congrArg h (eq_ix2 _)) (congrArg w (eq_ix2 _))

theorem algebraic : Cert.algebraic_InIdeal_InReferenceIdeal := by
  intro m g m' g' _ h
  refine ⟨fun c => prod (m ((c : Thread nD τ).loc main_arg0)) (m ((c : Thread nD τ).loc main_arg1)), run_prod m g, ?_⟩
  refine (θ_run _ _ _).mono (fun r hr c => ⟨(hr c).1.trans ?_, (hr c).2⟩) (Cert.InReferenceIdeal.Value.run m' g')
  refine (Cert.InReferenceIdeal.Read.val_main_v0_eq (F := Ideal) _ _).trans ((reference _ _).trans ?_)
  exact congrArg₂ prod (h c).1 (h c).2

end Cert.InIdeal.Value

end
-- ==== Proof.Products.Rotated0.lean ====
/- The product of the first layer's normed input with its input weights' columns of the queries and keys, first group, each
   head turned by its position: the array that the kernel ends with, the run, and the equation with the reference. -/
module

public import proofs.«01_k».proof.Proof.Gen.Rotated0Ideal.Value
public import proofs.«01_k».proof.Proof.Gen.Rotated0ReferenceIdeal.Run
public import proofs.«01_k».proof.Proof.Gen.Rotated0ReferenceIdeal.Read
public import proofs.«01_k».proof.Defs
public import Idealize.ShloMosaic.Lib.Pipeline.ValueKit
public import Idealize.ShloMosaic.Lib.StableHlo.RunRead
public import Idealize.ShloMosaic.Lib.Pointwise

@[expose] public section

set_option maxRecDepth 16384
set_option maxHeartbeats 1000000

noncomputable section

namespace Cert.Rotated0Ideal.Value

open Cert.Rotated0Ideal Cert.Rotated0Ideal.Gen
open Idealize.ShloMosaic Idealize.ShloMosaic.TcCoe Idealize.SL.Sem Idealize.ShloMosaic.Tactic
open Idealize.ShloMosaic.Pipeline (Dat)

/-- The column `s` lanes further round the head of 128 that column `j` lies in. -/
def near {n : Nat} (s : Nat) (j : Fin (128 * n)) : Fin (128 * n) := ⟨128 * (j.val / 128) + (j.val + s) % 128, by omega⟩

/-- The lane of a column in its head. -/
def lane {n : Nat} (j : Fin n) : Fin 128 := ⟨j.val % 128, by omega⟩

/-! ## One block -/

/-- A row of a block against a column of a block. -/
def acc {p : Nat} (x : Vec Ideal ⟨2, ![p, 1024]⟩ .bf16) (y : Vec Ideal S1024x1024 .bf16) (r : Fin p) (j : Fin 1024) : EReal :=
  ∑ k : Fin 1024, (x (ix2 r k) : EReal) * y (ix2 k j)

/-- The product of a block of rows with a block of columns, each head with its three tables. -/
def block (x : Vec Ideal S512x1024 .bf16) (y : Vec Ideal S1024x1024 .bf16) (C S N : Vec Ideal S512x128 .f32) : Vec Ideal S512x1024 .bf16 :=
  fun i => acc x y (i 0) (i 1) * C (ix2 (i 0) (lane (i 1))) + acc x y (i 0) (near (n := 8) 112 (i 1)) * S (ix2 (i 0) (lane (i 1)))
    + acc x y (i 0) (near (n := 8) 16 (i 1)) * N (ix2 (i 0) (lane (i 1)))

/-- One head of 128 rows, as the kernel computes it. -/
def head (o : Nat) (hs : S128x1024.Slices ![0, o] S128x128) (y : Vec Ideal S1024x1024 .bf16) (x : Vec Ideal S128x1024 .bf16)
    (C S N : Vec Ideal S128x128 .f32) : FVec Ideal S128x128 .bf16 :=
  truncf .bf16 (addf (addf (mulf (extractStridedSlice S128x128 ![0, o] (k0_pay3 (F := Ideal) y x) hs) (k0_pay4 C))
      (mulf (dynamicRotate 1 16#32 none (extractStridedSlice S128x128 ![0, o] (k0_pay3 (F := Ideal) y x) hs) rotates_S128x128_d1) (k0_pay5 S)))
    (mulf (dynamicRotate 1 112#32 none (extractStridedSlice S128x128 ![0, o] (k0_pay3 (F := Ideal) y x) hs) rotates_S128x128_d1) (k0_pay6 N))) bitsLt_bf16_f32

theorem pay3_apply (y : Vec Ideal S1024x1024 .bf16) (x : Vec Ideal S128x1024 .bf16) (r : Fin 128) (j : Fin 1024) :
    k0_pay3 (F := Ideal) y x (ix2 r j) = acc x y r j := by
  pointwise [k0_pay3, k0_pay2, acc]

theorem head_apply (o : Nat) (hs : S128x1024.Slices ![0, o] S128x128) (ho : o + 128 ≤ 1024) (y : Vec Ideal S1024x1024 .bf16)
    (x : Vec Ideal S128x1024 .bf16) (C S N : Vec Ideal S128x128 .f32) (r d : Fin 128) :
    head o hs y x C S N (ix2 r d) = acc x y r ⟨o + d.val, by omega⟩ * C (ix2 r d) + acc x y r ⟨o + (d.val + 112) % 128, by omega⟩ * S (ix2 r d)
      + acc x y r ⟨o + (d.val + 16) % 128, by omega⟩ * N (ix2 r d) := by
  have e := fun j => pay3_apply y x r j
  unfold head
  generalize k0_pay3 (F := Ideal) y x = z at e
  simp only [← e]
  pointwise [k0_pay4, k0_pay5, k0_pay6]
  simp only [show d.val + 128 - 16 = d.val + 112 by omega, show d.val + 128 - 112 = d.val + 16 by omega]

/-- Where a head's piece lies it is the block's closed form. -/
theorem tile (x : Vec Ideal S512x1024 .bf16) (y : Vec Ideal S1024x1024 .bf16) (C S N : Vec Ideal S512x128 .f32)
    (a b o : Nat) (ho : o = 128 * b) (hb : b < 8) (hs : S128x1024.Slices ![0, o] S128x128)
    (inbX : ∀ k, (![a, 0] : Fin 2 → Nat) k + S128x1024.size k ≤ S512x1024.size k)
    (inbC : ∀ k, (![a, 0] : Fin 2 → Nat) k + S128x128.size k ≤ S512x128.size k) (r : Fin 512) (j : Fin 1024) :
    View.TileAt (Val := Elt Ideal) (S := S512x1024) (e := .bf16) (ix2 r j) ![a, o] S128x128.size
      (head o hs (View.ld (Val := Elt Ideal) (e' := .bf16) y r0_0) (View.ld (Val := Elt Ideal) (e' := .bf16) x (Rect.unit (s := S512x1024) ![a, 0] S128x1024.size inbX))
        (View.ld (Val := Elt Ideal) (e' := .f32) C (Rect.unit (s := S512x128) ![a, 0] S128x128.size inbC)) (View.ld (Val := Elt Ideal) (e' := .f32) S (Rect.unit (s := S512x128) ![a, 0] S128x128.size inbC))
        (View.ld (Val := Elt Ideal) (e' := .f32) N (Rect.unit (s := S512x128) ![a, 0] S128x128.size inbC))) (block x y C S N (ix2 r j)) := by
  intro i hi
  obtain ⟨q, d, rfl⟩ : ∃ (q d : Fin 128), i = ix2 q d := ⟨i 0, i 1, eq_ix2 i⟩
  have h0 : r.val = a + q.val := hi 0
  have h1 : j.val = o + d.val := hi 1
  refine (head_apply o hs (by omega) _ _ _ _ _ q d).trans ?_
  have eA : ∀ (u v : Fin 1024), u.val = v.val → acc (View.ld (Val := Elt Ideal) (e' := .bf16) x (Rect.unit (s := S512x1024) ![a, 0] S128x1024.size inbX)) (View.ld (Val := Elt Ideal) (e' := .bf16) y r0_0) q u = acc x y r v := by
    intro u v huv
    refine Finset.sum_congr rfl fun k _ => congrArg₂ (fun a b : EReal => a * b) (View.ld_unit_apply_of x _ _ inbX _ (ix2 r k) fun c => ?_)
      (View.ld_unit_apply_of y _ _ _ _ (ix2 k v) fun c => ?_)
    · fin_cases c
      · exact h0
      · show k.val = 0 + k.val; omega
    · fin_cases c
      · show k.val = 0 + k.val; omega
      · show v.val = 0 + u.val; omega
  have eT : ∀ T : Vec Ideal S512x128 .f32, View.ld (Val := Elt Ideal) (e' := .f32) T (Rect.unit (s := S512x128) ![a, 0] S128x128.size inbC) (ix2 q d) = T (ix2 r (lane j)) := by
    intro T
    refine View.ld_unit_apply_of T _ _ inbC _ (ix2 r (lane j)) fun c => ?_
    fin_cases c
    · exact h0
    · show j.val % 128 = 0 + d.val; omega
  refine congrArg₂ (fun a b : EReal => a + b) (congrArg₂ (fun a b : EReal => a + b) (congrArg₂ (fun a b : EReal => a * b) (eA _ _ ?_) (eT C))
    (congrArg₂ (fun a b : EReal => a * b) (eA _ _ ?_) (eT S))) (congrArg₂ (fun a b : EReal => a * b) (eA _ _ ?_) (eT N))
  · show o + d.val = j.val; omega
  · show o + (d.val + 112) % 128 = 128 * (j.val / 128) + (j.val + 112) % 128; omega
  · show o + (d.val + 16) % 128 = 128 * (j.val / 128) + (j.val + 16) % 128; omega

/-- What the body leaves in the block. -/
theorem out_eq (x : Vec Ideal S512x1024 .bf16) (y : Vec Ideal S1024x1024 .bf16) (C S N : Vec Ideal S512x128 .f32) :
    out0_5 (F := Ideal) x y C S N = block x y C S N := by
  funext i
  obtain ⟨r, j, rfl⟩ : ∃ (r : Fin 512) (j : Fin 1024), i = ix2 r j := ⟨i 0, i 1, eq_ix2 i⟩
  unfold out0_5
  refine View.canon_eq_of_allAt _ _ _ (cover0_5 _ _ _ _ _ _ _ _ _ _ _ _ _ _ _ _ _ _ _ _ _ _ _ _ _ _ _ _ _ _ _ _ _) ?_
  refine View.allAt_cons_unit _ _ _ _ _ (tile x y C S N 384 7 896 rfl (by omega) slices_S128x1024_o0_896_S128x128 _ _ r j) ?_
  refine View.allAt_cons_unit _ _ _ _ _ (tile x y C S N 384 6 768 rfl (by omega) slices_S128x1024_o0_768_S128x128 _ _ r j) ?_
  refine View.allAt_cons_unit _ _ _ _ _ (tile x y C S N 384 5 640 rfl (by omega) slices_S128x1024_o0_640_S128x128 _ _ r j) ?_
  refine View.allAt_cons_unit _ _ _ _ _ (tile x y C S N 384 4 512 rfl (by omega) slices_S128x1024_o0_512_S128x128 _ _ r j) ?_
  refine View.allAt_cons_unit _ _ _ _ _ (tile x y C S N 384 3 384 rfl (by omega) slices_S128x1024_o0_384_S128x128 _ _ r j) ?_
  refine View.allAt_cons_unit _ _ _ _ _ (tile x y C S N 384 2 256 rfl (by omega) slices_S128x1024_o0_256_S128x128 _ _ r j) ?_
  refine View.allAt_cons_unit _ _ _ _ _ (tile x y C S N 384 1 128 rfl (by omega) slices_S128x1024_o0_128_S128x128 _ _ r j) ?_
  refine View.allAt_cons_unit _ _ _ _ _ (tile x y C S N 384 0 0 rfl (by omega) slices_S128x1024_o0_0_S128x128 _ _ r j) ?_
  refine View.allAt_cons_unit _ _ _ _ _ (tile x y C S N 256 7 896 rfl (by omega) slices_S128x1024_o0_896_S128x128 _ _ r j) ?_
  refine View.allAt_cons_unit _ _ _ _ _ (tile x y C S N 256 6 768 rfl (by omega) slices_S128x1024_o0_768_S128x128 _ _ r j) ?_
  refine View.allAt_cons_unit _ _ _ _ _ (tile x y C S N 256 5 640 rfl (by omega) slices_S128x1024_o0_640_S128x128 _ _ r j) ?_
  refine View.allAt_cons_unit _ _ _ _ _ (tile x y C S N 256 4 512 rfl (by omega) slices_S128x1024_o0_512_S128x128 _ _ r j) ?_
  refine View.allAt_cons_unit _ _ _ _ _ (tile x y C S N 256 3 384 rfl (by omega) slices_S128x1024_o0_384_S128x128 _ _ r j) ?_
  refine View.allAt_cons_unit _ _ _ _ _ (tile x y C S N 256 2 256 rfl (by omega) slices_S128x1024_o0_256_S128x128 _ _ r j) ?_
  refine View.allAt_cons_unit _ _ _ _ _ (tile x y C S N 256 1 128 rfl (by omega) slices_S128x1024_o0_128_S128x128 _ _ r j) ?_
  refine View.allAt_cons_unit _ _ _ _ _ (tile x y C S N 256 0 0 rfl (by omega) slices_S128x1024_o0_0_S128x128 _ _ r j) ?_
  refine View.allAt_cons_unit _ _ _ _ _ (tile x y C S N 128 7 896 rfl (by omega) slices_S128x1024_o0_896_S128x128 _ _ r j) ?_
  refine View.allAt_cons_unit _ _ _ _ _ (tile x y C S N 128 6 768 rfl (by omega) slices_S128x1024_o0_768_S128x128 _ _ r j) ?_
  refine View.allAt_cons_unit _ _ _ _ _ (tile x y C S N 128 5 640 rfl (by omega) slices_S128x1024_o0_640_S128x128 _ _ r j) ?_
  refine View.allAt_cons_unit _ _ _ _ _ (tile x y C S N 128 4 512 rfl (by omega) slices_S128x1024_o0_512_S128x128 _ _ r j) ?_
  refine View.allAt_cons_unit _ _ _ _ _ (tile x y C S N 128 3 384 rfl (by omega) slices_S128x1024_o0_384_S128x128 _ _ r j) ?_
  refine View.allAt_cons_unit _ _ _ _ _ (tile x y C S N 128 2 256 rfl (by omega) slices_S128x1024_o0_256_S128x128 _ _ r j) ?_
  refine View.allAt_cons_unit _ _ _ _ _ (tile x y C S N 128 1 128 rfl (by omega) slices_S128x1024_o0_128_S128x128 _ _ r j) ?_
  refine View.allAt_cons_unit _ _ _ _ _ (tile x y C S N 128 0 0 rfl (by omega) slices_S128x1024_o0_0_S128x128 _ _ r j) ?_
  refine View.allAt_cons_unit _ _ _ _ _ (tile x y C S N 0 7 896 rfl (by omega) slices_S128x1024_o0_896_S128x128 _ _ r j) ?_
  refine View.allAt_cons_unit _ _ _ _ _ (tile x y C S N 0 6 768 rfl (by omega) slices_S128x1024_o0_768_S128x128 _ _ r j) ?_
  refine View.allAt_cons_unit _ _ _ _ _ (tile x y C S N 0 5 640 rfl (by omega) slices_S128x1024_o0_640_S128x128 _ _ r j) ?_
  refine View.allAt_cons_unit _ _ _ _ _ (tile x y C S N 0 4 512 rfl (by omega) slices_S128x1024_o0_512_S128x128 _ _ r j) ?_
  refine View.allAt_cons_unit _ _ _ _ _ (tile x y C S N 0 3 384 rfl (by omega) slices_S128x1024_o0_384_S128x128 _ _ r j) ?_
  refine View.allAt_cons_unit _ _ _ _ _ (tile x y C S N 0 2 256 rfl (by omega) slices_S128x1024_o0_256_S128x128 _ _ r j) ?_
  refine View.allAt_cons_unit _ _ _ _ _ (tile x y C S N 0 1 128 rfl (by omega) slices_S128x1024_o0_128_S128x128 _ _ r j) ?_
  refine View.allAt_cons_unit _ _ _ _ _ (tile x y C S N 0 0 0 rfl (by omega) slices_S128x1024_o0_0_S128x128 _ _ r j) ?_
  exact View.allAt_nil _ _

/-! ## The whole array -/

/-- The frequencies: one over 500000 to the powers 0, 1/16, … -/
def invf : FVec Ideal S16 .f32 :=
  Host.divf (broadcastInDim S16 ![] bcast_S_S16 (constant S_ .f32 0x3F800000#32))
    (Host.powf (broadcastInDim S16 ![] bcast_S_S16 (constant S_ .f32 0x48F42400#32))
      (mulf (sitofp .f32 (iotaInDim S16 32 0)) (broadcastInDim S16 ![] bcast_S_S16 (constant S_ .f32 0x3D800000#32))))

/-- The angle of a position, at a frequency. -/
def ang (pos : IVec S8192 32) (a : Fin 8192) (n : Fin 16) : EReal := (FloatOps.sitofp FTy.f32 (pos (ix1 a)) : Ideal .f32) * invf (ix1 n)

/-- The tables' angles, on the lanes of a head. -/
def lang (pos : IVec S8192 32) : FVec Ideal S8192x128 .f32 :=
  mulf (broadcastInDim S8192x128 ![0, 1] bcast_S8192x1_S8192x128_0_1 (shapeCast S8192x1 (sitofp .f32 pos : FVec Ideal S8192 .f32) shapeCasts_S8192_S8192x1))
    (broadcastInDim S8192x128 ![0, 1] bcast_S1x128_S8192x128_0_1 (shapeCast S1x128
      (concatenate S128 0 [⟨S16, invf⟩, ⟨S16, invf⟩, ⟨S96, broadcastInDim S96 ![] bcast_S_S96 (constant S_ .f32 0x00000000#32 : FVec Ideal S_ .f32)⟩] concatenates_S16_S16_S96_S128_d0) shapeCasts_S128_S1x128))
def inRange (a b : BitVec 32) : IVec S8192x128 1 :=
  andi (cmpi .sge (iotaInDim S8192x128 32 1) (broadcastInDim S8192x128 ![] bcast_S_S8192x128 (constantI S_ 32 a)))
    (cmpi .slt (iotaInDim S8192x128 32 1) (broadcastInDim S8192x128 ![] bcast_S_S8192x128 (constantI S_ 32 b)))
def tabOf (c : IVec S8192x128 1) (x : FVec Ideal S8192x128 .f32) (w : BitVec 32) : FVec Ideal S8192x128 .f32 :=
  select c x (broadcastInDim S8192x128 ![] bcast_S_S8192x128 (constant S_ .f32 w : FVec Ideal S_ .f32))
def tabC (pos : IVec S8192 32) := tabOf (ori (inRange 0#32 16#32) (inRange 16#32 32#32)) (Host.cos (lang pos)) 0x3F800000#32
def tabS (pos : IVec S8192 32) := tabOf (inRange 16#32 32#32) (Host.sin (lang pos)) 0x00000000#32
def tabN (pos : IVec S8192 32) := tabOf (inRange 0#32 16#32) (Host.negf (Host.sin (lang pos))) 0x00000000#32

theorem in1 (d : Fin 128) : IntOp.andi (IntOp.cmpi CmpIPredicate.sge (BitVec.ofNat 32 d.val) 0#32)
    (IntOp.cmpi CmpIPredicate.slt (BitVec.ofNat 32 d.val) 16#32) = BitVec.ofBool (decide (d.val < 16)) := by
  revert d; decide

theorem in2 (d : Fin 128) : IntOp.andi (IntOp.cmpi CmpIPredicate.sge (BitVec.ofNat 32 d.val) 16#32)
    (IntOp.cmpi CmpIPredicate.slt (BitVec.ofNat 32 d.val) 32#32) = BitVec.ofBool (decide (16 ≤ d.val ∧ d.val < 32)) := by
  revert d; decide

theorem in12 (d : Fin 128) : IntOp.ori (BitVec.ofBool (decide (d.val < 16))) (BitVec.ofBool (decide (16 ≤ d.val ∧ d.val < 32)))
    = BitVec.ofBool (decide (d.val < 32)) := by
  revert d; decide

theorem select_ofBool {α : Type} (b : Bool) (x y : α) : Scalar.select (BitVec.ofBool b) x y = if b = true then x else y := by
  cases b <;> rfl

/-- The frequency of a lane. -/
def freq (d : Fin 128) : Fin 16 := ⟨d.val % 16, by omega⟩

theorem lang_at (pos : IVec S8192 32) (a : Fin 8192) (d : Fin 128) (hd : d.val < 32) : lang pos (ix2 a d) = ang pos a (freq d) := by
  unfold lang ang
  generalize invf = v
  pointwise []
  by_cases h : d.val < 16
  · rw [dif_pos h, show freq d = ⟨d.val, h⟩ from Fin.ext (Nat.mod_eq_of_lt h)]
  · rw [dif_neg h, dif_pos (by omega), show freq d = ⟨d.val - 16, by omega⟩ from Fin.ext (show d.val % 16 = d.val - 16 by omega)]

theorem tabC_at (pos : IVec S8192 32) (a : Fin 8192) (d : Fin 128) :
    tabC pos (ix2 a d) = if d.val < 32 then Ideal.cos (ang pos a (freq d)) else 1 := by
  have e := lang_at pos a d
  unfold tabC
  generalize lang pos = y at e
  pointwise [tabOf, inRange]
  rw [in1, in2, in12, select_ofBool]
  by_cases h : d.val < 32
  · rw [if_pos (by simpa using h), if_pos h, e h]
  · rw [if_neg (by simpa using h), if_neg h]

theorem tabS_at (pos : IVec S8192 32) (a : Fin 8192) (d : Fin 128) :
    tabS pos (ix2 a d) = if 16 ≤ d.val ∧ d.val < 32 then Ideal.sin (ang pos a (freq d)) else 0 := by
  have e := lang_at pos a d
  unfold tabS
  generalize lang pos = y at e
  pointwise [tabOf, inRange]
  rw [in2, select_ofBool]
  by_cases h : 16 ≤ d.val ∧ d.val < 32
  · rw [if_pos (by simpa using h), if_pos h, e h.2]
  · rw [if_neg (by simpa using h), if_neg h]

theorem tabN_at (pos : IVec S8192 32) (a : Fin 8192) (d : Fin 128) :
    tabN pos (ix2 a d) = if d.val < 16 then - Ideal.sin (ang pos a (freq d)) else 0 := by
  have e := lang_at pos a d
  unfold tabN
  generalize lang pos = y at e
  pointwise [tabOf, inRange]
  rw [in1, select_ofBool]
  by_cases h : d.val < 16
  · rw [if_pos (by simpa using h), if_pos h, e (by omega)]
  · rw [if_neg (by simpa using h), if_neg h]

/-- The column of the weights that column `j` of the result takes. -/
def col (j : Fin 2048) : Fin 10240 := ⟨0 + j.val, by omega⟩

/-- A row of the input against a column of the weights. -/
def prod (h : FVec Ideal S8192x1024 .f32) (w : FVec Ideal S1024x10240 .f32) (a : Fin 8192) (j : Fin 2048) : EReal :=
  ∑ k : Fin 1024, h (ix2 a k) * w (ix2 k (col j))

/-- The product, the first 32 lanes of each head turned by the row's position. -/
def turned (h : FVec Ideal S8192x1024 .f32) (w : FVec Ideal S1024x10240 .f32) (pos : IVec S8192 32) : FVec Ideal S8192x2048 .bf16 :=
  fun i =>
    if (lane (i 1)).val < 16 then
      prod h w (i 0) (i 1) * Ideal.cos (ang pos (i 0) (freq (lane (i 1)))) - prod h w (i 0) (near (n := 16) 16 (i 1)) * Ideal.sin (ang pos (i 0) (freq (lane (i 1))))
    else if (lane (i 1)).val < 32 then
      prod h w (i 0) (i 1) * Ideal.cos (ang pos (i 0) (freq (lane (i 1)))) + prod h w (i 0) (near (n := 16) 112 (i 1)) * Ideal.sin (ang pos (i 0) (freq (lane (i 1))))
    else prod h w (i 0) (i 1)

/-- The tables turn the first 32 lanes and leave the others. -/
theorem turned_tables (h : FVec Ideal S8192x1024 .f32) (w : FVec Ideal S1024x10240 .f32) (pos : IVec S8192 32) (a : Fin 8192) (j : Fin 2048) :
    prod h w a j * tabC pos (ix2 a (lane j)) + prod h w a (near (n := 16) 112 j) * tabS pos (ix2 a (lane j)) + prod h w a (near (n := 16) 16 j) * tabN pos (ix2 a (lane j))
      = turned h w pos (ix2 a j) := by
  rw [tabC_at, tabS_at, tabN_at]
  show _ = if (lane j).val < 16 then
      prod h w a j * Ideal.cos (ang pos a (freq (lane j))) - prod h w a (near (n := 16) 16 j) * Ideal.sin (ang pos a (freq (lane j)))
    else if (lane j).val < 32 then
      prod h w a j * Ideal.cos (ang pos a (freq (lane j))) + prod h w a (near (n := 16) 112 j) * Ideal.sin (ang pos a (freq (lane j)))
    else prod h w a j
  by_cases h1 : (lane j).val < 16
  · rw [if_pos (by omega), if_neg (by omega), if_pos h1, if_pos h1, mul_zero, add_zero, mul_neg, sub_eq_add_neg]
  · by_cases h2 : (lane j).val < 32
    · rw [if_pos h2, if_pos (by omega), if_neg h1, if_neg h1, if_pos h2, mul_zero, add_zero]
    · rw [if_neg h2, if_neg (by omega), if_neg h1, if_neg h1, if_neg h2, mul_zero, mul_zero, mul_one, add_zero, add_zero]

variable (m : (l : Loc nD τ sig) → Buf (Elt Ideal) l) (ρ : Dev nD → PrngReg)

theorem idx0 : ∀ t : Fin cfg0.N, win0_0.index t 0 = t.val % 16 ∧ win0_0.index t 1 = 0 := by decide +kernel
theorem idx1 : ∀ t : Fin cfg0.N, win0_1.index t 0 = 0 ∧ win0_1.index t 1 = t.val / 16 := by decide +kernel
theorem idx2 : ∀ t : Fin cfg0.N, win0_2.index t 0 = t.val % 16 ∧ win0_2.index t 1 = 0 := by decide +kernel
theorem idx3 : ∀ t : Fin cfg0.N, win0_3.index t 0 = t.val % 16 ∧ win0_3.index t 1 = 0 := by decide +kernel
theorem idx4 : ∀ t : Fin cfg0.N, win0_4.index t 0 = t.val % 16 ∧ win0_4.index t 1 = 0 := by decide +kernel
theorem idx5 : ∀ t : Fin cfg0.N, win0_5.index t 0 = t.val % 16 ∧ win0_5.index t 1 = t.val / 16 := by decide +kernel

theorem entry_h (c : Dev nD) : V m c (Pipeline.arrRef spec0 0) = m ((c : Thread nD τ).loc main_arg0) := by
  show V m c main_v0 = _
  unfold_abbrev_sides
  after_reads_simp [Matrix.cons_val_zero, Matrix.cons_val_one, Matrix.cons_val]
  rfl
theorem entry_w (c : Dev nD) : V m c (Pipeline.arrRef spec0 1) = m ((c : Thread nD τ).loc main_arg1) := by
  show V m c main_v1 = _
  unfold_abbrev_sides
  after_reads_simp [Matrix.cons_val_zero, Matrix.cons_val_one, Matrix.cons_val]
  rfl
theorem entry_C (c : Dev nD) : V m c (Pipeline.arrRef spec0 2) = tabC (m ((c : Thread nD τ).loc main_arg2)) := by
  show V m c main_v31 = _
  unfold_abbrev_sides
  after_reads_simp [Matrix.cons_val_zero, Matrix.cons_val_one, Matrix.cons_val]
  rfl
theorem entry_S (c : Dev nD) : V m c (Pipeline.arrRef spec0 3) = tabS (m ((c : Thread nD τ).loc main_arg2)) := by
  show V m c main_v32 = _
  unfold_abbrev_sides
  after_reads_simp [Matrix.cons_val_zero, Matrix.cons_val_one, Matrix.cons_val]
  rfl
theorem entry_N (c : Dev nD) : V m c (Pipeline.arrRef spec0 4) = tabN (m ((c : Thread nD τ).loc main_arg2)) := by
  show V m c main_v34 = _
  unfold_abbrev_sides
  after_reads_simp [Matrix.cons_val_zero, Matrix.cons_val_one, Matrix.cons_val]
  rfl

/-- Row `r` of grid point `t`'s block, and its column `j`. -/
def row (t : Fin cfg0.N) (r : Fin 512) : Fin 8192 := ⟨512 * (t.val % 16) + r.val, by omega⟩
def at1 (t : Fin cfg0.N) (j : Fin 1024) : Fin 2048 := ⟨1024 * (t.val / 16) + j.val, by have := lt_of_lt_of_eq t.isLt N_0; omega⟩

/-- A block of the input is 512 of its rows. -/
theorem place0 (G : FVec Ideal S8192x1024 .bf16) (t : Fin cfg0.N) (r : Fin 512) (k : Fin 1024) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val % 16 * 512 + r.val = 512 * (t.val % 16) + r.val
    omega
  · refine (congrArg (· * 1024 + k.val) (idx0 t).2).trans ?_
    show 0 * 1024 + k.val = k.val
    omega

theorem blk_h (c : Dev nD) (t : Fin cfg0.N) (r : Fin 512) (k : Fin 1024) :
    iblk m c 0 t (ix2 r k) = m ((c : Thread nD τ).loc main_arg0) (ix2 (row t r) k) := by
  unfold iblk
  exact (place0 (V m c (Pipeline.arrRef spec0 0)) t r k).trans (congrFun (entry_h m c) _)

/-- A block of the weights is 1024 of the columns. -/
theorem place1 (G : FVec Ideal S1024x10240 .bf16) (t : Fin cfg0.N) (k : Fin 1024) (j : Fin 1024) :
    ((cfg0.win 1).blk t).view.read (Elt Ideal) G (ix2 k j) = G (ix2 k (col (at1 t j))) := by
  refine congrArg G (funext fun a => Fin.ext ?_)
  refine (win0_1.rect_emb_val t (ix2 k j) a).trans ?_
  fin_cases a
  · refine (congrArg (· * 1024 + k.val) (idx1 t).1).trans ?_
    show 0 * 1024 + k.val = k.val
    omega
  · refine (congrArg (· * 1024 + j.val) (idx1 t).2).trans ?_
    show (t.val / 16) * 1024 + j.val = 0 + (1024 * (t.val / 16) + j.val)
    omega

theorem blk_w (c : Dev nD) (t : Fin cfg0.N) (k : Fin 1024) (j : Fin 1024) :
    iblk m c 1 t (ix2 k j) = m ((c : Thread nD τ).loc main_arg1) (ix2 k (col (at1 t j))) := by
  unfold iblk
  exact (place1 (V m c (Pipeline.arrRef spec0 1)) t k j).trans (congrFun (entry_w m c) _)

/-- A block of a table is 512 of its rows. -/
theorem place2 (G : FVec Ideal S8192x128 .f32) (t : Fin cfg0.N) (r : Fin 512) (d : Fin 128) :
    ((cfg0.win 2).blk t).view.read (Elt Ideal) G (ix2 r d) = G (ix2 (row t r) d) := by
  refine congrArg G (funext fun a => Fin.ext ?_)
  refine (win0_2.rect_emb_val t (ix2 r d) a).trans ?_
  fin_cases a
  · refine (congrArg (· * 512 + r.val) (idx2 t).1).trans ?_
    show t.val % 16 * 512 + r.val = 512 * (t.val % 16) + r.val
    omega
  · refine (congrArg (· * 128 + d.val) (idx2 t).2).trans ?_
    show 0 * 128 + d.val = d.val
    omega

theorem place3 (G : FVec Ideal S8192x128 .f32) (t : Fin cfg0.N) (r : Fin 512) (d : Fin 128) :
    ((cfg0.win 3).blk t).view.read (Elt Ideal) G (ix2 r d) = G (ix2 (row t r) d) := by
  refine congrArg G (funext fun a => Fin.ext ?_)
  refine (win0_3.rect_emb_val t (ix2 r d) a).trans ?_
  fin_cases a
  · refine (congrArg (· * 512 + r.val) (idx3 t).1).trans ?_
    show t.val % 16 * 512 + r.val = 512 * (t.val % 16) + r.val
    omega
  · refine (congrArg (· * 128 + d.val) (idx3 t).2).trans ?_
    show 0 * 128 + d.val = d.val
    omega

theorem place4 (G : FVec Ideal S8192x128 .f32) (t : Fin cfg0.N) (r : Fin 512) (d : Fin 128) :
    ((cfg0.win 4).blk t).view.read (Elt Ideal) G (ix2 r d) = G (ix2 (row t r) d) := by
  refine congrArg G (funext fun a => Fin.ext ?_)
  refine (win0_4.rect_emb_val t (ix2 r d) a).trans ?_
  fin_cases a
  · refine (congrArg (· * 512 + r.val) (idx4 t).1).trans ?_
    show t.val % 16 * 512 + r.val = 512 * (t.val % 16) + r.val
    omega
  · refine (congrArg (· * 128 + d.val) (idx4 t).2).trans ?_
    show 0 * 128 + d.val = d.val
    omega

theorem blk_C (c : Dev nD) (t : Fin cfg0.N) (r : Fin 512) (d : Fin 128) :
    iblk m c 2 t (ix2 r d) = tabC (m ((c : Thread nD τ).loc main_arg2)) (ix2 (row t r) d) := by
  unfold iblk
  exact (place2 (V m c (Pipeline.arrRef spec0 2)) t r d).trans (congrFun (entry_C m c) _)
theorem blk_S (c : Dev nD) (t : Fin cfg0.N) (r : Fin 512) (d : Fin 128) :
    iblk m c 3 t (ix2 r d) = tabS (m ((c : Thread nD τ).loc main_arg2)) (ix2 (row t r) d) := by
  unfold iblk
  exact (place3 (V m c (Pipeline.arrRef spec0 3)) t r d).trans (congrFun (entry_S m c) _)
theorem blk_N (c : Dev nD) (t : Fin cfg0.N) (r : Fin 512) (d : Fin 128) :
    iblk m c 4 t (ix2 r d) = tabN (m ((c : Thread nD τ).loc main_arg2)) (ix2 (row t r) d) := by
  unfold iblk
  exact (place4 (V m c (Pipeline.arrRef spec0 4)) t r d).trans (congrFun (entry_N m c) _)

/-- A block of the result is 512 rows and 1024 columns. -/
theorem place5 (t : Fin cfg0.N) (r : Fin 512) (j : Fin 1024) :
    (((View.whole main_v35).slice (win0_5.rect t)).emb (ix2 r j) : S8192x2048.Idx) = ix2 (row t r) (at1 t j) := by
  refine funext fun a => Fin.ext ?_
  refine (win0_5.rect_emb_val t (ix2 r j) a).trans ?_
  fin_cases a
  · refine (congrArg (· * 512 + r.val) (idx5 t).1).trans ?_
    show t.val % 16 * 512 + r.val = 512 * (t.val % 16) + r.val
    omega
  · refine (congrArg (· * 1024 + j.val) (idx5 t).2).trans ?_
    show t.val / 16 * 1024 + j.val = 1024 * (t.val / 16) + j.val
    omega

theorem blk_acc (c : Dev nD) (t : Fin cfg0.N) (r : Fin 512) (j : Fin 1024) (v : Fin 2048) (hv : at1 t j = v) :
    acc (p := 512) (iblk m c 0 t) (iblk m c 1 t) r j = prod (m ((c : Thread nD τ).loc main_arg0)) (m ((c : Thread nD τ).loc main_arg1)) (row t r) v := by
  subst hv
  exact Finset.sum_congr rfl fun k _ => congrArg₂ (fun a b : EReal => a * b) (blk_h m c t r k) (blk_w m c t k j)

theorem at1_near (t : Fin cfg0.N) (s : Nat) (j : Fin 1024) : at1 t (near (n := 8) s j) = near (n := 16) s (at1 t j) :=
  Fin.ext (show 1024 * (t.val / 16) + (128 * (j.val / 128) + (j.val + s) % 128) = 128 * ((1024 * (t.val / 16) + j.val) / 128) + (1024 * (t.val / 16) + j.val + s) % 128 by omega)

theorem lane_at1 (t : Fin cfg0.N) (j : Fin 1024) : lane j = lane (at1 t j) :=
  Fin.ext (show j.val % 128 = (1024 * (t.val / 16) + j.val) % 128 by omega)

/-- The kernel's result array. -/
theorem result (c : Dev nD) : (dats m 0 c).arrAt 5 cfg0.N = turned (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, out_eq]
  obtain ⟨r, j, rfl⟩ : ∃ (r : Fin 512) (j : Fin 1024), y = ix2 r j := ⟨y 0, y 1, eq_ix2 y⟩
  rw [place5 t r j]
  refine Eq.trans ?_ (turned_tables _ _ _ (row t r) (at1 t j))
  rw [← lane_at1 t j]
  exact congrArg₂ (fun a b : EReal => a + b) (congrArg₂ (fun a b : EReal => a + b)
    (congrArg₂ (fun a b : EReal => a * b) (blk_acc m c t r j _ rfl) (blk_C m c t r (lane j)))
    (congrArg₂ (fun a b : EReal => a * b) (blk_acc m c t r _ _ (at1_near t 112 j)) (blk_S m c t r (lane j))))
    (congrArg₂ (fun a b : EReal => a * b) (blk_acc m c t r _ _ (at1_near t 16 j)) (blk_N m c t r (lane j)))

/-- The run of the kernel ends with the turned product. -/
theorem run_turned : θ_run defs (onTc (τ := τ) (main (F := Ideal))) ⟨m, fun _ => 0, ρ⟩ fun r => ∀ c : Dev nD,
      r.2.mem ((c : Thread nD τ).loc main_v35) = turned (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (run_blocks m ρ)

/-! ## The reference -/

open Cert.Rotated0ReferenceIdeal.Read

theorem ref_prod (h : FVec Ideal S8192x1024 .f32) (w : FVec Ideal S1024x10240 .f32) (a : Fin 8192) (j : Fin 2048) :
    val_main_v1 (F := Ideal) h w (ix2 a j) = prod h w a j := by
  refine (val_main_v1_apply h w (ix2 a j)).trans (Finset.sum_congr rfl fun k _ => ?_)
  refine congrArg₂ (fun a b : EReal => a * b) (congrArg h (eq_ix2 _)) ((val_main_v0_apply (F := Ideal) w _).trans (congrArg w ?_))
  refine funext fun x => Fin.ext ?_
  fin_cases x
  · rfl
  · show j.val = 0 + j.val; omega

/-- A lane of a head as a column. -/
def column (b : Fin 16) (d : Fin 128) : Fin 2048 := ⟨128 * b.val + d.val, by omega⟩

/-- The first and the second half of a head's turned lanes. -/
def lane0 (n : Fin 16) : Fin 128 := ⟨n.val, by omega⟩
def lane16 (n : Fin 16) : Fin 128 := ⟨16 + n.val, by omega⟩

theorem ref_head (h : FVec Ideal S8192x1024 .f32) (w : FVec Ideal S1024x10240 .f32) (a : Fin 8192) (b : Fin 16) (d : Fin 128) :
    val_main_v2 (F := Ideal) h w (ix4 0 a b d) = prod h w a (column b d) := by
  refine Eq.trans ?_ (ref_prod h w a (column b d))
  unfold val_main_v2
  generalize val_main_v1 (F := Ideal) h w = y
  pointwise [column]
  exact congrArg y (congrArg (ix2 a) (Fin.ext (show b.val * 128 + d.val = 128 * b.val + d.val by omega)))

theorem ref_ang (pos : IVec S8192 32) (a : Fin 8192) (n : Fin 16) : val_main_v17 (F := Ideal) pos (ix3 0 a n) = ang pos a n := by
  have e : val_main_v11 (F := Ideal) = invf := rfl
  unfold val_main_v17 val_main_v16 val_main_v14
  rw [e]
  unfold ang
  generalize invf = v
  pointwise [val_main_v15, val_main_v13, val_main_v12, val_main_v3]

theorem ref_lo (h : FVec Ideal S8192x1024 .f32) (w : FVec Ideal S1024x10240 .f32) (pos : IVec S8192 32) (a : Fin 8192) (b n : Fin 16) :
    val_main_v36 (F := Ideal) h w pos (ix4 0 a b (lane0 n))
      = prod h w a (column b (lane0 n)) * Ideal.cos (ang pos a n) - prod h w a (column b (lane16 n)) * Ideal.sin (ang pos a n) := by
  have e := ref_head h w a b
  have f := ref_ang pos a n
  simp only [← e, ← f]
  pointwise [lane0, lane16, val_main_v36, val_main_v34, val_main_v28, val_main_v25, val_main_v27, val_main_v24, val_main_v26, val_main_v22, val_main_v23, val_main_v19, val_main_v21, val_main_v18, val_main_v20, val_main_v4]
  rw [dif_pos (by omega)]

theorem ref_mid (h : FVec Ideal S8192x1024 .f32) (w : FVec Ideal S1024x10240 .f32) (pos : IVec S8192 32) (a : Fin 8192) (b n : Fin 16) :
    val_main_v36 (F := Ideal) h w pos (ix4 0 a b (lane16 n))
      = prod h w a (column b (lane16 n)) * Ideal.cos (ang pos a n) + prod h w a (column b (lane0 n)) * Ideal.sin (ang pos a n) := by
  have e := ref_head h w a b
  have f := ref_ang pos a n
  simp only [← e, ← f]
  pointwise [lane0, lane16, val_main_v36, val_main_v34, val_main_v33, val_main_v30, val_main_v32, val_main_v29, val_main_v31, val_main_v22, val_main_v23, val_main_v19, val_main_v21, val_main_v18, val_main_v20, val_main_v4]
  rw [dif_pos (by omega)]

theorem ref_hi (h : FVec Ideal S8192x1024 .f32) (w : FVec Ideal S1024x10240 .f32) (pos : IVec S8192 32) (a : Fin 8192) (b : Fin 16) (d : Fin 128) (hd : 32 ≤ d.val) :
    val_main_v36 (F := Ideal) h w pos (ix4 0 a b d) = prod h w a (column b d) := by
  rw [← ref_head]
  unfold val_main_v36
  generalize val_main_v34 (F := Ideal) h w pos = z
  pointwise [val_main_v35]
  rw [dif_neg (by omega)]
  congr 2
  exact Fin.ext (show 32 + (d.val - 32) = d.val by omega)

/-- A column's head and lane. -/
theorem split_column (j : Fin 2048) : ∃ (b : Fin 16) (d : Fin 128), j = column b d :=
  ⟨⟨j.val / 128, by omega⟩, ⟨j.val % 128, by omega⟩, Fin.ext (show j.val = 128 * (j.val / 128) + j.val % 128 by omega)⟩

theorem ref_flat (h : FVec Ideal S8192x1024 .f32) (w : FVec Ideal S1024x10240 .f32) (pos : IVec S8192 32) (a : Fin 8192) (b : Fin 16) (d : Fin 128) :
    val_main_v38 (F := Ideal) h w pos (ix2 a (column b d)) = val_main_v36 (F := Ideal) h w pos (ix4 0 a b d) := by
  unfold val_main_v38 val_main_v37
  generalize val_main_v36 (F := Ideal) h w pos = y
  pointwise [column]

/-- The reference is the same array. -/
theorem reference (h : FVec Ideal S8192x1024 .f32) (w : FVec Ideal S1024x10240 .f32) (pos : IVec S8192 32) :
    val_main_v38 (F := Ideal) h w pos = turned h w pos := by
  funext i
  obtain ⟨a, j, rfl⟩ : ∃ (a : Fin 8192) (j : Fin 2048), i = ix2 a j := ⟨i 0, i 1, eq_ix2 i⟩
  obtain ⟨b, d, rfl⟩ := split_column j
  refine (ref_flat h w pos a b d).trans ?_
  have hl : lane (column b d) = d := Fin.ext (show (128 * b.val + d.val) % 128 = d.val by omega)
  show _ = if (lane (column b d)).val < 16 then
      prod h w a (column b d) * Ideal.cos (ang pos a (freq (lane (column b d)))) - prod h w a (near (n := 16) 16 (column b d)) * Ideal.sin (ang pos a (freq (lane (column b d))))
    else if (lane (column b d)).val < 32 then
      prod h w a (column b d) * Ideal.cos (ang pos a (freq (lane (column b d)))) + prod h w a (near (n := 16) 112 (column b d)) * Ideal.sin (ang pos a (freq (lane (column b d))))
    else prod h w a (column b d)
  rw [hl]
  by_cases h1 : d.val < 16
  · rw [if_pos h1]
    obtain ⟨n, rfl⟩ : ∃ n : Fin 16, d = lane0 n := ⟨⟨d.val, h1⟩, rfl⟩
    refine (ref_lo h w pos a b n).trans ?_
    rw [show freq (lane0 n) = n from Fin.ext (Nat.mod_eq_of_lt n.isLt),
      show near (n := 16) 16 (column b (lane0 n)) = column b (lane16 n) from
        Fin.ext (show 128 * ((128 * b.val + n.val) / 128) + (128 * b.val + n.val + 16) % 128 = 128 * b.val + (16 + n.val) by omega)]
  · rw [if_neg h1]
    by_cases h2 : d.val < 32
    · rw [if_pos h2]
      obtain ⟨n, rfl⟩ : ∃ n : Fin 16, d = lane16 n := ⟨⟨d.val - 16, by omega⟩, Fin.ext (show d.val = 16 + (d.val - 16) by omega)⟩
      refine (ref_mid h w pos a b n).trans ?_
      rw [show freq (lane16 n) = n from Fin.ext (show (16 + n.val) % 16 = n.val by omega),
        show near (n := 16) 112 (column b (lane16 n)) = column b (lane0 n) from
          Fin.ext (show 128 * ((128 * b.val + (16 + n.val)) / 128) + (128 * b.val + (16 + n.val) + 112) % 128 = 128 * b.val + n.val by omega)]
    · rw [if_neg h2]
      exact ref_hi h w pos a b d (by omega)

theorem algebraic : Cert.algebraic_Rotated0Ideal_Rotated0ReferenceIdeal := by
  intro m g m' g' _ h
  refine ⟨fun c => turned (m ((c : Thread nD τ).loc main_arg0)) (m ((c : Thread nD τ).loc main_arg1)) (m ((c : Thread nD τ).loc main_arg2)), run_turned m g, ?_⟩
  refine (θ_run _ _ _).mono (fun r hr c => ⟨(hr c).1.trans ?_, (hr c).2⟩) (Cert.Rotated0ReferenceIdeal.Value.run m' g')
  refine (val_main_v38_eq (F := Ideal) _ _).trans ((reference _ _ _).trans ?_)
  rw [(h c).1, (h c).2.1, (h c).2.2]

end Cert.Rotated0Ideal.Value

end
-- ==== Proof.Products.Rotated1.lean ====
/- The product of the first layer's normed input with its input weights' columns of the queries and keys, second group, each
   head turned by its position: the array that the kernel ends with, the run, and the equation with the reference. -/
module

public import proofs.«01_k».proof.Proof.Gen.Rotated1Ideal.Value
public import proofs.«01_k».proof.Proof.Gen.Rotated1ReferenceIdeal.Run
public import proofs.«01_k».proof.Proof.Gen.Rotated1ReferenceIdeal.Read
public import proofs.«01_k».proof.Defs
public import Idealize.ShloMosaic.Lib.Pipeline.ValueKit
public import Idealize.ShloMosaic.Lib.StableHlo.RunRead
public import Idealize.ShloMosaic.Lib.Pointwise

@[expose] public section

set_option maxRecDepth 16384
set_option maxHeartbeats 1000000

noncomputable section

namespace Cert.Rotated1Ideal.Value

open Cert.Rotated1Ideal Cert.Rotated1Ideal.Gen
open Idealize.ShloMosaic Idealize.ShloMosaic.TcCoe Idealize.SL.Sem Idealize.ShloMosaic.Tactic
open Idealize.ShloMosaic.Pipeline (Dat)

/-- The column `s` lanes further round the head of 128 that column `j` lies in. -/
def near {n : Nat} (s : Nat) (j : Fin (128 * n)) : Fin (128 * n) := ⟨128 * (j.val / 128) + (j.val + s) % 128, by omega⟩

/-- The lane of a column in its head. -/
def lane {n : Nat} (j : Fin n) : Fin 128 := ⟨j.val % 128, by omega⟩

/-! ## One block -/

/-- A row of a block against a column of a block. -/
def acc {p : Nat} (x : Vec Ideal ⟨2, ![p, 1024]⟩ .bf16) (y : Vec Ideal S1024x1024 .bf16) (r : Fin p) (j : Fin 1024) : EReal :=
  ∑ k : Fin 1024, (x (ix2 r k) : EReal) * y (ix2 k j)

/-- The product of a block of rows with a block of columns, each head with its three tables. -/
def block (x : Vec Ideal S512x1024 .bf16) (y : Vec Ideal S1024x1024 .bf16) (C S N : Vec Ideal S512x128 .f32) : Vec Ideal S512x1024 .bf16 :=
  fun i => acc x y (i 0) (i 1) * C (ix2 (i 0) (lane (i 1))) + acc x y (i 0) (near (n := 8) 112 (i 1)) * S (ix2 (i 0) (lane (i 1)))
    + acc x y (i 0) (near (n := 8) 16 (i 1)) * N (ix2 (i 0) (lane (i 1)))

/-- One head of 128 rows, as the kernel computes it. -/
def head (o : Nat) (hs : S128x1024.Slices ![0, o] S128x128) (y : Vec Ideal S1024x1024 .bf16) (x : Vec Ideal S128x1024 .bf16)
    (C S N : Vec Ideal S128x128 .f32) : FVec Ideal S128x128 .bf16 :=
  truncf .bf16 (addf (addf (mulf (extractStridedSlice S128x128 ![0, o] (k0_pay3 (F := Ideal) y x) hs) (k0_pay4 C))
      (mulf (dynamicRotate 1 16#32 none (extractStridedSlice S128x128 ![0, o] (k0_pay3 (F := Ideal) y x) hs) rotates_S128x128_d1) (k0_pay5 S)))
    (mulf (dynamicRotate 1 112#32 none (extractStridedSlice S128x128 ![0, o] (k0_pay3 (F := Ideal) y x) hs) rotates_S128x128_d1) (k0_pay6 N))) bitsLt_bf16_f32

theorem pay3_apply (y : Vec Ideal S1024x1024 .bf16) (x : Vec Ideal S128x1024 .bf16) (r : Fin 128) (j : Fin 1024) :
    k0_pay3 (F := Ideal) y x (ix2 r j) = acc x y r j := by
  pointwise [k0_pay3, k0_pay2, acc]

theorem head_apply (o : Nat) (hs : S128x1024.Slices ![0, o] S128x128) (ho : o + 128 ≤ 1024) (y : Vec Ideal S1024x1024 .bf16)
    (x : Vec Ideal S128x1024 .bf16) (C S N : Vec Ideal S128x128 .f32) (r d : Fin 128) :
    head o hs y x C S N (ix2 r d) = acc x y r ⟨o + d.val, by omega⟩ * C (ix2 r d) + acc x y r ⟨o + (d.val + 112) % 128, by omega⟩ * S (ix2 r d)
      + acc x y r ⟨o + (d.val + 16) % 128, by omega⟩ * N (ix2 r d) := by
  have e := fun j => pay3_apply y x r j
  unfold head
  generalize k0_pay3 (F := Ideal) y x = z at e
  simp only [← e]
  pointwise [k0_pay4, k0_pay5, k0_pay6]
  simp only [show d.val + 128 - 16 = d.val + 112 by omega, show d.val + 128 - 112 = d.val + 16 by omega]

/-- Where a head's piece lies it is the block's closed form. -/
theorem tile (x : Vec Ideal S512x1024 .bf16) (y : Vec Ideal S1024x1024 .bf16) (C S N : Vec Ideal S512x128 .f32)
    (a b o : Nat) (ho : o = 128 * b) (hb : b < 8) (hs : S128x1024.Slices ![0, o] S128x128)
    (inbX : ∀ k, (![a, 0] : Fin 2 → Nat) k + S128x1024.size k ≤ S512x1024.size k)
    (inbC : ∀ k, (![a, 0] : Fin 2 → Nat) k + S128x128.size k ≤ S512x128.size k) (r : Fin 512) (j : Fin 1024) :
    View.TileAt (Val := Elt Ideal) (S := S512x1024) (e := .bf16) (ix2 r j) ![a, o] S128x128.size
      (head o hs (View.ld (Val := Elt Ideal) (e' := .bf16) y r0_0) (View.ld (Val := Elt Ideal) (e' := .bf16) x (Rect.unit (s := S512x1024) ![a, 0] S128x1024.size inbX))
        (View.ld (Val := Elt Ideal) (e' := .f32) C (Rect.unit (s := S512x128) ![a, 0] S128x128.size inbC)) (View.ld (Val := Elt Ideal) (e' := .f32) S (Rect.unit (s := S512x128) ![a, 0] S128x128.size inbC))
        (View.ld (Val := Elt Ideal) (e' := .f32) N (Rect.unit (s := S512x128) ![a, 0] S128x128.size inbC))) (block x y C S N (ix2 r j)) := by
  intro i hi
  obtain ⟨q, d, rfl⟩ : ∃ (q d : Fin 128), i = ix2 q d := ⟨i 0, i 1, eq_ix2 i⟩
  have h0 : r.val = a + q.val := hi 0
  have h1 : j.val = o + d.val := hi 1
  refine (head_apply o hs (by omega) _ _ _ _ _ q d).trans ?_
  have eA : ∀ (u v : Fin 1024), u.val = v.val → acc (View.ld (Val := Elt Ideal) (e' := .bf16) x (Rect.unit (s := S512x1024) ![a, 0] S128x1024.size inbX)) (View.ld (Val := Elt Ideal) (e' := .bf16) y r0_0) q u = acc x y r v := by
    intro u v huv
    refine Finset.sum_congr rfl fun k _ => congrArg₂ (fun a b : EReal => a * b) (View.ld_unit_apply_of x _ _ inbX _ (ix2 r k) fun c => ?_)
      (View.ld_unit_apply_of y _ _ _ _ (ix2 k v) fun c => ?_)
    · fin_cases c
      · exact h0
      · show k.val = 0 + k.val; omega
    · fin_cases c
      · show k.val = 0 + k.val; omega
      · show v.val = 0 + u.val; omega
  have eT : ∀ T : Vec Ideal S512x128 .f32, View.ld (Val := Elt Ideal) (e' := .f32) T (Rect.unit (s := S512x128) ![a, 0] S128x128.size inbC) (ix2 q d) = T (ix2 r (lane j)) := by
    intro T
    refine View.ld_unit_apply_of T _ _ inbC _ (ix2 r (lane j)) fun c => ?_
    fin_cases c
    · exact h0
    · show j.val % 128 = 0 + d.val; omega
  refine congrArg₂ (fun a b : EReal => a + b) (congrArg₂ (fun a b : EReal => a + b) (congrArg₂ (fun a b : EReal => a * b) (eA _ _ ?_) (eT C))
    (congrArg₂ (fun a b : EReal => a * b) (eA _ _ ?_) (eT S))) (congrArg₂ (fun a b : EReal => a * b) (eA _ _ ?_) (eT N))
  · show o + d.val = j.val; omega
  · show o + (d.val + 112) % 128 = 128 * (j.val / 128) + (j.val + 112) % 128; omega
  · show o + (d.val + 16) % 128 = 128 * (j.val / 128) + (j.val + 16) % 128; omega

/-- What the body leaves in the block. -/
theorem out_eq (x : Vec Ideal S512x1024 .bf16) (y : Vec Ideal S1024x1024 .bf16) (C S N : Vec Ideal S512x128 .f32) :
    out0_5 (F := Ideal) x y C S N = block x y C S N := by
  funext i
  obtain ⟨r, j, rfl⟩ : ∃ (r : Fin 512) (j : Fin 1024), i = ix2 r j := ⟨i 0, i 1, eq_ix2 i⟩
  unfold out0_5
  refine View.canon_eq_of_allAt _ _ _ (cover0_5 _ _ _ _ _ _ _ _ _ _ _ _ _ _ _ _ _ _ _ _ _ _ _ _ _ _ _ _ _ _ _ _ _) ?_
  refine View.allAt_cons_unit _ _ _ _ _ (tile x y C S N 384 7 896 rfl (by omega) slices_S128x1024_o0_896_S128x128 _ _ r j) ?_
  refine View.allAt_cons_unit _ _ _ _ _ (tile x y C S N 384 6 768 rfl (by omega) slices_S128x1024_o0_768_S128x128 _ _ r j) ?_
  refine View.allAt_cons_unit _ _ _ _ _ (tile x y C S N 384 5 640 rfl (by omega) slices_S128x1024_o0_640_S128x128 _ _ r j) ?_
  refine View.allAt_cons_unit _ _ _ _ _ (tile x y C S N 384 4 512 rfl (by omega) slices_S128x1024_o0_512_S128x128 _ _ r j) ?_
  refine View.allAt_cons_unit _ _ _ _ _ (tile x y C S N 384 3 384 rfl (by omega) slices_S128x1024_o0_384_S128x128 _ _ r j) ?_
  refine View.allAt_cons_unit _ _ _ _ _ (tile x y C S N 384 2 256 rfl (by omega) slices_S128x1024_o0_256_S128x128 _ _ r j) ?_
  refine View.allAt_cons_unit _ _ _ _ _ (tile x y C S N 384 1 128 rfl (by omega) slices_S128x1024_o0_128_S128x128 _ _ r j) ?_
  refine View.allAt_cons_unit _ _ _ _ _ (tile x y C S N 384 0 0 rfl (by omega) slices_S128x1024_o0_0_S128x128 _ _ r j) ?_
  refine View.allAt_cons_unit _ _ _ _ _ (tile x y C S N 256 7 896 rfl (by omega) slices_S128x1024_o0_896_S128x128 _ _ r j) ?_
  refine View.allAt_cons_unit _ _ _ _ _ (tile x y C S N 256 6 768 rfl (by omega) slices_S128x1024_o0_768_S128x128 _ _ r j) ?_
  refine View.allAt_cons_unit _ _ _ _ _ (tile x y C S N 256 5 640 rfl (by omega) slices_S128x1024_o0_640_S128x128 _ _ r j) ?_
  refine View.allAt_cons_unit _ _ _ _ _ (tile x y C S N 256 4 512 rfl (by omega) slices_S128x1024_o0_512_S128x128 _ _ r j) ?_
  refine View.allAt_cons_unit _ _ _ _ _ (tile x y C S N 256 3 384 rfl (by omega) slices_S128x1024_o0_384_S128x128 _ _ r j) ?_
  refine View.allAt_cons_unit _ _ _ _ _ (tile x y C S N 256 2 256 rfl (by omega) slices_S128x1024_o0_256_S128x128 _ _ r j) ?_
  refine View.allAt_cons_unit _ _ _ _ _ (tile x y C S N 256 1 128 rfl (by omega) slices_S128x1024_o0_128_S128x128 _ _ r j) ?_
  refine View.allAt_cons_unit _ _ _ _ _ (tile x y C S N 256 0 0 rfl (by omega) slices_S128x1024_o0_0_S128x128 _ _ r j) ?_
  refine View.allAt_cons_unit _ _ _ _ _ (tile x y C S N 128 7 896 rfl (by omega) slices_S128x1024_o0_896_S128x128 _ _ r j) ?_
  refine View.allAt_cons_unit _ _ _ _ _ (tile x y C S N 128 6 768 rfl (by omega) slices_S128x1024_o0_768_S128x128 _ _ r j) ?_
  refine View.allAt_cons_unit _ _ _ _ _ (tile x y C S N 128 5 640 rfl (by omega) slices_S128x1024_o0_640_S128x128 _ _ r j) ?_
  refine View.allAt_cons_unit _ _ _ _ _ (tile x y C S N 128 4 512 rfl (by omega) slices_S128x1024_o0_512_S128x128 _ _ r j) ?_
  refine View.allAt_cons_unit _ _ _ _ _ (tile x y C S N 128 3 384 rfl (by omega) slices_S128x1024_o0_384_S128x128 _ _ r j) ?_
  refine View.allAt_cons_unit _ _ _ _ _ (tile x y C S N 128 2 256 rfl (by omega) slices_S128x1024_o0_256_S128x128 _ _ r j) ?_
  refine View.allAt_cons_unit _ _ _ _ _ (tile x y C S N 128 1 128 rfl (by omega) slices_S128x1024_o0_128_S128x128 _ _ r j) ?_
  refine View.allAt_cons_unit _ _ _ _ _ (tile x y C S N 128 0 0 rfl (by omega) slices_S128x1024_o0_0_S128x128 _ _ r j) ?_
  refine View.allAt_cons_unit _ _ _ _ _ (tile x y C S N 0 7 896 rfl (by omega) slices_S128x1024_o0_896_S128x128 _ _ r j) ?_
  refine View.allAt_cons_unit _ _ _ _ _ (tile x y C S N 0 6 768 rfl (by omega) slices_S128x1024_o0_768_S128x128 _ _ r j) ?_
  refine View.allAt_cons_unit _ _ _ _ _ (tile x y C S N 0 5 640 rfl (by omega) slices_S128x1024_o0_640_S128x128 _ _ r j) ?_
  refine View.allAt_cons_unit _ _ _ _ _ (tile x y C S N 0 4 512 rfl (by omega) slices_S128x1024_o0_512_S128x128 _ _ r j) ?_
  refine View.allAt_cons_unit _ _ _ _ _ (tile x y C S N 0 3 384 rfl (by omega) slices_S128x1024_o0_384_S128x128 _ _ r j) ?_
  refine View.allAt_cons_unit _ _ _ _ _ (tile x y C S N 0 2 256 rfl (by omega) slices_S128x1024_o0_256_S128x128 _ _ r j) ?_
  refine View.allAt_cons_unit _ _ _ _ _ (tile x y C S N 0 1 128 rfl (by omega) slices_S128x1024_o0_128_S128x128 _ _ r j) ?_
  refine View.allAt_cons_unit _ _ _ _ _ (tile x y C S N 0 0 0 rfl (by omega) slices_S128x1024_o0_0_S128x128 _ _ r j) ?_
  exact View.allAt_nil _ _

/-! ## The whole array -/

/-- The frequencies: one over 500000 to the powers 0, 1/16, … -/
def invf : FVec Ideal S16 .f32 :=
  Host.divf (broadcastInDim S16 ![] bcast_S_S16 (constant S_ .f32 0x3F800000#32))
    (Host.powf (broadcastInDim S16 ![] bcast_S_S16 (constant S_ .f32 0x48F42400#32))
      (mulf (sitofp .f32 (iotaInDim S16 32 0)) (broadcastInDim S16 ![] bcast_S_S16 (constant S_ .f32 0x3D800000#32))))

/-- The angle of a position, at a frequency. -/
def ang (pos : IVec S8192 32) (a : Fin 8192) (n : Fin 16) : EReal := (FloatOps.sitofp FTy.f32 (pos (ix1 a)) : Ideal .f32) * invf (ix1 n)

/-- The tables' angles, on the lanes of a head. -/
def lang (pos : IVec S8192 32) : FVec Ideal S8192x128 .f32 :=
  mulf (broadcastInDim S8192x128 ![0, 1] bcast_S8192x1_S8192x128_0_1 (shapeCast S8192x1 (sitofp .f32 pos : FVec Ideal S8192 .f32) shapeCasts_S8192_S8192x1))
    (broadcastInDim S8192x128 ![0, 1] bcast_S1x128_S8192x128_0_1 (shapeCast S1x128
      (concatenate S128 0 [⟨S16, invf⟩, ⟨S16, invf⟩, ⟨S96, broadcastInDim S96 ![] bcast_S_S96 (constant S_ .f32 0x00000000#32 : FVec Ideal S_ .f32)⟩] concatenates_S16_S16_S96_S128_d0) shapeCasts_S128_S1x128))
def inRange (a b : BitVec 32) : IVec S8192x128 1 :=
  andi (cmpi .sge (iotaInDim S8192x128 32 1) (broadcastInDim S8192x128 ![] bcast_S_S8192x128 (constantI S_ 32 a)))
    (cmpi .slt (iotaInDim S8192x128 32 1) (broadcastInDim S8192x128 ![] bcast_S_S8192x128 (constantI S_ 32 b)))
def tabOf (c : IVec S8192x128 1) (x : FVec Ideal S8192x128 .f32) (w : BitVec 32) : FVec Ideal S8192x128 .f32 :=
  select c x (broadcastInDim S8192x128 ![] bcast_S_S8192x128 (constant S_ .f32 w : FVec Ideal S_ .f32))
def tabC (pos : IVec S8192 32) := tabOf (ori (inRange 0#32 16#32) (inRange 16#32 32#32)) (Host.cos (lang pos)) 0x3F800000#32
def tabS (pos : IVec S8192 32) := tabOf (inRange 16#32 32#32) (Host.sin (lang pos)) 0x00000000#32
def tabN (pos : IVec S8192 32) := tabOf (inRange 0#32 16#32) (Host.negf (Host.sin (lang pos))) 0x00000000#32

theorem in1 (d : Fin 128) : IntOp.andi (IntOp.cmpi CmpIPredicate.sge (BitVec.ofNat 32 d.val) 0#32)
    (IntOp.cmpi CmpIPredicate.slt (BitVec.ofNat 32 d.val) 16#32) = BitVec.ofBool (decide (d.val < 16)) := by
  revert d; decide

theorem in2 (d : Fin 128) : IntOp.andi (IntOp.cmpi CmpIPredicate.sge (BitVec.ofNat 32 d.val) 16#32)
    (IntOp.cmpi CmpIPredicate.slt (BitVec.ofNat 32 d.val) 32#32) = BitVec.ofBool (decide (16 ≤ d.val ∧ d.val < 32)) := by
  revert d; decide

theorem in12 (d : Fin 128) : IntOp.ori (BitVec.ofBool (decide (d.val < 16))) (BitVec.ofBool (decide (16 ≤ d.val ∧ d.val < 32)))
    = BitVec.ofBool (decide (d.val < 32)) := by
  revert d; decide

theorem select_ofBool {α : Type} (b : Bool) (x y : α) : Scalar.select (BitVec.ofBool b) x y = if b = true then x else y := by
  cases b <;> rfl

/-- The frequency of a lane. -/
def freq (d : Fin 128) : Fin 16 := ⟨d.val % 16, by omega⟩

theorem lang_at (pos : IVec S8192 32) (a : Fin 8192) (d : Fin 128) (hd : d.val < 32) : lang pos (ix2 a d) = ang pos a (freq d) := by
  unfold lang ang
  generalize invf = v
  pointwise []
  by_cases h : d.val < 16
  · rw [dif_pos h, show freq d = ⟨d.val, h⟩ from Fin.ext (Nat.mod_eq_of_lt h)]
  · rw [dif_neg h, dif_pos (by omega), show freq d = ⟨d.val - 16, by omega⟩ from Fin.ext (show d.val % 16 = d.val - 16 by omega)]

theorem tabC_at (pos : IVec S8192 32) (a : Fin 8192) (d : Fin 128) :
    tabC pos (ix2 a d) = if d.val < 32 then Ideal.cos (ang pos a (freq d)) else 1 := by
  have e := lang_at pos a d
  unfold tabC
  generalize lang pos = y at e
  pointwise [tabOf, inRange]
  rw [in1, in2, in12, select_ofBool]
  by_cases h : d.val < 32
  · rw [if_pos (by simpa using h), if_pos h, e h]
  · rw [if_neg (by simpa using h), if_neg h]

theorem tabS_at (pos : IVec S8192 32) (a : Fin 8192) (d : Fin 128) :
    tabS pos (ix2 a d) = if 16 ≤ d.val ∧ d.val < 32 then Ideal.sin (ang pos a (freq d)) else 0 := by
  have e := lang_at pos a d
  unfold tabS
  generalize lang pos = y at e
  pointwise [tabOf, inRange]
  rw [in2, select_ofBool]
  by_cases h : 16 ≤ d.val ∧ d.val < 32
  · rw [if_pos (by simpa using h), if_pos h, e h.2]
  · rw [if_neg (by simpa using h), if_neg h]

theorem tabN_at (pos : IVec S8192 32) (a : Fin 8192) (d : Fin 128) :
    tabN pos (ix2 a d) = if d.val < 16 then - Ideal.sin (ang pos a (freq d)) else 0 := by
  have e := lang_at pos a d
  unfold tabN
  generalize lang pos = y at e
  pointwise [tabOf, inRange]
  rw [in1, select_ofBool]
  by_cases h : d.val < 16
  · rw [if_pos (by simpa using h), if_pos h, e (by omega)]
  · rw [if_neg (by simpa using h), if_neg h]

/-- The column of the weights that column `j` of the result takes. -/
def col (j : Fin 2048) : Fin 10240 := ⟨3072 + j.val, by omega⟩

/-- A row of the input against a column of the weights. -/
def prod (h : FVec Ideal S8192x1024 .f32) (w : FVec Ideal S1024x10240 .f32) (a : Fin 8192) (j : Fin 2048) : EReal :=
  ∑ k : Fin 1024, h (ix2 a k) * w (ix2 k (col j))

/-- The product, the first 32 lanes of each head turned by the row's position. -/
def turned (h : FVec Ideal S8192x1024 .f32) (w : FVec Ideal S1024x10240 .f32) (pos : IVec S8192 32) : FVec Ideal S8192x2048 .bf16 :=
  fun i =>
    if (lane (i 1)).val < 16 then
      prod h w (i 0) (i 1) * Ideal.cos (ang pos (i 0) (freq (lane (i 1)))) - prod h w (i 0) (near (n := 16) 16 (i 1)) * Ideal.sin (ang pos (i 0) (freq (lane (i 1))))
    else if (lane (i 1)).val < 32 then
      prod h w (i 0) (i 1) * Ideal.cos (ang pos (i 0) (freq (lane (i 1)))) + prod h w (i 0) (near (n := 16) 112 (i 1)) * Ideal.sin (ang pos (i 0) (freq (lane (i 1))))
    else prod h w (i 0) (i 1)

/-- The tables turn the first 32 lanes and leave the others. -/
theorem turned_tables (h : FVec Ideal S8192x1024 .f32) (w : FVec Ideal S1024x10240 .f32) (pos : IVec S8192 32) (a : Fin 8192) (j : Fin 2048) :
    prod h w a j * tabC pos (ix2 a (lane j)) + prod h w a (near (n := 16) 112 j) * tabS pos (ix2 a (lane j)) + prod h w a (near (n := 16) 16 j) * tabN pos (ix2 a (lane j))
      = turned h w pos (ix2 a j) := by
  rw [tabC_at, tabS_at, tabN_at]
  show _ = if (lane j).val < 16 then
      prod h w a j * Ideal.cos (ang pos a (freq (lane j))) - prod h w a (near (n := 16) 16 j) * Ideal.sin (ang pos a (freq (lane j)))
    else if (lane j).val < 32 then
      prod h w a j * Ideal.cos (ang pos a (freq (lane j))) + prod h w a (near (n := 16) 112 j) * Ideal.sin (ang pos a (freq (lane j)))
    else prod h w a j
  by_cases h1 : (lane j).val < 16
  · rw [if_pos (by omega), if_neg (by omega), if_pos h1, if_pos h1, mul_zero, add_zero, mul_neg, sub_eq_add_neg]
  · by_cases h2 : (lane j).val < 32
    · rw [if_pos h2, if_pos (by omega), if_neg h1, if_neg h1, if_pos h2, mul_zero, add_zero]
    · rw [if_neg h2, if_neg (by omega), if_neg h1, if_neg h1, if_neg h2, mul_zero, mul_zero, mul_one, add_zero, add_zero]

variable (m : (l : Loc nD τ sig) → Buf (Elt Ideal) l) (ρ : Dev nD → PrngReg)

theorem idx0 : ∀ t : Fin cfg0.N, win0_0.index t 0 = t.val % 16 ∧ win0_0.index t 1 = 0 := by decide +kernel
theorem idx1 : ∀ t : Fin cfg0.N, win0_1.index t 0 = 0 ∧ win0_1.index t 1 = t.val / 16 + 3 := by decide +kernel
theorem idx2 : ∀ t : Fin cfg0.N, win0_2.index t 0 = t.val % 16 ∧ win0_2.index t 1 = 0 := by decide +kernel
theorem idx3 : ∀ t : Fin cfg0.N, win0_3.index t 0 = t.val % 16 ∧ win0_3.index t 1 = 0 := by decide +kernel
theorem idx4 : ∀ t : Fin cfg0.N, win0_4.index t 0 = t.val % 16 ∧ win0_4.index t 1 = 0 := by decide +kernel
theorem idx5 : ∀ t : Fin cfg0.N, win0_5.index t 0 = t.val % 16 ∧ win0_5.index t 1 = t.val / 16 := by decide +kernel

theorem entry_h (c : Dev nD) : V m c (Pipeline.arrRef spec0 0) = m ((c : Thread nD τ).loc main_arg0) := by
  show V m c main_v0 = _
  unfold_abbrev_sides
  after_reads_simp [Matrix.cons_val_zero, Matrix.cons_val_one, Matrix.cons_val]
  rfl
theorem entry_w (c : Dev nD) : V m c (Pipeline.arrRef spec0 1) = m ((c : Thread nD τ).loc main_arg1) := by
  show V m c main_v1 = _
  unfold_abbrev_sides
  after_reads_simp [Matrix.cons_val_zero, Matrix.cons_val_one, Matrix.cons_val]
  rfl
theorem entry_C (c : Dev nD) : V m c (Pipeline.arrRef spec0 2) = tabC (m ((c : Thread nD τ).loc main_arg2)) := by
  show V m c main_v31 = _
  unfold_abbrev_sides
  after_reads_simp [Matrix.cons_val_zero, Matrix.cons_val_one, Matrix.cons_val]
  rfl
theorem entry_S (c : Dev nD) : V m c (Pipeline.arrRef spec0 3) = tabS (m ((c : Thread nD τ).loc main_arg2)) := by
  show V m c main_v32 = _
  unfold_abbrev_sides
  after_reads_simp [Matrix.cons_val_zero, Matrix.cons_val_one, Matrix.cons_val]
  rfl
theorem entry_N (c : Dev nD) : V m c (Pipeline.arrRef spec0 4) = tabN (m ((c : Thread nD τ).loc main_arg2)) := by
  show V m c main_v34 = _
  unfold_abbrev_sides
  after_reads_simp [Matrix.cons_val_zero, Matrix.cons_val_one, Matrix.cons_val]
  rfl

/-- Row `r` of grid point `t`'s block, and its column `j`. -/
def row (t : Fin cfg0.N) (r : Fin 512) : Fin 8192 := ⟨512 * (t.val % 16) + r.val, by omega⟩
def at1 (t : Fin cfg0.N) (j : Fin 1024) : Fin 2048 := ⟨1024 * (t.val / 16) + j.val, by have := lt_of_lt_of_eq t.isLt N_0; omega⟩

/-- A block of the input is 512 of its rows. -/
theorem place0 (G : FVec Ideal S8192x1024 .bf16) (t : Fin cfg0.N) (r : Fin 512) (k : Fin 1024) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val % 16 * 512 + r.val = 512 * (t.val % 16) + r.val
    omega
  · refine (congrArg (· * 1024 + k.val) (idx0 t).2).trans ?_
    show 0 * 1024 + k.val = k.val
    omega

theorem blk_h (c : Dev nD) (t : Fin cfg0.N) (r : Fin 512) (k : Fin 1024) :
    iblk m c 0 t (ix2 r k) = m ((c : Thread nD τ).loc main_arg0) (ix2 (row t r) k) := by
  unfold iblk
  exact (place0 (V m c (Pipeline.arrRef spec0 0)) t r k).trans (congrFun (entry_h m c) _)

/-- A block of the weights is 1024 of the columns. -/
theorem place1 (G : FVec Ideal S1024x10240 .bf16) (t : Fin cfg0.N) (k : Fin 1024) (j : Fin 1024) :
    ((cfg0.win 1).blk t).view.read (Elt Ideal) G (ix2 k j) = G (ix2 k (col (at1 t j))) := by
  refine congrArg G (funext fun a => Fin.ext ?_)
  refine (win0_1.rect_emb_val t (ix2 k j) a).trans ?_
  fin_cases a
  · refine (congrArg (· * 1024 + k.val) (idx1 t).1).trans ?_
    show 0 * 1024 + k.val = k.val
    omega
  · refine (congrArg (· * 1024 + j.val) (idx1 t).2).trans ?_
    show (t.val / 16 + 3) * 1024 + j.val = 3072 + (1024 * (t.val / 16) + j.val)
    omega

theorem blk_w (c : Dev nD) (t : Fin cfg0.N) (k : Fin 1024) (j : Fin 1024) :
    iblk m c 1 t (ix2 k j) = m ((c : Thread nD τ).loc main_arg1) (ix2 k (col (at1 t j))) := by
  unfold iblk
  exact (place1 (V m c (Pipeline.arrRef spec0 1)) t k j).trans (congrFun (entry_w m c) _)

/-- A block of a table is 512 of its rows. -/
theorem place2 (G : FVec Ideal S8192x128 .f32) (t : Fin cfg0.N) (r : Fin 512) (d : Fin 128) :
    ((cfg0.win 2).blk t).view.read (Elt Ideal) G (ix2 r d) = G (ix2 (row t r) d) := by
  refine congrArg G (funext fun a => Fin.ext ?_)
  refine (win0_2.rect_emb_val t (ix2 r d) a).trans ?_
  fin_cases a
  · refine (congrArg (· * 512 + r.val) (idx2 t).1).trans ?_
    show t.val % 16 * 512 + r.val = 512 * (t.val % 16) + r.val
    omega
  · refine (congrArg (· * 128 + d.val) (idx2 t).2).trans ?_
    show 0 * 128 + d.val = d.val
    omega

theorem place3 (G : FVec Ideal S8192x128 .f32) (t : Fin cfg0.N) (r : Fin 512) (d : Fin 128) :
    ((cfg0.win 3).blk t).view.read (Elt Ideal) G (ix2 r d) = G (ix2 (row t r) d) := by
  refine congrArg G (funext fun a => Fin.ext ?_)
  refine (win0_3.rect_emb_val t (ix2 r d) a).trans ?_
  fin_cases a
  · refine (congrArg (· * 512 + r.val) (idx3 t).1).trans ?_
    show t.val % 16 * 512 + r.val = 512 * (t.val % 16) + r.val
    omega
  · refine (congrArg (· * 128 + d.val) (idx3 t).2).trans ?_
    show 0 * 128 + d.val = d.val
    omega

theorem place4 (G : FVec Ideal S8192x128 .f32) (t : Fin cfg0.N) (r : Fin 512) (d : Fin 128) :
    ((cfg0.win 4).blk t).view.read (Elt Ideal) G (ix2 r d) = G (ix2 (row t r) d) := by
  refine congrArg G (funext fun a => Fin.ext ?_)
  refine (win0_4.rect_emb_val t (ix2 r d) a).trans ?_
  fin_cases a
  · refine (congrArg (· * 512 + r.val) (idx4 t).1).trans ?_
    show t.val % 16 * 512 + r.val = 512 * (t.val % 16) + r.val
    omega
  · refine (congrArg (· * 128 + d.val) (idx4 t).2).trans ?_
    show 0 * 128 + d.val = d.val
    omega

theorem blk_C (c : Dev nD) (t : Fin cfg0.N) (r : Fin 512) (d : Fin 128) :
    iblk m c 2 t (ix2 r d) = tabC (m ((c : Thread nD τ).loc main_arg2)) (ix2 (row t r) d) := by
  unfold iblk
  exact (place2 (V m c (Pipeline.arrRef spec0 2)) t r d).trans (congrFun (entry_C m c) _)
theorem blk_S (c : Dev nD) (t : Fin cfg0.N) (r : Fin 512) (d : Fin 128) :
    iblk m c 3 t (ix2 r d) = tabS (m ((c : Thread nD τ).loc main_arg2)) (ix2 (row t r) d) := by
  unfold iblk
  exact (place3 (V m c (Pipeline.arrRef spec0 3)) t r d).trans (congrFun (entry_S m c) _)
theorem blk_N (c : Dev nD) (t : Fin cfg0.N) (r : Fin 512) (d : Fin 128) :
    iblk m c 4 t (ix2 r d) = tabN (m ((c : Thread nD τ).loc main_arg2)) (ix2 (row t r) d) := by
  unfold iblk
  exact (place4 (V m c (Pipeline.arrRef spec0 4)) t r d).trans (congrFun (entry_N m c) _)

/-- A block of the result is 512 rows and 1024 columns. -/
theorem place5 (t : Fin cfg0.N) (r : Fin 512) (j : Fin 1024) :
    (((View.whole main_v35).slice (win0_5.rect t)).emb (ix2 r j) : S8192x2048.Idx) = ix2 (row t r) (at1 t j) := by
  refine funext fun a => Fin.ext ?_
  refine (win0_5.rect_emb_val t (ix2 r j) a).trans ?_
  fin_cases a
  · refine (congrArg (· * 512 + r.val) (idx5 t).1).trans ?_
    show t.val % 16 * 512 + r.val = 512 * (t.val % 16) + r.val
    omega
  · refine (congrArg (· * 1024 + j.val) (idx5 t).2).trans ?_
    show t.val / 16 * 1024 + j.val = 1024 * (t.val / 16) + j.val
    omega

theorem blk_acc (c : Dev nD) (t : Fin cfg0.N) (r : Fin 512) (j : Fin 1024) (v : Fin 2048) (hv : at1 t j = v) :
    acc (p := 512) (iblk m c 0 t) (iblk m c 1 t) r j = prod (m ((c : Thread nD τ).loc main_arg0)) (m ((c : Thread nD τ).loc main_arg1)) (row t r) v := by
  subst hv
  exact Finset.sum_congr rfl fun k _ => congrArg₂ (fun a b : EReal => a * b) (blk_h m c t r k) (blk_w m c t k j)

theorem at1_near (t : Fin cfg0.N) (s : Nat) (j : Fin 1024) : at1 t (near (n := 8) s j) = near (n := 16) s (at1 t j) :=
  Fin.ext (show 1024 * (t.val / 16) + (128 * (j.val / 128) + (j.val + s) % 128) = 128 * ((1024 * (t.val / 16) + j.val) / 128) + (1024 * (t.val / 16) + j.val + s) % 128 by omega)

theorem lane_at1 (t : Fin cfg0.N) (j : Fin 1024) : lane j = lane (at1 t j) :=
  Fin.ext (show j.val % 128 = (1024 * (t.val / 16) + j.val) % 128 by omega)

/-- The kernel's result array. -/
theorem result (c : Dev nD) : (dats m 0 c).arrAt 5 cfg0.N = turned (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, out_eq]
  obtain ⟨r, j, rfl⟩ : ∃ (r : Fin 512) (j : Fin 1024), y = ix2 r j := ⟨y 0, y 1, eq_ix2 y⟩
  rw [place5 t r j]
  refine Eq.trans ?_ (turned_tables _ _ _ (row t r) (at1 t j))
  rw [← lane_at1 t j]
  exact congrArg₂ (fun a b : EReal => a + b) (congrArg₂ (fun a b : EReal => a + b)
    (congrArg₂ (fun a b : EReal => a * b) (blk_acc m c t r j _ rfl) (blk_C m c t r (lane j)))
    (congrArg₂ (fun a b : EReal => a * b) (blk_acc m c t r _ _ (at1_near t 112 j)) (blk_S m c t r (lane j))))
    (congrArg₂ (fun a b : EReal => a * b) (blk_acc m c t r _ _ (at1_near t 16 j)) (blk_N m c t r (lane j)))

/-- The run of the kernel ends with the turned product. -/
theorem run_turned : θ_run defs (onTc (τ := τ) (main (F := Ideal))) ⟨m, fun _ => 0, ρ⟩ fun r => ∀ c : Dev nD,
      r.2.mem ((c : Thread nD τ).loc main_v35) = turned (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (run_blocks m ρ)

/-! ## The reference -/

open Cert.Rotated1ReferenceIdeal.Read

theorem ref_prod (h : FVec Ideal S8192x1024 .f32) (w : FVec Ideal S1024x10240 .f32) (a : Fin 8192) (j : Fin 2048) :
    val_main_v1 (F := Ideal) h w (ix2 a j) = prod h w a j := by
  refine (val_main_v1_apply h w (ix2 a j)).trans (Finset.sum_congr rfl fun k _ => ?_)
  refine congrArg₂ (fun a b : EReal => a * b) (congrArg h (eq_ix2 _)) ((val_main_v0_apply (F := Ideal) w _).trans (congrArg w ?_))
  refine funext fun x => Fin.ext ?_
  fin_cases x
  · rfl
  · rfl

/-- A lane of a head as a column. -/
def column (b : Fin 16) (d : Fin 128) : Fin 2048 := ⟨128 * b.val + d.val, by omega⟩

/-- The first and the second half of a head's turned lanes. -/
def lane0 (n : Fin 16) : Fin 128 := ⟨n.val, by omega⟩
def lane16 (n : Fin 16) : Fin 128 := ⟨16 + n.val, by omega⟩

theorem ref_head (h : FVec Ideal S8192x1024 .f32) (w : FVec Ideal S1024x10240 .f32) (a : Fin 8192) (b : Fin 16) (d : Fin 128) :
    val_main_v2 (F := Ideal) h w (ix4 0 a b d) = prod h w a (column b d) := by
  refine Eq.trans ?_ (ref_prod h w a (column b d))
  unfold val_main_v2
  generalize val_main_v1 (F := Ideal) h w = y
  pointwise [column]
  exact congrArg y (congrArg (ix2 a) (Fin.ext (show b.val * 128 + d.val = 128 * b.val + d.val by omega)))

theorem ref_ang (pos : IVec S8192 32) (a : Fin 8192) (n : Fin 16) : val_main_v17 (F := Ideal) pos (ix3 0 a n) = ang pos a n := by
  have e : val_main_v11 (F := Ideal) = invf := rfl
  unfold val_main_v17 val_main_v16 val_main_v14
  rw [e]
  unfold ang
  generalize invf = v
  pointwise [val_main_v15, val_main_v13, val_main_v12, val_main_v3]

theorem ref_lo (h : FVec Ideal S8192x1024 .f32) (w : FVec Ideal S1024x10240 .f32) (pos : IVec S8192 32) (a : Fin 8192) (b n : Fin 16) :
    val_main_v36 (F := Ideal) h w pos (ix4 0 a b (lane0 n))
      = prod h w a (column b (lane0 n)) * Ideal.cos (ang pos a n) - prod h w a (column b (lane16 n)) * Ideal.sin (ang pos a n) := by
  have e := ref_head h w a b
  have f := ref_ang pos a n
  simp only [← e, ← f]
  pointwise [lane0, lane16, val_main_v36, val_main_v34, val_main_v28, val_main_v25, val_main_v27, val_main_v24, val_main_v26, val_main_v22, val_main_v23, val_main_v19, val_main_v21, val_main_v18, val_main_v20, val_main_v4]
  rw [dif_pos (by omega)]

theorem ref_mid (h : FVec Ideal S8192x1024 .f32) (w : FVec Ideal S1024x10240 .f32) (pos : IVec S8192 32) (a : Fin 8192) (b n : Fin 16) :
    val_main_v36 (F := Ideal) h w pos (ix4 0 a b (lane16 n))
      = prod h w a (column b (lane16 n)) * Ideal.cos (ang pos a n) + prod h w a (column b (lane0 n)) * Ideal.sin (ang pos a n) := by
  have e := ref_head h w a b
  have f := ref_ang pos a n
  simp only [← e, ← f]
  pointwise [lane0, lane16, val_main_v36, val_main_v34, val_main_v33, val_main_v30, val_main_v32, val_main_v29, val_main_v31, val_main_v22, val_main_v23, val_main_v19, val_main_v21, val_main_v18, val_main_v20, val_main_v4]
  rw [dif_pos (by omega)]

theorem ref_hi (h : FVec Ideal S8192x1024 .f32) (w : FVec Ideal S1024x10240 .f32) (pos : IVec S8192 32) (a : Fin 8192) (b : Fin 16) (d : Fin 128) (hd : 32 ≤ d.val) :
    val_main_v36 (F := Ideal) h w pos (ix4 0 a b d) = prod h w a (column b d) := by
  rw [← ref_head]
  unfold val_main_v36
  generalize val_main_v34 (F := Ideal) h w pos = z
  pointwise [val_main_v35]
  rw [dif_neg (by omega)]
  congr 2
  exact Fin.ext (show 32 + (d.val - 32) = d.val by omega)

/-- A column's head and lane. -/
theorem split_column (j : Fin 2048) : ∃ (b : Fin 16) (d : Fin 128), j = column b d :=
  ⟨⟨j.val / 128, by omega⟩, ⟨j.val % 128, by omega⟩, Fin.ext (show j.val = 128 * (j.val / 128) + j.val % 128 by omega)⟩

theorem ref_flat (h : FVec Ideal S8192x1024 .f32) (w : FVec Ideal S1024x10240 .f32) (pos : IVec S8192 32) (a : Fin 8192) (b : Fin 16) (d : Fin 128) :
    val_main_v38 (F := Ideal) h w pos (ix2 a (column b d)) = val_main_v36 (F := Ideal) h w pos (ix4 0 a b d) := by
  unfold val_main_v38 val_main_v37
  generalize val_main_v36 (F := Ideal) h w pos = y
  pointwise [column]

/-- The reference is the same array. -/
theorem reference (h : FVec Ideal S8192x1024 .f32) (w : FVec Ideal S1024x10240 .f32) (pos : IVec S8192 32) :
    val_main_v38 (F := Ideal) h w pos = turned h w pos := by
  funext i
  obtain ⟨a, j, rfl⟩ : ∃ (a : Fin 8192) (j : Fin 2048), i = ix2 a j := ⟨i 0, i 1, eq_ix2 i⟩
  obtain ⟨b, d, rfl⟩ := split_column j
  refine (ref_flat h w pos a b d).trans ?_
  have hl : lane (column b d) = d := Fin.ext (show (128 * b.val + d.val) % 128 = d.val by omega)
  show _ = if (lane (column b d)).val < 16 then
      prod h w a (column b d) * Ideal.cos (ang pos a (freq (lane (column b d)))) - prod h w a (near (n := 16) 16 (column b d)) * Ideal.sin (ang pos a (freq (lane (column b d))))
    else if (lane (column b d)).val < 32 then
      prod h w a (column b d) * Ideal.cos (ang pos a (freq (lane (column b d)))) + prod h w a (near (n := 16) 112 (column b d)) * Ideal.sin (ang pos a (freq (lane (column b d))))
    else prod h w a (column b d)
  rw [hl]
  by_cases h1 : d.val < 16
  · rw [if_pos h1]
    obtain ⟨n, rfl⟩ : ∃ n : Fin 16, d = lane0 n := ⟨⟨d.val, h1⟩, rfl⟩
    refine (ref_lo h w pos a b n).trans ?_
    rw [show freq (lane0 n) = n from Fin.ext (Nat.mod_eq_of_lt n.isLt),
      show near (n := 16) 16 (column b (lane0 n)) = column b (lane16 n) from
        Fin.ext (show 128 * ((128 * b.val + n.val) / 128) + (128 * b.val + n.val + 16) % 128 = 128 * b.val + (16 + n.val) by omega)]
  · rw [if_neg h1]
    by_cases h2 : d.val < 32
    · rw [if_pos h2]
      obtain ⟨n, rfl⟩ : ∃ n : Fin 16, d = lane16 n := ⟨⟨d.val - 16, by omega⟩, Fin.ext (show d.val = 16 + (d.val - 16) by omega)⟩
      refine (ref_mid h w pos a b n).trans ?_
      rw [show freq (lane16 n) = n from Fin.ext (show (16 + n.val) % 16 = n.val by omega),
        show near (n := 16) 112 (column b (lane16 n)) = column b (lane0 n) from
          Fin.ext (show 128 * ((128 * b.val + (16 + n.val)) / 128) + (128 * b.val + (16 + n.val) + 112) % 128 = 128 * b.val + n.val by omega)]
    · rw [if_neg h2]
      exact ref_hi h w pos a b d (by omega)

theorem algebraic : Cert.algebraic_Rotated1Ideal_Rotated1ReferenceIdeal := by
  intro m g m' g' _ h
  refine ⟨fun c => turned (m ((c : Thread nD τ).loc main_arg0)) (m ((c : Thread nD τ).loc main_arg1)) (m ((c : Thread nD τ).loc main_arg2)), run_turned m g, ?_⟩
  refine (θ_run _ _ _).mono (fun r hr c => ⟨(hr c).1.trans ?_, (hr c).2⟩) (Cert.Rotated1ReferenceIdeal.Value.run m' g')
  refine (val_main_v38_eq (F := Ideal) _ _).trans ((reference _ _ _).trans ?_)
  rw [(h c).1, (h c).2.1, (h c).2.2]

end Cert.Rotated1Ideal.Value

end
-- ==== Proof.Products.Rotated2.lean ====
/- The product of the first layer's normed input with its input weights' columns of the queries and keys, third group, each
   head turned by its position: the array that the kernel ends with, the run, and the equation with the reference. -/
module

public import proofs.«01_k».proof.Proof.Gen.Rotated2Ideal.Value
public import proofs.«01_k».proof.Proof.Gen.Rotated2ReferenceIdeal.Run
public import proofs.«01_k».proof.Proof.Gen.Rotated2ReferenceIdeal.Read
public import proofs.«01_k».proof.Defs
public import Idealize.ShloMosaic.Lib.Pipeline.ValueKit
public import Idealize.ShloMosaic.Lib.StableHlo.RunRead
public import Idealize.ShloMosaic.Lib.Pointwise

@[expose] public section

set_option maxRecDepth 16384
set_option maxHeartbeats 1000000

noncomputable section

namespace Cert.Rotated2Ideal.Value

open Cert.Rotated2Ideal Cert.Rotated2Ideal.Gen
open Idealize.ShloMosaic Idealize.ShloMosaic.TcCoe Idealize.SL.Sem Idealize.ShloMosaic.Tactic
open Idealize.ShloMosaic.Pipeline (Dat)

/-- The column `s` lanes further round the head of 128 that column `j` lies in. -/
def near {n : Nat} (s : Nat) (j : Fin (128 * n)) : Fin (128 * n) := ⟨128 * (j.val / 128) + (j.val + s) % 128, by omega⟩

/-- The lane of a column in its head. -/
def lane {n : Nat} (j : Fin n) : Fin 128 := ⟨j.val % 128, by omega⟩

/-! ## One block -/

/-- A row of a block against a column of a block. -/
def acc {p : Nat} (x : Vec Ideal ⟨2, ![p, 1024]⟩ .bf16) (y : Vec Ideal S1024x1024 .bf16) (r : Fin p) (j : Fin 1024) : EReal :=
  ∑ k : Fin 1024, (x (ix2 r k) : EReal) * y (ix2 k j)

/-- The product of a block of rows with a block of columns, each head with its three tables. -/
def block (x : Vec Ideal S512x1024 .bf16) (y : Vec Ideal S1024x1024 .bf16) (C S N : Vec Ideal S512x128 .f32) : Vec Ideal S512x1024 .bf16 :=
  fun i => acc x y (i 0) (i 1) * C (ix2 (i 0) (lane (i 1))) + acc x y (i 0) (near (n := 8) 112 (i 1)) * S (ix2 (i 0) (lane (i 1)))
    + acc x y (i 0) (near (n := 8) 16 (i 1)) * N (ix2 (i 0) (lane (i 1)))

/-- One head of 128 rows, as the kernel computes it. -/
def head (o : Nat) (hs : S128x1024.Slices ![0, o] S128x128) (y : Vec Ideal S1024x1024 .bf16) (x : Vec Ideal S128x1024 .bf16)
    (C S N : Vec Ideal S128x128 .f32) : FVec Ideal S128x128 .bf16 :=
  truncf .bf16 (addf (addf (mulf (extractStridedSlice S128x128 ![0, o] (k0_pay3 (F := Ideal) y x) hs) (k0_pay4 C))
      (mulf (dynamicRotate 1 16#32 none (extractStridedSlice S128x128 ![0, o] (k0_pay3 (F := Ideal) y x) hs) rotates_S128x128_d1) (k0_pay5 S)))
    (mulf (dynamicRotate 1 112#32 none (extractStridedSlice S128x128 ![0, o] (k0_pay3 (F := Ideal) y x) hs) rotates_S128x128_d1) (k0_pay6 N))) bitsLt_bf16_f32

theorem pay3_apply (y : Vec Ideal S1024x1024 .bf16) (x : Vec Ideal S128x1024 .bf16) (r : Fin 128) (j : Fin 1024) :
    k0_pay3 (F := Ideal) y x (ix2 r j) = acc x y r j := by
  pointwise [k0_pay3, k0_pay2, acc]

theorem head_apply (o : Nat) (hs : S128x1024.Slices ![0, o] S128x128) (ho : o + 128 ≤ 1024) (y : Vec Ideal S1024x1024 .bf16)
    (x : Vec Ideal S128x1024 .bf16) (C S N : Vec Ideal S128x128 .f32) (r d : Fin 128) :
    head o hs y x C S N (ix2 r d) = acc x y r ⟨o + d.val, by omega⟩ * C (ix2 r d) + acc x y r ⟨o + (d.val + 112) % 128, by omega⟩ * S (ix2 r d)
      + acc x y r ⟨o + (d.val + 16) % 128, by omega⟩ * N (ix2 r d) := by
  have e := fun j => pay3_apply y x r j
  unfold head
  generalize k0_pay3 (F := Ideal) y x = z at e
  simp only [← e]
  pointwise [k0_pay4, k0_pay5, k0_pay6]
  simp only [show d.val + 128 - 16 = d.val + 112 by omega, show d.val + 128 - 112 = d.val + 16 by omega]

/-- Where a head's piece lies it is the block's closed form. -/
theorem tile (x : Vec Ideal S512x1024 .bf16) (y : Vec Ideal S1024x1024 .bf16) (C S N : Vec Ideal S512x128 .f32)
    (a b o : Nat) (ho : o = 128 * b) (hb : b < 8) (hs : S128x1024.Slices ![0, o] S128x128)
    (inbX : ∀ k, (![a, 0] : Fin 2 → Nat) k + S128x1024.size k ≤ S512x1024.size k)
    (inbC : ∀ k, (![a, 0] : Fin 2 → Nat) k + S128x128.size k ≤ S512x128.size k) (r : Fin 512) (j : Fin 1024) :
    View.TileAt (Val := Elt Ideal) (S := S512x1024) (e := .bf16) (ix2 r j) ![a, o] S128x128.size
      (head o hs (View.ld (Val := Elt Ideal) (e' := .bf16) y r0_0) (View.ld (Val := Elt Ideal) (e' := .bf16) x (Rect.unit (s := S512x1024) ![a, 0] S128x1024.size inbX))
        (View.ld (Val := Elt Ideal) (e' := .f32) C (Rect.unit (s := S512x128) ![a, 0] S128x128.size inbC)) (View.ld (Val := Elt Ideal) (e' := .f32) S (Rect.unit (s := S512x128) ![a, 0] S128x128.size inbC))
        (View.ld (Val := Elt Ideal) (e' := .f32) N (Rect.unit (s := S512x128) ![a, 0] S128x128.size inbC))) (block x y C S N (ix2 r j)) := by
  intro i hi
  obtain ⟨q, d, rfl⟩ : ∃ (q d : Fin 128), i = ix2 q d := ⟨i 0, i 1, eq_ix2 i⟩
  have h0 : r.val = a + q.val := hi 0
  have h1 : j.val = o + d.val := hi 1
  refine (head_apply o hs (by omega) _ _ _ _ _ q d).trans ?_
  have eA : ∀ (u v : Fin 1024), u.val = v.val → acc (View.ld (Val := Elt Ideal) (e' := .bf16) x (Rect.unit (s := S512x1024) ![a, 0] S128x1024.size inbX)) (View.ld (Val := Elt Ideal) (e' := .bf16) y r0_0) q u = acc x y r v := by
    intro u v huv
    refine Finset.sum_congr rfl fun k _ => congrArg₂ (fun a b : EReal => a * b) (View.ld_unit_apply_of x _ _ inbX _ (ix2 r k) fun c => ?_)
      (View.ld_unit_apply_of y _ _ _ _ (ix2 k v) fun c => ?_)
    · fin_cases c
      · exact h0
      · show k.val = 0 + k.val; omega
    · fin_cases c
      · show k.val = 0 + k.val; omega
      · show v.val = 0 + u.val; omega
  have eT : ∀ T : Vec Ideal S512x128 .f32, View.ld (Val := Elt Ideal) (e' := .f32) T (Rect.unit (s := S512x128) ![a, 0] S128x128.size inbC) (ix2 q d) = T (ix2 r (lane j)) := by
    intro T
    refine View.ld_unit_apply_of T _ _ inbC _ (ix2 r (lane j)) fun c => ?_
    fin_cases c
    · exact h0
    · show j.val % 128 = 0 + d.val; omega
  refine congrArg₂ (fun a b : EReal => a + b) (congrArg₂ (fun a b : EReal => a + b) (congrArg₂ (fun a b : EReal => a * b) (eA _ _ ?_) (eT C))
    (congrArg₂ (fun a b : EReal => a * b) (eA _ _ ?_) (eT S))) (congrArg₂ (fun a b : EReal => a * b) (eA _ _ ?_) (eT N))
  · show o + d.val = j.val; omega
  · show o + (d.val + 112) % 128 = 128 * (j.val / 128) + (j.val + 112) % 128; omega
  · show o + (d.val + 16) % 128 = 128 * (j.val / 128) + (j.val + 16) % 128; omega

/-- What the body leaves in the block. -/
theorem out_eq (x : Vec Ideal S512x1024 .bf16) (y : Vec Ideal S1024x1024 .bf16) (C S N : Vec Ideal S512x128 .f32) :
    out0_5 (F := Ideal) x y C S N = block x y C S N := by
  funext i
  obtain ⟨r, j, rfl⟩ : ∃ (r : Fin 512) (j : Fin 1024), i = ix2 r j := ⟨i 0, i 1, eq_ix2 i⟩
  unfold out0_5
  refine View.canon_eq_of_allAt _ _ _ (cover0_5 _ _ _ _ _ _ _ _ _ _ _ _ _ _ _ _ _ _ _ _ _ _ _ _ _ _ _ _ _ _ _ _ _) ?_
  refine View.allAt_cons_unit _ _ _ _ _ (tile x y C S N 384 7 896 rfl (by omega) slices_S128x1024_o0_896_S128x128 _ _ r j) ?_
  refine View.allAt_cons_unit _ _ _ _ _ (tile x y C S N 384 6 768 rfl (by omega) slices_S128x1024_o0_768_S128x128 _ _ r j) ?_
  refine View.allAt_cons_unit _ _ _ _ _ (tile x y C S N 384 5 640 rfl (by omega) slices_S128x1024_o0_640_S128x128 _ _ r j) ?_
  refine View.allAt_cons_unit _ _ _ _ _ (tile x y C S N 384 4 512 rfl (by omega) slices_S128x1024_o0_512_S128x128 _ _ r j) ?_
  refine View.allAt_cons_unit _ _ _ _ _ (tile x y C S N 384 3 384 rfl (by omega) slices_S128x1024_o0_384_S128x128 _ _ r j) ?_
  refine View.allAt_cons_unit _ _ _ _ _ (tile x y C S N 384 2 256 rfl (by omega) slices_S128x1024_o0_256_S128x128 _ _ r j) ?_
  refine View.allAt_cons_unit _ _ _ _ _ (tile x y C S N 384 1 128 rfl (by omega) slices_S128x1024_o0_128_S128x128 _ _ r j) ?_
  refine View.allAt_cons_unit _ _ _ _ _ (tile x y C S N 384 0 0 rfl (by omega) slices_S128x1024_o0_0_S128x128 _ _ r j) ?_
  refine View.allAt_cons_unit _ _ _ _ _ (tile x y C S N 256 7 896 rfl (by omega) slices_S128x1024_o0_896_S128x128 _ _ r j) ?_
  refine View.allAt_cons_unit _ _ _ _ _ (tile x y C S N 256 6 768 rfl (by omega) slices_S128x1024_o0_768_S128x128 _ _ r j) ?_
  refine View.allAt_cons_unit _ _ _ _ _ (tile x y C S N 256 5 640 rfl (by omega) slices_S128x1024_o0_640_S128x128 _ _ r j) ?_
  refine View.allAt_cons_unit _ _ _ _ _ (tile x y C S N 256 4 512 rfl (by omega) slices_S128x1024_o0_512_S128x128 _ _ r j) ?_
  refine View.allAt_cons_unit _ _ _ _ _ (tile x y C S N 256 3 384 rfl (by omega) slices_S128x1024_o0_384_S128x128 _ _ r j) ?_
  refine View.allAt_cons_unit _ _ _ _ _ (tile x y C S N 256 2 256 rfl (by omega) slices_S128x1024_o0_256_S128x128 _ _ r j) ?_
  refine View.allAt_cons_unit _ _ _ _ _ (tile x y C S N 256 1 128 rfl (by omega) slices_S128x1024_o0_128_S128x128 _ _ r j) ?_
  refine View.allAt_cons_unit _ _ _ _ _ (tile x y C S N 256 0 0 rfl (by omega) slices_S128x1024_o0_0_S128x128 _ _ r j) ?_
  refine View.allAt_cons_unit _ _ _ _ _ (tile x y C S N 128 7 896 rfl (by omega) slices_S128x1024_o0_896_S128x128 _ _ r j) ?_
  refine View.allAt_cons_unit _ _ _ _ _ (tile x y C S N 128 6 768 rfl (by omega) slices_S128x1024_o0_768_S128x128 _ _ r j) ?_
  refine View.allAt_cons_unit _ _ _ _ _ (tile x y C S N 128 5 640 rfl (by omega) slices_S128x1024_o0_640_S128x128 _ _ r j) ?_
  refine View.allAt_cons_unit _ _ _ _ _ (tile x y C S N 128 4 512 rfl (by omega) slices_S128x1024_o0_512_S128x128 _ _ r j) ?_
  refine View.allAt_cons_unit _ _ _ _ _ (tile x y C S N 128 3 384 rfl (by omega) slices_S128x1024_o0_384_S128x128 _ _ r j) ?_
  refine View.allAt_cons_unit _ _ _ _ _ (tile x y C S N 128 2 256 rfl (by omega) slices_S128x1024_o0_256_S128x128 _ _ r j) ?_
  refine View.allAt_cons_unit _ _ _ _ _ (tile x y C S N 128 1 128 rfl (by omega) slices_S128x1024_o0_128_S128x128 _ _ r j) ?_
  refine View.allAt_cons_unit _ _ _ _ _ (tile x y C S N 128 0 0 rfl (by omega) slices_S128x1024_o0_0_S128x128 _ _ r j) ?_
  refine View.allAt_cons_unit _ _ _ _ _ (tile x y C S N 0 7 896 rfl (by omega) slices_S128x1024_o0_896_S128x128 _ _ r j) ?_
  refine View.allAt_cons_unit _ _ _ _ _ (tile x y C S N 0 6 768 rfl (by omega) slices_S128x1024_o0_768_S128x128 _ _ r j) ?_
  refine View.allAt_cons_unit _ _ _ _ _ (tile x y C S N 0 5 640 rfl (by omega) slices_S128x1024_o0_640_S128x128 _ _ r j) ?_
  refine View.allAt_cons_unit _ _ _ _ _ (tile x y C S N 0 4 512 rfl (by omega) slices_S128x1024_o0_512_S128x128 _ _ r j) ?_
  refine View.allAt_cons_unit _ _ _ _ _ (tile x y C S N 0 3 384 rfl (by omega) slices_S128x1024_o0_384_S128x128 _ _ r j) ?_
  refine View.allAt_cons_unit _ _ _ _ _ (tile x y C S N 0 2 256 rfl (by omega) slices_S128x1024_o0_256_S128x128 _ _ r j) ?_
  refine View.allAt_cons_unit _ _ _ _ _ (tile x y C S N 0 1 128 rfl (by omega) slices_S128x1024_o0_128_S128x128 _ _ r j) ?_
  refine View.allAt_cons_unit _ _ _ _ _ (tile x y C S N 0 0 0 rfl (by omega) slices_S128x1024_o0_0_S128x128 _ _ r j) ?_
  exact View.allAt_nil _ _

/-! ## The whole array -/

/-- The frequencies: one over 500000 to the powers 0, 1/16, … -/
def invf : FVec Ideal S16 .f32 :=
  Host.divf (broadcastInDim S16 ![] bcast_S_S16 (constant S_ .f32 0x3F800000#32))
    (Host.powf (broadcastInDim S16 ![] bcast_S_S16 (constant S_ .f32 0x48F42400#32))
      (mulf (sitofp .f32 (iotaInDim S16 32 0)) (broadcastInDim S16 ![] bcast_S_S16 (constant S_ .f32 0x3D800000#32))))

/-- The angle of a position, at a frequency. -/
def ang (pos : IVec S8192 32) (a : Fin 8192) (n : Fin 16) : EReal := (FloatOps.sitofp FTy.f32 (pos (ix1 a)) : Ideal .f32) * invf (ix1 n)

/-- The tables' angles, on the lanes of a head. -/
def lang (pos : IVec S8192 32) : FVec Ideal S8192x128 .f32 :=
  mulf (broadcastInDim S8192x128 ![0, 1] bcast_S8192x1_S8192x128_0_1 (shapeCast S8192x1 (sitofp .f32 pos : FVec Ideal S8192 .f32) shapeCasts_S8192_S8192x1))
    (broadcastInDim S8192x128 ![0, 1] bcast_S1x128_S8192x128_0_1 (shapeCast S1x128
      (concatenate S128 0 [⟨S16, invf⟩, ⟨S16, invf⟩, ⟨S96, broadcastInDim S96 ![] bcast_S_S96 (constant S_ .f32 0x00000000#32 : FVec Ideal S_ .f32)⟩] concatenates_S16_S16_S96_S128_d0) shapeCasts_S128_S1x128))
def inRange (a b : BitVec 32) : IVec S8192x128 1 :=
  andi (cmpi .sge (iotaInDim S8192x128 32 1) (broadcastInDim S8192x128 ![] bcast_S_S8192x128 (constantI S_ 32 a)))
    (cmpi .slt (iotaInDim S8192x128 32 1) (broadcastInDim S8192x128 ![] bcast_S_S8192x128 (constantI S_ 32 b)))
def tabOf (c : IVec S8192x128 1) (x : FVec Ideal S8192x128 .f32) (w : BitVec 32) : FVec Ideal S8192x128 .f32 :=
  select c x (broadcastInDim S8192x128 ![] bcast_S_S8192x128 (constant S_ .f32 w : FVec Ideal S_ .f32))
def tabC (pos : IVec S8192 32) := tabOf (ori (inRange 0#32 16#32) (inRange 16#32 32#32)) (Host.cos (lang pos)) 0x3F800000#32
def tabS (pos : IVec S8192 32) := tabOf (inRange 16#32 32#32) (Host.sin (lang pos)) 0x00000000#32
def tabN (pos : IVec S8192 32) := tabOf (inRange 0#32 16#32) (Host.negf (Host.sin (lang pos))) 0x00000000#32

theorem in1 (d : Fin 128) : IntOp.andi (IntOp.cmpi CmpIPredicate.sge (BitVec.ofNat 32 d.val) 0#32)
    (IntOp.cmpi CmpIPredicate.slt (BitVec.ofNat 32 d.val) 16#32) = BitVec.ofBool (decide (d.val < 16)) := by
  revert d; decide

theorem in2 (d : Fin 128) : IntOp.andi (IntOp.cmpi CmpIPredicate.sge (BitVec.ofNat 32 d.val) 16#32)
    (IntOp.cmpi CmpIPredicate.slt (BitVec.ofNat 32 d.val) 32#32) = BitVec.ofBool (decide (16 ≤ d.val ∧ d.val < 32)) := by
  revert d; decide

theorem in12 (d : Fin 128) : IntOp.ori (BitVec.ofBool (decide (d.val < 16))) (BitVec.ofBool (decide (16 ≤ d.val ∧ d.val < 32)))
    = BitVec.ofBool (decide (d.val < 32)) := by
  revert d; decide

theorem select_ofBool {α : Type} (b : Bool) (x y : α) : Scalar.select (BitVec.ofBool b) x y = if b = true then x else y := by
  cases b <;> rfl

/-- The frequency of a lane. -/
def freq (d : Fin 128) : Fin 16 := ⟨d.val % 16, by omega⟩

theorem lang_at (pos : IVec S8192 32) (a : Fin 8192) (d : Fin 128) (hd : d.val < 32) : lang pos (ix2 a d) = ang pos a (freq d) := by
  unfold lang ang
  generalize invf = v
  pointwise []
  by_cases h : d.val < 16
  · rw [dif_pos h, show freq d = ⟨d.val, h⟩ from Fin.ext (Nat.mod_eq_of_lt h)]
  · rw [dif_neg h, dif_pos (by omega), show freq d = ⟨d.val - 16, by omega⟩ from Fin.ext (show d.val % 16 = d.val - 16 by omega)]

theorem tabC_at (pos : IVec S8192 32) (a : Fin 8192) (d : Fin 128) :
    tabC pos (ix2 a d) = if d.val < 32 then Ideal.cos (ang pos a (freq d)) else 1 := by
  have e := lang_at pos a d
  unfold tabC
  generalize lang pos = y at e
  pointwise [tabOf, inRange]
  rw [in1, in2, in12, select_ofBool]
  by_cases h : d.val < 32
  · rw [if_pos (by simpa using h), if_pos h, e h]
  · rw [if_neg (by simpa using h), if_neg h]

theorem tabS_at (pos : IVec S8192 32) (a : Fin 8192) (d : Fin 128) :
    tabS pos (ix2 a d) = if 16 ≤ d.val ∧ d.val < 32 then Ideal.sin (ang pos a (freq d)) else 0 := by
  have e := lang_at pos a d
  unfold tabS
  generalize lang pos = y at e
  pointwise [tabOf, inRange]
  rw [in2, select_ofBool]
  by_cases h : 16 ≤ d.val ∧ d.val < 32
  · rw [if_pos (by simpa using h), if_pos h, e h.2]
  · rw [if_neg (by simpa using h), if_neg h]

theorem tabN_at (pos : IVec S8192 32) (a : Fin 8192) (d : Fin 128) :
    tabN pos (ix2 a d) = if d.val < 16 then - Ideal.sin (ang pos a (freq d)) else 0 := by
  have e := lang_at pos a d
  unfold tabN
  generalize lang pos = y at e
  pointwise [tabOf, inRange]
  rw [in1, select_ofBool]
  by_cases h : d.val < 16
  · rw [if_pos (by simpa using h), if_pos h, e (by omega)]
  · rw [if_neg (by simpa using h), if_neg h]

/-- The column of the weights that column `j` of the result takes. -/
def col (j : Fin 2048) : Fin 10240 := ⟨6144 + j.val, by omega⟩

/-- A row of the input against a column of the weights. -/
def prod (h : FVec Ideal S8192x1024 .f32) (w : FVec Ideal S1024x10240 .f32) (a : Fin 8192) (j : Fin 2048) : EReal :=
  ∑ k : Fin 1024, h (ix2 a k) * w (ix2 k (col j))

/-- The product, the first 32 lanes of each head turned by the row's position. -/
def turned (h : FVec Ideal S8192x1024 .f32) (w : FVec Ideal S1024x10240 .f32) (pos : IVec S8192 32) : FVec Ideal S8192x2048 .bf16 :=
  fun i =>
    if (lane (i 1)).val < 16 then
      prod h w (i 0) (i 1) * Ideal.cos (ang pos (i 0) (freq (lane (i 1)))) - prod h w (i 0) (near (n := 16) 16 (i 1)) * Ideal.sin (ang pos (i 0) (freq (lane (i 1))))
    else if (lane (i 1)).val < 32 then
      prod h w (i 0) (i 1) * Ideal.cos (ang pos (i 0) (freq (lane (i 1)))) + prod h w (i 0) (near (n := 16) 112 (i 1)) * Ideal.sin (ang pos (i 0) (freq (lane (i 1))))
    else prod h w (i 0) (i 1)

/-- The tables turn the first 32 lanes and leave the others. -/
theorem turned_tables (h : FVec Ideal S8192x1024 .f32) (w : FVec Ideal S1024x10240 .f32) (pos : IVec S8192 32) (a : Fin 8192) (j : Fin 2048) :
    prod h w a j * tabC pos (ix2 a (lane j)) + prod h w a (near (n := 16) 112 j) * tabS pos (ix2 a (lane j)) + prod h w a (near (n := 16) 16 j) * tabN pos (ix2 a (lane j))
      = turned h w pos (ix2 a j) := by
  rw [tabC_at, tabS_at, tabN_at]
  show _ = if (lane j).val < 16 then
      prod h w a j * Ideal.cos (ang pos a (freq (lane j))) - prod h w a (near (n := 16) 16 j) * Ideal.sin (ang pos a (freq (lane j)))
    else if (lane j).val < 32 then
      prod h w a j * Ideal.cos (ang pos a (freq (lane j))) + prod h w a (near (n := 16) 112 j) * Ideal.sin (ang pos a (freq (lane j)))
    else prod h w a j
  by_cases h1 : (lane j).val < 16
  · rw [if_pos (by omega), if_neg (by omega), if_pos h1, if_pos h1, mul_zero, add_zero, mul_neg, sub_eq_add_neg]
  · by_cases h2 : (lane j).val < 32
    · rw [if_pos h2, if_pos (by omega), if_neg h1, if_neg h1, if_pos h2, mul_zero, add_zero]
    · rw [if_neg h2, if_neg (by omega), if_neg h1, if_neg h1, if_neg h2, mul_zero, mul_zero, mul_one, add_zero, add_zero]

variable (m : (l : Loc nD τ sig) → Buf (Elt Ideal) l) (ρ : Dev nD → PrngReg)

theorem idx0 : ∀ t : Fin cfg0.N, win0_0.index t 0 = t.val % 16 ∧ win0_0.index t 1 = 0 := by decide +kernel
theorem idx1 : ∀ t : Fin cfg0.N, win0_1.index t 0 = 0 ∧ win0_1.index t 1 = t.val / 16 + 6 := by decide +kernel
theorem idx2 : ∀ t : Fin cfg0.N, win0_2.index t 0 = t.val % 16 ∧ win0_2.index t 1 = 0 := by decide +kernel
theorem idx3 : ∀ t : Fin cfg0.N, win0_3.index t 0 = t.val % 16 ∧ win0_3.index t 1 = 0 := by decide +kernel
theorem idx4 : ∀ t : Fin cfg0.N, win0_4.index t 0 = t.val % 16 ∧ win0_4.index t 1 = 0 := by decide +kernel
theorem idx5 : ∀ t : Fin cfg0.N, win0_5.index t 0 = t.val % 16 ∧ win0_5.index t 1 = t.val / 16 := by decide +kernel

theorem entry_h (c : Dev nD) : V m c (Pipeline.arrRef spec0 0) = m ((c : Thread nD τ).loc main_arg0) := by
  show V m c main_v0 = _
  unfold_abbrev_sides
  after_reads_simp [Matrix.cons_val_zero, Matrix.cons_val_one, Matrix.cons_val]
  rfl
theorem entry_w (c : Dev nD) : V m c (Pipeline.arrRef spec0 1) = m ((c : Thread nD τ).loc main_arg1) := by
  show V m c main_v1 = _
  unfold_abbrev_sides
  after_reads_simp [Matrix.cons_val_zero, Matrix.cons_val_one, Matrix.cons_val]
  rfl
theorem entry_C (c : Dev nD) : V m c (Pipeline.arrRef spec0 2) = tabC (m ((c : Thread nD τ).loc main_arg2)) := by
  show V m c main_v31 = _
  unfold_abbrev_sides
  after_reads_simp [Matrix.cons_val_zero, Matrix.cons_val_one, Matrix.cons_val]
  rfl
theorem entry_S (c : Dev nD) : V m c (Pipeline.arrRef spec0 3) = tabS (m ((c : Thread nD τ).loc main_arg2)) := by
  show V m c main_v32 = _
  unfold_abbrev_sides
  after_reads_simp [Matrix.cons_val_zero, Matrix.cons_val_one, Matrix.cons_val]
  rfl
theorem entry_N (c : Dev nD) : V m c (Pipeline.arrRef spec0 4) = tabN (m ((c : Thread nD τ).loc main_arg2)) := by
  show V m c main_v34 = _
  unfold_abbrev_sides
  after_reads_simp [Matrix.cons_val_zero, Matrix.cons_val_one, Matrix.cons_val]
  rfl

/-- Row `r` of grid point `t`'s block, and its column `j`. -/
def row (t : Fin cfg0.N) (r : Fin 512) : Fin 8192 := ⟨512 * (t.val % 16) + r.val, by omega⟩
def at1 (t : Fin cfg0.N) (j : Fin 1024) : Fin 2048 := ⟨1024 * (t.val / 16) + j.val, by have := lt_of_lt_of_eq t.isLt N_0; omega⟩

/-- A block of the input is 512 of its rows. -/
theorem place0 (G : FVec Ideal S8192x1024 .bf16) (t : Fin cfg0.N) (r : Fin 512) (k : Fin 1024) :
    ((cfg0.win 0).blk t).view.read (Elt Ideal) G (ix2 r k) = G (ix2 (row t r) k) := by
  refine congrArg G (funext fun a => Fin.ext ?_)
  refine (win0_0.rect_emb_val t (ix2 r k) a).trans ?_
  fin_cases a
  · refine (congrArg (· * 512 + r.val) (idx0 t).1).trans ?_
    show t.val % 16 * 512 + r.val = 512 * (t.val % 16) + r.val
    omega
  · refine (congrArg (· * 1024 + k.val) (idx0 t).2).trans ?_
    show 0 * 1024 + k.val = k.val
    omega

theorem blk_h (c : Dev nD) (t : Fin cfg0.N) (r : Fin 512) (k : Fin 1024) :
    iblk m c 0 t (ix2 r k) = m ((c : Thread nD τ).loc main_arg0) (ix2 (row t r) k) := by
  unfold iblk
  exact (place0 (V m c (Pipeline.arrRef spec0 0)) t r k).trans (congrFun (entry_h m c) _)

/-- A block of the weights is 1024 of the columns. -/
theorem place1 (G : FVec Ideal S1024x10240 .bf16) (t : Fin cfg0.N) (k : Fin 1024) (j : Fin 1024) :
    ((cfg0.win 1).blk t).view.read (Elt Ideal) G (ix2 k j) = G (ix2 k (col (at1 t j))) := by
  refine congrArg G (funext fun a => Fin.ext ?_)
  refine (win0_1.rect_emb_val t (ix2 k j) a).trans ?_
  fin_cases a
  · refine (congrArg (· * 1024 + k.val) (idx1 t).1).trans ?_
    show 0 * 1024 + k.val = k.val
    omega
  · refine (congrArg (· * 1024 + j.val) (idx1 t).2).trans ?_
    show (t.val / 16 + 6) * 1024 + j.val = 6144 + (1024 * (t.val / 16) + j.val)
    omega

theorem blk_w (c : Dev nD) (t : Fin cfg0.N) (k : Fin 1024) (j : Fin 1024) :
    iblk m c 1 t (ix2 k j) = m ((c : Thread nD τ).loc main_arg1) (ix2 k (col (at1 t j))) := by
  unfold iblk
  exact (place1 (V m c (Pipeline.arrRef spec0 1)) t k j).trans (congrFun (entry_w m c) _)

/-- A block of a table is 512 of its rows. -/
theorem place2 (G : FVec Ideal S8192x128 .f32) (t : Fin cfg0.N) (r : Fin 512) (d : Fin 128) :
    ((cfg0.win 2).blk t).view.read (Elt Ideal) G (ix2 r d) = G (ix2 (row t r) d) := by
  refine congrArg G (funext fun a => Fin.ext ?_)
  refine (win0_2.rect_emb_val t (ix2 r d) a).trans ?_
  fin_cases a
  · refine (congrArg (· * 512 + r.val) (idx2 t).1).trans ?_
    show t.val % 16 * 512 + r.val = 512 * (t.val % 16) + r.val
    omega
  · refine (congrArg (· * 128 + d.val) (idx2 t).2).trans ?_
    show 0 * 128 + d.val = d.val
    omega

theorem place3 (G : FVec Ideal S8192x128 .f32) (t : Fin cfg0.N) (r : Fin 512) (d : Fin 128) :
    ((cfg0.win 3).blk t).view.read (Elt Ideal) G (ix2 r d) = G (ix2 (row t r) d) := by
  refine congrArg G (funext fun a => Fin.ext ?_)
  refine (win0_3.rect_emb_val t (ix2 r d) a).trans ?_
  fin_cases a
  · refine (congrArg (· * 512 + r.val) (idx3 t).1).trans ?_
    show t.val % 16 * 512 + r.val = 512 * (t.val % 16) + r.val
    omega
  · refine (congrArg (· * 128 + d.val) (idx3 t).2).trans ?_
    show 0 * 128 + d.val = d.val
    omega

theorem place4 (G : FVec Ideal S8192x128 .f32) (t : Fin cfg0.N) (r : Fin 512) (d : Fin 128) :
    ((cfg0.win 4).blk t).view.read (Elt Ideal) G (ix2 r d) = G (ix2 (row t r) d) := by
  refine congrArg G (funext fun a => Fin.ext ?_)
  refine (win0_4.rect_emb_val t (ix2 r d) a).trans ?_
  fin_cases a
  · refine (congrArg (· * 512 + r.val) (idx4 t).1).trans ?_
    show t.val % 16 * 512 + r.val = 512 * (t.val % 16) + r.val
    omega
  · refine (congrArg (· * 128 + d.val) (idx4 t).2).trans ?_
    show 0 * 128 + d.val = d.val
    omega

theorem blk_C (c : Dev nD) (t : Fin cfg0.N) (r : Fin 512) (d : Fin 128) :
    iblk m c 2 t (ix2 r d) = tabC (m ((c : Thread nD τ).loc main_arg2)) (ix2 (row t r) d) := by
  unfold iblk
  exact (place2 (V m c (Pipeline.arrRef spec0 2)) t r d).trans (congrFun (entry_C m c) _)
theorem blk_S (c : Dev nD) (t : Fin cfg0.N) (r : Fin 512) (d : Fin 128) :
    iblk m c 3 t (ix2 r d) = tabS (m ((c : Thread nD τ).loc main_arg2)) (ix2 (row t r) d) := by
  unfold iblk
  exact (place3 (V m c (Pipeline.arrRef spec0 3)) t r d).trans (congrFun (entry_S m c) _)
theorem blk_N (c : Dev nD) (t : Fin cfg0.N) (r : Fin 512) (d : Fin 128) :
    iblk m c 4 t (ix2 r d) = tabN (m ((c : Thread nD τ).loc main_arg2)) (ix2 (row t r) d) := by
  unfold iblk
  exact (place4 (V m c (Pipeline.arrRef spec0 4)) t r d).trans (congrFun (entry_N m c) _)

/-- A block of the result is 512 rows and 1024 columns. -/
theorem place5 (t : Fin cfg0.N) (r : Fin 512) (j : Fin 1024) :
    (((View.whole main_v35).slice (win0_5.rect t)).emb (ix2 r j) : S8192x2048.Idx) = ix2 (row t r) (at1 t j) := by
  refine funext fun a => Fin.ext ?_
  refine (win0_5.rect_emb_val t (ix2 r j) a).trans ?_
  fin_cases a
  · refine (congrArg (· * 512 + r.val) (idx5 t).1).trans ?_
    show t.val % 16 * 512 + r.val = 512 * (t.val % 16) + r.val
    omega
  · refine (congrArg (· * 1024 + j.val) (idx5 t).2).trans ?_
    show t.val / 16 * 1024 + j.val = 1024 * (t.val / 16) + j.val
    omega

theorem blk_acc (c : Dev nD) (t : Fin cfg0.N) (r : Fin 512) (j : Fin 1024) (v : Fin 2048) (hv : at1 t j = v) :
    acc (p := 512) (iblk m c 0 t) (iblk m c 1 t) r j = prod (m ((c : Thread nD τ).loc main_arg0)) (m ((c : Thread nD τ).loc main_arg1)) (row t r) v := by
  subst hv
  exact Finset.sum_congr rfl fun k _ => congrArg₂ (fun a b : EReal => a * b) (blk_h m c t r k) (blk_w m c t k j)

theorem at1_near (t : Fin cfg0.N) (s : Nat) (j : Fin 1024) : at1 t (near (n := 8) s j) = near (n := 16) s (at1 t j) :=
  Fin.ext (show 1024 * (t.val / 16) + (128 * (j.val / 128) + (j.val + s) % 128) = 128 * ((1024 * (t.val / 16) + j.val) / 128) + (1024 * (t.val / 16) + j.val + s) % 128 by omega)

theorem lane_at1 (t : Fin cfg0.N) (j : Fin 1024) : lane j = lane (at1 t j) :=
  Fin.ext (show j.val % 128 = (1024 * (t.val / 16) + j.val) % 128 by omega)

/-- The kernel's result array. -/
theorem result (c : Dev nD) : (dats m 0 c).arrAt 5 cfg0.N = turned (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, out_eq]
  obtain ⟨r, j, rfl⟩ : ∃ (r : Fin 512) (j : Fin 1024), y = ix2 r j := ⟨y 0, y 1, eq_ix2 y⟩
  rw [place5 t r j]
  refine Eq.trans ?_ (turned_tables _ _ _ (row t r) (at1 t j))
  rw [← lane_at1 t j]
  exact congrArg₂ (fun a b : EReal => a + b) (congrArg₂ (fun a b : EReal => a + b)
    (congrArg₂ (fun a b : EReal => a * b) (blk_acc m c t r j _ rfl) (blk_C m c t r (lane j)))
    (congrArg₂ (fun a b : EReal => a * b) (blk_acc m c t r _ _ (at1_near t 112 j)) (blk_S m c t r (lane j))))
    (congrArg₂ (fun a b : EReal => a * b) (blk_acc m c t r _ _ (at1_near t 16 j)) (blk_N m c t r (lane j)))

/-- The run of the kernel ends with the turned product. -/
theorem run_turned : θ_run defs (onTc (τ := τ) (main (F := Ideal))) ⟨m, fun _ => 0, ρ⟩ fun r => ∀ c : Dev nD,
      r.2.mem ((c : Thread nD τ).loc main_v35) = turned (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (run_blocks m ρ)

/-! ## The reference -/

open Cert.Rotated2ReferenceIdeal.Read

theorem ref_prod (h : FVec Ideal S8192x1024 .f32) (w : FVec Ideal S1024x10240 .f32) (a : Fin 8192) (j : Fin 2048) :
    val_main_v1 (F := Ideal) h w (ix2 a j) = prod h w a j := by
  refine (val_main_v1_apply h w (ix2 a j)).trans (Finset.sum_congr rfl fun k _ => ?_)
  refine congrArg₂ (fun a b : EReal => a * b) (congrArg h (eq_ix2 _)) ((val_main_v0_apply (F := Ideal) w _).trans (congrArg w ?_))
  refine funext fun x => Fin.ext ?_
  fin_cases x
  · rfl
  · rfl

/-- A lane of a head as a column. -/
def column (b : Fin 16) (d : Fin 128) : Fin 2048 := ⟨128 * b.val + d.val, by omega⟩

/-- The first and the second half of a head's turned lanes. -/
def lane0 (n : Fin 16) : Fin 128 := ⟨n.val, by omega⟩
def lane16 (n : Fin 16) : Fin 128 := ⟨16 + n.val, by omega⟩

theorem ref_head (h : FVec Ideal S8192x1024 .f32) (w : FVec Ideal S1024x10240 .f32) (a : Fin 8192) (b : Fin 16) (d : Fin 128) :
    val_main_v2 (F := Ideal) h w (ix4 0 a b d) = prod h w a (column b d) := by
  refine Eq.trans ?_ (ref_prod h w a (column b d))
  unfold val_main_v2
  generalize val_main_v1 (F := Ideal) h w = y
  pointwise [column]
  exact congrArg y (congrArg (ix2 a) (Fin.ext (show b.val * 128 + d.val = 128 * b.val + d.val by omega)))

theorem ref_ang (pos : IVec S8192 32) (a : Fin 8192) (n : Fin 16) : val_main_v17 (F := Ideal) pos (ix3 0 a n) = ang pos a n := by
  have e : val_main_v11 (F := Ideal) = invf := rfl
  unfold val_main_v17 val_main_v16 val_main_v14
  rw [e]
  unfold ang
  generalize invf = v
  pointwise [val_main_v15, val_main_v13, val_main_v12, val_main_v3]

theorem ref_lo (h : FVec Ideal S8192x1024 .f32) (w : FVec Ideal S1024x10240 .f32) (pos : IVec S8192 32) (a : Fin 8192) (b n : Fin 16) :
    val_main_v36 (F := Ideal) h w pos (ix4 0 a b (lane0 n))
      = prod h w a (column b (lane0 n)) * Ideal.cos (ang pos a n) - prod h w a (column b (lane16 n)) * Ideal.sin (ang pos a n) := by
  have e := ref_head h w a b
  have f := ref_ang pos a n
  simp only [← e, ← f]
  pointwise [lane0, lane16, val_main_v36, val_main_v34, val_main_v28, val_main_v25, val_main_v27, val_main_v24, val_main_v26, val_main_v22, val_main_v23, val_main_v19, val_main_v21, val_main_v18, val_main_v20, val_main_v4]
  rw [dif_pos (by omega)]

theorem ref_mid (h : FVec Ideal S8192x1024 .f32) (w : FVec Ideal S1024x10240 .f32) (pos : IVec S8192 32) (a : Fin 8192) (b n : Fin 16) :
    val_main_v36 (F := Ideal) h w pos (ix4 0 a b (lane16 n))
      = prod h w a (column b (lane16 n)) * Ideal.cos (ang pos a n) + prod h w a (column b (lane0 n)) * Ideal.sin (ang pos a n) := by
  have e := ref_head h w a b
  have f := ref_ang pos a n
  simp only [← e, ← f]
  pointwise [lane0, lane16, val_main_v36, val_main_v34, val_main_v33, val_main_v30, val_main_v32, val_main_v29, val_main_v31, val_main_v22, val_main_v23, val_main_v19, val_main_v21, val_main_v18, val_main_v20, val_main_v4]
  rw [dif_pos (by omega)]

theorem ref_hi (h : FVec Ideal S8192x1024 .f32) (w : FVec Ideal S1024x10240 .f32) (pos : IVec S8192 32) (a : Fin 8192) (b : Fin 16) (d : Fin 128) (hd : 32 ≤ d.val) :
    val_main_v36 (F := Ideal) h w pos (ix4 0 a b d) = prod h w a (column b d) := by
  rw [← ref_head]
  unfold val_main_v36
  generalize val_main_v34 (F := Ideal) h w pos = z
  pointwise [val_main_v35]
  rw [dif_neg (by omega)]
  congr 2
  exact Fin.ext (show 32 + (d.val - 32) = d.val by omega)

/-- A column's head and lane. -/
theorem split_column (j : Fin 2048) : ∃ (b : Fin 16) (d : Fin 128), j = column b d :=
  ⟨⟨j.val / 128, by omega⟩, ⟨j.val % 128, by omega⟩, Fin.ext (show j.val = 128 * (j.val / 128) + j.val % 128 by omega)⟩

theorem ref_flat (h : FVec Ideal S8192x1024 .f32) (w : FVec Ideal S1024x10240 .f32) (pos : IVec S8192 32) (a : Fin 8192) (b : Fin 16) (d : Fin 128) :
    val_main_v38 (F := Ideal) h w pos (ix2 a (column b d)) = val_main_v36 (F := Ideal) h w pos (ix4 0 a b d) := by
  unfold val_main_v38 val_main_v37
  generalize val_main_v36 (F := Ideal) h w pos = y
  pointwise [column]

/-- The reference is the same array. -/
theorem reference (h : FVec Ideal S8192x1024 .f32) (w : FVec Ideal S1024x10240 .f32) (pos : IVec S8192 32) :
    val_main_v38 (F := Ideal) h w pos = turned h w pos := by
  funext i
  obtain ⟨a, j, rfl⟩ : ∃ (a : Fin 8192) (j : Fin 2048), i = ix2 a j := ⟨i 0, i 1, eq_ix2 i⟩
  obtain ⟨b, d, rfl⟩ := split_column j
  refine (ref_flat h w pos a b d).trans ?_
  have hl : lane (column b d) = d := Fin.ext (show (128 * b.val + d.val) % 128 = d.val by omega)
  show _ = if (lane (column b d)).val < 16 then
      prod h w a (column b d) * Ideal.cos (ang pos a (freq (lane (column b d)))) - prod h w a (near (n := 16) 16 (column b d)) * Ideal.sin (ang pos a (freq (lane (column b d))))
    else if (lane (column b d)).val < 32 then
      prod h w a (column b d) * Ideal.cos (ang pos a (freq (lane (column b d)))) + prod h w a (near (n := 16) 112 (column b d)) * Ideal.sin (ang pos a (freq (lane (column b d))))
    else prod h w a (column b d)
  rw [hl]
  by_cases h1 : d.val < 16
  · rw [if_pos h1]
    obtain ⟨n, rfl⟩ : ∃ n : Fin 16, d = lane0 n := ⟨⟨d.val, h1⟩, rfl⟩
    refine (ref_lo h w pos a b n).trans ?_
    rw [show freq (lane0 n) = n from Fin.ext (Nat.mod_eq_of_lt n.isLt),
      show near (n := 16) 16 (column b (lane0 n)) = column b (lane16 n) from
        Fin.ext (show 128 * ((128 * b.val + n.val) / 128) + (128 * b.val + n.val + 16) % 128 = 128 * b.val + (16 + n.val) by omega)]
  · rw [if_neg h1]
    by_cases h2 : d.val < 32
    · rw [if_pos h2]
      obtain ⟨n, rfl⟩ : ∃ n : Fin 16, d = lane16 n := ⟨⟨d.val - 16, by omega⟩, Fin.ext (show d.val = 16 + (d.val - 16) by omega)⟩
      refine (ref_mid h w pos a b n).trans ?_
      rw [show freq (lane16 n) = n from Fin.ext (show (16 + n.val) % 16 = n.val by omega),
        show near (n := 16) 112 (column b (lane16 n)) = column b (lane0 n) from
          Fin.ext (show 128 * ((128 * b.val + (16 + n.val)) / 128) + (128 * b.val + (16 + n.val) + 112) % 128 = 128 * b.val + n.val by omega)]
    · rw [if_neg h2]
      exact ref_hi h w pos a b d (by omega)

theorem algebraic : Cert.algebraic_Rotated2Ideal_Rotated2ReferenceIdeal := by
  intro m g m' g' _ h
  refine ⟨fun c => turned (m ((c : Thread nD τ).loc main_arg0)) (m ((c : Thread nD τ).loc main_arg1)) (m ((c : Thread nD τ).loc main_arg2)), run_turned m g, ?_⟩
  refine (θ_run _ _ _).mono (fun r hr c => ⟨(hr c).1.trans ?_, (hr c).2⟩) (Cert.Rotated2ReferenceIdeal.Value.run m' g')
  refine (val_main_v38_eq (F := Ideal) _ _).trans ((reference _ _ _).trans ?_)
  rw [(h c).1, (h c).2.1, (h c).2.2]

end Cert.Rotated2Ideal.Value

end
-- ==== Proof.Products.Claims.lean ====
/- The claims about the products that compare nothing: every program ends with its arguments and counters as they were
   launched. -/
module

public import proofs.«01_k».proof.Defs
public import proofs.«01_k».proof.Proof.Gen.Group1Dx.Frame
public import proofs.«01_k».proof.Proof.Gen.Group2Dx.Frame
public import proofs.«01_k».proof.Proof.Gen.Group0Dx.Frame
public import proofs.«01_k».proof.Proof.Gen.GateDx.Frame
public import proofs.«01_k».proof.Proof.Gen.OutDx.Frame
public import proofs.«01_k».proof.Proof.Gen.OutDw.Frame
public import proofs.«01_k».proof.Proof.Gen.InDx.Frame
public import proofs.«01_k».proof.Proof.Gen.InDw.Frame
public import proofs.«01_k».proof.Proof.Gen.Group0Dw.Frame
public import proofs.«01_k».proof.Proof.Gen.Group1Dw.Frame
public import proofs.«01_k».proof.Proof.Gen.Group2Dw.Frame
public import proofs.«01_k».proof.Proof.Gen.GateDw.Frame
public import proofs.«01_k».proof.Proof.Gen.Gate.Frame
public import proofs.«01_k».proof.Proof.Gen.Value0.Frame
public import proofs.«01_k».proof.Proof.Gen.Value1.Frame
public import proofs.«01_k».proof.Proof.Gen.Value2.Frame
public import proofs.«01_k».proof.Proof.Gen.Out.Frame
public import proofs.«01_k».proof.Proof.Gen.In.Frame
public import proofs.«01_k».proof.Proof.Gen.Rotated0.Frame
public import proofs.«01_k».proof.Proof.Gen.Rotated1.Frame
public import proofs.«01_k».proof.Proof.Gen.Rotated2.Frame
public import proofs.«01_k».proof.Proof.Products.Group1Dx
public import proofs.«01_k».proof.Proof.Products.Group2Dx
public import proofs.«01_k».proof.Proof.Products.Group0Dx
public import proofs.«01_k».proof.Proof.Products.GateDx
public import proofs.«01_k».proof.Proof.Products.OutDx
public import proofs.«01_k».proof.Proof.Products.OutDw
public import proofs.«01_k».proof.Proof.Products.InDx
public import proofs.«01_k».proof.Proof.Products.InDw
public import proofs.«01_k».proof.Proof.Products.Group0Dw
public import proofs.«01_k».proof.Proof.Products.Group1Dw
public import proofs.«01_k».proof.Proof.Products.Group2Dw
public import proofs.«01_k».proof.Proof.Products.GateDw
public import proofs.«01_k».proof.Proof.Products.Gate
public import proofs.«01_k».proof.Proof.Products.Value0
public import proofs.«01_k».proof.Proof.Products.Value1
public import proofs.«01_k».proof.Proof.Products.Value2
public import proofs.«01_k».proof.Proof.Products.Out
public import proofs.«01_k».proof.Proof.Products.In
public import proofs.«01_k».proof.Proof.Products.Rotated0
public import proofs.«01_k».proof.Proof.Products.Rotated1
public import proofs.«01_k».proof.Proof.Products.Rotated2

@[expose] public section

set_option maxRecDepth 16384

noncomputable section

namespace Cert.Proof

open Idealize.ShloMosaic Idealize.SL.Sem

theorem frame_Group1DxIdeal : Cert.quiescent_Group1DxIdeal := fun m g _ => Cert.Group1DxIdeal.Gen.frame m g

theorem frame_Group1Dx : Cert.quiescent_Group1Dx := fun m g _ => Cert.Group1Dx.Gen.frame m g

theorem frame_Group1DxReference : Cert.quiescent_Group1DxReferenceIdeal :=
  fun m g _ => (θ_run _ _ _).mono (fun r h => ⟨fun c => (h c).2, sem_eq_zero_of_no_sems (by decide) r.2⟩) (Cert.Group1DxReferenceIdeal.Value.run m g)

theorem frame_Group2DxIdeal : Cert.quiescent_Group2DxIdeal := fun m g _ => Cert.Group2DxIdeal.Gen.frame m g

theorem frame_Group2Dx : Cert.quiescent_Group2Dx := fun m g _ => Cert.Group2Dx.Gen.frame m g

theorem frame_Group2DxReference : Cert.quiescent_Group2DxReferenceIdeal :=
  fun m g _ => (θ_run _ _ _).mono (fun r h => ⟨fun c => (h c).2, sem_eq_zero_of_no_sems (by decide) r.2⟩) (Cert.Group2DxReferenceIdeal.Value.run m g)

theorem frame_Group0DxIdeal : Cert.quiescent_Group0DxIdeal := fun m g _ => Cert.Group0DxIdeal.Gen.frame m g

theorem frame_Group0Dx : Cert.quiescent_Group0Dx := fun m g _ => Cert.Group0Dx.Gen.frame m g

theorem frame_Group0DxReference : Cert.quiescent_Group0DxReferenceIdeal :=
  fun m g _ => (θ_run _ _ _).mono (fun r h => ⟨fun c => (h c).2, sem_eq_zero_of_no_sems (by decide) r.2⟩) (Cert.Group0DxReferenceIdeal.Value.run m g)

theorem frame_GateDxIdeal : Cert.quiescent_GateDxIdeal := fun m g _ => Cert.GateDxIdeal.Gen.frame m g

theorem frame_GateDx : Cert.quiescent_GateDx := fun m g _ => Cert.GateDx.Gen.frame m g

theorem frame_GateDxReference : Cert.quiescent_GateDxReferenceIdeal :=
  fun m g _ => (θ_run _ _ _).mono (fun r h => ⟨fun c => (h c).2, sem_eq_zero_of_no_sems (by decide) r.2⟩) (Cert.GateDxReferenceIdeal.Value.run m g)

theorem frame_OutDxIdeal : Cert.quiescent_OutDxIdeal := fun m g _ => Cert.OutDxIdeal.Gen.frame m g

theorem frame_OutDx : Cert.quiescent_OutDx := fun m g _ => Cert.OutDx.Gen.frame m g

theorem frame_OutDxReference : Cert.quiescent_OutDxReferenceIdeal :=
  fun m g _ => (θ_run _ _ _).mono (fun r h => ⟨fun c => (h c).2, sem_eq_zero_of_no_sems (by decide) r.2⟩) (Cert.OutDxReferenceIdeal.Value.run m g)

theorem frame_OutDwIdeal : Cert.quiescent_OutDwIdeal := fun m g _ => Cert.OutDwIdeal.Gen.frame m g

theorem frame_OutDw : Cert.quiescent_OutDw := fun m g _ => Cert.OutDw.Gen.frame m g

theorem frame_OutDwReference : Cert.quiescent_OutDwReferenceIdeal :=
  fun m g _ => (θ_run _ _ _).mono (fun r h => ⟨fun c => (h c).2, sem_eq_zero_of_no_sems (by decide) r.2⟩) (Cert.OutDwReferenceIdeal.Value.run m g)

theorem frame_InDxIdeal : Cert.quiescent_InDxIdeal := fun m g _ => Cert.InDxIdeal.Gen.frame m g

theorem frame_InDx : Cert.quiescent_InDx := fun m g _ => Cert.InDx.Gen.frame m g

theorem frame_InDxReference : Cert.quiescent_InDxReferenceIdeal :=
  fun m g _ => (θ_run _ _ _).mono (fun r h => ⟨fun c => (h c).2, sem_eq_zero_of_no_sems (by decide) r.2⟩) (Cert.InDxReferenceIdeal.Value.run m g)

theorem frame_InDwIdeal : Cert.quiescent_InDwIdeal := fun m g _ => Cert.InDwIdeal.Gen.frame m g

theorem frame_InDw : Cert.quiescent_InDw := fun m g _ => Cert.InDw.Gen.frame m g

theorem frame_InDwReference : Cert.quiescent_InDwReferenceIdeal :=
  fun m g _ => (θ_run _ _ _).mono (fun r h => ⟨fun c => (h c).2, sem_eq_zero_of_no_sems (by decide) r.2⟩) (Cert.InDwReferenceIdeal.Value.run m g)

theorem frame_Group0DwIdeal : Cert.quiescent_Group0DwIdeal := fun m g _ => Cert.Group0DwIdeal.Gen.frame m g

theorem frame_Group0Dw : Cert.quiescent_Group0Dw := fun m g _ => Cert.Group0Dw.Gen.frame m g

theorem frame_Group0DwReference : Cert.quiescent_Group0DwReferenceIdeal :=
  fun m g _ => (θ_run _ _ _).mono (fun r h => ⟨fun c => (h c).2, sem_eq_zero_of_no_sems (by decide) r.2⟩) (Cert.Group0DwReferenceIdeal.Value.run m g)

theorem frame_Group1DwIdeal : Cert.quiescent_Group1DwIdeal := fun m g _ => Cert.Group1DwIdeal.Gen.frame m g

theorem frame_Group1Dw : Cert.quiescent_Group1Dw := fun m g _ => Cert.Group1Dw.Gen.frame m g

theorem frame_Group1DwReference : Cert.quiescent_Group1DwReferenceIdeal :=
  fun m g _ => (θ_run _ _ _).mono (fun r h => ⟨fun c => (h c).2, sem_eq_zero_of_no_sems (by decide) r.2⟩) (Cert.Group1DwReferenceIdeal.Value.run m g)

theorem frame_Group2DwIdeal : Cert.quiescent_Group2DwIdeal := fun m g _ => Cert.Group2DwIdeal.Gen.frame m g

theorem frame_Group2Dw : Cert.quiescent_Group2Dw := fun m g _ => Cert.Group2Dw.Gen.frame m g

theorem frame_Group2DwReference : Cert.quiescent_Group2DwReferenceIdeal :=
  fun m g _ => (θ_run _ _ _).mono (fun r h => ⟨fun c => (h c).2, sem_eq_zero_of_no_sems (by decide) r.2⟩) (Cert.Group2DwReferenceIdeal.Value.run m g)

theorem frame_GateDwIdeal : Cert.quiescent_GateDwIdeal := fun m g _ => Cert.GateDwIdeal.Gen.frame m g

theorem frame_GateDw : Cert.quiescent_GateDw := fun m g _ => Cert.GateDw.Gen.frame m g

theorem frame_GateDwReference : Cert.quiescent_GateDwReferenceIdeal :=
  fun m g _ => (θ_run _ _ _).mono (fun r h => ⟨fun c => (h c).2, sem_eq_zero_of_no_sems (by decide) r.2⟩) (Cert.GateDwReferenceIdeal.Value.run m g)

theorem frame_GateIdeal : Cert.quiescent_GateIdeal := fun m g _ => Cert.GateIdeal.Gen.frame m g

theorem frame_Gate : Cert.quiescent_Gate := fun m g _ => Cert.Gate.Gen.frame m g

theorem frame_GateReference : Cert.quiescent_GateReferenceIdeal :=
  fun m g _ => (θ_run _ _ _).mono (fun r h => ⟨fun c => (h c).2, sem_eq_zero_of_no_sems (by decide) r.2⟩) (Cert.GateReferenceIdeal.Value.run m g)

theorem frame_Value0Ideal : Cert.quiescent_Value0Ideal := fun m g _ => Cert.Value0Ideal.Gen.frame m g

theorem frame_Value0 : Cert.quiescent_Value0 := fun m g _ => Cert.Value0.Gen.frame m g

theorem frame_Value0Reference : Cert.quiescent_Value0ReferenceIdeal :=
  fun m g _ => (θ_run _ _ _).mono (fun r h => ⟨fun c => (h c).2, sem_eq_zero_of_no_sems (by decide) r.2⟩) (Cert.Value0ReferenceIdeal.Value.run m g)

theorem frame_Value1Ideal : Cert.quiescent_Value1Ideal := fun m g _ => Cert.Value1Ideal.Gen.frame m g

theorem frame_Value1 : Cert.quiescent_Value1 := fun m g _ => Cert.Value1.Gen.frame m g

theorem frame_Value1Reference : Cert.quiescent_Value1ReferenceIdeal :=
  fun m g _ => (θ_run _ _ _).mono (fun r h => ⟨fun c => (h c).2, sem_eq_zero_of_no_sems (by decide) r.2⟩) (Cert.Value1ReferenceIdeal.Value.run m g)

theorem frame_Value2Ideal : Cert.quiescent_Value2Ideal := fun m g _ => Cert.Value2Ideal.Gen.frame m g

theorem frame_Value2 : Cert.quiescent_Value2 := fun m g _ => Cert.Value2.Gen.frame m g

theorem frame_Value2Reference : Cert.quiescent_Value2ReferenceIdeal :=
  fun m g _ => (θ_run _ _ _).mono (fun r h => ⟨fun c => (h c).2, sem_eq_zero_of_no_sems (by decide) r.2⟩) (Cert.Value2ReferenceIdeal.Value.run m g)

theorem frame_OutIdeal : Cert.quiescent_OutIdeal := fun m g _ => Cert.OutIdeal.Gen.frame m g

theorem frame_Out : Cert.quiescent_Out := fun m g _ => Cert.Out.Gen.frame m g

theorem frame_OutReference : Cert.quiescent_OutReferenceIdeal :=
  fun m g _ => (θ_run _ _ _).mono (fun r h => ⟨fun c => (h c).2, sem_eq_zero_of_no_sems (by decide) r.2⟩) (Cert.OutReferenceIdeal.Value.run m g)

theorem frame_InIdeal : Cert.quiescent_InIdeal := fun m g _ => Cert.InIdeal.Gen.frame m g

theorem frame_In : Cert.quiescent_In := fun m g _ => Cert.In.Gen.frame m g

theorem frame_InReference : Cert.quiescent_InReferenceIdeal :=
  fun m g _ => (θ_run _ _ _).mono (fun r h => ⟨fun c => (h c).2, sem_eq_zero_of_no_sems (by decide) r.2⟩) (Cert.InReferenceIdeal.Value.run m g)

theorem frame_Rotated0Ideal : Cert.quiescent_Rotated0Ideal := fun m g _ => Cert.Rotated0Ideal.Gen.frame m g

theorem frame_Rotated0 : Cert.quiescent_Rotated0 := fun m g _ => Cert.Rotated0.Gen.frame m g

theorem frame_Rotated0Reference : Cert.quiescent_Rotated0ReferenceIdeal :=
  fun m g _ => (θ_run _ _ _).mono (fun r h => ⟨fun c => (h c).2, sem_eq_zero_of_no_sems (by decide) r.2⟩) (Cert.Rotated0ReferenceIdeal.Value.run m g)

theorem frame_Rotated1Ideal : Cert.quiescent_Rotated1Ideal := fun m g _ => Cert.Rotated1Ideal.Gen.frame m g

theorem frame_Rotated1 : Cert.quiescent_Rotated1 := fun m g _ => Cert.Rotated1.Gen.frame m g

theorem frame_Rotated1Reference : Cert.quiescent_Rotated1ReferenceIdeal :=
  fun m g _ => (θ_run _ _ _).mono (fun r h => ⟨fun c => (h c).2, sem_eq_zero_of_no_sems (by decide) r.2⟩) (Cert.Rotated1ReferenceIdeal.Value.run m g)

theorem frame_Rotated2Ideal : Cert.quiescent_Rotated2Ideal := fun m g _ => Cert.Rotated2Ideal.Gen.frame m g

theorem frame_Rotated2 : Cert.quiescent_Rotated2 := fun m g _ => Cert.Rotated2.Gen.frame m g

theorem frame_Rotated2Reference : Cert.quiescent_Rotated2ReferenceIdeal :=
  fun m g _ => (θ_run _ _ _).mono (fun r h => ⟨fun c => (h c).2, sem_eq_zero_of_no_sems (by decide) r.2⟩) (Cert.Rotated2ReferenceIdeal.Value.run m g)

end Cert.Proof

end
-- ==== Proof.lean ====
module

public import proofs.«01_k».proof.Defs
public import proofs.«01_k».proof.Proof.Claims
public import proofs.«01_k».proof.Proof.Value.Algebraic
public import proofs.«01_k».proof.Proof.Products.Claims

@[expose] public section

set_option maxRecDepth 16384

noncomputable section

namespace Cert.Proof

theorem claim : Cert.Claim :=
  ⟨Cert.Kernel.Gen.facts, Cert.KernelIdeal.Gen.facts, Cert.ReferenceIdeal.Gen.facts,
    Cert.Group1Dx.Gen.facts, Cert.Group1DxIdeal.Gen.facts, Cert.Group1DxReferenceIdeal.Gen.facts,
    Cert.Group2Dx.Gen.facts, Cert.Group2DxIdeal.Gen.facts, Cert.Group2DxReferenceIdeal.Gen.facts,
    Cert.Group0Dx.Gen.facts, Cert.Group0DxIdeal.Gen.facts, Cert.Group0DxReferenceIdeal.Gen.facts,
    Cert.GateDx.Gen.facts, Cert.GateDxIdeal.Gen.facts, Cert.GateDxReferenceIdeal.Gen.facts,
    Cert.OutDx.Gen.facts, Cert.OutDxIdeal.Gen.facts, Cert.OutDxReferenceIdeal.Gen.facts,
    Cert.OutDw.Gen.facts, Cert.OutDwIdeal.Gen.facts, Cert.OutDwReferenceIdeal.Gen.facts,
    Cert.InDx.Gen.facts, Cert.InDxIdeal.Gen.facts, Cert.InDxReferenceIdeal.Gen.facts,
    Cert.InDw.Gen.facts, Cert.InDwIdeal.Gen.facts, Cert.InDwReferenceIdeal.Gen.facts,
    Cert.Group0Dw.Gen.facts, Cert.Group0DwIdeal.Gen.facts, Cert.Group0DwReferenceIdeal.Gen.facts,
    Cert.Group1Dw.Gen.facts, Cert.Group1DwIdeal.Gen.facts, Cert.Group1DwReferenceIdeal.Gen.facts,
    Cert.Group2Dw.Gen.facts, Cert.Group2DwIdeal.Gen.facts, Cert.Group2DwReferenceIdeal.Gen.facts,
    Cert.GateDw.Gen.facts, Cert.GateDwIdeal.Gen.facts, Cert.GateDwReferenceIdeal.Gen.facts,
    Cert.Gate.Gen.facts, Cert.GateIdeal.Gen.facts, Cert.GateReferenceIdeal.Gen.facts,
    Cert.Value0.Gen.facts, Cert.Value0Ideal.Gen.facts, Cert.Value0ReferenceIdeal.Gen.facts,
    Cert.Value1.Gen.facts, Cert.Value1Ideal.Gen.facts, Cert.Value1ReferenceIdeal.Gen.facts,
    Cert.Value2.Gen.facts, Cert.Value2Ideal.Gen.facts, Cert.Value2ReferenceIdeal.Gen.facts,
    Cert.Out.Gen.facts, Cert.OutIdeal.Gen.facts, Cert.OutReferenceIdeal.Gen.facts,
    Cert.In.Gen.facts, Cert.InIdeal.Gen.facts, Cert.InReferenceIdeal.Gen.facts,
    Cert.Rotated0.Gen.facts, Cert.Rotated0Ideal.Gen.facts, Cert.Rotated0ReferenceIdeal.Gen.facts,
    Cert.Rotated1.Gen.facts, Cert.Rotated1Ideal.Gen.facts, Cert.Rotated1ReferenceIdeal.Gen.facts,
    Cert.Rotated2.Gen.facts, Cert.Rotated2Ideal.Gen.facts, Cert.Rotated2ReferenceIdeal.Gen.facts,
    Cert.KernelIdeal.Value.finite_facts,
    frame_kernel, frame_kernelIdeal, fun m g _ => frame_kernelIdeal m g trivial,
    frame_referenceIdeal, fun m g _ => frame_referenceIdeal m g trivial, frame_Group1Dx,
    frame_Group1DxIdeal, frame_Group1DxReference, frame_Group2Dx,
    frame_Group2DxIdeal, frame_Group2DxReference, frame_Group0Dx,
    frame_Group0DxIdeal, frame_Group0DxReference, frame_GateDx,
    frame_GateDxIdeal, frame_GateDxReference, frame_OutDx,
    frame_OutDxIdeal, frame_OutDxReference, frame_OutDw,
    frame_OutDwIdeal, frame_OutDwReference, frame_InDx,
    frame_InDxIdeal, frame_InDxReference, frame_InDw,
    frame_InDwIdeal, frame_InDwReference, frame_Group0Dw,
    frame_Group0DwIdeal, frame_Group0DwReference, frame_Group1Dw,
    frame_Group1DwIdeal, frame_Group1DwReference, frame_Group2Dw,
    frame_Group2DwIdeal, frame_Group2DwReference, frame_GateDw,
    frame_GateDwIdeal, frame_GateDwReference, frame_Gate,
    frame_GateIdeal, frame_GateReference, frame_Value0,
    frame_Value0Ideal, frame_Value0Reference, frame_Value1,
    frame_Value1Ideal, frame_Value1Reference, frame_Value2,
    frame_Value2Ideal, frame_Value2Reference, frame_Out,
    frame_OutIdeal, frame_OutReference, frame_In,
    frame_InIdeal, frame_InReference, frame_Rotated0,
    frame_Rotated0Ideal, frame_Rotated0Reference, frame_Rotated1,
    frame_Rotated1Ideal, frame_Rotated1Reference, frame_Rotated2,
    frame_Rotated2Ideal, frame_Rotated2Reference,
    preserves, Cert.KernelIdeal.Value.algebraic,
    trivial, Cert.Group1DxIdeal.Value.algebraic,
    trivial, Cert.Group2DxIdeal.Value.algebraic,
    trivial, Cert.Group0DxIdeal.Value.algebraic,
    trivial, Cert.GateDxIdeal.Value.algebraic,
    trivial, Cert.OutDxIdeal.Value.algebraic,
    trivial, Cert.OutDwIdeal.Value.algebraic,
    trivial, Cert.InDxIdeal.Value.algebraic,
    trivial, Cert.InDwIdeal.Value.algebraic,
    trivial, Cert.Group0DwIdeal.Value.algebraic,
    trivial, Cert.Group1DwIdeal.Value.algebraic,
    trivial, Cert.Group2DwIdeal.Value.algebraic,
    trivial, Cert.GateDwIdeal.Value.algebraic,
    trivial, Cert.GateIdeal.Value.algebraic,
    trivial, Cert.Value0Ideal.Value.algebraic,
    trivial, Cert.Value1Ideal.Value.algebraic,
    trivial, Cert.Value2Ideal.Value.algebraic,
    trivial, Cert.OutIdeal.Value.algebraic,
    trivial, Cert.InIdeal.Value.algebraic,
    trivial, Cert.Rotated0Ideal.Value.algebraic,
    trivial, Cert.Rotated1Ideal.Value.algebraic,
    trivial, Cert.Rotated2Ideal.Value.algebraic⟩

end Cert.Proof

end
